-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_qkv [hPre_finite_qkv : Cert.Pre_finite_qkv.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_qkv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_qkv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_qkv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_finite_qkv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_qkv [hPre_finite_qkv : Cert.Pre_finite_qkv.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_qkv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_qkv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_qkv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_finite_qkv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_heads [hPre_finite_heads : Cert.Pre_finite_heads.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_heads.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_heads [hPre_finite_heads : Cert.Pre_finite_heads.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_heads.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_qkv [hKernel5Ideal : Cert.Kernel5Ideal.Facts] [hPre_finite_qkv : Cert.Pre_finite_qkv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_qkv m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_qkv [hReference5Ideal : Cert.Reference5Ideal.Facts] [hPre_finite_qkv : Cert.Pre_finite_qkv.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_qkv m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_heads [hKernel6Ideal : Cert.Kernel6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_heads m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_heads [hReference6Ideal : Cert.Reference6Ideal.Facts] [hPre_finite_heads : Cert.Pre_finite_heads.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_heads m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v53) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v74) = v4 c
          ∧ r.2.mem ((c.tc : Thread Cert.Reference3Ideal.nD Cert.Reference3Ideal.τ).loc Cert.Reference3Ideal.main_v77) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "cubic" .f32 0x3D372713#32 ((8943 / 200000 : ℝ) : EReal)
  ∧ IdealRules.named_const.Statement Cert.Kernel4Ideal.κ "slope" .f32 0x3E095D4F#32 ((26829 / 200000 : ℝ) : EReal)

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)) (v4 : (c : Dev Cert.Kernel4Ideal.nD) → Buf (Elt Ideal) ((c.tc : Thread Cert.Kernel4Ideal.nD Cert.Kernel4Ideal.τ).loc Cert.Kernel4Ideal.main_v19_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_v19_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v116) = v0 c
          ∧ r.2.mem ((c.tc : Thread Cert.Reference4Ideal.nD Cert.Reference4Ideal.τ).loc Cert.Reference4Ideal.main_v129) = v1 c
          ∧ r.2.mem ((c.tc : Thread Cert.Reference4Ideal.nD Cert.Reference4Ideal.τ).loc Cert.Reference4Ideal.main_v130) = v2 c
          ∧ r.2.mem ((c.tc : Thread Cert.Reference4Ideal.nD Cert.Reference4Ideal.τ).loc Cert.Reference4Ideal.main_v131) = v3 c
          ∧ r.2.mem ((c.tc : Thread Cert.Reference4Ideal.nD Cert.Reference4Ideal.τ).loc Cert.Reference4Ideal.main_v114) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_qkv [hKernel5Ideal : Cert.Kernel5Ideal.Facts] [hReference5Ideal : Cert.Reference5Ideal.Facts] [hPre_finite_qkv : Cert.Pre_finite_qkv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_qkv m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v344_0)) (v1 : (c : Dev Cert.Kernel5Ideal.nD) → Buf (Elt Ideal) ((c.tc : Thread Cert.Kernel5Ideal.nD Cert.Kernel5Ideal.τ).loc Cert.Kernel5Ideal.main_v344_1)) (v2 : (c : Dev Cert.Kernel5Ideal.nD) → Buf (Elt Ideal) ((c.tc : Thread Cert.Kernel5Ideal.nD Cert.Kernel5Ideal.τ).loc Cert.Kernel5Ideal.main_v344_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v344_0) = v0 c
          ∧ r.2.mem ((c.tc : Thread Cert.Kernel5Ideal.nD Cert.Kernel5Ideal.τ).loc Cert.Kernel5Ideal.main_v344_1) = v1 c
          ∧ r.2.mem ((c.tc : Thread Cert.Kernel5Ideal.nD Cert.Kernel5Ideal.τ).loc Cert.Kernel5Ideal.main_v344_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v987) = v0 c
          ∧ r.2.mem ((c.tc : Thread Cert.Reference5Ideal.nD Cert.Reference5Ideal.τ).loc Cert.Reference5Ideal.main_v988) = v1 c
          ∧ r.2.mem ((c.tc : Thread Cert.Reference5Ideal.nD Cert.Reference5Ideal.τ).loc Cert.Reference5Ideal.main_v989) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_heads [hKernel6Ideal : Cert.Kernel6Ideal.Facts] [hReference6Ideal : Cert.Reference6Ideal.Facts] [hPre_finite_heads : Cert.Pre_finite_heads.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_heads m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v51_0)) (v1 : (c : Dev Cert.Kernel6Ideal.nD) → Buf (Elt Ideal) ((c.tc : Thread Cert.Kernel6Ideal.nD Cert.Kernel6Ideal.τ).loc Cert.Kernel6Ideal.main_v51_1)) (v2 : (c : Dev Cert.Kernel6Ideal.nD) → Buf (Elt Ideal) ((c.tc : Thread Cert.Kernel6Ideal.nD Cert.Kernel6Ideal.τ).loc Cert.Kernel6Ideal.main_v51_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51_0) = v0 c
          ∧ r.2.mem ((c.tc : Thread Cert.Kernel6Ideal.nD Cert.Kernel6Ideal.τ).loc Cert.Kernel6Ideal.main_v51_1) = v1 c
          ∧ r.2.mem ((c.tc : Thread Cert.Kernel6Ideal.nD Cert.Kernel6Ideal.τ).loc Cert.Kernel6Ideal.main_v51_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v490) = v0 c
          ∧ r.2.mem ((c.tc : Thread Cert.Reference6Ideal.nD Cert.Reference6Ideal.τ).loc Cert.Reference6Ideal.main_v493) = v1 c
          ∧ r.2.mem ((c.tc : Thread Cert.Reference6Ideal.nD Cert.Reference6Ideal.τ).loc Cert.Reference6Ideal.main_v465) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)) (v2 : (c : Dev Cert.Kernel7Ideal.nD) → Buf (Elt Ideal) ((c.tc : Thread Cert.Kernel7Ideal.nD Cert.Kernel7Ideal.τ).loc Cert.Kernel7Ideal.main_v18_2)) (v3 : (c : Dev Cert.Kernel7Ideal.nD) → Buf (Elt Ideal) ((c.tc : Thread Cert.Kernel7Ideal.nD Cert.Kernel7Ideal.τ).loc Cert.Kernel7Ideal.main_v18_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_v18_2) = v2 c
          ∧ r.2.mem ((c.tc : Thread Cert.Kernel7Ideal.nD Cert.Kernel7Ideal.τ).loc Cert.Kernel7Ideal.main_v18_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v59) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_v60) = v2 c
          ∧ r.2.mem ((c.tc : Thread Cert.Reference7Ideal.nD Cert.Reference7Ideal.τ).loc Cert.Reference7Ideal.main_v82) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v46_0)) (v1 : (c : Dev Cert.Kernel8Ideal.nD) → Buf (Elt Ideal) ((c.tc : Thread Cert.Kernel8Ideal.nD Cert.Kernel8Ideal.τ).loc Cert.Kernel8Ideal.main_v46_1)) (v2 : (c : Dev Cert.Kernel8Ideal.nD) → Buf (Elt Ideal) ((c.tc : Thread Cert.Kernel8Ideal.nD Cert.Kernel8Ideal.τ).loc Cert.Kernel8Ideal.main_v46_2)) (v3 : (c : Dev Cert.Kernel8Ideal.nD) → Buf (Elt Ideal) ((c.tc : Thread Cert.Kernel8Ideal.nD Cert.Kernel8Ideal.τ).loc Cert.Kernel8Ideal.main_v46_3)) (v4 : (c : Dev Cert.Kernel8Ideal.nD) → Buf (Elt Ideal) ((c.tc : Thread Cert.Kernel8Ideal.nD Cert.Kernel8Ideal.τ).loc Cert.Kernel8Ideal.main_v46_4)) (v5 : (c : Dev Cert.Kernel8Ideal.nD) → Buf (Elt Ideal) ((c.tc : Thread Cert.Kernel8Ideal.nD Cert.Kernel8Ideal.τ).loc Cert.Kernel8Ideal.main_v46_5)) (v6 : (c : Dev Cert.Kernel8Ideal.nD) → Buf (Elt Ideal) ((c.tc : Thread Cert.Kernel8Ideal.nD Cert.Kernel8Ideal.τ).loc Cert.Kernel8Ideal.main_v46_6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v46_0) = v0 c
          ∧ r.2.mem ((c.tc : Thread Cert.Kernel8Ideal.nD Cert.Kernel8Ideal.τ).loc Cert.Kernel8Ideal.main_v46_1) = v1 c
          ∧ r.2.mem ((c.tc : Thread Cert.Kernel8Ideal.nD Cert.Kernel8Ideal.τ).loc Cert.Kernel8Ideal.main_v46_2) = v2 c
          ∧ r.2.mem ((c.tc : Thread Cert.Kernel8Ideal.nD Cert.Kernel8Ideal.τ).loc Cert.Kernel8Ideal.main_v46_3) = v3 c
          ∧ r.2.mem ((c.tc : Thread Cert.Kernel8Ideal.nD Cert.Kernel8Ideal.τ).loc Cert.Kernel8Ideal.main_v46_4) = v4 c
          ∧ r.2.mem ((c.tc : Thread Cert.Kernel8Ideal.nD Cert.Kernel8Ideal.τ).loc Cert.Kernel8Ideal.main_v46_5) = v5 c
          ∧ r.2.mem ((c.tc : Thread Cert.Kernel8Ideal.nD Cert.Kernel8Ideal.τ).loc Cert.Kernel8Ideal.main_v46_6) = v6 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v104) = v0 c
          ∧ r.2.mem ((c.tc : Thread Cert.Reference8Ideal.nD Cert.Reference8Ideal.τ).loc Cert.Reference8Ideal.main_v105) = v1 c
          ∧ r.2.mem ((c.tc : Thread Cert.Reference8Ideal.nD Cert.Reference8Ideal.τ).loc Cert.Reference8Ideal.main_v106) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_v20) = v4 c
          ∧ r.2.mem ((c.tc : Thread Cert.Reference8Ideal.nD Cert.Reference8Ideal.τ).loc Cert.Reference8Ideal.main_v99) = v5 c
          ∧ r.2.mem ((c.tc : Thread Cert.Reference8Ideal.nD Cert.Reference8Ideal.τ).loc Cert.Reference8Ideal.main_v103) = v6 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_v45) = v2 c
          ∧ r.2.mem ((c.tc : Thread Cert.Reference10Ideal.nD Cert.Reference10Ideal.τ).loc Cert.Reference10Ideal.main_v42) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_mix : Cert.Pre_finite_mix.Facts) (hPre_finite_qkv : Cert.Pre_finite_qkv.Facts) (hPre_finite_heads : Cert.Pre_finite_heads.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_qkv (hKernel5Ideal := hKernel5Ideal) (hPre_finite_qkv := hPre_finite_qkv)
    ∧ quiescent_Reference5Ideal (hReference5Ideal := hReference5Ideal)
    ∧ quiescent_Reference5Ideal_pre_finite_qkv (hReference5Ideal := hReference5Ideal) (hPre_finite_qkv := hPre_finite_qkv)
    ∧ quiescent_Kernel6 (hKernel6 := hKernel6)
    ∧ quiescent_Kernel6Ideal (hKernel6Ideal := hKernel6Ideal)
    ∧ quiescent_Kernel6Ideal_pre_finite_heads (hKernel6Ideal := hKernel6Ideal) (hPre_finite_heads := hPre_finite_heads)
    ∧ quiescent_Reference6Ideal (hReference6Ideal := hReference6Ideal)
    ∧ quiescent_Reference6Ideal_pre_finite_heads (hReference6Ideal := hReference6Ideal) (hPre_finite_heads := hPre_finite_heads)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_pre_finite_qkv (hKernel5Ideal := hKernel5Ideal) (hReference5Ideal := hReference5Ideal) (hPre_finite_qkv := hPre_finite_qkv)
    ∧ preserves_Kernel6_Kernel6Ideal
    ∧ algebraic_Kernel6Ideal_Reference6Ideal_pre_finite_heads (hKernel6Ideal := hKernel6Ideal) (hReference6Ideal := hReference6Ideal) (hPre_finite_heads := hPre_finite_heads)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_heads.lean ====
abbrev S8192x512 : Shape := ⟨2, ![8192, 512]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S1x512 .f32) : IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  (main_v2, main_v5, main_v8)
-- ==== Pre_finite_mix.lean ====
abbrev S8192x1024 : Shape := ⟨2, ![8192, 1024]⟩
abbrev S1x1024x1024 : Shape := ⟨3, ![1, 1024, 1024]⟩
abbrev S1x512x1024 : Shape := ⟨3, ![1, 512, 1024]⟩
abbrev S8192x512 : Shape := ⟨2, ![8192, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  bcast_S_S1x1024x1024 : S_.BroadcastsInDim S1x1024x1024 (![] : Fin 0 → Fin S1x1024x1024.rank)
  bcast_S_S1x512x1024 : S_.BroadcastsInDim S1x512x1024 (![] : Fin 0 → Fin S1x512x1024.rank)
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x1024 .bf16) (main_arg1 : FVec F S1x1024x1024 .f32) (main_arg2 : FVec F S1x512x1024 .f32) (main_arg3 : FVec F S8192x512 .f32) (main_arg4 : FVec F S8192x512 .f32) (main_arg5 : FVec F S8192x512 .f32) (main_arg6 : FVec F S1x512 .f32) : IVec S8192x1024 1 × IVec S1x1024x1024 1 × IVec S1x512x1024 1 × IVec S8192x512 1 × IVec S8192x512 1 × IVec S1x512 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S1x1024x1024 .f32 := Host.absf main_arg1
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : FVec F S1x512x1024 .f32 := Host.absf main_arg2
  let main_cst_1 : FVec F S_ .f32 := constant S_ .f32 0x7F800000#32
  let main_v7 : FVec F S1x512x1024 .f32 := broadcastInDim S1x512x1024 ![] bcast_S_S1x512x1024 main_cst_1
  let main_v8 : IVec S1x512x1024 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg5
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S1x512 .f32 := Host.absf main_arg6
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  (main_v2, main_v5, main_v8, main_v11, main_v14, main_v17)
-- ==== Pre_finite_qkv.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x512 .f32) (main_arg1 : FVec F S8192x512 .f32) (main_arg2 : FVec F S8192x512 .f32) (main_arg3 : FVec F S8192x512 .bf16) : IVec S8192x512 1 × IVec S8192x512 1 × IVec S8192x512 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .bf16 := Host.absf main_arg3
  let main_cst_2 : FVec F S_ .bf16 := constant S_ .bf16 0x7F80#16
  let main_v10 : FVec F S8192x512 .bf16 := broadcastInDim S8192x512 ![] bcast_S_S8192x512 main_cst_2
  let main_v11 : IVec S8192x512 1 := cmpf .olt main_v9 main_v10
  (main_v2, main_v5, main_v8, main_v11)
-- ==== Kernel.lean ====
abbrev S8192x512 : Shape := ⟨2, ![8192, 512]⟩
abbrev S1x1024x2560 : Shape := ⟨3, ![1, 1024, 2560]⟩
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S512x512 : Shape := ⟨2, ![512, 512]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1x1024x2560, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1024x2560, .f32⟩
  | .hbm, ⟨10, _⟩ => ⟨S2560x1024, .f32⟩
  | .hbm, ⟨11, _⟩ => ⟨S2560x1024, .bf16⟩
  | .hbm, ⟨12, _⟩ => ⟨S8192x1024, .f32⟩
  | .hbm, ⟨13, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x512 : Shape := ⟨2, ![8192, 512]⟩
abbrev S1x1024x2560 : Shape := ⟨3, ![1, 1024, 2560]⟩
abbrev S8192x1024 : Shape := ⟨2, ![8192, 1024]⟩
abbrev S1x1024 : Shape := ⟨2, ![1, 1024]⟩
abbrev S8192x2560 : Shape := ⟨2, ![8192, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩

abbrev nBuf : Space → Nat
  | .hbm => 66
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1x1024x2560, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x2560, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1024x2560, .f32⟩
  | .hbm, ⟨37, _⟩ => ⟨S8192x2560, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel2.lean ====
abbrev S8192x4096 : Shape := ⟨2, ![8192, 4096]⟩
abbrev S1x4096x1024 : Shape := ⟨3, ![1, 4096, 1024]⟩
abbrev S8192x1024 : Shape := ⟨2, ![8192, 1024]⟩
abbrev S_ : Shape := ⟨0, ![]⟩
abbrev S4096x1024 : Shape := ⟨2, ![4096, 1024]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .f32⟩
  | .hbm, ⟨10, _⟩ => ⟨S4096x1024, .bf16⟩
  | .hbm, ⟨11, _⟩ => ⟨S8192x4096, .bf16⟩
  | .hbm, ⟨12, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x4096 : Shape := ⟨2, ![8192, 4096]⟩
abbrev S1x4096x1024 : Shape := ⟨3, ![1, 4096, 1024]⟩
abbrev S8192x1024 : Shape := ⟨2, ![8192, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x1024, .f32⟩
  | .hbm, ⟨2, _⟩ => ⟨S8192x1024, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S1024x4096, .f32⟩
  | .hbm, ⟨18, _⟩ => ⟨S4096x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | .hbm, ⟨25, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S256x4096 : Shape := ⟨2, ![256, 4096]⟩
abbrev S1024 : Shape := ⟨1, ![1024]⟩

abbrev nBuf : Space → Nat
  | .hbm => 18
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S4096x1024, .f32⟩
  | .hbm, ⟨11, _⟩ => ⟨S4096x1024, .bf16⟩
  | .hbm, ⟨12, _⟩ => ⟨S8192x1024, .bf16⟩
  | .hbm, ⟨13, _⟩ => ⟨S8192x4096, .bf16⟩
  | .hbm, ⟨14, _⟩ => ⟨S8192x1024, .f32⟩
  | .hbm, ⟨15, _⟩ => ⟨S8192x1024, .bf16⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x1024x512, .bf16⟩
  | .local _ .vmem, ⟨7, _⟩ => ⟨S4096x1024, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024x4096, .f32⟩
  | .hbm, ⟨5, _⟩ => ⟨S1x4096x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S1024x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S4096x1024, .f32⟩
  | .hbm, ⟨30, _⟩ => ⟨S8192x1024, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S8192x1024, .f32⟩
  | .hbm, ⟨86, _⟩ => ⟨S_, .f32⟩
  | .hbm, ⟨87, _⟩ => ⟨S8192, .f32⟩
  | .hbm, ⟨88, _⟩ => ⟨S8192x1, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S8192x1024, .bf16⟩
  | .hbm, ⟨108, _⟩ => ⟨S8192x4096, .bf16⟩
  | .hbm, ⟨109, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_cst_11 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel4.lean ====
abbrev S8192x1024 : Shape := ⟨2, ![8192, 1024]⟩
abbrev S1x1024x1024 : Shape := ⟨3, ![1, 1024, 1024]⟩
abbrev S1x512x1024 : Shape := ⟨3, ![1, 512, 1024]⟩
abbrev S8192x512 : Shape := ⟨2, ![8192, 512]⟩
abbrev S1x512 : Shape := ⟨2, ![1, 512]⟩
abbrev S_ : Shape := ⟨0, ![]⟩
abbrev S1024x1024 : Shape := ⟨2, ![1024, 1024]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128 : Shape := ⟨1, ![128]⟩

abbrev nBuf : Space → Nat
  | .hbm => 36
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .f32⟩
  | .hbm, ⟨2, _⟩ => ⟨S1x512x1024, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .bf16⟩
  | .hbm, ⟨27, _⟩ => ⟨S1024x1024, .f32⟩
  | .hbm, ⟨28, _⟩ => ⟨S1024x1024, .bf16⟩
  | .hbm, ⟨29, _⟩ => ⟨S512x1024, .f32⟩
  | .hbm, ⟨30, _⟩ => ⟨S512x1024, .bf16⟩
  | .hbm, ⟨31, _⟩ => ⟨S8192x1024, .bf16⟩
  | .hbm, ⟨32, _⟩ => ⟨S8192x512, .f32⟩
  | .hbm, ⟨33, _⟩ => ⟨S8192x512, .bf16⟩
  | .hbm, ⟨34, _⟩ => ⟨S8192x512, .bf16⟩
  | .hbm, ⟨35, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel4Ideal.lean ====
variable {F : FTy → Type} [FloatOps F] [Named F]
def κ : String → Option EReal := fun
  | "cubic" => some ((8943 / 200000 : ℝ) : EReal)
  | "slope" => some ((26829 / 200000 : ℝ) : EReal)
  | _ => none
-- ==== Reference4Ideal.lean ====
abbrev S8192x1024 : Shape := ⟨2, ![8192, 1024]⟩
abbrev S1x1024x1024 : Shape := ⟨3, ![1, 1024, 1024]⟩
abbrev S1x512x1024 : Shape := ⟨3, ![1, 512, 1024]⟩
abbrev S8192x512 : Shape := ⟨2, ![8192, 512]⟩
abbrev S1x512 : Shape := ⟨2, ![1, 512]⟩
abbrev S_ : Shape := ⟨0, ![]⟩
abbrev S512x1024 : Shape := ⟨2, ![512, 1024]⟩
abbrev S1024x1024 : Shape := ⟨2, ![1024, 1024]⟩
abbrev S8192x4x128 : Shape := ⟨3, ![8192, 4, 128]⟩
abbrev S512 : Shape := ⟨1, ![512]⟩
abbrev S8192x4 : Shape := ⟨2, ![8192, 4]⟩
abbrev S8192x4x1 : Shape := ⟨3, ![8192, 4, 1]⟩
abbrev S4x128 : Shape := ⟨2, ![4, 128]⟩
abbrev S1x4x128 : Shape := ⟨3, ![1, 4, 128]⟩

abbrev nBuf : Space → Nat
  | .hbm => 183
  | .vmem => 0
  | .smem => 0
  | _ => 0

abbrev hbmTy0_0 (i : Nat) : BufTy := match i % 128 with
  | 0 => ⟨S8192x1024, .bf16⟩
  | 1 => ⟨S1x1024x1024, .f32⟩
  | 2 => ⟨S1x512x1024, .f32⟩
  | 3 => ⟨S8192x512, .f32⟩
  | 4 => ⟨S8192x512, .f32⟩
  | 5 => ⟨S8192x512, .f32⟩
  | 6 => ⟨S1x512, .f32⟩
  | 7 => ⟨S_, .f32⟩
  | 8 => ⟨S_, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S512x1024, .f32⟩
  | 38 => ⟨S8192x1024, .f32⟩
  | 39 => ⟨S1024x1024, .f32⟩
  | 40 => ⟨S8192x4x128, .f32⟩
  | 41 => ⟨S512, .f32⟩
  | 42 => ⟨S_, .f32⟩
  | 43 => ⟨S8192x4, .f32⟩
  | 44 => ⟨S8192x4x1, .f32⟩
  | 45 => ⟨S_, .f32⟩
  | 46 => ⟨S8192x4x1, .f32⟩
  | 47 => ⟨S8192x4x1, .f32⟩
  | 48 => ⟨S8192x4x128, .f32⟩
  | 49 => ⟨S8192x4x128, .f32⟩
  | 50 => ⟨S8192x4x128, .f32⟩
  | 51 => ⟨S_, .f32⟩
  | 52 => ⟨S8192x4x128, .f32⟩
  | 53 => ⟨S8192x4x128, .f32⟩
  | 54 => ⟨S_, .f32⟩
  | 55 => ⟨S8192x4, .f32⟩
  | 56 => ⟨S8192x4x1, .f32⟩
  | 57 => ⟨S_, .f32⟩
  | 58 => ⟨S8192x4x1, .f32⟩
  | 59 => ⟨S8192x4x1, .f32⟩
  | 60 => ⟨S8192x4x128, .f32⟩
  | 61 => ⟨S8192x4x128, .f32⟩
  | 62 => ⟨S_, .f32⟩
  | 63 => ⟨S8192x4x1, .f32⟩
  | 64 => ⟨S8192x4x1, .f32⟩
  | 65 => ⟨S8192x4x1, .f32⟩
  | 66 => ⟨S8192x4x1, .f32⟩
  | 67 => ⟨S_, .f32⟩
  | 68 => ⟨S8192x4x1, .f32⟩
  | 69 => ⟨S8192x4x1, .f32⟩
  | 70 => ⟨S8192x4x128, .f32⟩
  | 71 => ⟨S8192x4x128, .f32⟩
  | 72 => ⟨S4x128, .f32⟩
  | 73 => ⟨S1x4x128, .f32⟩
  | 74 => ⟨S8192x4x128, .f32⟩
  | 75 => ⟨S8192x4x128, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S_, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S_, .f32⟩
  | 102 => ⟨S8192x512, .f32⟩
  | 103 => ⟨S8192x512, .f32⟩
  | 104 => ⟨S8192x512, .f32⟩
  | 105 => ⟨S8192x512, .f32⟩
  | 106 => ⟨S8192x1024, .f32⟩
  | 107 => ⟨S8192x1024, .f32⟩
  | 108 => ⟨S8192x1024, .f32⟩
  | 109 => ⟨S8192x1024, .f32⟩
  | 110 => ⟨S8192x512, .f32⟩
  | 111 => ⟨S8192x512, .f32⟩
  | 112 => ⟨S8192x512, .f32⟩
  | 113 => ⟨S8192x512, .f32⟩
  | 114 => ⟨S8192x512, .f32⟩
  | 115 => ⟨S8192x1024, .f32⟩
  | 116 => ⟨S8192x512, .f32⟩
  | 117 => ⟨S8192x512, .f32⟩
  | 118 => ⟨S8192x512, .f32⟩
  | 119 => ⟨S8192x512, .f32⟩
  | 120 => ⟨S8192x512, .f32⟩
  | 121 => ⟨S8192x512, .f32⟩
  | 122 => ⟨S8192x4x128, .f32⟩
  | 123 => ⟨S8192x4x128, .f32⟩
  | 124 => ⟨S_, .f32⟩
  | 125 => ⟨S4x128, .f32⟩
  | 126 => ⟨S1x4x128, .f32⟩
  | 127 => ⟨S8192x4x128, .f32⟩
  | _ => ⟨S8192x1024, .bf16⟩

abbrev hbmTy0_1 (i : Nat) : BufTy := match i % 128 with
  | 0 => ⟨S8192x4x128, .f32⟩
  | 1 => ⟨S_, .f32⟩
  | 2 => ⟨S4x128, .f32⟩
  | 3 => ⟨S512, .f32⟩
  | 4 => ⟨S8192x4x128, .f32⟩
  | 5 => ⟨S_, .f32⟩
  | 6 => ⟨S8192x4, .f32⟩
  | 7 => ⟨S8192x4x1, .f32⟩
  | 8 => ⟨S8192x4x128, .f32⟩
  | 9 => ⟨S8192x4x128, .f32⟩
  | 10 => ⟨S8192x4x1, .f32⟩
  | 11 => ⟨S8192x4x128, .f32⟩
  | 12 => ⟨S_, .f32⟩
  | 13 => ⟨S8192x4, .f32⟩
  | 14 => ⟨S8192x4x1, .f32⟩
  | 15 => ⟨S_, .f32⟩
  | 16 => ⟨S8192x4x1, .f32⟩
  | 17 => ⟨S8192x4x1, .f32⟩
  | 18 => ⟨S_, .f32⟩
  | 19 => ⟨S8192x4, .f32⟩
  | 20 => ⟨S8192x4x128, .f32⟩
  | 21 => ⟨S8192x4x128, .f32⟩
  | 22 => ⟨S8192x4x128, .f32⟩
  | 23 => ⟨S_, .f32⟩
  | 24 => ⟨S8192x4, .f32⟩
  | 25 => ⟨S8192x4x1, .f32⟩
  | 26 => ⟨S8192x4x128, .f32⟩
  | 27 => ⟨S8192x4x1, .f32⟩
  | 28 => ⟨S_, .f32⟩
  | 29 => ⟨S8192x4x1, .f32⟩
  | 30 => ⟨S8192x4x1, .f32⟩
  | 31 => ⟨S_, .f32⟩
  | 32 => ⟨S8192x4, .f32⟩
  | 33 => ⟨S8192x4x128, .f32⟩
  | 34 => ⟨S8192x4x128, .f32⟩
  | 35 => ⟨S1x512, .f32⟩
  | 36 => ⟨S8192x512, .f32⟩
  | 37 => ⟨S8192x1024, .bf16⟩
  | 38 => ⟨S8192x512, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .bf16⟩
  | 54 => ⟨S8192x512, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_v55_2 : Ref sig .tc := ⟨.hbm, 84, rfl⟩
abbrev main_call0_cst_1 : Ref sig .tc := ⟨.hbm, 85, rfl⟩
abbrev main_call0_v6 : Ref sig .tc := ⟨.hbm, 86, rfl⟩
abbrev main_call0_v7 : Ref sig .tc := ⟨.hbm, 87, rfl⟩
abbrev main_v55_1 : Ref sig .tc := ⟨.hbm, 88, rfl⟩
abbrev main_v55_0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_20 : Ref sig .tc := ⟨.hbm, 140, rfl⟩
abbrev main_v97 : Ref sig .tc := ⟨.hbm, 141, rfl⟩
abbrev main_v98 : Ref sig .tc := ⟨.hbm, 142, rfl⟩
abbrev main_cst_21 : Ref sig .tc := ⟨.hbm, 143, rfl⟩
abbrev main_v99 : Ref sig .tc := ⟨.hbm, 144, rfl⟩
abbrev main_v100 : Ref sig .tc := ⟨.hbm, 145, rfl⟩
abbrev main_cst_22 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_v110 : Ref sig .tc := ⟨.hbm, 158, rfl⟩
abbrev main_cst_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_26 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_27 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩

abbrev nD : Nat := 1
abbrev τ : Topo := Topo.v7x

variable {F : FTy → Type} [FloatOps F]
-- ==== Kernel5.lean ====
abbrev S8192x512 : Shape := ⟨2, ![8192, 512]⟩
abbrev S_ : Shape := ⟨0, ![]⟩
abbrev S3 : Shape := ⟨1, ![3]⟩
abbrev S1 : Shape := ⟨1, ![1]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x8x128 : Shape := ⟨3, ![4, 8, 128]⟩
abbrev S4x256x1 : Shape := ⟨3, ![4, 256, 1]⟩
abbrev S4x256x128 : Shape := ⟨3, ![4, 256, 128]⟩
abbrev S8192x4x128 : Shape := ⟨3, ![8192, 4, 128]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S32x256x4x128 : Shape := ⟨4, ![32, 256, 4, 128]⟩
abbrev S256x4x128 : Shape := ⟨3, ![256, 4, 128]⟩
abbrev S1x256x4x128 : Shape := ⟨4, ![1, 256, 4, 128]⟩
abbrev S32x4x128x128 : Shape := ⟨4, ![32, 4, 128, 128]⟩
abbrev S4x1x128 : Shape := ⟨3, ![4, 1, 128]⟩
abbrev S4x128x128 : Shape := ⟨3, ![4, 128, 128]⟩
abbrev S0x4x128x128 : Shape := ⟨4, ![0, 4, 128, 128]⟩
abbrev S1x4x128x128 : Shape := ⟨4, ![1, 4, 128, 128]⟩
abbrev S16x4x128x128 : Shape := ⟨4, ![16, 4, 128, 128]⟩
abbrev S4x32x128x128 : Shape := ⟨4, ![4, 32, 128, 128]⟩
abbrev S8192x128 : Shape := ⟨2, ![8192, 128]⟩
abbrev S512x512 : Shape := ⟨2, ![512, 512]⟩
abbrev S4x2x128x128 : Shape := ⟨4, ![4, 2, 128, 128]⟩
abbrev S512x128 : Shape := ⟨2, ![512, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x128 : Shape := ⟨3, ![1, 1, 128]⟩
abbrev S1x128 : Shape := ⟨2, ![1, 128]⟩

abbrev nBuf : Space → Nat
  | .hbm => 392
  | .vmem => 25
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .bf16⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S3, .f32⟩
  | 12 => ⟨S_, .f32⟩
  | 13 => ⟨S3, .f32⟩
  | 14 => ⟨S3, .f32⟩
  | 15 => ⟨S1, .f32⟩
  | 16 => ⟨S_, .f32⟩
  | 17 => ⟨S3, .f32⟩
  | 18 => ⟨S3, .f32⟩
  | 19 => ⟨S3, .f32⟩
  | 20 => ⟨S3, .f32⟩
  | 21 => ⟨S1, .f32⟩
  | 22 => ⟨S3, .f32⟩
  | 23 => ⟨S3, .f32⟩
  | 24 => ⟨S3, .f32⟩
  | 25 => ⟨S1, .f32⟩
  | 26 => ⟨S4, .f32⟩
  | 27 => ⟨S4, .f32⟩
  | 28 => ⟨S_, .f32⟩
  | 29 => ⟨S4, .f32⟩
  | 30 => ⟨S4, .f32⟩
  | 31 => ⟨S4, .f32⟩
  | 32 => ⟨S256, .f32⟩
  | 33 => ⟨S256x1, .f32⟩
  | 34 => ⟨S1x256, .f32⟩
  | 35 => ⟨S256x256, .f32⟩
  | 36 => ⟨S256x256, .f32⟩
  | 37 => ⟨S256x256, .f32⟩
  | 38 => ⟨S1x256x256, .f32⟩
  | 39 => ⟨S_, .f32⟩
  | 40 => ⟨S1x256x256, .f32⟩
  | 41 => ⟨S1x256x256, .i1⟩
  | 42 => ⟨S_, .f32⟩
  | 43 => ⟨S256x256, .f32⟩
  | 44 => ⟨S256x256, .f32⟩
  | 45 => ⟨S1x256x256, .f32⟩
  | 46 => ⟨S4x1x1, .f32⟩
  | 47 => ⟨S4x256x256, .f32⟩
  | 48 => ⟨S4x256x256, .f32⟩
  | 49 => ⟨S4x256x256, .f32⟩
  | 50 => ⟨S4x256x256, .f32⟩
  | 51 => ⟨S_, .f32⟩
  | 52 => ⟨S_, .f32⟩
  | 53 => ⟨S4x256x256, .i1⟩
  | 54 => ⟨S4x256x256, .f32⟩
  | 55 => ⟨S4x256x256, .f32⟩
  | 56 => ⟨S_, .f32⟩
  | 57 => ⟨S256, .f32⟩
  | 58 => ⟨S256, .f32⟩
  | 59 => ⟨S1x256, .f32⟩
  | 60 => ⟨S4x1, .f32⟩
  | 61 => ⟨S4x256, .f32⟩
  | 62 => ⟨S4x256, .f32⟩
  | 63 => ⟨S4x256, .f32⟩
  | 64 => ⟨S4x256, .f32⟩
  | 65 => ⟨S_, .f32⟩
  | 66 => ⟨S256, .f32⟩
  | 67 => ⟨S256, .f32⟩
  | 68 => ⟨S1x256, .f32⟩
  | 69 => ⟨S4x1, .f32⟩
  | 70 => ⟨S4x256, .f32⟩
  | 71 => ⟨S4x256, .f32⟩
  | 72 => ⟨S4x256, .f32⟩
  | 73 => ⟨S4x256, .f32⟩
  | 74 => ⟨S_, .f32⟩
  | 75 => ⟨S4, .f32⟩
  | 76 => ⟨S4, .f32⟩
  | 77 => ⟨S4, .f32⟩
  | 78 => ⟨S4x1x1, .f32⟩
  | 79 => ⟨S4x8x128, .f32⟩
  | 80 => ⟨S4x256x1, .f32⟩
  | 81 => ⟨S4x256x128, .f32⟩
  | 82 => ⟨S4x256x1, .f32⟩
  | 83 => ⟨S4x256x128, .f32⟩
  | 84 => ⟨S8192x4x128, .f32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S8192, .f32⟩
  | 94 => ⟨S8192x1, .f32⟩
  | 95 => ⟨S1x64, .f32⟩
  | 96 => ⟨S8192x64, .f32⟩
  | 97 => ⟨S8192x64, .f32⟩
  | 98 => ⟨S8192x64, .f32⟩
  | 99 => ⟨S8192x64, .f32⟩
  | 100 => ⟨S8192x1x64, .f32⟩
  | 101 => ⟨S8192x64, .f32⟩
  | 102 => ⟨S8192x1x64, .f32⟩
  | 103 => ⟨S8192x4x64, .f32⟩
  | 104 => ⟨S8192x4x64, .f32⟩
  | 105 => ⟨S8192x4x64, .f32⟩
  | 106 => ⟨S8192x4x64, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S8192x4x64, .f32⟩
  | 113 => ⟨S8192x4x64, .f32⟩
  | 114 => ⟨S8192x4x64, .f32⟩
  | 115 => ⟨S8192x4x128, .f32⟩
  | 116 => ⟨S8192x4x128, .bf16⟩
  | 117 => ⟨S8192x4x128, .f32⟩
  | 118 => ⟨S64, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S8192, .f32⟩
  | 127 => ⟨S8192x1, .f32⟩
  | _ => ⟨S8192x512, .f32⟩

abbrev hbmTy0_1 (i : Nat) : BufTy := match i % 128 with
  | 0 => ⟨S1x64, .f32⟩
  | 1 => ⟨S8192x64, .f32⟩
  | 2 => ⟨S8192x64, .f32⟩
  | 3 => ⟨S8192x64, .f32⟩
  | 4 => ⟨S8192x64, .f32⟩
  | 5 => ⟨S8192x1x64, .f32⟩
  | 6 => ⟨S8192x64, .f32⟩
  | 7 => ⟨S8192x1x64, .f32⟩
  | 8 => ⟨S8192x4x64, .f32⟩
  | 9 => ⟨S8192x4x64, .f32⟩
  | 10 => ⟨S8192x4x64, .f32⟩
  | 11 => ⟨S8192x4x64, .f32⟩
  | 12 => ⟨S8192x4x64, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x128, .f32⟩
  | 21 => ⟨S_, .f32⟩
  | 22 => ⟨S8192x4x128, .f32⟩
  | 23 => ⟨S8192x4x128, .f32⟩
  | 24 => ⟨S8192x4x128, .bf16⟩
  | 25 => ⟨S8192x4x128, .f32⟩
  | 26 => ⟨S32x256x4x128, .f32⟩
  | 27 => ⟨S32x256x4x128, .f32⟩
  | 28 => ⟨S256x4x128, .f32⟩
  | 29 => ⟨S1x256x4x128, .f32⟩
  | 30 => ⟨S32x256x4x128, .f32⟩
  | 31 => ⟨S32x256x4x128, .f32⟩
  | 32 => ⟨S32x4x128x128, .f32⟩
  | 33 => ⟨S4x1x128, .f32⟩
  | 34 => ⟨S_, .f32⟩
  | 35 => ⟨S4x128x128, .f32⟩
  | 36 => ⟨S0x4x128x128, .f32⟩
  | 37 => ⟨S32x4x128x128, .f32⟩
  | 38 => ⟨S_, .f32⟩
  | 39 => ⟨S0x4x128x128, .f32⟩
  | 40 => ⟨S1x4x128x128, .f32⟩
  | 41 => ⟨S4x128x128, .f32⟩
  | 42 => ⟨S4x128x128, .f32⟩
  | 43 => ⟨S4x128x128, .f32⟩
  | 44 => ⟨S4x128x128, .f32⟩
  | 45 => ⟨S1x4x128x128, .f32⟩
  | 46 => ⟨S4x128x128, .f32⟩
  | 47 => ⟨S4x128x128, .f32⟩
  | 48 => ⟨S4x128x128, .f32⟩
  | 49 => ⟨S4x128x128, .f32⟩
  | 50 => ⟨S1x4x128x128, .f32⟩
  | 51 => ⟨S4x128x128, .f32⟩
  | 52 => ⟨S4x128x128, .f32⟩
  | 53 => ⟨S4x128x128, .f32⟩
  | 54 => ⟨S4x128x128, .f32⟩
  | 55 => ⟨S1x4x128x128, .f32⟩
  | 56 => ⟨S4x128x128, .f32⟩
  | 57 => ⟨S4x128x128, .f32⟩
  | 58 => ⟨S4x128x128, .f32⟩
  | 59 => ⟨S4x128x128, .f32⟩
  | 60 => ⟨S1x4x128x128, .f32⟩
  | 61 => ⟨S4x128x128, .f32⟩
  | 62 => ⟨S4x128x128, .f32⟩
  | 63 => ⟨S4x128x128, .f32⟩
  | 64 => ⟨S4x128x128, .f32⟩
  | 65 => ⟨S1x4x128x128, .f32⟩
  | 66 => ⟨S4x128x128, .f32⟩
  | 67 => ⟨S4x128x128, .f32⟩
  | 68 => ⟨S4x128x128, .f32⟩
  | 69 => ⟨S4x128x128, .f32⟩
  | 70 => ⟨S1x4x128x128, .f32⟩
  | 71 => ⟨S4x128x128, .f32⟩
  | 72 => ⟨S4x128x128, .f32⟩
  | 73 => ⟨S4x128x128, .f32⟩
  | 74 => ⟨S4x128x128, .f32⟩
  | 75 => ⟨S1x4x128x128, .f32⟩
  | 76 => ⟨S4x128x128, .f32⟩
  | 77 => ⟨S4x128x128, .f32⟩
  | 78 => ⟨S4x128x128, .f32⟩
  | 79 => ⟨S4x128x128, .f32⟩
  | 80 => ⟨S1x4x128x128, .f32⟩
  | 81 => ⟨S4x128x128, .f32⟩
  | 82 => ⟨S4x128x128, .f32⟩
  | 83 => ⟨S4x128x128, .f32⟩
  | 84 => ⟨S4x128x128, .f32⟩
  | 85 => ⟨S1x4x128x128, .f32⟩
  | 86 => ⟨S4x128x128, .f32⟩
  | 87 => ⟨S4x128x128, .f32⟩
  | 88 => ⟨S4x128x128, .f32⟩
  | 89 => ⟨S4x128x128, .f32⟩
  | 90 => ⟨S1x4x128x128, .f32⟩
  | 91 => ⟨S4x128x128, .f32⟩
  | 92 => ⟨S4x128x128, .f32⟩
  | 93 => ⟨S4x128x128, .f32⟩
  | 94 => ⟨S4x128x128, .f32⟩
  | 95 => ⟨S1x4x128x128, .f32⟩
  | 96 => ⟨S4x128x128, .f32⟩
  | 97 => ⟨S4x128x128, .f32⟩
  | 98 => ⟨S4x128x128, .f32⟩
  | 99 => ⟨S4x128x128, .f32⟩
  | 100 => ⟨S1x4x128x128, .f32⟩
  | 101 => ⟨S4x128x128, .f32⟩
  | 102 => ⟨S4x128x128, .f32⟩
  | 103 => ⟨S4x128x128, .f32⟩
  | 104 => ⟨S4x128x128, .f32⟩
  | 105 => ⟨S1x4x128x128, .f32⟩
  | 106 => ⟨S4x128x128, .f32⟩
  | 107 => ⟨S4x128x128, .f32⟩
  | 108 => ⟨S4x128x128, .f32⟩
  | 109 => ⟨S4x128x128, .f32⟩
  | 110 => ⟨S1x4x128x128, .f32⟩
  | 111 => ⟨S4x128x128, .f32⟩
  | 112 => ⟨S4x128x128, .f32⟩
  | 113 => ⟨S4x128x128, .f32⟩
  | 114 => ⟨S4x128x128, .f32⟩
  | 115 => ⟨S1x4x128x128, .f32⟩
  | 116 => ⟨S4x128x128, .f32⟩
  | 117 => ⟨S4x128x128, .f32⟩
  | 118 => ⟨S4x128x128, .f32⟩
  | 119 => ⟨S4x128x128, .f32⟩
  | 120 => ⟨S1x4x128x128, .f32⟩
  | 121 => ⟨S4x128x128, .f32⟩
  | 122 => ⟨S4x128x128, .f32⟩
  | 123 => ⟨S4x128x128, .f32⟩
  | 124 => ⟨S4x128x128, .f32⟩
  | 125 => ⟨S1x4x128x128, .f32⟩
  | 126 => ⟨S4x128x128, .f32⟩
  | 127 => ⟨S4x128x128, .f32⟩
  | _ => ⟨S8192x512, .f32⟩

abbrev hbmTy0_2 (i : Nat) : BufTy := match i % 128 with
  | 0 => ⟨S4x128x128, .f32⟩
  | 1 => ⟨S4x128x128, .f32⟩
  | 2 => ⟨S1x4x128x128, .f32⟩
  | 3 => ⟨S4x128x128, .f32⟩
  | 4 => ⟨S4x128x128, .f32⟩
  | 5 => ⟨S4x128x128, .f32⟩
  | 6 => ⟨S4x128x128, .f32⟩
  | 7 => ⟨S1x4x128x128, .f32⟩
  | 8 => ⟨S4x128x128, .f32⟩
  | 9 => ⟨S4x128x128, .f32⟩
  | 10 => ⟨S4x128x128, .f32⟩
  | 11 => ⟨S4x128x128, .f32⟩
  | 12 => ⟨S1x4x128x128, .f32⟩
  | 13 => ⟨S4x128x128, .f32⟩
  | 14 => ⟨S4x128x128, .f32⟩
  | 15 => ⟨S4x128x128, .f32⟩
  | 16 => ⟨S4x128x128, .f32⟩
  | 17 => ⟨S1x4x128x128, .f32⟩
  | 18 => ⟨S4x128x128, .f32⟩
  | 19 => ⟨S4x128x128, .f32⟩
  | 20 => ⟨S4x128x128, .f32⟩
  | 21 => ⟨S4x128x128, .f32⟩
  | 22 => ⟨S1x4x128x128, .f32⟩
  | 23 => ⟨S4x128x128, .f32⟩
  | 24 => ⟨S4x128x128, .f32⟩
  | 25 => ⟨S4x128x128, .f32⟩
  | 26 => ⟨S4x128x128, .f32⟩
  | 27 => ⟨S1x4x128x128, .f32⟩
  | 28 => ⟨S4x128x128, .f32⟩
  | 29 => ⟨S4x128x128, .f32⟩
  | 30 => ⟨S4x128x128, .f32⟩
  | 31 => ⟨S4x128x128, .f32⟩
  | 32 => ⟨S1x4x128x128, .f32⟩
  | 33 => ⟨S4x128x128, .f32⟩
  | 34 => ⟨S4x128x128, .f32⟩
  | 35 => ⟨S4x128x128, .f32⟩
  | 36 => ⟨S4x128x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x128x128, .f32⟩
  | 46 => ⟨S4x128x128, .f32⟩
  | 47 => ⟨S1x4x128x128, .f32⟩
  | 48 => ⟨S4x128x128, .f32⟩
  | 49 => ⟨S4x128x128, .f32⟩
  | 50 => ⟨S4x128x128, .f32⟩
  | 51 => ⟨S4x128x128, .f32⟩
  | 52 => ⟨S1x4x128x128, .f32⟩
  | 53 => ⟨S4x128x128, .f32⟩
  | 54 => ⟨S4x128x128, .f32⟩
  | 55 => ⟨S4x128x128, .f32⟩
  | 56 => ⟨S4x128x128, .f32⟩
  | 57 => ⟨S1x4x128x128, .f32⟩
  | 58 => ⟨S4x128x128, .f32⟩
  | 59 => ⟨S4x128x128, .f32⟩
  | 60 => ⟨S4x128x128, .f32⟩
  | 61 => ⟨S4x128x128, .f32⟩
  | 62 => ⟨S1x4x128x128, .f32⟩
  | 63 => ⟨S4x128x128, .f32⟩
  | 64 => ⟨S4x128x128, .f32⟩
  | 65 => ⟨S4x128x128, .f32⟩
  | 66 => ⟨S4x128x128, .f32⟩
  | 67 => ⟨S1x4x128x128, .f32⟩
  | 68 => ⟨S4x128x128, .f32⟩
  | 69 => ⟨S4x128x128, .f32⟩
  | 70 => ⟨S4x128x128, .f32⟩
  | 71 => ⟨S4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S16x4x128x128, .f32⟩
  | 105 => ⟨S16x4x128x128, .f32⟩
  | 106 => ⟨S32x4x128x128, .f32⟩
  | 107 => ⟨S32x4x128x128, .f32⟩
  | 108 => ⟨S8192x512, .bf16⟩
  | 109 => ⟨S8192x512, .bf16⟩
  | 110 => ⟨S8192x512, .bf16⟩
  | 111 => ⟨S4x32x128x128, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S8192, .f32⟩
  | 121 => ⟨S8192x1, .f32⟩
  | 122 => ⟨S1x64, .f32⟩
  | 123 => ⟨S8192x64, .f32⟩
  | 124 => ⟨S8192x64, .f32⟩
  | 125 => ⟨S8192x64, .f32⟩
  | 126 => ⟨S8192x64, .f32⟩
  | 127 => ⟨S8192x64, .f32⟩
  | _ => ⟨S8192x512, .f32⟩

abbrev hbmTy0_3 (i : Nat) : BufTy := match i % 128 with
  | 0 => ⟨S8192x128, .f32⟩
  | 1 => ⟨S8192x64, .f32⟩
  | 2 => ⟨S8192x64, .f32⟩
  | 3 => ⟨S8192x64, .f32⟩
  | 4 => ⟨S8192x128, .f32⟩
  | 5 => ⟨S8192x512, .bf16⟩
  | 6 => ⟨S8192x512, .bf16⟩
  | 7 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | _ => ⟨S8192x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x2x128x128, .f32⟩
  | .local _ .vmem, ⟨9, _⟩ => ⟨S4x2x128x128, .f32⟩
  | .local _ .vmem, ⟨10, _⟩ => ⟨S4x256x256, .f32⟩
  | .local _ .vmem, ⟨11, _⟩ => ⟨S4x256x128, .f32⟩
  | .local _ .vmem, ⟨12, _⟩ => ⟨S4x256x128, .f32⟩
  | .local _ .vmem, ⟨13, _⟩ => ⟨S4x8x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_v1 : Ref sig .tc := ⟨.hbm, 27, rfl⟩
abbrev main_cst_1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_8 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_10 : Ref sig .tc := ⟨.hbm, 120, rfl⟩
abbrev main_v82 : Ref sig .tc := ⟨.hbm, 121, rfl⟩
abbrev main_v83 : Ref sig .tc := ⟨.hbm, 122, rfl⟩
abbrev main_cst_11 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_12 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_13 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_14 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_v269 : Ref sig .tc := ⟨.hbm, 312, rfl⟩
abbrev main_v270 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_v325 : Ref sig .tc := ⟨.hbm, 368, rfl⟩
abbrev main_v326 : Ref sig .tc := ⟨.hbm, 369, rfl⟩
abbrev main_cst_15 : Ref sig .tc := ⟨.hbm, 370, rfl⟩
abbrev main_v327 : Ref sig .tc := ⟨.hbm, 371, rfl⟩
abbrev main_v328 : Ref sig .tc := ⟨.hbm, 372, rfl⟩
abbrev main_cst_16 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩
abbrev main_v343 : Ref sig .tc := ⟨.hbm, 388, rfl⟩
abbrev main_v344_0 : Ref sig .tc := ⟨.hbm, 389, rfl⟩
abbrev main_v344_1 : Ref sig .tc := ⟨.hbm, 390, rfl⟩
abbrev main_v344_2 : Ref sig .tc := ⟨.hbm, 391, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S8192x512 : Shape := ⟨2, ![8192, 512]⟩
abbrev S8192x4x128 : Shape := ⟨3, ![8192, 4, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S3 : Shape := ⟨1, ![3]⟩
abbrev S1 : Shape := ⟨1, ![1]⟩
abbrev S4 : Shape := ⟨1, ![4]⟩
abbrev S64x128x4x128 : Shape := ⟨4, ![64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S64x4x128x128 : Shape := ⟨4, ![64, 4, 128, 128]⟩
abbrev S1x4x128x128 : Shape := ⟨4, ![1, 4, 128, 128]⟩
abbrev S4x1 : Shape := ⟨2, ![4, 1]⟩
abbrev S4x128 : Shape := ⟨2, ![4, 128]⟩
abbrev S128x4 : Shape := ⟨2, ![128, 4]⟩
abbrev S1x128x4x1 : Shape := ⟨4, ![1, 128, 4, 1]⟩
abbrev S0x4x128x128 : Shape := ⟨4, ![0, 4, 128, 128]⟩
abbrev S16x4x128x128 : Shape := ⟨4, ![16, 4, 128, 128]⟩

abbrev nBuf : Space → Nat
  | .hbm => 1041
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .bf16⟩
  | 4 => ⟨S8192x4x128, .f32⟩
  | 5 => ⟨S64, .f32⟩
  | 6 => ⟨S64, .f32⟩
  | 7 => ⟨S_, .f32⟩
  | 8 => ⟨S64, .f32⟩
  | 9 => ⟨S64, .f32⟩
  | 10 => ⟨S_, .f32⟩
  | 11 => ⟨S64, .f32⟩
  | 12 => ⟨S64, .f32⟩
  | 13 => ⟨S8192, .f32⟩
  | 14 => ⟨S8192x1, .f32⟩
  | 15 => ⟨S1x64, .f32⟩
  | 16 => ⟨S8192x64, .f32⟩
  | 17 => ⟨S8192x64, .f32⟩
  | 18 => ⟨S8192x64, .f32⟩
  | 19 => ⟨S8192x64, .f32⟩
  | 20 => ⟨S8192x1x64, .f32⟩
  | 21 => ⟨S8192x64, .f32⟩
  | 22 => ⟨S8192x1x64, .f32⟩
  | 23 => ⟨S8192x4x64, .f32⟩
  | 24 => ⟨S8192x4x64, .f32⟩
  | 25 => ⟨S8192x4x64, .f32⟩
  | 26 => ⟨S8192x4x64, .f32⟩
  | 27 => ⟨S8192x4x64, .f32⟩
  | 28 => ⟨S8192x4x64, .f32⟩
  | 29 => ⟨S8192x4x64, .f32⟩
  | 30 => ⟨S8192x4x64, .f32⟩
  | 31 => ⟨S8192x4x64, .f32⟩
  | 32 => ⟨S8192x4x64, .f32⟩
  | 33 => ⟨S8192x4x64, .f32⟩
  | 34 => ⟨S8192x4x64, .f32⟩
  | 35 => ⟨S8192x4x128, .f32⟩
  | 36 => ⟨S8192x4x128, .f32⟩
  | 37 => ⟨S64, .f32⟩
  | 38 => ⟨S64, .f32⟩
  | 39 => ⟨S_, .f32⟩
  | 40 => ⟨S64, .f32⟩
  | 41 => ⟨S64, .f32⟩
  | 42 => ⟨S_, .f32⟩
  | 43 => ⟨S64, .f32⟩
  | 44 => ⟨S64, .f32⟩
  | 45 => ⟨S8192, .f32⟩
  | 46 => ⟨S8192x1, .f32⟩
  | 47 => ⟨S1x64, .f32⟩
  | 48 => ⟨S8192x64, .f32⟩
  | 49 => ⟨S8192x64, .f32⟩
  | 50 => ⟨S8192x64, .f32⟩
  | 51 => ⟨S8192x64, .f32⟩
  | 52 => ⟨S8192x1x64, .f32⟩
  | 53 => ⟨S8192x64, .f32⟩
  | 54 => ⟨S8192x1x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x64, .f32⟩
  | 64 => ⟨S8192x4x64, .f32⟩
  | 65 => ⟨S8192x4x64, .f32⟩
  | 66 => ⟨S8192x4x64, .f32⟩
  | 67 => ⟨S8192x4x128, .f32⟩
  | 68 => ⟨S_, .f32⟩
  | 69 => ⟨S8192x4x128, .f32⟩
  | 70 => ⟨S8192x4x128, .f32⟩
  | 71 => ⟨S8192x4x128, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S3, .f32⟩
  | 80 => ⟨S_, .f32⟩
  | 81 => ⟨S3, .f32⟩
  | 82 => ⟨S3, .f32⟩
  | 83 => ⟨S1, .f32⟩
  | 84 => ⟨S_, .f32⟩
  | 85 => ⟨S3, .f32⟩
  | 86 => ⟨S3, .f32⟩
  | 87 => ⟨S3, .f32⟩
  | 88 => ⟨S3, .f32⟩
  | 89 => ⟨S1, .f32⟩
  | 90 => ⟨S3, .f32⟩
  | 91 => ⟨S3, .f32⟩
  | 92 => ⟨S3, .f32⟩
  | 93 => ⟨S1, .f32⟩
  | 94 => ⟨S4, .f32⟩
  | 95 => ⟨S4, .f32⟩
  | 96 => ⟨S_, .f32⟩
  | 97 => ⟨S4, .f32⟩
  | 98 => ⟨S4, .f32⟩
  | 99 => ⟨S4, .f32⟩
  | 100 => ⟨S64x128x4x128, .f32⟩
  | 101 => ⟨S64x128x4x128, .f32⟩
  | 102 => ⟨S64x128x4x128, .f32⟩
  | 103 => ⟨S128, .f32⟩
  | 104 => ⟨S128x1, .f32⟩
  | 105 => ⟨S1x128, .f32⟩
  | 106 => ⟨S128x128, .f32⟩
  | 107 => ⟨S128x128, .f32⟩
  | 108 => ⟨S128x128, .f32⟩
  | 109 => ⟨S1x128x128, .f32⟩
  | 110 => ⟨S_, .f32⟩
  | 111 => ⟨S1x128x128, .f32⟩
  | 112 => ⟨S1x128x128, .i1⟩
  | 113 => ⟨S_, .f32⟩
  | 114 => ⟨S128x128, .f32⟩
  | 115 => ⟨S128x128, .f32⟩
  | 116 => ⟨S1x128x128, .f32⟩
  | 117 => ⟨S4x1x1, .f32⟩
  | 118 => ⟨S4x128x128, .f32⟩
  | 119 => ⟨S4x128x128, .f32⟩
  | 120 => ⟨S4x128x128, .f32⟩
  | 121 => ⟨S4x128x128, .f32⟩
  | 122 => ⟨S_, .f32⟩
  | 123 => ⟨S_, .f32⟩
  | 124 => ⟨S4x128x128, .i1⟩
  | 125 => ⟨S4x128x128, .f32⟩
  | 126 => ⟨S4x128x128, .f32⟩
  | 127 => ⟨S64x4x128x128, .f32⟩
  | _ => ⟨S8192x512, .f32⟩

abbrev hbmTy0_1 (i : Nat) : BufTy := match i % 128 with
  | 0 => ⟨S1x4x128x128, .f32⟩
  | 1 => ⟨S64x4x128x128, .f32⟩
  | 2 => ⟨S64x4x128x128, .f32⟩
  | 3 => ⟨S64x4x128x128, .f32⟩
  | 4 => ⟨S64x128x4x128, .f32⟩
  | 5 => ⟨S_, .f32⟩
  | 6 => ⟨S128, .f32⟩
  | 7 => ⟨S128, .f32⟩
  | 8 => ⟨S1x128, .f32⟩
  | 9 => ⟨S4x1, .f32⟩
  | 10 => ⟨S4x128, .f32⟩
  | 11 => ⟨S4x128, .f32⟩
  | 12 => ⟨S4x128, .f32⟩
  | 13 => ⟨S4x128, .f32⟩
  | 14 => ⟨S128x4, .f32⟩
  | 15 => ⟨S1x128x4x1, .f32⟩
  | 16 => ⟨S64x128x4x128, .f32⟩
  | 17 => ⟨S64x128x4x128, .f32⟩
  | 18 => ⟨S64x4x128x128, .f32⟩
  | 19 => ⟨S_, .f32⟩
  | 20 => ⟨S4, .f32⟩
  | 21 => ⟨S4, .f32⟩
  | 22 => ⟨S4, .f32⟩
  | 23 => ⟨S4x1x1, .f32⟩
  | 24 => ⟨S_, .f32⟩
  | 25 => ⟨S4x128x128, .f32⟩
  | 26 => ⟨S0x4x128x128, .f32⟩
  | 27 => ⟨S64x4x128x128, .f32⟩
  | 28 => ⟨S_, .f32⟩
  | 29 => ⟨S0x4x128x128, .f32⟩
  | 30 => ⟨S1x4x128x128, .f32⟩
  | 31 => ⟨S4x128x128, .f32⟩
  | 32 => ⟨S4x128x128, .f32⟩
  | 33 => ⟨S4x128x128, .f32⟩
  | 34 => ⟨S4x128x128, .f32⟩
  | 35 => ⟨S1x4x128x128, .f32⟩
  | 36 => ⟨S4x128x128, .f32⟩
  | 37 => ⟨S4x128x128, .f32⟩
  | 38 => ⟨S4x128x128, .f32⟩
  | 39 => ⟨S4x128x128, .f32⟩
  | 40 => ⟨S1x4x128x128, .f32⟩
  | 41 => ⟨S4x128x128, .f32⟩
  | 42 => ⟨S4x128x128, .f32⟩
  | 43 => ⟨S4x128x128, .f32⟩
  | 44 => ⟨S4x128x128, .f32⟩
  | 45 => ⟨S1x4x128x128, .f32⟩
  | 46 => ⟨S4x128x128, .f32⟩
  | 47 => ⟨S4x128x128, .f32⟩
  | 48 => ⟨S4x128x128, .f32⟩
  | 49 => ⟨S4x128x128, .f32⟩
  | 50 => ⟨S1x4x128x128, .f32⟩
  | 51 => ⟨S4x128x128, .f32⟩
  | 52 => ⟨S4x128x128, .f32⟩
  | 53 => ⟨S4x128x128, .f32⟩
  | 54 => ⟨S4x128x128, .f32⟩
  | 55 => ⟨S1x4x128x128, .f32⟩
  | 56 => ⟨S4x128x128, .f32⟩
  | 57 => ⟨S4x128x128, .f32⟩
  | 58 => ⟨S4x128x128, .f32⟩
  | 59 => ⟨S4x128x128, .f32⟩
  | 60 => ⟨S1x4x128x128, .f32⟩
  | 61 => ⟨S4x128x128, .f32⟩
  | 62 => ⟨S4x128x128, .f32⟩
  | 63 => ⟨S4x128x128, .f32⟩
  | 64 => ⟨S4x128x128, .f32⟩
  | 65 => ⟨S1x4x128x128, .f32⟩
  | 66 => ⟨S4x128x128, .f32⟩
  | 67 => ⟨S4x128x128, .f32⟩
  | 68 => ⟨S4x128x128, .f32⟩
  | 69 => ⟨S4x128x128, .f32⟩
  | 70 => ⟨S1x4x128x128, .f32⟩
  | 71 => ⟨S4x128x128, .f32⟩
  | 72 => ⟨S4x128x128, .f32⟩
  | 73 => ⟨S4x128x128, .f32⟩
  | 74 => ⟨S4x128x128, .f32⟩
  | 75 => ⟨S1x4x128x128, .f32⟩
  | 76 => ⟨S4x128x128, .f32⟩
  | 77 => ⟨S4x128x128, .f32⟩
  | 78 => ⟨S4x128x128, .f32⟩
  | 79 => ⟨S4x128x128, .f32⟩
  | 80 => ⟨S1x4x128x128, .f32⟩
  | 81 => ⟨S4x128x128, .f32⟩
  | 82 => ⟨S4x128x128, .f32⟩
  | 83 => ⟨S4x128x128, .f32⟩
  | 84 => ⟨S4x128x128, .f32⟩
  | 85 => ⟨S1x4x128x128, .f32⟩
  | 86 => ⟨S4x128x128, .f32⟩
  | 87 => ⟨S4x128x128, .f32⟩
  | 88 => ⟨S4x128x128, .f32⟩
  | 89 => ⟨S4x128x128, .f32⟩
  | 90 => ⟨S1x4x128x128, .f32⟩
  | 91 => ⟨S4x128x128, .f32⟩
  | 92 => ⟨S4x128x128, .f32⟩
  | 93 => ⟨S4x128x128, .f32⟩
  | 94 => ⟨S4x128x128, .f32⟩
  | 95 => ⟨S1x4x128x128, .f32⟩
  | 96 => ⟨S4x128x128, .f32⟩
  | 97 => ⟨S4x128x128, .f32⟩
  | 98 => ⟨S4x128x128, .f32⟩
  | 99 => ⟨S4x128x128, .f32⟩
  | 100 => ⟨S1x4x128x128, .f32⟩
  | 101 => ⟨S4x128x128, .f32⟩
  | 102 => ⟨S4x128x128, .f32⟩
  | 103 => ⟨S4x128x128, .f32⟩
  | 104 => ⟨S4x128x128, .f32⟩
  | 105 => ⟨S1x4x128x128, .f32⟩
  | 106 => ⟨S4x128x128, .f32⟩
  | 107 => ⟨S4x128x128, .f32⟩
  | 108 => ⟨S4x128x128, .f32⟩
  | 109 => ⟨S4x128x128, .f32⟩
  | 110 => ⟨S1x4x128x128, .f32⟩
  | 111 => ⟨S4x128x128, .f32⟩
  | 112 => ⟨S4x128x128, .f32⟩
  | 113 => ⟨S4x128x128, .f32⟩
  | 114 => ⟨S4x128x128, .f32⟩
  | 115 => ⟨S1x4x128x128, .f32⟩
  | 116 => ⟨S4x128x128, .f32⟩
  | 117 => ⟨S4x128x128, .f32⟩
  | 118 => ⟨S4x128x128, .f32⟩
  | 119 => ⟨S4x128x128, .f32⟩
  | 120 => ⟨S1x4x128x128, .f32⟩
  | 121 => ⟨S4x128x128, .f32⟩
  | 122 => ⟨S4x128x128, .f32⟩
  | 123 => ⟨S4x128x128, .f32⟩
  | 124 => ⟨S4x128x128, .f32⟩
  | 125 => ⟨S1x4x128x128, .f32⟩
  | 126 => ⟨S4x128x128, .f32⟩
  | 127 => ⟨S4x128x128, .f32⟩
  | _ => ⟨S8192x512, .f32⟩

abbrev hbmTy0_2 (i : Nat) : BufTy := match i % 128 with
  | 0 => ⟨S4x128x128, .f32⟩
  | 1 => ⟨S4x128x128, .f32⟩
  | 2 => ⟨S1x4x128x128, .f32⟩
  | 3 => ⟨S4x128x128, .f32⟩
  | 4 => ⟨S4x128x128, .f32⟩
  | 5 => ⟨S4x128x128, .f32⟩
  | 6 => ⟨S4x128x128, .f32⟩
  | 7 => ⟨S1x4x128x128, .f32⟩
  | 8 => ⟨S4x128x128, .f32⟩
  | 9 => ⟨S4x128x128, .f32⟩
  | 10 => ⟨S4x128x128, .f32⟩
  | 11 => ⟨S4x128x128, .f32⟩
  | 12 => ⟨S1x4x128x128, .f32⟩
  | 13 => ⟨S4x128x128, .f32⟩
  | 14 => ⟨S4x128x128, .f32⟩
  | 15 => ⟨S4x128x128, .f32⟩
  | 16 => ⟨S4x128x128, .f32⟩
  | 17 => ⟨S1x4x128x128, .f32⟩
  | 18 => ⟨S4x128x128, .f32⟩
  | 19 => ⟨S4x128x128, .f32⟩
  | 20 => ⟨S4x128x128, .f32⟩
  | 21 => ⟨S4x128x128, .f32⟩
  | 22 => ⟨S1x4x128x128, .f32⟩
  | 23 => ⟨S4x128x128, .f32⟩
  | 24 => ⟨S4x128x128, .f32⟩
  | 25 => ⟨S4x128x128, .f32⟩
  | 26 => ⟨S4x128x128, .f32⟩
  | 27 => ⟨S1x4x128x128, .f32⟩
  | 28 => ⟨S4x128x128, .f32⟩
  | 29 => ⟨S4x128x128, .f32⟩
  | 30 => ⟨S4x128x128, .f32⟩
  | 31 => ⟨S4x128x128, .f32⟩
  | 32 => ⟨S1x4x128x128, .f32⟩
  | 33 => ⟨S4x128x128, .f32⟩
  | 34 => ⟨S4x128x128, .f32⟩
  | 35 => ⟨S4x128x128, .f32⟩
  | 36 => ⟨S4x128x128, .f32⟩
  | 37 => ⟨S1x4x128x128, .f32⟩
  | 38 => ⟨S4x128x128, .f32⟩
  | 39 => ⟨S4x128x128, .f32⟩
  | 40 => ⟨S4x128x128, .f32⟩
  | 41 => ⟨S4x128x128, .f32⟩
  | 42 => ⟨S1x4x128x128, .f32⟩
  | 43 => ⟨S4x128x128, .f32⟩
  | 44 => ⟨S4x128x128, .f32⟩
  | 45 => ⟨S4x128x128, .f32⟩
  | 46 => ⟨S4x128x128, .f32⟩
  | 47 => ⟨S1x4x128x128, .f32⟩
  | 48 => ⟨S4x128x128, .f32⟩
  | 49 => ⟨S4x128x128, .f32⟩
  | 50 => ⟨S4x128x128, .f32⟩
  | 51 => ⟨S4x128x128, .f32⟩
  | 52 => ⟨S1x4x128x128, .f32⟩
  | 53 => ⟨S4x128x128, .f32⟩
  | 54 => ⟨S4x128x128, .f32⟩
  | 55 => ⟨S4x128x128, .f32⟩
  | 56 => ⟨S4x128x128, .f32⟩
  | 57 => ⟨S1x4x128x128, .f32⟩
  | 58 => ⟨S4x128x128, .f32⟩
  | 59 => ⟨S4x128x128, .f32⟩
  | 60 => ⟨S4x128x128, .f32⟩
  | 61 => ⟨S4x128x128, .f32⟩
  | 62 => ⟨S1x4x128x128, .f32⟩
  | 63 => ⟨S4x128x128, .f32⟩
  | 64 => ⟨S4x128x128, .f32⟩
  | 65 => ⟨S4x128x128, .f32⟩
  | 66 => ⟨S4x128x128, .f32⟩
  | 67 => ⟨S1x4x128x128, .f32⟩
  | 68 => ⟨S4x128x128, .f32⟩
  | 69 => ⟨S4x128x128, .f32⟩
  | 70 => ⟨S4x128x128, .f32⟩
  | 71 => ⟨S4x128x128, .f32⟩
  | 72 => ⟨S1x4x128x128, .f32⟩
  | 73 => ⟨S4x128x128, .f32⟩
  | 74 => ⟨S4x128x128, .f32⟩
  | 75 => ⟨S4x128x128, .f32⟩
  | 76 => ⟨S4x128x128, .f32⟩
  | 77 => ⟨S1x4x128x128, .f32⟩
  | 78 => ⟨S4x128x128, .f32⟩
  | 79 => ⟨S4x128x128, .f32⟩
  | 80 => ⟨S4x128x128, .f32⟩
  | 81 => ⟨S4x128x128, .f32⟩
  | 82 => ⟨S1x4x128x128, .f32⟩
  | 83 => ⟨S4x128x128, .f32⟩
  | 84 => ⟨S4x128x128, .f32⟩
  | 85 => ⟨S4x128x128, .f32⟩
  | 86 => ⟨S4x128x128, .f32⟩
  | 87 => ⟨S1x4x128x128, .f32⟩
  | 88 => ⟨S4x128x128, .f32⟩
  | 89 => ⟨S4x128x128, .f32⟩
  | 90 => ⟨S4x128x128, .f32⟩
  | 91 => ⟨S4x128x128, .f32⟩
  | 92 => ⟨S1x4x128x128, .f32⟩
  | 93 => ⟨S4x128x128, .f32⟩
  | 94 => ⟨S4x128x128, .f32⟩
  | 95 => ⟨S4x128x128, .f32⟩
  | 96 => ⟨S4x128x128, .f32⟩
  | 97 => ⟨S1x4x128x128, .f32⟩
  | 98 => ⟨S4x128x128, .f32⟩
  | 99 => ⟨S4x128x128, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x128x128, .f32⟩
  | 108 => ⟨S4x128x128, .f32⟩
  | 109 => ⟨S4x128x128, .f32⟩
  | 110 => ⟨S4x128x128, .f32⟩
  | 111 => ⟨S4x128x128, .f32⟩
  | 112 => ⟨S1x4x128x128, .f32⟩
  | 113 => ⟨S4x128x128, .f32⟩
  | 114 => ⟨S4x128x128, .f32⟩
  | 115 => ⟨S4x128x128, .f32⟩
  | 116 => ⟨S4x128x128, .f32⟩
  | 117 => ⟨S1x4x128x128, .f32⟩
  | 118 => ⟨S4x128x128, .f32⟩
  | 119 => ⟨S4x128x128, .f32⟩
  | 120 => ⟨S4x128x128, .f32⟩
  | 121 => ⟨S4x128x128, .f32⟩
  | 122 => ⟨S1x4x128x128, .f32⟩
  | 123 => ⟨S4x128x128, .f32⟩
  | 124 => ⟨S4x128x128, .f32⟩
  | 125 => ⟨S4x128x128, .f32⟩
  | 126 => ⟨S4x128x128, .f32⟩
  | 127 => ⟨S1x4x128x128, .f32⟩
  | _ => ⟨S8192x512, .f32⟩

abbrev hbmTy0_3 (i : Nat) : BufTy := match i % 128 with
  | 0 => ⟨S4x128x128, .f32⟩
  | 1 => ⟨S4x128x128, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S4x128x128, .f32⟩
  | 8 => ⟨S4x128x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x128x128, .f32⟩
  | 15 => ⟨S4x128x128, .f32⟩
  | 16 => ⟨S4x128x128, .f32⟩
  | 17 => ⟨S4x128x128, .f32⟩
  | 18 => ⟨S4x128x128, .f32⟩
  | 19 => ⟨S1x4x128x128, .f32⟩
  | 20 => ⟨S4x128x128, .f32⟩
  | 21 => ⟨S4x128x128, .f32⟩
  | 22 => ⟨S4x128x128, .f32⟩
  | 23 => ⟨S4x128x128, .f32⟩
  | 24 => ⟨S1x4x128x128, .f32⟩
  | 25 => ⟨S4x128x128, .f32⟩
  | 26 => ⟨S4x128x128, .f32⟩
  | 27 => ⟨S4x128x128, .f32⟩
  | 28 => ⟨S4x128x128, .f32⟩
  | 29 => ⟨S1x4x128x128, .f32⟩
  | 30 => ⟨S4x128x128, .f32⟩
  | 31 => ⟨S4x128x128, .f32⟩
  | 32 => ⟨S4x128x128, .f32⟩
  | 33 => ⟨S4x128x128, .f32⟩
  | 34 => ⟨S1x4x128x128, .f32⟩
  | 35 => ⟨S4x128x128, .f32⟩
  | 36 => ⟨S4x128x128, .f32⟩
  | 37 => ⟨S4x128x128, .f32⟩
  | 38 => ⟨S4x128x128, .f32⟩
  | 39 => ⟨S1x4x128x128, .f32⟩
  | 40 => ⟨S4x128x128, .f32⟩
  | 41 => ⟨S4x128x128, .f32⟩
  | 42 => ⟨S4x128x128, .f32⟩
  | 43 => ⟨S4x128x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x128x128, .f32⟩
  | 50 => ⟨S4x128x128, .f32⟩
  | 51 => ⟨S4x128x128, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x128x128, .f32⟩
  | 58 => ⟨S4x128x128, .f32⟩
  | 59 => ⟨S1x4x128x128, .f32⟩
  | 60 => ⟨S4x128x128, .f32⟩
  | 61 => ⟨S4x128x128, .f32⟩
  | 62 => ⟨S4x128x128, .f32⟩
  | 63 => ⟨S4x128x128, .f32⟩
  | 64 => ⟨S1x4x128x128, .f32⟩
  | 65 => ⟨S4x128x128, .f32⟩
  | 66 => ⟨S4x128x128, .f32⟩
  | 67 => ⟨S4x128x128, .f32⟩
  | 68 => ⟨S4x128x128, .f32⟩
  | 69 => ⟨S1x4x128x128, .f32⟩
  | 70 => ⟨S4x128x128, .f32⟩
  | 71 => ⟨S4x128x128, .f32⟩
  | 72 => ⟨S4x128x128, .f32⟩
  | 73 => ⟨S4x128x128, .f32⟩
  | 74 => ⟨S1x4x128x128, .f32⟩
  | 75 => ⟨S4x128x128, .f32⟩
  | 76 => ⟨S4x128x128, .f32⟩
  | 77 => ⟨S4x128x128, .f32⟩
  | 78 => ⟨S4x128x128, .f32⟩
  | 79 => ⟨S1x4x128x128, .f32⟩
  | 80 => ⟨S4x128x128, .f32⟩
  | 81 => ⟨S4x128x128, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x128x128, .f32⟩
  | 88 => ⟨S4x128x128, .f32⟩
  | 89 => ⟨S1x4x128x128, .f32⟩
  | 90 => ⟨S4x128x128, .f32⟩
  | 91 => ⟨S4x128x128, .f32⟩
  | 92 => ⟨S4x128x128, .f32⟩
  | 93 => ⟨S4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S8192x512, .f32⟩

abbrev hbmTy0_4 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S16x4x128x128, .f32⟩
  | 31 => ⟨S16x4x128x128, .f32⟩
  | 32 => ⟨S16x4x128x128, .f32⟩
  | 33 => ⟨S16x4x128x128, .f32⟩
  | 34 => ⟨S64x4x128x128, .f32⟩
  | 35 => ⟨S64x4x128x128, .f32⟩
  | 36 => ⟨S_, .f32⟩
  | 37 => ⟨S128, .f32⟩
  | 38 => ⟨S128, .f32⟩
  | 39 => ⟨S1x128, .f32⟩
  | 40 => ⟨S4x1, .f32⟩
  | 41 => ⟨S4x128, .f32⟩
  | 42 => ⟨S4x128, .f32⟩
  | 43 => ⟨S4x128, .f32⟩
  | 44 => ⟨S4x128, .f32⟩
  | 45 => ⟨S64x4x128x128, .f32⟩
  | 46 => ⟨S64x128x4x128, .f32⟩
  | 47 => ⟨S128x4, .f32⟩
  | 48 => ⟨S1x128x4x1, .f32⟩
  | 49 => ⟨S64x128x4x128, .f32⟩
  | 50 => ⟨S64x128x4x128, .f32⟩
  | 51 => ⟨S64x128x4x128, .f32⟩
  | 52 => ⟨S8192x4x128, .f32⟩
  | 53 => ⟨S8192x512, .f32⟩
  | 54 => ⟨S8192x512, .f32⟩
  | 55 => ⟨S_, .f32⟩
  | 56 => ⟨S4x128x128, .f32⟩
  | 57 => ⟨S8192x4x128, .f32⟩
  | 58 => ⟨S64x128x4x128, .f32⟩
  | 59 => ⟨S64x128x4x128, .f32⟩
  | 60 => ⟨S64x128x4x128, .f32⟩
  | 61 => ⟨S64x4x128x128, .f32⟩
  | 62 => ⟨S64x4x128x128, .f32⟩
  | 63 => ⟨S64x128x4x128, .f32⟩
  | 64 => ⟨S64x4x128x128, .f32⟩
  | 65 => ⟨S64x4x128x128, .f32⟩
  | 66 => ⟨S_, .f32⟩
  | 67 => ⟨S4x128x128, .f32⟩
  | 68 => ⟨S64x4x128x128, .f32⟩
  | 69 => ⟨S0x4x128x128, .f32⟩
  | 70 => ⟨S_, .f32⟩
  | 71 => ⟨S0x4x128x128, .f32⟩
  | 72 => ⟨S1x4x128x128, .f32⟩
  | 73 => ⟨S4x128x128, .f32⟩
  | 74 => ⟨S4x128x128, .f32⟩
  | 75 => ⟨S4x128x128, .f32⟩
  | 76 => ⟨S4x128x128, .f32⟩
  | 77 => ⟨S1x4x128x128, .f32⟩
  | 78 => ⟨S4x128x128, .f32⟩
  | 79 => ⟨S4x128x128, .f32⟩
  | 80 => ⟨S4x128x128, .f32⟩
  | 81 => ⟨S4x128x128, .f32⟩
  | 82 => ⟨S1x4x128x128, .f32⟩
  | 83 => ⟨S4x128x128, .f32⟩
  | 84 => ⟨S4x128x128, .f32⟩
  | 85 => ⟨S4x128x128, .f32⟩
  | 86 => ⟨S4x128x128, .f32⟩
  | 87 => ⟨S1x4x128x128, .f32⟩
  | 88 => ⟨S4x128x128, .f32⟩
  | 89 => ⟨S4x128x128, .f32⟩
  | 90 => ⟨S4x128x128, .f32⟩
  | 91 => ⟨S4x128x128, .f32⟩
  | 92 => ⟨S1x4x128x128, .f32⟩
  | 93 => ⟨S4x128x128, .f32⟩
  | 94 => ⟨S4x128x128, .f32⟩
  | 95 => ⟨S4x128x128, .f32⟩
  | 96 => ⟨S4x128x128, .f32⟩
  | 97 => ⟨S1x4x128x128, .f32⟩
  | 98 => ⟨S4x128x128, .f32⟩
  | 99 => ⟨S4x128x128, .f32⟩
  | 100 => ⟨S4x128x128, .f32⟩
  | 101 => ⟨S4x128x128, .f32⟩
  | 102 => ⟨S1x4x128x128, .f32⟩
  | 103 => ⟨S4x128x128, .f32⟩
  | 104 => ⟨S4x128x128, .f32⟩
  | 105 => ⟨S4x128x128, .f32⟩
  | 106 => ⟨S4x128x128, .f32⟩
  | 107 => ⟨S1x4x128x128, .f32⟩
  | 108 => ⟨S4x128x128, .f32⟩
  | 109 => ⟨S4x128x128, .f32⟩
  | 110 => ⟨S4x128x128, .f32⟩
  | 111 => ⟨S4x128x128, .f32⟩
  | 112 => ⟨S1x4x128x128, .f32⟩
  | 113 => ⟨S4x128x128, .f32⟩
  | 114 => ⟨S4x128x128, .f32⟩
  | 115 => ⟨S4x128x128, .f32⟩
  | 116 => ⟨S4x128x128, .f32⟩
  | 117 => ⟨S1x4x128x128, .f32⟩
  | 118 => ⟨S4x128x128, .f32⟩
  | 119 => ⟨S4x128x128, .f32⟩
  | 120 => ⟨S4x128x128, .f32⟩
  | 121 => ⟨S4x128x128, .f32⟩
  | 122 => ⟨S1x4x128x128, .f32⟩
  | 123 => ⟨S4x128x128, .f32⟩
  | 124 => ⟨S4x128x128, .f32⟩
  | 125 => ⟨S4x128x128, .f32⟩
  | 126 => ⟨S4x128x128, .f32⟩
  | 127 => ⟨S1x4x128x128, .f32⟩
  | _ => ⟨S8192x512, .f32⟩

abbrev hbmTy0_5 (i : Nat) : BufTy := match i % 128 with
  | 0 => ⟨S4x128x128, .f32⟩
  | 1 => ⟨S4x128x128, .f32⟩
  | 2 => ⟨S4x128x128, .f32⟩
  | 3 => ⟨S4x128x128, .f32⟩
  | 4 => ⟨S1x4x128x128, .f32⟩
  | 5 => ⟨S4x128x128, .f32⟩
  | 6 => ⟨S4x128x128, .f32⟩
  | 7 => ⟨S4x128x128, .f32⟩
  | 8 => ⟨S4x128x128, .f32⟩
  | 9 => ⟨S1x4x128x128, .f32⟩
  | 10 => ⟨S4x128x128, .f32⟩
  | 11 => ⟨S4x128x128, .f32⟩
  | 12 => ⟨S4x128x128, .f32⟩
  | 13 => ⟨S4x128x128, .f32⟩
  | 14 => ⟨S1x4x128x128, .f32⟩
  | 15 => ⟨S4x128x128, .f32⟩
  | 16 => ⟨S4x128x128, .f32⟩
  | 17 => ⟨S4x128x128, .f32⟩
  | 18 => ⟨S4x128x128, .f32⟩
  | 19 => ⟨S1x4x128x128, .f32⟩
  | 20 => ⟨S4x128x128, .f32⟩
  | 21 => ⟨S4x128x128, .f32⟩
  | 22 => ⟨S4x128x128, .f32⟩
  | 23 => ⟨S4x128x128, .f32⟩
  | 24 => ⟨S1x4x128x128, .f32⟩
  | 25 => ⟨S4x128x128, .f32⟩
  | 26 => ⟨S4x128x128, .f32⟩
  | 27 => ⟨S4x128x128, .f32⟩
  | 28 => ⟨S4x128x128, .f32⟩
  | 29 => ⟨S1x4x128x128, .f32⟩
  | 30 => ⟨S4x128x128, .f32⟩
  | 31 => ⟨S4x128x128, .f32⟩
  | 32 => ⟨S4x128x128, .f32⟩
  | 33 => ⟨S4x128x128, .f32⟩
  | 34 => ⟨S1x4x128x128, .f32⟩
  | 35 => ⟨S4x128x128, .f32⟩
  | 36 => ⟨S4x128x128, .f32⟩
  | 37 => ⟨S4x128x128, .f32⟩
  | 38 => ⟨S4x128x128, .f32⟩
  | 39 => ⟨S1x4x128x128, .f32⟩
  | 40 => ⟨S4x128x128, .f32⟩
  | 41 => ⟨S4x128x128, .f32⟩
  | 42 => ⟨S4x128x128, .f32⟩
  | 43 => ⟨S4x128x128, .f32⟩
  | 44 => ⟨S1x4x128x128, .f32⟩
  | 45 => ⟨S4x128x128, .f32⟩
  | 46 => ⟨S4x128x128, .f32⟩
  | 47 => ⟨S4x128x128, .f32⟩
  | 48 => ⟨S4x128x128, .f32⟩
  | 49 => ⟨S1x4x128x128, .f32⟩
  | 50 => ⟨S4x128x128, .f32⟩
  | 51 => ⟨S4x128x128, .f32⟩
  | 52 => ⟨S4x128x128, .f32⟩
  | 53 => ⟨S4x128x128, .f32⟩
  | 54 => ⟨S1x4x128x128, .f32⟩
  | 55 => ⟨S4x128x128, .f32⟩
  | 56 => ⟨S4x128x128, .f32⟩
  | 57 => ⟨S4x128x128, .f32⟩
  | 58 => ⟨S4x128x128, .f32⟩
  | 59 => ⟨S1x4x128x128, .f32⟩
  | 60 => ⟨S4x128x128, .f32⟩
  | 61 => ⟨S4x128x128, .f32⟩
  | 62 => ⟨S4x128x128, .f32⟩
  | 63 => ⟨S4x128x128, .f32⟩
  | 64 => ⟨S1x4x128x128, .f32⟩
  | 65 => ⟨S4x128x128, .f32⟩
  | 66 => ⟨S4x128x128, .f32⟩
  | 67 => ⟨S4x128x128, .f32⟩
  | 68 => ⟨S4x128x128, .f32⟩
  | 69 => ⟨S1x4x128x128, .f32⟩
  | 70 => ⟨S4x128x128, .f32⟩
  | 71 => ⟨S4x128x128, .f32⟩
  | 72 => ⟨S4x128x128, .f32⟩
  | 73 => ⟨S4x128x128, .f32⟩
  | 74 => ⟨S1x4x128x128, .f32⟩
  | 75 => ⟨S4x128x128, .f32⟩
  | 76 => ⟨S4x128x128, .f32⟩
  | 77 => ⟨S4x128x128, .f32⟩
  | 78 => ⟨S4x128x128, .f32⟩
  | 79 => ⟨S1x4x128x128, .f32⟩
  | 80 => ⟨S4x128x128, .f32⟩
  | 81 => ⟨S4x128x128, .f32⟩
  | 82 => ⟨S4x128x128, .f32⟩
  | 83 => ⟨S4x128x128, .f32⟩
  | 84 => ⟨S1x4x128x128, .f32⟩
  | 85 => ⟨S4x128x128, .f32⟩
  | 86 => ⟨S4x128x128, .f32⟩
  | 87 => ⟨S4x128x128, .f32⟩
  | 88 => ⟨S4x128x128, .f32⟩
  | 89 => ⟨S1x4x128x128, .f32⟩
  | 90 => ⟨S4x128x128, .f32⟩
  | 91 => ⟨S4x128x128, .f32⟩
  | 92 => ⟨S4x128x128, .f32⟩
  | 93 => ⟨S4x128x128, .f32⟩
  | 94 => ⟨S1x4x128x128, .f32⟩
  | 95 => ⟨S4x128x128, .f32⟩
  | 96 => ⟨S4x128x128, .f32⟩
  | 97 => ⟨S4x128x128, .f32⟩
  | 98 => ⟨S4x128x128, .f32⟩
  | 99 => ⟨S1x4x128x128, .f32⟩
  | 100 => ⟨S4x128x128, .f32⟩
  | 101 => ⟨S4x128x128, .f32⟩
  | 102 => ⟨S4x128x128, .f32⟩
  | 103 => ⟨S4x128x128, .f32⟩
  | 104 => ⟨S1x4x128x128, .f32⟩
  | 105 => ⟨S4x128x128, .f32⟩
  | 106 => ⟨S4x128x128, .f32⟩
  | 107 => ⟨S4x128x128, .f32⟩
  | 108 => ⟨S4x128x128, .f32⟩
  | 109 => ⟨S1x4x128x128, .f32⟩
  | 110 => ⟨S4x128x128, .f32⟩
  | 111 => ⟨S4x128x128, .f32⟩
  | 112 => ⟨S4x128x128, .f32⟩
  | 113 => ⟨S4x128x128, .f32⟩
  | 114 => ⟨S1x4x128x128, .f32⟩
  | 115 => ⟨S4x128x128, .f32⟩
  | 116 => ⟨S4x128x128, .f32⟩
  | 117 => ⟨S4x128x128, .f32⟩
  | 118 => ⟨S4x128x128, .f32⟩
  | 119 => ⟨S1x4x128x128, .f32⟩
  | 120 => ⟨S4x128x128, .f32⟩
  | 121 => ⟨S4x128x128, .f32⟩
  | 122 => ⟨S4x128x128, .f32⟩
  | 123 => ⟨S4x128x128, .f32⟩
  | 124 => ⟨S1x4x128x128, .f32⟩
  | 125 => ⟨S4x128x128, .f32⟩
  | 126 => ⟨S4x128x128, .f32⟩
  | 127 => ⟨S4x128x128, .f32⟩
  | _ => ⟨S8192x512, .f32⟩

abbrev hbmTy0_6 (i : Nat) : BufTy := match i % 128 with
  | 0 => ⟨S4x128x128, .f32⟩
  | 1 => ⟨S1x4x128x128, .f32⟩
  | 2 => ⟨S4x128x128, .f32⟩
  | 3 => ⟨S4x128x128, .f32⟩
  | 4 => ⟨S4x128x128, .f32⟩
  | 5 => ⟨S4x128x128, .f32⟩
  | 6 => ⟨S1x4x128x128, .f32⟩
  | 7 => ⟨S4x128x128, .f32⟩
  | 8 => ⟨S4x128x128, .f32⟩
  | 9 => ⟨S4x128x128, .f32⟩
  | 10 => ⟨S4x128x128, .f32⟩
  | 11 => ⟨S1x4x128x128, .f32⟩
  | 12 => ⟨S4x128x128, .f32⟩
  | 13 => ⟨S4x128x128, .f32⟩
  | 14 => ⟨S4x128x128, .f32⟩
  | 15 => ⟨S4x128x128, .f32⟩
  | 16 => ⟨S1x4x128x128, .f32⟩
  | 17 => ⟨S4x128x128, .f32⟩
  | 18 => ⟨S4x128x128, .f32⟩
  | 19 => ⟨S4x128x128, .f32⟩
  | 20 => ⟨S4x128x128, .f32⟩
  | 21 => ⟨S1x4x128x128, .f32⟩
  | 22 => ⟨S4x128x128, .f32⟩
  | 23 => ⟨S4x128x128, .f32⟩
  | 24 => ⟨S4x128x128, .f32⟩
  | 25 => ⟨S4x128x128, .f32⟩
  | 26 => ⟨S1x4x128x128, .f32⟩
  | 27 => ⟨S4x128x128, .f32⟩
  | 28 => ⟨S4x128x128, .f32⟩
  | 29 => ⟨S4x128x128, .f32⟩
  | 30 => ⟨S4x128x128, .f32⟩
  | 31 => ⟨S1x4x128x128, .f32⟩
  | 32 => ⟨S4x128x128, .f32⟩
  | 33 => ⟨S4x128x128, .f32⟩
  | 34 => ⟨S4x128x128, .f32⟩
  | 35 => ⟨S4x128x128, .f32⟩
  | 36 => ⟨S1x4x128x128, .f32⟩
  | 37 => ⟨S4x128x128, .f32⟩
  | 38 => ⟨S4x128x128, .f32⟩
  | 39 => ⟨S4x128x128, .f32⟩
  | 40 => ⟨S4x128x128, .f32⟩
  | 41 => ⟨S1x4x128x128, .f32⟩
  | 42 => ⟨S4x128x128, .f32⟩
  | 43 => ⟨S4x128x128, .f32⟩
  | 44 => ⟨S4x128x128, .f32⟩
  | 45 => ⟨S4x128x128, .f32⟩
  | 46 => ⟨S1x4x128x128, .f32⟩
  | 47 => ⟨S4x128x128, .f32⟩
  | 48 => ⟨S4x128x128, .f32⟩
  | 49 => ⟨S4x128x128, .f32⟩
  | 50 => ⟨S4x128x128, .f32⟩
  | 51 => ⟨S1x4x128x128, .f32⟩
  | 52 => ⟨S4x128x128, .f32⟩
  | 53 => ⟨S4x128x128, .f32⟩
  | 54 => ⟨S4x128x128, .f32⟩
  | 55 => ⟨S4x128x128, .f32⟩
  | 56 => ⟨S1x4x128x128, .f32⟩
  | 57 => ⟨S4x128x128, .f32⟩
  | 58 => ⟨S4x128x128, .f32⟩
  | 59 => ⟨S4x128x128, .f32⟩
  | 60 => ⟨S4x128x128, .f32⟩
  | 61 => ⟨S1x4x128x128, .f32⟩
  | 62 => ⟨S4x128x128, .f32⟩
  | 63 => ⟨S4x128x128, .f32⟩
  | 64 => ⟨S4x128x128, .f32⟩
  | 65 => ⟨S4x128x128, .f32⟩
  | 66 => ⟨S1x4x128x128, .f32⟩
  | 67 => ⟨S4x128x128, .f32⟩
  | 68 => ⟨S4x128x128, .f32⟩
  | 69 => ⟨S4x128x128, .f32⟩
  | 70 => ⟨S4x128x128, .f32⟩
  | 71 => ⟨S1x4x128x128, .f32⟩
  | 72 => ⟨S4x128x128, .f32⟩
  | 73 => ⟨S4x128x128, .f32⟩
  | 74 => ⟨S4x128x128, .f32⟩
  | 75 => ⟨S4x128x128, .f32⟩
  | 76 => ⟨S1x4x128x128, .f32⟩
  | 77 => ⟨S4x128x128, .f32⟩
  | 78 => ⟨S4x128x128, .f32⟩
  | 79 => ⟨S4x128x128, .f32⟩
  | 80 => ⟨S4x128x128, .f32⟩
  | 81 => ⟨S1x4x128x128, .f32⟩
  | 82 => ⟨S4x128x128, .f32⟩
  | 83 => ⟨S4x128x128, .f32⟩
  | 84 => ⟨S4x128x128, .f32⟩
  | 85 => ⟨S4x128x128, .f32⟩
  | 86 => ⟨S1x4x128x128, .f32⟩
  | 87 => ⟨S4x128x128, .f32⟩
  | 88 => ⟨S4x128x128, .f32⟩
  | 89 => ⟨S4x128x128, .f32⟩
  | 90 => ⟨S4x128x128, .f32⟩
  | 91 => ⟨S1x4x128x128, .f32⟩
  | 92 => ⟨S4x128x128, .f32⟩
  | 93 => ⟨S4x128x128, .f32⟩
  | 94 => ⟨S4x128x128, .f32⟩
  | 95 => ⟨S4x128x128, .f32⟩
  | 96 => ⟨S1x4x128x128, .f32⟩
  | 97 => ⟨S4x128x128, .f32⟩
  | 98 => ⟨S4x128x128, .f32⟩
  | 99 => ⟨S4x128x128, .f32⟩
  | 100 => ⟨S4x128x128, .f32⟩
  | 101 => ⟨S1x4x128x128, .f32⟩
  | 102 => ⟨S4x128x128, .f32⟩
  | 103 => ⟨S4x128x128, .f32⟩
  | 104 => ⟨S4x128x128, .f32⟩
  | 105 => ⟨S4x128x128, .f32⟩
  | 106 => ⟨S1x4x128x128, .f32⟩
  | 107 => ⟨S4x128x128, .f32⟩
  | 108 => ⟨S4x128x128, .f32⟩
  | 109 => ⟨S4x128x128, .f32⟩
  | 110 => ⟨S4x128x128, .f32⟩
  | 111 => ⟨S1x4x128x128, .f32⟩
  | 112 => ⟨S4x128x128, .f32⟩
  | 113 => ⟨S4x128x128, .f32⟩
  | 114 => ⟨S4x128x128, .f32⟩
  | 115 => ⟨S4x128x128, .f32⟩
  | 116 => ⟨S1x4x128x128, .f32⟩
  | 117 => ⟨S4x128x128, .f32⟩
  | 118 => ⟨S4x128x128, .f32⟩
  | 119 => ⟨S4x128x128, .f32⟩
  | 120 => ⟨S4x128x128, .f32⟩
  | 121 => ⟨S1x4x128x128, .f32⟩
  | 122 => ⟨S4x128x128, .f32⟩
  | 123 => ⟨S4x128x128, .f32⟩
  | 124 => ⟨S4x128x128, .f32⟩
  | 125 => ⟨S4x128x128, .f32⟩
  | 126 => ⟨S1x4x128x128, .f32⟩
  | 127 => ⟨S4x128x128, .f32⟩
  | _ => ⟨S8192x512, .f32⟩

abbrev hbmTy0_7 (i : Nat) : BufTy := match i % 128 with
  | 0 => ⟨S4x128x128, .f32⟩
  | 1 => ⟨S4x128x128, .f32⟩
  | 2 => ⟨S4x128x128, .f32⟩
  | 3 => ⟨S1x4x128x128, .f32⟩
  | 4 => ⟨S4x128x128, .f32⟩
  | 5 => ⟨S4x128x128, .f32⟩
  | 6 => ⟨S4x128x128, .f32⟩
  | 7 => ⟨S4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S16x4x128x128, .f32⟩
  | 73 => ⟨S16x4x128x128, .f32⟩
  | 74 => ⟨S16x4x128x128, .f32⟩
  | 75 => ⟨S16x4x128x128, .f32⟩
  | 76 => ⟨S64x4x128x128, .f32⟩
  | 77 => ⟨S64x4x128x128, .f32⟩
  | 78 => ⟨S64x4x128x128, .f32⟩
  | 79 => ⟨S64x128x4x128, .f32⟩
  | 80 => ⟨S64x4x128x128, .f32⟩
  | 81 => ⟨S64x128x4x128, .f32⟩
  | 82 => ⟨S64x128x4x128, .f32⟩
  | 83 => ⟨S64x128x4x128, .f32⟩
  | 84 => ⟨S64x4x128x128, .f32⟩
  | 85 => ⟨S64x4x128x128, .f32⟩
  | 86 => ⟨S64x4x128x128, .f32⟩
  | 87 => ⟨S64x128x4x128, .f32⟩
  | 88 => ⟨S64x128x4x128, .f32⟩
  | 89 => ⟨S64x4x128x128, .f32⟩
  | 90 => ⟨S64x4x128x128, .f32⟩
  | 91 => ⟨S64x4x128x128, .f32⟩
  | 92 => ⟨S64x128x4x128, .f32⟩
  | 93 => ⟨S64x128x4x128, .f32⟩
  | 94 => ⟨S64x4x128x128, .f32⟩
  | 95 => ⟨S64x128x4x128, .f32⟩
  | 96 => ⟨S64x128x4x128, .f32⟩
  | 97 => ⟨S8192x4x128, .f32⟩
  | 98 => ⟨S8192x4x128, .f32⟩
  | 99 => ⟨S8192x4x128, .f32⟩
  | 100 => ⟨S8192x512, .f32⟩
  | 101 => ⟨S_, .f32⟩
  | 102 => ⟨S8192x4x128, .f32⟩
  | 103 => ⟨S8192x4x128, .f32⟩
  | 104 => ⟨S8192x4x64, .f32⟩
  | 105 => ⟨S8192x4x64, .f32⟩
  | 106 => ⟨S8192x4x64, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S8192x4x64, .f32⟩
  | 113 => ⟨S8192x4x64, .f32⟩
  | 114 => ⟨S8192x4x64, .f32⟩
  | 115 => ⟨S8192x4x64, .f32⟩
  | 116 => ⟨S8192x4x64, .f32⟩
  | 117 => ⟨S_, .f32⟩
  | 118 => ⟨S8192x4x128, .f32⟩
  | 119 => ⟨S_, .f32⟩
  | 120 => ⟨S8192x4x128, .f32⟩
  | 121 => ⟨S8192x4x128, .f32⟩
  | 122 => ⟨S8192x512, .f32⟩
  | 123 => ⟨S8192x4x64, .f32⟩
  | 124 => ⟨S8192x4x64, .f32⟩
  | 125 => ⟨S8192x4x64, .f32⟩
  | 126 => ⟨S8192x4x64, .f32⟩
  | 127 => ⟨S8192x4x64, .f32⟩
  | _ => ⟨S8192x512, .f32⟩

abbrev hbmTy0_8 (i : Nat) : BufTy := match i % 128 with
  | 0 => ⟨S8192x4x64, .f32⟩
  | 1 => ⟨S8192x4x64, .f32⟩
  | 2 => ⟨S8192x4x64, .f32⟩
  | 3 => ⟨S8192x4x64, .f32⟩
  | 4 => ⟨S8192x4x64, .f32⟩
  | 5 => ⟨S8192x4x64, .f32⟩
  | 6 => ⟨S8192x4x64, .f32⟩
  | 7 => ⟨S8192x4x64, .f32⟩
  | 8 => ⟨S_, .f32⟩
  | 9 => ⟨S8192x4x128, .f32⟩
  | 10 => ⟨S_, .f32⟩
  | 11 => ⟨S8192x4x128, .f32⟩
  | 12 => ⟨S8192x4x128, .f32⟩
  | 13 => ⟨S8192x512, .f32⟩
  | 14 => ⟨S8192x512, .bf16⟩
  | 15 => ⟨S8192x512, .bf16⟩
  | 16 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_3 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_4 : Ref sig .tc := ⟨.hbm, 72, rfl⟩
abbrev main_cst_5 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_cst : Ref sig .tc := ⟨.hbm, 77, rfl⟩
abbrev main_call0_v3 : Ref sig .tc := ⟨.hbm, 78, rfl⟩
abbrev main_call0_v4 : Ref sig .tc := ⟨.hbm, 79, rfl⟩
abbrev main_call0_cst_0 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_cst_1 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_v12 : Ref sig .tc := ⟨.hbm, 89, rfl⟩
abbrev main_call0_v13 : Ref sig .tc := ⟨.hbm, 90, rfl⟩
abbrev main_call0_v14 : Ref sig .tc := ⟨.hbm, 91, rfl⟩
abbrev main_call0_v15 : Ref sig .tc := ⟨.hbm, 92, rfl⟩
abbrev main_call0_v16 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_7 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_10 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_11 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_12 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_13 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev main_v373 : Ref sig .tc := ⟨.hbm, 415, rfl⟩
abbrev main_v374 : Ref sig .tc := ⟨.hbm, 416, rfl⟩
abbrev main_v375 : Ref sig .tc := ⟨.hbm, 417, rfl⟩
abbrev main_v376 : Ref sig .tc := ⟨.hbm, 418, rfl⟩
abbrev main_v377 : Ref sig .tc := ⟨.hbm, 419, rfl⟩
abbrev main_v378 : Ref sig .tc := ⟨.hbm, 420, rfl⟩
abbrev main_v379 : Ref sig .tc := ⟨.hbm, 421, rfl⟩
abbrev main_v380 : Ref sig .tc := ⟨.hbm, 422, rfl⟩
abbrev main_v381 : Ref sig .tc := ⟨.hbm, 423, rfl⟩
abbrev main_v382 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_v387 : Ref sig .tc := ⟨.hbm, 429, rfl⟩
abbrev main_v388 : Ref sig .tc := ⟨.hbm, 430, rfl⟩
abbrev main_v389 : Ref sig .tc := ⟨.hbm, 431, rfl⟩
abbrev main_v390 : Ref sig .tc := ⟨.hbm, 432, rfl⟩
abbrev main_v391 : Ref sig .tc := ⟨.hbm, 433, rfl⟩
abbrev main_v392 : Ref sig .tc := ⟨.hbm, 434, rfl⟩
abbrev main_v393 : Ref sig .tc := ⟨.hbm, 435, rfl⟩
abbrev main_v394 : Ref sig .tc := ⟨.hbm, 436, rfl⟩
abbrev main_v395 : Ref sig .tc := ⟨.hbm, 437, rfl⟩
abbrev main_v396 : Ref sig .tc := ⟨.hbm, 438, rfl⟩
abbrev main_v397 : Ref sig .tc := ⟨.hbm, 439, rfl⟩
abbrev main_v398 : Ref sig .tc := ⟨.hbm, 440, rfl⟩
abbrev main_v399 : Ref sig .tc := ⟨.hbm, 441, rfl⟩
abbrev main_v400 : Ref sig .tc := ⟨.hbm, 442, rfl⟩
abbrev main_v401 : Ref sig .tc := ⟨.hbm, 443, rfl⟩
abbrev main_v402 : Ref sig .tc := ⟨.hbm, 444, rfl⟩
abbrev main_v403 : Ref sig .tc := ⟨.hbm, 445, rfl⟩
abbrev main_v404 : Ref sig .tc := ⟨.hbm, 446, rfl⟩
abbrev main_v405 : Ref sig .tc := ⟨.hbm, 447, rfl⟩
abbrev main_v406 : Ref sig .tc := ⟨.hbm, 448, rfl⟩
abbrev main_v407 : Ref sig .tc := ⟨.hbm, 449, rfl⟩
abbrev main_v408 : Ref sig .tc := ⟨.hbm, 450, rfl⟩
abbrev main_v409 : Ref sig .tc := ⟨.hbm, 451, rfl⟩
abbrev main_v410 : Ref sig .tc := ⟨.hbm, 452, rfl⟩
abbrev main_v411 : Ref sig .tc := ⟨.hbm, 453, rfl⟩
abbrev main_v412 : Ref sig .tc := ⟨.hbm, 454, rfl⟩
abbrev main_v413 : Ref sig .tc := ⟨.hbm, 455, rfl⟩
abbrev main_v414 : Ref sig .tc := ⟨.hbm, 456, rfl⟩
abbrev main_v415 : Ref sig .tc := ⟨.hbm, 457, rfl⟩
abbrev main_v416 : Ref sig .tc := ⟨.hbm, 458, rfl⟩
abbrev main_v417 : Ref sig .tc := ⟨.hbm, 459, rfl⟩
abbrev main_v418 : Ref sig .tc := ⟨.hbm, 460, rfl⟩
abbrev main_v419 : Ref sig .tc := ⟨.hbm, 461, rfl⟩
abbrev main_v420 : Ref sig .tc := ⟨.hbm, 462, rfl⟩
abbrev main_v421 : Ref sig .tc := ⟨.hbm, 463, rfl⟩
abbrev main_v422 : Ref sig .tc := ⟨.hbm, 464, rfl⟩
abbrev main_v423 : Ref sig .tc := ⟨.hbm, 465, rfl⟩
abbrev main_v424 : Ref sig .tc := ⟨.hbm, 466, rfl⟩
abbrev main_v425 : Ref sig .tc := ⟨.hbm, 467, rfl⟩
abbrev main_v426 : Ref sig .tc := ⟨.hbm, 468, rfl⟩
abbrev main_v427 : Ref sig .tc := ⟨.hbm, 469, rfl⟩
abbrev main_v428 : Ref sig .tc := ⟨.hbm, 470, rfl⟩
abbrev main_v429 : Ref sig .tc := ⟨.hbm, 471, rfl⟩
abbrev main_v430 : Ref sig .tc := ⟨.hbm, 472, rfl⟩
abbrev main_v431 : Ref sig .tc := ⟨.hbm, 473, rfl⟩
abbrev main_v432 : Ref sig .tc := ⟨.hbm, 474, rfl⟩
abbrev main_v433 : Ref sig .tc := ⟨.hbm, 475, rfl⟩
abbrev main_v434 : Ref sig .tc := ⟨.hbm, 476, rfl⟩
abbrev main_v435 : Ref sig .tc := ⟨.hbm, 477, rfl⟩
abbrev main_v436 : Ref sig .tc := ⟨.hbm, 478, rfl⟩
abbrev main_v437 : Ref sig .tc := ⟨.hbm, 479, rfl⟩
abbrev main_v438 : Ref sig .tc := ⟨.hbm, 480, rfl⟩
abbrev main_v439 : Ref sig .tc := ⟨.hbm, 481, rfl⟩
abbrev main_v440 : Ref sig .tc := ⟨.hbm, 482, rfl⟩
abbrev main_v441 : Ref sig .tc := ⟨.hbm, 483, rfl⟩
abbrev main_v442 : Ref sig .tc := ⟨.hbm, 484, rfl⟩
abbrev main_v443 : Ref sig .tc := ⟨.hbm, 485, rfl⟩
abbrev main_v444 : Ref sig .tc := ⟨.hbm, 486, rfl⟩
abbrev main_v445 : Ref sig .tc := ⟨.hbm, 487, rfl⟩
abbrev main_v446 : Ref sig .tc := ⟨.hbm, 488, rfl⟩
abbrev main_v447 : Ref sig .tc := ⟨.hbm, 489, rfl⟩
abbrev main_v448 : Ref sig .tc := ⟨.hbm, 490, rfl⟩
abbrev main_v449 : Ref sig .tc := ⟨.hbm, 491, rfl⟩
abbrev main_v450 : Ref sig .tc := ⟨.hbm, 492, rfl⟩
abbrev main_v451 : Ref sig .tc := ⟨.hbm, 493, rfl⟩
abbrev main_v452 : Ref sig .tc := ⟨.hbm, 494, rfl⟩
abbrev main_v453 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_v463 : Ref sig .tc := ⟨.hbm, 505, rfl⟩
abbrev main_v464 : Ref sig .tc := ⟨.hbm, 506, rfl⟩
abbrev main_v465 : Ref sig .tc := ⟨.hbm, 507, rfl⟩
abbrev main_v466 : Ref sig .tc := ⟨.hbm, 508, rfl⟩
abbrev main_v467 : Ref sig .tc := ⟨.hbm, 509, rfl⟩
abbrev main_v468 : Ref sig .tc := ⟨.hbm, 510, rfl⟩
abbrev main_v469 : Ref sig .tc := ⟨.hbm, 511, rfl⟩
abbrev main_v470 : Ref sig .tc := ⟨.hbm, 512, rfl⟩
abbrev main_v471 : Ref sig .tc := ⟨.hbm, 513, rfl⟩
abbrev main_v472 : Ref sig .tc := ⟨.hbm, 514, rfl⟩
abbrev main_v473 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_v479 : Ref sig .tc := ⟨.hbm, 521, rfl⟩
abbrev main_v480 : Ref sig .tc := ⟨.hbm, 522, rfl⟩
abbrev main_v481 : Ref sig .tc := ⟨.hbm, 523, rfl⟩
abbrev main_v482 : Ref sig .tc := ⟨.hbm, 524, rfl⟩
abbrev main_v483 : Ref sig .tc := ⟨.hbm, 525, rfl⟩
abbrev main_v484 : Ref sig .tc := ⟨.hbm, 526, rfl⟩
abbrev main_v485 : Ref sig .tc := ⟨.hbm, 527, rfl⟩
abbrev main_v486 : Ref sig .tc := ⟨.hbm, 528, rfl⟩
abbrev main_v487 : Ref sig .tc := ⟨.hbm, 529, rfl⟩
abbrev main_v488 : Ref sig .tc := ⟨.hbm, 530, rfl⟩
abbrev main_v489 : Ref sig .tc := ⟨.hbm, 531, rfl⟩
abbrev main_v490 : Ref sig .tc := ⟨.hbm, 532, rfl⟩
abbrev main_v491 : Ref sig .tc := ⟨.hbm, 533, rfl⟩
abbrev main_v492 : Ref sig .tc := ⟨.hbm, 534, rfl⟩
abbrev main_v493 : Ref sig .tc := ⟨.hbm, 535, rfl⟩
abbrev main_v494 : Ref sig .tc := ⟨.hbm, 536, rfl⟩
abbrev main_v495 : Ref sig .tc := ⟨.hbm, 537, rfl⟩
abbrev main_v496 : Ref sig .tc := ⟨.hbm, 538, rfl⟩
abbrev main_v497 : Ref sig .tc := ⟨.hbm, 539, rfl⟩
abbrev main_v498 : Ref sig .tc := ⟨.hbm, 540, rfl⟩
abbrev main_v499 : Ref sig .tc := ⟨.hbm, 541, rfl⟩
abbrev main_v500 : Ref sig .tc := ⟨.hbm, 542, rfl⟩
abbrev main_v501 : Ref sig .tc := ⟨.hbm, 543, rfl⟩
abbrev main_v502 : Ref sig .tc := ⟨.hbm, 544, rfl⟩
abbrev main_v503 : Ref sig .tc := ⟨.hbm, 545, rfl⟩
abbrev main_v504 : Ref sig .tc := ⟨.hbm, 546, rfl⟩
abbrev main_v505 : Ref sig .tc := ⟨.hbm, 547, rfl⟩
abbrev main_cst_14 : Ref sig .tc := ⟨.hbm, 548, rfl⟩
abbrev main_v506 : Ref sig .tc := ⟨.hbm, 549, rfl⟩
abbrev main_v507 : Ref sig .tc := ⟨.hbm, 550, rfl⟩
abbrev main_v508 : Ref sig .tc := ⟨.hbm, 551, rfl⟩
abbrev main_v509 : Ref sig .tc := ⟨.hbm, 552, rfl⟩
abbrev main_v510 : Ref sig .tc := ⟨.hbm, 553, rfl⟩
abbrev main_v511 : Ref sig .tc := ⟨.hbm, 554, rfl⟩
abbrev main_v512 : Ref sig .tc := ⟨.hbm, 555, rfl⟩
abbrev main_v513 : Ref sig .tc := ⟨.hbm, 556, rfl⟩
abbrev main_v514 : Ref sig .tc := ⟨.hbm, 557, rfl⟩
abbrev main_v515 : Ref sig .tc := ⟨.hbm, 558, rfl⟩
abbrev main_v516 : Ref sig .tc := ⟨.hbm, 559, rfl⟩
abbrev main_v517 : Ref sig .tc := ⟨.hbm, 560, rfl⟩
abbrev main_v518 : Ref sig .tc := ⟨.hbm, 561, rfl⟩
abbrev main_v519 : Ref sig .tc := ⟨.hbm, 562, rfl⟩
abbrev main_v520 : Ref sig .tc := ⟨.hbm, 563, rfl⟩
abbrev main_v521 : Ref sig .tc := ⟨.hbm, 564, rfl⟩
abbrev main_v522 : Ref sig .tc := ⟨.hbm, 565, rfl⟩
abbrev main_v523 : Ref sig .tc := ⟨.hbm, 566, rfl⟩
abbrev main_cst_15 : Ref sig .tc := ⟨.hbm, 567, rfl⟩
abbrev main_v524 : Ref sig .tc := ⟨.hbm, 568, rfl⟩
abbrev main_v525 : Ref sig .tc := ⟨.hbm, 569, rfl⟩
abbrev main_v526 : Ref sig .tc := ⟨.hbm, 570, rfl⟩
abbrev main_v527 : Ref sig .tc := ⟨.hbm, 571, rfl⟩
abbrev main_v528 : Ref sig .tc := ⟨.hbm, 572, rfl⟩
abbrev main_v529 : Ref sig .tc := ⟨.hbm, 573, rfl⟩
abbrev main_v530 : Ref sig .tc := ⟨.hbm, 574, rfl⟩
abbrev main_v531 : Ref sig .tc := ⟨.hbm, 575, rfl⟩
abbrev main_v532 : Ref sig .tc := ⟨.hbm, 576, rfl⟩
abbrev main_v533 : Ref sig .tc := ⟨.hbm, 577, rfl⟩
abbrev main_cst_16 : Ref sig .tc := ⟨.hbm, 578, rfl⟩
abbrev main_v534 : Ref sig .tc := ⟨.hbm, 579, rfl⟩
abbrev main_v535 : Ref sig .tc := ⟨.hbm, 580, rfl⟩
abbrev main_v536 : Ref sig .tc := ⟨.hbm, 581, rfl⟩
abbrev main_cst_17 : Ref sig .tc := ⟨.hbm, 582, rfl⟩
abbrev main_v537 : Ref sig .tc := ⟨.hbm, 583, rfl⟩
abbrev main_v538 : Ref sig .tc := ⟨.hbm, 584, rfl⟩
abbrev main_v539 : Ref sig .tc := ⟨.hbm, 585, rfl⟩
abbrev main_v540 : Ref sig .tc := ⟨.hbm, 586, rfl⟩
abbrev main_v541 : Ref sig .tc := ⟨.hbm, 587, rfl⟩
abbrev main_v542 : Ref sig .tc := ⟨.hbm, 588, rfl⟩
abbrev main_v543 : Ref sig .tc := ⟨.hbm, 589, rfl⟩
abbrev main_v544 : Ref sig .tc := ⟨.hbm, 590, rfl⟩
abbrev main_v545 : Ref sig .tc := ⟨.hbm, 591, rfl⟩
abbrev main_v546 : Ref sig .tc := ⟨.hbm, 592, rfl⟩
abbrev main_v547 : Ref sig .tc := ⟨.hbm, 593, rfl⟩
abbrev main_v548 : Ref sig .tc := ⟨.hbm, 594, rfl⟩
abbrev main_v549 : Ref sig .tc := ⟨.hbm, 595, rfl⟩
abbrev main_v550 : Ref sig .tc := ⟨.hbm, 596, rfl⟩
abbrev main_v551 : Ref sig .tc := ⟨.hbm, 597, rfl⟩
abbrev main_v552 : Ref sig .tc := ⟨.hbm, 598, rfl⟩
abbrev main_v553 : Ref sig .tc := ⟨.hbm, 599, rfl⟩
abbrev main_v554 : Ref sig .tc := ⟨.hbm, 600, rfl⟩
abbrev main_v555 : Ref sig .tc := ⟨.hbm, 601, rfl⟩
abbrev main_v556 : Ref sig .tc := ⟨.hbm, 602, rfl⟩
abbrev main_v557 : Ref sig .tc := ⟨.hbm, 603, rfl⟩
abbrev main_v558 : Ref sig .tc := ⟨.hbm, 604, rfl⟩
abbrev main_v559 : Ref sig .tc := ⟨.hbm, 605, rfl⟩
abbrev main_v560 : Ref sig .tc := ⟨.hbm, 606, rfl⟩
abbrev main_v561 : Ref sig .tc := ⟨.hbm, 607, rfl⟩
abbrev main_v562 : Ref sig .tc := ⟨.hbm, 608, rfl⟩
abbrev main_v563 : Ref sig .tc := ⟨.hbm, 609, rfl⟩
abbrev main_v564 : Ref sig .tc := ⟨.hbm, 610, rfl⟩
abbrev main_v565 : Ref sig .tc := ⟨.hbm, 611, rfl⟩
abbrev main_v566 : Ref sig .tc := ⟨.hbm, 612, rfl⟩
abbrev main_v567 : Ref sig .tc := ⟨.hbm, 613, rfl⟩
abbrev main_v568 : Ref sig .tc := ⟨.hbm, 614, rfl⟩
abbrev main_v569 : Ref sig .tc := ⟨.hbm, 615, rfl⟩
abbrev main_v570 : Ref sig .tc := ⟨.hbm, 616, rfl⟩
abbrev main_v571 : Ref sig .tc := ⟨.hbm, 617, rfl⟩
abbrev main_v572 : Ref sig .tc := ⟨.hbm, 618, rfl⟩
abbrev main_v573 : Ref sig .tc := ⟨.hbm, 619, rfl⟩
abbrev main_v574 : Ref sig .tc := ⟨.hbm, 620, rfl⟩
abbrev main_v575 : Ref sig .tc := ⟨.hbm, 621, rfl⟩
abbrev main_v576 : Ref sig .tc := ⟨.hbm, 622, rfl⟩
abbrev main_v577 : Ref sig .tc := ⟨.hbm, 623, rfl⟩
abbrev main_v578 : Ref sig .tc := ⟨.hbm, 624, rfl⟩
abbrev main_v579 : Ref sig .tc := ⟨.hbm, 625, rfl⟩
abbrev main_v580 : Ref sig .tc := ⟨.hbm, 626, rfl⟩
abbrev main_v581 : Ref sig .tc := ⟨.hbm, 627, rfl⟩
abbrev main_v582 : Ref sig .tc := ⟨.hbm, 628, rfl⟩
abbrev main_v583 : Ref sig .tc := ⟨.hbm, 629, rfl⟩
abbrev main_v584 : Ref sig .tc := ⟨.hbm, 630, rfl⟩
abbrev main_v585 : Ref sig .tc := ⟨.hbm, 631, rfl⟩
abbrev main_v586 : Ref sig .tc := ⟨.hbm, 632, rfl⟩
abbrev main_v587 : Ref sig .tc := ⟨.hbm, 633, rfl⟩
abbrev main_v588 : Ref sig .tc := ⟨.hbm, 634, rfl⟩
abbrev main_v589 : Ref sig .tc := ⟨.hbm, 635, rfl⟩
abbrev main_v590 : Ref sig .tc := ⟨.hbm, 636, rfl⟩
abbrev main_v591 : Ref sig .tc := ⟨.hbm, 637, rfl⟩
abbrev main_v592 : Ref sig .tc := ⟨.hbm, 638, rfl⟩
abbrev main_v593 : Ref sig .tc := ⟨.hbm, 639, rfl⟩
abbrev main_v594 : Ref sig .tc := ⟨.hbm, 640, rfl⟩
abbrev main_v595 : Ref sig .tc := ⟨.hbm, 641, rfl⟩
abbrev main_v596 : Ref sig .tc := ⟨.hbm, 642, rfl⟩
abbrev main_v597 : Ref sig .tc := ⟨.hbm, 643, rfl⟩
abbrev main_v598 : Ref sig .tc := ⟨.hbm, 644, rfl⟩
abbrev main_v599 : Ref sig .tc := ⟨.hbm, 645, rfl⟩
abbrev main_v600 : Ref sig .tc := ⟨.hbm, 646, rfl⟩
abbrev main_v601 : Ref sig .tc := ⟨.hbm, 647, rfl⟩
abbrev main_v602 : Ref sig .tc := ⟨.hbm, 648, rfl⟩
abbrev main_v603 : Ref sig .tc := ⟨.hbm, 649, rfl⟩
abbrev main_v604 : Ref sig .tc := ⟨.hbm, 650, rfl⟩
abbrev main_v605 : Ref sig .tc := ⟨.hbm, 651, rfl⟩
abbrev main_v606 : Ref sig .tc := ⟨.hbm, 652, rfl⟩
abbrev main_v607 : Ref sig .tc := ⟨.hbm, 653, rfl⟩
abbrev main_v608 : Ref sig .tc := ⟨.hbm, 654, rfl⟩
abbrev main_v609 : Ref sig .tc := ⟨.hbm, 655, rfl⟩
abbrev main_v610 : Ref sig .tc := ⟨.hbm, 656, rfl⟩
abbrev main_v611 : Ref sig .tc := ⟨.hbm, 657, rfl⟩
abbrev main_v612 : Ref sig .tc := ⟨.hbm, 658, rfl⟩
abbrev main_v613 : Ref sig .tc := ⟨.hbm, 659, rfl⟩
abbrev main_v614 : Ref sig .tc := ⟨.hbm, 660, rfl⟩
abbrev main_v615 : Ref sig .tc := ⟨.hbm, 661, rfl⟩
abbrev main_v616 : Ref sig .tc := ⟨.hbm, 662, rfl⟩
abbrev main_v617 : Ref sig .tc := ⟨.hbm, 663, rfl⟩
abbrev main_v618 : Ref sig .tc := ⟨.hbm, 664, rfl⟩
abbrev main_v619 : Ref sig .tc := ⟨.hbm, 665, rfl⟩
abbrev main_v620 : Ref sig .tc := ⟨.hbm, 666, rfl⟩
abbrev main_v621 : Ref sig .tc := ⟨.hbm, 667, rfl⟩
abbrev main_v622 : Ref sig .tc := ⟨.hbm, 668, rfl⟩
abbrev main_v623 : Ref sig .tc := ⟨.hbm, 669, rfl⟩
abbrev main_v624 : Ref sig .tc := ⟨.hbm, 670, rfl⟩
abbrev main_v625 : Ref sig .tc := ⟨.hbm, 671, rfl⟩
abbrev main_v626 : Ref sig .tc := ⟨.hbm, 672, rfl⟩
abbrev main_v627 : Ref sig .tc := ⟨.hbm, 673, rfl⟩
abbrev main_v628 : Ref sig .tc := ⟨.hbm, 674, rfl⟩
abbrev main_v629 : Ref sig .tc := ⟨.hbm, 675, rfl⟩
abbrev main_v630 : Ref sig .tc := ⟨.hbm, 676, rfl⟩
abbrev main_v631 : Ref sig .tc := ⟨.hbm, 677, rfl⟩
abbrev main_v632 : Ref sig .tc := ⟨.hbm, 678, rfl⟩
abbrev main_v633 : Ref sig .tc := ⟨.hbm, 679, rfl⟩
abbrev main_v634 : Ref sig .tc := ⟨.hbm, 680, rfl⟩
abbrev main_v635 : Ref sig .tc := ⟨.hbm, 681, rfl⟩
abbrev main_v636 : Ref sig .tc := ⟨.hbm, 682, rfl⟩
abbrev main_v637 : Ref sig .tc := ⟨.hbm, 683, rfl⟩
abbrev main_v638 : Ref sig .tc := ⟨.hbm, 684, rfl⟩
abbrev main_v639 : Ref sig .tc := ⟨.hbm, 685, rfl⟩
abbrev main_v640 : Ref sig .tc := ⟨.hbm, 686, rfl⟩
abbrev main_v641 : Ref sig .tc := ⟨.hbm, 687, rfl⟩
abbrev main_v642 : Ref sig .tc := ⟨.hbm, 688, rfl⟩
abbrev main_v643 : Ref sig .tc := ⟨.hbm, 689, rfl⟩
abbrev main_v644 : Ref sig .tc := ⟨.hbm, 690, rfl⟩
abbrev main_v645 : Ref sig .tc := ⟨.hbm, 691, rfl⟩
abbrev main_v646 : Ref sig .tc := ⟨.hbm, 692, rfl⟩
abbrev main_v647 : Ref sig .tc := ⟨.hbm, 693, rfl⟩
abbrev main_v648 : Ref sig .tc := ⟨.hbm, 694, rfl⟩
abbrev main_v649 : Ref sig .tc := ⟨.hbm, 695, rfl⟩
abbrev main_v650 : Ref sig .tc := ⟨.hbm, 696, rfl⟩
abbrev main_v651 : Ref sig .tc := ⟨.hbm, 697, rfl⟩
abbrev main_v652 : Ref sig .tc := ⟨.hbm, 698, rfl⟩
abbrev main_v653 : Ref sig .tc := ⟨.hbm, 699, rfl⟩
abbrev main_v654 : Ref sig .tc := ⟨.hbm, 700, rfl⟩
abbrev main_v655 : Ref sig .tc := ⟨.hbm, 701, rfl⟩
abbrev main_v656 : Ref sig .tc := ⟨.hbm, 702, rfl⟩
abbrev main_v657 : Ref sig .tc := ⟨.hbm, 703, rfl⟩
abbrev main_v658 : Ref sig .tc := ⟨.hbm, 704, rfl⟩
abbrev main_v659 : Ref sig .tc := ⟨.hbm, 705, rfl⟩
abbrev main_v660 : Ref sig .tc := ⟨.hbm, 706, rfl⟩
abbrev main_v661 : Ref sig .tc := ⟨.hbm, 707, rfl⟩
abbrev main_v662 : Ref sig .tc := ⟨.hbm, 708, rfl⟩
abbrev main_v663 : Ref sig .tc := ⟨.hbm, 709, rfl⟩
abbrev main_v664 : Ref sig .tc := ⟨.hbm, 710, rfl⟩
abbrev main_v665 : Ref sig .tc := ⟨.hbm, 711, rfl⟩
abbrev main_v666 : Ref sig .tc := ⟨.hbm, 712, rfl⟩
abbrev main_v667 : Ref sig .tc := ⟨.hbm, 713, rfl⟩
abbrev main_v668 : Ref sig .tc := ⟨.hbm, 714, rfl⟩
abbrev main_v669 : Ref sig .tc := ⟨.hbm, 715, rfl⟩
abbrev main_v670 : Ref sig .tc := ⟨.hbm, 716, rfl⟩
abbrev main_v671 : Ref sig .tc := ⟨.hbm, 717, rfl⟩
abbrev main_v672 : Ref sig .tc := ⟨.hbm, 718, rfl⟩
abbrev main_v673 : Ref sig .tc := ⟨.hbm, 719, rfl⟩
abbrev main_v674 : Ref sig .tc := ⟨.hbm, 720, rfl⟩
abbrev main_v675 : Ref sig .tc := ⟨.hbm, 721, rfl⟩
abbrev main_v676 : Ref sig .tc := ⟨.hbm, 722, rfl⟩
abbrev main_v677 : Ref sig .tc := ⟨.hbm, 723, rfl⟩
abbrev main_v678 : Ref sig .tc := ⟨.hbm, 724, rfl⟩
abbrev main_v679 : Ref sig .tc := ⟨.hbm, 725, rfl⟩
abbrev main_v680 : Ref sig .tc := ⟨.hbm, 726, rfl⟩
abbrev main_v681 : Ref sig .tc := ⟨.hbm, 727, rfl⟩
abbrev main_v682 : Ref sig .tc := ⟨.hbm, 728, rfl⟩
abbrev main_v683 : Ref sig .tc := ⟨.hbm, 729, rfl⟩
abbrev main_v684 : Ref sig .tc := ⟨.hbm, 730, rfl⟩
abbrev main_v685 : Ref sig .tc := ⟨.hbm, 731, rfl⟩
abbrev main_v686 : Ref sig .tc := ⟨.hbm, 732, rfl⟩
abbrev main_v687 : Ref sig .tc := ⟨.hbm, 733, rfl⟩
abbrev main_v688 : Ref sig .tc := ⟨.hbm, 734, rfl⟩
abbrev main_v689 : Ref sig .tc := ⟨.hbm, 735, rfl⟩
abbrev main_v690 : Ref sig .tc := ⟨.hbm, 736, rfl⟩
abbrev main_v691 : Ref sig .tc := ⟨.hbm, 737, rfl⟩
abbrev main_v692 : Ref sig .tc := ⟨.hbm, 738, rfl⟩
abbrev main_v693 : Ref sig .tc := ⟨.hbm, 739, rfl⟩
abbrev main_v694 : Ref sig .tc := ⟨.hbm, 740, rfl⟩
abbrev main_v695 : Ref sig .tc := ⟨.hbm, 741, rfl⟩
abbrev main_v696 : Ref sig .tc := ⟨.hbm, 742, rfl⟩
abbrev main_v697 : Ref sig .tc := ⟨.hbm, 743, rfl⟩
abbrev main_v698 : Ref sig .tc := ⟨.hbm, 744, rfl⟩
abbrev main_v699 : Ref sig .tc := ⟨.hbm, 745, rfl⟩
abbrev main_v700 : Ref sig .tc := ⟨.hbm, 746, rfl⟩
abbrev main_v701 : Ref sig .tc := ⟨.hbm, 747, rfl⟩
abbrev main_v702 : Ref sig .tc := ⟨.hbm, 748, rfl⟩
abbrev main_v703 : Ref sig .tc := ⟨.hbm, 749, rfl⟩
abbrev main_v704 : Ref sig .tc := ⟨.hbm, 750, rfl⟩
abbrev main_v705 : Ref sig .tc := ⟨.hbm, 751, rfl⟩
abbrev main_v706 : Ref sig .tc := ⟨.hbm, 752, rfl⟩
abbrev main_v707 : Ref sig .tc := ⟨.hbm, 753, rfl⟩
abbrev main_v708 : Ref sig .tc := ⟨.hbm, 754, rfl⟩
abbrev main_v709 : Ref sig .tc := ⟨.hbm, 755, rfl⟩
abbrev main_v710 : Ref sig .tc := ⟨.hbm, 756, rfl⟩
abbrev main_v711 : Ref sig .tc := ⟨.hbm, 757, rfl⟩
abbrev main_v712 : Ref sig .tc := ⟨.hbm, 758, rfl⟩
abbrev main_v713 : Ref sig .tc := ⟨.hbm, 759, rfl⟩
abbrev main_v714 : Ref sig .tc := ⟨.hbm, 760, rfl⟩
abbrev main_v715 : Ref sig .tc := ⟨.hbm, 761, rfl⟩
abbrev main_v716 : Ref sig .tc := ⟨.hbm, 762, rfl⟩
abbrev main_v717 : Ref sig .tc := ⟨.hbm, 763, rfl⟩
abbrev main_v718 : Ref sig .tc := ⟨.hbm, 764, rfl⟩
abbrev main_v719 : Ref sig .tc := ⟨.hbm, 765, rfl⟩
abbrev main_v720 : Ref sig .tc := ⟨.hbm, 766, rfl⟩
abbrev main_v721 : Ref sig .tc := ⟨.hbm, 767, rfl⟩
abbrev main_v722 : Ref sig .tc := ⟨.hbm, 768, rfl⟩
abbrev main_v723 : Ref sig .tc := ⟨.hbm, 769, rfl⟩
abbrev main_v724 : Ref sig .tc := ⟨.hbm, 770, rfl⟩
abbrev main_v725 : Ref sig .tc := ⟨.hbm, 771, rfl⟩
abbrev main_v726 : Ref sig .tc := ⟨.hbm, 772, rfl⟩
abbrev main_v727 : Ref sig .tc := ⟨.hbm, 773, rfl⟩
abbrev main_v728 : Ref sig .tc := ⟨.hbm, 774, rfl⟩
abbrev main_v729 : Ref sig .tc := ⟨.hbm, 775, rfl⟩
abbrev main_v730 : Ref sig .tc := ⟨.hbm, 776, rfl⟩
abbrev main_v731 : Ref sig .tc := ⟨.hbm, 777, rfl⟩
abbrev main_v732 : Ref sig .tc := ⟨.hbm, 778, rfl⟩
abbrev main_v733 : Ref sig .tc := ⟨.hbm, 779, rfl⟩
abbrev main_v734 : Ref sig .tc := ⟨.hbm, 780, rfl⟩
abbrev main_v735 : Ref sig .tc := ⟨.hbm, 781, rfl⟩
abbrev main_v736 : Ref sig .tc := ⟨.hbm, 782, rfl⟩
abbrev main_v737 : Ref sig .tc := ⟨.hbm, 783, rfl⟩
abbrev main_v738 : Ref sig .tc := ⟨.hbm, 784, rfl⟩
abbrev main_v739 : Ref sig .tc := ⟨.hbm, 785, rfl⟩
abbrev main_v740 : Ref sig .tc := ⟨.hbm, 786, rfl⟩
abbrev main_v741 : Ref sig .tc := ⟨.hbm, 787, rfl⟩
abbrev main_v742 : Ref sig .tc := ⟨.hbm, 788, rfl⟩
abbrev main_v743 : Ref sig .tc := ⟨.hbm, 789, rfl⟩
abbrev main_v744 : Ref sig .tc := ⟨.hbm, 790, rfl⟩
abbrev main_v745 : Ref sig .tc := ⟨.hbm, 791, rfl⟩
abbrev main_v746 : Ref sig .tc := ⟨.hbm, 792, rfl⟩
abbrev main_v747 : Ref sig .tc := ⟨.hbm, 793, rfl⟩
abbrev main_v748 : Ref sig .tc := ⟨.hbm, 794, rfl⟩
abbrev main_v749 : Ref sig .tc := ⟨.hbm, 795, rfl⟩
abbrev main_v750 : Ref sig .tc := ⟨.hbm, 796, rfl⟩
abbrev main_v751 : Ref sig .tc := ⟨.hbm, 797, rfl⟩
abbrev main_v752 : Ref sig .tc := ⟨.hbm, 798, rfl⟩
abbrev main_v753 : Ref sig .tc := ⟨.hbm, 799, rfl⟩
abbrev main_v754 : Ref sig .tc := ⟨.hbm, 800, rfl⟩
abbrev main_v755 : Ref sig .tc := ⟨.hbm, 801, rfl⟩
abbrev main_v756 : Ref sig .tc := ⟨.hbm, 802, rfl⟩
abbrev main_v757 : Ref sig .tc := ⟨.hbm, 803, rfl⟩
abbrev main_v758 : Ref sig .tc := ⟨.hbm, 804, rfl⟩
abbrev main_v759 : Ref sig .tc := ⟨.hbm, 805, rfl⟩
abbrev main_v760 : Ref sig .tc := ⟨.hbm, 806, rfl⟩
abbrev main_v761 : Ref sig .tc := ⟨.hbm, 807, rfl⟩
abbrev main_v762 : Ref sig .tc := ⟨.hbm, 808, rfl⟩
abbrev main_v763 : Ref sig .tc := ⟨.hbm, 809, rfl⟩
abbrev main_v764 : Ref sig .tc := ⟨.hbm, 810, rfl⟩
abbrev main_v765 : Ref sig .tc := ⟨.hbm, 811, rfl⟩
abbrev main_v766 : Ref sig .tc := ⟨.hbm, 812, rfl⟩
abbrev main_v767 : Ref sig .tc := ⟨.hbm, 813, rfl⟩
abbrev main_v768 : Ref sig .tc := ⟨.hbm, 814, rfl⟩
abbrev main_v769 : Ref sig .tc := ⟨.hbm, 815, rfl⟩
abbrev main_v770 : Ref sig .tc := ⟨.hbm, 816, rfl⟩
abbrev main_v771 : Ref sig .tc := ⟨.hbm, 817, rfl⟩
abbrev main_v772 : Ref sig .tc := ⟨.hbm, 818, rfl⟩
abbrev main_v773 : Ref sig .tc := ⟨.hbm, 819, rfl⟩
abbrev main_v774 : Ref sig .tc := ⟨.hbm, 820, rfl⟩
abbrev main_v775 : Ref sig .tc := ⟨.hbm, 821, rfl⟩
abbrev main_v776 : Ref sig .tc := ⟨.hbm, 822, rfl⟩
abbrev main_v777 : Ref sig .tc := ⟨.hbm, 823, rfl⟩
abbrev main_v778 : Ref sig .tc := ⟨.hbm, 824, rfl⟩
abbrev main_v779 : Ref sig .tc := ⟨.hbm, 825, rfl⟩
abbrev main_v780 : Ref sig .tc := ⟨.hbm, 826, rfl⟩
abbrev main_v781 : Ref sig .tc := ⟨.hbm, 827, rfl⟩
abbrev main_v782 : Ref sig .tc := ⟨.hbm, 828, rfl⟩
abbrev main_v783 : Ref sig .tc := ⟨.hbm, 829, rfl⟩
abbrev main_v784 : Ref sig .tc := ⟨.hbm, 830, rfl⟩
abbrev main_v785 : Ref sig .tc := ⟨.hbm, 831, rfl⟩
abbrev main_v786 : Ref sig .tc := ⟨.hbm, 832, rfl⟩
abbrev main_v787 : Ref sig .tc := ⟨.hbm, 833, rfl⟩
abbrev main_v788 : Ref sig .tc := ⟨.hbm, 834, rfl⟩
abbrev main_v789 : Ref sig .tc := ⟨.hbm, 835, rfl⟩
abbrev main_v790 : Ref sig .tc := ⟨.hbm, 836, rfl⟩
abbrev main_v791 : Ref sig .tc := ⟨.hbm, 837, rfl⟩
abbrev main_v792 : Ref sig .tc := ⟨.hbm, 838, rfl⟩
abbrev main_v793 : Ref sig .tc := ⟨.hbm, 839, rfl⟩
abbrev main_v794 : Ref sig .tc := ⟨.hbm, 840, rfl⟩
abbrev main_v795 : Ref sig .tc := ⟨.hbm, 841, rfl⟩
abbrev main_v796 : Ref sig .tc := ⟨.hbm, 842, rfl⟩
abbrev main_v797 : Ref sig .tc := ⟨.hbm, 843, rfl⟩
abbrev main_v798 : Ref sig .tc := ⟨.hbm, 844, rfl⟩
abbrev main_v799 : Ref sig .tc := ⟨.hbm, 845, rfl⟩
abbrev main_v800 : Ref sig .tc := ⟨.hbm, 846, rfl⟩
abbrev main_v801 : Ref sig .tc := ⟨.hbm, 847, rfl⟩
abbrev main_v802 : Ref sig .tc := ⟨.hbm, 848, rfl⟩
abbrev main_v803 : Ref sig .tc := ⟨.hbm, 849, rfl⟩
abbrev main_v804 : Ref sig .tc := ⟨.hbm, 850, rfl⟩
abbrev main_v805 : Ref sig .tc := ⟨.hbm, 851, rfl⟩
abbrev main_v806 : Ref sig .tc := ⟨.hbm, 852, rfl⟩
abbrev main_v807 : Ref sig .tc := ⟨.hbm, 853, rfl⟩
abbrev main_v808 : Ref sig .tc := ⟨.hbm, 854, rfl⟩
abbrev main_v809 : Ref sig .tc := ⟨.hbm, 855, rfl⟩
abbrev main_v810 : Ref sig .tc := ⟨.hbm, 856, rfl⟩
abbrev main_v811 : Ref sig .tc := ⟨.hbm, 857, rfl⟩
abbrev main_v812 : Ref sig .tc := ⟨.hbm, 858, rfl⟩
abbrev main_v813 : Ref sig .tc := ⟨.hbm, 859, rfl⟩
abbrev main_v814 : Ref sig .tc := ⟨.hbm, 860, rfl⟩
abbrev main_v815 : Ref sig .tc := ⟨.hbm, 861, rfl⟩
abbrev main_v816 : Ref sig .tc := ⟨.hbm, 862, rfl⟩
abbrev main_v817 : Ref sig .tc := ⟨.hbm, 863, rfl⟩
abbrev main_v818 : Ref sig .tc := ⟨.hbm, 864, rfl⟩
abbrev main_v819 : Ref sig .tc := ⟨.hbm, 865, rfl⟩
abbrev main_v820 : Ref sig .tc := ⟨.hbm, 866, rfl⟩
abbrev main_v821 : Ref sig .tc := ⟨.hbm, 867, rfl⟩
abbrev main_v822 : Ref sig .tc := ⟨.hbm, 868, rfl⟩
abbrev main_v823 : Ref sig .tc := ⟨.hbm, 869, rfl⟩
abbrev main_v824 : Ref sig .tc := ⟨.hbm, 870, rfl⟩
abbrev main_v825 : Ref sig .tc := ⟨.hbm, 871, rfl⟩
abbrev main_v826 : Ref sig .tc := ⟨.hbm, 872, rfl⟩
abbrev main_v827 : Ref sig .tc := ⟨.hbm, 873, rfl⟩
abbrev main_v828 : Ref sig .tc := ⟨.hbm, 874, rfl⟩
abbrev main_v829 : Ref sig .tc := ⟨.hbm, 875, rfl⟩
abbrev main_v830 : Ref sig .tc := ⟨.hbm, 876, rfl⟩
abbrev main_v831 : Ref sig .tc := ⟨.hbm, 877, rfl⟩
abbrev main_v832 : Ref sig .tc := ⟨.hbm, 878, rfl⟩
abbrev main_v833 : Ref sig .tc := ⟨.hbm, 879, rfl⟩
abbrev main_v834 : Ref sig .tc := ⟨.hbm, 880, rfl⟩
abbrev main_v835 : Ref sig .tc := ⟨.hbm, 881, rfl⟩
abbrev main_v836 : Ref sig .tc := ⟨.hbm, 882, rfl⟩
abbrev main_v837 : Ref sig .tc := ⟨.hbm, 883, rfl⟩
abbrev main_v838 : Ref sig .tc := ⟨.hbm, 884, rfl⟩
abbrev main_v839 : Ref sig .tc := ⟨.hbm, 885, rfl⟩
abbrev main_v840 : Ref sig .tc := ⟨.hbm, 886, rfl⟩
abbrev main_v841 : Ref sig .tc := ⟨.hbm, 887, rfl⟩
abbrev main_v842 : Ref sig .tc := ⟨.hbm, 888, rfl⟩
abbrev main_v843 : Ref sig .tc := ⟨.hbm, 889, rfl⟩
abbrev main_v844 : Ref sig .tc := ⟨.hbm, 890, rfl⟩
abbrev main_v845 : Ref sig .tc := ⟨.hbm, 891, rfl⟩
abbrev main_v846 : Ref sig .tc := ⟨.hbm, 892, rfl⟩
abbrev main_v847 : Ref sig .tc := ⟨.hbm, 893, rfl⟩
abbrev main_v848 : Ref sig .tc := ⟨.hbm, 894, rfl⟩
abbrev main_v849 : Ref sig .tc := ⟨.hbm, 895, rfl⟩
abbrev main_v850 : Ref sig .tc := ⟨.hbm, 896, rfl⟩
abbrev main_v851 : Ref sig .tc := ⟨.hbm, 897, rfl⟩
abbrev main_v852 : Ref sig .tc := ⟨.hbm, 898, rfl⟩
abbrev main_v853 : Ref sig .tc := ⟨.hbm, 899, rfl⟩
abbrev main_v854 : Ref sig .tc := ⟨.hbm, 900, rfl⟩
abbrev main_v855 : Ref sig .tc := ⟨.hbm, 901, rfl⟩
abbrev main_v856 : Ref sig .tc := ⟨.hbm, 902, rfl⟩
abbrev main_v857 : Ref sig .tc := ⟨.hbm, 903, rfl⟩
abbrev main_v858 : Ref sig .tc := ⟨.hbm, 904, rfl⟩
abbrev main_v859 : Ref sig .tc := ⟨.hbm, 905, rfl⟩
abbrev main_v860 : Ref sig .tc := ⟨.hbm, 906, rfl⟩
abbrev main_v861 : Ref sig .tc := ⟨.hbm, 907, rfl⟩
abbrev main_v862 : Ref sig .tc := ⟨.hbm, 908, rfl⟩
abbrev main_v863 : Ref sig .tc := ⟨.hbm, 909, rfl⟩
abbrev main_v864 : Ref sig .tc := ⟨.hbm, 910, rfl⟩
abbrev main_v865 : Ref sig .tc := ⟨.hbm, 911, rfl⟩
abbrev main_v866 : Ref sig .tc := ⟨.hbm, 912, rfl⟩
abbrev main_v867 : Ref sig .tc := ⟨.hbm, 913, rfl⟩
abbrev main_v868 : Ref sig .tc := ⟨.hbm, 914, rfl⟩
abbrev main_v869 : Ref sig .tc := ⟨.hbm, 915, rfl⟩
abbrev main_v870 : Ref sig .tc := ⟨.hbm, 916, rfl⟩
abbrev main_v871 : Ref sig .tc := ⟨.hbm, 917, rfl⟩
abbrev main_v872 : Ref sig .tc := ⟨.hbm, 918, rfl⟩
abbrev main_v873 : Ref sig .tc := ⟨.hbm, 919, rfl⟩
abbrev main_v874 : Ref sig .tc := ⟨.hbm, 920, rfl⟩
abbrev main_v875 : Ref sig .tc := ⟨.hbm, 921, rfl⟩
abbrev main_v876 : Ref sig .tc := ⟨.hbm, 922, rfl⟩
abbrev main_v877 : Ref sig .tc := ⟨.hbm, 923, rfl⟩
abbrev main_v878 : Ref sig .tc := ⟨.hbm, 924, rfl⟩
abbrev main_v879 : Ref sig .tc := ⟨.hbm, 925, rfl⟩
abbrev main_v880 : Ref sig .tc := ⟨.hbm, 926, rfl⟩
abbrev main_v881 : Ref sig .tc := ⟨.hbm, 927, rfl⟩
abbrev main_v882 : Ref sig .tc := ⟨.hbm, 928, rfl⟩
abbrev main_v883 : Ref sig .tc := ⟨.hbm, 929, rfl⟩
abbrev main_v884 : Ref sig .tc := ⟨.hbm, 930, rfl⟩
abbrev main_v885 : Ref sig .tc := ⟨.hbm, 931, rfl⟩
abbrev main_v886 : Ref sig .tc := ⟨.hbm, 932, rfl⟩
abbrev main_v887 : Ref sig .tc := ⟨.hbm, 933, rfl⟩
abbrev main_v888 : Ref sig .tc := ⟨.hbm, 934, rfl⟩
abbrev main_v889 : Ref sig .tc := ⟨.hbm, 935, rfl⟩
abbrev main_v890 : Ref sig .tc := ⟨.hbm, 936, rfl⟩
abbrev main_v891 : Ref sig .tc := ⟨.hbm, 937, rfl⟩
abbrev main_v892 : Ref sig .tc := ⟨.hbm, 938, rfl⟩
abbrev main_v893 : Ref sig .tc := ⟨.hbm, 939, rfl⟩
abbrev main_v894 : Ref sig .tc := ⟨.hbm, 940, rfl⟩
abbrev main_v895 : Ref sig .tc := ⟨.hbm, 941, rfl⟩
abbrev main_v896 : Ref sig .tc := ⟨.hbm, 942, rfl⟩
abbrev main_v897 : Ref sig .tc := ⟨.hbm, 943, rfl⟩
abbrev main_v898 : Ref sig .tc := ⟨.hbm, 944, rfl⟩
abbrev main_v899 : Ref sig .tc := ⟨.hbm, 945, rfl⟩
abbrev main_v900 : Ref sig .tc := ⟨.hbm, 946, rfl⟩
abbrev main_v901 : Ref sig .tc := ⟨.hbm, 947, rfl⟩
abbrev main_v902 : Ref sig .tc := ⟨.hbm, 948, rfl⟩
abbrev main_v903 : Ref sig .tc := ⟨.hbm, 949, rfl⟩
abbrev main_v904 : Ref sig .tc := ⟨.hbm, 950, rfl⟩
abbrev main_v905 : Ref sig .tc := ⟨.hbm, 951, rfl⟩
abbrev main_v906 : Ref sig .tc := ⟨.hbm, 952, rfl⟩
abbrev main_v907 : Ref sig .tc := ⟨.hbm, 953, rfl⟩
abbrev main_v908 : Ref sig .tc := ⟨.hbm, 954, rfl⟩
abbrev main_v909 : Ref sig .tc := ⟨.hbm, 955, rfl⟩
abbrev main_v910 : Ref sig .tc := ⟨.hbm, 956, rfl⟩
abbrev main_v911 : Ref sig .tc := ⟨.hbm, 957, rfl⟩
abbrev main_v912 : Ref sig .tc := ⟨.hbm, 958, rfl⟩
abbrev main_v913 : Ref sig .tc := ⟨.hbm, 959, rfl⟩
abbrev main_v914 : Ref sig .tc := ⟨.hbm, 960, rfl⟩
abbrev main_v915 : Ref sig .tc := ⟨.hbm, 961, rfl⟩
abbrev main_v916 : Ref sig .tc := ⟨.hbm, 962, rfl⟩
abbrev main_v917 : Ref sig .tc := ⟨.hbm, 963, rfl⟩
abbrev main_v918 : Ref sig .tc := ⟨.hbm, 964, rfl⟩
abbrev main_v919 : Ref sig .tc := ⟨.hbm, 965, rfl⟩
abbrev main_v920 : Ref sig .tc := ⟨.hbm, 966, rfl⟩
abbrev main_v921 : Ref sig .tc := ⟨.hbm, 967, rfl⟩
abbrev main_v922 : Ref sig .tc := ⟨.hbm, 968, rfl⟩
abbrev main_v923 : Ref sig .tc := ⟨.hbm, 969, rfl⟩
abbrev main_v924 : Ref sig .tc := ⟨.hbm, 970, rfl⟩
abbrev main_v925 : Ref sig .tc := ⟨.hbm, 971, rfl⟩
abbrev main_v926 : Ref sig .tc := ⟨.hbm, 972, rfl⟩
abbrev main_v927 : Ref sig .tc := ⟨.hbm, 973, rfl⟩
abbrev main_v928 : Ref sig .tc := ⟨.hbm, 974, rfl⟩
abbrev main_v929 : Ref sig .tc := ⟨.hbm, 975, rfl⟩
abbrev main_v930 : Ref sig .tc := ⟨.hbm, 976, rfl⟩
abbrev main_v931 : Ref sig .tc := ⟨.hbm, 977, rfl⟩
abbrev main_v932 : Ref sig .tc := ⟨.hbm, 978, rfl⟩
abbrev main_v933 : Ref sig .tc := ⟨.hbm, 979, rfl⟩
abbrev main_v934 : Ref sig .tc := ⟨.hbm, 980, rfl⟩
abbrev main_v935 : Ref sig .tc := ⟨.hbm, 981, rfl⟩
abbrev main_v936 : Ref sig .tc := ⟨.hbm, 982, rfl⟩
abbrev main_v937 : Ref sig .tc := ⟨.hbm, 983, rfl⟩
abbrev main_v938 : Ref sig .tc := ⟨.hbm, 984, rfl⟩
abbrev main_v939 : Ref sig .tc := ⟨.hbm, 985, rfl⟩
abbrev main_v940 : Ref sig .tc := ⟨.hbm, 986, rfl⟩
abbrev main_v941 : Ref sig .tc := ⟨.hbm, 987, rfl⟩
abbrev main_v942 : Ref sig .tc := ⟨.hbm, 988, rfl⟩
abbrev main_v943 : Ref sig .tc := ⟨.hbm, 989, rfl⟩
abbrev main_v944 : Ref sig .tc := ⟨.hbm, 990, rfl⟩
abbrev main_v945 : Ref sig .tc := ⟨.hbm, 991, rfl⟩
abbrev main_v946 : Ref sig .tc := ⟨.hbm, 992, rfl⟩
abbrev main_v947 : Ref sig .tc := ⟨.hbm, 993, rfl⟩
abbrev main_v948 : Ref sig .tc := ⟨.hbm, 994, rfl⟩
abbrev main_v949 : Ref sig .tc := ⟨.hbm, 995, rfl⟩
abbrev main_v950 : Ref sig .tc := ⟨.hbm, 996, rfl⟩
abbrev main_cst_18 : Ref sig .tc := ⟨.hbm, 997, rfl⟩
abbrev main_v951 : Ref sig .tc := ⟨.hbm, 998, rfl⟩
abbrev main_v952 : Ref sig .tc := ⟨.hbm, 999, rfl⟩
abbrev main_v953 : Ref sig .tc := ⟨.hbm, 1000, rfl⟩
abbrev main_v954 : Ref sig .tc := ⟨.hbm, 1001, rfl⟩
abbrev main_v955 : Ref sig .tc := ⟨.hbm, 1002, rfl⟩
abbrev main_v956 : Ref sig .tc := ⟨.hbm, 1003, rfl⟩
abbrev main_v957 : Ref sig .tc := ⟨.hbm, 1004, rfl⟩
abbrev main_v958 : Ref sig .tc := ⟨.hbm, 1005, rfl⟩
abbrev main_v959 : Ref sig .tc := ⟨.hbm, 1006, rfl⟩
abbrev main_v960 : Ref sig .tc := ⟨.hbm, 1007, rfl⟩
abbrev main_v961 : Ref sig .tc := ⟨.hbm, 1008, rfl⟩
abbrev main_v962 : Ref sig .tc := ⟨.hbm, 1009, rfl⟩
abbrev main_v963 : Ref sig .tc := ⟨.hbm, 1010, rfl⟩
abbrev main_v964 : Ref sig .tc := ⟨.hbm, 1011, rfl⟩
abbrev main_v965 : Ref sig .tc := ⟨.hbm, 1012, rfl⟩
abbrev main_cst_19 : Ref sig .tc := ⟨.hbm, 1013, rfl⟩
abbrev main_v966 : Ref sig .tc := ⟨.hbm, 1014, rfl⟩
abbrev main_cst_20 : Ref sig .tc := ⟨.hbm, 1015, rfl⟩
abbrev main_v967 : Ref sig .tc := ⟨.hbm, 1016, rfl⟩
abbrev main_v968 : Ref sig .tc := ⟨.hbm, 1017, rfl⟩
abbrev main_v969 : Ref sig .tc := ⟨.hbm, 1018, rfl⟩
abbrev main_v970 : Ref sig .tc := ⟨.hbm, 1019, rfl⟩
abbrev main_v971 : Ref sig .tc := ⟨.hbm, 1020, rfl⟩
abbrev main_v972 : Ref sig .tc := ⟨.hbm, 1021, rfl⟩
abbrev main_v973 : Ref sig .tc := ⟨.hbm, 1022, rfl⟩
abbrev main_v974 : Ref sig .tc := ⟨.hbm, 1023, rfl⟩
abbrev main_v975 : Ref sig .tc := ⟨.hbm, 1024, rfl⟩
abbrev main_v976 : Ref sig .tc := ⟨.hbm, 1025, rfl⟩
abbrev main_v977 : Ref sig .tc := ⟨.hbm, 1026, rfl⟩
abbrev main_v978 : Ref sig .tc := ⟨.hbm, 1027, rfl⟩
abbrev main_v979 : Ref sig .tc := ⟨.hbm, 1028, rfl⟩
abbrev main_v980 : Ref sig .tc := ⟨.hbm, 1029, rfl⟩
abbrev main_v981 : Ref sig .tc := ⟨.hbm, 1030, rfl⟩
abbrev main_v982 : Ref sig .tc := ⟨.hbm, 1031, rfl⟩
abbrev main_cst_21 : Ref sig .tc := ⟨.hbm, 1032, rfl⟩
abbrev main_v983 : Ref sig .tc := ⟨.hbm, 1033, rfl⟩
abbrev main_cst_22 : Ref sig .tc := ⟨.hbm, 1034, rfl⟩
abbrev main_v984 : Ref sig .tc := ⟨.hbm, 1035, rfl⟩
abbrev main_v985 : Ref sig .tc := ⟨.hbm, 1036, rfl⟩
abbrev main_v986 : Ref sig .tc := ⟨.hbm, 1037, rfl⟩
abbrev main_v987 : Ref sig .tc := ⟨.hbm, 1038, rfl⟩
abbrev main_v988 : Ref sig .tc := ⟨.hbm, 1039, rfl⟩
abbrev main_v989 : Ref sig .tc := ⟨.hbm, 1040, rfl⟩

abbrev nD : Nat := 1
abbrev τ : Topo := Topo.v7x

variable {F : FTy → Type} [FloatOps F]
-- ==== Kernel6.lean ====
abbrev S8192x512 : Shape := ⟨2, ![8192, 512]⟩
abbrev S1x512 : Shape := ⟨2, ![1, 512]⟩
abbrev S_ : Shape := ⟨0, ![]⟩
abbrev S3 : Shape := ⟨1, ![3]⟩
abbrev S1 : Shape := ⟨1, ![1]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x8x128 : Shape := ⟨3, ![4, 8, 128]⟩
abbrev S4x256x1 : Shape := ⟨3, ![4, 256, 1]⟩
abbrev S4x256x128 : Shape := ⟨3, ![4, 256, 128]⟩
abbrev S4x32x128x128 : Shape := ⟨4, ![4, 32, 128, 128]⟩
abbrev S512x512 : Shape := ⟨2, ![512, 512]⟩
abbrev S4x2x128x128 : Shape := ⟨4, ![4, 2, 128, 128]⟩
abbrev S4x128x128 : Shape := ⟨3, ![4, 128, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S1x1x128x128 : Shape := ⟨4, ![1, 1, 128, 128]⟩
abbrev S1x1x128 : Shape := ⟨3, ![1, 1, 128]⟩
abbrev S1x128 : Shape := ⟨2, ![1, 128]⟩

abbrev nBuf : Space → Nat
  | .hbm => 91
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S1, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S3, .f32⟩
  | .hbm, ⟨24, _⟩ => ⟨S3, .f32⟩
  | .hbm, ⟨25, _⟩ => ⟨S1, .f32⟩
  | .hbm, ⟨26, _⟩ => ⟨S3, .f32⟩
  | .hbm, ⟨27, _⟩ => ⟨S3, .f32⟩
  | .hbm, ⟨28, _⟩ => ⟨S3, .f32⟩
  | .hbm, ⟨29, _⟩ => ⟨S1, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S256, .f32⟩
  | .hbm, ⟨37, _⟩ => ⟨S256x1, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S1x256x256, .f32⟩
  | .hbm, ⟨43, _⟩ => ⟨S_, .f32⟩
  | .hbm, ⟨44, _⟩ => ⟨S1x256x256, .f32⟩
  | .hbm, ⟨45, _⟩ => ⟨S1x256x256, .i1⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S1x256x256, .f32⟩
  | .hbm, ⟨50, _⟩ => ⟨S4x1x1, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S_, .f32⟩
  | .hbm, ⟨56, _⟩ => ⟨S_, .f32⟩
  | .hbm, ⟨57, _⟩ => ⟨S4x256x256, .i1⟩
  | .hbm, ⟨58, _⟩ => ⟨S4x256x256, .f32⟩
  | .hbm, ⟨59, _⟩ => ⟨S4x256x256, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S1x256, .f32⟩
  | .hbm, ⟨64, _⟩ => ⟨S4x1, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S4x1, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S_, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4x1x1, .f32⟩
  | .hbm, ⟨83, _⟩ => ⟨S4x8x128, .f32⟩
  | .hbm, ⟨84, _⟩ => ⟨S4x256x1, .f32⟩
  | .hbm, ⟨85, _⟩ => ⟨S4x256x128, .f32⟩
  | .hbm, ⟨86, _⟩ => ⟨S4x256x1, .f32⟩
  | .hbm, ⟨87, _⟩ => ⟨S4x256x128, .f32⟩
  | .hbm, ⟨88, _⟩ => ⟨S8192x512, .f32⟩
  | .hbm, ⟨89, _⟩ => ⟨S8192x512, .bf16⟩
  | .hbm, ⟨90, _⟩ => ⟨S4x32x128x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S4x256x256, .f32⟩
  | .local _ .vmem, ⟨10, _⟩ => ⟨S4x256x128, .f32⟩
  | .local _ .vmem, ⟨11, _⟩ => ⟨S4x256x128, .f32⟩
  | .local _ .vmem, ⟨12, _⟩ => ⟨S4x8x128, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S4x2x128x128, .f32⟩
  | .local _ .vmem, ⟨18, _⟩ => ⟨S4x2x128x128, .f32⟩
  | .local _ .vmem, ⟨19, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_7 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51_0 : Ref sig .tc := ⟨.hbm, 88, rfl⟩
abbrev main_v51_1 : Ref sig .tc := ⟨.hbm, 89, rfl⟩
abbrev main_v51_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x2x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S8192x512 : Shape := ⟨2, ![8192, 512]⟩
abbrev S1x512 : Shape := ⟨2, ![1, 512]⟩
abbrev S8192x4x128 : Shape := ⟨3, ![8192, 4, 128]⟩
abbrev S_ : Shape := ⟨0, ![]⟩
abbrev S3 : Shape := ⟨1, ![3]⟩
abbrev S1 : Shape := ⟨1, ![1]⟩
abbrev S4 : Shape := ⟨1, ![4]⟩
abbrev S64x128x4x128 : Shape := ⟨4, ![64, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S64x4x128x128 : Shape := ⟨4, ![64, 4, 128, 128]⟩
abbrev S1x4x128x128 : Shape := ⟨4, ![1, 4, 128, 128]⟩
abbrev S4x1 : Shape := ⟨2, ![4, 1]⟩
abbrev S4x128 : Shape := ⟨2, ![4, 128]⟩
abbrev S128x4 : Shape := ⟨2, ![128, 4]⟩
abbrev S1x128x4x1 : Shape := ⟨4, ![1, 128, 4, 1]⟩
abbrev S0x4x128x128 : Shape := ⟨4, ![0, 4, 128, 128]⟩
abbrev S16x4x128x128 : Shape := ⟨4, ![16, 4, 128, 128]⟩
abbrev S32x2x4x128x128 : Shape := ⟨5, ![32, 2, 4, 128, 128]⟩
abbrev S32x1x4x128x128 : Shape := ⟨5, ![32, 1, 4, 128, 128]⟩
abbrev S32x4x128x128 : Shape := ⟨4, ![32, 4, 128, 128]⟩
abbrev S4x32x128x128 : Shape := ⟨4, ![4, 32, 128, 128]⟩
abbrev S512 : Shape := ⟨1, ![512]⟩
abbrev S8192x4 : Shape := ⟨2, ![8192, 4]⟩
abbrev S8192x4x1 : Shape := ⟨3, ![8192, 4, 1]⟩
abbrev S1x4x128 : Shape := ⟨3, ![1, 4, 128]⟩

abbrev nBuf : Space → Nat
  | .hbm => 546
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S8192x4x128, .f32⟩
  | 6 => ⟨S8192x4x128, .f32⟩
  | 7 => ⟨S8192x4x128, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S3, .f32⟩
  | 16 => ⟨S_, .f32⟩
  | 17 => ⟨S3, .f32⟩
  | 18 => ⟨S3, .f32⟩
  | 19 => ⟨S1, .f32⟩
  | 20 => ⟨S_, .f32⟩
  | 21 => ⟨S3, .f32⟩
  | 22 => ⟨S3, .f32⟩
  | 23 => ⟨S3, .f32⟩
  | 24 => ⟨S3, .f32⟩
  | 25 => ⟨S1, .f32⟩
  | 26 => ⟨S3, .f32⟩
  | 27 => ⟨S3, .f32⟩
  | 28 => ⟨S3, .f32⟩
  | 29 => ⟨S1, .f32⟩
  | 30 => ⟨S4, .f32⟩
  | 31 => ⟨S4, .f32⟩
  | 32 => ⟨S_, .f32⟩
  | 33 => ⟨S4, .f32⟩
  | 34 => ⟨S4, .f32⟩
  | 35 => ⟨S4, .f32⟩
  | 36 => ⟨S64x128x4x128, .f32⟩
  | 37 => ⟨S64x128x4x128, .f32⟩
  | 38 => ⟨S64x128x4x128, .f32⟩
  | 39 => ⟨S128, .f32⟩
  | 40 => ⟨S128x1, .f32⟩
  | 41 => ⟨S1x128, .f32⟩
  | 42 => ⟨S128x128, .f32⟩
  | 43 => ⟨S128x128, .f32⟩
  | 44 => ⟨S128x128, .f32⟩
  | 45 => ⟨S1x128x128, .f32⟩
  | 46 => ⟨S_, .f32⟩
  | 47 => ⟨S1x128x128, .f32⟩
  | 48 => ⟨S1x128x128, .i1⟩
  | 49 => ⟨S_, .f32⟩
  | 50 => ⟨S128x128, .f32⟩
  | 51 => ⟨S128x128, .f32⟩
  | 52 => ⟨S1x128x128, .f32⟩
  | 53 => ⟨S4x1x1, .f32⟩
  | 54 => ⟨S4x128x128, .f32⟩
  | 55 => ⟨S4x128x128, .f32⟩
  | 56 => ⟨S4x128x128, .f32⟩
  | 57 => ⟨S4x128x128, .f32⟩
  | 58 => ⟨S_, .f32⟩
  | 59 => ⟨S_, .f32⟩
  | 60 => ⟨S4x128x128, .i1⟩
  | 61 => ⟨S4x128x128, .f32⟩
  | 62 => ⟨S4x128x128, .f32⟩
  | 63 => ⟨S64x4x128x128, .f32⟩
  | 64 => ⟨S1x4x128x128, .f32⟩
  | 65 => ⟨S64x4x128x128, .f32⟩
  | 66 => ⟨S64x4x128x128, .f32⟩
  | 67 => ⟨S64x4x128x128, .f32⟩
  | 68 => ⟨S64x128x4x128, .f32⟩
  | 69 => ⟨S_, .f32⟩
  | 70 => ⟨S128, .f32⟩
  | 71 => ⟨S128, .f32⟩
  | 72 => ⟨S1x128, .f32⟩
  | 73 => ⟨S4x1, .f32⟩
  | 74 => ⟨S4x128, .f32⟩
  | 75 => ⟨S4x128, .f32⟩
  | 76 => ⟨S4x128, .f32⟩
  | 77 => ⟨S4x128, .f32⟩
  | 78 => ⟨S128x4, .f32⟩
  | 79 => ⟨S1x128x4x1, .f32⟩
  | 80 => ⟨S64x128x4x128, .f32⟩
  | 81 => ⟨S64x128x4x128, .f32⟩
  | 82 => ⟨S64x4x128x128, .f32⟩
  | 83 => ⟨S_, .f32⟩
  | 84 => ⟨S4, .f32⟩
  | 85 => ⟨S4, .f32⟩
  | 86 => ⟨S4, .f32⟩
  | 87 => ⟨S4x1x1, .f32⟩
  | 88 => ⟨S_, .f32⟩
  | 89 => ⟨S4x128x128, .f32⟩
  | 90 => ⟨S0x4x128x128, .f32⟩
  | 91 => ⟨S64x4x128x128, .f32⟩
  | 92 => ⟨S_, .f32⟩
  | 93 => ⟨S0x4x128x128, .f32⟩
  | 94 => ⟨S1x4x128x128, .f32⟩
  | 95 => ⟨S4x128x128, .f32⟩
  | 96 => ⟨S4x128x128, .f32⟩
  | 97 => ⟨S4x128x128, .f32⟩
  | 98 => ⟨S4x128x128, .f32⟩
  | 99 => ⟨S1x4x128x128, .f32⟩
  | 100 => ⟨S4x128x128, .f32⟩
  | 101 => ⟨S4x128x128, .f32⟩
  | 102 => ⟨S4x128x128, .f32⟩
  | 103 => ⟨S4x128x128, .f32⟩
  | 104 => ⟨S1x4x128x128, .f32⟩
  | 105 => ⟨S4x128x128, .f32⟩
  | 106 => ⟨S4x128x128, .f32⟩
  | 107 => ⟨S4x128x128, .f32⟩
  | 108 => ⟨S4x128x128, .f32⟩
  | 109 => ⟨S1x4x128x128, .f32⟩
  | 110 => ⟨S4x128x128, .f32⟩
  | 111 => ⟨S4x128x128, .f32⟩
  | 112 => ⟨S4x128x128, .f32⟩
  | 113 => ⟨S4x128x128, .f32⟩
  | 114 => ⟨S1x4x128x128, .f32⟩
  | 115 => ⟨S4x128x128, .f32⟩
  | 116 => ⟨S4x128x128, .f32⟩
  | 117 => ⟨S4x128x128, .f32⟩
  | 118 => ⟨S4x128x128, .f32⟩
  | 119 => ⟨S1x4x128x128, .f32⟩
  | 120 => ⟨S4x128x128, .f32⟩
  | 121 => ⟨S4x128x128, .f32⟩
  | 122 => ⟨S4x128x128, .f32⟩
  | 123 => ⟨S4x128x128, .f32⟩
  | 124 => ⟨S1x4x128x128, .f32⟩
  | 125 => ⟨S4x128x128, .f32⟩
  | 126 => ⟨S4x128x128, .f32⟩
  | 127 => ⟨S4x128x128, .f32⟩
  | _ => ⟨S8192x512, .f32⟩

abbrev hbmTy0_1 (i : Nat) : BufTy := match i % 128 with
  | 0 => ⟨S4x128x128, .f32⟩
  | 1 => ⟨S1x4x128x128, .f32⟩
  | 2 => ⟨S4x128x128, .f32⟩
  | 3 => ⟨S4x128x128, .f32⟩
  | 4 => ⟨S4x128x128, .f32⟩
  | 5 => ⟨S4x128x128, .f32⟩
  | 6 => ⟨S1x4x128x128, .f32⟩
  | 7 => ⟨S4x128x128, .f32⟩
  | 8 => ⟨S4x128x128, .f32⟩
  | 9 => ⟨S4x128x128, .f32⟩
  | 10 => ⟨S4x128x128, .f32⟩
  | 11 => ⟨S1x4x128x128, .f32⟩
  | 12 => ⟨S4x128x128, .f32⟩
  | 13 => ⟨S4x128x128, .f32⟩
  | 14 => ⟨S4x128x128, .f32⟩
  | 15 => ⟨S4x128x128, .f32⟩
  | 16 => ⟨S1x4x128x128, .f32⟩
  | 17 => ⟨S4x128x128, .f32⟩
  | 18 => ⟨S4x128x128, .f32⟩
  | 19 => ⟨S4x128x128, .f32⟩
  | 20 => ⟨S4x128x128, .f32⟩
  | 21 => ⟨S1x4x128x128, .f32⟩
  | 22 => ⟨S4x128x128, .f32⟩
  | 23 => ⟨S4x128x128, .f32⟩
  | 24 => ⟨S4x128x128, .f32⟩
  | 25 => ⟨S4x128x128, .f32⟩
  | 26 => ⟨S1x4x128x128, .f32⟩
  | 27 => ⟨S4x128x128, .f32⟩
  | 28 => ⟨S4x128x128, .f32⟩
  | 29 => ⟨S4x128x128, .f32⟩
  | 30 => ⟨S4x128x128, .f32⟩
  | 31 => ⟨S1x4x128x128, .f32⟩
  | 32 => ⟨S4x128x128, .f32⟩
  | 33 => ⟨S4x128x128, .f32⟩
  | 34 => ⟨S4x128x128, .f32⟩
  | 35 => ⟨S4x128x128, .f32⟩
  | 36 => ⟨S1x4x128x128, .f32⟩
  | 37 => ⟨S4x128x128, .f32⟩
  | 38 => ⟨S4x128x128, .f32⟩
  | 39 => ⟨S4x128x128, .f32⟩
  | 40 => ⟨S4x128x128, .f32⟩
  | 41 => ⟨S1x4x128x128, .f32⟩
  | 42 => ⟨S4x128x128, .f32⟩
  | 43 => ⟨S4x128x128, .f32⟩
  | 44 => ⟨S4x128x128, .f32⟩
  | 45 => ⟨S4x128x128, .f32⟩
  | 46 => ⟨S1x4x128x128, .f32⟩
  | 47 => ⟨S4x128x128, .f32⟩
  | 48 => ⟨S4x128x128, .f32⟩
  | 49 => ⟨S4x128x128, .f32⟩
  | 50 => ⟨S4x128x128, .f32⟩
  | 51 => ⟨S1x4x128x128, .f32⟩
  | 52 => ⟨S4x128x128, .f32⟩
  | 53 => ⟨S4x128x128, .f32⟩
  | 54 => ⟨S4x128x128, .f32⟩
  | 55 => ⟨S4x128x128, .f32⟩
  | 56 => ⟨S1x4x128x128, .f32⟩
  | 57 => ⟨S4x128x128, .f32⟩
  | 58 => ⟨S4x128x128, .f32⟩
  | 59 => ⟨S4x128x128, .f32⟩
  | 60 => ⟨S4x128x128, .f32⟩
  | 61 => ⟨S1x4x128x128, .f32⟩
  | 62 => ⟨S4x128x128, .f32⟩
  | 63 => ⟨S4x128x128, .f32⟩
  | 64 => ⟨S4x128x128, .f32⟩
  | 65 => ⟨S4x128x128, .f32⟩
  | 66 => ⟨S1x4x128x128, .f32⟩
  | 67 => ⟨S4x128x128, .f32⟩
  | 68 => ⟨S4x128x128, .f32⟩
  | 69 => ⟨S4x128x128, .f32⟩
  | 70 => ⟨S4x128x128, .f32⟩
  | 71 => ⟨S1x4x128x128, .f32⟩
  | 72 => ⟨S4x128x128, .f32⟩
  | 73 => ⟨S4x128x128, .f32⟩
  | 74 => ⟨S4x128x128, .f32⟩
  | 75 => ⟨S4x128x128, .f32⟩
  | 76 => ⟨S1x4x128x128, .f32⟩
  | 77 => ⟨S4x128x128, .f32⟩
  | 78 => ⟨S4x128x128, .f32⟩
  | 79 => ⟨S4x128x128, .f32⟩
  | 80 => ⟨S4x128x128, .f32⟩
  | 81 => ⟨S1x4x128x128, .f32⟩
  | 82 => ⟨S4x128x128, .f32⟩
  | 83 => ⟨S4x128x128, .f32⟩
  | 84 => ⟨S4x128x128, .f32⟩
  | 85 => ⟨S4x128x128, .f32⟩
  | 86 => ⟨S1x4x128x128, .f32⟩
  | 87 => ⟨S4x128x128, .f32⟩
  | 88 => ⟨S4x128x128, .f32⟩
  | 89 => ⟨S4x128x128, .f32⟩
  | 90 => ⟨S4x128x128, .f32⟩
  | 91 => ⟨S1x4x128x128, .f32⟩
  | 92 => ⟨S4x128x128, .f32⟩
  | 93 => ⟨S4x128x128, .f32⟩
  | 94 => ⟨S4x128x128, .f32⟩
  | 95 => ⟨S4x128x128, .f32⟩
  | 96 => ⟨S1x4x128x128, .f32⟩
  | 97 => ⟨S4x128x128, .f32⟩
  | 98 => ⟨S4x128x128, .f32⟩
  | 99 => ⟨S4x128x128, .f32⟩
  | 100 => ⟨S4x128x128, .f32⟩
  | 101 => ⟨S1x4x128x128, .f32⟩
  | 102 => ⟨S4x128x128, .f32⟩
  | 103 => ⟨S4x128x128, .f32⟩
  | 104 => ⟨S4x128x128, .f32⟩
  | 105 => ⟨S4x128x128, .f32⟩
  | 106 => ⟨S1x4x128x128, .f32⟩
  | 107 => ⟨S4x128x128, .f32⟩
  | 108 => ⟨S4x128x128, .f32⟩
  | 109 => ⟨S4x128x128, .f32⟩
  | 110 => ⟨S4x128x128, .f32⟩
  | 111 => ⟨S1x4x128x128, .f32⟩
  | 112 => ⟨S4x128x128, .f32⟩
  | 113 => ⟨S4x128x128, .f32⟩
  | 114 => ⟨S4x128x128, .f32⟩
  | 115 => ⟨S4x128x128, .f32⟩
  | 116 => ⟨S1x4x128x128, .f32⟩
  | 117 => ⟨S4x128x128, .f32⟩
  | 118 => ⟨S4x128x128, .f32⟩
  | 119 => ⟨S4x128x128, .f32⟩
  | 120 => ⟨S4x128x128, .f32⟩
  | 121 => ⟨S1x4x128x128, .f32⟩
  | 122 => ⟨S4x128x128, .f32⟩
  | 123 => ⟨S4x128x128, .f32⟩
  | 124 => ⟨S4x128x128, .f32⟩
  | 125 => ⟨S4x128x128, .f32⟩
  | 126 => ⟨S1x4x128x128, .f32⟩
  | 127 => ⟨S4x128x128, .f32⟩
  | _ => ⟨S8192x512, .f32⟩

abbrev hbmTy0_2 (i : Nat) : BufTy := match i % 128 with
  | 0 => ⟨S4x128x128, .f32⟩
  | 1 => ⟨S4x128x128, .f32⟩
  | 2 => ⟨S4x128x128, .f32⟩
  | 3 => ⟨S1x4x128x128, .f32⟩
  | 4 => ⟨S4x128x128, .f32⟩
  | 5 => ⟨S4x128x128, .f32⟩
  | 6 => ⟨S4x128x128, .f32⟩
  | 7 => ⟨S4x128x128, .f32⟩
  | 8 => ⟨S1x4x128x128, .f32⟩
  | 9 => ⟨S4x128x128, .f32⟩
  | 10 => ⟨S4x128x128, .f32⟩
  | 11 => ⟨S4x128x128, .f32⟩
  | 12 => ⟨S4x128x128, .f32⟩
  | 13 => ⟨S1x4x128x128, .f32⟩
  | 14 => ⟨S4x128x128, .f32⟩
  | 15 => ⟨S4x128x128, .f32⟩
  | 16 => ⟨S4x128x128, .f32⟩
  | 17 => ⟨S4x128x128, .f32⟩
  | 18 => ⟨S1x4x128x128, .f32⟩
  | 19 => ⟨S4x128x128, .f32⟩
  | 20 => ⟨S4x128x128, .f32⟩
  | 21 => ⟨S4x128x128, .f32⟩
  | 22 => ⟨S4x128x128, .f32⟩
  | 23 => ⟨S1x4x128x128, .f32⟩
  | 24 => ⟨S4x128x128, .f32⟩
  | 25 => ⟨S4x128x128, .f32⟩
  | 26 => ⟨S4x128x128, .f32⟩
  | 27 => ⟨S4x128x128, .f32⟩
  | 28 => ⟨S1x4x128x128, .f32⟩
  | 29 => ⟨S4x128x128, .f32⟩
  | 30 => ⟨S4x128x128, .f32⟩
  | 31 => ⟨S4x128x128, .f32⟩
  | 32 => ⟨S4x128x128, .f32⟩
  | 33 => ⟨S1x4x128x128, .f32⟩
  | 34 => ⟨S4x128x128, .f32⟩
  | 35 => ⟨S4x128x128, .f32⟩
  | 36 => ⟨S4x128x128, .f32⟩
  | 37 => ⟨S4x128x128, .f32⟩
  | 38 => ⟨S1x4x128x128, .f32⟩
  | 39 => ⟨S4x128x128, .f32⟩
  | 40 => ⟨S4x128x128, .f32⟩
  | 41 => ⟨S4x128x128, .f32⟩
  | 42 => ⟨S4x128x128, .f32⟩
  | 43 => ⟨S1x4x128x128, .f32⟩
  | 44 => ⟨S4x128x128, .f32⟩
  | 45 => ⟨S4x128x128, .f32⟩
  | 46 => ⟨S4x128x128, .f32⟩
  | 47 => ⟨S4x128x128, .f32⟩
  | 48 => ⟨S1x4x128x128, .f32⟩
  | 49 => ⟨S4x128x128, .f32⟩
  | 50 => ⟨S4x128x128, .f32⟩
  | 51 => ⟨S4x128x128, .f32⟩
  | 52 => ⟨S4x128x128, .f32⟩
  | 53 => ⟨S1x4x128x128, .f32⟩
  | 54 => ⟨S4x128x128, .f32⟩
  | 55 => ⟨S4x128x128, .f32⟩
  | 56 => ⟨S4x128x128, .f32⟩
  | 57 => ⟨S4x128x128, .f32⟩
  | 58 => ⟨S1x4x128x128, .f32⟩
  | 59 => ⟨S4x128x128, .f32⟩
  | 60 => ⟨S4x128x128, .f32⟩
  | 61 => ⟨S4x128x128, .f32⟩
  | 62 => ⟨S4x128x128, .f32⟩
  | 63 => ⟨S1x4x128x128, .f32⟩
  | 64 => ⟨S4x128x128, .f32⟩
  | 65 => ⟨S4x128x128, .f32⟩
  | 66 => ⟨S4x128x128, .f32⟩
  | 67 => ⟨S4x128x128, .f32⟩
  | 68 => ⟨S1x4x128x128, .f32⟩
  | 69 => ⟨S4x128x128, .f32⟩
  | 70 => ⟨S4x128x128, .f32⟩
  | 71 => ⟨S4x128x128, .f32⟩
  | 72 => ⟨S4x128x128, .f32⟩
  | 73 => ⟨S1x4x128x128, .f32⟩
  | 74 => ⟨S4x128x128, .f32⟩
  | 75 => ⟨S4x128x128, .f32⟩
  | 76 => ⟨S4x128x128, .f32⟩
  | 77 => ⟨S4x128x128, .f32⟩
  | 78 => ⟨S1x4x128x128, .f32⟩
  | 79 => ⟨S4x128x128, .f32⟩
  | 80 => ⟨S4x128x128, .f32⟩
  | 81 => ⟨S4x128x128, .f32⟩
  | 82 => ⟨S4x128x128, .f32⟩
  | 83 => ⟨S1x4x128x128, .f32⟩
  | 84 => ⟨S4x128x128, .f32⟩
  | 85 => ⟨S4x128x128, .f32⟩
  | 86 => ⟨S4x128x128, .f32⟩
  | 87 => ⟨S4x128x128, .f32⟩
  | 88 => ⟨S1x4x128x128, .f32⟩
  | 89 => ⟨S4x128x128, .f32⟩
  | 90 => ⟨S4x128x128, .f32⟩
  | 91 => ⟨S4x128x128, .f32⟩
  | 92 => ⟨S4x128x128, .f32⟩
  | 93 => ⟨S1x4x128x128, .f32⟩
  | 94 => ⟨S4x128x128, .f32⟩
  | 95 => ⟨S4x128x128, .f32⟩
  | 96 => ⟨S4x128x128, .f32⟩
  | 97 => ⟨S4x128x128, .f32⟩
  | 98 => ⟨S1x4x128x128, .f32⟩
  | 99 => ⟨S4x128x128, .f32⟩
  | 100 => ⟨S4x128x128, .f32⟩
  | 101 => ⟨S4x128x128, .f32⟩
  | 102 => ⟨S4x128x128, .f32⟩
  | 103 => ⟨S1x4x128x128, .f32⟩
  | 104 => ⟨S4x128x128, .f32⟩
  | 105 => ⟨S4x128x128, .f32⟩
  | 106 => ⟨S4x128x128, .f32⟩
  | 107 => ⟨S4x128x128, .f32⟩
  | 108 => ⟨S1x4x128x128, .f32⟩
  | 109 => ⟨S4x128x128, .f32⟩
  | 110 => ⟨S4x128x128, .f32⟩
  | 111 => ⟨S4x128x128, .f32⟩
  | 112 => ⟨S4x128x128, .f32⟩
  | 113 => ⟨S1x4x128x128, .f32⟩
  | 114 => ⟨S4x128x128, .f32⟩
  | 115 => ⟨S4x128x128, .f32⟩
  | 116 => ⟨S4x128x128, .f32⟩
  | 117 => ⟨S4x128x128, .f32⟩
  | 118 => ⟨S1x4x128x128, .f32⟩
  | 119 => ⟨S4x128x128, .f32⟩
  | 120 => ⟨S4x128x128, .f32⟩
  | 121 => ⟨S4x128x128, .f32⟩
  | 122 => ⟨S4x128x128, .f32⟩
  | 123 => ⟨S1x4x128x128, .f32⟩
  | 124 => ⟨S4x128x128, .f32⟩
  | 125 => ⟨S4x128x128, .f32⟩
  | 126 => ⟨S4x128x128, .f32⟩
  | 127 => ⟨S4x128x128, .f32⟩
  | _ => ⟨S8192x512, .f32⟩

abbrev hbmTy0_3 (i : Nat) : BufTy := match i % 128 with
  | 0 => ⟨S1x4x128x128, .f32⟩
  | 1 => ⟨S4x128x128, .f32⟩
  | 2 => ⟨S4x128x128, .f32⟩
  | 3 => ⟨S4x128x128, .f32⟩
  | 4 => ⟨S4x128x128, .f32⟩
  | 5 => ⟨S1x4x128x128, .f32⟩
  | 6 => ⟨S4x128x128, .f32⟩
  | 7 => ⟨S4x128x128, .f32⟩
  | 8 => ⟨S4x128x128, .f32⟩
  | 9 => ⟨S4x128x128, .f32⟩
  | 10 => ⟨S1x4x128x128, .f32⟩
  | 11 => ⟨S4x128x128, .f32⟩
  | 12 => ⟨S4x128x128, .f32⟩
  | 13 => ⟨S4x128x128, .f32⟩
  | 14 => ⟨S4x128x128, .f32⟩
  | 15 => ⟨S1x4x128x128, .f32⟩
  | 16 => ⟨S4x128x128, .f32⟩
  | 17 => ⟨S4x128x128, .f32⟩
  | 18 => ⟨S4x128x128, .f32⟩
  | 19 => ⟨S4x128x128, .f32⟩
  | 20 => ⟨S1x4x128x128, .f32⟩
  | 21 => ⟨S4x128x128, .f32⟩
  | 22 => ⟨S4x128x128, .f32⟩
  | 23 => ⟨S4x128x128, .f32⟩
  | 24 => ⟨S4x128x128, .f32⟩
  | 25 => ⟨S1x4x128x128, .f32⟩
  | 26 => ⟨S4x128x128, .f32⟩
  | 27 => ⟨S4x128x128, .f32⟩
  | 28 => ⟨S4x128x128, .f32⟩
  | 29 => ⟨S4x128x128, .f32⟩
  | 30 => ⟨S1x4x128x128, .f32⟩
  | 31 => ⟨S1x4x128x128, .f32⟩
  | 32 => ⟨S1x4x128x128, .f32⟩
  | 33 => ⟨S1x4x128x128, .f32⟩
  | 34 => ⟨S1x4x128x128, .f32⟩
  | 35 => ⟨S1x4x128x128, .f32⟩
  | 36 => ⟨S1x4x128x128, .f32⟩
  | 37 => ⟨S1x4x128x128, .f32⟩
  | 38 => ⟨S1x4x128x128, .f32⟩
  | 39 => ⟨S1x4x128x128, .f32⟩
  | 40 => ⟨S1x4x128x128, .f32⟩
  | 41 => ⟨S1x4x128x128, .f32⟩
  | 42 => ⟨S1x4x128x128, .f32⟩
  | 43 => ⟨S1x4x128x128, .f32⟩
  | 44 => ⟨S1x4x128x128, .f32⟩
  | 45 => ⟨S1x4x128x128, .f32⟩
  | 46 => ⟨S1x4x128x128, .f32⟩
  | 47 => ⟨S1x4x128x128, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x128, .f32⟩
  | 53 => ⟨S1x4x128x128, .f32⟩
  | 54 => ⟨S1x4x128x128, .f32⟩
  | 55 => ⟨S1x4x128x128, .f32⟩
  | 56 => ⟨S1x4x128x128, .f32⟩
  | 57 => ⟨S1x4x128x128, .f32⟩
  | 58 => ⟨S1x4x128x128, .f32⟩
  | 59 => ⟨S1x4x128x128, .f32⟩
  | 60 => ⟨S1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S16x4x128x128, .f32⟩
  | 95 => ⟨S16x4x128x128, .f32⟩
  | 96 => ⟨S16x4x128x128, .f32⟩
  | 97 => ⟨S16x4x128x128, .f32⟩
  | 98 => ⟨S64x4x128x128, .f32⟩
  | 99 => ⟨S64x4x128x128, .f32⟩
  | 100 => ⟨S_, .f32⟩
  | 101 => ⟨S128, .f32⟩
  | 102 => ⟨S128, .f32⟩
  | 103 => ⟨S1x128, .f32⟩
  | 104 => ⟨S4x1, .f32⟩
  | 105 => ⟨S4x128, .f32⟩
  | 106 => ⟨S4x128, .f32⟩
  | 107 => ⟨S4x128, .f32⟩
  | 108 => ⟨S4x128, .f32⟩
  | 109 => ⟨S64x4x128x128, .f32⟩
  | 110 => ⟨S64x128x4x128, .f32⟩
  | 111 => ⟨S128x4, .f32⟩
  | 112 => ⟨S1x128x4x1, .f32⟩
  | 113 => ⟨S64x128x4x128, .f32⟩
  | 114 => ⟨S64x128x4x128, .f32⟩
  | 115 => ⟨S64x128x4x128, .f32⟩
  | 116 => ⟨S8192x4x128, .f32⟩
  | 117 => ⟨S32x2x4x128x128, .f32⟩
  | 118 => ⟨S32x1x4x128x128, .f32⟩
  | 119 => ⟨S32x4x128x128, .f32⟩
  | 120 => ⟨S4x32x128x128, .f32⟩
  | 121 => ⟨S512, .f32⟩
  | 122 => ⟨S_, .f32⟩
  | 123 => ⟨S8192x4, .f32⟩
  | 124 => ⟨S8192x4x1, .f32⟩
  | 125 => ⟨S_, .f32⟩
  | 126 => ⟨S8192x4x1, .f32⟩
  | 127 => ⟨S8192x4x1, .f32⟩
  | _ => ⟨S8192x512, .f32⟩

abbrev hbmTy0_4 (i : Nat) : BufTy := match i % 128 with
  | 0 => ⟨S8192x4x128, .f32⟩
  | 1 => ⟨S8192x4x128, .f32⟩
  | 2 => ⟨S8192x4x128, .f32⟩
  | 3 => ⟨S_, .f32⟩
  | 4 => ⟨S8192x4, .f32⟩
  | 5 => ⟨S8192x4x1, .f32⟩
  | 6 => ⟨S_, .f32⟩
  | 7 => ⟨S8192x4x1, .f32⟩
  | 8 => ⟨S8192x4x1, .f32⟩
  | 9 => ⟨S8192x4x128, .f32⟩
  | 10 => ⟨S8192x4x128, .f32⟩
  | 11 => ⟨S_, .f32⟩
  | 12 => ⟨S8192x4x1, .f32⟩
  | 13 => ⟨S8192x4x1, .f32⟩
  | 14 => ⟨S8192x4x1, .f32⟩
  | 15 => ⟨S8192x4x128, .f32⟩
  | 16 => ⟨S8192x4x128, .f32⟩
  | 17 => ⟨S4x128, .f32⟩
  | 18 => ⟨S1x4x128, .f32⟩
  | 19 => ⟨S8192x4x128, .f32⟩
  | 20 => ⟨S8192x4x128, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S8192x512, .f32⟩
  | 33 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_cst_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_8 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_v325 : Ref sig .tc := ⟨.hbm, 363, rfl⟩
abbrev main_v326 : Ref sig .tc := ⟨.hbm, 364, rfl⟩
abbrev main_v327 : Ref sig .tc := ⟨.hbm, 365, rfl⟩
abbrev main_v328 : Ref sig .tc := ⟨.hbm, 366, rfl⟩
abbrev main_v329 : Ref sig .tc := ⟨.hbm, 367, rfl⟩
abbrev main_v330 : Ref sig .tc := ⟨.hbm, 368, rfl⟩
abbrev main_v331 : Ref sig .tc := ⟨.hbm, 369, rfl⟩
abbrev main_v332 : Ref sig .tc := ⟨.hbm, 370, rfl⟩
abbrev main_v333 : Ref sig .tc := ⟨.hbm, 371, rfl⟩
abbrev main_v334 : Ref sig .tc := ⟨.hbm, 372, rfl⟩
abbrev main_v335 : Ref sig .tc := ⟨.hbm, 373, rfl⟩
abbrev main_v336 : Ref sig .tc := ⟨.hbm, 374, rfl⟩
abbrev main_v337 : Ref sig .tc := ⟨.hbm, 375, rfl⟩
abbrev main_v338 : Ref sig .tc := ⟨.hbm, 376, rfl⟩
abbrev main_v339 : Ref sig .tc := ⟨.hbm, 377, rfl⟩
abbrev main_v340 : Ref sig .tc := ⟨.hbm, 378, rfl⟩
abbrev main_v341 : Ref sig .tc := ⟨.hbm, 379, rfl⟩
abbrev main_v342 : Ref sig .tc := ⟨.hbm, 380, rfl⟩
abbrev main_v343 : Ref sig .tc := ⟨.hbm, 381, rfl⟩
abbrev main_v344 : Ref sig .tc := ⟨.hbm, 382, rfl⟩
abbrev main_v345 : Ref sig .tc := ⟨.hbm, 383, rfl⟩
abbrev main_v346 : Ref sig .tc := ⟨.hbm, 384, rfl⟩
abbrev main_v347 : Ref sig .tc := ⟨.hbm, 385, rfl⟩
abbrev main_v348 : Ref sig .tc := ⟨.hbm, 386, rfl⟩
abbrev main_v349 : Ref sig .tc := ⟨.hbm, 387, rfl⟩
abbrev main_v350 : Ref sig .tc := ⟨.hbm, 388, rfl⟩
abbrev main_v351 : Ref sig .tc := ⟨.hbm, 389, rfl⟩
abbrev main_v352 : Ref sig .tc := ⟨.hbm, 390, rfl⟩
abbrev main_v353 : Ref sig .tc := ⟨.hbm, 391, rfl⟩
abbrev main_v354 : Ref sig .tc := ⟨.hbm, 392, rfl⟩
abbrev main_v355 : Ref sig .tc := ⟨.hbm, 393, rfl⟩
abbrev main_v356 : Ref sig .tc := ⟨.hbm, 394, rfl⟩
abbrev main_v357 : Ref sig .tc := ⟨.hbm, 395, rfl⟩
abbrev main_v358 : Ref sig .tc := ⟨.hbm, 396, rfl⟩
abbrev main_v359 : Ref sig .tc := ⟨.hbm, 397, rfl⟩
abbrev main_v360 : Ref sig .tc := ⟨.hbm, 398, rfl⟩
abbrev main_v361 : Ref sig .tc := ⟨.hbm, 399, rfl⟩
abbrev main_v362 : Ref sig .tc := ⟨.hbm, 400, rfl⟩
abbrev main_v363 : Ref sig .tc := ⟨.hbm, 401, rfl⟩
abbrev main_v364 : Ref sig .tc := ⟨.hbm, 402, rfl⟩
abbrev main_v365 : Ref sig .tc := ⟨.hbm, 403, rfl⟩
abbrev main_v366 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_v370 : Ref sig .tc := ⟨.hbm, 408, rfl⟩
abbrev main_v371 : Ref sig .tc := ⟨.hbm, 409, rfl⟩
abbrev main_v372 : Ref sig .tc := ⟨.hbm, 410, rfl⟩
abbrev main_v373 : Ref sig .tc := ⟨.hbm, 411, rfl⟩
abbrev main_v374 : Ref sig .tc := ⟨.hbm, 412, rfl⟩
abbrev main_v375 : Ref sig .tc := ⟨.hbm, 413, rfl⟩
abbrev main_v376 : Ref sig .tc := ⟨.hbm, 414, rfl⟩
abbrev main_v377 : Ref sig .tc := ⟨.hbm, 415, rfl⟩
abbrev main_v378 : Ref sig .tc := ⟨.hbm, 416, rfl⟩
abbrev main_v379 : Ref sig .tc := ⟨.hbm, 417, rfl⟩
abbrev main_v380 : Ref sig .tc := ⟨.hbm, 418, rfl⟩
abbrev main_v381 : Ref sig .tc := ⟨.hbm, 419, rfl⟩
abbrev main_v382 : Ref sig .tc := ⟨.hbm, 420, rfl⟩
abbrev main_v383 : Ref sig .tc := ⟨.hbm, 421, rfl⟩
abbrev main_v384 : Ref sig .tc := ⟨.hbm, 422, rfl⟩
abbrev main_v385 : Ref sig .tc := ⟨.hbm, 423, rfl⟩
abbrev main_v386 : Ref sig .tc := ⟨.hbm, 424, rfl⟩
abbrev main_v387 : Ref sig .tc := ⟨.hbm, 425, rfl⟩
abbrev main_v388 : Ref sig .tc := ⟨.hbm, 426, rfl⟩
abbrev main_v389 : Ref sig .tc := ⟨.hbm, 427, rfl⟩
abbrev main_v390 : Ref sig .tc := ⟨.hbm, 428, rfl⟩
abbrev main_v391 : Ref sig .tc := ⟨.hbm, 429, rfl⟩
abbrev main_v392 : Ref sig .tc := ⟨.hbm, 430, rfl⟩
abbrev main_v393 : Ref sig .tc := ⟨.hbm, 431, rfl⟩
abbrev main_v394 : Ref sig .tc := ⟨.hbm, 432, rfl⟩
abbrev main_v395 : Ref sig .tc := ⟨.hbm, 433, rfl⟩
abbrev main_v396 : Ref sig .tc := ⟨.hbm, 434, rfl⟩
abbrev main_v397 : Ref sig .tc := ⟨.hbm, 435, rfl⟩
abbrev main_v398 : Ref sig .tc := ⟨.hbm, 436, rfl⟩
abbrev main_v399 : Ref sig .tc := ⟨.hbm, 437, rfl⟩
abbrev main_v400 : Ref sig .tc := ⟨.hbm, 438, rfl⟩
abbrev main_v401 : Ref sig .tc := ⟨.hbm, 439, rfl⟩
abbrev main_v402 : Ref sig .tc := ⟨.hbm, 440, rfl⟩
abbrev main_v403 : Ref sig .tc := ⟨.hbm, 441, rfl⟩
abbrev main_v404 : Ref sig .tc := ⟨.hbm, 442, rfl⟩
abbrev main_v405 : Ref sig .tc := ⟨.hbm, 443, rfl⟩
abbrev main_v406 : Ref sig .tc := ⟨.hbm, 444, rfl⟩
abbrev main_v407 : Ref sig .tc := ⟨.hbm, 445, rfl⟩
abbrev main_v408 : Ref sig .tc := ⟨.hbm, 446, rfl⟩
abbrev main_v409 : Ref sig .tc := ⟨.hbm, 447, rfl⟩
abbrev main_v410 : Ref sig .tc := ⟨.hbm, 448, rfl⟩
abbrev main_v411 : Ref sig .tc := ⟨.hbm, 449, rfl⟩
abbrev main_v412 : Ref sig .tc := ⟨.hbm, 450, rfl⟩
abbrev main_v413 : Ref sig .tc := ⟨.hbm, 451, rfl⟩
abbrev main_v414 : Ref sig .tc := ⟨.hbm, 452, rfl⟩
abbrev main_v415 : Ref sig .tc := ⟨.hbm, 453, rfl⟩
abbrev main_v416 : Ref sig .tc := ⟨.hbm, 454, rfl⟩
abbrev main_v417 : Ref sig .tc := ⟨.hbm, 455, rfl⟩
abbrev main_v418 : Ref sig .tc := ⟨.hbm, 456, rfl⟩
abbrev main_v419 : Ref sig .tc := ⟨.hbm, 457, rfl⟩
abbrev main_v420 : Ref sig .tc := ⟨.hbm, 458, rfl⟩
abbrev main_v421 : Ref sig .tc := ⟨.hbm, 459, rfl⟩
abbrev main_v422 : Ref sig .tc := ⟨.hbm, 460, rfl⟩
abbrev main_v423 : Ref sig .tc := ⟨.hbm, 461, rfl⟩
abbrev main_v424 : Ref sig .tc := ⟨.hbm, 462, rfl⟩
abbrev main_v425 : Ref sig .tc := ⟨.hbm, 463, rfl⟩
abbrev main_v426 : Ref sig .tc := ⟨.hbm, 464, rfl⟩
abbrev main_v427 : Ref sig .tc := ⟨.hbm, 465, rfl⟩
abbrev main_v428 : Ref sig .tc := ⟨.hbm, 466, rfl⟩
abbrev main_v429 : Ref sig .tc := ⟨.hbm, 467, rfl⟩
abbrev main_v430 : Ref sig .tc := ⟨.hbm, 468, rfl⟩
abbrev main_v431 : Ref sig .tc := ⟨.hbm, 469, rfl⟩
abbrev main_v432 : Ref sig .tc := ⟨.hbm, 470, rfl⟩
abbrev main_v433 : Ref sig .tc := ⟨.hbm, 471, rfl⟩
abbrev main_v434 : Ref sig .tc := ⟨.hbm, 472, rfl⟩
abbrev main_v435 : Ref sig .tc := ⟨.hbm, 473, rfl⟩
abbrev main_v436 : Ref sig .tc := ⟨.hbm, 474, rfl⟩
abbrev main_v437 : Ref sig .tc := ⟨.hbm, 475, rfl⟩
abbrev main_v438 : Ref sig .tc := ⟨.hbm, 476, rfl⟩
abbrev main_v439 : Ref sig .tc := ⟨.hbm, 477, rfl⟩
abbrev main_v440 : Ref sig .tc := ⟨.hbm, 478, rfl⟩
abbrev main_v441 : Ref sig .tc := ⟨.hbm, 479, rfl⟩
abbrev main_v442 : Ref sig .tc := ⟨.hbm, 480, rfl⟩
abbrev main_v443 : Ref sig .tc := ⟨.hbm, 481, rfl⟩
abbrev main_v444 : Ref sig .tc := ⟨.hbm, 482, rfl⟩
abbrev main_v445 : Ref sig .tc := ⟨.hbm, 483, rfl⟩
abbrev main_cst_9 : Ref sig .tc := ⟨.hbm, 484, rfl⟩
abbrev main_v446 : Ref sig .tc := ⟨.hbm, 485, rfl⟩
abbrev main_v447 : Ref sig .tc := ⟨.hbm, 486, rfl⟩
abbrev main_v448 : Ref sig .tc := ⟨.hbm, 487, rfl⟩
abbrev main_v449 : Ref sig .tc := ⟨.hbm, 488, rfl⟩
abbrev main_v450 : Ref sig .tc := ⟨.hbm, 489, rfl⟩
abbrev main_v451 : Ref sig .tc := ⟨.hbm, 490, rfl⟩
abbrev main_v452 : Ref sig .tc := ⟨.hbm, 491, rfl⟩
abbrev main_v453 : Ref sig .tc := ⟨.hbm, 492, rfl⟩
abbrev main_v454 : Ref sig .tc := ⟨.hbm, 493, rfl⟩
abbrev main_v455 : Ref sig .tc := ⟨.hbm, 494, rfl⟩
abbrev main_v456 : Ref sig .tc := ⟨.hbm, 495, rfl⟩
abbrev main_v457 : Ref sig .tc := ⟨.hbm, 496, rfl⟩
abbrev main_v458 : Ref sig .tc := ⟨.hbm, 497, rfl⟩
abbrev main_v459 : Ref sig .tc := ⟨.hbm, 498, rfl⟩
abbrev main_v460 : Ref sig .tc := ⟨.hbm, 499, rfl⟩
abbrev main_v461 : Ref sig .tc := ⟨.hbm, 500, rfl⟩
abbrev main_v462 : Ref sig .tc := ⟨.hbm, 501, rfl⟩
abbrev main_v463 : Ref sig .tc := ⟨.hbm, 502, rfl⟩
abbrev main_v464 : Ref sig .tc := ⟨.hbm, 503, rfl⟩
abbrev main_v465 : Ref sig .tc := ⟨.hbm, 504, rfl⟩
abbrev main_v466 : Ref sig .tc := ⟨.hbm, 505, rfl⟩
abbrev main_cst_10 : Ref sig .tc := ⟨.hbm, 506, rfl⟩
abbrev main_v467 : Ref sig .tc := ⟨.hbm, 507, rfl⟩
abbrev main_v468 : Ref sig .tc := ⟨.hbm, 508, rfl⟩
abbrev main_cst_11 : Ref sig .tc := ⟨.hbm, 509, rfl⟩
abbrev main_v469 : Ref sig .tc := ⟨.hbm, 510, rfl⟩
abbrev main_v470 : Ref sig .tc := ⟨.hbm, 511, rfl⟩
abbrev main_v471 : Ref sig .tc := ⟨.hbm, 512, rfl⟩
abbrev main_v472 : Ref sig .tc := ⟨.hbm, 513, rfl⟩
abbrev main_v473 : Ref sig .tc := ⟨.hbm, 514, rfl⟩
abbrev main_cst_12 : Ref sig .tc := ⟨.hbm, 515, rfl⟩
abbrev main_v474 : Ref sig .tc := ⟨.hbm, 516, rfl⟩
abbrev main_v475 : Ref sig .tc := ⟨.hbm, 517, rfl⟩
abbrev main_cst_13 : Ref sig .tc := ⟨.hbm, 518, rfl⟩
abbrev main_v476 : Ref sig .tc := ⟨.hbm, 519, rfl⟩
abbrev main_v477 : Ref sig .tc := ⟨.hbm, 520, rfl⟩
abbrev main_v478 : Ref sig .tc := ⟨.hbm, 521, rfl⟩
abbrev main_v479 : Ref sig .tc := ⟨.hbm, 522, rfl⟩
abbrev main_cst_14 : Ref sig .tc := ⟨.hbm, 523, rfl⟩
abbrev main_v480 : Ref sig .tc := ⟨.hbm, 524, rfl⟩
abbrev main_v481 : Ref sig .tc := ⟨.hbm, 525, rfl⟩
abbrev main_v482 : Ref sig .tc := ⟨.hbm, 526, rfl⟩
abbrev main_v483 : Ref sig .tc := ⟨.hbm, 527, rfl⟩
abbrev main_v484 : Ref sig .tc := ⟨.hbm, 528, rfl⟩
abbrev main_v485 : Ref sig .tc := ⟨.hbm, 529, rfl⟩
abbrev main_v486 : Ref sig .tc := ⟨.hbm, 530, rfl⟩
abbrev main_v487 : Ref sig .tc := ⟨.hbm, 531, rfl⟩
abbrev main_v488 : Ref sig .tc := ⟨.hbm, 532, rfl⟩
abbrev main_v489 : Ref sig .tc := ⟨.hbm, 533, rfl⟩
abbrev main_v490 : Ref sig .tc := ⟨.hbm, 534, rfl⟩
abbrev main_call2_v0 : Ref sig .tc := ⟨.hbm, 535, rfl⟩
abbrev main_call2_v1 : Ref sig .tc := ⟨.hbm, 536, rfl⟩
abbrev main_call2_cst : Ref sig .tc := ⟨.hbm, 537, rfl⟩
abbrev main_call2_v2 : Ref sig .tc := ⟨.hbm, 538, rfl⟩
abbrev main_call2_v3 : Ref sig .tc := ⟨.hbm, 539, rfl⟩
abbrev main_call2_cst_0 : Ref sig .tc := ⟨.hbm, 540, rfl⟩
abbrev main_call2_v4 : Ref sig .tc := ⟨.hbm, 541, rfl⟩
abbrev main_call2_v5 : Ref sig .tc := ⟨.hbm, 542, rfl⟩
abbrev main_v491 : Ref sig .tc := ⟨.hbm, 543, rfl⟩
abbrev main_v492 : Ref sig .tc := ⟨.hbm, 544, rfl⟩
abbrev main_v493 : Ref sig .tc := ⟨.hbm, 545, rfl⟩

abbrev nD : Nat := 1
abbrev τ : Topo := Topo.v7x

variable {F : FTy → Type} [FloatOps F]
-- ==== Kernel7.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S1x512x1024 : Shape := ⟨3, ![1, 512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 32
  | .vmem => 15
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1024x4096, .f32⟩
  | .hbm, ⟨24, _⟩ => ⟨S1024x8x512, .f32⟩
  | .hbm, ⟨25, _⟩ => ⟨S8x1024x512, .f32⟩
  | .hbm, ⟨26, _⟩ => ⟨S8x1024x512, .bf16⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S3x512x1024, .f32⟩
  | .local _ .vmem, ⟨14, _⟩ => ⟨S3x512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_173 : BitVec 32) : Fin 2 → Nat :=
  let c0_i32_175 : BitVec 32 := 0#32
  let c3_i32_174 : BitVec 32 := 3#32
  let v262 : BitVec 32 := Scalar.remsi c0_i32_173 c3_i32_174
  ![0, v262.toNat]
def k0_off2 (c0_i32_173 : BitVec 32) : Fin 3 → Nat :=
  let c3_i32_174 : BitVec 32 := 3#32
  let v262 : BitVec 32 := Scalar.remsi c0_i32_173 c3_i32_174
  let c0_i32_176 : BitVec 32 := 0#32
  let c0_i32_177 : BitVec 32 := 0#32
  ![v262.toNat, 0, 0]
def k0_off3 (c0_i32_173 : BitVec 32) : Fin 2 → Nat :=
  let c1_i32_180 : BitVec 32 := 1#32
  let c3_i32_174 : BitVec 32 := 3#32
  let v262 : BitVec 32 := Scalar.remsi c0_i32_173 c3_i32_174
  ![1, v262.toNat]
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off4 (i : grid0.Coords) : Fin 2 → Nat :=
  let c0_i32_171 : BitVec 32 := 0#32
  let arg0 : BitVec 32 := BitVec.ofNat 32 (i 0).val
  let c2_i32_167 : BitVec 32 := 2#32
  let v258 : BitVec 32 := Scalar.addi arg0 c2_i32_167
  let c3_i32_168 : BitVec 32 := 3#32
  let v259 : BitVec 32 := Scalar.remsi v258 c3_i32_168
  ![0, v259.toNat]
def k0_off5 (i : grid0.Coords) : Fin 3 → Nat :=
  let arg0 : BitVec 32 := BitVec.ofNat 32 (i 0).val
  let c2_i32_167 : BitVec 32 := 2#32
  let v258 : BitVec 32 := Scalar.addi arg0 c2_i32_167
  let c3_i32_168 : BitVec 32 := 3#32
  let v259 : BitVec 32 := Scalar.remsi v258 c3_i32_168
  let c0_i32_172 : BitVec 32 := 0#32
  let c0_i32_173 : BitVec 32 := 0#32
  ![v259.toNat, 0, 0]
def k0_off6 (i : grid0.Coords) : Fin 2 → Nat :=
  let arg0 : BitVec 32 := BitVec.ofNat 32 (i 0).val
  let c2_i32_167 : BitVec 32 := 2#32
  let v258 : BitVec 32 := Scalar.addi arg0 c2_i32_167
  let c512_i32_169 : BitVec 32 := 512#32
  let v260 : BitVec 32 := Scalar.muli v258 c512_i32_169
  let c0_i32_174 : BitVec 32 := 0#32
  ![v260.toNat, 0]
def k0_off7 (i : grid0.Coords) : Fin 2 → Nat :=
  let c1_i32_175 : BitVec 32 := 1#32
  let arg0 : BitVec 32 := BitVec.ofNat 32 (i 0).val
  let c2_i32_167 : BitVec 32 := 2#32
  let v258 : BitVec 32 := Scalar.addi arg0 c2_i32_167
  let c3_i32_168 : BitVec 32 := 3#32
  let v259 : BitVec 32 := Scalar.remsi v258 c3_i32_168
  ![1, v259.toNat]
def k0_off8 (i : grid0.Coords) : Fin 2 → Nat :=
  let c0_i32_3 : BitVec 32 := 0#32
  let arg0 : BitVec 32 := BitVec.ofNat 32 (i 0).val
  let c3_i32 : BitVec 32 := 3#32
  let v7 : BitVec 32 := Scalar.remsi arg0 c3_i32
  ![0, v7.toNat]
def k0_off9 (i : grid0.Coords) : Fin 3 → Nat :=
  let arg0 : BitVec 32 := BitVec.ofNat 32 (i 0).val
  let c3_i32 : BitVec 32 := 3#32
  let v7 : BitVec 32 := Scalar.remsi arg0 c3_i32
  let c0_i32_4 : BitVec 32 := 0#32
  let c0_i32_5 : BitVec 32 := 0#32
  ![v7.toNat, 0, 0]
def k0_off10 (i : grid0.Coords) : Fin 2 → Nat :=
  let arg0 : BitVec 32 := BitVec.ofNat 32 (i 0).val
  let c512_i32 : BitVec 32 := 512#32
  let v8 : BitVec 32 := Scalar.muli arg0 c512_i32
  let c0_i32_6 : BitVec 32 := 0#32
  ![v8.toNat, 0]
def k0_off11 (i : grid0.Coords) : Fin 2 → Nat :=
  let c1_i32 : BitVec 32 := 1#32
  let arg0 : BitVec 32 := BitVec.ofNat 32 (i 0).val
  let c3_i32 : BitVec 32 := 3#32
  let v7 : BitVec 32 := Scalar.remsi arg0 c3_i32
  ![1, v7.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩

abbrev nBuf : Space → Nat
  | .hbm => 109
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S1024x4096, .f32⟩
  | .hbm, ⟨51, _⟩ => ⟨S8192x4096, .f32⟩
  | .hbm, ⟨52, _⟩ => ⟨S8192x4096, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S8192x1024, .f32⟩
  | .hbm, ⟨91, _⟩ => ⟨S_, .f32⟩
  | .hbm, ⟨92, _⟩ => ⟨S8192, .f32⟩
  | .hbm, ⟨93, _⟩ => ⟨S8192x1, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S1x1024, .f32⟩
  | .hbm, ⟨108, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_cst_16 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1x1024x2560 : Shape := ⟨3, ![1, 1024, 2560]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S2560x1024 : Shape := ⟨2, ![2560, 1024]⟩
abbrev S64 : Shape := ⟨1, ![64]⟩
abbrev S128 : Shape := ⟨1, ![128]⟩
abbrev S128x1 : Shape := ⟨2, ![128, 1]⟩
abbrev S1x64 : Shape := ⟨2, ![1, 64]⟩
abbrev S128x64 : Shape := ⟨2, ![128, 64]⟩
abbrev S64x1 : Shape := ⟨2, ![64, 1]⟩
abbrev S64x64 : Shape := ⟨2, ![64, 64]⟩
abbrev S128x128 : Shape := ⟨2, ![128, 128]⟩
abbrev S64x128 : Shape := ⟨2, ![64, 128]⟩
abbrev S64x1x128 : Shape := ⟨3, ![64, 1, 128]⟩
abbrev S8192x512 : Shape := ⟨2, ![8192, 512]⟩
abbrev S8192x128 : Shape := ⟨2, ![8192, 128]⟩
abbrev S1024x1024 : Shape := ⟨2, ![1024, 1024]⟩
abbrev S1024x512 : Shape := ⟨2, ![1024, 512]⟩
abbrev S1024x128 : Shape := ⟨2, ![1024, 128]⟩
abbrev S1x1x128 : Shape := ⟨3, ![1, 1, 128]⟩
abbrev S1x128 : Shape := ⟨2, ![1, 128]⟩

abbrev nBuf : Space → Nat
  | .hbm => 62
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x2560, .f32⟩
  | .hbm, ⟨20, _⟩ => ⟨S2560x1024, .f32⟩
  | .hbm, ⟨21, _⟩ => ⟨S2560x1024, .bf16⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S128, .f32⟩
  | .hbm, ⟨31, _⟩ => ⟨S128x1, .f32⟩
  | .hbm, ⟨32, _⟩ => ⟨S1x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S1x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S128x64, .f32⟩
  | .hbm, ⟨46, _⟩ => ⟨S128x128, .f32⟩
  | .hbm, ⟨47, _⟩ => ⟨S128x64, .f32⟩
  | .hbm, ⟨48, _⟩ => ⟨S128x128, .f32⟩
  | .hbm, ⟨49, _⟩ => ⟨S64x64, .f32⟩
  | .hbm, ⟨50, _⟩ => ⟨S64x128, .f32⟩
  | .hbm, ⟨51, _⟩ => ⟨S64x1x128, .f32⟩
  | .hbm, ⟨52, _⟩ => ⟨S64x64, .f32⟩
  | .hbm, ⟨53, _⟩ => ⟨S64x128, .f32⟩
  | .hbm, ⟨54, _⟩ => ⟨S64x1x128, .f32⟩
  | .hbm, ⟨55, _⟩ => ⟨S8192x512, .bf16⟩
  | .hbm, ⟨56, _⟩ => ⟨S8192x512, .bf16⟩
  | .hbm, ⟨57, _⟩ => ⟨S8192x512, .bf16⟩
  | .hbm, ⟨58, _⟩ => ⟨S8192x512, .f32⟩
  | .hbm, ⟨59, _⟩ => ⟨S8192x512, .f32⟩
  | .hbm, ⟨60, _⟩ => ⟨S8192x128, .f32⟩
  | .hbm, ⟨61, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S2560x1024, .bf16⟩
  | .local _ .vmem, ⟨3, _⟩ => ⟨S128x128, .f32⟩
  | .local _ .vmem, ⟨4, _⟩ => ⟨S128x128, .f32⟩
  | .local _ .vmem, ⟨5, _⟩ => ⟨S64x1x128, .f32⟩
  | .local _ .vmem, ⟨6, _⟩ => ⟨S64x1x128, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46_0 : Ref sig .tc := ⟨.hbm, 55, rfl⟩
abbrev main_v46_1 : Ref sig .tc := ⟨.hbm, 56, rfl⟩
abbrev main_v46_2 : Ref sig .tc := ⟨.hbm, 57, rfl⟩
abbrev main_v46_3 : Ref sig .tc := ⟨.hbm, 58, rfl⟩
abbrev main_v46_4 : Ref sig .tc := ⟨.hbm, 59, rfl⟩
abbrev main_v46_5 : Ref sig .tc := ⟨.hbm, 60, rfl⟩
abbrev main_v46_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 3 → Nat :=
  let arg0 : BitVec 32 := BitVec.ofNat 32 (i 0).val
  let c8_i32 : BitVec 32 := 8#32
  let v15 : BitVec 32 := Scalar.muli arg0 c8_i32
  let v16 : BitVec 32 := Scalar.addi v15 c0_i32
  let v17 : Index := Scalar.indexCast v16
  let c0_9 : Index := 0#32
  let c0_10 : Index := 0#32
  ![v17.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S8192x1024 : Shape := ⟨2, ![8192, 1024]⟩
abbrev S1x1024 : Shape := ⟨2, ![1, 1024]⟩
abbrev S1x1024x2560 : Shape := ⟨3, ![1, 1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩
abbrev S8192x512 : Shape := ⟨2, ![8192, 512]⟩
abbrev S8192x4x128 : Shape := ⟨3, ![8192, 4, 128]⟩
abbrev S64 : Shape := ⟨1, ![64]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S8192x128 : Shape := ⟨2, ![8192, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2560, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x2560, .f32⟩
  | .hbm, ⟨21, _⟩ => ⟨S8192x2560, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x4x128, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S8192, .f32⟩
  | .hbm, ⟨37, _⟩ => ⟨S8192x1, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x1x64, .f32⟩
  | .hbm, ⟨44, _⟩ => ⟨S8192x64, .f32⟩
  | .hbm, ⟨45, _⟩ => ⟨S8192x1x64, .f32⟩
  | .hbm, ⟨46, _⟩ => ⟨S8192x4x64, .f32⟩
  | .hbm, ⟨47, _⟩ => ⟨S8192x4x64, .f32⟩
  | .hbm, ⟨48, _⟩ => ⟨S8192x4x64, .f32⟩
  | .hbm, ⟨49, _⟩ => ⟨S8192x4x64, .f32⟩
  | .hbm, ⟨50, _⟩ => ⟨S8192x4x64, .f32⟩
  | .hbm, ⟨51, _⟩ => ⟨S8192x4x64, .f32⟩
  | .hbm, ⟨52, _⟩ => ⟨S8192x4x64, .f32⟩
  | .hbm, ⟨53, _⟩ => ⟨S8192x4x64, .f32⟩
  | .hbm, ⟨54, _⟩ => ⟨S8192x4x64, .f32⟩
  | .hbm, ⟨55, _⟩ => ⟨S8192x4x64, .f32⟩
  | .hbm, ⟨56, _⟩ => ⟨S8192x4x64, .f32⟩
  | .hbm, ⟨57, _⟩ => ⟨S8192x4x64, .f32⟩
  | .hbm, ⟨58, _⟩ => ⟨S8192x4x128, .f32⟩
  | .hbm, ⟨59, _⟩ => ⟨S8192x512, .f32⟩
  | .hbm, ⟨60, _⟩ => ⟨S8192x4x128, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S8192, .f32⟩
  | .hbm, ⟨70, _⟩ => ⟨S8192x1, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x1x64, .f32⟩
  | .hbm, ⟨77, _⟩ => ⟨S8192x64, .f32⟩
  | .hbm, ⟨78, _⟩ => ⟨S8192x1x64, .f32⟩
  | .hbm, ⟨79, _⟩ => ⟨S8192x4x64, .f32⟩
  | .hbm, ⟨80, _⟩ => ⟨S8192x4x64, .f32⟩
  | .hbm, ⟨81, _⟩ => ⟨S8192x4x64, .f32⟩
  | .hbm, ⟨82, _⟩ => ⟨S8192x4x64, .f32⟩
  | .hbm, ⟨83, _⟩ => ⟨S8192x4x64, .f32⟩
  | .hbm, ⟨84, _⟩ => ⟨S8192x4x64, .f32⟩
  | .hbm, ⟨85, _⟩ => ⟨S8192x4x64, .f32⟩
  | .hbm, ⟨86, _⟩ => ⟨S8192x4x64, .f32⟩
  | .hbm, ⟨87, _⟩ => ⟨S8192x4x64, .f32⟩
  | .hbm, ⟨88, _⟩ => ⟨S8192x4x64, .f32⟩
  | .hbm, ⟨89, _⟩ => ⟨S8192x4x64, .f32⟩
  | .hbm, ⟨90, _⟩ => ⟨S8192x4x64, .f32⟩
  | .hbm, ⟨91, _⟩ => ⟨S8192x4x128, .f32⟩
  | .hbm, ⟨92, _⟩ => ⟨S_, .f32⟩
  | .hbm, ⟨93, _⟩ => ⟨S8192x4x128, .f32⟩
  | .hbm, ⟨94, _⟩ => ⟨S8192x4x128, .f32⟩
  | .hbm, ⟨95, _⟩ => ⟨S8192x512, .f32⟩
  | .hbm, ⟨96, _⟩ => ⟨S64, .f32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S8192, .f32⟩
  | .hbm, ⟨105, _⟩ => ⟨S8192x1, .f32⟩
  | .hbm, ⟨106, _⟩ => ⟨S1x64, .f32⟩
  | .hbm, ⟨107, _⟩ => ⟨S8192x64, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S8192x64, .f32⟩
  | .hbm, ⟨112, _⟩ => ⟨S8192x128, .f32⟩
  | .hbm, ⟨113, _⟩ => ⟨S8192x64, .f32⟩
  | .hbm, ⟨114, _⟩ => ⟨S8192x64, .f32⟩
  | .hbm, ⟨115, _⟩ => ⟨S8192x64, .f32⟩
  | .hbm, ⟨116, _⟩ => ⟨S8192x128, .f32⟩
  | .hbm, ⟨117, _⟩ => ⟨S8192x512, .bf16⟩
  | .hbm, ⟨118, _⟩ => ⟨S8192x512, .bf16⟩
  | .hbm, ⟨119, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_6 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_cst_8 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S512x512 : Shape := ⟨2, ![512, 512]⟩
abbrev S3x512x512 : Shape := ⟨3, ![3, 512, 512]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x512 : Shape := ⟨3, ![1, 512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x1024, .f32⟩
  | .hbm, ⟨3, _⟩ => ⟨S1x512x1024, .f32⟩
  | .hbm, ⟨4, _⟩ => ⟨S1x1024x1024, .f32⟩
  | .hbm, ⟨5, _⟩ => ⟨S1x1024, .f32⟩
  | .hbm, ⟨6, _⟩ => ⟨S512x1024, .f32⟩
  | .hbm, ⟨7, _⟩ => ⟨S512x1024, .bf16⟩
  | .hbm, ⟨8, _⟩ => ⟨S1024x1024, .f32⟩
  | .hbm, ⟨9, _⟩ => ⟨S1024x1024, .bf16⟩
  | .hbm, ⟨10, _⟩ => ⟨S8192x512, .bf16⟩
  | .hbm, ⟨11, _⟩ => ⟨S8192x512, .bf16⟩
  | .hbm, ⟨12, _⟩ => ⟨S8192x1024, .bf16⟩
  | .hbm, ⟨13, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S1024x1024, .bf16⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S3x512x512, .f32⟩
  | .local _ .vmem, ⟨15, _⟩ => ⟨S3x512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_92 : BitVec 32) : Fin 2 → Nat :=
  let c0_i32_94 : BitVec 32 := 0#32
  let c3_i32_93 : BitVec 32 := 3#32
  let v150 : BitVec 32 := Scalar.remsi c0_i32_92 c3_i32_93
  ![0, v150.toNat]
def k0_off2 (c0_i32_92 : BitVec 32) : Fin 3 → Nat :=
  let c3_i32_93 : BitVec 32 := 3#32
  let v150 : BitVec 32 := Scalar.remsi c0_i32_92 c3_i32_93
  let c0_i32_95 : BitVec 32 := 0#32
  let c0_i32_96 : BitVec 32 := 0#32
  ![v150.toNat, 0, 0]
def k0_off3 (c0_i32_92 : BitVec 32) : Fin 2 → Nat :=
  let c1_i32_99 : BitVec 32 := 1#32
  let c3_i32_93 : BitVec 32 := 3#32
  let v150 : BitVec 32 := Scalar.remsi c0_i32_92 c3_i32_93
  ![1, v150.toNat]
def k0_off4 (c0_i32_92 : BitVec 32) : Fin 3 → Nat :=
  let c3_i32_93 : BitVec 32 := 3#32
  let v150 : BitVec 32 := Scalar.remsi c0_i32_92 c3_i32_93
  let c0_i32_100 : BitVec 32 := 0#32
  let c0_i32_101 : BitVec 32 := 0#32
  ![v150.toNat, 0, 0]
def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off5 (i : grid0.Coords) : Fin 2 → Nat :=
  let c0_i32_96 : BitVec 32 := 0#32
  let arg0 : BitVec 32 := BitVec.ofNat 32 (i 0).val
  let c2_i32_92 : BitVec 32 := 2#32
  let v150 : BitVec 32 := Scalar.addi arg0 c2_i32_92
  let c3_i32_93 : BitVec 32 := 3#32
  let v151 : BitVec 32 := Scalar.remsi v150 c3_i32_93
  ![0, v151.toNat]
def k0_off6 (i : grid0.Coords) : Fin 3 → Nat :=
  let arg0 : BitVec 32 := BitVec.ofNat 32 (i 0).val
  let c2_i32_92 : BitVec 32 := 2#32
  let v150 : BitVec 32 := Scalar.addi arg0 c2_i32_92
  let c3_i32_93 : BitVec 32 := 3#32
  let v151 : BitVec 32 := Scalar.remsi v150 c3_i32_93
  let c0_i32_97 : BitVec 32 := 0#32
  let c0_i32_98 : BitVec 32 := 0#32
  ![v151.toNat, 0, 0]
def k0_off7 (i : grid0.Coords) : Fin 2 → Nat :=
  let arg0 : BitVec 32 := BitVec.ofNat 32 (i 0).val
  let c2_i32_92 : BitVec 32 := 2#32
  let v150 : BitVec 32 := Scalar.addi arg0 c2_i32_92
  let c512_i32_94 : BitVec 32 := 512#32
  let v152 : BitVec 32 := Scalar.muli v150 c512_i32_94
  let c0_i32_99 : BitVec 32 := 0#32
  ![v152.toNat, 0]
def k0_off8 (i : grid0.Coords) : Fin 2 → Nat :=
  let c1_i32_100 : BitVec 32 := 1#32
  let arg0 : BitVec 32 := BitVec.ofNat 32 (i 0).val
  let c2_i32_92 : BitVec 32 := 2#32
  let v150 : BitVec 32 := Scalar.addi arg0 c2_i32_92
  let c3_i32_93 : BitVec 32 := 3#32
  let v151 : BitVec 32 := Scalar.remsi v150 c3_i32_93
  ![1, v151.toNat]
def k0_off9 (i : grid0.Coords) : Fin 3 → Nat :=
  let arg0 : BitVec 32 := BitVec.ofNat 32 (i 0).val
  let c2_i32_92 : BitVec 32 := 2#32
  let v150 : BitVec 32 := Scalar.addi arg0 c2_i32_92
  let c3_i32_93 : BitVec 32 := 3#32
  let v151 : BitVec 32 := Scalar.remsi v150 c3_i32_93
  let c0_i32_101 : BitVec 32 := 0#32
  let c0_i32_102 : BitVec 32 := 0#32
  ![v151.toNat, 0, 0]
def k0_off10 (i : grid0.Coords) : Fin 2 → Nat :=
  let arg0 : BitVec 32 := BitVec.ofNat 32 (i 0).val
  let c2_i32_92 : BitVec 32 := 2#32
  let v150 : BitVec 32 := Scalar.addi arg0 c2_i32_92
  let c512_i32_95 : BitVec 32 := 512#32
  let v153 : BitVec 32 := Scalar.muli v150 c512_i32_95
  let c0_i32_103 : BitVec 32 := 0#32
  ![v153.toNat, 0]
def k0_off11 (i : grid0.Coords) : Fin 2 → Nat :=
  let c0_i32_3 : BitVec 32 := 0#32
  let arg0 : BitVec 32 := BitVec.ofNat 32 (i 0).val
  let c3_i32 : BitVec 32 := 3#32
  let v7 : BitVec 32 := Scalar.remsi arg0 c3_i32
  ![0, v7.toNat]
def k0_off12 (i : grid0.Coords) : Fin 3 → Nat :=
  let arg0 : BitVec 32 := BitVec.ofNat 32 (i 0).val
  let c3_i32 : BitVec 32 := 3#32
  let v7 : BitVec 32 := Scalar.remsi arg0 c3_i32
  let c0_i32_4 : BitVec 32 := 0#32
  let c0_i32_5 : BitVec 32 := 0#32
  ![v7.toNat, 0, 0]
def k0_off13 (i : grid0.Coords) : Fin 2 → Nat :=
  let arg0 : BitVec 32 := BitVec.ofNat 32 (i 0).val
  let c512_i32 : BitVec 32 := 512#32
  let v8 : BitVec 32 := Scalar.muli arg0 c512_i32
  let c0_i32_6 : BitVec 32 := 0#32
  ![v8.toNat, 0]
def k0_off14 (i : grid0.Coords) : Fin 2 → Nat :=
  let c1_i32 : BitVec 32 := 1#32
  let arg0 : BitVec 32 := BitVec.ofNat 32 (i 0).val
  let c3_i32 : BitVec 32 := 3#32
  let v7 : BitVec 32 := Scalar.remsi arg0 c3_i32
  ![1, v7.toNat]
def k0_off15 (i : grid0.Coords) : Fin 3 → Nat :=
  let arg0 : BitVec 32 := BitVec.ofNat 32 (i 0).val
  let c3_i32 : BitVec 32 := 3#32
  let v7 : BitVec 32 := Scalar.remsi arg0 c3_i32
  let c0_i32_7 : BitVec 32 := 0#32
  let c0_i32_8 : BitVec 32 := 0#32
  ![v7.toNat, 0, 0]
def k0_off16 (i : grid0.Coords) : Fin 2 → Nat :=
  let arg0 : BitVec 32 := BitVec.ofNat 32 (i 0).val
  let c512_i32_2 : BitVec 32 := 512#32
  let v9 : BitVec 32 := Scalar.muli arg0 c512_i32_2
  let c0_i32_9 : BitVec 32 := 0#32
  ![v9.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x512 : Shape := ⟨2, ![8192, 512]⟩
abbrev S8192x1024 : Shape := ⟨2, ![8192, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .bf16⟩
  | .hbm, ⟨2, _⟩ => ⟨S8192x1024, .f32⟩
  | .hbm, ⟨3, _⟩ => ⟨S1x512x1024, .f32⟩
  | .hbm, ⟨4, _⟩ => ⟨S1x1024x1024, .f32⟩
  | .hbm, ⟨5, _⟩ => ⟨S1x1024, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S512x1024, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x512, .bf16⟩
  | .hbm, ⟨59, _⟩ => ⟨S8192x512, .bf16⟩
  | .hbm, ⟨60, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Proof.Inproj.Spec.lean ====
module

public import proofs.«01_k».proof.Proof.Gen.KernelIdeal.Value
public import Idealize.ShloMosaic.Lib.Pipeline.ValueKit

@[expose] public section

set_option maxRecDepth 16384
noncomputable section

/-! The two gradients of the input projection as functions of the arguments, in the order in which the kernel computes them. -/

namespace Cert.Inproj

open Idealize.ShloMosaic Idealize.ShloMosaic.TcCoe Idealize.SL.Sem
open Cert.KernelIdeal

/-- One piece's share of the gradient at the normed rows: the product of the piece with its 512 columns of the weight. -/
def part (p : FVec Ideal S8192x512 .bf16) (w : FVec Ideal S1x1024x2560 .f32) (j : ℕ) (hj : j + 512 ≤ 2560) (r : Fin 8192) (c : Fin 1024) : EReal :=
  ∑ k : Fin 512, p (ix2 r k) * w (ix3 0 c ⟨j + k, by omega⟩)

/-- The gradient at the normed rows: the five pieces' products added up from the left. -/
def dh (p0 p1 p2 p3 p4 : FVec Ideal S8192x512 .bf16) (w : FVec Ideal S1x1024x2560 .f32) (r : Fin 8192) (c : Fin 1024) : EReal :=
  part p0 w 0 (by omega) r c + part p1 w 512 (by omega) r c + part p2 w 1024 (by omega) r c + part p3 w 1536 (by omega) r c
    + part p4 w 2048 (by omega) r c

/-- The mean square of a row, and the reciprocal root of it. -/
def ms (x : FVec Ideal S8192x1024 .f32) (r : Fin 8192) : EReal :=
  Ideal.div (∑ k : Fin 1024, x (ix2 r k) * x (ix2 r k)) (Ideal.ofBits .f32 0x44800000#32) + Ideal.ofBits .f32 0x358637BD#32

def rr (x : FVec Ideal S8192x1024 .f32) (r : Fin 8192) : EReal := Ideal.rsqrt (ms x r)

/-- The gradient at the rows. -/
def DX (h : Fin 8192 → Fin 1024 → EReal) (x d : FVec Ideal S8192x1024 .f32) (g : FVec Ideal S1x1024 .f32) (r : Fin 8192) (c : Fin 1024) : EReal :=
  d (ix2 r c) + (rr x r * (h r c * g (ix2 0 c))
    - x (ix2 r c) * (rr x r * rr x r * rr x r
        * Ideal.div (∑ k : Fin 1024, h r k * g (ix2 0 k) * x (ix2 r k)) (Ideal.ofBits .f32 0x44800000#32)))

/-- One row's share of the gradient at the gain. -/
def DG (h : Fin 8192 → Fin 1024 → EReal) (x : FVec Ideal S8192x1024 .f32) (r : Fin 8192) (c : Fin 1024) : EReal :=
  h r c * x (ix2 r c) * rr x r

end Cert.Inproj
-- ==== Proof.Inproj.Kernel.lean ====
module

public import proofs.«01_k».proof.Proof.Inproj.Spec

@[expose] public section

set_option maxRecDepth 16384
noncomputable section

/-! What the input projection's kernel leaves in its two result arrays. -/

namespace Cert.Inproj

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- Which block each window stages at a grid point. -/
theorem blocks_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![t.val, 0] ∧ win0_10.index t = ![0, 0] :=
  (by decide +kernel : ∀ t : Fin grid0.N, _)

/-- The gradient at the normed rows, of the arguments in a memory. -/
abbrev dhM (c : Dev nD) : Fin 8192 → Fin 1024 → EReal :=
  dh (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a grid point leaves in the block of rows. -/
theorem point9 (c : Dev nD) (t : Fin cfg0.N) (y : S512x1024.Idx) (i : Fin 8192) (j : Fin 1024)
    (hi : i.val = 512 * t.val + (y 0 : ℕ)) (hj : j.val = (y 1 : ℕ)) :
    (outsAt0 m c t.val t.isLt).1 y
      = DX (dhM m c) (m ((c : Thread nD τ).loc main_arg6)) (m ((c : Thread nD τ).loc main_arg7)) (m ((c : Thread nD τ).loc main_arg8)) i j := by
  by_cases h : t.val % 16 = 0
  · rw [outsAt0_A m c t h]; frame_out
    canon_tiles x hx
    all_goals
      pointwise [k0_pay1, k0_pay8, k0_pay9, k0_pay10, k0_pay11, k0_pay4, k0_pay5, k0_pay6, DX, dhM, dh, part, rr, ms]
      blk_point [iblk, V, blocks_at t]
  · rw [outsAt0_B m c t h]; frame_out
    canon_tiles x hx
    all_goals
      pointwise [k0_pay1, k0_pay8, k0_pay9, k0_pay10, k0_pay11, k0_pay4, k0_pay5, k0_pay6, DX, dhM, dh, part, rr, ms]
      blk_point [iblk, V, blocks_at t]

/-- The gradient at the rows, after the run. -/
theorem final9 (c : Dev nD) : (dats m 0 c).arrAt 9 (cfgs 0).N
    = (fun i => DX (dhM m c) (m ((c : Thread nD τ).loc main_arg6)) (m ((c : Thread nD τ).loc main_arg7)) (m ((c : Thread nD τ).loc main_arg8)) (i 0) (i 1)) := by
  refine (dats m 0 c).arrAt_eq_of_covers 9 _ (by decide +kernel) fun t _ y => ?_
  blk_simp
  rw [after0_9]
  refine point9 m c t y _ _ ?_ ?_
  all_goals (blk_simp [blocks_at t] <;> try omega)

end Cert.Inproj
-- ==== Proof.Inproj.Gain.lean ====
module

public import proofs.«01_k».proof.Proof.Inproj.Kernel

@[expose] public section

set_option maxRecDepth 16384
noncomputable section

namespace Cert.Inproj

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem lt_rows (p : Fin cfg0.N) (k : Fin 256) : 512 * p.val + 256 + k.val < 8192 := by
  have := p.isLt; have h : cfg0.N = 16 := N_0
  omega

/-- What a grid point adds to the gradient at the gain: its upper 256 rows and its lower 256 rows. -/
def rows10 (c : Dev nD) (p : Fin cfg0.N) (j : S1x1024.Idx) : EReal :=
  (∑ k : Fin 256, DG (dhM m c) (m ((c : Thread nD τ).loc main_arg6)) ⟨512 * p.val + k.val, by have := lt_rows p k; omega⟩ (j 1))
    + ∑ k : Fin 256, DG (dhM m c) (m ((c : Thread nD τ).loc main_arg6)) ⟨512 * p.val + 256 + k.val, lt_rows p k⟩ (j 1)

theorem first10 (c : Dev nD) (t : Fin cfg0.N) (h : t.val % 16 = 0) (j : S1x1024.Idx) :
    (outsAt0 m c t.val t.isLt).2 j = 0 + rows10 m c t j := by
  rw [outsAt0_A m c t h]; frame_out
  unfold rows10
  rw [← add_assoc]
  pointwise [k0_pay2, k0_pay3, k0_pay7, k0_pay8, k0_pay9, k0_pay10, k0_pay4, k0_pay5, DG, dhM, dh, part, rr, ms]
  blk_point [iblk, V, blocks_at t]

theorem step10 (c : Dev nD) (t : Fin cfg0.N) (h : ¬ t.val % 16 = 0) (j : S1x1024.Idx) :
    (outsAt0 m c t.val t.isLt).2 j = (outsAt0 m c (t.val - 1) (Nat.lt_of_le_of_lt (Nat.sub_le _ _) t.isLt)).2 j + rows10 m c t j := by
  rw [outsAt0_B m c t h]; frame_out
  unfold rows10
  rw [← add_assoc]
  pointwise [k0_pay2, k0_pay3, k0_pay7, k0_pay8, k0_pay9, k0_pay10, k0_pay4, k0_pay5, DG, dhM, dh, part, rr, ms]
  blk_point [iblk, V, blocks_at t]

/-- The gradient at the gain, after the run. -/
theorem final10 (c : Dev nD) : (dats m 0 c).arrAt 10 (cfgs 0).N = (fun j => ∑ p : Fin cfg0.N, rows10 m c p j) := by
  refine (dats m 0 c).arrAt_eq_of_after_last 10 t0_15 (by decide +kernel) _ fun j => ?_
  blk_simp
  rw [after0_10, Pipeline.eq_sum_fin_of_reset_step_apply_last (fun n h => (outsAt0 m c n h).2) 16 (fun _ => (0 : EReal)) (fun p j => rows10 m c p j)
    (fun t h j => first10 m c t h j) (fun t h j => step10 m c t h j) (le_of_eq N_0) t0_15 rfl j, zero_add]

end Cert.Inproj
-- ==== Proof.Inproj.Norm.lean ====
module

public import proofs.«01_k».proof.Proof.Inproj.Spec

@[expose] public section

noncomputable section

/-! The gradient of a root-mean-square norm: the closed form of it against the rule for a quotient, over the extended reals. No entry need be finite:
a row with an infinite entry has the reciprocal root zero, and then both forms are the residual. -/

namespace Cert.Norm

open Idealize.ShloMosaic

theorem width : Ideal.ofBits .f32 0x44800000#32 = ((1024 : ℝ) : EReal) := by
  simp [Ideal.ofBits, Ideal.ieee]
  rw [← EReal.coe_mul]; norm_num

theorem minus_half : Ideal.ofBits .f32 0xBF000000#32 = ((-(1 / 2) : ℝ) : EReal) := by
  simp [Ideal.ofBits, Ideal.ieee]
  rw [← EReal.coe_mul]; norm_num

/-- The small number added to the mean square is a positive real. -/
theorem eps_pos : ∃ e : ℝ, 0 < e ∧ Ideal.ofBits .f32 0x358637BD#32 = (e : EReal) := by
  refine ⟨_, ?_, by simp [Ideal.ofBits, Ideal.ieee]; rfl⟩
  positivity

theorem sum_coe {n : ℕ} (u : Fin n → ℝ) : ((∑ k, u k : ℝ) : EReal) = ∑ k, (u k : EReal) :=
  map_sum (⟨⟨fun a : ℝ => (a : EReal), rfl⟩, EReal.coe_add⟩ : ℝ →+ EReal) u Finset.univ

theorem sq_nonneg' (a : EReal) : 0 ≤ a * a := by
  induction a using EReal.rec with
  | bot => simp
  | top => simp
  | coe a => rw [← EReal.coe_mul]; exact_mod_cast mul_self_nonneg a

/-- Either every entry of a row is real, and then the mean square is a positive real, or the mean square is infinite. -/
theorem mean_cases {n : ℕ} (x : Fin n → EReal) (e : ℝ) (he : 0 < e) (N : ℝ) (hN : 0 < N) :
    (∃ (u : Fin n → ℝ) (μ : ℝ), (∀ k, x k = u k) ∧ 0 < μ ∧ Ideal.div (∑ k, x k * x k) (N : EReal) + (e : EReal) = μ)
      ∨ Ideal.div (∑ k, x k * x k) (N : EReal) + (e : EReal) = ⊤ := by
  by_cases h : ∃ k, x k = ⊥ ∨ x k = ⊤
  · right
    obtain ⟨k, hk⟩ := h
    have hs : (∑ k, x k * x k) = ⊤ := by
      have h1 : x k * x k = ⊤ := by rcases hk with h | h <;> simp [h]
      have h2 : x k * x k ≤ ∑ k, x k * x k := Finset.single_le_sum (fun i _ => sq_nonneg' (x i)) (Finset.mem_univ k)
      rw [h1] at h2
      exact top_le_iff.mp h2
    rw [hs, Ideal.div_coe hN.ne', EReal.top_mul_coe_of_pos (by positivity)]
    exact EReal.top_add_coe e
  · left
    push Not at h
    refine ⟨fun k => (x k).toReal, (∑ k, (x k).toReal * (x k).toReal) * (1 / N) + e, fun k => (EReal.coe_toReal (h k).2 (h k).1).symm, ?_, ?_⟩
    · have : 0 ≤ ∑ k, (x k).toReal * (x k).toReal := Finset.sum_nonneg fun k _ => mul_self_nonneg _
      positivity
    · rw [Ideal.div_coe hN.ne']
      have : (∑ k, x k * x k) = ((∑ k, (x k).toReal * (x k).toReal : ℝ) : EReal) := by
        rw [sum_coe]
        refine Finset.sum_congr rfl fun k _ => ?_
        rw [EReal.coe_mul, EReal.coe_toReal (h k).2 (h k).1]
      rw [this]; norm_cast

theorem half_and_half (w : EReal) (b : ℝ) : w * ((-(b / 2) : ℝ) : EReal) + w * ((-(b / 2) : ℝ) : EReal) = -(w * (b : EReal)) := by
  induction w using EReal.rec with
  | coe w => norm_cast; ring
  | top =>
    rcases lt_trichotomy b 0 with h | h | h
    · rw [EReal.top_mul_coe_of_pos (by linarith), EReal.top_mul_coe_of_neg h]; rfl
    · simp [h]
    · rw [EReal.top_mul_coe_of_neg (by linarith), EReal.top_mul_coe_of_pos h]; rfl
  | bot =>
    rcases lt_trichotomy b 0 with h | h | h
    · rw [EReal.bot_mul_coe_of_pos (by linarith), EReal.bot_mul_coe_of_neg h]; rfl
    · simp [h]
    · rw [EReal.bot_mul_coe_of_neg (by linarith), EReal.bot_mul_coe_of_pos h]; rfl

/-- The closed form of the gradient at entry `c` against the rule for a quotient; `w` is the inner product of the row with the gradient. -/
theorem grad {n : ℕ} (x : Fin n → EReal) (N : ℝ) (hN : 0 < N) (e : ℝ) (he : 0 < e) (t w d : EReal) (c : Fin n) :
    let s := Ideal.div (∑ k, x k * x k) (N : EReal) + (e : EReal)
    let r := Ideal.rsqrt s
    let S := Ideal.div (w * (((-(1 / 2) : ℝ) : EReal) * Ideal.div r s)) (N : EReal)
    d + t * r + x c * S + S * x c = d + (r * t - x c * (r * r * r * Ideal.div w (N : EReal))) := by
  intro s r S
  rcases mean_cases x e he N hN with ⟨u, μ, hu, hμ, hs⟩ | hs
  · have hr : r = ((Real.sqrt μ)⁻¹ : ℝ) := by
      show Ideal.rsqrt s = _
      rw [show s = (μ : EReal) from hs, Ideal.rsqrt_coe, if_neg (by linarith), if_neg hμ.ne']
    have hq : (Real.sqrt μ) * (Real.sqrt μ) = μ := Real.mul_self_sqrt hμ.le
    have hq0 : Real.sqrt μ ≠ 0 := by positivity
    have hS : x c * S = w * ((-((u c * ((Real.sqrt μ)⁻¹ * (Real.sqrt μ)⁻¹ * (Real.sqrt μ)⁻¹ * (1 / N))) / 2) : ℝ) : EReal) := by
      show x c * Ideal.div (w * (((-(1 / 2) : ℝ) : EReal) * Ideal.div r s)) (N : EReal) = _
      rw [hr, show s = (μ : EReal) from hs, Ideal.div_coe hμ.ne', Ideal.div_coe hN.ne', hu c, mul_assoc w, mul_left_comm _ w]
      congr 1
      norm_cast
      rw [show (1 : ℝ) / μ = (Real.sqrt μ)⁻¹ * (Real.sqrt μ)⁻¹ by rw [← mul_inv, hq, one_div]]
      ring
    have hL : x c * (r * r * r * Ideal.div w (N : EReal)) = w * ((u c * ((Real.sqrt μ)⁻¹ * (Real.sqrt μ)⁻¹ * (Real.sqrt μ)⁻¹ * (1 / N)) : ℝ) : EReal) := by
      rw [hr, Ideal.div_coe hN.ne', hu c, mul_left_comm (_ * _ * _ : EReal) w, mul_left_comm _ w]
      congr 1
    rw [mul_comm S, hS, hL, add_assoc, half_and_half, mul_comm t r, add_assoc, sub_eq_add_neg]
  · have hr : r = 0 := by
      show Ideal.rsqrt s = _
      rw [show s = ⊤ from hs]; rfl
    have hS : S = 0 := by
      show Ideal.div (w * (((-(1 / 2) : ℝ) : EReal) * Ideal.div r s)) (N : EReal) = _
      rw [hr, show s = ⊤ from hs, Ideal.div_coe hN.ne']
      simp [Ideal.div]
    rw [hS, hr]; simp

end Cert.Norm
-- ==== Proof.Inproj.RefValue.lean ====
module

public import proofs.«01_k».proof.Proof.Inproj.Norm
public import proofs.«01_k».proof.Proof.Gen.ReferenceIdeal.Run

@[expose] public section

set_option maxRecDepth 16384
noncomputable section

/-! The reference's two results, read to scalars one stage at a time: the gradient at the normed rows, the mean square, the row factor of the
norm's gradient, and the results of these three. -/

namespace Cert.Inproj

open Idealize.ShloMosaic Idealize.ShloMosaic.TcCoe Idealize.SL.Sem
open Cert.ReferenceIdeal Cert.ReferenceIdeal.Gen

/-- The gradient at the normed rows as the reference writes it: one product over the pieces side by side. -/
def hT (p0 p1 p2 p3 p4 : FVec Ideal S8192x512 .bf16) (w : FVec Ideal S1x1024x2560 .f32) : FVec Ideal S8192x1024 .f32 :=
  Host.dotGeneral dot_S8192x2560_S1024x2560_S8192x1024_1_1_0_0_n_n none
    (concatenate S8192x2560 1 [⟨S8192x512, extf .f32 p0 bitsLt_bf16_f32⟩, ⟨S8192x512, extf .f32 p1 bitsLt_bf16_f32⟩,
      ⟨S8192x512, extf .f32 p2 bitsLt_bf16_f32⟩, ⟨S8192x512, extf .f32 p3 bitsLt_bf16_f32⟩, ⟨S8192x512, extf .f32 p4 bitsLt_bf16_f32⟩]
      concatenates_S8192x512_S8192x512_S8192x512_S8192x512_S8192x512_S8192x2560_d1)
    (shapeCast _ w shapeCasts_S1x1024x2560_S1024x2560)

/-- The mean squares of the rows as the reference writes them. -/
def msT (x : FVec Ideal S8192x1024 .f32) : FVec Ideal S8192x1 .f32 :=
  addf (Host.divf (broadcastInDim S8192x1 ![0] bcast_S8192_S8192x1_0
      (Host.reduceAdd (mulf x x) (constant S_ .f32 0x00000000#32) reducesTo_S8192x1024_S8192_d1 h_S_))
      (broadcastInDim S8192x1 ![] bcast_S_S8192x1 (constant S_ .f32 0x44800000#32)))
    (broadcastInDim S8192x1 ![] bcast_S_S8192x1 (constant S_ .f32 0x358637BD#32))

/-- The gradient times the gain. -/
def gT (h : FVec Ideal S8192x1024 .f32) (g : FVec Ideal S1x1024 .f32) : FVec Ideal S8192x1024 .f32 :=
  mulf h (broadcastInDim S8192x1024 ![0, 1] bcast_S1x1024_S8192x1024_0_1
    (broadcastInDim S1x1024 ![1] bcast_S1024_S1x1024_1 (shapeCast _ g shapeCasts_S1x1024_S1024)))

/-- The row factor of the norm's gradient. -/
def sT (t : FVec Ideal S8192x1024 .f32) (s : FVec Ideal S8192x1 .f32) (x : FVec Ideal S8192x1024 .f32) : FVec Ideal S8192 .f32 :=
  Host.reduceAdd (Host.divf (mulf (shapeCast _ (Host.reduceAdd (mulf x t) (constant S_ .f32 0x00000000#32) reducesTo_S8192x1024_S8192_d1 h_S_)
      shapeCasts_S8192_S8192x1) (mulf (broadcastInDim S8192x1 ![] bcast_S_S8192x1 (constant S_ .f32 0xBF000000#32))
        (Host.divf (Host.rsqrt s) s))) (broadcastInDim S8192x1 ![] bcast_S_S8192x1 (constant S_ .f32 0x44800000#32)))
    (constant S_ .f32 0x00000000#32) reducesTo_S8192x1_S8192_d1 h_S_

/-- The gradient at the rows. -/
def dxT (t : FVec Ideal S8192x1024 .f32) (s : FVec Ideal S8192x1 .f32) (f : FVec Ideal S8192 .f32) (x d : FVec Ideal S8192x1024 .f32) :
    FVec Ideal S8192x1024 .f32 :=
  addf (addf (addf d (mulf t (broadcastInDim S8192x1024 ![0, 1] bcast_S8192x1_S8192x1024_0_1 (Host.rsqrt s))))
    (mulf x (broadcastInDim S8192x1024 ![0] bcast_S8192_S8192x1024_0 f))) (mulf (broadcastInDim S8192x1024 ![0] bcast_S8192_S8192x1024_0 f) x)

/-- The gradient at the gain. -/
def dgT (h : FVec Ideal S8192x1024 .f32) (s : FVec Ideal S8192x1 .f32) (x : FVec Ideal S8192x1024 .f32) : FVec Ideal S1x1024 .f32 :=
  broadcastInDim S1x1024 ![1] bcast_S1024_S1x1024_1 (Host.reduceAdd (shapeCast _ (Host.reduceAdd
    (mulf (mulf x (broadcastInDim S8192x1024 ![0, 1] bcast_S8192x1_S8192x1024_0_1 (Host.rsqrt s))) h)
    (constant S_ .f32 0x00000000#32) reducesTo_S8192x1024_S1024_d0 h_S_) shapeCasts_S1024_S1x1024)
    (constant S_ .f32 0x00000000#32) reducesTo_S1x1024_S1024_d0 h_S_)

/-- A sum over 2560 columns is the five sums over its 512s. -/
theorem sum_five (f : Fin 2560 → EReal) : ∑ k, f k = ((((∑ k : Fin 512, f ⟨k, by omega⟩) + ∑ k : Fin 512, f ⟨512 + k, by omega⟩)
    + ∑ k : Fin 512, f ⟨1024 + k, by omega⟩) + ∑ k : Fin 512, f ⟨1536 + k, by omega⟩) + ∑ k : Fin 512, f ⟨2048 + k, by omega⟩ := by
  rw [show ∑ k, f k = ∑ k : Fin (512 + 512 + 512 + 512 + 512), f k from rfl]
  rw [Fin.sum_univ_add, Fin.sum_univ_add, Fin.sum_univ_add, Fin.sum_univ_add]
  rfl

theorem hT_at (p0 p1 p2 p3 p4 : FVec Ideal S8192x512 .bf16) (w : FVec Ideal S1x1024x2560 .f32) (r : Fin 8192) (c : Fin 1024) :
    hT p0 p1 p2 p3 p4 w (ix2 r c) = dh p0 p1 p2 p3 p4 w r c := by
  pointwise [hT, dh, part]
  rw [sum_five]
  refine congrArg₂ (· + ·) (congrArg₂ (· + ·) (congrArg₂ (· + ·) (congrArg₂ (· + ·) ?_ ?_) ?_) ?_) ?_ <;>
    refine Finset.sum_congr rfl fun k _ => congrArg (· * _) ?_
  · rw [dif_pos k.isLt]
  · rw [dif_neg (by simp), dif_pos (by simp)]; simp
  · rw [dif_neg (by simp; omega), dif_neg (by simp; omega), dif_pos (by simp; omega)]; congr; simp; omega
  · rw [dif_neg (by simp; omega), dif_neg (by simp; omega), dif_neg (by simp; omega), dif_pos (by simp; omega)]; congr; simp; omega
  · rw [dif_neg (by simp; omega), dif_neg (by simp; omega), dif_neg (by simp; omega), dif_neg (by simp; omega)]; congr; simp; omega

theorem msT_at (x : FVec Ideal S8192x1024 .f32) (r : Fin 8192) : msT x (ix2 r 0) = ms x r := by
  pointwise [msT, ms]

theorem gT_at (h : FVec Ideal S8192x1024 .f32) (g : FVec Ideal S1x1024 .f32) (r : Fin 8192) (c : Fin 1024) :
    gT h g (ix2 r c) = h (ix2 r c) * g (ix2 0 c) := by
  pointwise [gT]

theorem sT_at (t : FVec Ideal S8192x1024 .f32) (s : FVec Ideal S8192x1 .f32) (x : FVec Ideal S8192x1024 .f32) (r : Fin 8192) :
    sT t s x (ix1 r) = Ideal.div ((∑ k : Fin 1024, x (ix2 r k) * t (ix2 r k))
      * (Ideal.ofBits .f32 0xBF000000#32 * Ideal.div (Ideal.rsqrt (s (ix2 r 0))) (s (ix2 r 0)))) (Ideal.ofBits .f32 0x44800000#32) := by
  pointwise [sT]
  exact Fin.sum_univ_one _

theorem dxT_at (t : FVec Ideal S8192x1024 .f32) (s : FVec Ideal S8192x1 .f32) (f : FVec Ideal S8192 .f32) (x d : FVec Ideal S8192x1024 .f32)
    (r : Fin 8192) (c : Fin 1024) :
    dxT t s f x d (ix2 r c) = d (ix2 r c) + t (ix2 r c) * Ideal.rsqrt (s (ix2 r 0)) + x (ix2 r c) * f (ix1 r) + f (ix1 r) * x (ix2 r c) := by
  pointwise [dxT]

theorem dgT_at (h : FVec Ideal S8192x1024 .f32) (s : FVec Ideal S8192x1 .f32) (x : FVec Ideal S8192x1024 .f32) (c : Fin 1024) :
    dgT h s x (ix2 0 c) = ∑ r : Fin 8192, x (ix2 r c) * Ideal.rsqrt (s (ix2 r 0)) * h (ix2 r c) := by
  pointwise [dgT]
  exact Fin.sum_univ_one _

/-- The gradient at the rows by the rule for a quotient is the closed form of it. -/
theorem dx_closed (h : FVec Ideal S8192x1024 .f32) (H : Fin 8192 → Fin 1024 → EReal) (hh : ∀ r c, h (ix2 r c) = H r c)
    (x d : FVec Ideal S8192x1024 .f32) (g : FVec Ideal S1x1024 .f32) (r : Fin 8192) (j : Fin 1024) :
    dxT (gT h g) (msT x) (sT (gT h g) (msT x) x) x d (ix2 r j) = DX H x d g r j := by
  obtain ⟨e, he, hE⟩ := Norm.eps_pos
  rw [dxT_at, sT_at, gT_at]
  simp only [gT_at, hh, msT_at]
  rw [DX, rr, ms, Norm.width, Norm.minus_half, hE]
  rw [show (∑ k : Fin 1024, x (ix2 r k) * (H r k * g (ix2 0 k))) = ∑ k : Fin 1024, H r k * g (ix2 0 k) * x (ix2 r k)
    from Finset.sum_congr rfl fun k _ => mul_comm _ _]
  exact Norm.grad (fun k => x (ix2 r k)) 1024 (by norm_num) e he _ _ _ j

/-- The gradient at the gain is the sum of the rows' shares. -/
theorem dg_closed (h : FVec Ideal S8192x1024 .f32) (H : Fin 8192 → Fin 1024 → EReal) (hh : ∀ r c, h (ix2 r c) = H r c)
    (x : FVec Ideal S8192x1024 .f32) (j : Fin 1024) :
    dgT h (msT x) x (ix2 0 j) = ∑ r : Fin 8192, DG H x r j := by
  rw [dgT_at]
  refine Finset.sum_congr rfl fun r _ => ?_
  rw [hh, msT_at, DG, rr, mul_comm, mul_assoc]

/-- The sum over the rows is the sum over the 16 blocks of the sums over each block's halves. -/
theorem sum_rows (f : Fin 8192 → EReal) : ∑ r, f r = ∑ p : Fin 16, ((∑ k : Fin 256, f ⟨512 * p.val + k.val, by omega⟩)
    + ∑ k : Fin 256, f ⟨512 * p.val + 256 + k.val, by omega⟩) := by
  rw [Fin.sum_univ_tiles 16 512 rfl]
  refine Finset.sum_congr rfl fun p _ => ?_
  rw [Fin.sum_univ_two_halves 256 256 rfl]
  refine congrArg₂ (· + ·) (Finset.sum_congr rfl fun k _ => congrArg f ?_) (Finset.sum_congr rfl fun k _ => congrArg f ?_) <;>
    ext <;> simp <;> omega

end Cert.Inproj
-- ==== Proof.Inproj.Claim.lean ====
module

public import proofs.«01_k».proof.Defs
public import proofs.«01_k».proof.Proof.Inproj.Gain
public import proofs.«01_k».proof.Proof.Inproj.RefValue
public import proofs.«01_k».proof.Proof.Gen.Kernel.Frame
public import Idealize.ShloMosaic.Lib.Claim

@[expose] public section

set_option maxRecDepth 16384
noncomputable section

/-! The claims about the input projection's gradients: the frames and the equality of both results. -/

namespace Cert.Inproj

open Idealize.ShloMosaic Idealize.ShloMosaic.TcCoe Idealize.SL.Sem

/-- The gradient at the normed rows as the reference writes it, of the kernel's arguments. -/
def hM (m : (ℓ : Loc Cert.KernelIdeal.nD Cert.KernelIdeal.τ Cert.KernelIdeal.sig) → Buf (Elt Ideal) ℓ) (c : Dev Cert.KernelIdeal.nD) :
    FVec Ideal Cert.ReferenceIdeal.S8192x1024 .f32 :=
  hT (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5))

theorem hM_at (m : (ℓ : Loc Cert.KernelIdeal.nD Cert.KernelIdeal.τ Cert.KernelIdeal.sig) → Buf (Elt Ideal) ℓ) (c : Dev Cert.KernelIdeal.nD)
    (r : Fin 8192) (j : Fin 1024) : hM m c (ix2 r j) = dhM m c r j := hT_at _ _ _ _ _ _ r j

/-- The kernel's gradient at the rows. -/
theorem rows_final (m : (ℓ : Loc Cert.KernelIdeal.nD Cert.KernelIdeal.τ Cert.KernelIdeal.sig) → Buf (Elt Ideal) ℓ) (c : Dev Cert.KernelIdeal.nD)
    (h : FVec Ideal Cert.ReferenceIdeal.S8192x1024 .f32) (hh : ∀ r j, h (ix2 r j) = dhM m c r j) :
    dxT (gT h (m ((c.tc : Thread _ _).loc Cert.KernelIdeal.main_arg8))) (msT (m ((c.tc : Thread _ _).loc Cert.KernelIdeal.main_arg6)))
        (sT (gT h (m ((c.tc : Thread _ _).loc Cert.KernelIdeal.main_arg8))) (msT (m ((c.tc : Thread _ _).loc Cert.KernelIdeal.main_arg6)))
          (m ((c.tc : Thread _ _).loc Cert.KernelIdeal.main_arg6)))
        (m ((c.tc : Thread _ _).loc Cert.KernelIdeal.main_arg6)) (m ((c.tc : Thread _ _).loc Cert.KernelIdeal.main_arg7))
      = (Cert.KernelIdeal.Gen.dats m 0 c).arrAt 9 Cert.KernelIdeal.cfg0.N := by
  refine Eq.trans ?_ (final9 m c).symm
  funext i; idx_vars i
  exact dx_closed h (dhM m c) hh _ _ _ i0 i1

/-- The kernel's gradient at the gain. -/
theorem gain_final (m : (ℓ : Loc Cert.KernelIdeal.nD Cert.KernelIdeal.τ Cert.KernelIdeal.sig) → Buf (Elt Ideal) ℓ) (c : Dev Cert.KernelIdeal.nD)
    (h : FVec Ideal Cert.ReferenceIdeal.S8192x1024 .f32) (hh : ∀ r j, h (ix2 r j) = dhM m c r j) :
    dgT h (msT (m ((c.tc : Thread _ _).loc Cert.KernelIdeal.main_arg6))) (m ((c.tc : Thread _ _).loc Cert.KernelIdeal.main_arg6))
      = (Cert.KernelIdeal.Gen.dats m 0 c).arrAt 10 Cert.KernelIdeal.cfg0.N := by
  refine Eq.trans ?_ (final10 m c).symm
  funext j; idx_vars j
  obtain rfl : j0 = 0 := Subsingleton.elim _ _
  rw [dg_closed h (dhM m c) hh, sum_rows]
  exact (Fin.sum_congr' _ Cert.KernelIdeal.Gen.N_0).symm

theorem frame : Cert.quiescent_Kernel := fun m ρ _ => Cert.Kernel.Gen.frame m ρ

theorem frameIdeal : Cert.quiescent_KernelIdeal := fun m ρ _ => Cert.KernelIdeal.Gen.frame m ρ

theorem frameReference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

theorem value : Cert.algebraic_KernelIdeal_ReferenceIdeal := by
  pair_intro
  · run_from Cert.KernelIdeal.Value.run_blocks m g
  · run_from Cert.ReferenceIdeal.Value.run m' g'
    · obtain ⟨h0, h1, h2, h3, h4, h5, h6, h7, h8⟩ := hagree c
      refine Eq.trans ?_ (rows_final m c (hM m c) (hM_at m c))
      rw [hM, ← h0, ← h1, ← h2, ← h3, ← h4, ← h5, ← h6, ← h7, ← h8]
      rfl
    · obtain ⟨h0, h1, h2, h3, h4, h5, h6, h7, h8⟩ := hagree c
      rw [h4]
      exact gain_final m c (hM m c) (hM_at m c)

end Cert.Inproj
-- ==== Proof.Ff2.Spec.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384
noncomputable section

/-! The two gradients of the second feed-forward product as functions of the arguments, and what the kernel leaves in its result arrays. -/

namespace Cert.Ff2

open Idealize.ShloMosaic Idealize.ShloMosaic.TcCoe Idealize.SL.Sem
open Cert.Kernel2Ideal Cert.Kernel2Ideal.Gen
open Idealize.ShloMosaic.Pipeline (Dat)

/-- The squared positive part of the feed-forward's inner value. -/
def act (f : FVec Ideal S8192x4096 .f32) (r : Fin 8192) (j : Fin 4096) : EReal := max (f (ix2 r j)) 0 * max (f (ix2 r j)) 0

/-- The gradient at the inner value, as the kernel computes it: the product's gradient times the root of four times the saved square. -/
def DF (f : FVec Ideal S8192x4096 .f32) (w : FVec Ideal S1x4096x1024 .f32) (d : FVec Ideal S8192x1024 .f32) (r : Fin 8192) (j : Fin 4096) : EReal :=
  (∑ k : Fin 1024, d (ix2 r k) * w (ix3 0 j k)) * Ideal.sqrt (Ideal.ofBits .f32 0x40800000#32 * act f r j)

/-- The gradient at the weight. -/
def DW (f : FVec Ideal S8192x4096 .f32) (d : FVec Ideal S8192x1024 .f32) (j : Fin 4096) (c : Fin 1024) : EReal :=
  ∑ r : Fin 8192, act f r j * d (ix2 r c)

variable (m : (ℓ : Loc nD τ sig) → Buf (Elt Ideal) ℓ)

/-- Which block each window stages at a grid point. -/
theorem blocks_at : ∀ t : Fin cfg0.N, win0_0.index t = ![t.val % 8, 0] ∧ win0_1.index t = ![t.val % 8, t.val / 8] ∧ win0_2.index t = ![t.val / 8, 0]
    ∧ win0_3.index t = ![t.val % 8, t.val / 8] ∧ win0_4.index t = ![t.val / 8, 0] :=
  (by decide +kernel : ∀ t : Fin grid0.N, _)

/-- The saved square as the host prepares it. -/
def actT (f : FVec Ideal S8192x4096 .f32) : FVec Ideal S8192x4096 .bf16 :=
  truncf .bf16 (mulf (maximumf f (broadcastInDim S8192x4096 ![] bcast_S_S8192x4096 (constant S_ .f32 0x00000000#32)))
    (maximumf f (broadcastInDim S8192x4096 ![] bcast_S_S8192x4096 (constant S_ .f32 0x00000000#32)))) bitsLt_bf16_f32

theorem V_act (c : Dev nD) (r : Fin 8192) (j : Fin 4096) :
    (V m c main_v3 : FVec Ideal S8192x4096 .bf16) (ix2 r j) = act (m ((c : Thread nD τ).loc main_arg0)) r j := by
  have e : (V m c main_v3 : FVec Ideal S8192x4096 .bf16) = actT (m ((c : Thread nD τ).loc main_arg0)) := by
    show StableHlo.after hostOps0 _ _ = _
    after_results
    rfl
  rw [e]
  pointwise [actT, act]

/-- The blocks of the three operands at a grid point, entry by entry. -/
theorem block1 (c : Dev nD) (t : Fin cfg0.N) (y : S1024x1024.Idx) (i : Fin 8192) (j : Fin 4096)
    (hi : i.val = 1024 * (t.val % 8) + (y 0 : ℕ)) (hj : j.val = 1024 * (t.val / 8) + (y 1 : ℕ)) :
    (iblk m c 1 t : FVec Ideal S1024x1024 .bf16) y = act (m ((c : Thread nD τ).loc main_arg0)) i j := by
  rw [← V_act m c i j]
  blk_point [iblk, blocks_at t]

theorem block0 (c : Dev nD) (t : Fin cfg0.N) (y : S1024x1024.Idx) (i : Fin 8192) (j : Fin 1024)
    (hi : i.val = 1024 * (t.val % 8) + (y 0 : ℕ)) (hj : j = y 1) :
    (iblk m c 0 t : FVec Ideal S1024x1024 .bf16) y = m ((c : Thread nD τ).loc main_arg2) (ix2 i j) := by
  subst hj
  blk_point [iblk, V, blocks_at t]

theorem block2 (c : Dev nD) (t : Fin cfg0.N) (y : S1024x1024.Idx) (i : Fin 4096) (j : Fin 1024)
    (hi : i.val = 1024 * (t.val / 8) + (y 0 : ℕ)) (hj : j = y 1) :
    (iblk m c 2 t : FVec Ideal S1024x1024 .bf16) y = m ((c : Thread nD τ).loc main_arg1) (ix3 0 i j) := by
  subst hj
  blk_point [iblk, V, blocks_at t]

/-- One entry of a block of the gradient at the inner value. -/
theorem cell (d a w : FVec Ideal S1024x1024 .bf16) (y : S1024x1024.Idx) :
    k0_pay4 (F := Ideal) d a w y = (∑ k : Fin 1024, d (ix2 (y 0) k) * w (ix2 (y 1) k)) * Ideal.sqrt (Ideal.ofBits .f32 0x40800000#32 * a y) := by
  pointwise [k0_pay4, k0_pay2, k0_pay3]

theorem cell_at (c : Dev nD) (t : Fin cfg0.N) (y : S1024x1024.Idx) (i : Fin 8192) (j : Fin 4096)
    (hi : i.val = 1024 * (t.val % 8) + (y 0 : ℕ)) (hj : j.val = 1024 * (t.val / 8) + (y 1 : ℕ)) :
    k0_pay4 (F := Ideal) (iblk m c 0 t) (iblk m c 1 t) (iblk m c 2 t) y
      = DF (m ((c : Thread nD τ).loc main_arg0)) (m ((c : Thread nD τ).loc main_arg1)) (m ((c : Thread nD τ).loc main_arg2)) i j := by
  rw [cell, DF, ← block1 m c t y i j hi hj]
  refine congrArg (· * _) (Finset.sum_congr rfl fun k _ => ?_)
  exact congrArg₂ (· * ·) (block0 m c t (ix2 (y 0) k) i k hi rfl) (block2 m c t (ix2 (y 1) k) j k hj rfl)

/-- What a grid point leaves in the block of the gradient at the inner value. -/
theorem point3 (c : Dev nD) (t : Fin cfg0.N) (y : S1024x1024.Idx) (i : Fin 8192) (j : Fin 4096)
    (hi : i.val = 1024 * (t.val % 8) + (y 0 : ℕ)) (hj : j.val = 1024 * (t.val / 8) + (y 1 : ℕ)) :
    (outsAt0 m c t.val t.isLt).1 y
      = DF (m ((c : Thread nD τ).loc main_arg0)) (m ((c : Thread nD τ).loc main_arg1)) (m ((c : Thread nD τ).loc main_arg2)) i j := by
  by_cases h0 : t.val % 8 = 0
  · rw [outsAt0_A m c t h0 (by omega)]; frame_out
    exact cell_at m c t y i j hi hj
  · by_cases h1 : t.val % 8 = 7
    · rw [outsAt0_C m c t h0 h1]; frame_out
      exact cell_at m c t y i j hi hj
    · rw [outsAt0_B m c t h0 h1]; frame_out
      exact cell_at m c t y i j hi hj

/-- The gradient at the inner value, after the run. -/
theorem final3 (c : Dev nD) : (dats m 0 c).arrAt 3 (cfgs 0).N
    = (fun i => DF (m ((c : Thread nD τ).loc main_arg0)) (m ((c : Thread nD τ).loc main_arg1)) (m ((c : Thread nD τ).loc main_arg2)) (i 0) (i 1)) := by
  refine (dats m 0 c).arrAt_eq_of_covers 3 _ (by decide +kernel) fun t _ y => ?_
  blk_simp
  rw [after0_3]
  refine point3 m c t y _ _ ?_ ?_
  all_goals (blk_simp [blocks_at t] <;> try omega)

/-- What a grid point adds to the running sum of the weight's gradient. -/
def part (c : Dev nD) (p : Fin cfg0.N) (y : S1024x1024.Idx) : EReal :=
  ∑ k : Fin 1024, (show FVec Ideal S1024x1024 .bf16 from iblk m c 1 p) (ix2 k (y 0)) * (show FVec Ideal S1024x1024 .bf16 from iblk m c 0 p) (ix2 k (y 1))

theorem zero_fill (y : S1024x1024.Idx) : k0_pay1 (F := Ideal) y = 0 := by pointwise [k0_pay1]

theorem grow (d a : FVec Ideal S1024x1024 .bf16) (acc : FVec Ideal S1024x1024 .f32) (y : S1024x1024.Idx) :
    k0_pay5 (F := Ideal) d a acc y = acc y + ∑ k : Fin 1024, a (ix2 k (y 0)) * d (ix2 k (y 1)) := by
  pointwise [k0_pay5, k0_pay2, k0_pay3]

theorem first (c : Dev nD) (t : Fin cfg0.N) (h : t.val % 8 = 0) (y : S1024x1024.Idx) :
    (outsAt0 m c t.val t.isLt).2.2 y = 0 + part m c t y := by
  rw [outsAt0_A m c t h (by omega)]; frame_out
  rw [grow, zero_fill]; rfl

theorem step (c : Dev nD) (t : Fin cfg0.N) (h : ¬ t.val % 8 = 0) (y : S1024x1024.Idx) :
    (outsAt0 m c t.val t.isLt).2.2 y = (outsAt0 m c (t.val - 1) (Nat.lt_of_le_of_lt (Nat.sub_le _ _) t.isLt)).2.2 y + part m c t y := by
  by_cases h1 : t.val % 8 = 7
  · rw [outsAt0_C m c t h h1]; frame_out
    rw [grow, read_unread_whole]; rfl
  · rw [outsAt0_B m c t h h1]; frame_out
    rw [grow, read_unread_whole]; rfl

/-- At a block's last point the written block is the running sum. -/
theorem last_out (c : Dev nD) (t : Fin cfg0.N) (h1 : t.val % 8 = 7) (y : S1024x1024.Idx) :
    (outsAt0 m c t.val t.isLt).2.1 y = (outsAt0 m c t.val t.isLt).2.2 y := by
  rw [outsAt0_C m c t (by omega) h1]; frame_out
  pointwise [k0_pay6]

/-- The gradient at the weight, after the run. -/
theorem final4 (c : Dev nD) : (dats m 0 c).arrAt 4 (cfgs 0).N
    = (fun i => DW (m ((c : Thread nD τ).loc main_arg0)) (m ((c : Thread nD τ).loc main_arg2)) (i 0) (i 1)) := by
  refine (dats m 0 c).arrAt_eq_of_covers 4 _ (by decide +kernel) fun t hf y => ?_
  blk_simp
  rw [after0_4, last_out m c t ((flush0_4 t).mp hf), Pipeline.eq_sum_fin_of_reset_step_apply_of_flush (fun n h => (outsAt0 m c n h).2.2) 8 (fun _ => (0 : EReal))
    (fun p y => part m c p y) (fun t h y => first m c t h y) (fun t h y => step m c t h y) t ((flush0_4 t).mp hf) _, zero_add]
  unfold DW part
  refine Fin.sum_mul_add_congr fun s k hl => ?_
  refine congrArg₂ (· * ·) (block1 m c _ _ _ _ ?_ ?_) (block0 m c _ _ _ _ ?_ ?_)
  · show s.val * 1024 + k.val = 1024 * ((8 * (t.val / 8) + s.val) % 8) + k.val
    omega
  · show _ = 1024 * ((8 * (t.val / 8) + s.val) / 8) + (y 0 : ℕ)
    blk_simp [blocks_at t]
    omega
  · show s.val * 1024 + k.val = 1024 * ((8 * (t.val / 8) + s.val) % 8) + k.val
    omega
  · refine Fin.ext ?_
    show _ = (y 1 : ℕ)
    blk_simp [blocks_at t]

end Cert.Ff2
-- ==== Proof.Ff2.RefValue.lean ====
module

public import proofs.«01_k».proof.Proof.Ff2.Spec
public import proofs.«01_k».proof.Proof.Gen.Reference2Ideal.Run

@[expose] public section

set_option maxRecDepth 16384
noncomputable section

/-! The reference's two gradients of the second feed-forward product, entry by entry. -/

namespace Cert.Ff2

open Idealize.ShloMosaic Idealize.ShloMosaic.TcCoe Idealize.SL.Sem
open Cert.Reference2Ideal Cert.Reference2Ideal.Gen

theorem four : Ideal.ofBits .f32 0x40800000#32 = ((4 : ℝ) : EReal) := by
  simp [Ideal.ofBits, Ideal.ieee]; rw [← EReal.coe_mul]; norm_num

theorem two : Ideal.ofBits .f32 0x40000000#32 = ((2 : ℝ) : EReal) := by
  simp [Ideal.ofBits, Ideal.ieee]; rw [← EReal.coe_mul]; norm_num

/-- The root of four squares is twice the positive part. -/
theorem root_act (x p : EReal) :
    p * Ideal.sqrt (Ideal.ofBits .f32 0x40800000#32 * (max x 0 * max x 0))
      = if 0 < x then p * (Ideal.ofBits .f32 0x40000000#32 * max x 0) else 0 := by
  rw [four, two]
  by_cases h : 0 < x
  · rw [if_pos h, max_eq_left h.le]
    refine congrArg (p * ·) ?_
    induction x using EReal.rec with
    | bot => exact absurd h (by simp)
    | top =>
      rw [EReal.top_mul_top, EReal.coe_mul_top_of_pos (by norm_num), EReal.coe_mul_top_of_pos (by norm_num)]
      rfl
    | coe r =>
      have hr : 0 < r := by exact_mod_cast h
      rw [← EReal.coe_mul, ← EReal.coe_mul, ← EReal.coe_mul, Ideal.sqrt_coe, if_neg (not_lt.mpr (by positivity : (0 : ℝ) ≤ 4 * (r * r)))]
      rw [show (4 : ℝ) * (r * r) = (2 * r) * (2 * r) by ring, Real.sqrt_mul_self (by positivity)]
  · rw [if_neg h, max_eq_right (not_lt.mp h)]
    rw [mul_zero, mul_zero, ← EReal.coe_zero, Ideal.sqrt_coe, if_neg (lt_irrefl 0), Real.sqrt_zero, EReal.coe_zero, mul_zero]

/-- The reference's gradient at the inner value. -/
def dfT (f : FVec Ideal S8192x4096 .f32) (w : FVec Ideal S1x4096x1024 .f32) (d : FVec Ideal S8192x1024 .f32) : FVec Ideal S8192x4096 .bf16 :=
  truncf .bf16 (select (cmpf .ogt f (broadcastInDim S8192x4096 ![] bcast_S_S8192x4096 (constant S_ .f32 0x00000000#32)))
    (mulf (Host.dotGeneral dot_S8192x1024_S4096x1024_S8192x4096_1_1_0_0_n_n none d (shapeCast _ w shapeCasts_S1x4096x1024_S4096x1024))
      (mulf (broadcastInDim S8192x4096 ![] bcast_S_S8192x4096 (constant S_ .f32 0x40000000#32))
        (maximumf f (broadcastInDim S8192x4096 ![] bcast_S_S8192x4096 (constant S_ .f32 0x00000000#32)))))
    (broadcastInDim S8192x4096 ![] bcast_S_S8192x4096 (constant S_ .f32 0x00000000#32))) bitsLt_bf16_f32

theorem dfT_at (f : FVec Ideal S8192x4096 .f32) (w : FVec Ideal S1x4096x1024 .f32) (d : FVec Ideal S8192x1024 .f32) (r : Fin 8192) (j : Fin 4096) :
    dfT f w d (ix2 r j) = DF f w d r j := by
  unfold DF act
  rw [root_act]
  pointwise [dfT]

/-- The reference's gradient at the weight. -/
def dwT (f : FVec Ideal S8192x4096 .f32) (d : FVec Ideal S8192x1024 .f32) : FVec Ideal S4096x1024 .bf16 :=
  truncf .bf16 (transpose S4096x1024 [1, 0] (Host.dotGeneral dot_S8192x1024_S8192x4096_S1024x4096_0_0_1_1_n_n none d
    (mulf (maximumf f (broadcastInDim S8192x4096 ![] bcast_S_S8192x4096 (constant S_ .f32 0x00000000#32)))
      (maximumf f (broadcastInDim S8192x4096 ![] bcast_S_S8192x4096 (constant S_ .f32 0x00000000#32))))) transposes_S1024x4096_S4096x1024_1_0) bitsLt_bf16_f32

theorem dwT_at (f : FVec Ideal S8192x4096 .f32) (d : FVec Ideal S8192x1024 .f32) (j : Fin 4096) (c : Fin 1024) :
    dwT f d (ix2 j c) = DW f d j c := by
  have e : DW f d j c = ∑ r : Fin 8192, d (ix2 r c) * act f r j := Finset.sum_congr rfl fun r _ => mul_comm _ _
  rw [e]
  pointwise [dwT, act]

end Cert.Ff2
-- ==== Proof.Ff2.Claim.lean ====
module

public import proofs.«01_k».proof.Defs
public import proofs.«01_k».proof.Proof.Ff2.RefValue
public import proofs.«01_k».proof.Proof.Gen.Kernel2.Frame
public import Idealize.ShloMosaic.Lib.Claim

@[expose] public section

set_option maxRecDepth 16384
noncomputable section

/-! The claims about the second feed-forward product's gradients: the frames and the equality of both results. -/

namespace Cert.Ff2

open Idealize.ShloMosaic Idealize.ShloMosaic.TcCoe Idealize.SL.Sem

variable (m : (ℓ : Loc Cert.Kernel2Ideal.nD Cert.Kernel2Ideal.τ Cert.Kernel2Ideal.sig) → Buf (Elt Ideal) ℓ) (c : Dev Cert.Kernel2Ideal.nD)

theorem df_final : dfT (m ((c.tc : Thread _ _).loc Cert.Kernel2Ideal.main_arg0)) (m ((c.tc : Thread _ _).loc Cert.Kernel2Ideal.main_arg1))
      (m ((c.tc : Thread _ _).loc Cert.Kernel2Ideal.main_arg2))
    = (Cert.Kernel2Ideal.Gen.dats m 0 c).arrAt 3 Cert.Kernel2Ideal.cfg0.N := by
  refine Eq.trans ?_ (final3 m c).symm
  funext i; idx_vars i
  exact dfT_at _ _ _ i0 i1

theorem dw_final : dwT (m ((c.tc : Thread _ _).loc Cert.Kernel2Ideal.main_arg0)) (m ((c.tc : Thread _ _).loc Cert.Kernel2Ideal.main_arg2))
    = (Cert.Kernel2Ideal.Gen.dats m 0 c).arrAt 4 Cert.Kernel2Ideal.cfg0.N := by
  refine Eq.trans ?_ (final4 m c).symm
  funext i; idx_vars i
  exact dwT_at _ _ i0 i1

theorem frame : Cert.quiescent_Kernel2 := fun m ρ _ => Cert.Kernel2.Gen.frame m ρ

theorem frameIdeal : Cert.quiescent_Kernel2Ideal := fun m ρ _ => Cert.Kernel2Ideal.Gen.frame m ρ

theorem frameReference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem value : Cert.algebraic_Kernel2Ideal_Reference2Ideal := by
  pair_intro
  · run_from Cert.Kernel2Ideal.Value.run_blocks m g
  · run_from Cert.Reference2Ideal.Value.run m' g'
    · obtain ⟨h0, h1, h2⟩ := hagree c
      refine Eq.trans ?_ (df_final m c)
      rw [← h0, ← h1, ← h2]
      rfl
    · obtain ⟨h0, h1, h2⟩ := hagree c
      refine Eq.trans ?_ (dw_final m c)
      rw [← h0, ← h2]
      rfl

end Cert.Ff2
-- ==== Proof.Mlp.Spec.lean ====
module

public import proofs.«01_k».proof.Proof.Gen.Kernel3Ideal.Value
public import proofs.«01_k».proof.Proof.Inproj.Norm
public import Idealize.ShloMosaic.Lib.Pipeline.ValueKit
public import Idealize.ShloMosaic.Lib.Pipeline.ReadBack

@[expose] public section

set_option maxRecDepth 16384
noncomputable section

/-! The feed-forward with its loss as functions of the arguments, in the order in which the kernel computes them, and each stored value of the
kernel's body as a function of the values it is computed from. -/

namespace Cert.Mlp

open Idealize.ShloMosaic Idealize.ShloMosaic.TcCoe Idealize.SL.Sem
open Cert.Kernel3Ideal Cert.Kernel3Ideal.Gen

/-- The reciprocal root of a row's mean square. -/
def rs (u : Fin 1024 → EReal) : EReal :=
  Ideal.rsqrt (Ideal.div (∑ k, u k * u k) (Ideal.ofBits .f32 0x44800000#32) + Ideal.ofBits .f32 0x358637BD#32)

/-- The square of the positive part. -/
def sqp (s : EReal) : EReal := max s 0 * max s 0

/-- The error of a row at an entry: the row plus the normed row of the feed-forward, less the target. -/
def er (x mm t : Fin 1024 → EReal) (g : Fin 1024 → EReal) (j : Fin 1024) : EReal := x j + mm j * rs mm * g j - t j

/-- The gradient at the layer's output. -/
def dyr (x mm t g : Fin 1024 → EReal) (j : Fin 1024) : EReal := er x mm t g j * Ideal.ofBits .f32 0x3A800000#32

/-- The gradient at the feed-forward's output: the norm's gradient. -/
def dmr (x mm t g : Fin 1024 → EReal) (j : Fin 1024) : EReal :=
  rs mm * (dyr x mm t g j * g j) - mm j * (rs mm * rs mm * rs mm
    * Ideal.div (∑ k, dyr x mm t g k * g k * mm k) (Ideal.ofBits .f32 0x44800000#32))

/-- A row's share of the gradient at the second gain. -/
def dgr (x mm t g : Fin 1024 → EReal) (j : Fin 1024) : EReal := dyr x mm t g j * mm j * rs mm

/-- A row of a block, and the one row of a gain. -/
abbrev row {n p : ℕ} (v : Shape.Idx ⟨2, ![n, p]⟩ → EReal) (r : Fin n) : Fin p → EReal := fun k => v (ix2 r k)

/-- The first norm, in the upper and the lower half of a block. -/
theorem norm_up (x : FVec Ideal S256x1024 .f32) (g : FVec Ideal S1x1024 .f32) (y : S256x1024.Idx) :
    k0_pay6 (F := Ideal) x g y = x y * rs (row x (y 0)) * g (ix2 0 (y 1)) := by
  pointwise [k0_pay6, rs, row]

theorem norm_low (x : FVec Ideal S256x1024 .f32) (g : FVec Ideal S1x1024 .f32) (y : S256x1024.Idx) :
    k0_pay29 (F := Ideal) x g y = x y * rs (row x (y 0)) * g (ix2 0 (y 1)) := by
  pointwise [k0_pay29, rs, row]

/-- The squared positive part of a product with one piece of the first weight. -/
def piece (h : FVec Ideal S256x1024 .bf16) (w : FVec Ideal S1x1024x512 .bf16) (y : S256x512.Idx) : EReal :=
  sqp (∑ k : Fin 1024, h (ix2 (y 0) k) * w (ix3 0 k (y 1)))

section
variable (x : FVec Ideal S256x1024 .f32) (g : FVec Ideal S1x1024 .f32) (h : FVec Ideal S256x1024 .bf16) (w : FVec Ideal S1x1024x512 .bf16) (y : S256x512.Idx)
theorem piece7 : k0_pay7 (F := Ideal) x g w y = piece (k0_pay6 (F := Ideal) x g) w y := by pointwise [k0_pay7, piece, sqp]
theorem piece9 : k0_pay9 (F := Ideal) (k0_pay8 (F := Ideal) x g w) (Scalar.ofBits .f32 0x00000000#32) y = piece (k0_pay6 (F := Ideal) x g) w y := by
  pointwise [k0_pay9, k0_pay8, piece, sqp]
theorem piece10 : k0_pay10 (F := Ideal) h w y = piece h w y := by pointwise [k0_pay10, piece, sqp]
theorem piece11 : k0_pay11 (F := Ideal) h w y = piece h w y := by pointwise [k0_pay11, piece, sqp]
theorem piece12 : k0_pay12 (F := Ideal) h w y = piece h w y := by pointwise [k0_pay12, piece, sqp]
theorem piece13 : k0_pay13 (F := Ideal) h w y = piece h w y := by pointwise [k0_pay13, piece, sqp]
theorem piece14 : k0_pay14 (F := Ideal) h w y = piece h w y := by pointwise [k0_pay14, piece, sqp]
theorem piece15 : k0_pay15 (F := Ideal) h w y = piece h w y := by pointwise [k0_pay15, piece, sqp]
theorem piece32 : k0_pay32 (F := Ideal) (k0_pay30 (F := Ideal) x g w) (k0_pay31 (F := Ideal)) y = piece (k0_pay29 (F := Ideal) x g) w y := by
  pointwise [k0_pay32, k0_pay30, k0_pay31, piece, sqp]
theorem piece33 : k0_pay33 (F := Ideal) h w y = piece h w y := by pointwise [k0_pay33, piece, sqp]
theorem piece34 : k0_pay34 (F := Ideal) h w y = piece h w y := by pointwise [k0_pay34, piece, sqp]
theorem piece35 : k0_pay35 (F := Ideal) h w y = piece h w y := by pointwise [k0_pay35, piece, sqp]
theorem piece37 : k0_pay37 (F := Ideal) h (k0_pay36 (F := Ideal) w) y = piece h w y := by pointwise [k0_pay37, k0_pay36, piece, sqp]
theorem piece38 : k0_pay38 (F := Ideal) h w y = piece h w y := by pointwise [k0_pay38, piece, sqp]
theorem piece39 : k0_pay39 (F := Ideal) h w y = piece h w y := by pointwise [k0_pay39, piece, sqp]
theorem piece40 : k0_pay40 (F := Ideal) h w y = piece h w y := by pointwise [k0_pay40, piece, sqp]
end

/-- The second product. -/
theorem prod_up (a : FVec Ideal S256x4096 .bf16) (w : FVec Ideal S4096x1024 .bf16) (y : S256x1024.Idx) :
    k0_pay16 (F := Ideal) a w y = ∑ k : Fin 4096, a (ix2 (y 0) k) * w (ix2 k (y 1)) := by pointwise [k0_pay16]

theorem prod_low (a : FVec Ideal S256x4096 .bf16) (w : FVec Ideal S4096x1024 .bf16) (y : S256x1024.Idx) :
    k0_pay41 (F := Ideal) a w y = ∑ k : Fin 4096, a (ix2 (y 0) k) * w (ix2 k (y 1)) := by pointwise [k0_pay41]

section
variable (a : FVec Ideal S256x4096 .bf16) (w : FVec Ideal S4096x1024 .bf16) (x t : FVec Ideal S256x1024 .f32) (g : FVec Ideal S1x1024 .f32)

theorem sq_up (r : S256.Idx) : k0_pay17 (F := Ideal) a w r = ∑ k : Fin 1024, k0_pay16 (F := Ideal) a w (ix2 (r 0) k) * k0_pay16 (F := Ideal) a w (ix2 (r 0) k) := by
  pointwise [k0_pay17]

theorem er_up (v : FVec Ideal S256x1024 .f32) (s : FVec Ideal S256 .f32) (hs : ∀ r : Fin 256, s (ix1 r) = ∑ k : Fin 1024, v (ix2 r k) * v (ix2 r k)) (i : Fin 256) (j : Fin 1024) :
    k0_pay18 (F := Ideal) g v x s t (ix2 i j) = er (row x i) (row v i) (row t i) (row g 0) j := by
  pointwise [k0_pay18, er, rs, row]
  rw [hs]

theorem er_low (i : Fin 256) (j : Fin 1024) :
    k0_pay42 (F := Ideal) g a w x t (ix2 i j) = er (row x i) (row (k0_pay41 (F := Ideal) a w) i) (row t i) (row g 0) j := by
  pointwise [k0_pay42, er, rs, row]

theorem dy_up (v : FVec Ideal S256x1024 .f32) (s : FVec Ideal S256 .f32) (hs : ∀ r : Fin 256, s (ix1 r) = ∑ k : Fin 1024, v (ix2 r k) * v (ix2 r k)) (i : Fin 256) (j : Fin 1024) :
    k0_pay20 (F := Ideal) g v x s t (ix2 i j) = dyr (row x i) (row v i) (row t i) (row g 0) j := by
  rw [dyr, ← er_up x t g v s hs]; pointwise [k0_pay20]

theorem dy_low (i : Fin 256) (j : Fin 1024) :
    k0_pay44 (F := Ideal) g a w x t (ix2 i j) = dyr (row x i) (row (k0_pay41 (F := Ideal) a w) i) (row t i) (row g 0) j := by
  rw [dyr, ← er_low]; pointwise [k0_pay44]

theorem rs_up (v : FVec Ideal S256x1024 .f32) (r : Fin 256) : k0_pay21 (F := Ideal) v (ix2 r 0) = rs (row v r) := by
  pointwise [k0_pay21, rs, row]

theorem rs_low (r : Fin 256) : k0_pay1 (F := Ideal) (k0_pay45 (F := Ideal) a w) (Scalar.ofBits .f32 0x358637BD#32) (ix2 r 0) = rs (row (k0_pay41 (F := Ideal) a w) r) := by
  pointwise [k0_pay1, k0_pay45, rs, row]

theorem dm_up (v : FVec Ideal S256x1024 .f32) (s : FVec Ideal S256 .f32) (hs : ∀ r : Fin 256, s (ix1 r) = ∑ k : Fin 1024, v (ix2 r k) * v (ix2 r k)) (i : Fin 256) (j : Fin 1024) :
    k0_pay27 (F := Ideal) v (k0_pay23 (F := Ideal) g v x s t) (k0_pay24 (F := Ideal) v) (k0_pay25 (F := Ideal) g v x s t) (k0_pay26 (F := Ideal)) (ix2 i j)
      = dmr (row x i) (row v i) (row t i) (row g 0) j := by
  have hd : ∀ k : Fin 1024, k0_pay20 (F := Ideal) g v x s t (ix2 i k) = dyr (row x i) (row v i) (row t i) (row g 0) k :=
    fun k => dy_up x t g v s hs i k
  have hr := rs_up v i
  rw [dmr, ← hr]
  simp only [← hd]
  pointwise [k0_pay27, k0_pay23, k0_pay24, k0_pay25, k0_pay26, k0_pay22, row]

theorem dm_low (i : Fin 256) (j : Fin 1024) :
    k0_pay2 (F := Ideal) g (k0_pay41 (F := Ideal) a w) (k0_pay44 (F := Ideal) g a w x t) (k0_pay45 (F := Ideal) a w) (Scalar.ofBits .f32 0x358637BD#32) (ix2 i j)
      = dmr (row x i) (row (k0_pay41 (F := Ideal) a w) i) (row t i) (row g 0) j := by
  have hd : ∀ k : Fin 1024, k0_pay44 (F := Ideal) g a w x t (ix2 i k)
      = dyr (row x i) (row (k0_pay41 (F := Ideal) a w) i) (row t i) (row g 0) k :=
    fun k => dy_low a w x t g i k
  have hr := rs_low a w i
  rw [dmr, ← hr]
  simp only [← hd]
  pointwise [k0_pay2, row]

theorem dg_up (v : FVec Ideal S256x1024 .f32) (s : FVec Ideal S256 .f32) (hs : ∀ r : Fin 256, s (ix1 r) = ∑ k : Fin 1024, v (ix2 r k) * v (ix2 r k))
    (acc : FVec Ideal S1x1024 .f32) (j : Fin 1024) :
    k0_pay28 (F := Ideal) v (k0_pay20 (F := Ideal) g v x s t) (k0_pay21 (F := Ideal) v) acc (ix2 0 j)
      = acc (ix2 0 j) + ∑ r : Fin 256, dgr (row x r) (row v r) (row t r) (row g 0) j := by
  have hd : ∀ r : Fin 256, dgr (row x r) (row v r) (row t r) (row g 0) j
      = k0_pay20 (F := Ideal) g v x s t (ix2 r j) * v (ix2 r j) * k0_pay21 (F := Ideal) v (ix2 r 0) := fun r => by
    rw [dgr, rs_up, dy_up x t g v s hs r j]
  simp only [hd]
  pointwise [k0_pay28]

theorem dg_low (acc : FVec Ideal S1x1024 .f32) (j : Fin 1024) :
    k0_pay3 (F := Ideal) (k0_pay41 (F := Ideal) a w) (k0_pay44 (F := Ideal) g a w x t) (k0_pay45 (F := Ideal) a w) (Scalar.ofBits .f32 0x358637BD#32) acc (ix2 0 j)
      = acc (ix2 0 j) + ∑ r : Fin 256, dgr (row x r) (row (k0_pay41 (F := Ideal) a w) r) (row t r) (row g 0) j := by
  have hd : ∀ r : Fin 256, dgr (row x r) (row (k0_pay41 (F := Ideal) a w) r) (row t r) (row g 0) j
      = k0_pay44 (F := Ideal) g a w x t (ix2 r j) * k0_pay41 (F := Ideal) a w (ix2 r j)
        * k0_pay1 (F := Ideal) (k0_pay45 (F := Ideal) a w) (Scalar.ofBits .f32 0x358637BD#32) (ix2 r 0) := fun r => by
    rw [dgr, rs_low, dy_low a w x t g r j]
  simp only [hd]
  pointwise [k0_pay3]

theorem ls_up (v : FVec Ideal S256x1024 .f32) (s : FVec Ideal S256 .f32) (hs : ∀ r : Fin 256, s (ix1 r) = ∑ k : Fin 1024, v (ix2 r k) * v (ix2 r k))
    (acc : FVec Ideal S1x1024 .f32) (j : Fin 1024) :
    k0_pay19 (F := Ideal) g v x s t acc (ix2 0 j)
      = acc (ix2 0 j) + ∑ r : Fin 256, er (row x r) (row v r) (row t r) (row g 0) j * er (row x r) (row v r) (row t r) (row g 0) j := by
  have hd : ∀ r : Fin 256, er (row x r) (row v r) (row t r) (row g 0) j = k0_pay18 (F := Ideal) g v x s t (ix2 r j) :=
    fun r => (er_up x t g v s hs r j).symm
  simp only [hd]
  pointwise [k0_pay19]

theorem ls_low (acc : FVec Ideal S1x1024 .f32) (j : Fin 1024) :
    k0_pay43 (F := Ideal) g a w x t acc (ix2 0 j)
      = acc (ix2 0 j) + ∑ r : Fin 256, er (row x r) (row (k0_pay41 (F := Ideal) a w) r) (row t r) (row g 0) j
        * er (row x r) (row (k0_pay41 (F := Ideal) a w) r) (row t r) (row g 0) j := by
  have hd : ∀ r : Fin 256, er (row x r) (row (k0_pay41 (F := Ideal) a w) r) (row t r) (row g 0) j = k0_pay42 (F := Ideal) g a w x t (ix2 r j) :=
    fun r => (er_low a w x t g r j).symm
  simp only [hd]
  pointwise [k0_pay43]

theorem zero_dg (y : S1x1024.Idx) : k0_pay4 (F := Ideal) y = 0 := by pointwise [k0_pay4]
theorem zero_ls (y : S1x1024.Idx) : k0_pay5 (F := Ideal) y = 0 := by pointwise [k0_pay5]

end

end Cert.Mlp
-- ==== Proof.Mlp.Blocks.lean ====
module

public import proofs.«01_k».proof.Proof.Mlp.Spec

@[expose] public section

set_option maxRecDepth 16384
noncomputable section

/-! The blocks a grid point of the feed-forward's kernel reads, entry by entry, and the squared positive parts it stores and reads back. -/

namespace Cert.Mlp

open Idealize.ShloMosaic Idealize.ShloMosaic.TcCoe Idealize.SL.Sem
open Cert.Kernel3Ideal Cert.Kernel3Ideal.Gen
open Idealize.ShloMosaic.Pipeline (Dat)

/-- The normed rows, the squared positive parts and the feed-forward's output, of whole arrays. -/
def H (x : FVec Ideal S8192x1024 .f32) (g : FVec Ideal S1x1024 .f32) (r : Fin 8192) (k : Fin 1024) : EReal :=
  x (ix2 r k) * rs (row x r) * g (ix2 0 k)

def A (x : FVec Ideal S8192x1024 .f32) (g : FVec Ideal S1x1024 .f32) (w : FVec Ideal S1x1024x4096 .f32) (r : Fin 8192) (j : Fin 4096) : EReal :=
  sqp (∑ k : Fin 1024, H x g r k * w (ix3 0 k j))

def MM (x : FVec Ideal S8192x1024 .f32) (g : FVec Ideal S1x1024 .f32) (w : FVec Ideal S1x1024x4096 .f32) (w2 : FVec Ideal S1x4096x1024 .f32)
    (r : Fin 8192) (d : Fin 1024) : EReal :=
  ∑ j : Fin 4096, A x g w r j * w2 (ix3 0 j d)

variable (m : (ℓ : Loc nD τ sig) → Buf (Elt Ideal) ℓ) (c : Dev nD)

abbrev X : FVec Ideal S8192x1024 .f32 := m ((c : Thread nD τ).loc main_arg0)
abbrev T : FVec Ideal S8192x1024 .f32 := m ((c : Thread nD τ).loc main_arg1)
abbrev G3 : FVec Ideal S1x1024 .f32 := m ((c : Thread nD τ).loc main_arg2)
abbrev G4 : FVec Ideal S1x1024 .f32 := m ((c : Thread nD τ).loc main_arg3)
abbrev W1 : FVec Ideal S1x1024x4096 .f32 := m ((c : Thread nD τ).loc main_arg4)
abbrev W2 : FVec Ideal S1x4096x1024 .f32 := m ((c : Thread nD τ).loc main_arg5)

/-- Which block each window stages at a grid point. -/
theorem blocks_at : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The first weight in eight pieces of columns, as the host prepares it. -/
def w1T (w : FVec Ideal S1x1024x4096 .f32) : FVec Ideal S8x1024x512 .bf16 :=
  truncf .bf16 (transpose S8x1024x512 [1, 0, 2] (shapeCast S1024x8x512 (shapeCast S1024x4096 w shapeCasts_S1x1024x4096_S1024x4096)
    shapeCasts_S1024x4096_S1024x8x512) transposes_S1024x8x512_S8x1024x512_1_0_2) bitsLt_bf16_f32

def w2T (w : FVec Ideal S1x4096x1024 .f32) : FVec Ideal S4096x1024 .bf16 :=
  truncf .bf16 (shapeCast S4096x1024 w shapeCasts_S1x4096x1024_S4096x1024) bitsLt_bf16_f32

theorem w1T_at (w : FVec Ideal S1x1024x4096 .f32) (s : Fin 8) (k : Fin 1024) (j : Fin 512) :
    w1T w (ix3 s k j) = w (ix3 0 k ⟨512 * s.val + j.val, by omega⟩) := by
  pointwise [w1T]
  exact congrArg w (congrArg (ix3 0 k) (Fin.ext (by simp [mul_comm])))

theorem w2T_at (w : FVec Ideal S1x4096x1024 .f32) (j : Fin 4096) (d : Fin 1024) : w2T w (ix2 j d) = w (ix3 0 j d) := by
  pointwise [w2T]

theorem V_w1 : (V m c main_v3 : FVec Ideal S8x1024x512 .bf16) = w1T (W1 m c) := by
  show StableHlo.after hostOps0 _ _ = _
  after_results
  rfl

theorem V_w2 : (V m c main_v5 : FVec Ideal S4096x1024 .bf16) = w2T (W2 m c) := by
  show StableHlo.after hostOps0 _ _ = _
  after_results
  rfl

variable (t : Fin cfg0.N)

theorem block0 (y : S512x1024.Idx) (i : Fin 8192) (j : Fin 1024) (hi : i.val = 512 * t.val + (y 0 : ℕ)) (hj : j.val = (y 1 : ℕ)) :
    (iblk m c 0 t : FVec Ideal S512x1024 .f32) y = X m c (ix2 i j) := by
  blk_point [iblk, V, blocks_at t]

theorem block1 (y : S512x1024.Idx) (i : Fin 8192) (j : Fin 1024) (hi : i.val = 512 * t.val + (y 0 : ℕ)) (hj : j.val = (y 1 : ℕ)) :
    (iblk m c 1 t : FVec Ideal S512x1024 .f32) y = T m c (ix2 i j) := by
  blk_point [iblk, V, blocks_at t]

theorem block2 : (iblk m c 2 t : FVec Ideal S1x1024 .f32) = G3 m c := by
  funext y; idx_vars y
  blk_point [iblk, V, blocks_at t]

theorem block3 : (iblk m c 3 t : FVec Ideal S1x1024 .f32) = G4 m c := by
  funext y; idx_vars y
  blk_point [iblk, V, blocks_at t]

theorem block4 (s : Fin 8) (k : Fin 1024) (j : Fin 512) (y : S8x1024x512.Idx) (h0 : s.val = (y 0 : ℕ)) (h1 : k.val = (y 1 : ℕ)) (h2 : j.val = (y 2 : ℕ)) :
    (iblk m c 4 t : FVec Ideal S8x1024x512 .bf16) y = W1 m c (ix3 0 k ⟨512 * s.val + j.val, by omega⟩) := by
  rw [← w1T_at (W1 m c) s k j, ← V_w1]
  blk_point [iblk, blocks_at t]

theorem block5 (j : Fin 4096) (d : Fin 1024) : (iblk m c 5 t : FVec Ideal S4096x1024 .bf16) (ix2 j d) = W2 m c (ix3 0 j d) := by
  rw [← w2T_at (W2 m c) j d, ← V_w2]
  blk_point [iblk, blocks_at t]

/-- A half of a block of rows, read through its rectangle. -/
theorem half0 (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) :
    View.ld (iblk m c 0 t : FVec Ideal S512x1024 .f32) (Rect.unit ![o, 0] ![256, 1024] inb) (ix2 r k) = X m c (ix2 i k) := by
  refine block0 m c t _ i k ?_ ?_
  · show i.val = 512 * t.val + (o + 1 * r.val)
    omega
  · show k.val = 0 + 1 * k.val
    omega

theorem half1 (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) :
    View.ld (iblk m c 1 t : FVec Ideal S512x1024 .f32) (Rect.unit ![o, 0] ![256, 1024] inb) (ix2 r k) = T m c (ix2 i k) := by
  refine block1 m c t _ i k ?_ ?_
  · show i.val = 512 * t.val + (o + 1 * r.val)
    omega
  · show k.val = 0 + 1 * k.val
    omega

theorem slab4 (s : ℕ) (inb : ∀ a, (![s, 0, 0] : Fin 3 → ℕ) a + (![1, 1024, 512] : Fin 3 → ℕ) a ≤ S8x1024x512.size a) (k : Fin 1024) (j : Fin 512)
    (j' : Fin 4096) (hj : j'.val = 512 * s + j.val) :
    View.ld (iblk m c 4 t : FVec Ideal S8x1024x512 .bf16) (Rect.unit ![s, 0, 0] ![1, 1024, 512] inb) (ix3 0 k j) = W1 m c (ix3 0 k j') := by
  have hs : s < 8 := by have := inb 0; simpa using this
  rw [show j' = ⟨512 * (⟨s, hs⟩ : Fin 8).val + j.val, by simp; omega⟩ from Fin.ext hj]
  refine block4 m c t ⟨s, hs⟩ k j _ ?_ ?_ ?_
  · show s = s + 1 * 0
    omega
  · show k.val = 0 + 1 * k.val
    omega
  · show j.val = 0 + 1 * j.val
    omega

end Cert.Mlp
-- ==== Proof.Mlp.Points.lean ====
module

public import proofs.«01_k».proof.Proof.Mlp.Blocks

@[expose] public section

set_option maxRecDepth 16384
noncomputable section

/-! What a grid point of the feed-forward's kernel stores: the normed rows and the squared positive parts. -/

namespace Cert.Mlp

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ) (c : Dev nD) (t : Fin cfg0.N)

/-- The upper and the lower half of the block of rows and of the block of targets, and their normed rows. -/
abbrev xUp : FVec Ideal S256x1024 .f32 := View.ld (iblk m c 0 t) (Rect.unit ![0, 0] ![256, 1024] inb_S512x1024_S256x1024_0_0)
abbrev xLow : FVec Ideal S256x1024 .f32 := View.ld (iblk m c 0 t) (Rect.unit ![256, 0] ![256, 1024] inb_S512x1024_S256x1024_256_0)
abbrev tUp : FVec Ideal S256x1024 .f32 := View.ld (iblk m c 1 t) (Rect.unit ![0, 0] ![256, 1024] inb_S512x1024_S256x1024_0_0)
abbrev tLow : FVec Ideal S256x1024 .f32 := View.ld (iblk m c 1 t) (Rect.unit ![256, 0] ![256, 1024] inb_S512x1024_S256x1024_256_0)
abbrev hUp : FVec Ideal S256x1024 .bf16 := k0_pay6 (F := Ideal) (xUp m c t) (iblk m c 2 t)
abbrev hLow : FVec Ideal S256x1024 .bf16 := k0_pay29 (F := Ideal) (xLow m c t) (iblk m c 2 t)

theorem hUp_at (x : S256x1024.Idx) (i : Fin 8192) (k : Fin 1024) (hi : i.val = 512 * t.val + (0 + (x 0 : ℕ))) (hk : k.val = (x 1 : ℕ)) :
    hUp m c t x = H (X m c) (G3 m c) i k := by
  idx_vars x
  obtain rfl : k = x1 := Fin.ext hk
  rw [show hUp m c t (ix2 x0 k) = _ from norm_up _ _ _, H, block2]
  rw [show row (xUp m c t) ((ix2 x0 k : S256x1024.Idx) 0) = row (X m c) i from funext fun k => half0 m c t 0 _ _ k i hi]
  rw [show xUp m c t (ix2 x0 k) = X m c (ix2 i k) from half0 m c t 0 _ _ k i hi]
  rfl

theorem hLow_at (x : S256x1024.Idx) (i : Fin 8192) (k : Fin 1024) (hi : i.val = 512 * t.val + (256 + (x 0 : ℕ))) (hk : k.val = (x 1 : ℕ)) :
    hLow m c t x = H (X m c) (G3 m c) i k := by
  idx_vars x
  obtain rfl : k = x1 := Fin.ext hk
  rw [show hLow m c t (ix2 x0 k) = _ from norm_low _ _ _, H, block2]
  rw [show row (xLow m c t) ((ix2 x0 k : S256x1024.Idx) 0) = row (X m c) i from funext fun k => half0 m c t 256 _ _ k i hi]
  rw [show xLow m c t (ix2 x0 k) = X m c (ix2 i k) from half0 m c t 256 _ _ k i hi]
  rfl

/-- The normed rows a grid point leaves. -/
theorem point6 (y : S512x1024.Idx) (i : Fin 8192) (k : Fin 1024) (hi : i.val = 512 * t.val + (y 0 : ℕ)) (hk : k.val = (y 1 : ℕ)) :
    (outsAt0 m c t.val t.isLt).1 y = H (X m c) (G3 m c) i k := by
  by_cases h : t.val % 16 = 0
  · rw [outsAt0_A m c t h]; frame_out
    canon_tiles x hx
    · exact hLow_at m c t x i k (by omega) (by omega)
    · exact hUp_at m c t x i k (by omega) (by omega)
  · rw [outsAt0_B m c t h]; frame_out
    canon_tiles x hx
    · exact hLow_at m c t x i k (by omega) (by omega)
    · exact hUp_at m c t x i k (by omega) (by omega)

/-- One piece of the squared positive parts. -/
theorem piece_at (h : FVec Ideal S256x1024 .bf16) (o : ℕ)
    (hh : ∀ (x : S256x1024.Idx) (i : Fin 8192) (k : Fin 1024), i.val = 512 * t.val + (o + (x 0 : ℕ)) → k.val = (x 1 : ℕ) → h x = H (X m c) (G3 m c) i k)
    (s : ℕ) (inb : ∀ a, (![s, 0, 0] : Fin 3 → ℕ) a + (![1, 1024, 512] : Fin 3 → ℕ) a ≤ S8x1024x512.size a)
    (x : S256x512.Idx) (i : Fin 8192) (j : Fin 4096) (hi : i.val = 512 * t.val + (o + (x 0 : ℕ))) (hj : j.val = 512 * s + (x 1 : ℕ)) :
    piece h (View.ld (iblk m c 4 t : FVec Ideal S8x1024x512 .bf16) (Rect.unit ![s, 0, 0] ![1, 1024, 512] inb)) x = A (X m c) (G3 m c) (W1 m c) i j := by
  unfold piece A
  refine congrArg sqp (Finset.sum_congr rfl fun k _ => ?_)
  exact congrArg₂ (· * ·) (hh (ix2 (x 0) k) i k hi rfl) (slab4 m c t s inb k (x 1) j hj)

/-- A piece of the first weight in the grid point's block. -/
abbrev slab (s : ℕ) (inb : ∀ a, (![s, 0, 0] : Fin 3 → ℕ) a + (![1, 1024, 512] : Fin 3 → ℕ) a ≤ S8x1024x512.size a) : FVec Ideal S1x1024x512 .bf16 :=
  View.ld (iblk m c 4 t : FVec Ideal S8x1024x512 .bf16) (Rect.unit ![s, 0, 0] ![1, 1024, 512] inb)

/-- The eight stores of the upper half, the newest first. -/
abbrev storesUp : List (View.Piece (Elt Ideal) S512x4096 .bf16) :=
  [⟨Rect.unit ![0, 3584] ![256, 512] inb_S512x4096_S256x512_0_3584, k0_pay15 (F := Ideal) (hUp m c t) (slab m c t 7 inb_S8x1024x512_S1x1024x512_7_0_0)⟩,
   ⟨Rect.unit ![0, 3072] ![256, 512] inb_S512x4096_S256x512_0_3072, k0_pay14 (F := Ideal) (hUp m c t) (slab m c t 6 inb_S8x1024x512_S1x1024x512_6_0_0)⟩,
   ⟨Rect.unit ![0, 2560] ![256, 512] inb_S512x4096_S256x512_0_2560, k0_pay13 (F := Ideal) (hUp m c t) (slab m c t 5 inb_S8x1024x512_S1x1024x512_5_0_0)⟩,
   ⟨Rect.unit ![0, 2048] ![256, 512] inb_S512x4096_S256x512_0_2048, k0_pay12 (F := Ideal) (hUp m c t) (slab m c t 4 inb_S8x1024x512_S1x1024x512_4_0_0)⟩,
   ⟨Rect.unit ![0, 1536] ![256, 512] inb_S512x4096_S256x512_0_1536, k0_pay11 (F := Ideal) (hUp m c t) (slab m c t 3 inb_S8x1024x512_S1x1024x512_3_0_0)⟩,
   ⟨Rect.unit ![0, 1024] ![256, 512] inb_S512x4096_S256x512_0_1024, k0_pay10 (F := Ideal) (hUp m c t) (slab m c t 2 inb_S8x1024x512_S1x1024x512_2_0_0)⟩,
   ⟨Rect.unit ![0, 512] ![256, 512] inb_S512x4096_S256x512_0_512,
      k0_pay9 (F := Ideal) (k0_pay8 (F := Ideal) (xUp m c t) (iblk m c 2 t) (slab m c t 1 inb_S8x1024x512_S1x1024x512_1_0_0)) (FloatOps.ofBits .f32 0#32)⟩,
   ⟨Rect.unit ![0, 0] ![256, 512] inb_S512x4096_S256x512_0_0,
      k0_pay7 (F := Ideal) (xUp m c t) (iblk m c 2 t) (slab m c t 0 inb_S8x1024x512_S1x1024x512_0_0_0)⟩]

/-- The sixteen stores of both halves. -/
abbrev storesLow : List (View.Piece (Elt Ideal) S512x4096 .bf16) :=
  ⟨Rect.unit ![256, 3584] ![256, 512] inb_S512x4096_S256x512_256_3584, k0_pay40 (F := Ideal) (hLow m c t) (slab m c t 7 inb_S8x1024x512_S1x1024x512_7_0_0)⟩
  :: ⟨Rect.unit ![256, 3072] ![256, 512] inb_S512x4096_S256x512_256_3072, k0_pay39 (F := Ideal) (hLow m c t) (slab m c t 6 inb_S8x1024x512_S1x1024x512_6_0_0)⟩
  :: ⟨Rect.unit ![256, 2560] ![256, 512] inb_S512x4096_S256x512_256_2560, k0_pay38 (F := Ideal) (hLow m c t) (slab m c t 5 inb_S8x1024x512_S1x1024x512_5_0_0)⟩
  :: ⟨Rect.unit ![256, 2048] ![256, 512] inb_S512x4096_S256x512_256_2048,
      k0_pay37 (F := Ideal) (hLow m c t) (k0_pay36 (F := Ideal) (slab m c t 4 inb_S8x1024x512_S1x1024x512_4_0_0))⟩
  :: ⟨Rect.unit ![256, 1536] ![256, 512] inb_S512x4096_S256x512_256_1536, k0_pay35 (F := Ideal) (hLow m c t) (slab m c t 3 inb_S8x1024x512_S1x1024x512_3_0_0)⟩
  :: ⟨Rect.unit ![256, 1024] ![256, 512] inb_S512x4096_S256x512_256_1024, k0_pay34 (F := Ideal) (hLow m c t) (slab m c t 2 inb_S8x1024x512_S1x1024x512_2_0_0)⟩
  :: ⟨Rect.unit ![256, 512] ![256, 512] inb_S512x4096_S256x512_256_512, k0_pay33 (F := Ideal) (hLow m c t) (slab m c t 1 inb_S8x1024x512_S1x1024x512_1_0_0)⟩
  :: ⟨Rect.unit ![256, 0] ![256, 512] inb_S512x4096_S256x512_256_0,
      k0_pay32 (F := Ideal) (k0_pay30 (F := Ideal) (xLow m c t) (iblk m c 2 t) (slab m c t 0 inb_S8x1024x512_S1x1024x512_0_0_0)) (k0_pay31 (F := Ideal))⟩
  :: storesUp m c t

/-- The sixteen stores leave the squared positive parts. -/
theorem canonLow (y : S512x4096.Idx) (i : Fin 8192) (j : Fin 4096) (hi : i.val = 512 * t.val + (y 0 : ℕ)) (hj : j.val = (y 1 : ℕ)) :
    View.canon (storesLow m c t) y = A (X m c) (G3 m c) (W1 m c) i j := by
  canon_tiles x hx
  · exact (piece40 _ _ _).trans (piece_at m c t _ 256 (hLow_at m c t) _ _ x i j (by omega) (by omega))
  · exact (piece39 _ _ _).trans (piece_at m c t _ 256 (hLow_at m c t) _ _ x i j (by omega) (by omega))
  · exact (piece38 _ _ _).trans (piece_at m c t _ 256 (hLow_at m c t) _ _ x i j (by omega) (by omega))
  · exact (piece37 _ _ _).trans (piece_at m c t _ 256 (hLow_at m c t) _ _ x i j (by omega) (by omega))
  · exact (piece35 _ _ _).trans (piece_at m c t _ 256 (hLow_at m c t) _ _ x i j (by omega) (by omega))
  · exact (piece34 _ _ _).trans (piece_at m c t _ 256 (hLow_at m c t) _ _ x i j (by omega) (by omega))
  · exact (piece33 _ _ _).trans (piece_at m c t _ 256 (hLow_at m c t) _ _ x i j (by omega) (by omega))
  · exact (piece32 _ _ _ _).trans (piece_at m c t _ 256 (hLow_at m c t) _ _ x i j (by omega) (by omega))
  · exact (piece15 _ _ _).trans (piece_at m c t _ 0 (hUp_at m c t) _ _ x i j (by omega) (by omega))
  · exact (piece14 _ _ _).trans (piece_at m c t _ 0 (hUp_at m c t) _ _ x i j (by omega) (by omega))
  · exact (piece13 _ _ _).trans (piece_at m c t _ 0 (hUp_at m c t) _ _ x i j (by omega) (by omega))
  · exact (piece12 _ _ _).trans (piece_at m c t _ 0 (hUp_at m c t) _ _ x i j (by omega) (by omega))
  · exact (piece11 _ _ _).trans (piece_at m c t _ 0 (hUp_at m c t) _ _ x i j (by omega) (by omega))
  · exact (piece10 _ _ _).trans (piece_at m c t _ 0 (hUp_at m c t) _ _ x i j (by omega) (by omega))
  · exact (piece9 _ _ _ _).trans (piece_at m c t _ 0 (hUp_at m c t) _ _ x i j (by omega) (by omega))
  · exact (piece7 _ _ _ _).trans (piece_at m c t _ 0 (hUp_at m c t) _ _ x i j (by omega) (by omega))

/-- The squared positive parts a grid point leaves. -/
theorem point7 (y : S512x4096.Idx) (i : Fin 8192) (j : Fin 4096) (hi : i.val = 512 * t.val + (y 0 : ℕ)) (hj : j.val = (y 1 : ℕ)) :
    (outsAt0 m c t.val t.isLt).2.1 y = A (X m c) (G3 m c) (W1 m c) i j := by
  by_cases h : t.val % 16 = 0
  · rw [outsAt0_A m c t h]; frame_out
    exact canonLow m c t y i j hi hj
  · rw [outsAt0_B m c t h]; frame_out
    exact canonLow m c t y i j hi hj

end Cert.Mlp
-- ==== Proof.Mlp.Back.lean ====
module

public import proofs.«01_k».proof.Proof.Mlp.Points

@[expose] public section

set_option maxRecDepth 16384
noncomputable section

/-! The squared positive parts as the second product reads them back, and that product. -/

namespace Cert.Mlp

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ) (c : Dev nD) (t : Fin cfg0.N)

/-- A row of the upper half lies in no store of the lower half. -/
theorem upper (b : ℕ) (inb : ∀ a, (![256, b] : Fin 2 → ℕ) a + (![256, 512] : Fin 2 → ℕ) a ≤ S512x4096.size a) (y : S512x4096.Idx) (hy : (y 0 : ℕ) < 256) :
    y ∉ (Rect.unit (s := S512x4096) ![256, b] ![256, 512] inb).set := fun h => by
  have := (Rect.mem_set_unit.mp h 0).1
  have : 256 ≤ (y 0 : ℕ) := this
  omega

theorem skip_low (b : ℕ) (inb : ∀ a, (![256, b] : Fin 2 → ℕ) a + (![256, 512] : Fin 2 → ℕ) a ≤ S512x4096.size a) (p : FVec Ideal S256x512 .bf16)
    (L : List (View.Piece (Elt Ideal) S512x4096 .bf16)) (y : S512x4096.Idx) (hy : (y 0 : ℕ) < 256) :
    View.canon (⟨Rect.unit (s := S512x4096) ![256, b] ![256, 512] inb, p⟩ :: L) y = View.canon L y :=
  View.canon_cons_of_not_mem _ _ (upper b inb y hy)

theorem canonUp (y : S512x4096.Idx) (hy : (y 0 : ℕ) < 256) (i : Fin 8192) (j : Fin 4096) (hi : i.val = 512 * t.val + (y 0 : ℕ)) (hj : j.val = (y 1 : ℕ)) :
    View.canon (storesUp m c t) y = A (X m c) (G3 m c) (W1 m c) i j := by
  refine Eq.trans (Eq.symm ?_) (canonLow m c t y i j hi hj)
  exact (skip_low _ _ _ _ y hy).trans ((skip_low _ _ _ _ y hy).trans ((skip_low _ _ _ _ y hy).trans ((skip_low _ _ _ _ y hy).trans
    ((skip_low _ _ _ _ y hy).trans ((skip_low _ _ _ _ y hy).trans ((skip_low _ _ _ _ y hy).trans (skip_low _ _ _ _ y hy)))))))

/-- What the second product reads of either half. -/
theorem back_up (r : Fin 256) (k : Fin 4096) (i : Fin 8192) (hi : i.val = 512 * t.val + (0 + r.val)) :
    (ms0_7 t).view.readCov (storesUp m c t) (Rect.unit (s := S512x4096) ![0, 0] ![256, 4096] inb_S512x4096_S256x4096_0_0).toLoadRect (ix2 r k)
      = A (X m c) (G3 m c) (W1 m c) i k := by
  rw [View.readCov_eq_canon']
  refine canonUp m c t _ ?_ i k ?_ ?_
  · show 0 + 1 * r.val < 256; omega
  · show i.val = 512 * t.val + (0 + 1 * r.val); omega
  · show k.val = 0 + 1 * k.val; omega

theorem back_low (r : Fin 256) (k : Fin 4096) (i : Fin 8192) (hi : i.val = 512 * t.val + (256 + r.val)) :
    (ms0_7 t).view.readCov (storesLow m c t) (Rect.unit (s := S512x4096) ![256, 0] ![256, 4096] inb_S512x4096_S256x4096_256_0).toLoadRect (ix2 r k)
      = A (X m c) (G3 m c) (W1 m c) i k := by
  rw [View.readCov_eq_canon']
  refine canonLow m c t _ i k ?_ ?_
  · show i.val = 512 * t.val + (256 + 1 * r.val); omega
  · show k.val = 0 + 1 * k.val; omega

end Cert.Mlp
-- ==== Proof.Mlp.Rows.lean ====
module

public import proofs.«01_k».proof.Proof.Mlp.Back

@[expose] public section

set_option maxRecDepth 16384
noncomputable section

/-! What a grid point of the feed-forward's kernel stores of the gradients. -/

namespace Cert.Mlp

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ) (c : Dev nD) (t : Fin cfg0.N)

/-- The feed-forward's output in either half, of what was read back. -/
abbrev aUp (y : S256x4096.Idx) : EReal :=
  (ms0_7 t).view.readCov (storesUp m c t) (Rect.unit (s := S512x4096) ![0, 0] ![256, 4096] inb_S512x4096_S256x4096_0_0).toLoadRect y
abbrev aLow (y : S256x4096.Idx) : EReal :=
  (ms0_7 t).view.readCov (storesLow m c t) (Rect.unit (s := S512x4096) ![256, 0] ![256, 4096] inb_S512x4096_S256x4096_256_0).toLoadRect y

theorem row_up (r : Fin 256) (i : Fin 8192) (hi : i.val = 512 * t.val + (0 + r.val)) :
    row (k0_pay16 (F := Ideal) (aUp m c t) (iblk m c 5 t)) r = MM (X m c) (G3 m c) (W1 m c) (W2 m c) i := by
  funext d
  refine (prod_up _ _ _).trans ?_
  unfold MM
  refine Finset.sum_congr rfl fun k _ => ?_
  exact congrArg₂ (· * ·) (back_up m c t r k i hi) (block5 m c t k d)

theorem row_low (r : Fin 256) (i : Fin 8192) (hi : i.val = 512 * t.val + (256 + r.val)) :
    row (k0_pay41 (F := Ideal) (aLow m c t) (iblk m c 5 t)) r = MM (X m c) (G3 m c) (W1 m c) (W2 m c) i := by
  funext d
  refine (prod_low _ _ _).trans ?_
  unfold MM
  refine Finset.sum_congr rfl fun k _ => ?_
  exact congrArg₂ (· * ·) (back_low m c t r k i hi) (block5 m c t k d)

/-- The four rows the gradients of a row are made of, in either half. -/
theorem rows_up (r : Fin 256) (i : Fin 8192) (hi : i.val = 512 * t.val + (0 + r.val)) (f : (Fin 1024 → EReal) → (Fin 1024 → EReal) → (Fin 1024 → EReal) → (Fin 1024 → EReal) → EReal) :
    f (row (xUp m c t) r) (row (k0_pay16 (F := Ideal) (aUp m c t) (iblk m c 5 t)) r) (row (tUp m c t) r) (row (iblk m c 3 t : FVec Ideal S1x1024 .f32) 0)
      = f (row (X m c) i) (MM (X m c) (G3 m c) (W1 m c) (W2 m c) i) (row (T m c) i) (row (G4 m c) 0) := by
  rw [row_up m c t r i hi, block3, show row (xUp m c t) r = row (X m c) i from funext fun k => half0 m c t 0 _ r k i hi,
    show row (tUp m c t) r = row (T m c) i from funext fun k => half1 m c t 0 _ r k i hi]

theorem rows_low (r : Fin 256) (i : Fin 8192) (hi : i.val = 512 * t.val + (256 + r.val)) (f : (Fin 1024 → EReal) → (Fin 1024 → EReal) → (Fin 1024 → EReal) → (Fin 1024 → EReal) → EReal) :
    f (row (xLow m c t) r) (row (k0_pay41 (F := Ideal) (aLow m c t) (iblk m c 5 t)) r) (row (tLow m c t) r) (row (iblk m c 3 t : FVec Ideal S1x1024 .f32) 0)
      = f (row (X m c) i) (MM (X m c) (G3 m c) (W1 m c) (W2 m c) i) (row (T m c) i) (row (G4 m c) 0) := by
  rw [row_low m c t r i hi, block3, show row (xLow m c t) r = row (X m c) i from funext fun k => half0 m c t 256 _ r k i hi,
    show row (tLow m c t) r = row (T m c) i from funext fun k => half1 m c t 256 _ r k i hi]

/-- A function of the four rows, of whole arrays. -/
abbrev at_row (f : (Fin 1024 → EReal) → (Fin 1024 → EReal) → (Fin 1024 → EReal) → (Fin 1024 → EReal) → EReal) (i : Fin 8192) : EReal :=
  f (row (X m c) i) (MM (X m c) (G3 m c) (W1 m c) (W2 m c) i) (row (T m c) i) (row (G4 m c) 0)

/-- The gradient at the layer's output that a grid point leaves. -/
theorem point8 (y : S512x1024.Idx) (i : Fin 8192) (k : Fin 1024) (hi : i.val = 512 * t.val + (y 0 : ℕ)) (hk : k.val = (y 1 : ℕ)) :
    (outsAt0 m c t.val t.isLt).2.2.1 y = at_row m c (fun x u v g => dyr x u v g k) i := by
  by_cases h : t.val % 16 = 0
  · rw [outsAt0_A m c t h]; frame_out
    canon_tiles x hx
    · idx_vars x
      obtain rfl : k = x1 := Fin.ext (by omega)
      exact (dy_low (aLow m c t) (iblk m c 5 t) (xLow m c t) (tLow m c t) (iblk m c 3 t) x0 k).trans (rows_low m c t x0 i (by omega) fun x u v g => dyr x u v g k)
    · idx_vars x
      obtain rfl : k = x1 := Fin.ext (by omega)
      exact (dy_up (xUp m c t) (tUp m c t) (iblk m c 3 t) (k0_pay16 (F := Ideal) (aUp m c t) (iblk m c 5 t)) _ (fun r => sq_up _ _ _) x0 k).trans
        (rows_up m c t x0 i (by omega) fun x u v g => dyr x u v g k)
  · rw [outsAt0_B m c t h]; frame_out
    canon_tiles x hx
    · idx_vars x
      obtain rfl : k = x1 := Fin.ext (by omega)
      exact (dy_low (aLow m c t) (iblk m c 5 t) (xLow m c t) (tLow m c t) (iblk m c 3 t) x0 k).trans (rows_low m c t x0 i (by omega) fun x u v g => dyr x u v g k)
    · idx_vars x
      obtain rfl : k = x1 := Fin.ext (by omega)
      exact (dy_up (xUp m c t) (tUp m c t) (iblk m c 3 t) (k0_pay16 (F := Ideal) (aUp m c t) (iblk m c 5 t)) _ (fun r => sq_up _ _ _) x0 k).trans
        (rows_up m c t x0 i (by omega) fun x u v g => dyr x u v g k)

/-- The gradient at the feed-forward's output that a grid point leaves. -/
theorem point9 (y : S512x1024.Idx) (i : Fin 8192) (k : Fin 1024) (hi : i.val = 512 * t.val + (y 0 : ℕ)) (hk : k.val = (y 1 : ℕ)) :
    (outsAt0 m c t.val t.isLt).2.2.2.1 y = at_row m c (fun x u v g => dmr x u v g k) i := by
  by_cases h : t.val % 16 = 0
  · rw [outsAt0_A m c t h]; frame_out
    canon_tiles x hx
    · idx_vars x
      obtain rfl : k = x1 := Fin.ext (by omega)
      exact (dm_low (aLow m c t) (iblk m c 5 t) (xLow m c t) (tLow m c t) (iblk m c 3 t) x0 k).trans (rows_low m c t x0 i (by omega) fun x u v g => dmr x u v g k)
    · idx_vars x
      obtain rfl : k = x1 := Fin.ext (by omega)
      exact (dm_up (xUp m c t) (tUp m c t) (iblk m c 3 t) (k0_pay16 (F := Ideal) (aUp m c t) (iblk m c 5 t)) _ (fun r => sq_up _ _ _) x0 k).trans
        (rows_up m c t x0 i (by omega) fun x u v g => dmr x u v g k)
  · rw [outsAt0_B m c t h]; frame_out
    canon_tiles x hx
    · idx_vars x
      obtain rfl : k = x1 := Fin.ext (by omega)
      exact (dm_low (aLow m c t) (iblk m c 5 t) (xLow m c t) (tLow m c t) (iblk m c 3 t) x0 k).trans (rows_low m c t x0 i (by omega) fun x u v g => dmr x u v g k)
    · idx_vars x
      obtain rfl : k = x1 := Fin.ext (by omega)
      exact (dm_up (xUp m c t) (tUp m c t) (iblk m c 3 t) (k0_pay16 (F := Ideal) (aUp m c t) (iblk m c 5 t)) _ (fun r => sq_up _ _ _) x0 k).trans
        (rows_up m c t x0 i (by omega) fun x u v g => dmr x u v g k)

/-- What a grid point adds to a sum over all rows: its upper and its lower half. -/
def part (f : (Fin 1024 → EReal) → (Fin 1024 → EReal) → (Fin 1024 → EReal) → (Fin 1024 → EReal) → EReal) (n : Fin cfg0.N) : EReal :=
  (∑ r : Fin 256, at_row m c f ⟨512 * n.val + (0 + r.val), by have : n.val < 16 := n.isLt; omega⟩)
    + ∑ r : Fin 256, at_row m c f ⟨512 * n.val + (256 + r.val), by have : n.val < 16 := n.isLt; omega⟩

theorem sums_up (f : (Fin 1024 → EReal) → (Fin 1024 → EReal) → (Fin 1024 → EReal) → (Fin 1024 → EReal) → EReal) :
    (∑ r : Fin 256, f (row (xUp m c t) r) (row (k0_pay16 (F := Ideal) (aUp m c t) (iblk m c 5 t)) r) (row (tUp m c t) r) (row (iblk m c 3 t : FVec Ideal S1x1024 .f32) 0))
      = ∑ r : Fin 256, at_row m c f ⟨512 * t.val + (0 + r.val), by have : t.val < 16 := t.isLt; omega⟩ :=
  Finset.sum_congr rfl fun r _ => rows_up m c t r _ rfl f

theorem sums_low (f : (Fin 1024 → EReal) → (Fin 1024 → EReal) → (Fin 1024 → EReal) → (Fin 1024 → EReal) → EReal) :
    (∑ r : Fin 256, f (row (xLow m c t) r) (row (k0_pay41 (F := Ideal) (aLow m c t) (iblk m c 5 t)) r) (row (tLow m c t) r) (row (iblk m c 3 t : FVec Ideal S1x1024 .f32) 0))
      = ∑ r : Fin 256, at_row m c f ⟨512 * t.val + (256 + r.val), by have : t.val < 16 := t.isLt; omega⟩ :=
  Finset.sum_congr rfl fun r _ => rows_low m c t r _ rfl f

/-- The two accumulated sums: both halves onto what was there. -/
theorem dg_both (acc : FVec Ideal S1x1024 .f32) (k : Fin 1024) :
    k0_pay3 (F := Ideal) (k0_pay41 (F := Ideal) (aLow m c t) (iblk m c 5 t))
        (k0_pay44 (F := Ideal) (iblk m c 3 t) (aLow m c t) (iblk m c 5 t) (xLow m c t) (tLow m c t))
        (k0_pay45 (F := Ideal) (aLow m c t) (iblk m c 5 t)) (Scalar.ofBits .f32 0x358637BD#32)
        (k0_pay28 (F := Ideal) (k0_pay16 (F := Ideal) (aUp m c t) (iblk m c 5 t))
          (k0_pay20 (F := Ideal) (iblk m c 3 t) (k0_pay16 (F := Ideal) (aUp m c t) (iblk m c 5 t)) (xUp m c t) (k0_pay17 (F := Ideal) (aUp m c t) (iblk m c 5 t)) (tUp m c t))
          (k0_pay21 (F := Ideal) (k0_pay16 (F := Ideal) (aUp m c t) (iblk m c 5 t))) acc) (ix2 0 k)
      = acc (ix2 0 k) + part m c (fun x u v g => dgr x u v g k) t := by
  refine (dg_low (aLow m c t) (iblk m c 5 t) (xLow m c t) (tLow m c t) (iblk m c 3 t) _ k).trans ?_
  rw [dg_up (xUp m c t) (tUp m c t) (iblk m c 3 t) (k0_pay16 (F := Ideal) (aUp m c t) (iblk m c 5 t)) _ (fun r => sq_up _ _ _) acc k,
    sums_up m c t fun x u v g => dgr x u v g k, sums_low m c t fun x u v g => dgr x u v g k, add_assoc]
  rfl

theorem ls_both (acc : FVec Ideal S1x1024 .f32) (k : Fin 1024) :
    k0_pay43 (F := Ideal) (iblk m c 3 t) (aLow m c t) (iblk m c 5 t) (xLow m c t) (tLow m c t)
        (k0_pay19 (F := Ideal) (iblk m c 3 t) (k0_pay16 (F := Ideal) (aUp m c t) (iblk m c 5 t)) (xUp m c t) (k0_pay17 (F := Ideal) (aUp m c t) (iblk m c 5 t)) (tUp m c t) acc) (ix2 0 k)
      = acc (ix2 0 k) + part m c (fun x u v g => er x u v g k * er x u v g k) t := by
  refine (ls_low (aLow m c t) (iblk m c 5 t) (xLow m c t) (tLow m c t) (iblk m c 3 t) _ k).trans ?_
  rw [ls_up (xUp m c t) (tUp m c t) (iblk m c 3 t) (k0_pay16 (F := Ideal) (aUp m c t) (iblk m c 5 t)) _ (fun r => sq_up _ _ _) acc k,
    sums_up m c t fun x u v g => er x u v g k * er x u v g k, sums_low m c t fun x u v g => er x u v g k * er x u v g k, add_assoc]
  rfl

theorem first10 (h : t.val % 16 = 0) (k : Fin 1024) :
    (outsAt0 m c t.val t.isLt).2.2.2.2.1 (ix2 0 k) = 0 + part m c (fun x u v g => dgr x u v g k) t := by
  rw [outsAt0_A m c t h]; frame_out
  have := dg_both m c t (k0_pay4 (F := Ideal)) k
  rw [zero_dg] at this
  exact this

theorem step10 (h : ¬t.val % 16 = 0) (k : Fin 1024) :
    (outsAt0 m c t.val t.isLt).2.2.2.2.1 (ix2 0 k) = (outsAt0 m c (t.val - 1) (Nat.lt_of_le_of_lt (Nat.sub_le _ _) t.isLt)).2.2.2.2.1 (ix2 0 k)
      + part m c (fun x u v g => dgr x u v g k) t := by
  rw [outsAt0_B m c t h]; frame_out
  exact dg_both m c t (outsAt0 m c (t.val - 1) (Nat.lt_of_le_of_lt (Nat.sub_le _ _) t.isLt)).2.2.2.2.1 k

theorem first11 (h : t.val % 16 = 0) (k : Fin 1024) :
    (outsAt0 m c t.val t.isLt).2.2.2.2.2 (ix2 0 k) = 0 + part m c (fun x u v g => er x u v g k * er x u v g k) t := by
  rw [outsAt0_A m c t h]; frame_out
  have := ls_both m c t (k0_pay5 (F := Ideal)) k
  rw [zero_ls] at this
  exact this

theorem step11 (h : ¬t.val % 16 = 0) (k : Fin 1024) :
    (outsAt0 m c t.val t.isLt).2.2.2.2.2 (ix2 0 k) = (outsAt0 m c (t.val - 1) (Nat.lt_of_le_of_lt (Nat.sub_le _ _) t.isLt)).2.2.2.2.2 (ix2 0 k)
      + part m c (fun x u v g => er x u v g k * er x u v g k) t := by
  rw [outsAt0_B m c t h]; frame_out
  exact ls_both m c t (outsAt0 m c (t.val - 1) (Nat.lt_of_le_of_lt (Nat.sub_le _ _) t.isLt)).2.2.2.2.2 k

/-- The one row of such an array. -/
theorem one_row (j : S1x1024.Idx) : j = ix2 0 (j 1) := by
  idx_vars j
  rw [Subsingleton.elim j0 0]; rfl

/-- The arrays after the run. -/
theorem final6 : (dats m 0 c).arrAt 6 (cfgs 0).N = fun y => H (X m c) (G3 m c) (y 0) (y 1) := by
  refine (dats m 0 c).arrAt_eq_of_covers 6 _ (by decide +kernel) fun t _ y => ?_
  blk_simp
  rw [after0_6]
  refine point6 m c t y _ _ ?_ ?_
  all_goals (blk_simp [blocks_at t] <;> try omega)

theorem final7 : (dats m 0 c).arrAt 7 (cfgs 0).N = fun y => A (X m c) (G3 m c) (W1 m c) (y 0) (y 1) := by
  refine (dats m 0 c).arrAt_eq_of_covers 7 _ (by decide +kernel) fun t _ y => ?_
  blk_simp
  rw [after0_7]
  refine point7 m c t y _ _ ?_ ?_
  all_goals (blk_simp [blocks_at t] <;> try omega)

theorem final8 : (dats m 0 c).arrAt 8 (cfgs 0).N = fun y => at_row m c (fun x u v g => dyr x u v g (y 1)) (y 0) := by
  refine (dats m 0 c).arrAt_eq_of_covers 8 _ (by decide +kernel) fun t _ y => ?_
  blk_simp
  rw [after0_8]
  refine point8 m c t y _ _ ?_ ?_
  all_goals (blk_simp [blocks_at t] <;> try omega)

theorem final9 : (dats m 0 c).arrAt 9 (cfgs 0).N = fun y => at_row m c (fun x u v g => dmr x u v g (y 1)) (y 0) := by
  refine (dats m 0 c).arrAt_eq_of_covers 9 _ (by decide +kernel) fun t _ y => ?_
  blk_simp
  rw [after0_9]
  refine point9 m c t y _ _ ?_ ?_
  all_goals (blk_simp [blocks_at t] <;> try omega)

theorem final10 : (dats m 0 c).arrAt 10 (cfgs 0).N = fun j => ∑ p : Fin cfg0.N, part m c (fun x u v g => dgr x u v g (j 1)) p := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => (0 : EReal))
    (fun p j => part m c (fun x u v g => dgr x u v g (j 1)) p)
    (fun t h j => by rw [one_row j]; exact first10 m c t h (j 1)) (fun t h j => by rw [one_row j]; exact step10 m c t h (j 1)) (le_of_eq N_0) t0_15 rfl j, zero_add]

theorem final11 : (dats m 0 c).arrAt 11 (cfgs 0).N
    = fun j => ∑ p : Fin cfg0.N, part m c (fun x u v g => er x u v g (j 1) * er x u v g (j 1)) p := by
  refine (dats m 0 c).arrAt_eq_of_after_last 11 t0_15 (by decide +kernel) _ fun j => ?_
  blk_simp
  rw [after0_11, Pipeline.eq_sum_fin_of_reset_step_apply_last (fun n h => (outsAt0 m c n h).2.2.2.2.2) 16 (fun _ => (0 : EReal))
    (fun p j => part m c (fun x u v g => er x u v g (j 1) * er x u v g (j 1)) p)
    (fun t h j => by rw [one_row j]; exact first11 m c t h (j 1)) (fun t h j => by rw [one_row j]; exact step11 m c t h (j 1)) (le_of_eq N_0) t0_15 rfl j, zero_add]

/-- The halves of all grid points are all the rows. -/
theorem all_parts (f : (Fin 1024 → EReal) → (Fin 1024 → EReal) → (Fin 1024 → EReal) → (Fin 1024 → EReal) → EReal) :
    (∑ p : Fin cfg0.N, part m c f p) = ∑ i : Fin 8192, at_row m c f i := by
  rw [Fin.sum_univ_tiles 16 512 rfl]
  refine Finset.sum_congr rfl fun p _ => ?_
  rw [part, Fin.sum_univ_two_halves 256 256 rfl]
  congr 1 <;> refine Finset.sum_congr rfl fun k _ => congrArg _ (Fin.ext ?_)
  all_goals (simp; omega)

end Cert.Mlp
-- ==== Proof.Mlp.RefValue.lean ====
module

public import proofs.«01_k».proof.Proof.Inproj.RefValue
public import proofs.«01_k».proof.Proof.Mlp.Blocks
public import proofs.«01_k».proof.Proof.Gen.Reference3Ideal.Run

@[expose] public section

set_option maxRecDepth 16384
noncomputable section

/-! The six results of the feed-forward's reference, read to scalars one stage at a time. -/

namespace Cert.Mlp

open Idealize.ShloMosaic Idealize.ShloMosaic.TcCoe Idealize.SL.Sem
open Cert.Reference3Ideal Cert.Reference3Ideal.Gen
open Cert.Inproj (msT msT_at gT gT_at sT sT_at dgT dgT_at)

/-- Normed rows. -/
def nT (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (msT x))))
    (broadcastInDim S8192x1024 ![0, 1] bcast_S1x1024_S8192x1024_0_1
      (broadcastInDim S1x1024 ![1] bcast_S1024_S1x1024_1 (shapeCast _ g shapeCasts_S1x1024_S1024)))

/-- The squared positive parts of a product. -/
def pT (h : FVec Ideal S8192x1024 .f32) (w : FVec Ideal S1x1024x4096 .f32) : FVec Ideal S8192x4096 .f32 :=
  mulf (maximumf (Host.dotGeneral dot_S8192x1024_S1024x4096_S8192x4096_1_0_0_1_n_n none h (shapeCast _ w shapeCasts_S1x1024x4096_S1024x4096))
      (broadcastInDim S8192x4096 ![] bcast_S_S8192x4096 (constant S_ .f32 0x00000000#32)))
    (maximumf (Host.dotGeneral dot_S8192x1024_S1024x4096_S8192x4096_1_0_0_1_n_n none h (shapeCast _ w shapeCasts_S1x1024x4096_S1024x4096))
      (broadcastInDim S8192x4096 ![] bcast_S_S8192x4096 (constant S_ .f32 0x00000000#32)))

/-- The second product. -/
def mT (a : FVec Ideal S8192x4096 .f32) (w : FVec Ideal S1x4096x1024 .f32) : FVec Ideal S8192x1024 .f32 :=
  Host.dotGeneral dot_S8192x4096_S4096x1024_S8192x1024_1_0_0_1_n_n none a (shapeCast _ w shapeCasts_S1x4096x1024_S4096x1024)

/-- The error. -/
def eT (x n t : FVec Ideal S8192x1024 .f32) : FVec Ideal S8192x1024 .f32 := subf (addf x n) t

/-- The loss's gradient of the error. -/
def dyT (e : FVec Ideal S8192x1024 .f32) : FVec Ideal S8192x1024 .f32 :=
  mulf (broadcastInDim S8192x1024 ![0] bcast_S8192_S8192x1024_0 (Host.divf
      (broadcastInDim S8192 ![] bcast_S_S8192 (mulf (constant S_ .f32 0x3F000000#32) (constant S_ .f32 0x3F800000#32)))
      (broadcastInDim S8192 ![] bcast_S_S8192 (constant S_ .f32 0x44800000#32))))
    (mulf (broadcastInDim S8192x1024 ![] bcast_S_S8192x1024 (constant S_ .f32 0x40000000#32)) e)

/-- The norm's gradient at the rows it was taken of. -/
def dmT (t : FVec Ideal S8192x1024 .f32) (s : FVec Ideal S8192x1 .f32) (f : FVec Ideal S8192 .f32) (x : FVec Ideal S8192x1024 .f32) :
    FVec Ideal S8192x1024 .bf16 :=
  truncf .bf16 (addf (addf (mulf t (broadcastInDim S8192x1024 ![0, 1] bcast_S8192x1_S8192x1024_0_1 (Host.rsqrt s)))
    (mulf x (broadcastInDim S8192x1024 ![0] bcast_S8192_S8192x1024_0 f))) (mulf (broadcastInDim S8192x1024 ![0] bcast_S8192_S8192x1024_0 f) x)) bitsLt_bf16_f32

/-- The sum of the squared errors over the rows. -/
def lsT (e : FVec Ideal S8192x1024 .f32) : FVec Ideal S1x1024 .f32 :=
  broadcastInDim S1x1024 ![1] bcast_S1024_S1x1024_1 (Host.reduceAdd (mulf e e) (constant S_ .f32 0x00000000#32) reducesTo_S8192x1024_S1024_d0 h_S_)

theorem nT_at (x : FVec Ideal S8192x1024 .f32) (g : FVec Ideal S1x1024 .f32) (r : Fin 8192) (k : Fin 1024) :
    nT x g (ix2 r k) = x (ix2 r k) * rs (row x r) * g (ix2 0 k) := by
  rw [show rs (row x r) = Ideal.rsqrt (msT x (ix2 r 0)) from by rw [msT_at]; rfl]
  pointwise [nT]

theorem pT_at (h : FVec Ideal S8192x1024 .f32) (w : FVec Ideal S1x1024x4096 .f32) (r : Fin 8192) (j : Fin 4096) :
    pT h w (ix2 r j) = sqp (∑ k : Fin 1024, h (ix2 r k) * w (ix3 0 k j)) := by
  pointwise [pT, sqp]

theorem mT_at (a : FVec Ideal S8192x4096 .f32) (w : FVec Ideal S1x4096x1024 .f32) (r : Fin 8192) (d : Fin 1024) :
    mT a w (ix2 r d) = ∑ j : Fin 4096, a (ix2 r j) * w (ix3 0 j d) := by
  pointwise [mT]

theorem eT_at (x n t : FVec Ideal S8192x1024 .f32) (r : Fin 8192) (k : Fin 1024) : eT x n t (ix2 r k) = x (ix2 r k) + n (ix2 r k) - t (ix2 r k) := by
  pointwise [eT]

/-- Half, over the width, of twice an error. -/
theorem scale (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  have h : Ideal.ofBits .f32 0x3F000000#32 = ((1 / 2 : ℝ) : EReal) := by
    simp [Ideal.ofBits, Ideal.ieee]; rw [← EReal.coe_mul]; norm_num
  have o : Ideal.ofBits .f32 0x3F800000#32 = ((1 : ℝ) : EReal) := by
    simp [Ideal.ofBits, Ideal.ieee]; rw [← EReal.coe_mul]; norm_num
  have w : Ideal.ofBits .f32 0x40000000#32 = ((2 : ℝ) : EReal) := by
    simp [Ideal.ofBits, Ideal.ieee]; rw [← EReal.coe_mul]; norm_num
  have q : Ideal.ofBits .f32 0x3A800000#32 = ((1 / 1024 : ℝ) : EReal) := by
    simp [Ideal.ofBits, Ideal.ieee]; rw [← EReal.coe_mul]; norm_num
  rw [h, o, w, q, Norm.width, ← EReal.coe_mul, Ideal.div_coe (by norm_num), ← mul_assoc, mul_comm]
  refine congrArg (e * ·) ?_
  rw [← EReal.coe_mul]
  exact congrArg ((↑) : ℝ → EReal) (by norm_num)

theorem dyT_at (e : FVec Ideal S8192x1024 .f32) (r : Fin 8192) (k : Fin 1024) : dyT e (ix2 r k) = e (ix2 r k) * Ideal.ofBits .f32 0x3A800000#32 := by
  rw [← scale]
  pointwise [dyT]

theorem dmT_at (t : FVec Ideal S8192x1024 .f32) (s : FVec Ideal S8192x1 .f32) (f : FVec Ideal S8192 .f32) (x : FVec Ideal S8192x1024 .f32)
    (r : Fin 8192) (k : Fin 1024) :
    dmT t s f x (ix2 r k) = t (ix2 r k) * Ideal.rsqrt (s (ix2 r 0)) + x (ix2 r k) * f (ix1 r) + f (ix1 r) * x (ix2 r k) := by
  pointwise [dmT]

theorem lsT_at (e : FVec Ideal S8192x1024 .f32) (k : Fin 1024) : lsT e (ix2 0 k) = ∑ r : Fin 8192, e (ix2 r k) * e (ix2 r k) := by
  pointwise [lsT]

variable (x t : FVec Ideal S8192x1024 .f32) (g g' : FVec Ideal S1x1024 .f32) (w : FVec Ideal S1x1024x4096 .f32) (w' : FVec Ideal S1x4096x1024 .f32)

/-- The feed-forward's output and the error, of the arguments. -/
def mR : FVec Ideal S8192x1024 .f32 := mT (pT (nT x g) w) w'
def eR : FVec Ideal S8192x1024 .f32 := eT x (nT (mR x g w w') g') t

theorem nR_at (r : Fin 8192) (k : Fin 1024) : nT x g (ix2 r k) = H x g r k := nT_at x g r k

theorem pR_at (r : Fin 8192) (j : Fin 4096) : pT (nT x g) w (ix2 r j) = A x g w r j := by
  rw [pT_at, A]; simp only [nR_at]

theorem mR_at (r : Fin 8192) (d : Fin 1024) : mR x g w w' (ix2 r d) = MM x g w w' r d := by
  rw [mR, mT_at, MM]; simp only [pR_at]

theorem mR_row (r : Fin 8192) : row (mR x g w w') r = MM x g w w' r := funext fun d => mR_at x g w w' r d

theorem eR_at (r : Fin 8192) (k : Fin 1024) : eR x t g g' w w' (ix2 r k) = er (row x r) (MM x g w w' r) (row t r) (row g' 0) k := by
  rw [eR, eT_at, nT_at, mR_row, mR_at, er]

theorem dyR_at (r : Fin 8192) (k : Fin 1024) : dyT (eR x t g g' w w') (ix2 r k) = dyr (row x r) (MM x g w w' r) (row t r) (row g' 0) k := by
  rw [dyT_at, eR_at, dyr]

/-- The gradient at the feed-forward's output by the rule for a quotient is the closed form of it. -/
theorem dmR_at (r : Fin 8192) (k : Fin 1024) :
    dmT (gT (dyT (eR x t g g' w w')) g') (msT (mR x g w w')) (sT (gT (dyT (eR x t g g' w w')) g') (msT (mR x g w w')) (mR x g w w')) (mR x g w w') (ix2 r k)
      = dmr (row x r) (MM x g w w' r) (row t r) (row g' 0) k := by
  obtain ⟨e, he, hE⟩ := Norm.eps_pos
  have hs : msT (mR x g w w') (ix2 r 0) = Ideal.div (∑ k, MM x g w w' r k * MM x g w w' r k) (Ideal.ofBits .f32 0x44800000#32) + Ideal.ofBits .f32 0x358637BD#32 := by
    rw [msT_at, Inproj.ms]; simp only [mR_at]
  rw [dmT_at, sT_at, gT_at]
  simp only [gT_at, dyR_at, mR_at, hs]
  rw [dmr, rs, Norm.width, Norm.minus_half, hE]
  rw [show (∑ k : Fin 1024, MM x g w w' r k * (dyr (row x r) (MM x g w w' r) (row t r) (row g' 0) k * g' (ix2 0 k)))
      = ∑ k : Fin 1024, dyr (row x r) (MM x g w w' r) (row t r) (row g' 0) k * row g' 0 k * MM x g w w' r k
    from Finset.sum_congr rfl fun k _ => mul_comm _ _]
  have := Norm.grad (MM x g w w' r) 1024 (by norm_num) e he (dyr (row x r) (MM x g w w' r) (row t r) (row g' 0) k * g' (ix2 0 k))
    (∑ k : Fin 1024, dyr (row x r) (MM x g w w' r) (row t r) (row g' 0) k * row g' 0 k * MM x g w w' r k) 0 k
  simp only [zero_add] at this
  exact this

theorem dgR_at (j : Fin 1024) : dgT (dyT (eR x t g g' w w')) (msT (mR x g w w')) (mR x g w w') (ix2 0 j)
    = ∑ r : Fin 8192, dgr (row x r) (MM x g w w' r) (row t r) (row g' 0) j := by
  rw [dgT_at]
  refine Finset.sum_congr rfl fun r _ => ?_
  rw [dyR_at, mR_at, msT_at, dgr, mul_comm, mul_assoc, show Inproj.ms (mR x g w w') r = Ideal.div (∑ k, MM x g w w' r k * MM x g w w' r k) (Ideal.ofBits .f32 0x44800000#32) + Ideal.ofBits .f32 0x358637BD#32 from by
    rw [Inproj.ms]; simp only [mR_at]]
  rw [rs]

theorem lsR_at (j : Fin 1024) : lsT (eR x t g g' w w') (ix2 0 j)
    = ∑ r : Fin 8192, er (row x r) (MM x g w w' r) (row t r) (row g' 0) j * er (row x r) (MM x g w w' r) (row t r) (row g' 0) j := by
  rw [lsT_at]; simp only [eR_at]

/-! The results as the reference names them. -/

variable (m : (ℓ : Loc nD τ sig) → Buf (Elt Ideal) ℓ) (c : Dev nD)

abbrev eM : FVec Ideal S8192x1024 .f32 :=
  eR (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

abbrev mM : FVec Ideal S8192x1024 .f32 :=
  mR (m ((c.tc : Thread nD τ).loc main_arg0)) (m ((c.tc : Thread nD τ).loc main_arg2)) (m ((c.tc : Thread nD τ).loc main_arg4)) (m ((c.tc : Thread nD τ).loc main_arg5))

theorem res_dy : Value.res_main_v53 m c = dyT (eM m c) := rfl

theorem res_dg : Value.res_main_v74 m c = dgT (dyT (eM m c)) (msT (mM m c)) (mM m c) := rfl

theorem res_ls : Value.res_main_v77 m c = lsT (eM m c) := rfl

theorem res_dm : Value.res_main_v80 m c = dmT (gT (dyT (eM m c)) (m ((c.tc : Thread nD τ).loc main_arg3))) (msT (mM m c))
    (sT (gT (dyT (eM m c)) (m ((c.tc : Thread nD τ).loc main_arg3))) (msT (mM m c)) (mM m c)) (mM m c) := rfl

/-- What a run of the reference leaves: the six results by their stages, and the arguments as they were. -/
theorem stages (ρ : Dev nD → PrngReg) :
    θ_run defs (onTc (τ := τ) (main (F := Ideal))) ⟨m, fun _ => 0, ρ⟩ fun r => ∀ c : Dev nD,
      r.2.mem ((c.tc : Thread nD τ).loc main_v78)
          = truncf .bf16 (nT (m ((c.tc : Thread nD τ).loc main_arg0)) (m ((c.tc : Thread nD τ).loc main_arg2))) bitsLt_bf16_f32
      ∧ r.2.mem ((c.tc : Thread nD τ).loc main_v79)
          = truncf .bf16 (pT (nT (m ((c.tc : Thread nD τ).loc main_arg0)) (m ((c.tc : Thread nD τ).loc main_arg2)))
              (m ((c.tc : Thread nD τ).loc main_arg4))) bitsLt_bf16_f32
      ∧ r.2.mem ((c.tc : Thread nD τ).loc main_v53) = dyT (eM m c)
      ∧ r.2.mem ((c.tc : Thread nD τ).loc main_v80) = dmT (gT (dyT (eM m c)) (m ((c.tc : Thread nD τ).loc main_arg3))) (msT (mM m c))
          (sT (gT (dyT (eM m c)) (m ((c.tc : Thread nD τ).loc main_arg3))) (msT (mM m c)) (mM m c)) (mM m c)
      ∧ r.2.mem ((c.tc : Thread nD τ).loc main_v74) = dgT (dyT (eM m c)) (msT (mM m c)) (mM m c)
      ∧ r.2.mem ((c.tc : Thread nD τ).loc main_v77) = lsT (eM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2.1.trans (res_dy m c), (h c).2.2.2.1.trans (res_dm m c),
    (h c).2.2.2.2.1.trans (res_dg m c), (h c).2.2.2.2.2.1.trans (res_ls m c), (h c).2.2.2.2.2.2⟩) (Value.run m ρ)

end Cert.Mlp
-- ==== Proof.Mlp.Claim.lean ====
module

public import proofs.«01_k».proof.Defs
public import proofs.«01_k».proof.Proof.Mlp.Rows
public import proofs.«01_k».proof.Proof.Mlp.RefValue
public import proofs.«01_k».proof.Proof.Gen.Kernel3.Frame
public import Idealize.ShloMosaic.Lib.Claim

@[expose] public section

set_option maxRecDepth 16384
noncomputable section

/-! The claims about the feed-forward with the loss: the frames and the equality of all six results. -/

namespace Cert.Mlp

open Idealize.ShloMosaic Idealize.ShloMosaic.TcCoe Idealize.SL.Sem
open Cert.Inproj (msT gT sT dgT)

variable (m : (ℓ : Loc Cert.Kernel3Ideal.nD Cert.Kernel3Ideal.τ Cert.Kernel3Ideal.sig) → Buf (Elt Ideal) ℓ) (c : Dev Cert.Kernel3Ideal.nD)

/-- The reference's results of the kernel's arguments are the kernel's arrays. -/
theorem h_final : (truncf .bf16 (nT (X m c) (G3 m c)) Cert.Reference3Ideal.Gen.bitsLt_bf16_f32 : FVec Ideal Cert.Reference3Ideal.S8192x1024 .bf16)
    = (Cert.Kernel3Ideal.Gen.dats m 0 c).arrAt 6 Cert.Kernel3Ideal.cfg0.N := by
  refine Eq.trans ?_ (final6 m c).symm
  funext i; idx_vars i
  exact nR_at _ _ i0 i1

theorem act_final : (truncf .bf16 (pT (nT (X m c) (G3 m c)) (W1 m c)) Cert.Reference3Ideal.Gen.bitsLt_bf16_f32 : FVec Ideal Cert.Reference3Ideal.S8192x4096 .bf16)
    = (Cert.Kernel3Ideal.Gen.dats m 0 c).arrAt 7 Cert.Kernel3Ideal.cfg0.N := by
  refine Eq.trans ?_ (final7 m c).symm
  funext i; idx_vars i
  exact pR_at _ _ _ i0 i1

theorem dy_final : dyT (eR (X m c) (T m c) (G3 m c) (G4 m c) (W1 m c) (W2 m c)) = (Cert.Kernel3Ideal.Gen.dats m 0 c).arrAt 8 Cert.Kernel3Ideal.cfg0.N := by
  refine Eq.trans ?_ (final8 m c).symm
  funext i; idx_vars i
  exact dyR_at _ _ _ _ _ _ i0 i1

theorem dm_final : dmT (gT (dyT (eR (X m c) (T m c) (G3 m c) (G4 m c) (W1 m c) (W2 m c))) (G4 m c)) (msT (mR (X m c) (G3 m c) (W1 m c) (W2 m c)))
      (sT (gT (dyT (eR (X m c) (T m c) (G3 m c) (G4 m c) (W1 m c) (W2 m c))) (G4 m c)) (msT (mR (X m c) (G3 m c) (W1 m c) (W2 m c)))
        (mR (X m c) (G3 m c) (W1 m c) (W2 m c))) (mR (X m c) (G3 m c) (W1 m c) (W2 m c))
    = (Cert.Kernel3Ideal.Gen.dats m 0 c).arrAt 9 Cert.Kernel3Ideal.cfg0.N := by
  refine Eq.trans ?_ (final9 m c).symm
  funext i; idx_vars i
  exact dmR_at _ _ _ _ _ _ i0 i1

theorem dg_final : dgT (dyT (eR (X m c) (T m c) (G3 m c) (G4 m c) (W1 m c) (W2 m c))) (msT (mR (X m c) (G3 m c) (W1 m c) (W2 m c)))
      (mR (X m c) (G3 m c) (W1 m c) (W2 m c))
    = (Cert.Kernel3Ideal.Gen.dats m 0 c).arrAt 10 Cert.Kernel3Ideal.cfg0.N := by
  refine Eq.trans ?_ (final10 m c).symm
  funext j; idx_vars j
  obtain rfl : j0 = 0 := Subsingleton.elim _ _
  exact (dgR_at _ _ _ _ _ _ j1).trans (all_parts m c fun x u v g => dgr x u v g j1).symm

theorem ls_final : lsT (eR (X m c) (T m c) (G3 m c) (G4 m c) (W1 m c) (W2 m c)) = (Cert.Kernel3Ideal.Gen.dats m 0 c).arrAt 11 Cert.Kernel3Ideal.cfg0.N := by
  refine Eq.trans ?_ (final11 m c).symm
  funext j; idx_vars j
  obtain rfl : j0 = 0 := Subsingleton.elim _ _
  exact (lsR_at _ _ _ _ _ _ j1).trans (all_parts m c fun x u v g => er x u v g j1 * er x u v g j1).symm

theorem frame : Cert.quiescent_Kernel3 := fun m ρ _ => Cert.Kernel3.Gen.frame m ρ

theorem frameIdeal : Cert.quiescent_Kernel3Ideal := fun m ρ _ => Cert.Kernel3Ideal.Gen.frame m ρ

theorem frameReference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run m ρ)

theorem value : Cert.algebraic_Kernel3Ideal_Reference3Ideal := by
  pair_intro
  · run_from Cert.Kernel3Ideal.Value.run_blocks m g
  · run_from stages m' g'
    · exact h_final m c
    · exact act_final m c
    all_goals
      obtain ⟨h0, h1, h2, h3, h4, h5⟩ := hagree c
      have he : eM m' c = eR (X m c) (T m c) (G3 m c) (G4 m c) (W1 m c) (W2 m c) := by
        rw [eM, h0, h1, h2, h3, h4, h5]
      have hm : mM m' c = mR (X m c) (G3 m c) (W1 m c) (W2 m c) := by
        rw [mM, h0, h2, h4, h5]
    · rw [he]; exact dy_final m c
    · rw [he, hm]; exact dm_final m c
    · rw [he, hm]; exact dg_final m c
    · rw [he]; exact ls_final m c

end Cert.Mlp
-- ==== Proof.Retention.Decay.lean ====
module

public import proofs.«01_k».proof.Proof.Inproj.Norm

@[expose] public section

noncomputable section

/-! Sums with an exponentially decaying weight, over the reals, cut into chunks: the part inside a chunk and a carried state for the rest.
The chunk length is free, so that two programs with different chunks meet in the same sum. -/

namespace Cert.Retention

/-- The weight of a distance `x` at the logarithm `l` of the decay. -/
def w (l x : ℝ) : ℝ := Real.exp (x * l)

theorem w_add (l x y : ℝ) : w l (x + y) = w l x * w l y := by
  rw [w, w, w, ← Real.exp_add]; ring_nf

/-- The weight from time `s` to time `t`: none from the future. -/
def W (l : ℝ) (t s : ℕ) : ℝ := if s ≤ t then w l ((t : ℝ) - s) else 0

theorem W_shift (l : ℝ) (p t s : ℕ) : W l (p + t) (p + s) = W l t s := by
  simp only [W, Nat.add_le_add_iff_left]
  push_cast
  rw [add_sub_add_left_eq_sub]

/-- The state before chunk `n`: every chunk decays the state and adds its increment. -/
def fwd (l : ℝ) (C : ℕ) (x : ℕ → ℝ) : ℕ → ℝ
  | 0 => 0
  | n + 1 => w l C * fwd l C x n + ∑ j ∈ Finset.range C, x (C * n + j) * w l ((C : ℝ) - 1 - j)

theorem fwd_eq (l : ℝ) (C : ℕ) (x : ℕ → ℝ) (n : ℕ) :
    fwd l C x n = ∑ s ∈ Finset.range (C * n), x s * w l ((C * n : ℝ) - 1 - s) := by
  induction n with
  | zero => simp [fwd]
  | succ n ih =>
    rw [fwd, ih, Nat.mul_succ, Finset.sum_range_add, Finset.mul_sum]
    congr 1
    · refine Finset.sum_congr rfl fun s _ => ?_
      rw [mul_left_comm, ← w_add]; congr 2; push_cast; ring
    · refine Finset.sum_congr rfl fun s _ => ?_
      congr 2; push_cast; ring

/-- The state after the last `p` of `N` chunks, from the end: every chunk decays it and adds its increment. -/
def bwd (l : ℝ) (C N : ℕ) (x : ℕ → ℝ) : ℕ → ℝ
  | 0 => 0
  | p + 1 => w l C * bwd l C N x p + ∑ i ∈ Finset.range C, x (C * (N - 1 - p) + i) * w l ((i : ℝ) + 1)

theorem bwd_eq (l : ℝ) (C N : ℕ) (x : ℕ → ℝ) (p : ℕ) (hp : p ≤ N) :
    bwd l C N x p = ∑ r ∈ Finset.range (C * p), x (C * (N - p) + r) * w l ((r : ℝ) + 1) := by
  induction p with
  | zero => simp [bwd]
  | succ p ih =>
    rw [bwd, ih (by omega), show C * (p + 1) = C + C * p by ring, Finset.sum_range_add, Finset.mul_sum, add_comm]
    have e : N - (p + 1) = N - 1 - p := by omega
    rw [e]
    congr 1
    refine Finset.sum_congr rfl fun s _ => ?_
    rw [mul_left_comm, ← w_add]
    congr 2
    · have : N - p = N - 1 - p + 1 := by omega
      rw [this]; ring
    · push_cast; ring

/-- What reaches time `C n + i`: its own chunk, and the state before it. -/
theorem fwd_split (l : ℝ) (C N n i : ℕ) (hn : n < N) (hi : i < C) (f : ℕ → ℝ) :
    ∑ s ∈ Finset.range (C * N), W l (C * n + i) s * f s
      = ∑ j ∈ Finset.range C, W l i j * f (C * n + j) + w l ((i : ℝ) + 1) * fwd l C f n := by
  have e : C * N = C * n + (C + C * (N - n - 1)) := by
    have : N = n + (1 + (N - n - 1)) := by omega
    conv_lhs => rw [this]
    ring
  rw [e, Finset.sum_range_add, Finset.sum_range_add, fwd_eq, Finset.mul_sum]
  have h0 : ∑ x ∈ Finset.range (C * (N - n - 1)), W l (C * n + i) (C * n + (C + x)) * f (C * n + (C + x)) = 0 :=
    Finset.sum_eq_zero fun x _ => by rw [W_shift, W, if_neg (by omega), zero_mul]
  rw [h0, add_zero, add_comm]
  congr 1
  · exact Finset.sum_congr rfl fun j _ => by rw [W_shift]
  · refine Finset.sum_congr rfl fun s hs => ?_
    have := Finset.mem_range.mp hs
    rw [W, if_pos (by omega), mul_left_comm, ← w_add, mul_comm]
    congr 2; push_cast; ring

/-- What leaves time `C n + j`: its own chunk, and the state of the chunks after it. -/
theorem bwd_split (l : ℝ) (C N n j : ℕ) (hn : n < N) (hj : j < C) (f : ℕ → ℝ) :
    ∑ t ∈ Finset.range (C * N), W l t (C * n + j) * f t
      = ∑ i ∈ Finset.range C, W l i j * f (C * n + i) + w l ((C : ℝ) - 1 - j) * bwd l C N f (N - 1 - n) := by
  have e : C * N = C * n + (C + C * (N - 1 - n)) := by
    have : N = n + (1 + (N - 1 - n)) := by omega
    conv_lhs => rw [this]
    ring
  rw [e, Finset.sum_range_add, Finset.sum_range_add, bwd_eq l C N f _ (by omega), Finset.mul_sum]
  have h0 : ∑ t ∈ Finset.range (C * n), W l t (C * n + j) * f t = 0 :=
    Finset.sum_eq_zero fun x hx => by
      have := Finset.mem_range.mp hx
      rw [W, if_neg (by omega), zero_mul]
  rw [h0, zero_add]
  congr 1
  · exact Finset.sum_congr rfl fun i _ => by rw [W_shift]
  · refine Finset.sum_congr rfl fun r _ => ?_
    have hN : N - (N - 1 - n) = n + 1 := by omega
    rw [W_shift, W, if_pos (by omega), hN, mul_left_comm, ← w_add, mul_comm]
    have e1 : C * n + (C + r) = C * (n + 1) + r := by ring
    have e2 : (((C + r : ℕ) : ℝ) - j) = (C : ℝ) - 1 - j + ((r : ℝ) + 1) := by push_cast; ring
    rw [e1, e2]

theorem fwd_add (l : ℝ) (C : ℕ) (x y : ℕ → ℝ) (n : ℕ) : fwd l C (fun s => x s + y s) n = fwd l C x n + fwd l C y n := by
  simp only [fwd_eq, add_mul, Finset.sum_add_distrib]

theorem fwd_smul (l : ℝ) (C : ℕ) (a : ℝ) (x : ℕ → ℝ) (n : ℕ) : fwd l C (fun s => a * x s) n = a * fwd l C x n := by
  simp only [fwd_eq, mul_assoc, Finset.mul_sum]

theorem fwd_sum {ι : Type} [Fintype ι] (l : ℝ) (C : ℕ) (x : ι → ℕ → ℝ) (n : ℕ) :
    fwd l C (fun s => ∑ b, x b s) n = ∑ b, fwd l C (x b) n := by
  simp only [fwd_eq, Finset.sum_mul]
  exact Finset.sum_comm

theorem bwd_smul (l : ℝ) (C N : ℕ) (a : ℝ) (x : ℕ → ℝ) (p : ℕ) : bwd l C N (fun s => a * x s) p = a * bwd l C N x p := by
  induction p with
  | zero => simp [bwd]
  | succ p ih => simp only [bwd, ih, mul_assoc, ← Finset.mul_sum]; ring

theorem bwd_sum {ι : Type} [Fintype ι] (l : ℝ) (C N : ℕ) (x : ι → ℕ → ℝ) (p : ℕ) :
    bwd l C N (fun s => ∑ b, x b s) p = ∑ b, bwd l C N (x b) p := by
  induction p with
  | zero => simp [bwd]
  | succ p ih =>
    simp only [bwd, ih, Finset.sum_add_distrib, Finset.mul_sum, Finset.sum_mul]
    congr 1
    exact Finset.sum_comm

/-! ## The three gradients of one head -/

variable (l : ℝ) (T : ℕ) (q k v d : ℕ → Fin 128 → ℝ)

/-- The inner product of two rows. -/
def dot (x y : Fin 128 → ℝ) : ℝ := ∑ b, x b * y b

/-- The gradient at the queries. -/
def dQ (t : ℕ) (a : Fin 128) : ℝ := ∑ s ∈ Finset.range T, W l t s * (dot (d t) (v s) * k s a)

/-- The gradient at the keys. -/
def dK (s : ℕ) (a : Fin 128) : ℝ := ∑ t ∈ Finset.range T, W l t s * (dot (d t) (v s) * q t a)

/-- The gradient at the values. -/
def dV (s : ℕ) (b : Fin 128) : ℝ := ∑ t ∈ Finset.range T, W l t s * (dot (q t) (k s) * d t b)

theorem dQ_chunk (C N n i : ℕ) (hn : n < N) (hi : i < C) (a : Fin 128) :
    dQ l (C * N) k v d (C * n + i) a
      = ∑ j ∈ Finset.range C, (dot (d (C * n + i)) (v (C * n + j)) * W l i j) * k (C * n + j) a
        + ∑ b, (d (C * n + i) b * w l ((i : ℝ) + 1)) * fwd l C (fun s => k s a * v s b) n := by
  rw [dQ, fwd_split l C N n i hn hi]
  congr 1
  · exact Finset.sum_congr rfl fun j _ => by ring
  · have : (fun s => dot (d (C * n + i)) (v s) * k s a) = fun s => ∑ b, d (C * n + i) b * (k s a * v s b) := by
      funext s; rw [dot, Finset.sum_mul]; exact Finset.sum_congr rfl fun b _ => by ring
    rw [this, fwd_sum, Finset.mul_sum]
    exact Finset.sum_congr rfl fun b _ => by rw [fwd_smul]; ring

theorem dK_chunk (C N n j : ℕ) (hn : n < N) (hj : j < C) (a : Fin 128) :
    dK l (C * N) q v d (C * n + j) a
      = ∑ i ∈ Finset.range C, (dot (d (C * n + i)) (v (C * n + j)) * W l i j) * q (C * n + i) a
        + ∑ b, (v (C * n + j) b * w l ((C : ℝ) - 1 - j)) * bwd l C N (fun t => q t a * d t b) (N - 1 - n) := by
  rw [dK, bwd_split l C N n j hn hj]
  congr 1
  · exact Finset.sum_congr rfl fun j _ => by ring
  · have : (fun t => dot (d t) (v (C * n + j)) * q t a) = fun t => ∑ b, v (C * n + j) b * (q t a * d t b) := by
      funext s; rw [dot, Finset.sum_mul]; exact Finset.sum_congr rfl fun b _ => by ring
    rw [this, bwd_sum, Finset.mul_sum]
    exact Finset.sum_congr rfl fun b _ => by rw [bwd_smul]; ring

theorem dV_chunk (C N n j : ℕ) (hn : n < N) (hj : j < C) (b : Fin 128) :
    dV l (C * N) q k d (C * n + j) b
      = ∑ i ∈ Finset.range C, (dot (q (C * n + i)) (k (C * n + j)) * W l i j) * d (C * n + i) b
        + (∑ a, k (C * n + j) a * bwd l C N (fun t => q t a * d t b) (N - 1 - n)) * w l ((C : ℝ) - 1 - j) := by
  rw [dV, bwd_split l C N n j hn hj]
  congr 1
  · exact Finset.sum_congr rfl fun j _ => by ring
  · have : (fun t => dot (q t) (k (C * n + j)) * d t b) = fun t => ∑ a, k (C * n + j) a * (q t a * d t b) := by
      funext s; rw [dot, Finset.sum_mul]; exact Finset.sum_congr rfl fun b _ => by ring
    rw [this, bwd_sum, mul_comm]
    congr 1
    exact Finset.sum_congr rfl fun b _ => by rw [bwd_smul]

end Cert.Retention

end
-- ==== Proof.Retention.Ops.lean ====
module

public import proofs.«01_k».proof.Proof.Gen.Kernel5Ideal.Value
public import proofs.«01_k».proof.Proof.Retention.Decay
public import Idealize.ShloMosaic.Lib.Pipeline.ValueKit
public import Idealize.ShloMosaic.Lib.Pipeline.ReadBack

@[expose] public section

set_option maxRecDepth 16384
noncomputable section

/-! What the kernel's body computes for one head and one chunk, as operations on the blocks it reads, each with its entries. -/

namespace Cert.Retention

open Idealize.ShloMosaic Idealize.ShloMosaic.TcCoe Idealize.SL.Sem
open Cert.Kernel5Ideal Cert.Kernel5Ideal.Gen

/-- Types of the blocks: rows of one head, square of chunk positions, square of features, as they are loaded. -/
abbrev Rows (φ : FTy) := FVec Ideal S256x128 φ
abbrev Chunk (φ : FTy) := FVec Ideal S256x256 φ
abbrev State (φ : FTy) := FVec Ideal S128x128 φ

def zR : Rows .f32 := constant S256x128 .f32 0x00000000#32
def zC : Chunk .f32 := constant S256x256 .f32 0x00000000#32
def zS : State .f32 := constant S128x128 .f32 0x00000000#32

/-- A load taken as it is, of the same shape. -/
def same {φ : FTy} (x : Rows φ) : Rows φ := shapeCast S256x128 x shapeCasts_S256x128_S256x128

theorem same_at {φ : FTy} (x : Rows φ) (i : Fin 256) (a : Fin 128) : same x (ix2 i a) = x (ix2 i a) := by
  pointwise [same]

/-- Rows times rows, weighted by the decay between the two positions. -/
def scoreOp (dm : FVec Ideal S1x256x256 .f32) (x y : Rows .bf16) : Chunk .bf16 :=
  truncf .bf16 (mulf (matmul dot_S256x128_S256x128_S256x256_1_1_0_0_n_n none x y zC)
    (shapeCast S256x256 dm shapeCasts_S1x256x256_S256x256)) bitsLt_bf16_f32

theorem scoreOp_at (dm : FVec Ideal S1x256x256 .f32) (x y : Rows .bf16) (i j : Fin 256) :
    scoreOp dm x y (ix2 i j) = (∑ b : Fin 128, x (ix2 i b) * y (ix2 j b)) * dm (ix3 0 i j) := by
  pointwise [scoreOp, zC]

/-- Rows weighted by a number for each position. -/
def weighOp (x : Rows .bf16) (w : FVec Ideal S1x256x128 .f32) : Rows .bf16 :=
  truncf .bf16 (mulf (extf .f32 x bitsLt_bf16_f32) (shapeCast S256x128 w shapeCasts_S1x256x128_S256x128)) bitsLt_bf16_f32

theorem weighOp_at (x : Rows .bf16) (w : FVec Ideal S1x256x128 .f32) (i : Fin 256) (a : Fin 128) :
    weighOp x w (ix2 i a) = x (ix2 i a) * w (ix3 0 i a) := by
  pointwise [weighOp]

/-- Weights of positions on rows, along their second index and along their first. -/
def mixOp (s : Chunk .bf16) (x : Rows .bf16) : Rows .f32 :=
  matmul dot_S256x256_S256x128_S256x128_1_0_0_1_n_n none s x zR

theorem mixOp_at (s : Chunk .bf16) (x : Rows .bf16) (i : Fin 256) (a : Fin 128) :
    mixOp s x (ix2 i a) = ∑ j : Fin 256, s (ix2 i j) * x (ix2 j a) := by
  pointwise [mixOp, zR]

def mixTOp (s : Chunk .bf16) (x : Rows .bf16) : Rows .f32 :=
  matmul dot_S256x256_S256x128_S256x128_0_0_1_1_n_n none s x zR

theorem mixTOp_at (s : Chunk .bf16) (x : Rows .bf16) (j : Fin 256) (a : Fin 128) :
    mixTOp s x (ix2 j a) = ∑ i : Fin 256, s (ix2 i j) * x (ix2 i a) := by
  pointwise [mixTOp, zR]

/-- Rows on a state, along its second index and along its first. -/
def readTOp (x : Rows .bf16) (r : State .bf16) : Rows .f32 :=
  matmul dot_S256x128_S128x128_S256x128_1_1_0_0_n_n none x r zR

theorem readTOp_at (x : Rows .bf16) (r : State .bf16) (i : Fin 256) (a : Fin 128) :
    readTOp x r (ix2 i a) = ∑ b : Fin 128, x (ix2 i b) * r (ix2 a b) := by
  pointwise [readTOp, zR]

def readOp (x : Rows .bf16) (r : State .bf16) : Rows .f32 :=
  matmul dot_S256x128_S128x128_S256x128_1_0_0_1_n_n none x r zR

theorem readOp_at (x : Rows .bf16) (r : State .bf16) (i : Fin 256) (b : Fin 128) :
    readOp x r (ix2 i b) = ∑ a : Fin 128, x (ix2 i a) * r (ix2 a b) := by
  pointwise [readOp, zR]

/-- Products of two chunks of rows, summed over the positions. -/
def outerOp (x y : Rows .bf16) : State .f32 :=
  matmul dot_S256x128_S256x128_S128x128_0_0_1_1_n_n none x y zS

theorem outerOp_at (x y : Rows .bf16) (a b : Fin 128) :
    outerOp x y (ix2 a b) = ∑ i : Fin 256, x (ix2 i a) * y (ix2 i b) := by
  pointwise [outerOp, zS]

/-- The transpose of the rotation by the position's angles: the halves change places and the sine table carries the sign. -/
def turnOp (x cs sn : Rows .f32) : Rows .f32 :=
  subf (mulf x (same cs)) (mulf (dynamicRotate 1 64#32 none x rotates_S256x128_d1) (same sn))

theorem turnOp_at (x cs sn : Rows .f32) (i : Fin 256) (a a' : Fin 128) (h : a'.val = (a.val + 64) % 128) :
    turnOp x cs sn (ix2 i a) = x (ix2 i a) * cs (ix2 i a) - x (ix2 i a') * sn (ix2 i a) := by
  obtain rfl : a' = ⟨(a.val + 128 - 64) % 128, Nat.mod_lt _ (by decide)⟩ := Fin.ext (by rw [h]; show _ = (a.val + 128 - 64) % 128; omega)
  pointwise [turnOp, same]

/-- The gradients of a chunk's rows before the rotation is undone, and the next state. -/
def dqOp (dm : FVec Ideal S1x256x256 .f32) (xi : FVec Ideal S1x256x128 .f32) (rb : State .f32) (k v d : Rows .bf16) : Rows .f32 :=
  addf (mixOp (scoreOp dm d (same v)) (same k)) (readTOp (weighOp d xi) (truncf .bf16 rb bitsLt_bf16_f32))

def dkOp (dm : FVec Ideal S1x256x256 .f32) (zt : FVec Ideal S1x256x128 .f32) (g : State .f32) (q v d : Rows .bf16) : Rows .f32 :=
  addf (mixTOp (scoreOp dm d (same v)) (same q)) (readTOp (weighOp (same v) zt) (truncf .bf16 g bitsLt_bf16_f32))

def dvOp (dm : FVec Ideal S1x256x256 .f32) (zt : FVec Ideal S1x256x128 .f32) (g : State .f32) (q k d : Rows .bf16) : Rows .f32 :=
  addf (mixTOp (scoreOp dm (same q) (same k)) d)
    (mulf (readOp (same k) (truncf .bf16 g bitsLt_bf16_f32)) (shapeCast S256x128 zt shapeCasts_S1x256x128_S256x128))

def stepOp (gc : FVec Ideal S1x1x128 .f32) (xi : FVec Ideal S1x256x128 .f32) (g : State .f32) (q d : Rows .bf16) : State .f32 :=
  addf (mulf (broadcastTo S128x128 (shapeCast S1x128 gc shapeCasts_S1x1x128_S1x128) broadcasts_S1x128_S128x128) g) (outerOp (same q) (weighOp d xi))

theorem dqOp_at (dm : FVec Ideal S1x256x256 .f32) (xi : FVec Ideal S1x256x128 .f32) (rb : State .f32) (k v d : Rows .bf16) (i : Fin 256) (a : Fin 128) :
    dqOp dm xi rb k v d (ix2 i a) = ∑ j : Fin 256, ((∑ b : Fin 128, d (ix2 i b) * v (ix2 j b)) * dm (ix3 0 i j)) * k (ix2 j a)
      + ∑ b : Fin 128, (d (ix2 i b) * xi (ix3 0 i b)) * rb (ix2 a b) := by
  show mixOp _ _ (ix2 i a) + readTOp _ _ (ix2 i a) = _
  simp only [mixOp_at, readTOp_at, scoreOp_at, weighOp_at, same_at]; rfl

theorem dkOp_at (dm : FVec Ideal S1x256x256 .f32) (zt : FVec Ideal S1x256x128 .f32) (g : State .f32) (q v d : Rows .bf16) (j : Fin 256) (a : Fin 128) :
    dkOp dm zt g q v d (ix2 j a) = ∑ i : Fin 256, ((∑ b : Fin 128, d (ix2 i b) * v (ix2 j b)) * dm (ix3 0 i j)) * q (ix2 i a)
      + ∑ b : Fin 128, (v (ix2 j b) * zt (ix3 0 j b)) * g (ix2 a b) := by
  show mixTOp _ _ (ix2 j a) + readTOp _ _ (ix2 j a) = _
  simp only [mixTOp_at, readTOp_at, scoreOp_at, weighOp_at, same_at]; rfl

theorem dvOp_at (dm : FVec Ideal S1x256x256 .f32) (zt : FVec Ideal S1x256x128 .f32) (g : State .f32) (q k d : Rows .bf16) (j : Fin 256) (b : Fin 128) :
    dvOp dm zt g q k d (ix2 j b) = ∑ i : Fin 256, ((∑ a : Fin 128, q (ix2 i a) * k (ix2 j a)) * dm (ix3 0 i j)) * d (ix2 i b)
      + (∑ a : Fin 128, k (ix2 j a) * g (ix2 a b)) * zt (ix3 0 j b) := by
  have e : (shapeCast S256x128 zt shapeCasts_S1x256x128_S256x128 : FVec Ideal S256x128 .f32) (ix2 j b) = zt (ix3 0 j b) := by pointwise []
  show mixTOp _ _ (ix2 j b) + readOp _ _ (ix2 j b) * (shapeCast S256x128 zt shapeCasts_S1x256x128_S256x128 : FVec Ideal S256x128 .f32) (ix2 j b) = _
  rw [e]
  simp only [mixTOp_at, readOp_at, scoreOp_at, same_at]; rfl

theorem stepOp_at (gc : FVec Ideal S1x1x128 .f32) (xi : FVec Ideal S1x256x128 .f32) (g : State .f32) (q d : Rows .bf16) (a b : Fin 128) :
    stepOp gc xi g q d (ix2 a b) = gc (ix3 0 0 b) * g (ix2 a b) + ∑ i : Fin 256, q (ix2 i a) * (d (ix2 i b) * xi (ix3 0 i b)) := by
  have e : (broadcastTo S128x128 (shapeCast S1x128 gc shapeCasts_S1x1x128_S1x128) broadcasts_S1x128_S128x128 : FVec Ideal S128x128 .f32) (ix2 a b)
      = gc (ix3 0 0 b) := by pointwise []
  show (broadcastTo S128x128 (shapeCast S1x128 gc shapeCasts_S1x1x128_S1x128) broadcasts_S1x128_S128x128 : FVec Ideal S128x128 .f32) (ix2 a b)
      * g (ix2 a b) + outerOp _ _ (ix2 a b) = _
  rw [e]
  simp only [outerOp_at, weighOp_at, same_at]

/-- What is stored for the three results. -/
def dqOut (x cs sn : Rows .f32) : Rows .bf16 := truncf .bf16 (turnOp x cs sn) bitsLt_bf16_f32
def dkOut (x cs sn : Rows .f32) : Rows .bf16 :=
  truncf .bf16 (mulf (turnOp x cs sn) (broadcast S256x128 (Scalar.ofBits .f32 0x3DB504F3#32 : Ideal .f32))) bitsLt_bf16_f32
def dvOut (x : Rows .f32) : Rows .bf16 := truncf .bf16 x bitsLt_bf16_f32

/-- A state as loaded from the scratch, and the saved state as loaded. -/
def ofScratch (x : FVec Ideal S1x128x128 .f32) : State .f32 := shapeCast S128x128 x shapeCasts_S1x128x128_S128x128
def ofSaved (x : FVec Ideal S1x1x128x128 .f32) : State .f32 := shapeCast S128x128 x shapeCasts_S1x1x128x128_S128x128
def toScratch (x : State .f32) : FVec Ideal S1x128x128 .f32 := shapeCast S1x128x128 x shapeCasts_S128x128_S1x128x128

theorem ofScratch_at (x : FVec Ideal S1x128x128 .f32) (a b : Fin 128) : ofScratch x (ix2 a b) = x (ix3 0 a b) := by pointwise [ofScratch]
theorem ofSaved_at (x : FVec Ideal S1x1x128x128 .f32) (a b : Fin 128) : ofSaved x (ix2 a b) = x (ix4 0 0 a b) := by pointwise [ofSaved]
theorem toScratch_at (x : State .f32) (a b : Fin 128) : toScratch x (ix3 0 a b) = x (ix2 a b) := by pointwise [toScratch]

end Cert.Retention
-- ==== Proof.Retention.Body.lean ====
module

public import proofs.«01_k».proof.Proof.Retention.Ops

@[expose] public section

set_option maxRecDepth 16384
noncomputable section

/-! What a grid point of the kernel stores: for each head and each of its two chunks the rows of the three gradients, and each head's next
state. The later chunk is done first, the earlier one starts from its state. -/

namespace Cert.Retention

open Idealize.ShloMosaic Idealize.ShloMosaic.TcCoe Idealize.SL.Sem
open Cert.Kernel5Ideal Cert.Kernel5Ideal.Gen
open Idealize.ShloMosaic.Pipeline (Dat)

/-- The part of a block that belongs to one head, or to one head and one chunk. -/
def rowsOf (x : FVec Ideal S512x512 .bf16) (hh : Fin 4) (cc : Fin 2) : Rows .bf16 :=
  View.ld (Val := Elt Ideal) (e' := .bf16) x (Rect.unit (s := S512x512) ![256 * cc.val, 128 * hh.val] ![256, 128] (by
    have := hh.isLt; have := cc.isLt
    intro a; fin_cases a
    · show 256 * cc.val + 256 ≤ 512; omega
    · show 128 * hh.val + 128 ≤ 512; omega))

def tableOf (x : FVec Ideal S512x128 .f32) (cc : Fin 2) : Rows .f32 :=
  View.ld (Val := Elt Ideal) (e' := .f32) x (Rect.unit (s := S512x128) ![256 * cc.val, 0] ![256, 128] (by
    have := cc.isLt
    intro a; fin_cases a
    · show 256 * cc.val + 256 ≤ 512; omega
    · show 0 + 128 ≤ 128; omega))

def decayOf (x : FVec Ideal S4x256x256 .f32) (hh : Fin 4) : FVec Ideal S1x256x256 .f32 :=
  View.ld (Val := Elt Ideal) (e' := .f32) x (Rect.unit (s := S4x256x256) ![hh.val, 0, 0] ![1, 256, 256] (by
    have := hh.isLt
    intro a; fin_cases a
    · show hh.val + 1 ≤ 4; omega
    · show 0 + 256 ≤ 256; omega
    · show 0 + 256 ≤ 256; omega))

def weightOf (x : FVec Ideal S4x256x128 .f32) (hh : Fin 4) : FVec Ideal S1x256x128 .f32 :=
  View.ld (Val := Elt Ideal) (e' := .f32) x (Rect.unit (s := S4x256x128) ![hh.val, 0, 0] ![1, 256, 128] (by
    have := hh.isLt
    intro a; fin_cases a
    · show hh.val + 1 ≤ 4; omega
    · show 0 + 256 ≤ 256; omega
    · show 0 + 128 ≤ 128; omega))

def chunkOf (x : FVec Ideal S4x8x128 .f32) (hh : Fin 4) : FVec Ideal S1x1x128 .f32 :=
  View.ld (Val := Elt Ideal) (e' := .f32) x (Rect.unit (s := S4x8x128) ![hh.val, 0, 0] ![1, 1, 128] (by
    have := hh.isLt
    intro a; fin_cases a
    · show hh.val + 1 ≤ 4; omega
    · show 0 + 1 ≤ 8; omega
    · show 0 + 128 ≤ 128; omega))

def savedOf (x : FVec Ideal S4x2x128x128 .f32) (hh : Fin 4) (cc : Fin 2) : FVec Ideal S1x1x128x128 .f32 :=
  View.ld (Val := Elt Ideal) (e' := .f32) x (Rect.unit (s := S4x2x128x128) ![hh.val, cc.val, 0, 0] ![1, 1, 128, 128] (by
    have := hh.isLt; have := cc.isLt
    intro a; fin_cases a
    · show hh.val + 1 ≤ 4; omega
    · show cc.val + 1 ≤ 2; omega
    · show 0 + 128 ≤ 128; omega
    · show 0 + 128 ≤ 128; omega))

def headOf (x : FVec Ideal S4x128x128 .f32) (hh : Fin 4) : FVec Ideal S1x128x128 .f32 :=
  View.ld (Val := Elt Ideal) (e' := .f32) x (Rect.unit (s := S4x128x128) ![hh.val, 0, 0] ![1, 128, 128] (by
    have := hh.isLt
    intro a; fin_cases a
    · show hh.val + 1 ≤ 4; omega
    · show 0 + 128 ≤ 128; omega
    · show 0 + 128 ≤ 128; omega))

variable (m : (ℓ : Loc nD τ sig) → Buf (Elt Ideal) ℓ) (c : Dev nD) (t : Fin cfg0.N)

/-- One head's state after one chunk, and the state either chunk starts from. -/
def stepB (hh : Fin 4) (cc : Fin 2) (g : State .f32) : State .f32 :=
  stepOp (chunkOf (iblk m c 8 t) hh) (weightOf (iblk m c 6 t) hh) g (rowsOf (iblk m c 0 t) hh cc) (rowsOf (iblk m c 3 t) hh cc)

def startB (hh : Fin 4) (g : State .f32) : Fin 2 → State .f32
  | 0 => stepB m c t hh 1 g
  | 1 => g

/-- The rows stored for one head and one chunk, given each head's state at the point's start. -/
def dqB (hh : Fin 4) (cc : Fin 2) : Rows .bf16 :=
  dqOut (dqOp (decayOf (iblk m c 5 t) hh) (weightOf (iblk m c 6 t) hh) (ofSaved (savedOf (iblk m c 4 t) hh cc))
    (rowsOf (iblk m c 1 t) hh cc) (rowsOf (iblk m c 2 t) hh cc) (rowsOf (iblk m c 3 t) hh cc)) (tableOf (iblk m c 9 t) cc) (tableOf (iblk m c 10 t) cc)

def dkB (g : Fin 4 → State .f32) (hh : Fin 4) (cc : Fin 2) : Rows .bf16 :=
  dkOut (dkOp (decayOf (iblk m c 5 t) hh) (weightOf (iblk m c 7 t) hh) (startB m c t hh (g hh) cc)
    (rowsOf (iblk m c 0 t) hh cc) (rowsOf (iblk m c 2 t) hh cc) (rowsOf (iblk m c 3 t) hh cc)) (tableOf (iblk m c 9 t) cc) (tableOf (iblk m c 10 t) cc)

def dvB (g : Fin 4 → State .f32) (hh : Fin 4) (cc : Fin 2) : Rows .bf16 :=
  dvOut (dvOp (decayOf (iblk m c 5 t) hh) (weightOf (iblk m c 7 t) hh) (startB m c t hh (g hh) cc)
    (rowsOf (iblk m c 0 t) hh cc) (rowsOf (iblk m c 1 t) hh cc) (rowsOf (iblk m c 3 t) hh cc))

def nextB (g : Fin 4 → State .f32) (hh : Fin 4) : FVec Ideal S1x128x128 .f32 := toScratch (stepB m c t hh 0 (startB m c t hh (g hh) 0))

/-- The states at a point's start: what the scratch held, and zero at the first point. -/
def heldB (x : FVec Ideal S4x128x128 .f32) (hh : Fin 4) : State .f32 := ofScratch (headOf x hh)
def zeroB (_ : Fin 4) : State .f32 := ofScratch fun _ => 0

/-- An entry of a stored tile is the entry of the tile of its own head and chunk. -/
theorem of_tile (B : Fin 4 → Fin 2 → Rows .bf16) (y : S512x512.Idx) (h' : Fin 4) (c' : Fin 2) (x : S256x128.Idx)
    (hh : Fin 4) (cc : Fin 2) (i : Fin 256) (a : Fin 128) (e0 : (y 0 : ℕ) = 256 * c'.val + (x 0 : ℕ)) (e1 : (y 1 : ℕ) = 128 * h'.val + (x 1 : ℕ))
    (h0 : (y 0 : ℕ) = 256 * cc.val + i.val) (h1 : (y 1 : ℕ) = 128 * hh.val + a.val) : B h' c' x = B hh cc (ix2 i a) := by
  have x0 : (x 0 : ℕ) < 256 := (x 0).isLt
  have x1 : (x 1 : ℕ) < 128 := (x 1).isLt
  have := i.isLt; have := a.isLt
  obtain rfl : h' = hh := Fin.ext (by omega)
  obtain rfl : c' = cc := Fin.ext (by omega)
  obtain rfl : x = ix2 i a := by
    funext b; fin_cases b
    · exact Fin.ext (by show (x 0 : ℕ) = i.val; omega)
    · exact Fin.ext (by show (x 1 : ℕ) = a.val; omega)
  rfl

theorem of_head (B : Fin 4 → FVec Ideal S1x128x128 .f32) (y : S4x128x128.Idx) (h' : Fin 4) (x : S1x128x128.Idx)
    (hh : Fin 4) (a b : Fin 128) (e0 : (y 0 : ℕ) = h'.val + (x 0 : ℕ)) (e1 : (y 1 : ℕ) = (x 1 : ℕ)) (e2 : (y 2 : ℕ) = (x 2 : ℕ))
    (h0 : (y 0 : ℕ) = hh.val) (h1 : (y 1 : ℕ) = a.val) (h2 : (y 2 : ℕ) = b.val) : B h' x = B hh (ix3 0 a b) := by
  have x0 : (x 0 : ℕ) < 1 := (x 0).isLt
  obtain rfl : h' = hh := Fin.ext (by omega)
  obtain rfl : x = ix3 0 a b := by
    funext d; fin_cases d
    · exact Fin.ext (by show (x 0 : ℕ) = 0; omega)
    · exact Fin.ext (by show (x 1 : ℕ) = a.val; omega)
    · exact Fin.ext (by show (x 2 : ℕ) = b.val; omega)
  rfl

/-- The states left by the point before. -/
abbrev before : FVec Ideal S4x128x128 .f32 :=
  (outsAt0 m c (t.val - 1) (Nat.lt_of_le_of_lt (Nat.sub_le _ _) t.isLt)).2.2.2

/-- What the first point reads of a head: the zeros it has stored over the whole scratch, which the stores of earlier heads leave. -/
theorem off_head (k : ℕ) (inb : ∀ a, (![k, 0, 0] : Fin 3 → ℕ) a + (![1, 128, 128] : Fin 3 → ℕ) a ≤ S4x128x128.size a) (p : FVec Ideal S1x128x128 .f32)
    (L : List (View.Piece (Elt Ideal) S4x128x128 .f32)) (y : S4x128x128.Idx) (hy : k < (y 0 : ℕ)) :
    View.canon (⟨Rect.unit (s := S4x128x128) ![k, 0, 0] ![1, 128, 128] inb, p⟩ :: L) y = View.canon L y :=
  View.canon_cons_of_not_mem _ _ fun h => by
    have h' : y ∈ (Rect.unit (s := S4x128x128) ![k, 0, 0] ![1, 128, 128] inb).set := h
    have : (y 0 : ℕ) < k + 1 := (Rect.mem_set_unit.mp h' 0).2
    omega

abbrev zeros : View.Piece (Elt Ideal) S4x128x128 .f32 := ⟨Rect.unit (s := S4x128x128) ![0, 0, 0] ![4, 128, 128] inb_S4x128x128_S4x128x128_0_0_0, k0_pay4 (F := Ideal)⟩

theorem canon_zeros : View.canon [zeros] = fun _ => (0 : EReal) := by
  refine (View.canon_cons_unit_lit (Val := Elt Ideal) (e := .f32) (S := S4x128x128) inb_S4x128x128_S4x128x128_0_0_0 (k0_pay4 (F := Ideal)) [] (by decide)).trans ?_
  funext y
  pointwise [k0_pay4]

theorem back (L : List (View.Piece (Elt Ideal) S4x128x128 .f32)) (hh : Fin 4)
    (inb : ∀ a, (![hh.val, 0, 0] : Fin 3 → ℕ) a + (![1, 128, 128] : Fin 3 → ℕ) a ≤ S4x128x128.size a)
    (hL : ∀ y : S4x128x128.Idx, (y 0 : ℕ) = hh.val → View.canon L y = (0 : EReal)) :
    (View.whole cc0_scratch0).readCov L (Rect.unit (s := S4x128x128) ![hh.val, 0, 0] ![1, 128, 128] inb).toLoadRect = fun _ => (0 : EReal) := by
  rw [View.readCov_eq_canon']
  funext x
  have : (x 0 : ℕ) < 1 := (x 0).isLt
  exact hL _ (by show hh.val + 1 * (x 0 : ℕ) = hh.val; omega)

theorem back0 : (View.whole cc0_scratch0).readCov [zeros]
    (Rect.unit (s := S4x128x128) ![0, 0, 0] ![1, 128, 128] inb_S4x128x128_S1x128x128_0_0_0).toLoadRect = fun _ => (0 : EReal) :=
  back [zeros] 0 inb_S4x128x128_S1x128x128_0_0_0 fun y _ => congrFun canon_zeros y

variable (p0 p1 p2 : FVec Ideal S1x128x128 .f32)

abbrev held1 : List (View.Piece (Elt Ideal) S4x128x128 .f32) :=
  [⟨Rect.unit (s := S4x128x128) ![0, 0, 0] ![1, 128, 128] inb_S4x128x128_S1x128x128_0_0_0, p0⟩, zeros]
abbrev held2 : List (View.Piece (Elt Ideal) S4x128x128 .f32) :=
  ⟨Rect.unit (s := S4x128x128) ![1, 0, 0] ![1, 128, 128] inb_S4x128x128_S1x128x128_1_0_0, p1⟩ :: held1 p0
abbrev held3 : List (View.Piece (Elt Ideal) S4x128x128 .f32) :=
  ⟨Rect.unit (s := S4x128x128) ![2, 0, 0] ![1, 128, 128] inb_S4x128x128_S1x128x128_2_0_0, p2⟩ :: held2 p0 p1

theorem canon1 (y : S4x128x128.Idx) (hy : 0 < (y 0 : ℕ)) : View.canon (held1 p0) y = (0 : EReal) :=
  (off_head 0 _ p0 _ y hy).trans (congrFun canon_zeros y)
theorem canon2 (y : S4x128x128.Idx) (hy : 1 < (y 0 : ℕ)) : View.canon (held2 p0 p1) y = (0 : EReal) :=
  (off_head 1 _ p1 _ y hy).trans (canon1 p0 y (by omega))
theorem canon3 (y : S4x128x128.Idx) (hy : 2 < (y 0 : ℕ)) : View.canon (held3 p0 p1 p2) y = (0 : EReal) :=
  (off_head 2 _ p2 _ y hy).trans (canon2 p0 p1 y (by omega))

theorem back1 : (View.whole cc0_scratch0).readCov (held1 p0)
    (Rect.unit (s := S4x128x128) ![1, 0, 0] ![1, 128, 128] inb_S4x128x128_S1x128x128_1_0_0).toLoadRect = fun _ => (0 : EReal) :=
  back (held1 p0) 1 inb_S4x128x128_S1x128x128_1_0_0 fun y hy => canon1 p0 y (by rw [hy]; decide)
theorem back2 : (View.whole cc0_scratch0).readCov (held2 p0 p1)
    (Rect.unit (s := S4x128x128) ![2, 0, 0] ![1, 128, 128] inb_S4x128x128_S1x128x128_2_0_0).toLoadRect = fun _ => (0 : EReal) :=
  back (held2 p0 p1) 2 inb_S4x128x128_S1x128x128_2_0_0 fun y hy => canon2 p0 p1 y (by rw [hy]; decide)
theorem back3 : (View.whole cc0_scratch0).readCov (held3 p0 p1 p2)
    (Rect.unit (s := S4x128x128) ![3, 0, 0] ![1, 128, 128] inb_S4x128x128_S1x128x128_3_0_0).toLoadRect = fun _ => (0 : EReal) :=
  back (held3 p0 p1 p2) 3 inb_S4x128x128_S1x128x128_3_0_0 fun y hy => canon3 p0 p1 p2 y (by rw [hy]; decide)

end Cert.Retention
-- ==== Proof.Retention.Spec.lean ====
module

public import proofs.«01_k».proof.Proof.Retention.Decay
public import proofs.«01_k».proof.Kernel5Ideal

@[expose] public section

set_option maxRecDepth 16384
noncomputable section

/-! The three gradients of retention over the whole sequence, as real functions of the four arguments. -/

namespace Cert.Retention

open Idealize.ShloMosaic Idealize.ShloMosaic.TcCoe

abbrev Wide (φ : FTy) := FVec Ideal Cert.Kernel5Ideal.S8192x512 φ

/-- The column of a head's feature. -/
def col (h : Fin 4) (a : Fin 128) : Fin 512 := ⟨128 * h.val + a.val, by have := h.isLt; have := a.isLt; omega⟩

/-- Every entry is a real number. -/
def Real' {φ : FTy} (X : Wide φ) : Prop := ∀ i, ∃ r : ℝ, X i = ((r : ℝ) : EReal)

/-- A head's rows, as real numbers. -/
def row {φ : FTy} (X : Wide φ) (h : Fin 4) (s : ℕ) (a : Fin 128) : ℝ :=
  if hs : s < 8192 then EReal.toReal (X (ix2 ⟨s, hs⟩ (col h a))) else 0

theorem row_at {φ : FTy} {X : Wide φ} (hX : Real' X) (s : Fin 8192) (h : Fin 4) (a : Fin 128) :
    X (ix2 s (col h a)) = ((row X h s.val a : ℝ) : EReal) := by
  obtain ⟨r, hr⟩ := hX (ix2 s (col h a))
  rw [row, dif_pos s.isLt, hr]
  rfl

theorem row_at' {φ : FTy} {X : Wide φ} (hX : Real' X) (s : Fin 8192) (c : Fin 512) (h : Fin 4) (n : ℕ) (a : Fin 128) (hs : s.val = n)
    (hc : c.val = 128 * h.val + a.val) : X (ix2 s c) = ((row X h n a : ℝ) : EReal) := by
  obtain rfl : c = col h a := Fin.ext hc
  subst hs
  exact row_at hX s h a

/-- A sum of products of reals. -/
theorem sum_of {n : ℕ} (x y z : Fin n → ℝ) (h : ∀ j, x j * y j = z j) :
    ∑ j, ((x j : ℝ) : EReal) * ((y j : ℝ) : EReal) = ((∑ j, z j : ℝ) : EReal) := by
  rw [Cert.Norm.sum_coe]
  exact Finset.sum_congr rfl fun j _ => by rw [← EReal.coe_mul, h]

/-- A position as a number. -/
abbrev num (n : ℕ) : EReal := (FloatOps.sitofp (F := Ideal) .f32 (BitVec.ofNat 32 n) : Ideal .f32)

theorem sitofp_nat (n : ℕ) (hn : n < 2 ^ 31) : num n = (((n : ℝ)) : EReal) := by
  show (((BitVec.ofNat 32 n).toInt : ℝ) : EReal) = _
  have : (BitVec.ofNat 32 n).toInt = (n : ℤ) := by
    have e : (BitVec.ofNat 32 n).toNat = n := by rw [BitVec.toNat_ofNat]; exact Nat.mod_eq_of_lt (by omega)
    rw [BitVec.toInt_eq_toNat_of_lt (by rw [e]; omega), e]
  rw [this]; norm_cast

/-- The angle of a position and a feature pair, its cosine and sine. -/
def ang (t : ℕ) (a : ℕ) : ℝ := (t : ℝ) * Real.rpow 10000 (-(a : ℝ) * (1 / 64))
def cosR (t a : ℕ) : ℝ := Real.cos (ang t a)
def sinR (t a : ℕ) : ℝ := Real.sin (ang t a)

theorem ang_of (t a : ℕ) (ht : t < 2 ^ 31) (ha : a < 2 ^ 31) :
    num t * Ideal.pow (Ideal.ofBits FTy.f32 0x461C4000#32)
        (Ideal.div (-num a) (Ideal.ofBits FTy.f32 0x42800000#32)) = ((ang t a : ℝ) : EReal) := by
  have e1 : Ideal.ofBits .f32 0x461C4000#32 = (((10000 : ℝ)) : EReal) := by
    simp [Ideal.ofBits, Ideal.ieee]; rw [← EReal.coe_mul]; norm_num
  have e2 : Ideal.ofBits .f32 0x42800000#32 = (((64 : ℝ)) : EReal) := by
    simp [Ideal.ofBits, Ideal.ieee]; rw [← EReal.coe_mul]; norm_num
  have s1 := sitofp_nat t ht
  have s2 := sitofp_nat a ha
  rw [s1, s2, e1, e2, ← EReal.coe_neg, Ideal.div_coe (by norm_num)]
  show ((t : ℝ) : EReal) * ((Real.rpow 10000 (-(a : ℝ) * (1 / 64)) : ℝ) : EReal) = _
  rw [ang, EReal.coe_mul]

/-- The other feature of a pair. -/
def other (a : Fin 128) : Fin 128 := ⟨(a.val + 64) % 128, Nat.mod_lt _ (by decide)⟩

/-- Rows turned by the angles of their positions, and turned back. -/
def turn (x : ℕ → Fin 128 → ℝ) (t : ℕ) (a : Fin 128) : ℝ :=
  if a.val < 64 then x t a * cosR t a.val - x t (other a) * sinR t a.val
  else x t (other a) * sinR t (a.val - 64) + x t a * cosR t (a.val - 64)

def unturn (x : ℕ → Fin 128 → ℝ) (t : ℕ) (a : Fin 128) : ℝ :=
  if a.val < 64 then x t a * cosR t a.val + x t (other a) * sinR t a.val
  else x t a * cosR t (a.val - 64) - x t (other a) * sinR t (a.val - 64)

theorem unturn_smul (r : ℝ) (x : ℕ → Fin 128 → ℝ) (t : ℕ) (a : Fin 128) : unturn (fun t a => x t a * r) t a = unturn x t a * r := by
  unfold unturn; split_ifs <;> ring

/-- The scale of the keys, and the exponents of the four heads' decays. -/
def kap : ℝ := 11863283 / 2 ^ 27

theorem kap_bits : Ideal.ofBits .f32 0x3DB504F3#32 = ((kap : ℝ) : EReal) := by
  rw [kap]; simp [Ideal.ofBits, Ideal.ieee]; rw [← EReal.coe_mul]; norm_num

def linA : ℝ := -(14536350 / 2 ^ 22)
def linB : ℝ := -(13082715 / 2 ^ 21)

theorem linA_bits : Ideal.ofBits .f32 0xC05DCE9E#32 = ((linA : ℝ) : EReal) := by
  rw [linA]; simp [Ideal.ofBits, Ideal.ieee]; rw [← EReal.coe_mul]; norm_num
theorem linB_bits : Ideal.ofBits .f32 0xC0C7A05B#32 = ((linB : ℝ) : EReal) := by
  rw [linB]; simp [Ideal.ofBits, Ideal.ieee]; rw [← EReal.coe_mul]; norm_num

/-- Where the heads' exponents lie between the first and the last. -/
def lin (h : Fin 4) : ℝ := if h.val < 3 then linA * (1 - (h.val : ℝ) * (1 / 3)) + linB * ((h.val : ℝ) * (1 / 3)) else linB

theorem lin_neg (h : Fin 4) : lin h < 0 := by
  fin_cases h <;> norm_num [lin, linA, linB]

/-- The logarithm of a head's decay. -/
def lg (h : Fin 4) : ℝ := Real.log (1 - Real.exp (lin h))

theorem lg_of (h : Fin 4) : Ideal.log (((1 - Real.exp (lin h) : ℝ)) : EReal) = ((lg h : ℝ) : EReal) := by
  have : ¬ (1 - Real.exp (lin h) ≤ 0) := by
    have := Real.exp_lt_exp.mpr (lin_neg h); rw [Real.exp_zero] at this; linarith
  show (if _ then _ else _) = _
  rw [if_neg this]; rfl

theorem lg_formula (h : Fin 4) : Ideal.log (1 - Ideal.exp (if h.val < 3 then
      Ideal.ofBits .f32 0xC05DCE9E#32 * (1 - Ideal.div (num h.val) (Ideal.ofBits .f32 0x40400000#32))
        + Ideal.ofBits .f32 0xC0C7A05B#32 * Ideal.div (num h.val) (Ideal.ofBits .f32 0x40400000#32)
      else Ideal.ofBits .f32 0xC0C7A05B#32)) = ((lg h : ℝ) : EReal) := by
  have e3 : Ideal.ofBits .f32 0x40400000#32 = (((3 : ℝ)) : EReal) := by
    simp [Ideal.ofBits, Ideal.ieee]; rw [← EReal.coe_mul]; norm_num
  have s1 := sitofp_nat h.val (by have := h.isLt; omega)
  have e : (if h.val < 3 then
      Ideal.ofBits .f32 0xC05DCE9E#32 * (1 - Ideal.div (num h.val) (Ideal.ofBits .f32 0x40400000#32))
        + Ideal.ofBits .f32 0xC0C7A05B#32 * Ideal.div (num h.val) (Ideal.ofBits .f32 0x40400000#32)
      else Ideal.ofBits .f32 0xC0C7A05B#32) = ((lin h : ℝ) : EReal) := by
    rw [s1, e3, linA_bits, linB_bits, Ideal.div_coe (by norm_num), lin]
    split_ifs
    · push_cast; rfl
    · rfl
  rw [e, ← lg_of]
  show Ideal.log (1 - ((Real.exp (lin h) : ℝ) : EReal)) = _
  push_cast; rfl

/-- The decay within a chunk, as a power of the difference where it isn't negative. -/
theorem W_formula (l : ℝ) (i j : ℕ) (hi : i < 2 ^ 31) (hj : j < 2 ^ 31) :
    (if (0 : EReal) ≤ num i - num j then
      Ideal.exp (max (num i - num j) 0 * ((l : ℝ) : EReal))
    else 0) = ((W l i j : ℝ) : EReal) := by
  have s1 := sitofp_nat i hi
  have s2 := sitofp_nat j hj
  rw [s1, s2, ← EReal.coe_sub, W]
  by_cases h : j ≤ i
  · have h0 : (0 : ℝ) ≤ (i : ℝ) - j := by have : (j : ℝ) ≤ i := by exact_mod_cast h
                                          linarith
    rw [if_pos h, if_pos (by exact_mod_cast h0), max_eq_left (by exact_mod_cast h0), ← EReal.coe_mul]
    rfl
  · have h0 : ¬ (0 : ℝ) ≤ (i : ℝ) - j := by
      have : (i : ℝ) < j := by exact_mod_cast not_le.mp h
      linarith
    rw [if_neg h, if_neg (by exact_mod_cast h0)]
    rfl

variable (q k v : Wide .f32) (d : Wide .bf16) (h : Fin 4)

/-- The turned queries, the turned and scaled keys, the values and the output's gradient of one head. -/
def Q : ℕ → Fin 128 → ℝ := turn (row q h)
def K : ℕ → Fin 128 → ℝ := fun t a => turn (row k h) t a * kap
def V' : ℕ → Fin 128 → ℝ := row v h
def D : ℕ → Fin 128 → ℝ := row d h

/-- The three gradients. -/
def gradQ (t : ℕ) (a : Fin 128) : ℝ := unturn (dQ (lg h) 8192 (K k h) (V' v h) (D d h)) t a
def gradK (t : ℕ) (a : Fin 128) : ℝ := unturn (dK (lg h) 8192 (Q q h) (V' v h) (D d h)) t a * kap
def gradV (t : ℕ) (a : Fin 128) : ℝ := dV (lg h) 8192 (Q q h) (K k h) (D d h) t a

end Cert.Retention
-- ==== Proof.Retention.Line.lean ====
module

public import proofs.«01_k».proof.Proof.Retention.Body
public import proofs.«01_k».proof.Proof.Retention.Spec
public import Idealize.ShloMosaic.Lib.StableHlo.ReadAt

@[expose] public section

set_option maxRecDepth 16384
noncomputable section

/-! The kernel's states before each chunk, read off the host lines that make them one after the other. -/

namespace Cert.Retention.Line

open Idealize.ShloMosaic Idealize.ShloMosaic.TcCoe Idealize.SL.Sem
open Cert.Kernel5Ideal Cert.Kernel5Ideal.Gen

abbrev St := FVec Ideal S4x128x128 .f32

/-- The last stretch of host lines, and what each of its lines writes. -/
abbrev line : List (HloOp τ sig (Elt Ideal)) := hostOps0_4

def ws : List (Ref sig .tc) := [
   main_cst_5, main_v23, main_v24, main_v25, main_v26, main_v27, main_v28, main_v29,
   main_v30, main_cst_6, main_v31, main_v32, main_v33, main_v34, main_v35, main_v36,
   main_v37, main_v38, main_cst_7, main_v39, main_v40, main_v41, main_v42, main_v43,
   main_v44, main_v45, main_v46, main_v47, main_v48, main_v49, main_v50, main_cst_8,
   main_v51, main_v52, main_cst_9, main_v53, main_v54, main_v55, main_v56, main_v57,
   main_v58, main_v59, main_v60, main_v61, main_v62, main_v63, main_v64, main_v65,
   main_v66, main_v67, main_v68, main_v69, main_v70, main_v71, main_v72, main_v73,
   main_v74, main_v75, main_v76, main_v77, main_v78, main_v79, main_v80, main_v81,
   main_cst_10, main_v82, main_v83, main_cst_11, main_v84, main_v85, main_v86, main_v87,
   main_v88, main_v89, main_v90, main_v91, main_v92, main_v93, main_v94, main_v95,
   main_v96, main_v97, main_v98, main_v99, main_v100, main_v101, main_v102, main_v103,
   main_v104, main_v105, main_v106, main_v107, main_v108, main_cst_12, main_v109, main_v110,
   main_v111, main_v112, main_v113, main_v114, main_v115, main_v116, main_v117, main_v118,
   main_v119, main_v120, main_cst_13, main_v121, main_v122, main_v123, main_cst_14, main_v124,
   main_v125, main_v126, main_v127, main_v128, main_v129, main_v130, main_v131, main_v132,
   main_v133, main_v134, main_v135, main_v136, main_v137, main_v138, main_v139, main_v140,
   main_v141, main_v142, main_v143, main_v144, main_v145, main_v146, main_v147, main_v148,
   main_v149, main_v150, main_v151, main_v152, main_v153, main_v154, main_v155, main_v156,
   main_v157, main_v158, main_v159, main_v160, main_v161, main_v162, main_v163, main_v164,
   main_v165, main_v166, main_v167, main_v168, main_v169, main_v170, main_v171, main_v172,
   main_v173, main_v174, main_v175, main_v176, main_v177, main_v178, main_v179, main_v180,
   main_v181, main_v182, main_v183, main_v184, main_v185, main_v186, main_v187, main_v188,
   main_v189, main_v190, main_v191, main_v192, main_v193, main_v194, main_v195, main_v196,
   main_v197, main_v198, main_v199, main_v200, main_v201, main_v202, main_v203, main_v204,
   main_v205, main_v206, main_v207, main_v208, main_v209, main_v210, main_v211, main_v212,
   main_v213, main_v214, main_v215, main_v216, main_v217, main_v218, main_v219, main_v220,
   main_v221, main_v222, main_v223, main_v224, main_v225, main_v226, main_v227, main_v228,
   main_v229, main_v230, main_v231, main_v232, main_v233, main_v234, main_v235, main_v236,
   main_v237, main_v238, main_v239, main_v240, main_v241, main_v242, main_v243, main_v244,
   main_v245, main_v246, main_v247, main_v248, main_v249, main_v250, main_v251, main_v252,
   main_v253, main_v254, main_v255, main_v256, main_v257, main_v258, main_v259, main_v260,
   main_v261, main_v262, main_v263, main_v264, main_v265, main_v266, main_v267, main_v268,
   main_v269, main_v270, main_v271, main_v272, main_v273, main_v274, main_v275, main_v276,
   main_v277, main_v278, main_v279, main_v280, main_v281, main_v282, main_v283, main_v284,
   main_v285, main_v286, main_v287, main_v288, main_v289, main_v290, main_v291, main_v292,
   main_v293, main_v294, main_v295, main_v296, main_v297, main_v298, main_v299, main_v300,
   main_v301, main_v302, main_v303, main_v304, main_v305, main_v306, main_v307, main_v308,
   main_v309, main_v310, main_v311, main_v312, main_v313, main_v314, main_v315, main_v316,
   main_v317, main_v318, main_v319, main_v320, main_v321, main_v322, main_v323, main_v324,
   main_v325, main_v326, main_cst_15, main_v327, main_v328, main_cst_16, main_v329, main_v330,
   main_v331, main_v332, main_v333, main_v334, main_v335, main_v336, main_v337, main_v338,
   main_v339, main_v340, main_v341, main_v342, main_v343]

theorem line_writes : line.map HloOp.writes = ws.map fun w => {Proc.devRef (τ := τ) .tc w} := rfl

variable (V0 : Valuation τ sig (Elt Ideal))

/-- The contents after the stretch. -/
@[irreducible] def X (r : Ref sig .tc) : r.ty.Contents (Elt Ideal) := StableHlo.after line V0 (Proc.devRef .tc r)

theorem X_eq (r : Ref sig .tc) : X V0 r = StableHlo.after line V0 (Proc.devRef .tc r) := by unfold X; rfl

theorem drop_writes (i : ℕ) : (line.drop i).map HloOp.writes = (ws.drop i).map fun w => {Proc.devRef (τ := τ) .tc w} := by
  rw [List.map_drop, line_writes, ← List.map_drop]

theorem at_op {i : ℕ} {op : HloOp τ sig (Elt Ideal)} {r : Ref sig .tc} (hi : getElem? line (i) = some op) (hr : r ∉ ws.drop (i + 1)) :
    X V0 r = op.result (StableHlo.upto line V0 i) (Proc.devRef .tc r) := by
  obtain ⟨hl, he⟩ := List.getElem?_eq_some_iff.mp hi
  rw [X_eq]
  exact StableHlo.after_last_write (ws.drop (i + 1)) (by rw [List.drop_eq_getElem_cons hl, he]) (drop_writes (i + 1)) hr V0

theorem upto_at {i : ℕ} {r : Ref sig .tc} (hr : r ∉ ws.drop i) : StableHlo.upto line V0 i (Proc.devRef .tc r) = X V0 r := by
  have e := StableHlo.after_append (line.take i) (line.drop i) V0
  rw [List.take_append_drop] at e
  rw [X_eq, e, StableHlo.after_unwritten (ws.drop i) (drop_writes i) hr]
  rfl

theorem un {i : ℕ} {a b : Ref sig .tc} {f : a.ty.Contents (Elt Ideal) → b.ty.Contents (Elt Ideal)} {ha hb}
    (h : getElem? line (i) = some (StableHlo.unary (τ := τ) a b f ha hb)) (hr : b ∉ ws.drop (i + 1) ∧ a ∉ ws.drop i) : X V0 b = f (X V0 a) := by
  rw [at_op V0 h hr.1, StableHlo.unary_result', upto_at V0 hr.2]

theorem bi {i : ℕ} {a b y : Ref sig .tc} {f : a.ty.Contents (Elt Ideal) → b.ty.Contents (Elt Ideal) → y.ty.Contents (Elt Ideal)} {ha hb hy}
    (h : getElem? line (i) = some (StableHlo.binary (τ := τ) a b y f ha hb hy)) (hr : y ∉ ws.drop (i + 1) ∧ a ∉ ws.drop i ∧ b ∉ ws.drop i) :
    X V0 y = f (X V0 a) (X V0 b) := by
  rw [at_op V0 h hr.1, StableHlo.binary_result', upto_at V0 hr.2.1, upto_at V0 hr.2.2]

theorem re {i : ℕ} {a b : Ref sig .tc} {he hn ha hb}
    (h : getElem? line (i) = some (StableHlo.reshape (τ := τ) (Val := Elt Ideal) a b he hn ha hb)) (hr : b ∉ ws.drop (i + 1) ∧ a ∉ ws.drop i) :
    X V0 b = fun j => he ▸ shapeCast b.ty.shape (X V0 a) hn j := by
  rw [at_op V0 h hr.1, StableHlo.reshape_result', upto_at V0 hr.2]

/-- One chunk's five lines: the state before times the chunk's decay, plus the chunk's products. -/
theorem step (i : ℕ) (s r b p a g : Ref sig .tc) {f1 f2 f3 f4 : _} {he hn} {h1 h2 h3 h4 h5 h6 h7 h8 h9 h10 h11 h12}
    (e1 : getElem? line (i) = some (StableHlo.unary (τ := τ) main_v123 s f1 h1 h2))
    (e2 : getElem? line (i + 1) = some (StableHlo.reshape (τ := τ) (Val := Elt Ideal) s r he hn h3 h4))
    (e3 : getElem? line (i + 2) = some (StableHlo.unary (τ := τ) main_v120 b f2 h5 h6))
    (e4 : getElem? line (i + 3) = some (StableHlo.binary (τ := τ) b g p f3 h7 h8 h9))
    (e5 : getElem? line (i + 4) = some (StableHlo.binary (τ := τ) p r a f4 h10 h11 h12))
    (hr : (s ∉ ws.drop (i + 1) ∧ main_v123 ∉ ws.drop i) ∧ (r ∉ ws.drop (i + 2) ∧ s ∉ ws.drop (i + 1)) ∧ (b ∉ ws.drop (i + 3) ∧ main_v120 ∉ ws.drop (i + 2))
      ∧ (p ∉ ws.drop (i + 4) ∧ b ∉ ws.drop (i + 3) ∧ g ∉ ws.drop (i + 3)) ∧ (a ∉ ws.drop (i + 5) ∧ p ∉ ws.drop (i + 4) ∧ r ∉ ws.drop (i + 4))) :
    X V0 a = f4 (f3 (f2 (X V0 main_v120)) (X V0 g)) (fun j => he ▸ shapeCast r.ty.shape (f1 (X V0 main_v123)) hn j) := by
  rw [bi V0 e5 hr.2.2.2.2, bi V0 e4 hr.2.2.2.1, un V0 e3 hr.2.2.1, re V0 e2 hr.2.1, un V0 e1 hr.1]

def st : Fin 33 → St := ![
    X V0 main_v121, X V0 main_v129, X V0 main_v134, X V0 main_v139, X V0 main_v144, X V0 main_v149,
    X V0 main_v154, X V0 main_v159, X V0 main_v164, X V0 main_v169, X V0 main_v174, X V0 main_v179,
    X V0 main_v184, X V0 main_v189, X V0 main_v194, X V0 main_v199, X V0 main_v204, X V0 main_v209,
    X V0 main_v214, X V0 main_v219, X V0 main_v224, X V0 main_v229, X V0 main_v234, X V0 main_v239,
    X V0 main_v244, X V0 main_v249, X V0 main_v254, X V0 main_v259, X V0 main_v264, X V0 main_v269,
    X V0 main_v274, X V0 main_v279, X V0 main_v284]

/-- One chunk's products, and a state carried over one chunk. -/
def prods (n : Fin 32) : St :=
  shapeCast _ (extractStridedSlice S1x4x128x128 ![n.val, 0, 0, 0] (X V0 main_v123 : FVec Ideal S32x4x128x128 .f32)
    ⟨rfl, fun a => by have := n.isLt; fin_cases a <;> simp [Shape.size] <;> omega⟩) shapeCasts_S1x4x128x128_S4x128x128
def faded (g : St) : St :=
  mulf (broadcastInDim S4x128x128 ![0, 1, 2] bcast_S4x1x128_S4x128x128_0_1_2 (X V0 main_v120 : FVec Ideal S4x1x128 .f32)) g

set_option maxHeartbeats 2000000 in
theorem st_step : ∀ n : Fin 32, st V0 n.succ = addf (faded V0 (st V0 n.castSucc)) (prods V0 n) := by
  intro n
  fin_cases n
  exacts [
    step V0 112 main_v125 main_v126 main_v127 main_v128 main_v129 main_v121 rfl rfl rfl rfl rfl (by decide +kernel),
    step V0 117 main_v130 main_v131 main_v132 main_v133 main_v134 main_v129 rfl rfl rfl rfl rfl (by decide +kernel),
    step V0 122 main_v135 main_v136 main_v137 main_v138 main_v139 main_v134 rfl rfl rfl rfl rfl (by decide +kernel),
    step V0 127 main_v140 main_v141 main_v142 main_v143 main_v144 main_v139 rfl rfl rfl rfl rfl (by decide +kernel),
    step V0 132 main_v145 main_v146 main_v147 main_v148 main_v149 main_v144 rfl rfl rfl rfl rfl (by decide +kernel),
    step V0 137 main_v150 main_v151 main_v152 main_v153 main_v154 main_v149 rfl rfl rfl rfl rfl (by decide +kernel),
    step V0 142 main_v155 main_v156 main_v157 main_v158 main_v159 main_v154 rfl rfl rfl rfl rfl (by decide +kernel),
    step V0 147 main_v160 main_v161 main_v162 main_v163 main_v164 main_v159 rfl rfl rfl rfl rfl (by decide +kernel),
    step V0 152 main_v165 main_v166 main_v167 main_v168 main_v169 main_v164 rfl rfl rfl rfl rfl (by decide +kernel),
    step V0 157 main_v170 main_v171 main_v172 main_v173 main_v174 main_v169 rfl rfl rfl rfl rfl (by decide +kernel),
    step V0 162 main_v175 main_v176 main_v177 main_v178 main_v179 main_v174 rfl rfl rfl rfl rfl (by decide +kernel),
    step V0 167 main_v180 main_v181 main_v182 main_v183 main_v184 main_v179 rfl rfl rfl rfl rfl (by decide +kernel),
    step V0 172 main_v185 main_v186 main_v187 main_v188 main_v189 main_v184 rfl rfl rfl rfl rfl (by decide +kernel),
    step V0 177 main_v190 main_v191 main_v192 main_v193 main_v194 main_v189 rfl rfl rfl rfl rfl (by decide +kernel),
    step V0 182 main_v195 main_v196 main_v197 main_v198 main_v199 main_v194 rfl rfl rfl rfl rfl (by decide +kernel),
    step V0 187 main_v200 main_v201 main_v202 main_v203 main_v204 main_v199 rfl rfl rfl rfl rfl (by decide +kernel),
    step V0 192 main_v205 main_v206 main_v207 main_v208 main_v209 main_v204 rfl rfl rfl rfl rfl (by decide +kernel),
    step V0 197 main_v210 main_v211 main_v212 main_v213 main_v214 main_v209 rfl rfl rfl rfl rfl (by decide +kernel),
    step V0 202 main_v215 main_v216 main_v217 main_v218 main_v219 main_v214 rfl rfl rfl rfl rfl (by decide +kernel),
    step V0 207 main_v220 main_v221 main_v222 main_v223 main_v224 main_v219 rfl rfl rfl rfl rfl (by decide +kernel),
    step V0 212 main_v225 main_v226 main_v227 main_v228 main_v229 main_v224 rfl rfl rfl rfl rfl (by decide +kernel),
    step V0 217 main_v230 main_v231 main_v232 main_v233 main_v234 main_v229 rfl rfl rfl rfl rfl (by decide +kernel),
    step V0 222 main_v235 main_v236 main_v237 main_v238 main_v239 main_v234 rfl rfl rfl rfl rfl (by decide +kernel),
    step V0 227 main_v240 main_v241 main_v242 main_v243 main_v244 main_v239 rfl rfl rfl rfl rfl (by decide +kernel),
    step V0 232 main_v245 main_v246 main_v247 main_v248 main_v249 main_v244 rfl rfl rfl rfl rfl (by decide +kernel),
    step V0 237 main_v250 main_v251 main_v252 main_v253 main_v254 main_v249 rfl rfl rfl rfl rfl (by decide +kernel),
    step V0 242 main_v255 main_v256 main_v257 main_v258 main_v259 main_v254 rfl rfl rfl rfl rfl (by decide +kernel),
    step V0 247 main_v260 main_v261 main_v262 main_v263 main_v264 main_v259 rfl rfl rfl rfl rfl (by decide +kernel),
    step V0 252 main_v265 main_v266 main_v267 main_v268 main_v269 main_v264 rfl rfl rfl rfl rfl (by decide +kernel),
    step V0 257 main_v270 main_v271 main_v272 main_v273 main_v274 main_v269 rfl rfl rfl rfl rfl (by decide +kernel),
    step V0 262 main_v275 main_v276 main_v277 main_v278 main_v279 main_v274 rfl rfl rfl rfl rfl (by decide +kernel),
    step V0 267 main_v280 main_v281 main_v282 main_v283 main_v284 main_v279 rfl rfl rfl rfl rfl (by decide +kernel)]

end Cert.Retention.Line
-- ==== Proof.Retention.RefBase.lean ====
module

public import proofs.«01_k».proof.Proof.Gen.Reference5Ideal.Run
public import proofs.«01_k».proof.Proof.Retention.Spec
public import Idealize.ShloMosaic.Lib.Pipeline.ValueKit

@[expose] public section

set_option maxRecDepth 16384
noncomputable section

/-! The reference's turned rows, decays and products within a chunk, entry by entry. -/

namespace Cert.Retention.Ref

open Idealize.ShloMosaic Idealize.ShloMosaic.TcCoe Idealize.SL.Sem Idealize.ShloMosaic.StableHlo
open Cert.Reference5Ideal Cert.Reference5Ideal.Gen Cert.Reference5Ideal.Value
open Cert.Retention

variable (V : Valuation τ sig (Elt Ideal))

abbrev aq : Wide .f32 := V (Proc.devRef .tc main_arg0)
abbrev ak : Wide .f32 := V (Proc.devRef .tc main_arg1)
abbrev av : Wide .f32 := V (Proc.devRef .tc main_arg2)
abbrev ad : Wide .bf16 := V (Proc.devRef .tc main_arg3)

theorem v12_at (t : Fin 8192) (a : Fin 64) : (res_main_v12 V : FVec Ideal S8192x64 .f32) (ix2 t a) = ((ang t.val a.val : ℝ) : EReal) := by
  pointwise [res_main_v12]
  exact ang_of t.val a.val (by have := t.isLt; omega) (by have := a.isLt; omega)

theorem v14_at (t : Fin 8192) (a : Fin 64) : (res_main_v14 V : FVec Ideal S8192x1x64 .f32) (ix3 t 0 a) = ((cosR t.val a.val : ℝ) : EReal) := by
  pointwise [res_main_v14]
  rw [v12_at]; rfl

theorem v16_at (t : Fin 8192) (a : Fin 64) : (res_main_v16 V : FVec Ideal S8192x1x64 .f32) (ix3 t 0 a) = ((sinR t.val a.val : ℝ) : EReal) := by
  pointwise [res_main_v16]
  rw [v12_at]; rfl

theorem v44_at (t : Fin 8192) (a : Fin 64) : (res_main_v44 V : FVec Ideal S8192x1x64 .f32) (ix3 t 0 a) = ((cosR t.val a.val : ℝ) : EReal) :=
  v14_at V t a

theorem v46_at (t : Fin 8192) (a : Fin 64) : (res_main_v46 V : FVec Ideal S8192x1x64 .f32) (ix3 t 0 a) = ((sinR t.val a.val : ℝ) : EReal) :=
  v16_at V t a

theorem v67_at (h : Fin 4) : (res_main_v67 V : FVec Ideal S4 .f32) (ix1 h) = ((lg h : ℝ) : EReal) := by
  pointwise [res_main_v67, res_main_call0_v0, res_main_call0_v1, res_main_call0_v6]
  exact lg_formula h

theorem v90_at (h : Fin 4) (i j : Fin 128) : (res_main_v90 V : FVec Ideal S1x4x128x128 .f32) (ix4 0 h i j) = ((W (lg h) i.val j.val : ℝ) : EReal) := by
  pointwise [res_main_v90, res_main_v76, res_main_v71]
  rw [v67_at]
  refine Eq.trans ?_ (W_formula (lg h) i.val j.val (by have := i.isLt; omega) (by have := j.isLt; omega))
  have e : (id (constant S_ FTy.f32 0#32) ix0 : Ideal .f32) = (0 : EReal) := by
    show Ideal.ofBits .f32 0#32 = 0
    simp [Ideal.ofBits, Ideal.ieee]
  rw [e]

/-- Turned rows as the reference arranges them, chunk by chunk. -/
theorem turn_of {X : Wide .f32} (hX : Real' X) (h : Fin 4) (a : Fin 128) (t : Fin 8192) (n : ℕ) (hn : t.val = n) (c s : ℝ)
    (c1 c2 : Fin 512) (hc : a.val < 64 → c = cosR n a.val ∧ s = sinR n a.val ∧ c1.val = 128 * h.val + a.val ∧ c2.val = 128 * h.val + (64 + a.val))
    (ha : a.val < 64) : X (ix2 t c1) * ((c : ℝ) : EReal) - X (ix2 t c2) * ((s : ℝ) : EReal) = ((turn (row X h) n a : ℝ) : EReal) := by
  obtain ⟨rfl, rfl, h1, h2⟩ := hc ha
  rw [row_at' hX t c1 h n a hn h1, row_at' hX t c2 h n (other a) hn (by rw [h2]; show _ = 128 * h.val + (a.val + 64) % 128; omega), turn, if_pos ha]
  push_cast; rfl

theorem turn_of' {X : Wide .f32} (hX : Real' X) (h : Fin 4) (a : Fin 128) (t : Fin 8192) (n : ℕ) (hn : t.val = n) (c s : ℝ)
    (c1 c2 : Fin 512) (hc : ¬ a.val < 64 → c = cosR n (a.val - 64) ∧ s = sinR n (a.val - 64) ∧ c1.val = 128 * h.val + (a.val - 64) ∧ c2.val = 128 * h.val + a.val)
    (ha : ¬ a.val < 64) : X (ix2 t c1) * ((s : ℝ) : EReal) + X (ix2 t c2) * ((c : ℝ) : EReal) = ((turn (row X h) n a : ℝ) : EReal) := by
  have := a.isLt
  obtain ⟨rfl, rfl, h1, h2⟩ := hc ha
  rw [row_at' hX t c1 h n (other a) hn (by rw [h1]; show _ = 128 * h.val + (a.val + 64) % 128; omega), row_at' hX t c2 h n a hn h2, turn, if_neg ha]
  push_cast; rfl

theorem v68_at (hq : Real' (aq V)) (n : Fin 64) (i : Fin 128) (h : Fin 4) (a : Fin 128) :
    (res_main_v68 V : FVec Ideal S64x128x4x128 .f32) (ix4 n i h a) = ((Q (aq V) h (128 * n.val + i.val) a : ℝ) : EReal) := by
  have := a.isLt
  pointwise [res_main_v68, res_main_v17, res_main_v18, res_main_v0]
  by_cases ha : a.val < 64
  · rw [dif_pos ha, v14_at, v16_at]
    exact turn_of hq h a _ (128 * n.val + i.val) (by show n.val * 128 + i.val = _; omega) _ _ _ _ (fun _ => ⟨by rw [Nat.mul_comm 128], by rw [Nat.mul_comm 128],
      by show h.val * 128 + a.val = _; omega, by show h.val * 128 + (64 + a.val) = _; omega⟩) ha
  · rw [dif_neg ha, v14_at, v16_at]
    exact turn_of' hq h a _ (128 * n.val + i.val) (by show n.val * 128 + i.val = _; omega) _ _ _ _ (fun _ => ⟨by rw [Nat.mul_comm 128], by rw [Nat.mul_comm 128],
      by show h.val * 128 + (a.val - 64) = _; omega, by show h.val * 128 + (64 + (a.val - 64)) = _; omega⟩) ha

theorem v69_at (hk : Real' (ak V)) (n : Fin 64) (i : Fin 128) (h : Fin 4) (a : Fin 128) :
    (res_main_v69 V : FVec Ideal S64x128x4x128 .f32) (ix4 n i h a) = ((K (ak V) h (128 * n.val + i.val) a : ℝ) : EReal) := by
  have := a.isLt
  pointwise [res_main_v69, res_main_v47, res_main_v48, res_main_v30]
  rw [K, EReal.coe_mul, kap_bits]
  congr 1
  by_cases ha : a.val < 64
  · rw [dif_pos ha, v44_at, v46_at]
    exact turn_of hk h a _ (128 * n.val + i.val) (by show n.val * 128 + i.val = _; omega) _ _ _ _ (fun _ => ⟨by rw [Nat.mul_comm 128], by rw [Nat.mul_comm 128],
      by show h.val * 128 + a.val = _; omega, by show h.val * 128 + (64 + a.val) = _; omega⟩) ha
  · rw [dif_neg ha, v44_at, v46_at]
    exact turn_of' hk h a _ (128 * n.val + i.val) (by show n.val * 128 + i.val = _; omega) _ _ _ _ (fun _ => ⟨by rw [Nat.mul_comm 128], by rw [Nat.mul_comm 128],
      by show h.val * 128 + (a.val - 64) = _; omega, by show h.val * 128 + (64 + (a.val - 64)) = _; omega⟩) ha

theorem v70_at (hv : Real' (av V)) (n : Fin 64) (i : Fin 128) (h : Fin 4) (a : Fin 128) :
    (res_main_v70 V : FVec Ideal S64x128x4x128 .f32) (ix4 n i h a) = ((V' (av V) h (128 * n.val + i.val) a : ℝ) : EReal) := by
  pointwise [res_main_v70]
  exact row_at' hv _ _ h _ a (by show n.val * 128 + i.val = _; omega) (by show h.val * 128 + a.val = _; omega)

theorem v526_at (hd : Real' (ad V)) (n : Fin 64) (i : Fin 128) (h : Fin 4) (a : Fin 128) :
    (res_main_v526 V : FVec Ideal S64x128x4x128 .f32) (ix4 n i h a) = ((D (ad V) h (128 * n.val + i.val) a : ℝ) : EReal) := by
  pointwise [res_main_v526]
  exact row_at' hd _ _ h _ a (by show n.val * 128 + i.val = _; omega) (by show h.val * 128 + a.val = _; omega)

theorem v104_at (j : Fin 128) (h : Fin 4) :
    (res_main_v104 V : FVec Ideal S1x128x4x1 .f32) (ix4 0 j h 0) = ((w (lg h) ((128 : ℝ) - 1 - (j.val : ℝ)) : ℝ) : EReal) := by
  have e : Ideal.ofBits .f32 0x42FE0000#32 = (((127 : ℝ)) : EReal) := by simp [Ideal.ofBits, Ideal.ieee]; rw [← EReal.coe_mul]; norm_num
  have s := sitofp_nat j.val (by have := j.isLt; omega)
  pointwise [res_main_v104, res_main_v71]
  rw [v67_at, e]
  show Ideal.exp ((((127 : ℝ) : EReal) - num j.val) * ((lg h : ℝ) : EReal)) = _
  rw [s, ← EReal.coe_sub, ← EReal.coe_mul, w]
  norm_num
  rfl

theorem v517_at (i : Fin 128) (h : Fin 4) :
    (res_main_v517 V : FVec Ideal S1x128x4x1 .f32) (ix4 0 i h 0) = ((w (lg h) ((i.val : ℝ) + 1) : ℝ) : EReal) := by
  have s := sitofp_nat i.val (by have := i.isLt; omega)
  pointwise [res_main_v517, res_main_v71]
  rw [v67_at]
  show Ideal.exp ((num i.val + 1) * ((lg h : ℝ) : EReal)) = _
  rw [s, w]
  norm_cast

theorem v111_at (h : Fin 4) :
    (res_main_v111 V : FVec Ideal S4x1x1 .f32) (ix3 h 0 0) = ((w (lg h) (128 : ℕ) : ℝ) : EReal) := by
  have e : Ideal.ofBits .f32 0x43000000#32 = (((128 : ℝ)) : EReal) := by simp [Ideal.ofBits, Ideal.ieee]; rw [← EReal.coe_mul]; norm_num
  pointwise [res_main_v111]
  rw [v67_at, e, ← EReal.coe_mul, w]
  norm_num
  rfl

theorem v106_at (hv : Real' (av V)) (n : Fin 64) (j : Fin 128) (h : Fin 4) (b : Fin 128) :
    (res_main_v106 V : FVec Ideal S64x128x4x128 .f32) (ix4 n j h b)
      = ((V' (av V) h (128 * n.val + j.val) b * w (lg h) ((128 : ℝ) - 1 - (j.val : ℝ)) : ℝ) : EReal) := by
  pointwise [res_main_v106]
  rw [v70_at V hv, v104_at, EReal.coe_mul]

theorem v92_at (hq : Real' (aq V)) (hk : Real' (ak V)) (n : Fin 64) (h : Fin 4) (i j : Fin 128) :
    (res_main_v92 V : FVec Ideal S64x4x128x128 .f32) (ix4 n h i j)
      = ((dot (Q (aq V) h (128 * n.val + i.val)) (K (ak V) h (128 * n.val + j.val)) * W (lg h) i.val j.val : ℝ) : EReal) := by
  pointwise [res_main_v92]
  simp only [v68_at V hq, v69_at V hk, v90_at]
  rw [EReal.coe_mul, dot, Cert.Norm.sum_coe]
  push_cast; rfl

theorem v107_at (hk : Real' (ak V)) (hv : Real' (av V)) (n : Fin 64) (h : Fin 4) (a b : Fin 128) :
    (res_main_v107 V : FVec Ideal S64x4x128x128 .f32) (ix4 n h a b)
      = ((∑ j : Fin 128, (K (ak V) h (128 * n.val + j.val) a * V' (av V) h (128 * n.val + j.val) b) * w (lg h) ((128 : ℝ) - 1 - (j.val : ℝ)) : ℝ) : EReal) := by
  pointwise [res_main_v107]
  simp only [v69_at V hk, v106_at V hv]
  exact sum_of _ _ _ fun j => by ring

theorem v529_at (hd : Real' (ad V)) (n : Fin 64) (h : Fin 4) (b i : Fin 128) :
    (res_main_v529 V : FVec Ideal S64x4x128x128 .f32) (ix4 n h b i)
      = ((D (ad V) h (128 * n.val + i.val) b * w (lg h) ((i.val : ℝ) + 1) : ℝ) : EReal) := by
  pointwise [res_main_v529]
  rw [v526_at V hd, v517_at, EReal.coe_mul]

theorem v533_at (hq : Real' (aq V)) (hd : Real' (ad V)) (n : Fin 64) (h : Fin 4) (a b : Fin 128) :
    (res_main_v533 V : FVec Ideal S64x4x128x128 .f32) (ix4 n h a b)
      = ((∑ i : Fin 128, (Q (aq V) h (128 * n.val + i.val) a * D (ad V) h (128 * n.val + i.val) b) * w (lg h) ((i.val : ℝ) + 1) : ℝ) : EReal) := by
  pointwise [res_main_v533]
  simp only [v529_at V hd, v68_at V hq]
  exact sum_of _ _ _ fun i => by ring

theorem v934_at (hd : Real' (ad V)) (n : Fin 64) (h : Fin 4) (b i : Fin 128) :
    (res_main_v934 V : FVec Ideal S64x4x128x128 .f32) (ix4 n h b i) = ((D (ad V) h (128 * n.val + i.val) b : ℝ) : EReal) := by
  pointwise [res_main_v934]
  exact v526_at V hd n i h b

theorem v940_at (hv : Real' (av V)) (hd : Real' (ad V)) (n : Fin 64) (h : Fin 4) (i j : Fin 128) :
    (res_main_v940 V : FVec Ideal S64x4x128x128 .f32) (ix4 n h i j)
      = ((dot (D (ad V) h (128 * n.val + i.val)) (V' (av V) h (128 * n.val + j.val)) * W (lg h) i.val j.val : ℝ) : EReal) := by
  pointwise [res_main_v940]
  simp only [v934_at V hd, v70_at V hv, v90_at]
  rw [EReal.coe_mul, dot, Cert.Norm.sum_coe]
  push_cast; rfl

end Cert.Retention.Ref
-- ==== Proof.Retention.RefChain.lean ====
module

public import proofs.«01_k».proof.Proof.Retention.RefBase

@[expose] public section

set_option maxRecDepth 16384
noncomputable section

/-! The reference's two chains of states: what the earlier chunks leave to a chunk, and what the later chunks leave to it. -/

namespace Cert.Retention.Ref

open Idealize.ShloMosaic Idealize.ShloMosaic.TcCoe Idealize.SL.Sem Idealize.ShloMosaic.StableHlo
open Cert.Reference5Ideal Cert.Reference5Ideal.Gen Cert.Reference5Ideal.Value
open Cert.Retention

variable (V : Valuation τ sig (Elt Ideal))

abbrev St := FVec Ideal S4x128x128 .f32
abbrev All := FVec Ideal S64x4x128x128 .f32

/-- One chunk's products. -/
def chunkAt (x : All) (n : Fin 64) : St :=
  shapeCast _ (extractStridedSlice S1x4x128x128 ![n.val, 0, 0, 0] x
    ⟨rfl, fun a => by have := n.isLt; fin_cases a <;> simp [Shape.size] <;> omega⟩) shapeCasts_S1x4x128x128_S4x128x128

theorem chunkAt_at (x : All) (n : Fin 64) (h : Fin 4) (a b : Fin 128) : chunkAt x n (ix3 h a b) = x (ix4 n h a b) := by
  pointwise [chunkAt]

/-- A state carried over one chunk. -/
def faded (g : St) : St :=
  mulf (broadcastInDim S4x128x128 ![0, 1, 2] bcast_S4x1x1_S4x128x128_0_1_2 (res_main_v111 V : FVec Ideal S4x1x1 .f32)) g

theorem faded_at (g : St) (h : Fin 4) (a b : Fin 128) :
    faded V g (ix3 h a b) = ((w (lg h) (128 : ℕ) : ℝ) : EReal) * g (ix3 h a b) := by
  pointwise [faded]
  rw [v111_at]

def fst : Fin 64 → St := ![
    res_main_v112 V, res_main_v120 V, res_main_v125 V, res_main_v130 V, res_main_v135 V, res_main_v140 V,
    res_main_v145 V, res_main_v150 V, res_main_v155 V, res_main_v160 V, res_main_v165 V, res_main_v170 V,
    res_main_v175 V, res_main_v180 V, res_main_v185 V, res_main_v190 V, res_main_v195 V, res_main_v200 V,
    res_main_v205 V, res_main_v210 V, res_main_v215 V, res_main_v220 V, res_main_v225 V, res_main_v230 V,
    res_main_v235 V, res_main_v240 V, res_main_v245 V, res_main_v250 V, res_main_v255 V, res_main_v260 V,
    res_main_v265 V, res_main_v270 V, res_main_v275 V, res_main_v280 V, res_main_v285 V, res_main_v290 V,
    res_main_v295 V, res_main_v300 V, res_main_v305 V, res_main_v310 V, res_main_v315 V, res_main_v320 V,
    res_main_v325 V, res_main_v330 V, res_main_v335 V, res_main_v340 V, res_main_v345 V, res_main_v350 V,
    res_main_v355 V, res_main_v360 V, res_main_v365 V, res_main_v370 V, res_main_v375 V, res_main_v380 V,
    res_main_v385 V, res_main_v390 V, res_main_v395 V, res_main_v400 V, res_main_v405 V, res_main_v410 V,
    res_main_v415 V, res_main_v420 V, res_main_v425 V, res_main_v430 V]

def bst : Fin 64 → St := ![
    res_main_v534 V, res_main_v542 V, res_main_v547 V, res_main_v552 V, res_main_v557 V, res_main_v562 V,
    res_main_v567 V, res_main_v572 V, res_main_v577 V, res_main_v582 V, res_main_v587 V, res_main_v592 V,
    res_main_v597 V, res_main_v602 V, res_main_v607 V, res_main_v612 V, res_main_v617 V, res_main_v622 V,
    res_main_v627 V, res_main_v632 V, res_main_v637 V, res_main_v642 V, res_main_v647 V, res_main_v652 V,
    res_main_v657 V, res_main_v662 V, res_main_v667 V, res_main_v672 V, res_main_v677 V, res_main_v682 V,
    res_main_v687 V, res_main_v692 V, res_main_v697 V, res_main_v702 V, res_main_v707 V, res_main_v712 V,
    res_main_v717 V, res_main_v722 V, res_main_v727 V, res_main_v732 V, res_main_v737 V, res_main_v742 V,
    res_main_v747 V, res_main_v752 V, res_main_v757 V, res_main_v762 V, res_main_v767 V, res_main_v772 V,
    res_main_v777 V, res_main_v782 V, res_main_v787 V, res_main_v792 V, res_main_v797 V, res_main_v802 V,
    res_main_v807 V, res_main_v812 V, res_main_v817 V, res_main_v822 V, res_main_v827 V, res_main_v832 V,
    res_main_v837 V, res_main_v842 V, res_main_v847 V, res_main_v852 V]

theorem fst_step (n : Fin 63) : fst V n.succ = addf (faded V (fst V n.castSucc)) (chunkAt (res_main_v114 V) n.castSucc) := by
  fin_cases n <;> rfl

theorem bst_step (n : Fin 63) : bst V n.succ = addf (chunkAt (res_main_v535 V) n.castSucc.rev) (faded V (bst V n.castSucc)) := by
  fin_cases n <;> rfl

theorem zero_st (h : Fin 4) (a b : Fin 128) :
    (broadcastInDim S4x128x128 ![] bcast_S_S4x128x128 (constant (F := Ideal) S_ .f32 0x00000000#32) : St) (ix3 h a b) = ((0 : ℝ) : EReal) := by
  pointwise []
  simp [Ideal.ofBits, Ideal.ieee]

theorem v114_at (n : Fin 64) (h : Fin 4) (a b : Fin 128) :
    (res_main_v114 V : All) (ix4 n h a b) = (res_main_v107 V : All) (ix4 n h a b) := by
  pointwise [res_main_v114]

theorem v535_at (n : Fin 64) (h : Fin 4) (a b : Fin 128) :
    (res_main_v535 V : All) (ix4 n h a b) = (res_main_v533 V : All) (ix4 n h a b) := by
  pointwise [res_main_v535]

theorem fst_at (hk : Real' (ak V)) (hv : Real' (av V)) (h : Fin 4) (a b : Fin 128) (n : ℕ) (hn : n < 64) :
    fst V ⟨n, hn⟩ (ix3 h a b) = ((fwd (lg h) 128 (fun s => K (ak V) h s a * V' (av V) h s b) n : ℝ) : EReal) := by
  induction n with
  | zero => exact zero_st h a b
  | succ n ih =>
    have e := congrFun (fst_step V ⟨n, by omega⟩) (ix3 h a b)
    refine e.trans ?_
    show faded V (fst V ⟨n, by omega⟩) (ix3 h a b) + chunkAt (res_main_v114 V) ⟨n, by omega⟩ (ix3 h a b) = _
    rw [faded_at, chunkAt_at, v114_at, v107_at V hk hv, ih (by omega), fwd, ← EReal.coe_mul, ← EReal.coe_add, Finset.sum_range]
    norm_num

theorem bst_at (hq : Real' (aq V)) (hd : Real' (ad V)) (h : Fin 4) (a b : Fin 128) (n : ℕ) (hn : n < 64) :
    bst V ⟨n, hn⟩ (ix3 h a b) = ((bwd (lg h) 128 64 (fun s => Q (aq V) h s a * D (ad V) h s b) n : ℝ) : EReal) := by
  induction n with
  | zero => exact zero_st h a b
  | succ n ih =>
    have e := congrFun (bst_step V ⟨n, by omega⟩) (ix3 h a b)
    refine e.trans ?_
    show chunkAt (res_main_v535 V) (Fin.rev ⟨n, by omega⟩) (ix3 h a b) + faded V (bst V ⟨n, by omega⟩) (ix3 h a b) = _
    rw [faded_at, chunkAt_at, v535_at, v533_at V hq hd, ih (by omega), bwd, ← EReal.coe_mul, ← EReal.coe_add, Finset.sum_range, add_comm]
    have e : (Fin.rev (⟨n, by omega⟩ : Fin 64)).val = 64 - 1 - n := by rw [Fin.val_rev]; show 64 - (n + 1) = _; omega
    rw [e]

/-- A state as a piece of the stack of states. -/
def piece (x : St) : FVec Ideal S1x4x128x128 .f32 := broadcastInDim S1x4x128x128 ![1, 2, 3] bcast_S4x128x128_S1x4x128x128_1_2_3 x

theorem piece_at (x : St) (h : Fin 4) (a b : Fin 128) : piece x (ix4 0 h a b) = x (ix3 h a b) := by
  pointwise [piece]

theorem ones : Shape.Concatenates ((List.ofFn fun _ : Fin 16 => S1x4x128x128)) S16x4x128x128 0 := by decide

/-- Sixteen states in a row. -/
def sixteen (g : Fin 16 → St) : FVec Ideal S16x4x128x128 .f32 :=
  concatenate S16x4x128x128 0 (List.ofFn fun k : Fin 16 => (⟨S1x4x128x128, piece (g k)⟩ : (s : Shape) × (s.Idx → EReal)))
    (by rw [List.map_ofFn]; exact ones)

theorem sixteen_at (g : Fin 16 → St) (k : Fin 16) (h : Fin 4) (a b : Fin 128) : sixteen g (ix4 k h a b) = g k (ix3 h a b) := by
  refine Eq.trans (concatenate_ofFn_unit_apply (t := S16x4x128x128) (s₁ := S1x4x128x128) (α := EReal) 0 (fun k => piece (g k)) _ rfl rfl (ix4 k h a b) k rfl (ix4 0 h a b) ?_) (piece_at _ h a b)
  intro c hc
  fin_cases c
  · exact absurd rfl hc
  all_goals rfl

theorem fours : Shape.Concatenates ((List.ofFn fun _ : Fin 4 => S16x4x128x128)) S64x4x128x128 0 := by decide

/-- All the states in a row. -/
def stack (g : Fin 64 → St) : All :=
  concatenate S64x4x128x128 0 (List.ofFn fun m : Fin 4 => (⟨S16x4x128x128,
      sixteen fun k => g ⟨16 * m.val + k.val, by have := m.isLt; have := k.isLt; omega⟩⟩ : (s : Shape) × (s.Idx → EReal)))
    (by rw [List.map_ofFn]; exact fours)

theorem stack_at (g : Fin 64 → St) (n : Fin 64) (h : Fin 4) (a b : Fin 128) : stack g (ix4 n h a b) = g n (ix3 h a b) := by
  have hm : n.val / 16 < 4 := by have := n.isLt; omega
  have hk : n.val % 16 < 16 := Nat.mod_lt _ (by decide)
  refine Eq.trans (concatenate_ofFn_apply (t := S64x4x128x128) (s₁ := S16x4x128x128) (α := EReal) 0
    (fun m : Fin 4 => sixteen fun k => g ⟨16 * m.val + k.val, by have := m.isLt; have := k.isLt; omega⟩) _ rfl 16 rfl (ix4 n h a b)
    ⟨n.val / 16, hm⟩ rfl (ix4 ⟨n.val % 16, hk⟩ h a b) rfl ?_) ?_
  · intro c hc
    fin_cases c
    · exact absurd rfl hc
    all_goals rfl
  · rw [sixteen_at]
    exact congrArg (fun u => g u (ix3 h a b)) (Fin.ext (Nat.div_add_mod n.val 16) : (⟨16 * (n.val / 16) + n.val % 16, _⟩ : Fin 64) = n)

theorem v504_eq : (res_main_v504 V : All) = stack (fst V) := rfl

theorem v926_eq : (res_main_v926 V : All) = stack (fun n => bst V n.rev) := rfl

theorem v505_at (hk : Real' (ak V)) (hv : Real' (av V)) (n : Fin 64) (h : Fin 4) (a b : Fin 128) :
    (res_main_v505 V : All) (ix4 n h a b) = ((fwd (lg h) 128 (fun s => K (ak V) h s a * V' (av V) h s b) n.val : ℝ) : EReal) := by
  refine Eq.trans (concatenate_pair_apply_right (t := S64x4x128x128) (s₁ := S0x4x128x128) (s₂ := S64x4x128x128) (α := EReal) 0 _ _ _ (ix4 n h a b) rfl rfl (ix4 n h a b) (fun _ _ => rfl) rfl) ?_
  rw [v504_eq, stack_at]
  exact fst_at V hk hv h a b n.val n.isLt

theorem v927_at (hq : Real' (aq V)) (hd : Real' (ad V)) (n : Fin 64) (h : Fin 4) (a b : Fin 128) :
    (res_main_v927 V : All) (ix4 n h a b) = ((bwd (lg h) 128 64 (fun s => Q (aq V) h s a * D (ad V) h s b) (64 - 1 - n.val) : ℝ) : EReal) := by
  refine Eq.trans (concatenate_pair_apply_left (t := S64x4x128x128) (s₂ := S0x4x128x128) (s₁ := S64x4x128x128) (α := EReal) 0 _ _ _ (ix4 n h a b) rfl (ix4 n h a b) (fun _ => rfl)) ?_
  rw [v926_eq, stack_at]
  have e : (Fin.rev n).val = 64 - 1 - n.val := by rw [Fin.val_rev]; omega
  rw [← e]
  exact bst_at V hq hd h a b n.rev.val n.rev.isLt

end Cert.Retention.Ref
-- ==== Proof.Retention.States.lean ====
module

public import proofs.«01_k».proof.Proof.Retention.Line
public import proofs.«01_k».proof.Proof.Retention.RefChain

@[expose] public section

set_option maxRecDepth 16384
noncomputable section

/-! The kernel's stack of states: at each head and chunk the state that the chunk starts from. -/

namespace Cert.Retention.Line

open Idealize.ShloMosaic Idealize.ShloMosaic.TcCoe Idealize.SL.Sem
open Cert.Kernel5Ideal Cert.Kernel5Ideal.Gen
open Cert.Retention.Ref (piece piece_at sixteen sixteen_at)

variable (V0 : Valuation τ sig (Elt Ideal))

theorem na {i n : ℕ} {xs : Fin n → Ref sig .tc} {y : Ref sig .tc} {f : ((k : Fin n) → (xs k).ty.Contents (Elt Ideal)) → y.ty.Contents (Elt Ideal)} {hx hy}
    (h : getElem? line i = some (StableHlo.nary (τ := τ) xs y f hx hy)) (hr : y ∉ ws.drop (i + 1)) (hxs : ∀ k, xs k ∉ ws.drop i) :
    X V0 y = f (fun k => X V0 (xs k)) := by
  rw [at_op V0 h hr, StableHlo.nary_result']
  exact congrArg f (funext fun k => upto_at V0 (hxs k))

def pc : Fin 32 → FVec Ideal S1x4x128x128 .f32 := ![
    X V0 main_v285, X V0 main_v286, X V0 main_v287, X V0 main_v288, X V0 main_v289, X V0 main_v290,
    X V0 main_v291, X V0 main_v292, X V0 main_v293, X V0 main_v294, X V0 main_v295, X V0 main_v296,
    X V0 main_v297, X V0 main_v298, X V0 main_v299, X V0 main_v300, X V0 main_v301, X V0 main_v302,
    X V0 main_v303, X V0 main_v304, X V0 main_v305, X V0 main_v306, X V0 main_v307, X V0 main_v308,
    X V0 main_v309, X V0 main_v310, X V0 main_v311, X V0 main_v312, X V0 main_v313, X V0 main_v314,
    X V0 main_v315, X V0 main_v316]

set_option maxHeartbeats 2000000 in
theorem pc_eq : ∀ k : Fin 32, pc V0 k = piece (st V0 k.castSucc) := by
  intro k
  fin_cases k
  exacts [
    un V0 (i := 272) (a := main_v121) (b := main_v285) rfl (by decide +kernel),
    un V0 (i := 273) (a := main_v129) (b := main_v286) rfl (by decide +kernel),
    un V0 (i := 274) (a := main_v134) (b := main_v287) rfl (by decide +kernel),
    un V0 (i := 275) (a := main_v139) (b := main_v288) rfl (by decide +kernel),
    un V0 (i := 276) (a := main_v144) (b := main_v289) rfl (by decide +kernel),
    un V0 (i := 277) (a := main_v149) (b := main_v290) rfl (by decide +kernel),
    un V0 (i := 278) (a := main_v154) (b := main_v291) rfl (by decide +kernel),
    un V0 (i := 279) (a := main_v159) (b := main_v292) rfl (by decide +kernel),
    un V0 (i := 280) (a := main_v164) (b := main_v293) rfl (by decide +kernel),
    un V0 (i := 281) (a := main_v169) (b := main_v294) rfl (by decide +kernel),
    un V0 (i := 282) (a := main_v174) (b := main_v295) rfl (by decide +kernel),
    un V0 (i := 283) (a := main_v179) (b := main_v296) rfl (by decide +kernel),
    un V0 (i := 284) (a := main_v184) (b := main_v297) rfl (by decide +kernel),
    un V0 (i := 285) (a := main_v189) (b := main_v298) rfl (by decide +kernel),
    un V0 (i := 286) (a := main_v194) (b := main_v299) rfl (by decide +kernel),
    un V0 (i := 287) (a := main_v199) (b := main_v300) rfl (by decide +kernel),
    un V0 (i := 288) (a := main_v204) (b := main_v301) rfl (by decide +kernel),
    un V0 (i := 289) (a := main_v209) (b := main_v302) rfl (by decide +kernel),
    un V0 (i := 290) (a := main_v214) (b := main_v303) rfl (by decide +kernel),
    un V0 (i := 291) (a := main_v219) (b := main_v304) rfl (by decide +kernel),
    un V0 (i := 292) (a := main_v224) (b := main_v305) rfl (by decide +kernel),
    un V0 (i := 293) (a := main_v229) (b := main_v306) rfl (by decide +kernel),
    un V0 (i := 294) (a := main_v234) (b := main_v307) rfl (by decide +kernel),
    un V0 (i := 295) (a := main_v239) (b := main_v308) rfl (by decide +kernel),
    un V0 (i := 296) (a := main_v244) (b := main_v309) rfl (by decide +kernel),
    un V0 (i := 297) (a := main_v249) (b := main_v310) rfl (by decide +kernel),
    un V0 (i := 298) (a := main_v254) (b := main_v311) rfl (by decide +kernel),
    un V0 (i := 299) (a := main_v259) (b := main_v312) rfl (by decide +kernel),
    un V0 (i := 300) (a := main_v264) (b := main_v313) rfl (by decide +kernel),
    un V0 (i := 301) (a := main_v269) (b := main_v314) rfl (by decide +kernel),
    un V0 (i := 302) (a := main_v274) (b := main_v315) rfl (by decide +kernel),
    un V0 (i := 303) (a := main_v279) (b := main_v316) rfl (by decide +kernel)]

/-- Sixteen pieces in a row. -/
def row16 (g : Fin 16 → FVec Ideal S1x4x128x128 .f32) : FVec Ideal S16x4x128x128 .f32 :=
  concatenate S16x4x128x128 0 (List.ofFn fun k : Fin 16 => (⟨S1x4x128x128, g k⟩ : (s : Shape) × (s.Idx → EReal)))
    (by rw [List.map_ofFn]; exact Cert.Retention.Ref.ones)

def lowPc (k : Fin 16) := pc V0 ⟨k.val, by have := k.isLt; omega⟩
def highPc (k : Fin 16) := pc V0 ⟨16 + k.val, by have := k.isLt; omega⟩

theorem low_pc : (X V0 main_v317 : FVec Ideal S16x4x128x128 .f32) = row16 (lowPc V0) :=
  (na V0 (i := 304) (y := main_v317) rfl (by decide +kernel) (by decide +kernel)).trans rfl
theorem high_pc : (X V0 main_v318 : FVec Ideal S16x4x128x128 .f32) = row16 (highPc V0) :=
  (na V0 (i := 305) (y := main_v318) rfl (by decide +kernel) (by decide +kernel)).trans rfl

theorem low_eq : (X V0 main_v317 : FVec Ideal S16x4x128x128 .f32) = sixteen fun k => st V0 ⟨k.val, by have := k.isLt; omega⟩ := by
  rw [low_pc, show lowPc V0 = fun k : Fin 16 => piece (st V0 ⟨k.val, by have := k.isLt; omega⟩) from
    funext fun k => pc_eq V0 ⟨k.val, by have := k.isLt; omega⟩]
  rfl

theorem high_eq : (X V0 main_v318 : FVec Ideal S16x4x128x128 .f32) = sixteen fun k => st V0 ⟨16 + k.val, by have := k.isLt; omega⟩ := by
  rw [high_pc, show highPc V0 = fun k : Fin 16 => piece (st V0 ⟨16 + k.val, by have := k.isLt; omega⟩) from
    funext fun k => pc_eq V0 ⟨16 + k.val, by have := k.isLt; omega⟩]
  rfl

theorem both_at (n : Fin 32) (h : Fin 4) (a b : Fin 128) :
    (X V0 main_v319 : FVec Ideal S32x4x128x128 .f32) (ix4 n h a b) = st V0 n.castSucc (ix3 h a b) := by
  have e := bi V0 (i := 306) (a := main_v317) (b := main_v318) (y := main_v319) rfl (by decide +kernel)
  rw [low_eq, high_eq] at e
  refine (congrFun e (ix4 n h a b)).trans ?_
  by_cases hn : n.val < 16
  · refine Eq.trans (concatenate_pair_apply_left (t := S32x4x128x128) (s₁ := S16x4x128x128) (s₂ := S16x4x128x128) (α := EReal) 0 _ _ _
      (ix4 n h a b) rfl (ix4 ⟨n.val, hn⟩ h a b) ?_) ?_
    · intro d; fin_cases d <;> rfl
    · exact sixteen_at _ _ h a b
  · refine Eq.trans (concatenate_pair_apply_right (t := S32x4x128x128) (s₁ := S16x4x128x128) (s₂ := S16x4x128x128) (α := EReal) 0 _ _ _
      (ix4 n h a b) rfl rfl (ix4 ⟨n.val - 16, by have := n.isLt; omega⟩ h a b) ?_ ?_) ?_
    · intro d hd
      fin_cases d
      · exact absurd rfl hd
      all_goals rfl
    · show n.val - 16 + 16 = n.val; omega
    · refine (sixteen_at _ _ h a b).trans ?_
      exact congrArg (fun u => st V0 u (ix3 h a b)) (Fin.ext (by show 16 + (n.val - 16) = n.val; omega))

/-- The stack as the kernel's call takes it. -/
theorem stack_at (h : Fin 4) (n : Fin 32) (a b : Fin 128) :
    (X V0 main_v324 : FVec Ideal S4x32x128x128 .f32) (ix4 h n a b) = st V0 n.castSucc (ix3 h a b) := by
  have e1 := un V0 (i := 311) (a := main_v320) (b := main_v324) rfl (by decide +kernel)
  have e2 := bi V0 (i := 307) (a := main_v124) (b := main_v319) (y := main_v320) rfl (by decide +kernel)
  refine (congrFun e1 (ix4 h n a b)).trans ?_
  have e3 : (X V0 main_v320 : FVec Ideal S32x4x128x128 .f32) (ix4 n h a b) = st V0 n.castSucc (ix3 h a b) := by
    refine (congrFun e2 (ix4 n h a b)).trans ?_
    refine Eq.trans (concatenate_pair_apply_right (t := S32x4x128x128) (s₁ := S0x4x128x128) (s₂ := S32x4x128x128) (α := EReal) 0 _ _ _
      (ix4 n h a b) rfl rfl (ix4 n h a b) (fun _ _ => rfl) rfl) ?_
    exact both_at V0 n h a b
  rw [← e3]
  generalize (X V0 main_v320 : FVec Ideal S32x4x128x128 .f32) = y
  pointwise []

theorem prods_at (n : Fin 32) (h : Fin 4) (a b : Fin 128) :
    prods V0 n (ix3 h a b) = (X V0 main_v119 : FVec Ideal S32x4x128x128 .f32) (ix4 n h a b) := by
  have e := un V0 (i := 109) (a := main_v119) (b := main_v123) rfl (by decide +kernel)
  unfold prods
  rw [e]
  generalize (X V0 main_v119 : FVec Ideal S32x4x128x128 .f32) = y
  pointwise []

def decay1 : FVec Ideal S4x1x128 .f32 := X V0 main_v120

theorem faded_at (g : St) (h : Fin 4) (a b : Fin 128) : faded V0 g (ix3 h a b) = decay1 V0 (ix3 h 0 b) * g (ix3 h a b) := by
  show mulf (broadcastInDim S4x128x128 ![0, 1, 2] bcast_S4x1x128_S4x128x128_0_1_2 (decay1 V0)) g (ix3 h a b) = _
  pointwise []

/-- The states solve the recurrence of the chunks. -/
theorem st_at (h : Fin 4) (a b : Fin 128) (z : ℝ) (p : ℕ → ℝ) (f : ℕ → ℝ)
    (h0 : st V0 0 (ix3 h a b) = ((f 0 : ℝ) : EReal))
    (hz : decay1 V0 (ix3 h 0 b) = ((z : ℝ) : EReal))
    (hp : ∀ n : Fin 32, (X V0 main_v119 : FVec Ideal S32x4x128x128 .f32) (ix4 n h a b) = ((p n.val : ℝ) : EReal))
    (hf : ∀ n, f (n + 1) = z * f n + p n) (n : ℕ) (hn : n < 33) : st V0 ⟨n, hn⟩ (ix3 h a b) = ((f n : ℝ) : EReal) := by
  induction n with
  | zero => exact h0
  | succ n ih =>
    refine (congrFun (st_step V0 ⟨n, by omega⟩) (ix3 h a b)).trans ?_
    show faded V0 (st V0 ⟨n, by omega⟩) (ix3 h a b) + prods V0 ⟨n, by omega⟩ (ix3 h a b) = _
    rw [faded_at, prods_at, hz, hp, ih (by omega), ← EReal.coe_mul, ← EReal.coe_add, hf]

end Cert.Retention.Line
-- ==== Proof.Retention.Host.lean ====
module

public import proofs.«01_k».proof.Proof.Retention.States

@[expose] public section

set_option maxRecDepth 16384
noncomputable section

/-! The arrays the kernel's call takes, entry by entry, as the host prepares them from the four arguments. -/

namespace Cert.Retention

open Idealize.ShloMosaic Idealize.ShloMosaic.TcCoe Idealize.SL.Sem
open Cert.Kernel5Ideal Cert.Kernel5Ideal.Gen
variable (m : (ℓ : Loc nD τ sig) → Buf (Elt Ideal) ℓ) (c : Dev nD)

abbrev kq : Wide .f32 := m (c, Proc.devRef .tc main_arg0)
abbrev kk : Wide .f32 := m (c, Proc.devRef .tc main_arg1)
abbrev kv : Wide .f32 := m (c, Proc.devRef .tc main_arg2)
abbrev kd : Wide .bf16 := m (c, Proc.devRef .tc main_arg3)

/-- All of the host's lines before the call. -/
abbrev hostAll : List (HloOp τ sig (Elt Ideal)) := List.flatten [hostOps0, hostOps0_1, hostOps0_2, hostOps0_3, hostOps0_4]
abbrev part (n : ℕ) (r : Ref sig .tc) : r.ty.Contents (Elt Ideal) := StableHlo.upto hostAll (fun b => m (c, b)) n (Proc.devRef .tc r)

theorem lin_lo (h : Fin 3) : (part m c 22 main_call0_v15 : FVec Ideal S3 .f32) (ix1 h)
    = Ideal.ofBits .f32 0xC05DCE9E#32 * (1 - Ideal.div (num h.val) (Ideal.ofBits .f32 0x40400000#32))
        + Ideal.ofBits .f32 0xC0C7A05B#32 * Ideal.div (num h.val) (Ideal.ofBits .f32 0x40400000#32) := by
  unfold part
  after_reads_at
  rfl

theorem lin_hi (h : Fin 1) : (part m c 22 main_call0_v16 : FVec Ideal S1 .f32) (ix1 h) = Ideal.ofBits .f32 0xC0C7A05B#32 := by
  unfold part
  after_reads_at
  rfl

/-- The logarithm of a head's decay, as the host's lines hold it. -/
theorem lg_read (h : Fin 4) : Ideal.log (1 - Ideal.exp (if h1 : h.val < 3 then (part m c 22 main_call0_v15 : FVec Ideal S3 .f32) (ix1 ⟨h.val, h1⟩)
      else (part m c 22 main_call0_v16 : FVec Ideal S1 .f32) (ix1 ⟨h.val - 3, by have := h.isLt; omega⟩))) = ((lg h : ℝ) : EReal) := by
  refine Eq.trans (congrArg (fun x => Ideal.log (1 - Ideal.exp x)) ?_) (lg_formula h)
  by_cases hh : h.val < 3
  · rw [dif_pos hh, if_pos hh]; exact lin_lo m c ⟨h.val, hh⟩
  · rw [dif_neg hh, if_neg hh]; exact lin_hi m c _

theorem cos_of (t k a : ℕ) (hk : k = a) (ht : t < 2 ^ 31) (ha : a < 2 ^ 31) :
    Ideal.cos (num t * Ideal.pow (Ideal.ofBits FTy.f32 0x461C4000#32) (Ideal.div (-num k) (Ideal.ofBits FTy.f32 0x42800000#32)))
      = ((cosR t a : ℝ) : EReal) := by
  subst hk; rw [ang_of t k ht ha]; rfl
theorem sin_of (t k a : ℕ) (hk : k = a) (ht : t < 2 ^ 31) (ha : a < 2 ^ 31) :
    Ideal.sin (num t * Ideal.pow (Ideal.ofBits FTy.f32 0x461C4000#32) (Ideal.div (-num k) (Ideal.ofBits FTy.f32 0x42800000#32)))
      = ((sinR t a : ℝ) : EReal) := by
  subst hk; rw [ang_of t k ht ha]; rfl

/-- The halves of turned rows. -/
theorem turn_lo (x : ℕ → Fin 128 → ℝ) (t : ℕ) (a : Fin 128) (ha : a.val < 64) (p q r s : EReal)
    (hp : p = ((x t a : ℝ) : EReal)) (hq : q = ((cosR t a.val : ℝ) : EReal)) (hr : r = ((x t (other a) : ℝ) : EReal)) (hs : s = ((sinR t a.val : ℝ) : EReal)) :
    p * q - r * s = ((turn x t a : ℝ) : EReal) := by
  subst hp hq hr hs
  rw [← EReal.coe_mul, ← EReal.coe_mul, ← EReal.coe_sub, turn, if_pos ha]
theorem turn_hi (x : ℕ → Fin 128 → ℝ) (t : ℕ) (a : Fin 128) (ha : ¬ a.val < 64) (p q r s : EReal)
    (hp : p = ((x t (other a) : ℝ) : EReal)) (hq : q = ((sinR t (a.val - 64) : ℝ) : EReal)) (hr : r = ((x t a : ℝ) : EReal))
    (hs : s = ((cosR t (a.val - 64) : ℝ) : EReal)) : p * q + r * s = ((turn x t a : ℝ) : EReal) := by
  subst hp hq hr hs
  rw [← EReal.coe_mul, ← EReal.coe_mul, ← EReal.coe_add, turn, if_neg ha]

theorem q_at (hq : Real' (kq m c)) (t : Fin 8192) (h : Fin 4) (a : Fin 128) (b : Fin 512) (hb : b.val = 128 * h.val + a.val) :
    (V m c main_v321 : Wide .bf16) (ix2 t b) = ((Q (kq m c) h t.val a : ℝ) : EReal) := by
  have ht := t.isLt; have ha := a.isLt
  have hm : b.val % 128 = a.val := by omega
  unfold V
  after_reads_at
  by_cases hh : b.val % 128 < 64
  · rw [dif_pos hh]
    after_reads_at
    exact turn_lo (row (kq m c) h) t.val a (by omega) _ _ _ _ (row_at' hq t _ h t.val a rfl (by show _ = _; simp only []; omega))
      (cos_of t.val _ a.val hm (by omega) (by omega)) (row_at' hq t _ h t.val (other a) rfl (by show _ = 128 * h.val + (a.val + 64) % 128; simp only []; omega))
      (sin_of t.val _ a.val hm (by omega) (by omega))
  · rw [dif_neg hh]
    after_reads_at
    exact turn_hi (row (kq m c) h) t.val a (by omega) _ _ _ _ (row_at' hq t _ h t.val (other a) rfl (by show _ = 128 * h.val + (a.val + 64) % 128; simp only []; omega))
      (sin_of t.val _ (a.val - 64) (by omega) (by omega) (by omega)) (row_at' hq t _ h t.val a rfl (by show _ = _; simp only []; omega))
      (cos_of t.val _ (a.val - 64) (by omega) (by omega) (by omega))

theorem k_lo (hk : Real' (kk m c)) (t : Fin 8192) (h h' : Fin 4) (eh : h' = h) (a : Fin 128) (b : Fin 64) (hb : b.val = a.val) :
    (part m c 144 main_v102 : FVec Ideal S8192x4x64 .f32) (ix3 t h' b) = ((turn (row (kk m c) h) t.val a : ℝ) : EReal) := by
  subst eh
  have ht := t.isLt; have hb' := b.isLt
  unfold part
  after_reads_at
  exact turn_lo (row (kk m c) h') t.val a (by omega) _ _ _ _ (row_at' hk t _ h' t.val a rfl (by show _ = _; simp only []; omega))
    (cos_of t.val _ a.val hb (by omega) (by omega)) (row_at' hk t _ h' t.val (other a) rfl (by show _ = 128 * h'.val + (a.val + 64) % 128; simp only []; omega))
    (sin_of t.val _ a.val hb (by omega) (by omega))

theorem k_hi (hk : Real' (kk m c)) (t : Fin 8192) (h h' : Fin 4) (eh : h' = h) (a : Fin 128) (b : Fin 64) (hb : b.val + 64 = a.val) :
    (part m c 144 main_v107 : FVec Ideal S8192x4x64 .f32) (ix3 t h' b) = ((turn (row (kk m c) h) t.val a : ℝ) : EReal) := by
  subst eh
  have ht := t.isLt; have ha := a.isLt
  unfold part
  after_reads_at
  exact turn_hi (row (kk m c) h') t.val a (by omega) _ _ _ _ (row_at' hk t _ h' t.val (other a) rfl (by show _ = 128 * h'.val + (a.val + 64) % 128; simp only []; omega))
    (sin_of t.val _ (a.val - 64) (by omega) (by omega) (by omega)) (row_at' hk t _ h' t.val a rfl (by show _ = _; simp only []; omega))
    (cos_of t.val _ (a.val - 64) (by omega) (by omega) (by omega))

theorem k_at (hk : Real' (kk m c)) (t : Fin 8192) (h : Fin 4) (a : Fin 128) (b : Fin 512) (hb : b.val = 128 * h.val + a.val) :
    (V m c main_v322 : Wide .bf16) (ix2 t b) = ((K (kk m c) h t.val a : ℝ) : EReal) := by
  have ha := a.isLt
  unfold V
  after_reads_at
  refine Eq.trans (congrArg₂ (· * ·) (?_ : _ = ((turn (row (kk m c) h) t.val a : ℝ) : EReal)) kap_bits) (EReal.coe_mul _ _).symm
  by_cases hh : b.val % 128 < 64
  · rw [dif_pos hh]
    exact k_lo m c hk t h _ (Fin.ext (by show b.val / 128 = h.val; omega)) a _ (by show b.val % 128 = a.val; omega)
  · rw [dif_neg hh]
    exact k_hi m c hk t h _ (Fin.ext (by show b.val / 128 = h.val; omega)) a _ (by show b.val % 128 - 64 + 64 = a.val; omega)

theorem v_at (hv : Real' (kv m c)) (t : Fin 8192) (h : Fin 4) (a : Fin 128) (b : Fin 512) (hb : b.val = 128 * h.val + a.val) :
    (V m c main_v323 : Wide .bf16) (ix2 t b) = ((V' (kv m c) h t.val a : ℝ) : EReal) := by
  unfold V
  after_reads_at
  exact row_at' hv t b h t.val a rfl hb

theorem d_at (hd : Real' (kd m c)) (t : Fin 8192) (h : Fin 4) (a : Fin 128) (b : Fin 512) (hb : b.val = 128 * h.val + a.val) :
    (V m c main_arg3 : Wide .bf16) (ix2 t b) = ((D (kd m c) h t.val a : ℝ) : EReal) := by
  rw [V_main_arg3]
  exact row_at' hd t b h t.val a rfl hb

theorem decay_at (h : Fin 4) (i j : Fin 256) : (V m c main_v22 : FVec Ideal S4x256x256 .f32) (ix3 h i j) = ((W (lg h) i.val j.val : ℝ) : EReal) := by
  unfold V
  after_reads_at
  refine Eq.trans ?_ (W_formula (lg h) i.val j.val (by have := i.isLt; omega) (by have := j.isLt; omega))
  by_cases hh : (0 : EReal) ≤ num i.val - num j.val
  · refine (if_pos hh).trans (Eq.trans ?_ (if_pos hh).symm)
    exact congrArg (fun x => Ideal.exp (max (num i.val - num j.val) 0 * x)) (lg_read m c h)
  · refine (if_neg hh).trans (Eq.trans ?_ (if_neg hh).symm)
    show Ideal.ofBits .f32 0x00000000#32 = 0
    simp [Ideal.ofBits, Ideal.ieee]

theorem bits255 : Ideal.ofBits .f32 0x437F0000#32 = (((255 : ℝ)) : EReal) := by
  simp [Ideal.ofBits, Ideal.ieee]; rw [← EReal.coe_mul]; norm_num
theorem bits256 : Ideal.ofBits .f32 0x43800000#32 = (((256 : ℝ)) : EReal) := by
  simp [Ideal.ofBits, Ideal.ieee]; rw [← EReal.coe_mul]; norm_num

theorem xi_of (h : Fin 4) (i : ℕ) (hi : i < 2 ^ 31) (x : EReal) (hx : x = ((lg h : ℝ) : EReal)) :
    Ideal.exp ((num i + 1) * x) = ((w (lg h) ((i : ℝ) + 1) : ℝ) : EReal) := by
  have e := sitofp_nat i hi
  rw [e, hx]
  have : ((i : ℝ) : EReal) + 1 = (((i : ℝ) + 1 : ℝ) : EReal) := by push_cast; rfl
  rw [this, ← EReal.coe_mul]
  rfl
theorem zeta_of (h : Fin 4) (i : ℕ) (hi : i < 2 ^ 31) (x : EReal) (hx : x = ((lg h : ℝ) : EReal)) :
    Ideal.exp ((Ideal.ofBits .f32 0x437F0000#32 - num i) * x) = ((w (lg h) ((256 : ℝ) - 1 - (i : ℝ)) : ℝ) : EReal) := by
  have e := sitofp_nat i hi
  rw [e, hx, bits255, ← EReal.coe_sub, ← EReal.coe_mul, show (256 : ℝ) - 1 - i = 255 - i by ring]
  rfl
theorem gc_of (h : Fin 4) (x : EReal) (hx : x = ((lg h : ℝ) : EReal)) :
    Ideal.exp (Ideal.ofBits .f32 0x43800000#32 * x) = ((w (lg h) (256 : ℝ) : ℝ) : EReal) := by
  rw [hx, bits256, ← EReal.coe_mul]
  rfl

theorem xi_at (h : Fin 4) (i : Fin 256) (b : Fin 128) :
    (V m c main_v45 : FVec Ideal S4x256x128 .f32) (ix3 h i b) = ((w (lg h) ((i.val : ℝ) + 1) : ℝ) : EReal) := by
  unfold V
  after_reads_at
  exact xi_of h i.val (by have := i.isLt; omega) _ (lg_read m c h)

theorem zeta_at (h : Fin 4) (i : Fin 256) (b : Fin 128) :
    (V m c main_v47 : FVec Ideal S4x256x128 .f32) (ix3 h i b) = ((w (lg h) ((256 : ℝ) - 1 - (i.val : ℝ)) : ℝ) : EReal) := by
  unfold V
  after_reads_at
  exact zeta_of h i.val (by have := i.isLt; omega) _ (lg_read m c h)

theorem gc_at (h : Fin 4) (i : Fin 8) (b : Fin 128) :
    (V m c main_v43 : FVec Ideal S4x8x128 .f32) (ix3 h i b) = ((w (lg h) (256 : ℝ) : ℝ) : EReal) := by
  unfold V
  after_reads_at
  exact gc_of h _ (lg_read m c h)

theorem gc1_at (h : Fin 4) (b : Fin 128) :
    (V m c main_v120 : FVec Ideal S4x1x128 .f32) (ix3 h 0 b) = ((w (lg h) (256 : ℝ) : ℝ) : EReal) := by
  unfold V
  after_reads_at
  exact gc_of h _ (lg_read m c h)

theorem prod_at (hk : Real' (kk m c)) (hv : Real' (kv m c)) (n : Fin 32) (h : Fin 4) (a b : Fin 128) :
    (V m c main_v119 : FVec Ideal S32x4x128x128 .f32) (ix4 n h a b)
      = ((∑ j : Fin 256, (K (kk m c) h (256 * n.val + j.val) a * V' (kv m c) h (256 * n.val + j.val) b) * w (lg h) ((256 : ℝ) - 1 - (j.val : ℝ)) : ℝ) : EReal) := by
  unfold V
  after_reads_at
  rw [Cert.Norm.sum_coe]
  refine Finset.sum_congr rfl fun x _ => ?_
  have hn := n.isLt; have hx := x.isLt; have hb := b.isLt; have hh4 := h.isLt
  refine Eq.trans (congrArg₂ (· * ·) (congrArg₂ (· * ·) (?_ : _ = ((turn (row (kk m c) h) (256 * n.val + x.val) a : ℝ) : EReal)) kap_bits)
    (congrArg₂ (· * ·) (row_at' hv ⟨n.val * 256 + x.val, by omega⟩ ⟨h.val * 128 + b.val, by omega⟩ h (256 * n.val + x.val) b (by show n.val * 256 + x.val = _; omega)
        (by show h.val * 128 + b.val = _; omega))
      (zeta_of h x.val (by omega) _ (lg_read m c h)))) ?_
  · have e : n.val * 256 + x.val = 256 * n.val + x.val := by omega
    by_cases hh : a.val < 64
    · rw [dif_pos hh]
      exact (k_lo m c hk ⟨n.val * 256 + x.val, by omega⟩ h h rfl a ⟨a.val, hh⟩ rfl).trans (congrArg (fun n => ((turn (row (kk m c) h) n a : ℝ) : EReal)) e)
    · rw [dif_neg hh]
      exact (k_hi m c hk ⟨n.val * 256 + x.val, by omega⟩ h h rfl a ⟨a.val - 64, by have := a.isLt; omega⟩ (by show a.val - 64 + 64 = _; omega)).trans (congrArg (fun n => ((turn (row (kk m c) h) n a : ℝ) : EReal)) e)
  · rw [← EReal.coe_mul, ← EReal.coe_mul, ← EReal.coe_mul]
    exact congrArg _ (by unfold K V'; ring)

theorem cos_at (t : Fin 8192) (a : Fin 128) :
    (V m c main_v339 : FVec Ideal S8192x128 .f32) (ix2 t a) = ((cosR t.val (if a.val < 64 then a.val else a.val - 64) : ℝ) : EReal) := by
  unfold V
  after_reads_at
  have ht := t.isLt; have ha := a.isLt
  by_cases hh : a.val < 64
  · rw [dif_pos hh, if_pos hh]
    exact cos_of t.val _ a.val rfl (by omega) (by omega)
  · rw [dif_neg hh, if_neg hh]
    exact cos_of t.val _ _ rfl (by omega) (by omega)

theorem sin_at (t : Fin 8192) (a : Fin 128) :
    (V m c main_v343 : FVec Ideal S8192x128 .f32) (ix2 t a)
      = ((if a.val < 64 then -sinR t.val a.val else sinR t.val (a.val - 64) : ℝ) : EReal) := by
  have ht := t.isLt; have ha := a.isLt
  unfold V
  after_reads_at
  by_cases hh : a.val < 64
  · rw [dif_pos hh, if_pos hh, EReal.coe_neg]
    exact congrArg (fun x : EReal => -x) (sin_of t.val _ a.val rfl (by omega) (by omega))
  · rw [dif_neg hh, if_neg hh]
    exact sin_of t.val _ _ rfl (by omega) (by omega)

/-- The lines up to the last part, and the arrays of that part as it leaves them. -/
abbrev V0 : Valuation τ sig (Elt Ideal) := StableHlo.after (List.flatten [hostOps0, hostOps0_1, hostOps0_2, hostOps0_3]) (fun b => m (c, b))

theorem after_two (l l' : List (HloOp τ sig (Elt Ideal))) (B : Valuation τ sig (Elt Ideal)) :
    StableHlo.after (l ++ l') B = StableHlo.after l' (StableHlo.after l B) := by
  induction l generalizing B with
  | nil => rfl
  | cons a l ih => exact ih _

theorem V_eq (r : Ref sig .tc) : V m c r = Line.X (V0 m c) r := by
  rw [Line.X_eq]
  unfold V
  rw [show List.flatten [hostOps0, hostOps0_1, hostOps0_2, hostOps0_3, hostOps0_4]
      = List.flatten [hostOps0, hostOps0_1, hostOps0_2, hostOps0_3] ++ Line.line from by
    simp only [List.flatten_cons, List.flatten_nil, List.append_assoc, List.append_nil], after_two]

/-- A saved state: the decayed sum of the products over the chunks before. -/
theorem saved_at (hk : Real' (kk m c)) (hv : Real' (kv m c)) (h : Fin 4) (n : Fin 32) (a b : Fin 128) :
    (V m c main_v324 : FVec Ideal S4x32x128x128 .f32) (ix4 h n a b)
      = ((fwd (lg h) 256 (fun s => K (kk m c) h s a * V' (kv m c) h s b) n.val : ℝ) : EReal) := by
  rw [V_eq]
  refine (Line.stack_at (V0 m c) h n a b).trans ?_
  refine Line.st_at (V0 m c) h a b (w (lg h) (256 : ℝ)) (fun n => ∑ j : Fin 256, (K (kk m c) h (256 * n + j.val) a * V' (kv m c) h (256 * n + j.val) b) * w (lg h) ((256 : ℝ) - 1 - (j.val : ℝ)))
    (fwd (lg h) 256 (fun s => K (kk m c) h s a * V' (kv m c) h s b)) ?_ ?_ ?_ ?_ n.val _
  · show Line.X (V0 m c) main_v121 (ix3 h a b) = _
    rw [← V_eq]
    unfold V
    after_reads_at
    rfl
  · show Line.X (V0 m c) main_v120 (ix3 h 0 b) = _
    rw [← V_eq]
    exact gc1_at m c h b
  · intro n
    rw [← V_eq]
    exact prod_at m c hk hv n h a b
  · intro n
    show w (lg h) ((256 : ℕ) : ℝ) * _ + ∑ j ∈ Finset.range 256, _ = _
    rw [Finset.sum_range]
    push_cast
    rfl

end Cert.Retention
-- ==== Proof.Retention.Blocks.lean ====
module

public import proofs.«01_k».proof.Proof.Retention.Host
public import proofs.«01_k».proof.Proof.Retention.Body

@[expose] public section

set_option maxRecDepth 16384
noncomputable section

/-! What the blocks of a grid point hold, head by head and chunk by chunk. Point `t` works on the chunks `2 (15 - t)` and `2 (15 - t) + 1`. -/

namespace Cert.Retention

open Idealize.ShloMosaic Idealize.ShloMosaic.TcCoe Idealize.SL.Sem
open Cert.Kernel5Ideal Cert.Kernel5Ideal.Gen
variable (m : (ℓ : Loc nD τ sig) → Buf (Elt Ideal) ℓ) (c : Dev nD) (t : Fin cfg0.N)

theorem blocks_at : ∀ t : Fin cfg0.N,
    win0_0.index t = ![15 - t.val, 0]
    ∧ win0_1.index t = ![15 - t.val, 0]
    ∧ win0_2.index t = ![15 - t.val, 0]
    ∧ win0_3.index t = ![15 - t.val, 0]
    ∧ win0_4.index t = ![0, 15 - t.val, 0, 0]
    ∧ win0_5.index t = ![0, 0, 0]
    ∧ win0_6.index t = ![0, 0, 0]
    ∧ win0_7.index t = ![0, 0, 0]
    ∧ win0_8.index t = ![0, 0, 0]
    ∧ win0_9.index t = ![15 - t.val, 0]
    ∧ win0_10.index t = ![15 - t.val, 0]
    ∧ win0_11.index t = ![15 - t.val, 0]
    ∧ win0_12.index t = ![15 - t.val, 0]
    ∧ win0_13.index t = ![15 - t.val, 0] :=
  (by decide +kernel : ∀ t : Fin grid0.N, _)

/-- The chunk a point works on, and a position of it. -/
def chunkNo (cc : Fin 2) : ℕ := 2 * (15 - t.val) + cc.val
theorem chunkNo_lt (cc : Fin 2) : chunkNo t cc < 32 := by have := cc.isLt; unfold chunkNo; omega
def pos (cc : Fin 2) (i : Fin 256) : Fin 8192 := ⟨256 * chunkNo t cc + i.val, by have := chunkNo_lt t cc; have := i.isLt; omega⟩

theorem block0 (y : S512x512.Idx) (i : Fin 8192) (j : Fin 512) (hi : i.val = 512 * (15 - t.val) + (y 0 : ℕ)) (hj : j = y 1) :
    (iblk m c 0 t : FVec Ideal S512x512 .bf16) y = (V m c main_v321 : Wide .bf16) (ix2 i j) := by
  subst hj
  blk_point [iblk, blocks_at t]

theorem block1 (y : S512x512.Idx) (i : Fin 8192) (j : Fin 512) (hi : i.val = 512 * (15 - t.val) + (y 0 : ℕ)) (hj : j = y 1) :
    (iblk m c 1 t : FVec Ideal S512x512 .bf16) y = (V m c main_v322 : Wide .bf16) (ix2 i j) := by
  subst hj
  blk_point [iblk, blocks_at t]

theorem block2 (y : S512x512.Idx) (i : Fin 8192) (j : Fin 512) (hi : i.val = 512 * (15 - t.val) + (y 0 : ℕ)) (hj : j = y 1) :
    (iblk m c 2 t : FVec Ideal S512x512 .bf16) y = (V m c main_v323 : Wide .bf16) (ix2 i j) := by
  subst hj
  blk_point [iblk, blocks_at t]

theorem block3 (y : S512x512.Idx) (i : Fin 8192) (j : Fin 512) (hi : i.val = 512 * (15 - t.val) + (y 0 : ℕ)) (hj : j = y 1) :
    (iblk m c 3 t : FVec Ideal S512x512 .bf16) y = (V m c main_arg3 : Wide .bf16) (ix2 i j) := by
  subst hj
  blk_point [iblk, blocks_at t]

theorem block9 (y : S512x128.Idx) (i : Fin 8192) (j : Fin 128) (hi : i.val = 512 * (15 - t.val) + (y 0 : ℕ)) (hj : j = y 1) :
    (iblk m c 9 t : FVec Ideal S512x128 .f32) y = (V m c main_v339 : FVec Ideal S8192x128 .f32) (ix2 i j) := by
  subst hj
  blk_point [iblk, blocks_at t]

theorem block10 (y : S512x128.Idx) (i : Fin 8192) (j : Fin 128) (hi : i.val = 512 * (15 - t.val) + (y 0 : ℕ)) (hj : j = y 1) :
    (iblk m c 10 t : FVec Ideal S512x128 .f32) y = (V m c main_v343 : FVec Ideal S8192x128 .f32) (ix2 i j) := by
  subst hj
  blk_point [iblk, blocks_at t]

theorem block5 (y : S4x256x256.Idx) : (iblk m c 5 t : FVec Ideal S4x256x256 .f32) y = (V m c main_v22 : FVec Ideal S4x256x256 .f32) y := by
  idx_vars y
  blk_point [iblk, blocks_at t]

theorem block6 (y : S4x256x128.Idx) : (iblk m c 6 t : FVec Ideal S4x256x128 .f32) y = (V m c main_v45 : FVec Ideal S4x256x128 .f32) y := by
  idx_vars y
  blk_point [iblk, blocks_at t]

theorem block7 (y : S4x256x128.Idx) : (iblk m c 7 t : FVec Ideal S4x256x128 .f32) y = (V m c main_v47 : FVec Ideal S4x256x128 .f32) y := by
  idx_vars y
  blk_point [iblk, blocks_at t]

theorem block8 (y : S4x8x128.Idx) : (iblk m c 8 t : FVec Ideal S4x8x128 .f32) y = (V m c main_v43 : FVec Ideal S4x8x128 .f32) y := by
  idx_vars y
  blk_point [iblk, blocks_at t]

theorem block4 (y : S4x2x128x128.Idx) (n : Fin 32) (hn : n.val = 2 * (15 - t.val) + (y 1 : ℕ)) :
    (iblk m c 4 t : FVec Ideal S4x2x128x128 .f32) y = (V m c main_v324 : FVec Ideal S4x32x128x128 .f32) (ix4 (y 0) n (y 2) (y 3)) := by
  blk_point [iblk, blocks_at t]

variable (hh : Fin 4) (cc : Fin 2) (i : Fin 256) (a b : Fin 128)

theorem q_row (hx : Real' (kq m c)) : rowsOf (iblk m c 0 t) hh cc (ix2 i a) = ((Q (kq m c) hh (pos t cc i).val a : ℝ) : EReal) :=
  (block0 m c t _ (pos t cc i) (col hh a) (by show 256 * (2 * (15 - t.val) + cc.val) + i.val = 512 * (15 - t.val) + (256 * cc.val + 1 * i.val); omega)
    (Fin.ext (by show 128 * hh.val + a.val = 128 * hh.val + 1 * a.val; omega))).trans (q_at m c hx (pos t cc i) hh a (col hh a) rfl)

theorem k_row (hx : Real' (kk m c)) : rowsOf (iblk m c 1 t) hh cc (ix2 i a) = ((K (kk m c) hh (pos t cc i).val a : ℝ) : EReal) :=
  (block1 m c t _ (pos t cc i) (col hh a) (by show 256 * (2 * (15 - t.val) + cc.val) + i.val = 512 * (15 - t.val) + (256 * cc.val + 1 * i.val); omega)
    (Fin.ext (by show 128 * hh.val + a.val = 128 * hh.val + 1 * a.val; omega))).trans (k_at m c hx (pos t cc i) hh a (col hh a) rfl)

theorem v_row (hx : Real' (kv m c)) : rowsOf (iblk m c 2 t) hh cc (ix2 i a) = ((V' (kv m c) hh (pos t cc i).val a : ℝ) : EReal) :=
  (block2 m c t _ (pos t cc i) (col hh a) (by show 256 * (2 * (15 - t.val) + cc.val) + i.val = 512 * (15 - t.val) + (256 * cc.val + 1 * i.val); omega)
    (Fin.ext (by show 128 * hh.val + a.val = 128 * hh.val + 1 * a.val; omega))).trans (v_at m c hx (pos t cc i) hh a (col hh a) rfl)

theorem d_row (hx : Real' (kd m c)) : rowsOf (iblk m c 3 t) hh cc (ix2 i a) = ((D (kd m c) hh (pos t cc i).val a : ℝ) : EReal) :=
  (block3 m c t _ (pos t cc i) (col hh a) (by show 256 * (2 * (15 - t.val) + cc.val) + i.val = 512 * (15 - t.val) + (256 * cc.val + 1 * i.val); omega)
    (Fin.ext (by show 128 * hh.val + a.val = 128 * hh.val + 1 * a.val; omega))).trans (d_at m c hx (pos t cc i) hh a (col hh a) rfl)

theorem cos_row : tableOf (iblk m c 9 t) cc (ix2 i a) = ((cosR (pos t cc i).val (if a.val < 64 then a.val else a.val - 64) : ℝ) : EReal) :=
  (block9 m c t _ (pos t cc i) a (by show 256 * (2 * (15 - t.val) + cc.val) + i.val = 512 * (15 - t.val) + (256 * cc.val + 1 * i.val); omega)
    (Fin.ext (by show a.val = 0 + 1 * a.val; omega))).trans (cos_at m c (pos t cc i) a)

theorem sin_row : tableOf (iblk m c 10 t) cc (ix2 i a)
    = ((if a.val < 64 then -sinR (pos t cc i).val a.val else sinR (pos t cc i).val (a.val - 64) : ℝ) : EReal) :=
  (block10 m c t _ (pos t cc i) a (by show 256 * (2 * (15 - t.val) + cc.val) + i.val = 512 * (15 - t.val) + (256 * cc.val + 1 * i.val); omega)
    (Fin.ext (by show a.val = 0 + 1 * a.val; omega))).trans (sin_at m c (pos t cc i) a)

theorem decay_row (j : Fin 256) : decayOf (iblk m c 5 t) hh (ix3 0 i j) = ((W (lg hh) i.val j.val : ℝ) : EReal) :=
  (block5 m c t _).trans (Eq.trans (congrArg (V m c main_v22 : FVec Ideal S4x256x256 .f32) (by
    funext d; fin_cases d
    · exact Fin.ext (by show hh.val + 1 * 0 = hh.val; omega)
    · exact Fin.ext (by show 0 + 1 * i.val = i.val; omega)
    · exact Fin.ext (by show 0 + 1 * j.val = j.val; omega))) (decay_at m c hh i j))

theorem xi_row : weightOf (iblk m c 6 t) hh (ix3 0 i a) = ((w (lg hh) ((i.val : ℝ) + 1) : ℝ) : EReal) :=
  (block6 m c t _).trans (Eq.trans (congrArg (V m c main_v45 : FVec Ideal S4x256x128 .f32) (by
    funext d; fin_cases d
    · exact Fin.ext (by show hh.val + 1 * 0 = hh.val; omega)
    · exact Fin.ext (by show 0 + 1 * i.val = i.val; omega)
    · exact Fin.ext (by show 0 + 1 * a.val = a.val; omega))) (xi_at m c hh i a))

theorem zeta_row : weightOf (iblk m c 7 t) hh (ix3 0 i a) = ((w (lg hh) ((256 : ℝ) - 1 - (i.val : ℝ)) : ℝ) : EReal) :=
  (block7 m c t _).trans (Eq.trans (congrArg (V m c main_v47 : FVec Ideal S4x256x128 .f32) (by
    funext d; fin_cases d
    · exact Fin.ext (by show hh.val + 1 * 0 = hh.val; omega)
    · exact Fin.ext (by show 0 + 1 * i.val = i.val; omega)
    · exact Fin.ext (by show 0 + 1 * a.val = a.val; omega))) (zeta_at m c hh i a))

theorem gc_row : chunkOf (iblk m c 8 t) hh (ix3 0 0 b) = ((w (lg hh) (256 : ℝ) : ℝ) : EReal) :=
  (block8 m c t _).trans (Eq.trans (congrArg (V m c main_v43 : FVec Ideal S4x8x128 .f32) (by
    funext d; fin_cases d
    · exact Fin.ext (by show hh.val + 1 * 0 = hh.val; omega)
    · exact Fin.ext (by show 0 + 1 * 0 = 0; omega)
    · exact Fin.ext (by show 0 + 1 * b.val = b.val; omega))) (gc_at m c hh 0 b))

theorem saved_row (hk : Real' (kk m c)) (hv : Real' (kv m c)) : savedOf (iblk m c 4 t) hh cc (ix4 0 0 a b)
    = ((fwd (lg hh) 256 (fun s => K (kk m c) hh s a * V' (kv m c) hh s b) (chunkNo t cc) : ℝ) : EReal) :=
  (block4 m c t _ ⟨chunkNo t cc, chunkNo_lt t cc⟩ (by show 2 * (15 - t.val) + cc.val = 2 * (15 - t.val) + (cc.val + 1 * 0); omega)).trans
    (Eq.trans (congrArg (V m c main_v324 : FVec Ideal S4x32x128x128 .f32) (by
    funext d; fin_cases d
    · exact Fin.ext (by show hh.val + 1 * 0 = hh.val; omega)
    · rfl
    · exact Fin.ext (by show 0 + 1 * a.val = a.val; omega)
    · exact Fin.ext (by show 0 + 1 * b.val = b.val; omega))) (saved_at m c hk hv hh ⟨chunkNo t cc, chunkNo_lt t cc⟩ a b))

end Cert.Retention
-- ==== Proof.Retention.Points.lean ====
module

public import proofs.«01_k».proof.Proof.Retention.Blocks

@[expose] public section

set_option maxRecDepth 16384
noncomputable section

/-! What a grid point stores, as the gradients' entries, and the state it hands on. -/

namespace Cert.Retention

open Idealize.ShloMosaic Idealize.ShloMosaic.TcCoe Idealize.SL.Sem
open Cert.Kernel5Ideal Cert.Kernel5Ideal.Gen
variable (m : (ℓ : Loc nD τ sig) → Buf (Elt Ideal) ℓ) (c : Dev nD) (t : Fin cfg0.N)

theorem dqOut_at (x cs sn : Rows .f32) (i : Fin 256) (a : Fin 128) :
    dqOut x cs sn (ix2 i a) = x (ix2 i a) * cs (ix2 i a) - x (ix2 i (other a)) * sn (ix2 i a) := turnOp_at x cs sn i a (other a) rfl
theorem dkOut_at (x cs sn : Rows .f32) (i : Fin 256) (a : Fin 128) :
    dkOut x cs sn (ix2 i a) = (x (ix2 i a) * cs (ix2 i a) - x (ix2 i (other a)) * sn (ix2 i a)) * Ideal.ofBits .f32 0x3DB504F3#32 :=
  congrArg (· * Ideal.ofBits .f32 0x3DB504F3#32) (turnOp_at x cs sn i a (other a) rfl)

/-- The halves put together with the tables are the rows turned back. -/
theorem back_turn (X : ℕ → Fin 128 → ℝ) (s : ℕ) (a : Fin 128) :
    ((X s a : ℝ) : EReal) * ((cosR s (if a.val < 64 then a.val else a.val - 64) : ℝ) : EReal)
      - ((X s (other a) : ℝ) : EReal) * ((if a.val < 64 then -sinR s a.val else sinR s (a.val - 64) : ℝ) : EReal) = ((unturn X s a : ℝ) : EReal) := by
  rw [← EReal.coe_mul, ← EReal.coe_mul, ← EReal.coe_sub, unturn]
  by_cases hh : a.val < 64
  · rw [if_pos hh, if_pos hh, if_pos hh]; exact congrArg _ (by ring)
  · rw [if_neg hh, if_neg hh, if_neg hh]

/-- The products of two real rows. -/
theorem dot_of (x y : Fin 128 → EReal) (u v : Fin 128 → ℝ) (hx : ∀ b, x b = ((u b : ℝ) : EReal)) (hy : ∀ b, y b = ((v b : ℝ) : EReal)) :
    ∑ b, x b * y b = ((dot u v : ℝ) : EReal) := by
  rw [show x = fun b => ((u b : ℝ) : EReal) from funext hx, show y = fun b => ((v b : ℝ) : EReal) from funext hy]
  exact sum_of u v _ fun _ => rfl

theorem mix_of {n : ℕ} (x y : Fin n → EReal) (u v : Fin n → ℝ) (hx : ∀ b, x b = ((u b : ℝ) : EReal)) (hy : ∀ b, y b = ((v b : ℝ) : EReal)) :
    ∑ b, x b * y b = ((∑ b, u b * v b : ℝ) : EReal) := by
  rw [show x = fun b => ((u b : ℝ) : EReal) from funext hx, show y = fun b => ((v b : ℝ) : EReal) from funext hy]
  exact sum_of u v _ fun _ => rfl

theorem times {x y : EReal} {u v : ℝ} (hx : x = ((u : ℝ) : EReal)) (hy : y = ((v : ℝ) : EReal)) : x * y = ((u * v : ℝ) : EReal) := by
  rw [hx, hy, EReal.coe_mul]
theorem plus {x y : EReal} {u v : ℝ} (hx : x = ((u : ℝ) : EReal)) (hy : y = ((v : ℝ) : EReal)) : x + y = ((u + v : ℝ) : EReal) := by
  rw [hx, hy, EReal.coe_add]

variable (hh : Fin 4) (cc : Fin 2) (i : Fin 256) (a b : Fin 128)

theorem pos_val : (pos t cc i).val = 256 * chunkNo t cc + i.val := rfl

section dq
variable (hk : Real' (kk m c)) (hv : Real' (kv m c)) (hd : Real' (kd m c))
include hk hv hd

theorem dq_row : dqB m c t hh cc (ix2 i a) = ((gradQ (kk m c) (kv m c) (kd m c) hh (pos t cc i).val a : ℝ) : EReal) := by
  have key : ∀ a, dqOp (decayOf (iblk m c 5 t) hh) (weightOf (iblk m c 6 t) hh) (ofSaved (savedOf (iblk m c 4 t) hh cc))
      (rowsOf (iblk m c 1 t) hh cc) (rowsOf (iblk m c 2 t) hh cc) (rowsOf (iblk m c 3 t) hh cc) (ix2 i a)
      = ((dQ (lg hh) 8192 (K (kk m c) hh) (V' (kv m c) hh) (D (kd m c) hh) (pos t cc i).val a : ℝ) : EReal) := by
    intro a
    have e := dQ_chunk (lg hh) (K (kk m c) hh) (V' (kv m c) hh) (D (kd m c) hh) 256 32 (chunkNo t cc) i.val (chunkNo_lt t cc) i.isLt a
    rw [Finset.sum_range] at e
    rw [dqOp_at]
    refine Eq.trans (plus (mix_of _ _ _ _ (fun j => times (dot_of _ _ _ _ (fun b => d_row m c t hh cc i b hd) (fun b => v_row m c t hh cc j b hv)) (decay_row m c t hh i j))
      (fun j => k_row m c t hh cc j a hk))
      (mix_of _ _ _ _ (fun b => times (d_row m c t hh cc i b hd) (xi_row m c t hh i b)) (fun b => (ofSaved_at _ a b).trans (saved_row m c t hh cc a b hk hv)))) ?_
    exact congrArg _ e.symm
  refine (dqOut_at _ _ _ i a).trans ?_
  rw [key a, key (other a), cos_row, sin_row]
  exact back_turn _ _ a

end dq

/-- The states are the decayed sums over the `p` chunks after. -/
def IsState (p : ℕ) (g : State .f32) (hh : Fin 4) : Prop :=
  ∀ a b, g (ix2 a b) = ((bwd (lg hh) 256 32 (fun s => Q (kq m c) hh s a * D (kd m c) hh s b) p : ℝ) : EReal)

variable (hq : Real' (kq m c)) (hk : Real' (kk m c)) (hv : Real' (kv m c)) (hd : Real' (kd m c))

include hq hd in
theorem step_state (p : ℕ) (hp : chunkNo t cc = 31 - p) (g : State .f32) (hg : IsState m c p g hh) : IsState m c (p + 1) (stepB m c t hh cc g) hh := by
  intro a b
  refine (stepOp_at _ _ _ _ _ a b).trans ?_
  refine Eq.trans (plus (times (gc_row m c t hh b) (hg a b)) (mix_of _ _ _ _ (fun i => q_row m c t hh cc i a hq)
    (fun i => times (d_row m c t hh cc i b hd) (xi_row m c t hh i b)))) ?_
  rw [bwd, Finset.sum_range]
  refine congrArg _ (congrArg₂ (· + ·) (by push_cast; rfl) (Finset.sum_congr rfl fun i _ => ?_))
  rw [pos_val, hp]
  show _ = Q (kq m c) hh (256 * (32 - 1 - p) + i.val) a * D (kd m c) hh (256 * (32 - 1 - p) + i.val) b * w (lg hh) ((i.val : ℝ) + 1)
  ring

include hq hd in
theorem start_state (g : State .f32) (hg : IsState m c (2 * t.val) g hh) : IsState m c (32 - 1 - chunkNo t cc) (startB m c t hh g cc) hh := by
  have ht : t.val < 16 := t.isLt
  fin_cases cc
  · have e : 32 - 1 - chunkNo t 0 = 2 * t.val + 1 := by show 32 - 1 - (2 * (15 - t.val) + 0) = _; omega
    show IsState m c (32 - 1 - chunkNo t 0) (stepB m c t hh 1 g) hh
    rw [e]
    exact step_state m c t hh 1 hq hd _ (by show 2 * (15 - t.val) + 1 = _; omega) g hg
  · have e : 32 - 1 - chunkNo t 1 = 2 * t.val := by show 32 - 1 - (2 * (15 - t.val) + 1) = _; omega
    show IsState m c (32 - 1 - chunkNo t 1) g hh
    rw [e]
    exact hg

variable (g : Fin 4 → State .f32) (hg : ∀ hh, IsState m c (2 * t.val) (g hh) hh)
include hq hd hg

theorem next_state : IsState m c (2 * (t.val + 1)) (ofScratch (nextB m c t g hh)) hh := by
  have ht : t.val < 16 := t.isLt
  have e : 32 - 1 - chunkNo t 0 = 2 * t.val + 1 := by show 32 - 1 - (2 * (15 - t.val) + 0) = _; omega
  have s := start_state m c t hh 0 hq hd (g hh) (hg hh)
  rw [e] at s
  intro a b
  refine (ofScratch_at _ a b).trans ((toScratch_at _ a b).trans ?_)
  exact step_state m c t hh 0 hq hd _ (by show 2 * (15 - t.val) + 0 = _; omega) _ s a b

include hv in
theorem dk_row : dkB m c t g hh cc (ix2 i a) = ((gradK (kq m c) (kv m c) (kd m c) hh (pos t cc i).val a : ℝ) : EReal) := by
  have key : ∀ a, dkOp (decayOf (iblk m c 5 t) hh) (weightOf (iblk m c 7 t) hh) (startB m c t hh (g hh) cc)
      (rowsOf (iblk m c 0 t) hh cc) (rowsOf (iblk m c 2 t) hh cc) (rowsOf (iblk m c 3 t) hh cc) (ix2 i a)
      = ((dK (lg hh) 8192 (Q (kq m c) hh) (V' (kv m c) hh) (D (kd m c) hh) (pos t cc i).val a : ℝ) : EReal) := by
    intro a
    have e := dK_chunk (lg hh) (Q (kq m c) hh) (V' (kv m c) hh) (D (kd m c) hh) 256 32 (chunkNo t cc) i.val (chunkNo_lt t cc) i.isLt a
    rw [Finset.sum_range] at e
    rw [dkOp_at]
    refine Eq.trans (plus (mix_of _ _ _ _ (fun j => times (dot_of _ _ _ _ (fun b => d_row m c t hh cc j b hd) (fun b => v_row m c t hh cc i b hv)) (decay_row m c t hh j i))
      (fun j => q_row m c t hh cc j a hq))
      (mix_of _ _ _ _ (fun b => times (v_row m c t hh cc i b hv) (zeta_row m c t hh i b)) (fun b => start_state m c t hh cc hq hd (g hh) (hg hh) a b))) ?_
    exact congrArg _ e.symm
  refine (dkOut_at _ _ _ i a).trans ?_
  rw [key a, key (other a), cos_row, sin_row, back_turn, kap_bits, ← EReal.coe_mul]
  rfl

include hk in
theorem dv_row : dvB m c t g hh cc (ix2 i b) = ((gradV (kq m c) (kk m c) (kd m c) hh (pos t cc i).val b : ℝ) : EReal) := by
  have e := dV_chunk (lg hh) (Q (kq m c) hh) (K (kk m c) hh) (D (kd m c) hh) 256 32 (chunkNo t cc) i.val (chunkNo_lt t cc) i.isLt b
  rw [Finset.sum_range] at e
  show dvOp _ _ _ _ _ _ (ix2 i b) = _
  rw [dvOp_at]
  refine Eq.trans (plus (mix_of _ _ _ _ (fun j => times (dot_of _ _ _ _ (fun a => q_row m c t hh cc j a hq) (fun a => k_row m c t hh cc i a hk)) (decay_row m c t hh j i))
    (fun j => d_row m c t hh cc j b hd))
    (times (mix_of _ _ _ _ (fun a => k_row m c t hh cc i a hk) (fun a => start_state m c t hh cc hq hd (g hh) (hg hh) a b)) (zeta_row m c t hh i b))) ?_
  exact congrArg _ e.symm

end Cert.Retention
-- ==== Proof.Retention.First.lean ====
module

public import proofs.«01_k».proof.Proof.Retention.Body

@[expose] public section

set_option maxRecDepth 16384
noncomputable section

/-! What the kernel stores at the first grid point. -/

namespace Cert.Retention

open Idealize.ShloMosaic Idealize.ShloMosaic.TcCoe Idealize.SL.Sem
open Cert.Kernel5Ideal Cert.Kernel5Ideal.Gen
open Idealize.ShloMosaic.Pipeline (Dat)

variable (m : (ℓ : Loc nD τ sig) → Buf (Elt Ideal) ℓ) (c : Dev nD) (t : Fin cfg0.N)

set_option maxHeartbeats 4000000 in
theorem dq_first (h : t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).1 y = dqB m c t hh cc (ix2 i a) := by
  rw [outsAt0_A m c t h]; frame_out
  canon_tiles x hx
  · exact of_tile (dqB m c t) y 3 0 x hh cc i a (by simpa using hx0) (by simpa using hx1) h0 h1
  · exact of_tile (dqB m c t) y 3 1 x hh cc i a (by simpa using hx0) (by simpa using hx1) h0 h1
  · exact of_tile (dqB m c t) y 2 0 x hh cc i a (by simpa using hx0) (by simpa using hx1) h0 h1
  · exact of_tile (dqB m c t) y 2 1 x hh cc i a (by simpa using hx0) (by simpa using hx1) h0 h1
  · exact of_tile (dqB m c t) y 1 0 x hh cc i a (by simpa using hx0) (by simpa using hx1) h0 h1
  · exact of_tile (dqB m c t) y 1 1 x hh cc i a (by simpa using hx0) (by simpa using hx1) h0 h1
  · exact of_tile (dqB m c t) y 0 0 x hh cc i a (by simpa using hx0) (by simpa using hx1) h0 h1
  · exact of_tile (dqB m c t) y 0 1 x hh cc i a (by simpa using hx0) (by simpa using hx1) h0 h1

set_option maxHeartbeats 4000000 in
theorem dk_first (h : t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.1 y = dkB m c t zeroB hh cc (ix2 i a) := by
  rw [outsAt0_A m c t h]; frame_out
  canon_tiles x hx
  all_goals (try rw [back3]); (try rw [back2]); (try rw [back1]); (try rw [back0])
  · exact of_tile (dkB m c t zeroB) y 3 0 x hh cc i a (by simpa using hx0) (by simpa using hx1) h0 h1
  · exact of_tile (dkB m c t zeroB) y 3 1 x hh cc i a (by simpa using hx0) (by simpa using hx1) h0 h1
  · exact of_tile (dkB m c t zeroB) y 2 0 x hh cc i a (by simpa using hx0) (by simpa using hx1) h0 h1
  · exact of_tile (dkB m c t zeroB) y 2 1 x hh cc i a (by simpa using hx0) (by simpa using hx1) h0 h1
  · exact of_tile (dkB m c t zeroB) y 1 0 x hh cc i a (by simpa using hx0) (by simpa using hx1) h0 h1
  · exact of_tile (dkB m c t zeroB) y 1 1 x hh cc i a (by simpa using hx0) (by simpa using hx1) h0 h1
  · exact of_tile (dkB m c t zeroB) y 0 0 x hh cc i a (by simpa using hx0) (by simpa using hx1) h0 h1
  · exact of_tile (dkB m c t zeroB) y 0 1 x hh cc i a (by simpa using hx0) (by simpa using hx1) h0 h1

set_option maxHeartbeats 4000000 in
theorem dv_first (h : t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.2.1 y = dvB m c t zeroB hh cc (ix2 i a) := by
  rw [outsAt0_A m c t h]; frame_out
  canon_tiles x hx
  all_goals (try rw [back3]); (try rw [back2]); (try rw [back1]); (try rw [back0])
  · exact of_tile (dvB m c t zeroB) y 3 0 x hh cc i a (by simpa using hx0) (by simpa using hx1) h0 h1
  · exact of_tile (dvB m c t zeroB) y 3 1 x hh cc i a (by simpa using hx0) (by simpa using hx1) h0 h1
  · exact of_tile (dvB m c t zeroB) y 2 0 x hh cc i a (by simpa using hx0) (by simpa using hx1) h0 h1
  · exact of_tile (dvB m c t zeroB) y 2 1 x hh cc i a (by simpa using hx0) (by simpa using hx1) h0 h1
  · exact of_tile (dvB m c t zeroB) y 1 0 x hh cc i a (by simpa using hx0) (by simpa using hx1) h0 h1
  · exact of_tile (dvB m c t zeroB) y 1 1 x hh cc i a (by simpa using hx0) (by simpa using hx1) h0 h1
  · exact of_tile (dvB m c t zeroB) y 0 0 x hh cc i a (by simpa using hx0) (by simpa using hx1) h0 h1
  · exact of_tile (dvB m c t zeroB) y 0 1 x hh cc i a (by simpa using hx0) (by simpa using hx1) h0 h1

/-- A store of another head leaves an entry, and the store of its own head writes it. -/
theorem skip_head (k : ℕ) (inb : ∀ a, (![k, 0, 0] : Fin 3 → ℕ) a + (![1, 128, 128] : Fin 3 → ℕ) a ≤ S4x128x128.size a) (p : FVec Ideal S1x128x128 .f32)
    (L : List (View.Piece (Elt Ideal) S4x128x128 .f32)) (y : S4x128x128.Idx) (hy : k ≠ (y 0 : ℕ)) :
    View.canon (⟨Rect.unit (s := S4x128x128) ![k, 0, 0] ![1, 128, 128] inb, p⟩ :: L) y = View.canon L y :=
  View.canon_cons_of_not_mem _ _ fun h => by
    have h' : y ∈ (Rect.unit (s := S4x128x128) ![k, 0, 0] ![1, 128, 128] inb).set := h
    have := Rect.mem_set_unit.mp h' 0
    have h1 : k ≤ (y 0 : ℕ) := this.1
    have h2 : (y 0 : ℕ) < k + 1 := this.2
    omega

theorem own_head (k : ℕ) (inb : ∀ a, (![k, 0, 0] : Fin 3 → ℕ) a + (![1, 128, 128] : Fin 3 → ℕ) a ≤ S4x128x128.size a) (p : FVec Ideal S1x128x128 .f32)
    (L : List (View.Piece (Elt Ideal) S4x128x128 .f32)) (y : S4x128x128.Idx) (a b : Fin 128) (h0 : (y 0 : ℕ) = k) (h1 : (y 1 : ℕ) = a.val)
    (h2 : (y 2 : ℕ) = b.val) :
    View.canon (⟨Rect.unit (s := S4x128x128) ![k, 0, 0] ![1, 128, 128] inb, p⟩ :: L) y = p (ix3 0 a b) := by
  have e : y = (Rect.unit (s := S4x128x128) ![k, 0, 0] ![1, 128, 128] inb).emb (ix3 0 a b) := by
    funext d; fin_cases d
    · exact Fin.ext (by show (y 0 : ℕ) = k + 1 * 0; omega)
    · exact Fin.ext (by show (y 1 : ℕ) = 0 + 1 * a.val; omega)
    · exact Fin.ext (by show (y 2 : ℕ) = 0 + 1 * b.val; omega)
  rw [e]
  exact View.canon_cons_emb (Val := Elt Ideal) (e := .f32) (Rect.unit (s := S4x128x128) ![k, 0, 0] ![1, 128, 128] inb) p L _

theorem canon_heads (P : Fin 4 → FVec Ideal S1x128x128 .f32) (y : S4x128x128.Idx) (hh : Fin 4) (a b : Fin 128) (h0 : (y 0 : ℕ) = hh.val)
    (h1 : (y 1 : ℕ) = a.val) (h2 : (y 2 : ℕ) = b.val) :
    View.canon (⟨Rect.unit (s := S4x128x128) ![3, 0, 0] ![1, 128, 128] inb_S4x128x128_S1x128x128_3_0_0, P 3⟩ :: held3 (P 0) (P 1) (P 2)) y
      = P hh (ix3 0 a b) := by
  by_cases e3 : (y 0 : ℕ) = 3
  · obtain rfl : hh = 3 := Fin.ext (h0.symm.trans e3)
    exact own_head 3 _ _ _ y a b e3 h1 h2
  refine (skip_head 3 _ _ _ y (Ne.symm e3)).trans ?_
  by_cases e2 : (y 0 : ℕ) = 2
  · obtain rfl : hh = 2 := Fin.ext (h0.symm.trans e2)
    exact own_head 2 _ _ _ y a b e2 h1 h2
  refine (skip_head 2 _ _ _ y (Ne.symm e2)).trans ?_
  by_cases e1 : (y 0 : ℕ) = 1
  · obtain rfl : hh = 1 := Fin.ext (h0.symm.trans e1)
    exact own_head 1 _ _ _ y a b e1 h1 h2
  refine (skip_head 1 _ _ _ y (Ne.symm e1)).trans ?_
  have e0 : (y 0 : ℕ) = 0 := by have := hh.isLt; omega
  obtain rfl : hh = 0 := Fin.ext (h0.symm.trans e0)
  exact own_head 0 _ _ _ y a b e0 h1 h2

set_option maxHeartbeats 4000000 in
theorem next_first (h : t.val % 16 = 0) (y : S4x128x128.Idx) (hh : Fin 4) (a b : Fin 128) (h0 : (y 0 : ℕ) = hh.val) (h1 : (y 1 : ℕ) = a.val) (h2 : (y 2 : ℕ) = b.val) :
    (outsAt0 m c t.val t.isLt).2.2.2 y = nextB m c t zeroB hh (ix3 0 a b) := by
  rw [outsAt0_A m c t h]; frame_out
  rw [back3, back2, back1, back0]
  exact canon_heads (nextB m c t zeroB) y hh a b h0 h1 h2

end Cert.Retention
-- ==== Proof.Forward.Spec.lean ====
module

public import proofs.«01_k».proof.Proof.Retention.Spec

@[expose] public section

set_option maxRecDepth 16384
noncomputable section

/-! The output of retention over the whole sequence and its gated, normalised form, as functions of the arguments. -/

namespace Cert.Forward

open Idealize.ShloMosaic Idealize.ShloMosaic.TcCoe
open Cert.Retention

section
variable (l : ℝ) (T : ℕ) (q k v : ℕ → Fin 128 → ℝ)

/-- The output of one head. -/
def out (t : ℕ) (b : Fin 128) : ℝ := ∑ s ∈ Finset.range T, W l t s * (dot (q t) (k s) * v s b)

theorem out_chunk (C N n i : ℕ) (hn : n < N) (hi : i < C) (b : Fin 128) :
    out l (C * N) q k v (C * n + i) b
      = ∑ j ∈ Finset.range C, (dot (q (C * n + i)) (k (C * n + j)) * W l i j) * v (C * n + j) b
        + (∑ a, q (C * n + i) a * fwd l C (fun s => k s a * v s b) n) * w l ((i : ℝ) + 1) := by
  rw [out, fwd_split l C N n i hn hi]
  congr 1
  · exact Finset.sum_congr rfl fun j _ => by ring
  · have : (fun s => dot (q (C * n + i)) (k s) * v s b) = fun s => ∑ a, q (C * n + i) a * (k s a * v s b) := by
      funext s; rw [dot, Finset.sum_mul]; exact Finset.sum_congr rfl fun b _ => by ring
    rw [this, fwd_sum, mul_comm]
    congr 1
    exact Finset.sum_congr rfl fun b _ => by rw [fwd_smul]

/-- A state before a long chunk is the state before the first of its two halves. -/
theorem fwd_half (C : ℕ) (x : ℕ → ℝ) (n : ℕ) : fwd l (2 * C) x n = fwd l C x (2 * n) := by
  have e : 2 * C * n = C * (2 * n) := by ring
  rw [fwd_eq, fwd_eq, e]
  refine Finset.sum_congr rfl fun s _ => ?_
  congr 3
  push_cast; ring

end

/-- The mean over a head's features, and the mean square of the differences from it. -/
def mean (o : Fin 128 → EReal) : EReal := Ideal.div (∑ b, o b) (Ideal.ofBits .f32 0x43000000#32)
def spread (o : Fin 128 → EReal) : EReal := mean fun b => (o b - mean o) * (o b - mean o)

/-- A normalised entry times its gain, times the gate times the gate's logistic function. -/
def gated (o : Fin 128 → EReal) (b : Fin 128) (g n : EReal) : EReal :=
  (g * Ideal.div 1 (1 + Ideal.exp (-g))) * (((o b - mean o) * Ideal.rsqrt (spread o + Ideal.ofBits .f32 0x358637BD#32)) * n)

variable (q k v : Wide .f32) (h : Fin 4)

/-- The output of a head from the arguments, and its states before chunks of 256. -/
def outR (t : ℕ) (b : Fin 128) : ℝ := out (lg h) 8192 (row q h) (row k h) (row v h) t b
def stateR (n : ℕ) (a b : Fin 128) : ℝ := fwd (lg h) 256 (fun s => row k h s a * row v h s b) n

/-- The gated output. -/
def gateR (g n : EReal) (t : ℕ) (b : Fin 128) : EReal := gated (fun b => ((outR q k v h t b : ℝ) : EReal)) b g n

end Cert.Forward
-- ==== Proof.Forward.Ops.lean ====
module

public import proofs.«01_k».proof.Proof.Gen.Kernel6Ideal.Value
public import proofs.«01_k».proof.Proof.Retention.Points
public import proofs.«01_k».proof.Proof.Retention.First
public import proofs.«01_k».proof.Proof.Forward.Spec

@[expose] public section

set_option maxRecDepth 16384
noncomputable section

/-! What the kernel's body computes for one head and one chunk: the output, its gated form and the next state. The products are those
of the gradient's kernel. -/

namespace Cert.Forward

open Idealize.ShloMosaic Idealize.ShloMosaic.TcCoe Idealize.SL.Sem
open Cert.Kernel6Ideal Cert.Kernel6Ideal.Gen
open Cert.Retention (Rows Chunk State same same_at scoreOp scoreOp_at mixOp mixOp_at readOp readOp_at stepOp stepOp_at
  toScratch toScratch_at ofScratch ofScratch_at)

def outOp (dm : FVec Ideal S1x256x256 .f32) (xi : FVec Ideal S1x256x128 .f32) (g : State .f32) (q k v : Rows .bf16) : Rows .f32 :=
  addf (mixOp (scoreOp dm (same q) (same k)) (same v))
    (mulf (readOp (same q) (truncf .bf16 g bitsLt_bf16_f32)) (shapeCast S256x128 xi shapeCasts_S1x256x128_S256x128))

theorem outOp_at (dm : FVec Ideal S1x256x256 .f32) (xi : FVec Ideal S1x256x128 .f32) (g : State .f32) (q k v : Rows .bf16) (i : Fin 256) (b : Fin 128) :
    outOp dm xi g q k v (ix2 i b) = ∑ j : Fin 256, ((∑ a : Fin 128, q (ix2 i a) * k (ix2 j a)) * dm (ix3 0 i j)) * v (ix2 j b)
      + (∑ a : Fin 128, q (ix2 i a) * g (ix2 a b)) * xi (ix3 0 i b) := by
  have e : (shapeCast S256x128 xi shapeCasts_S1x256x128_S256x128 : FVec Ideal S256x128 .f32) (ix2 i b) = xi (ix3 0 i b) := by pointwise []
  show mixOp _ _ (ix2 i b) + readOp _ _ (ix2 i b) * (shapeCast S256x128 xi shapeCasts_S1x256x128_S256x128 : FVec Ideal S256x128 .f32) (ix2 i b) = _
  rw [e]
  simp only [mixOp_at, readOp_at, scoreOp_at, same_at]; rfl

/-- Rows less the mean of their features. -/
def centreOp (o : Rows .f32) : Rows .f32 :=
  subf o (broadcastTo S256x128 (divf (shapeCast S256x1 (multiReduction .add [1] S256 o 0x00000000#32 reduces_S256x128_S256 (.inl rfl) rfl)
    shapeCasts_S256_S256x1) (broadcast S256x1 (Scalar.ofBits .f32 0x43000000#32 : Ideal .f32))) broadcasts_S256x1_S256x128)

theorem centreOp_at (o : Rows .f32) (i : Fin 256) (b : Fin 128) : centreOp o (ix2 i b) = o (ix2 i b) - mean fun b => o (ix2 i b) := by
  pointwise [centreOp]
  rfl

/-- The inverse square root of the mean square of centred rows. -/
def scaleOp (x : Rows .f32) : Rows .f32 :=
  broadcastTo S256x128 (rsqrt (addf (divf (shapeCast S256x1 (multiReduction .add [1] S256 (mulf x x) 0x00000000#32 reduces_S256x128_S256 (.inl rfl) rfl)
    shapeCasts_S256_S256x1) (broadcast S256x1 (Scalar.ofBits .f32 0x43000000#32 : Ideal .f32)))
    (broadcast S256x1 (Scalar.ofBits .f32 0x358637BD#32 : Ideal .f32)))) broadcasts_S256x1_S256x128

theorem scaleOp_at (x : Rows .f32) (i : Fin 256) (b : Fin 128) :
    scaleOp x (ix2 i b) = Ideal.rsqrt ((mean fun b => x (ix2 i b) * x (ix2 i b)) + Ideal.ofBits .f32 0x358637BD#32) := by
  pointwise [scaleOp]
  rfl

/-- The gate times its logistic function. -/
def siluOp (g : Rows .f32) : Rows .f32 :=
  mulf g (divf (broadcast S256x128 (Scalar.ofBits .f32 0x3F800000#32 : Ideal .f32)) (addf (broadcast S256x128 (Scalar.ofBits .f32 0x3F800000#32 : Ideal .f32))
    (exp (subf (broadcast S256x128 (Scalar.ofBits .f32 0x00000000#32 : Ideal .f32)) g))))

theorem siluOp_at (g : Rows .f32) (i : Fin 256) (b : Fin 128) :
    siluOp g (ix2 i b) = g (ix2 i b) * Ideal.div 1 (1 + Ideal.exp (-g (ix2 i b))) := by
  pointwise [siluOp]
  rw [zero_sub]

def gateOp (o g : Rows .f32) (n : FVec Ideal S1x128 .f32) : Rows .bf16 :=
  truncf .bf16 (mulf (siluOp g) (mulf (mulf (centreOp o) (scaleOp (centreOp o))) (broadcastTo S256x128 n broadcasts_S1x128_S256x128))) bitsLt_bf16_f32

theorem gateOp_at (o g : Rows .f32) (n : FVec Ideal S1x128 .f32) (i : Fin 256) (b : Fin 128) :
    gateOp o g n (ix2 i b) = gated (fun b => o (ix2 i b)) b (g (ix2 i b)) (n (ix2 0 b)) := by
  have e : (broadcastTo S256x128 n broadcasts_S1x128_S256x128 : FVec Ideal S256x128 .f32) (ix2 i b) = n (ix2 0 b) := by pointwise []
  show siluOp g (ix2 i b) * (centreOp o (ix2 i b) * scaleOp (centreOp o) (ix2 i b) * (broadcastTo S256x128 n broadcasts_S1x128_S256x128 : FVec Ideal S256x128 .f32) (ix2 i b)) = _
  rw [e, siluOp_at, scaleOp_at]
  simp only [centreOp_at]
  rfl

/-- A state as it is saved. -/
def toSaved (x : State .f32) : FVec Ideal S1x1x128x128 .f32 := shapeCast S1x1x128x128 x shapeCasts_S128x128_S1x1x128x128
theorem toSaved_at (x : State .f32) (a b : Fin 128) : toSaved x (ix4 0 0 a b) = x (ix2 a b) := by pointwise [toSaved]

end Cert.Forward
-- ==== Proof.Mixout.Spec.lean ====
module

public import proofs.«01_k».proof.Proof.Forward.Spec
public import proofs.«01_k».proof.Proof.Inproj.Norm

@[expose] public section

noncomputable section

/-! The gradients of the mixed output: of the gated linear unit, of the gate and of the head-wise normalization. The normalization's rule holds
whatever a head's row holds: with an infinite entry in it the reciprocal root is zero, and then the row's gradient is zero either way. -/

namespace Cert.Mixout

open Idealize.ShloMosaic Idealize.ShloMosaic.TcCoe
open Cert.Forward (mean spread)
open Cert.Norm (sum_coe eps_pos minus_half mean_cases)

theorem width : Ideal.ofBits .f32 0x43000000#32 = ((128 : ℝ) : EReal) := by
  simp [Ideal.ofBits, Ideal.ieee]
  rw [← EReal.coe_mul]; norm_num

theorem two : Ideal.ofBits .f32 0x40000000#32 = ((2 : ℝ) : EReal) := by
  simp [Ideal.ofBits, Ideal.ieee]
  rw [← EReal.coe_mul]; norm_num

theorem one : Ideal.ofBits .f32 0x3F800000#32 = 1 := by
  simp [Ideal.ofBits, Ideal.ieee]
  rw [← EReal.coe_mul]; norm_num

/-- The logistic function. -/
def logistic (x : EReal) : EReal := Ideal.div 1 (1 + Ideal.exp (-x))

theorem logistic_real (r : ℝ) : ∃ s : ℝ, logistic (r : EReal) = (s : EReal) := by
  have h : (0 : ℝ) < 1 + Real.exp (-r) := by positivity
  refine ⟨1 * (1 / (1 + Real.exp (-r))), ?_⟩
  rw [logistic, ← EReal.coe_neg, Ideal.exp_coe, ← EReal.coe_one, ← EReal.coe_add, Ideal.div_coe h.ne', ← EReal.coe_mul]

/-- The cubic term's weight, and the weight three times as large its derivative has. -/
def cubic : EReal := ((8943 / 200000 : ℝ) : EReal)
def slope : EReal := ((26829 / 200000 : ℝ) : EReal)

theorem cubic_eq : Ideal.div (Ideal.ofBits .f32 0x472EAB00#32) (Ideal.ofBits .f32 0x49742400#32) = cubic := by
  have a : Ideal.ofBits .f32 0x472EAB00#32 = ((44715 : ℝ) : EReal) := by
    simp [Ideal.ofBits, Ideal.ieee]
    rw [← EReal.coe_mul]; norm_num
  have b : Ideal.ofBits .f32 0x49742400#32 = ((1000000 : ℝ) : EReal) := by
    simp [Ideal.ofBits, Ideal.ieee]
    rw [← EReal.coe_mul]; norm_num
  rw [a, b, Ideal.div_coe (by norm_num), ← EReal.coe_mul, cubic]
  norm_num

/-- The smooth rectifier by its tanh, as the step writes it. -/
def gelu (x : EReal) : EReal :=
  (Ideal.ofBits .f32 0x3F000000#32 * x) * (1 + Ideal.tanh (Ideal.ofBits .f32 0x3F4C422A#32 * (x + ((cubic * x) * x) * x)))

theorem gelu_eq (x : EReal) :
    x * (Ideal.ofBits .f32 0x3F000000#32 * (1 + Ideal.tanh (Ideal.ofBits .f32 0x3F4C422A#32 * (x + cubic * ((x * x) * x))))) = gelu x := by
  have e (c : EReal) : ((c * x) * x) * x = c * ((x * x) * x) := by rw [mul_assoc c x x, mul_assoc c (x * x) x]
  rw [gelu, e, mul_left_comm, ← mul_assoc]

/-- A row less its mean, times the reciprocal root of its spread. -/
def root (o : Fin 128 → EReal) : EReal := Ideal.rsqrt (spread o + Ideal.ofBits .f32 0x358637BD#32)
def normed (o : Fin 128 → EReal) (b : Fin 128) : EReal := (o b - mean o) * root o

/-- The gradient at the gate from the gradient `d` at the gated entry `u * n`. -/
def atGate (d g u n : EReal) : EReal := (d * (u * n)) * (logistic g * (1 + g * (1 - logistic g)))

/-- The gradient at a row from the gradient `x` at the normalized row. -/
def atRow (o x : Fin 128 → EReal) (b : Fin 128) : EReal :=
  root o * ((x b - mean x) - normed o b * mean fun b => x b * normed o b)

/-- A row is real, with a positive spread to take the root of, or the root is zero. -/
theorem row_cases (o : Fin 128 → EReal) :
    (∃ (u : Fin 128 → ℝ) (v : ℝ), (∀ b, o b = u b) ∧ 0 < v ∧ spread o + Ideal.ofBits .f32 0x358637BD#32 = (v : EReal))
      ∨ spread o + Ideal.ofBits .f32 0x358637BD#32 = ⊤ := by
  obtain ⟨e, he, hE⟩ := eps_pos
  rw [hE]
  have key := mean_cases (fun b => o b - mean o) e he 128 (by norm_num)
  rw [← width] at key
  rcases key with ⟨u, μ, hu, hμ, hs⟩ | hs
  · left
    refine ⟨fun b => (o b).toReal, μ, fun b => (EReal.coe_toReal ?_ ?_).symm, hμ, hs⟩
    · intro h
      have := hu b
      rw [h] at this
      generalize mean o = M at this
      induction M using EReal.rec <;> simp [sub_eq_add_neg] at this
    · intro h
      have := hu b
      rw [h] at this
      simp [sub_eq_add_neg] at this
  · exact Or.inr hs

theorem mean_real (u : Fin 128 → ℝ) : mean (fun b => (u b : EReal)) = (((∑ b, u b) * (1 / 128) : ℝ) : EReal) := by
  rw [mean, width, Ideal.div_coe (by norm_num), ← sum_coe, ← EReal.coe_mul]

theorem root_real {v : ℝ} (hv : 0 < v) : Ideal.rsqrt (v : EReal) = (((Real.sqrt v)⁻¹ : ℝ) : EReal) := by
  rw [Ideal.rsqrt_coe, if_neg (by linarith), if_neg hv.ne']

/-- A normalized entry is real. -/
theorem normed_real (o : Fin 128 → EReal) (b : Fin 128) : ∃ r : ℝ, normed o b = (r : EReal) := by
  rcases row_cases o with ⟨u, v, hu, hv, hs⟩ | hs
  · obtain rfl : o = fun b => (u b : EReal) := funext hu
    refine ⟨(u b - (∑ b, u b) * (1 / 128)) * (Real.sqrt v)⁻¹, ?_⟩
    rw [normed, root, hs, root_real hv, mean_real]; norm_cast
  · refine ⟨0, ?_⟩
    rw [normed, root, hs]
    show _ * (0 : EReal) = _
    simp

theorem atGate_eq (d g n : ℝ) (u : EReal) (hu : ∃ r : ℝ, u = (r : EReal)) :
    ((d : EReal) * (u * n)) * logistic g + ((g : EReal) * ((d : EReal) * (u * n))) * (logistic g * (1 - logistic g)) = atGate d g u n := by
  obtain ⟨s, hs⟩ := logistic_real g
  obtain ⟨r, rfl⟩ := hu
  rw [atGate, hs, ← EReal.coe_one]
  norm_cast
  ring

/-- The rule for a quotient, step by step: what comes through the mean square, and what comes through the mean. -/
def viaSpread (o x : Fin 128 → EReal) : EReal :=
  Ideal.div ((∑ b, (o b - mean o) * x b) * (Ideal.ofBits .f32 0xBF000000#32
    * Ideal.div (root o) (spread o + Ideal.ofBits .f32 0x358637BD#32))) (Ideal.ofBits .f32 0x43000000#32)
def viaMean (o x : Fin 128 → EReal) : EReal :=
  Ideal.div ((∑ b, -(x b * root o)) + ∑ b, -(viaSpread o x * (Ideal.ofBits .f32 0x40000000#32 * (o b - mean o)))) (Ideal.ofBits .f32 0x43000000#32)

theorem atRow_eq (o : Fin 128 → EReal) (x : Fin 128 → ℝ) (b : Fin 128) :
    ((x b : EReal) * root o + viaSpread o (fun b => (x b : EReal)) * (Ideal.ofBits .f32 0x40000000#32 * (o b - mean o)))
      + viaMean o (fun b => (x b : EReal)) = atRow o (fun b => (x b : EReal)) b := by
  rcases row_cases o with ⟨u, v, hu, hv, hs⟩ | hs
  · obtain rfl : o = fun b => (u b : EReal) := funext hu
    have hr : root (fun b => (u b : EReal)) = (((Real.sqrt v)⁻¹ : ℝ) : EReal) := by rw [root, hs, root_real hv]
    have hq : (1 : ℝ) / v = (Real.sqrt v)⁻¹ * (Real.sqrt v)⁻¹ := by rw [← mul_inv, Real.mul_self_sqrt hv.le, one_div]
    generalize (Real.sqrt v)⁻¹ = r at hr hq
    generalize hμ : (∑ b, u b) * (1 / 128) = μ
    have hm : mean (fun b => (u b : EReal)) = (μ : EReal) := by rw [mean_real, hμ]
    have h0 : ∑ b, (u b - μ) = 0 := by
      rw [Finset.sum_sub_distrib, ← hμ]; simp; ring
    have hS : viaSpread (fun b => (u b : EReal)) (fun b => (x b : EReal))
        = (((∑ b, (u b - μ) * x b) * (-(1 / 2) * (r * (r * r))) * (1 / 128) : ℝ) : EReal) := by
      rw [viaSpread, hs, hr, hm, minus_half, width, Ideal.div_coe hv.ne', Ideal.div_coe (by norm_num), hq]
      simp only [← EReal.coe_sub, ← EReal.coe_mul]
      rw [← sum_coe]
      norm_cast
    generalize hw : ∑ b, (u b - μ) * x b = w at hS
    have hM : viaMean (fun b => (u b : EReal)) (fun b => (x b : EReal)) = ((-(r * (∑ b, x b)) * (1 / 128) : ℝ) : EReal) := by
      rw [viaMean, hS, hr, hm, two, width, Ideal.div_coe (by norm_num)]
      simp only [← EReal.coe_sub, ← EReal.coe_mul, ← EReal.coe_neg]
      rw [← sum_coe, ← sum_coe, ← EReal.coe_add, ← EReal.coe_mul]
      congr 2
      rw [Finset.sum_neg_distrib, Finset.sum_neg_distrib, ← Finset.mul_sum, ← Finset.mul_sum, h0, ← Finset.sum_mul]
      ring
    have hn : ∀ b, normed (fun b => (u b : EReal)) b = (((u b - μ) * r : ℝ) : EReal) := fun b => by
      rw [normed, hr, hm]; norm_cast
    have hd : mean (fun b => (x b : EReal) * normed (fun b => (u b : EReal)) b) = ((w * r * (1 / 128) : ℝ) : EReal) := by
      have : (fun b => (x b : EReal) * normed (fun b => (u b : EReal)) b) = fun b => ((x b * ((u b - μ) * r) : ℝ) : EReal) :=
        funext fun b => by rw [hn]; norm_cast
      have e : ∑ b, x b * ((u b - μ) * r) = w * r := by
        rw [← hw, Finset.sum_mul]; exact Finset.sum_congr rfl fun b _ => by ring
      rw [this, mean_real, e]
    rw [atRow, hd, hS, hM, hn, hr, hm, two, mean_real]
    simp only [← EReal.coe_sub, ← EReal.coe_mul, ← EReal.coe_add]
    congr 1
    ring
  · have hr : root o = 0 := by rw [root, hs]; rfl
    have hS : viaSpread o (fun b => (x b : EReal)) = 0 := by
      rw [viaSpread, hr, hs, width, Ideal.div_coe (by norm_num)]
      simp [Ideal.div]
    rw [viaMean, hS, atRow, hr, width, Ideal.div_coe (by norm_num)]
    simp

/-- Products and sums of reals are real. -/
theorem dot_real {n : ℕ} (x y : Fin n → EReal) (hx : ∀ k, ∃ r : ℝ, x k = (r : EReal)) (hy : ∀ k, ∃ r : ℝ, y k = (r : EReal)) :
    ∃ r : ℝ, ∑ k, x k * y k = (r : EReal) := by
  choose u hu using hx
  choose v hv using hy
  refine ⟨∑ k, u k * v k, ?_⟩
  rw [sum_coe]
  exact Finset.sum_congr rfl fun k _ => by rw [hu, hv, EReal.coe_mul]

theorem half_real : ∃ r : ℝ, Ideal.ofBits .f32 0x3F000000#32 = (r : EReal) := by
  refine ⟨1 / 2, ?_⟩
  simp [Ideal.ofBits, Ideal.ieee]
  rw [← EReal.coe_mul]; norm_num

theorem tilt_real : ∃ r : ℝ, Ideal.ofBits .f32 0x3F4C422A#32 = (r : EReal) := by
  refine ⟨13386282 / 16777216, ?_⟩
  simp [Ideal.ofBits, Ideal.ieee]
  rw [← EReal.coe_mul]; norm_num

theorem three : Ideal.ofBits .f32 0x40400000#32 = ((3 : ℝ) : EReal) := by
  simp [Ideal.ofBits, Ideal.ieee]
  rw [← EReal.coe_mul]; norm_num

/-- The tanh inside the smooth rectifier. -/
def bend (s : EReal) : EReal := Ideal.tanh (Ideal.ofBits .f32 0x3F4C422A#32 * (s + ((cubic * s) * s) * s))

theorem bend_eq (s : EReal) : Ideal.tanh (Ideal.ofBits .f32 0x3F4C422A#32 * (s + cubic * ((s * s) * s))) = bend s := by
  rw [bend, mul_assoc cubic s s, mul_assoc cubic (s * s) s]

theorem bend_real (s : ℝ) : ∃ r : ℝ, bend (s : EReal) = (r : EReal) := by
  obtain ⟨q, hq⟩ := tilt_real
  rw [bend, hq, cubic, ← EReal.coe_mul, ← EReal.coe_mul, ← EReal.coe_mul, ← EReal.coe_add, ← EReal.coe_mul]
  exact ⟨_, Ideal.tanh_coe _⟩

theorem gelu_real (s : ℝ) : ∃ r : ℝ, gelu (s : EReal) = (r : EReal) := by
  obtain ⟨h, hh⟩ := half_real
  obtain ⟨q, hq⟩ := bend_real s
  rw [bend] at hq
  rw [gelu, hh, hq, ← EReal.coe_one, ← EReal.coe_add, ← EReal.coe_mul, ← EReal.coe_mul]
  exact ⟨_, rfl⟩

/-- The gradient at the rectifier's argument `s` from the gradient `y` at its value. -/
def atBend (y s : EReal) : EReal :=
  y * (Ideal.ofBits .f32 0x3F000000#32 * (1 + bend s)
    + (((Ideal.ofBits .f32 0x3F000000#32 * s) * (1 - bend s * bend s)) * Ideal.ofBits .f32 0x3F4C422A#32) * (1 + (slope * s) * s))

/-- What the tanh's argument passes on. -/
def within (y s : EReal) : EReal :=
  Ideal.ofBits .f32 0x3F4C422A#32 * ((Ideal.ofBits .f32 0x3F000000#32 * (s * y)) * ((1 + bend s) * (1 - bend s)))

theorem atBend_eq (y s : ℝ) : ((y : EReal) * (Ideal.ofBits .f32 0x3F000000#32 * (1 + bend s)) + within y s)
    + (cubic * within y s) * (Ideal.ofBits .f32 0x40400000#32 * ((s : EReal) * s)) = atBend y s := by
  obtain ⟨h, hh⟩ := half_real
  obtain ⟨k, hk⟩ := tilt_real
  obtain ⟨q, hq⟩ := bend_real s
  rw [within, atBend, hh, hk, hq, three, cubic, slope]
  norm_cast
  ring

theorem unit_real (a b q : ℝ) : (∃ r : ℝ, (a : EReal) * logistic q = (r : EReal))
    ∧ ∃ r : ℝ, (((a : EReal) * b) * logistic q) * (1 - logistic q) = (r : EReal) := by
  obtain ⟨l, hl⟩ := logistic_real q
  rw [hl]
  exact ⟨⟨a * l, by norm_cast⟩, ⟨a * b * l * (1 - l), by norm_cast⟩⟩

end Cert.Mixout
-- ==== Proof.Mixout.Ops.lean ====
module

public import proofs.«01_k».proof.Proof.Gen.Kernel4Ideal.Value
public import proofs.«01_k».proof.Proof.Forward.Ops
public import proofs.«01_k».proof.Proof.Mixout.Spec

@[expose] public section

set_option maxRecDepth 16384
noncomputable section

/-! What the kernel's body computes for 256 rows, and for one head of them. -/

namespace Cert.Mixout

open Idealize.ShloMosaic Idealize.ShloMosaic.TcCoe Idealize.SL.Sem
open Cert.Kernel4Ideal Cert.Kernel4Ideal.Gen
open Cert.Retention (Rows)
open Cert.Forward (mean spread centreOp centreOp_at scaleOp scaleOp_at)

abbrev Half := FVec Ideal S256x512 .f32
abbrev Col := FVec Ideal S256x1 .f32

section wide
variable (a : FVec Ideal S256x1024 .bf16) (w : FVec Ideal S1024x1024 .bf16) (y : FVec Ideal S256x512 .bf16) (g : FVec Ideal S512x1024 .bf16)

/-- The gradient at the concatenated outputs: its columns of the retention, and of the recurrence. -/
def catOp : FVec Ideal S256x1024 .f32 :=
  matmul dot_S256x1024_S1024x1024_S256x1024_1_1_0_0_n_n none a (shapeCast S1024x1024 w shapeCasts_S1024x1024_S1024x1024) (constant S256x1024 .f32 0x00000000#32)
def retOp : Half := extractStridedSlice S256x512 ![0, 0] (catOp a w) slices_S256x1024_o0_0_S256x512
def ssmOp : Half := extractStridedSlice S256x512 ![0, 512] (catOp a w) slices_S256x1024_o0_512_S256x512

/-- The gated linear unit's two halves. -/
def gluOp : FVec Ideal S256x1024 .f32 :=
  matmul dot_S256x512_S512x1024_S256x1024_1_0_0_1_n_n none (shapeCast S256x512 y shapeCasts_S256x512_S256x512)
    (shapeCast S512x1024 g shapeCasts_S512x1024_S512x1024) (constant S256x1024 .f32 0x00000000#32)
def linOp : Half := extractStridedSlice S256x512 ![0, 0] (gluOp y g) slices_S256x1024_o0_0_S256x512
def gatOp : Half := extractStridedSlice S256x512 ![0, 512] (gluOp y g) slices_S256x1024_o0_512_S256x512

theorem retOp_at (r : Fin 256) (j : Fin 512) : retOp a w (ix2 r j) = ∑ k : Fin 1024, a (ix2 r k) * w (ix2 ⟨j.val, by omega⟩ k) := by
  pointwise [retOp, catOp]
theorem ssmOp_at (r : Fin 256) (j : Fin 512) : ssmOp a w (ix2 r j) = ∑ k : Fin 1024, a (ix2 r k) * w (ix2 ⟨512 + j.val, by omega⟩ k) := by
  pointwise [ssmOp, catOp]
theorem linOp_at (r : Fin 256) (j : Fin 512) : linOp y g (ix2 r j) = ∑ k : Fin 512, y (ix2 r k) * g (ix2 k ⟨j.val, by omega⟩) := by
  pointwise [linOp, gluOp]
theorem gatOp_at (r : Fin 256) (j : Fin 512) : gatOp y g (ix2 r j) = ∑ k : Fin 512, y (ix2 r k) * g (ix2 k ⟨512 + j.val, by omega⟩) := by
  pointwise [gatOp, gluOp]

/-- The logistic function of each entry. -/
def sigOp (x : Half) : Half :=
  divf (broadcast S256x512 (Scalar.ofBits .f32 0x3F800000#32 : Ideal .f32)) (addf (broadcast S256x512 (Scalar.ofBits .f32 0x3F800000#32 : Ideal .f32))
    (exp (subf (broadcast S256x512 (Scalar.ofBits .f32 0x00000000#32 : Ideal .f32)) x)))

theorem sigOp_at (x : Half) (r : Fin 256) (j : Fin 512) : sigOp x (ix2 r j) = logistic (x (ix2 r j)) := by
  pointwise [sigOp]
  rw [zero_sub]; rfl

/-- The gradient at the linear half, and at the gating half. -/
def lefOp : FVec Ideal S256x512 .bf16 := truncf .bf16 (mulf (ssmOp a w) (sigOp (gatOp y g))) bitsLt_bf16_f32
def rigOp : FVec Ideal S256x512 .bf16 :=
  truncf .bf16 (mulf (mulf (mulf (ssmOp a w) (linOp y g)) (sigOp (gatOp y g)))
    (subf (broadcast S256x512 (Scalar.ofBits .f32 0x3F800000#32 : Ideal .f32)) (sigOp (gatOp y g)))) bitsLt_bf16_f32

theorem lefOp_at (r : Fin 256) (j : Fin 512) : lefOp a w y g (ix2 r j) = ssmOp a w (ix2 r j) * logistic (gatOp y g (ix2 r j)) := by
  rw [← sigOp_at]; rfl
theorem rigOp_at (r : Fin 256) (j : Fin 512) :
    rigOp a w y g (ix2 r j) = ((ssmOp a w (ix2 r j) * linOp y g (ix2 r j)) * logistic (gatOp y g (ix2 r j))) * (1 - logistic (gatOp y g (ix2 r j))) := by
  rw [← sigOp_at]
  show _ * (Ideal.ofBits .f32 0x3F800000#32 - _) = _
  rw [one]; rfl

/-- The gradient at the rectified outputs, from the unit's two halves. -/
def dysOp (l r : FVec Ideal S256x512 .bf16) (u v : FVec Ideal S512x512 .bf16) : Half :=
  addf (matmul dot_S256x512_S512x512_S256x512_1_1_0_0_n_n none l (shapeCast S512x512 u shapeCasts_S512x512_S512x512) (constant S256x512 .f32 0x00000000#32))
    (matmul dot_S256x512_S512x512_S256x512_1_1_0_0_n_n none r (shapeCast S512x512 v shapeCasts_S512x512_S512x512) (constant S256x512 .f32 0x00000000#32))

theorem dysOp_at (l r : FVec Ideal S256x512 .bf16) (u v : FVec Ideal S512x512 .bf16) (i : Fin 256) (k : Fin 512) :
    dysOp l r u v (ix2 i k) = (∑ j : Fin 512, l (ix2 i j) * u (ix2 k j)) + ∑ j : Fin 512, r (ix2 i j) * v (ix2 k j) := by
  pointwise [dysOp]

def bendOp (x : Half) : Half :=
  tanh (mulf (broadcast S256x512 (Scalar.ofBits .f32 0x3F4C422A#32 : Ideal .f32))
    (addf x (mulf (mulf (mulf (broadcast S256x512 (Named.named κ "cubic" 0x3D372713#32 : Ideal .f32)) x) x) x)))

theorem bendOp_at (x : Half) (i : S256x512.Idx) : bendOp x i = bend (x i) := by
  have e : (Named.named κ "cubic" 0x3D372713#32 : Ideal .f32) = cubic := IdealRules.named_const.ideal_named_scalar _ _ _ _ rfl
  show Ideal.tanh (_ * (x i + ((((Named.named κ "cubic" 0x3D372713#32 : Ideal .f32) : EReal) * x i) * x i) * x i)) = _
  rw [e]
  rfl

/-- The gradient at the recurrence's output. -/
def stateOp (y x : Half) : Half :=
  mulf y (addf (mulf (broadcast S256x512 (Scalar.ofBits .f32 0x3F000000#32 : Ideal .f32)) (addf (broadcast S256x512 (Scalar.ofBits .f32 0x3F800000#32 : Ideal .f32)) (bendOp x)))
    (mulf (mulf (mulf (mulf (broadcast S256x512 (Scalar.ofBits .f32 0x3F000000#32 : Ideal .f32)) x)
        (subf (broadcast S256x512 (Scalar.ofBits .f32 0x3F800000#32 : Ideal .f32)) (mulf (bendOp x) (bendOp x))))
      (broadcast S256x512 (Scalar.ofBits .f32 0x3F4C422A#32 : Ideal .f32)))
      (addf (broadcast S256x512 (Scalar.ofBits .f32 0x3F800000#32 : Ideal .f32))
        (mulf (mulf (broadcast S256x512 (Named.named κ "slope" 0x3E095D4F#32 : Ideal .f32)) x) x))))

theorem stateOp_at (y x : Half) (i : S256x512.Idx) : stateOp y x i = atBend (y i) (x i) := by
  have e : (Named.named κ "slope" 0x3E095D4F#32 : Ideal .f32) = slope := IdealRules.named_const.ideal_named_scalar _ _ _ _ rfl
  show y i * (Ideal.ofBits .f32 0x3F000000#32 * (Ideal.ofBits .f32 0x3F800000#32 + bendOp x i)
    + (((Ideal.ofBits .f32 0x3F000000#32 * x i) * (Ideal.ofBits .f32 0x3F800000#32 - bendOp x i * bendOp x i)) * Ideal.ofBits .f32 0x3F4C422A#32)
      * (Ideal.ofBits .f32 0x3F800000#32 + (((Named.named κ "slope" 0x3E095D4F#32 : Ideal .f32) : EReal) * x i) * x i)) = _
  rw [e, one, bendOp_at]
  rfl

end wide

section head
variable (off : ℕ) (s₁ : S256x512.Slices ![0, off] S256x128) (s₂ : S1x512.Slices ![0, off] S1x128) (hoff : off + 128 ≤ 512)
variable (n : FVec Ideal S1x512 .f32) (d γ : Half) (o : Rows .f32)

/-- A head's columns. -/
def cut (x : Half) : Rows .f32 := extractStridedSlice S256x128 ![0, off] x s₁
def gains : Rows .f32 := broadcastTo S256x128 (extractStridedSlice S1x128 ![0, off] n s₂) broadcasts_S1x128_S256x128

theorem cut_at (x : Half) (r : Fin 256) (b : Fin 128) : cut off s₁ x (ix2 r b) = x (ix2 r ⟨off + b.val, by omega⟩) := by
  pointwise [cut]
theorem gains_at (r : Fin 256) (b : Fin 128) : gains off s₂ n (ix2 r b) = n (ix2 0 ⟨off + b.val, by omega⟩) := by
  pointwise [gains]

def normOp : Rows .f32 := mulf (centreOp o) (scaleOp (centreOp o))

theorem normOp_at (r : Fin 256) (b : Fin 128) : normOp o (ix2 r b) = normed (fun b => o (ix2 r b)) b := by
  show centreOp o (ix2 r b) * scaleOp (centreOp o) (ix2 r b) = _
  rw [scaleOp_at]
  simp only [centreOp_at]
  rfl

def gateOp : FVec Ideal S256x128 .bf16 :=
  truncf .bf16 (mulf (mulf (cut off s₁ d) (mulf (normOp o) (gains off s₂ n)))
    (mulf (cut off s₁ (sigOp γ)) (addf (broadcast S256x128 (Scalar.ofBits .f32 0x3F800000#32 : Ideal .f32))
      (mulf (cut off s₁ γ) (subf (broadcast S256x128 (Scalar.ofBits .f32 0x3F800000#32 : Ideal .f32)) (cut off s₁ (sigOp γ))))))) bitsLt_bf16_f32

theorem gateOp_at (r : Fin 256) (b : Fin 128) : gateOp off s₁ s₂ n d γ o (ix2 r b)
    = atGate (d (ix2 r ⟨off + b.val, by omega⟩)) (γ (ix2 r ⟨off + b.val, by omega⟩)) (normed (fun b => o (ix2 r b)) b) (n (ix2 0 ⟨off + b.val, by omega⟩)) := by
  show (cut off s₁ d (ix2 r b) * (normOp o (ix2 r b) * gains off s₂ n (ix2 r b))) * (cut off s₁ (sigOp γ) (ix2 r b)
    * (Ideal.ofBits .f32 0x3F800000#32 + cut off s₁ γ (ix2 r b) * (Ideal.ofBits .f32 0x3F800000#32 - cut off s₁ (sigOp γ) (ix2 r b)))) = _
  rw [cut_at off s₁ hoff, cut_at off s₁ hoff, cut_at off s₁ hoff, gains_at off s₂ hoff, normOp_at, sigOp_at, one]
  rfl

/-- The gradient at a gated entry before its gain. -/
def gatedOp : Rows .f32 := mulf (cut off s₁ d) (mulf (cut off s₁ γ) (cut off s₁ (sigOp γ)))

theorem gatedOp_at (r : Fin 256) (b : Fin 128) : gatedOp off s₁ d γ (ix2 r b)
    = d (ix2 r ⟨off + b.val, by omega⟩) * (γ (ix2 r ⟨off + b.val, by omega⟩) * logistic (γ (ix2 r ⟨off + b.val, by omega⟩))) := by
  show cut off s₁ d (ix2 r b) * (cut off s₁ γ (ix2 r b) * cut off s₁ (sigOp γ) (ix2 r b)) = _
  rw [cut_at off s₁ hoff, cut_at off s₁ hoff, cut_at off s₁ hoff, sigOp_at]

/-- What a head's gains gather from 256 rows. -/
def gainOp (acc : FVec Ideal S1x128 .f32) : FVec Ideal S1x128 .f32 :=
  addf (shapeCast S1x128 acc shapeCasts_S1x128_S1x128)
    (shapeCast S1x128 (multiReduction .add [0] S128 (mulf (gatedOp off s₁ d γ) (normOp o)) 0x00000000#32 reduces_S256x128_S128 (.inl rfl) rfl) shapeCasts_S128_S1x128)

theorem gainOp_at (acc : FVec Ideal S1x128 .f32) (b : Fin 128) : gainOp off s₁ d γ o acc (ix2 0 b)
    = acc (ix2 0 b) + ∑ r : Fin 256, (d (ix2 r ⟨off + b.val, by omega⟩) * (γ (ix2 r ⟨off + b.val, by omega⟩) * logistic (γ (ix2 r ⟨off + b.val, by omega⟩))))
      * normed (fun b => o (ix2 r b)) b := by
  have e : gainOp off s₁ d γ o acc (ix2 0 b) = acc (ix2 0 b) + ∑ r : Fin 256, gatedOp off s₁ d γ (ix2 r b) * normOp o (ix2 r b) := by
    pointwise [gainOp]
  rw [e]
  simp only [gatedOp_at off s₁ hoff, normOp_at]

/-- The mean of each row, along the row. -/
def meanOp (x : Rows .f32) : Rows .f32 :=
  broadcastTo S256x128 (divf (shapeCast S256x1 (multiReduction .add [1] S256 x 0x00000000#32 reduces_S256x128_S256 (.inl rfl) rfl)
    shapeCasts_S256_S256x1) (broadcast S256x1 (Scalar.ofBits .f32 0x43000000#32 : Ideal .f32))) broadcasts_S256x1_S256x128

theorem meanOp_at (x : Rows .f32) (r : Fin 256) (b : Fin 128) : meanOp x (ix2 r b) = mean fun b => x (ix2 r b) := by
  pointwise [meanOp]
  rfl

def normGrad : Rows .f32 := mulf (gatedOp off s₁ d γ) (gains off s₂ n)

theorem normGrad_at (r : Fin 256) (b : Fin 128) : normGrad off s₁ s₂ n d γ (ix2 r b)
    = (d (ix2 r ⟨off + b.val, by omega⟩) * (γ (ix2 r ⟨off + b.val, by omega⟩) * logistic (γ (ix2 r ⟨off + b.val, by omega⟩)))) * n (ix2 0 ⟨off + b.val, by omega⟩) := by
  show gatedOp off s₁ d γ (ix2 r b) * gains off s₂ n (ix2 r b) = _
  rw [gatedOp_at off s₁ hoff, gains_at off s₂ hoff]

def rowOp : FVec Ideal S256x128 .bf16 :=
  truncf .bf16 (mulf (scaleOp (centreOp o)) (subf (subf (normGrad off s₁ s₂ n d γ) (meanOp (normGrad off s₁ s₂ n d γ)))
    (mulf (normOp o) (meanOp (mulf (normGrad off s₁ s₂ n d γ) (normOp o)))))) bitsLt_bf16_f32

theorem rowOp_at (r : Fin 256) (b : Fin 128) : rowOp off s₁ s₂ n d γ o (ix2 r b)
    = atRow (fun b => o (ix2 r b)) (fun b => (d (ix2 r ⟨off + b.val, by omega⟩) * (γ (ix2 r ⟨off + b.val, by omega⟩) * logistic (γ (ix2 r ⟨off + b.val, by omega⟩))))
      * n (ix2 0 ⟨off + b.val, by omega⟩)) b := by
  have e : (fun b => normGrad off s₁ s₂ n d γ (ix2 r b)) = _ := funext fun b => normGrad_at off s₁ s₂ hoff n d γ r b
  show scaleOp (centreOp o) (ix2 r b) * ((normGrad off s₁ s₂ n d γ (ix2 r b) - meanOp (normGrad off s₁ s₂ n d γ) (ix2 r b))
    - normOp o (ix2 r b) * meanOp (mulf (normGrad off s₁ s₂ n d γ) (normOp o)) (ix2 r b)) = _
  have e2 : (fun b => (mulf (normGrad off s₁ s₂ n d γ) (normOp o) : Rows .f32) (ix2 r b))
      = fun b => normGrad off s₁ s₂ n d γ (ix2 r b) * normed (fun b => o (ix2 r b)) b := funext fun b => by rw [← normOp_at]; rfl
  rw [meanOp_at, meanOp_at, e2, normOp_at, scaleOp_at, ← e]
  simp only [centreOp_at]
  rfl

end head

end Cert.Mixout
-- ==== Proof.Mixout.Blocks.lean ====
module

public import proofs.«01_k».proof.Proof.Mixout.Ops

@[expose] public section

set_option maxRecDepth 16384
noncomputable section

/-! The blocks a grid point of the mixed output's gradient reads, entry by entry. -/

namespace Cert.Mixout

open Idealize.ShloMosaic Idealize.ShloMosaic.TcCoe Idealize.SL.Sem
open Cert.Kernel4Ideal Cert.Kernel4Ideal.Gen
open Idealize.ShloMosaic.Pipeline (Dat)

variable (m : (ℓ : Loc nD τ sig) → Buf (Elt Ideal) ℓ) (c : Dev nD)

abbrev D : FVec Ideal S8192x1024 .bf16 := m ((c : Thread nD τ).loc main_arg0)
abbrev WO : FVec Ideal S1x1024x1024 .f32 := m ((c : Thread nD τ).loc main_arg1)
abbrev WG : FVec Ideal S1x512x1024 .f32 := m ((c : Thread nD τ).loc main_arg2)
abbrev S : FVec Ideal S8192x512 .f32 := m ((c : Thread nD τ).loc main_arg3)
abbrev O : FVec Ideal S8192x512 .f32 := m ((c : Thread nD τ).loc main_arg4)
abbrev G : FVec Ideal S8192x512 .f32 := m ((c : Thread nD τ).loc main_arg5)
abbrev N : FVec Ideal S1x512 .f32 := m ((c : Thread nD τ).loc main_arg6)

/-- Which block each window stages at a grid point. -/
theorem blocks_at : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![0, 0] :=
  (by decide +kernel : ∀ t : Fin grid0.N, _)

/-- The weights and the rectified outputs as the host prepares them. -/
def woT (w : FVec Ideal S1x1024x1024 .f32) : FVec Ideal S1024x1024 .bf16 :=
  truncf .bf16 (shapeCast S1024x1024 w shapeCasts_S1x1024x1024_S1024x1024) bitsLt_bf16_f32
def wgT (w : FVec Ideal S1x512x1024 .f32) : FVec Ideal S512x1024 .bf16 :=
  truncf .bf16 (shapeCast S512x1024 w shapeCasts_S1x512x1024_S512x1024) bitsLt_bf16_f32

theorem woT_at (w : FVec Ideal S1x1024x1024 .f32) (j k : Fin 1024) : woT w (ix2 j k) = w (ix3 0 j k) := by
  pointwise [woT]
theorem wgT_at (w : FVec Ideal S1x512x1024 .f32) (k : Fin 512) (j : Fin 1024) : wgT w (ix2 k j) = w (ix3 0 k j) := by
  pointwise [wgT]

theorem V_wo : (V m c main_v16 : FVec Ideal S1024x1024 .bf16) = woT (WO m c) := by
  show StableHlo.after hostOps0 _ _ = _
  after_results
  rfl

theorem V_wg : (V m c main_v18 : FVec Ideal S512x1024 .bf16) = wgT (WG m c) := by
  show StableHlo.after hostOps0 _ _ = _
  after_results
  rfl

theorem V_ys (j : S8192x512.Idx) : (V m c main_v14 : FVec Ideal S8192x512 .bf16) j = gelu (S m c j) := by
  have e : (V m c main_v14 : FVec Ideal S8192x512 .bf16) = fun j => gelu (S m c j) := by
    show StableHlo.after hostOps0 _ _ = _
    after_results
    funext j
    rw [gelu, ← one, ← cubic_eq]
    rfl
  rw [e]

variable (t : Fin cfg0.N)

theorem block0 (y : S512x1024.Idx) (i : Fin 8192) (j : Fin 1024) (hi : i.val = 512 * t.val + (y 0 : ℕ)) (hj : j.val = (y 1 : ℕ)) :
    (iblk m c 0 t : FVec Ideal S512x1024 .bf16) y = D m c (ix2 i j) := by
  blk_point [iblk, V, blocks_at t]

theorem block1 (j k : Fin 1024) : (iblk m c 1 t : FVec Ideal S1024x1024 .bf16) (ix2 j k) = WO m c (ix3 0 j k) := by
  rw [← woT_at (WO m c) j k, ← V_wo]
  blk_point [iblk, blocks_at t]

theorem block2 (k : Fin 512) (j : Fin 1024) : (iblk m c 2 t : FVec Ideal S512x1024 .bf16) (ix2 k j) = WG m c (ix3 0 k j) := by
  rw [← wgT_at (WG m c) k j, ← V_wg]
  blk_point [iblk, blocks_at t]

theorem block3 (y : S512x512.Idx) (i : Fin 8192) (j : Fin 512) (hi : i.val = 512 * t.val + (y 0 : ℕ)) (hj : j.val = (y 1 : ℕ)) :
    (iblk m c 3 t : FVec Ideal S512x512 .bf16) y = gelu (S m c (ix2 i j)) := by
  rw [← V_ys]
  blk_point [iblk, blocks_at t]

theorem block4 (y : S512x512.Idx) (i : Fin 8192) (j : Fin 512) (hi : i.val = 512 * t.val + (y 0 : ℕ)) (hj : j.val = (y 1 : ℕ)) :
    (iblk m c 4 t : FVec Ideal S512x512 .f32) y = S m c (ix2 i j) := by
  blk_point [iblk, V, blocks_at t]

theorem block5 (y : S512x512.Idx) (i : Fin 8192) (j : Fin 512) (hi : i.val = 512 * t.val + (y 0 : ℕ)) (hj : j.val = (y 1 : ℕ)) :
    (iblk m c 5 t : FVec Ideal S512x512 .f32) y = O m c (ix2 i j) := by
  blk_point [iblk, V, blocks_at t]

theorem block6 (y : S512x512.Idx) (i : Fin 8192) (j : Fin 512) (hi : i.val = 512 * t.val + (y 0 : ℕ)) (hj : j.val = (y 1 : ℕ)) :
    (iblk m c 6 t : FVec Ideal S512x512 .f32) y = G m c (ix2 i j) := by
  blk_point [iblk, V, blocks_at t]

theorem block7 : (iblk m c 7 t : FVec Ideal S1x512 .f32) = N m c := by
  funext y; idx_vars y
  blk_point [iblk, V, blocks_at t]

/-! A half of a block of rows, read through its rectangle; of the states' outputs one head's columns. -/

theorem half0 (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) :
    View.ld (iblk m c 0 t : FVec Ideal S512x1024 .bf16) (Rect.unit ![o, 0] ![256, 1024] inb) (ix2 r k) = D m c (ix2 i k) := by
  refine block0 m c t _ i k ?_ ?_
  · show i.val = 512 * t.val + (o + 1 * r.val)
    omega
  · show k.val = 0 + 1 * k.val
    omega

theorem half3 (o : ℕ) (inb : ∀ a, (![o, 0] : Fin 2 → ℕ) a + (![256, 512] : Fin 2 → ℕ) a ≤ S512x512.size a) (r : Fin 256) (k : Fin 512)
    (i : Fin 8192) (hi : i.val = 512 * t.val + (o + r.val)) :
    View.ld (iblk m c 3 t : FVec Ideal S512x512 .bf16) (Rect.unit ![o, 0] ![256, 512] inb) (ix2 r k) = gelu (S m c (ix2 i k)) := by
  refine block3 m c t _ i k ?_ ?_
  · show i.val = 512 * t.val + (o + 1 * r.val)
    omega
  · show k.val = 0 + 1 * k.val
    omega

theorem half4 (o : ℕ) (inb : ∀ a, (![o, 0] : Fin 2 → ℕ) a + (![256, 512] : Fin 2 → ℕ) a ≤ S512x512.size a) (r : Fin 256) (k : Fin 512)
    (i : Fin 8192) (hi : i.val = 512 * t.val + (o + r.val)) :
    View.ld (iblk m c 4 t : FVec Ideal S512x512 .f32) (Rect.unit ![o, 0] ![256, 512] inb) (ix2 r k) = S m c (ix2 i k) := by
  refine block4 m c t _ i k ?_ ?_
  · show i.val = 512 * t.val + (o + 1 * r.val)
    omega
  · show k.val = 0 + 1 * k.val
    omega

/-- Half the columns of the unit's weights. -/
theorem side2 (off : ℕ) (inb : ∀ a, (![0, off] : Fin 2 → ℕ) a + (![512, 512] : Fin 2 → ℕ) a ≤ S512x1024.size a) (k j : Fin 512) (J : Fin 1024) (hJ : J.val = off + j.val) :
    View.ld (iblk m c 2 t : FVec Ideal S512x1024 .bf16) (Rect.unit ![0, off] ![512, 512] inb) (ix2 k j) = WG m c (ix3 0 k J) := by
  refine Eq.trans (congrArg (iblk m c 2 t : FVec Ideal S512x1024 .bf16) ?_) (block2 m c t k J)
  funext d; fin_cases d
  · exact Fin.ext (by show 0 + 1 * k.val = k.val; omega)
  · exact Fin.ext (by show off + 1 * j.val = J.val; omega)

theorem half5 (o h : ℕ) (inb : ∀ a, (![o, h] : Fin 2 → ℕ) a + (![256, 128] : Fin 2 → ℕ) a ≤ S512x512.size a) (r : Fin 256) (b : Fin 128)
    (i : Fin 8192) (j : Fin 512) (hi : i.val = 512 * t.val + (o + r.val)) (hj : j.val = h + b.val) :
    View.ld (iblk m c 5 t : FVec Ideal S512x512 .f32) (Rect.unit ![o, h] ![256, 128] inb) (ix2 r b) = O m c (ix2 i j) := by
  refine block5 m c t _ i j ?_ ?_
  · show i.val = 512 * t.val + (o + 1 * r.val)
    omega
  · show j.val = h + 1 * b.val
    omega

theorem half6 (o : ℕ) (inb : ∀ a, (![o, 0] : Fin 2 → ℕ) a + (![256, 512] : Fin 2 → ℕ) a ≤ S512x512.size a) (r : Fin 256) (k : Fin 512)
    (i : Fin 8192) (hi : i.val = 512 * t.val + (o + r.val)) :
    View.ld (iblk m c 6 t : FVec Ideal S512x512 .f32) (Rect.unit ![o, 0] ![256, 512] inb) (ix2 r k) = G m c (ix2 i k) := by
  refine block6 m c t _ i k ?_ ?_
  · show i.val = 512 * t.val + (o + 1 * r.val)
    omega
  · show k.val = 0 + 1 * k.val
    omega

end Cert.Mixout
-- ==== Proof.Mixout.Rows.lean ====
module

public import proofs.«01_k».proof.Proof.Mixout.Blocks

@[expose] public section

set_option maxRecDepth 16384
noncomputable section

/-! The five gradients of the mixed output over whole arrays, and the tiles of them a grid point computes. -/

namespace Cert.Mixout

open Idealize.ShloMosaic Idealize.ShloMosaic.TcCoe Idealize.SL.Sem
open Cert.Kernel4Ideal Cert.Kernel4Ideal.Gen
open Idealize.ShloMosaic.Pipeline (Dat)
open Cert.Retention (col Rows)

/-- A column's head, and its place in it. -/
def hd (j : Fin 512) : Fin 4 := ⟨j.val / 128, by have := j.isLt; omega⟩
def ft (j : Fin 512) : Fin 128 := ⟨j.val % 128, Nat.mod_lt _ (by decide)⟩

theorem hd_col (h : Fin 4) (b : Fin 128) : hd (col h b) = h := Fin.ext (by show (128 * h.val + b.val) / 128 = h.val; omega)
theorem ft_col (h : Fin 4) (b : Fin 128) : ft (col h b) = b := Fin.ext (by show (128 * h.val + b.val) % 128 = b.val; omega)
theorem col_hd (j : Fin 512) : col (hd j) (ft j) = j := Fin.ext (by show 128 * (j.val / 128) + j.val % 128 = j.val; omega)

section whole
variable (d : FVec Ideal S8192x1024 .bf16) (wo : FVec Ideal S1x1024x1024 .f32) (wg : FVec Ideal S1x512x1024 .f32)
  (s o g : FVec Ideal S8192x512 .f32) (n : FVec Ideal S1x512 .f32)

/-- The gradient at the concatenated outputs, and the gated linear unit before its gate. -/
def CAT (i : Fin 8192) (j : Fin 1024) : EReal := ∑ k : Fin 1024, d (ix2 i k) * wo (ix3 0 j k)
def GLU (i : Fin 8192) (j : Fin 1024) : EReal := ∑ k : Fin 512, gelu (s (ix2 i k)) * wg (ix3 0 k j)

def lo (j : Fin 512) : Fin 1024 := ⟨j.val, by omega⟩
def up (j : Fin 512) : Fin 1024 := ⟨512 + j.val, by omega⟩

/-- The gradient at the unit's linear half, and at its gating half. -/
def LEF (i : Fin 8192) (j : Fin 512) : EReal := CAT d wo i (up j) * logistic (GLU wg s i (up j))
def RIG (i : Fin 8192) (j : Fin 512) : EReal :=
  ((CAT d wo i (up j) * GLU wg s i (lo j)) * logistic (GLU wg s i (up j))) * (1 - logistic (GLU wg s i (up j)))
def UNIT (i : Fin 8192) (j : Fin 1024) : EReal :=
  if h : j.val < 512 then LEF d wo wg s i ⟨j.val, h⟩ else RIG d wo wg s i ⟨j.val - 512, by omega⟩

/-- The gradient at the rectified outputs, and at the recurrence's own. -/
def DYS (i : Fin 8192) (k : Fin 512) : EReal := ∑ j : Fin 1024, UNIT d wo wg s i j * wg (ix3 0 k j)
def STATE (i : Fin 8192) (k : Fin 512) : EReal := atBend (DYS d wo wg s i k) (s (ix2 i k))

theorem DYS_halves (i : Fin 8192) (k : Fin 512) : DYS d wo wg s i k
    = (∑ j : Fin 512, LEF d wo wg s i j * wg (ix3 0 k (lo j))) + ∑ j : Fin 512, RIG d wo wg s i j * wg (ix3 0 k (up j)) := by
  rw [DYS, Fin.sum_univ_two_halves 512 512 rfl]
  refine congrArg₂ (· + ·) (Finset.sum_congr rfl fun j _ => ?_) (Finset.sum_congr rfl fun j _ => ?_)
  · exact congrArg₂ (· * ·) (dif_pos j.isLt) rfl
  · refine congrArg₂ (· * ·) ((dif_neg (by show ¬ 512 + j.val < 512; omega)).trans ?_) rfl
    exact congrArg _ (Fin.ext (by show 512 + j.val - 512 = j.val; omega))

/-- A head's row of the retention's output. -/
def orow (i : Fin 8192) (h : Fin 4) (b : Fin 128) : EReal := o (ix2 i (col h b))

def GATE (i : Fin 8192) (j : Fin 512) : EReal := atGate (CAT d wo i (lo j)) (g (ix2 i j)) (normed (orow o i (hd j)) (ft j)) (n (ix2 0 j))

/-- The gradient at a gated entry before its gain. -/
def GATED (i : Fin 8192) (j : Fin 512) : EReal := CAT d wo i (lo j) * (g (ix2 i j) * logistic (g (ix2 i j)))

def ROW (i : Fin 8192) (j : Fin 512) : EReal :=
  atRow (orow o i (hd j)) (fun b => GATED d wo g i (col (hd j) b) * n (ix2 0 (col (hd j) b))) (ft j)

def GAIN (i : Fin 8192) (j : Fin 512) : EReal := GATED d wo g i j * normed (orow o i (hd j)) (ft j)

end whole

variable (m : (ℓ : Loc nD τ sig) → Buf (Elt Ideal) ℓ) (c : Dev nD) (t : Fin cfg0.N)

/-- A half of the block of incoming gradients, of rectified outputs and of gates, and a head's columns of the outputs. -/
abbrev dT (o : ℕ) (inb : ∀ a, (![o, 0] : Fin 2 → ℕ) a + (![256, 1024] : Fin 2 → ℕ) a ≤ S512x1024.size a) : FVec Ideal S256x1024 .bf16 :=
  View.ld (iblk m c 0 t : FVec Ideal S512x1024 .bf16) (Rect.unit ![o, 0] ![256, 1024] inb)
abbrev yT (o : ℕ) (inb : ∀ a, (![o, 0] : Fin 2 → ℕ) a + (![256, 512] : Fin 2 → ℕ) a ≤ S512x512.size a) : FVec Ideal S256x512 .bf16 :=
  View.ld (iblk m c 3 t : FVec Ideal S512x512 .bf16) (Rect.unit ![o, 0] ![256, 512] inb)
abbrev gT (o : ℕ) (inb : ∀ a, (![o, 0] : Fin 2 → ℕ) a + (![256, 512] : Fin 2 → ℕ) a ≤ S512x512.size a) : Half :=
  View.ld (iblk m c 6 t : FVec Ideal S512x512 .f32) (Rect.unit ![o, 0] ![256, 512] inb)
abbrev sT (o : ℕ) (inb : ∀ a, (![o, 0] : Fin 2 → ℕ) a + (![256, 512] : Fin 2 → ℕ) a ≤ S512x512.size a) : Half :=
  View.ld (iblk m c 4 t : FVec Ideal S512x512 .f32) (Rect.unit ![o, 0] ![256, 512] inb)
abbrev gsT (off : ℕ) (inb : ∀ a, (![0, off] : Fin 2 → ℕ) a + (![512, 512] : Fin 2 → ℕ) a ≤ S512x1024.size a) : FVec Ideal S512x512 .bf16 :=
  View.ld (iblk m c 2 t : FVec Ideal S512x1024 .bf16) (Rect.unit ![0, off] ![512, 512] inb)
abbrev oT (o h : ℕ) (inb : ∀ a, (![o, h] : Fin 2 → ℕ) a + (![256, 128] : Fin 2 → ℕ) a ≤ S512x512.size a) : Rows .f32 :=
  View.ld (iblk m c 5 t : FVec Ideal S512x512 .f32) (Rect.unit ![o, h] ![256, 128] inb)

variable (o : ℕ) (ib0 : ∀ a, (![o, 0] : Fin 2 → ℕ) a + (![256, 1024] : Fin 2 → ℕ) a ≤ S512x1024.size a)
  (ib3 : ∀ a, (![o, 0] : Fin 2 → ℕ) a + (![256, 512] : Fin 2 → ℕ) a ≤ S512x512.size a)

section cats
variable (r : Fin 256) (i : Fin 8192) (hi : i.val = 512 * t.val + (o + r.val)) (j : Fin 512)
include hi

theorem ret_eq : retOp (dT m c t o ib0) (iblk m c 1 t) (ix2 r j) = CAT (D m c) (WO m c) i (lo j) := by
  refine (retOp_at _ _ _ _).trans (Finset.sum_congr rfl fun k _ => ?_)
  exact congrArg₂ (· * ·) (half0 m c t o ib0 r k i hi) (block1 m c t _ k)

theorem ssm_eq : ssmOp (dT m c t o ib0) (iblk m c 1 t) (ix2 r j) = CAT (D m c) (WO m c) i (up j) := by
  refine (ssmOp_at _ _ _ _).trans (Finset.sum_congr rfl fun k _ => ?_)
  exact congrArg₂ (· * ·) (half0 m c t o ib0 r k i hi) (block1 m c t _ k)

theorem lin_eq : linOp (yT m c t o ib3) (iblk m c 2 t) (ix2 r j) = GLU (WG m c) (S m c) i (lo j) := by
  refine (linOp_at _ _ _ _).trans (Finset.sum_congr rfl fun k _ => ?_)
  exact congrArg₂ (· * ·) (half3 m c t o ib3 r k i hi) (block2 m c t k _)

theorem gat_eq : gatOp (yT m c t o ib3) (iblk m c 2 t) (ix2 r j) = GLU (WG m c) (S m c) i (up j) := by
  refine (gatOp_at _ _ _ _).trans (Finset.sum_congr rfl fun k _ => ?_)
  exact congrArg₂ (· * ·) (half3 m c t o ib3 r k i hi) (block2 m c t k _)

theorem gate_eq : gT m c t o ib3 (ix2 r j) = G m c (ix2 i j) := half6 m c t o ib3 r j i hi

end cats

section tiles
variable (x : S256x512.Idx) (i : Fin 8192) (j : Fin 512) (hi : i.val = 512 * t.val + (o + (x 0 : ℕ))) (hj : j.val = (x 1 : ℕ))
include hi hj

theorem lef_tile : lefOp (dT m c t o ib0) (iblk m c 1 t) (yT m c t o ib3) (iblk m c 2 t) x = LEF (D m c) (WO m c) (WG m c) (S m c) i j := by
  idx_vars x
  obtain rfl : j = x1 := Fin.ext hj
  rw [lefOp_at, ssm_eq m c t o ib0 x0 i hi, gat_eq m c t o ib3 x0 i hi]
  rfl

theorem rig_tile : rigOp (dT m c t o ib0) (iblk m c 1 t) (yT m c t o ib3) (iblk m c 2 t) x = RIG (D m c) (WO m c) (WG m c) (S m c) i j := by
  idx_vars x
  obtain rfl : j = x1 := Fin.ext hj
  rw [rigOp_at, ssm_eq m c t o ib0 x0 i hi, gat_eq m c t o ib3 x0 i hi, lin_eq m c t o ib3 x0 i hi]
  rfl

omit hi hj in
theorem dys_tile (r : Fin 256) (k : Fin 512) (hi : i.val = 512 * t.val + (o + r.val))
    (ia : ∀ a, (![0, 0] : Fin 2 → ℕ) a + (![512, 512] : Fin 2 → ℕ) a ≤ S512x1024.size a)
    (ib : ∀ a, (![0, 512] : Fin 2 → ℕ) a + (![512, 512] : Fin 2 → ℕ) a ≤ S512x1024.size a) :
    dysOp (lefOp (dT m c t o ib0) (iblk m c 1 t) (yT m c t o ib3) (iblk m c 2 t)) (rigOp (dT m c t o ib0) (iblk m c 1 t) (yT m c t o ib3) (iblk m c 2 t))
      (gsT m c t 0 ia) (gsT m c t 512 ib) (ix2 r k) = DYS (D m c) (WO m c) (WG m c) (S m c) i k := by
  rw [dysOp_at, DYS_halves]
  refine congrArg₂ (· + ·) (Finset.sum_congr rfl fun j _ => ?_) (Finset.sum_congr rfl fun j _ => ?_)
  · exact congrArg₂ (· * ·) (lef_tile m c t o ib0 ib3 _ i j hi rfl) (side2 m c t 0 ia k j _ (by show j.val = 0 + j.val; omega))
  · exact congrArg₂ (· * ·) (rig_tile m c t o ib0 ib3 _ i j hi rfl) (side2 m c t 512 ib k j _ rfl)

theorem state_tile (ia : ∀ a, (![0, 0] : Fin 2 → ℕ) a + (![512, 512] : Fin 2 → ℕ) a ≤ S512x1024.size a)
    (ib : ∀ a, (![0, 512] : Fin 2 → ℕ) a + (![512, 512] : Fin 2 → ℕ) a ≤ S512x1024.size a) :
    stateOp (dysOp (lefOp (dT m c t o ib0) (iblk m c 1 t) (yT m c t o ib3) (iblk m c 2 t)) (rigOp (dT m c t o ib0) (iblk m c 1 t) (yT m c t o ib3) (iblk m c 2 t))
      (gsT m c t 0 ia) (gsT m c t 512 ib)) (sT m c t o ib3) x = STATE (D m c) (WO m c) (WG m c) (S m c) i j := by
  idx_vars x
  obtain rfl : j = x1 := Fin.ext hj
  rw [stateOp_at, dys_tile m c t o ib0 ib3 i x0 j hi]
  exact congrArg (atBend _) (half4 m c t o ib3 x0 j i hi)

end tiles

section head
variable (off : ℕ) (h : Fin 4) (hoff : off = 128 * h.val) (s₁ : S256x512.Slices ![0, off] S256x128) (s₂ : S1x512.Slices ![0, off] S1x128)
  (ib5 : ∀ a, (![o, off] : Fin 2 → ℕ) a + (![256, 128] : Fin 2 → ℕ) a ≤ S512x512.size a)

include hoff in
theorem place (b : Fin 128) (hb : off + b.val < 512) : (⟨off + b.val, hb⟩ : Fin 512) = col h b := Fin.ext (by show off + b.val = 128 * h.val + b.val; omega)

include hoff in
theorem orow_eq (r : Fin 256) (i : Fin 8192) (hi : i.val = 512 * t.val + (o + r.val)) :
    (fun b => oT m c t o off ib5 (ix2 r b)) = orow (O m c) i h :=
  funext fun b => half5 m c t o off ib5 r b i (col h b) hi (by show 128 * h.val + b.val = off + b.val; omega)

variable (x : S256x128.Idx) (i : Fin 8192) (j : Fin 512) (hi : i.val = 512 * t.val + (o + (x 0 : ℕ))) (hj : j.val = off + (x 1 : ℕ))
include hoff hi hj

theorem gate_tile : gateOp off s₁ s₂ (iblk m c 7 t) (retOp (dT m c t o ib0) (iblk m c 1 t)) (gT m c t o ib3) (oT m c t o off ib5) x
    = GATE (D m c) (WO m c) (O m c) (G m c) (N m c) i j := by
  idx_vars x
  obtain rfl : j = col h x1 := Fin.ext (hj.trans (by rw [hoff]; rfl))
  rw [gateOp_at off s₁ s₂ (by omega), orow_eq m c t o off h hoff ib5 x0 i hi, ret_eq m c t o ib0 x0 i hi, gate_eq m c t o ib3 x0 i hi,
    place off h hoff, block7, GATE, hd_col, ft_col]

theorem row_tile : rowOp off s₁ s₂ (iblk m c 7 t) (retOp (dT m c t o ib0) (iblk m c 1 t)) (gT m c t o ib3) (oT m c t o off ib5) x
    = ROW (D m c) (WO m c) (O m c) (G m c) (N m c) i j := by
  idx_vars x
  obtain rfl : j = col h x1 := Fin.ext (hj.trans (by rw [hoff]; rfl))
  rw [rowOp_at off s₁ s₂ (by omega), orow_eq m c t o off h hoff ib5 x0 i hi, ROW, hd_col, ft_col]
  refine congrArg (fun f => atRow _ f _) (funext fun b => ?_)
  rw [ret_eq m c t o ib0 x0 i hi, gate_eq m c t o ib3 x0 i hi, place off h hoff, block7]
  rfl

end head

section gains
variable (off : ℕ) (h : Fin 4) (hoff : off = 128 * h.val) (s₁ : S256x512.Slices ![0, off] S256x128)
  (ib5 : ∀ a, (![o, off] : Fin 2 → ℕ) a + (![256, 128] : Fin 2 → ℕ) a ≤ S512x512.size a)

/-- What a head's gains gather from one half of the block. -/
theorem gain_tile (acc : FVec Ideal S1x128 .f32) (x : S1x128.Idx) (j : Fin 512) (hoff : off = 128 * h.val) (hj : j.val = off + (x 1 : ℕ)) (ho : o + 256 ≤ 512) :
    gainOp off s₁ (retOp (dT m c t o ib0) (iblk m c 1 t)) (gT m c t o ib3) (oT m c t o off ib5) acc x
      = acc x + ∑ r : Fin 256, GAIN (D m c) (WO m c) (O m c) (G m c) ⟨512 * t.val + (o + r.val), by have := t.isLt; have h : cfg0.N = 16 := N_0; omega⟩ j := by
  idx_vars x
  obtain rfl : x0 = 0 := Subsingleton.elim _ _
  obtain rfl : j = col h x1 := Fin.ext (hj.trans (by rw [hoff]; rfl))
  rw [gainOp_at off s₁ (by omega)]
  refine congrArg (_ + ·) (Finset.sum_congr rfl fun r _ => ?_)
  have hi : (⟨512 * t.val + (o + r.val), by have := t.isLt; have h : cfg0.N = 16 := N_0; omega⟩ : Fin 8192).val = 512 * t.val + (o + r.val) := rfl
  generalize (⟨512 * t.val + (o + r.val), _⟩ : Fin 8192) = i at hi
  rw [orow_eq m c t o off h hoff ib5 r i hi, ret_eq m c t o ib0 r i hi, gate_eq m c t o ib3 r i hi, place off h hoff, GAIN, hd_col, ft_col]
  rfl

end gains

end Cert.Mixout
-- ==== Proof.Mixout.Points.lean ====
module

public import proofs.«01_k».proof.Proof.Mixout.Rows

@[expose] public section

set_option maxRecDepth 16384
noncomputable section

/-! What a grid point leaves in its blocks of the gradients. -/

namespace Cert.Mixout

open Idealize.ShloMosaic Idealize.ShloMosaic.TcCoe Idealize.SL.Sem
open Cert.Kernel4Ideal Cert.Kernel4Ideal.Gen
open Idealize.ShloMosaic.Pipeline (Dat)
open Cert.Retention (col)

variable (m : (ℓ : Loc nD τ sig) → Buf (Elt Ideal) ℓ) (c : Dev nD) (t : Fin cfg0.N)

theorem point10 (y : S512x512.Idx) (i : Fin 8192) (j : Fin 512) (hi : i.val = 512 * t.val + (y 0 : ℕ)) (hj : j.val = (y 1 : ℕ)) :
    (outsAt0 m c t.val t.isLt).2.2.1 y = GATE (D m c) (WO m c) (O m c) (G m c) (N m c) i j := by
  by_cases h : t.val % 16 = 0
  all_goals
    first | rw [outsAt0_A m c t h] | rw [outsAt0_B m c t h]
    frame_out
    canon_tiles x hx
    · exact gate_tile m c t 256 _ _ 384 3 rfl slices_S256x512_o0_384_S256x128 slices_S1x512_o0_384_S1x128 _ x i j (by omega) (by omega)
    · exact gate_tile m c t 256 _ _ 256 2 rfl slices_S256x512_o0_256_S256x128 slices_S1x512_o0_256_S1x128 _ x i j (by omega) (by omega)
    · exact gate_tile m c t 256 _ _ 128 1 rfl slices_S256x512_o0_128_S256x128 slices_S1x512_o0_128_S1x128 _ x i j (by omega) (by omega)
    · exact gate_tile m c t 256 _ _ 0 0 rfl slices_S256x512_o0_0_S256x128 slices_S1x512_o0_0_S1x128 _ x i j (by omega) (by omega)
    · exact gate_tile m c t 0 _ _ 384 3 rfl slices_S256x512_o0_384_S256x128 slices_S1x512_o0_384_S1x128 _ x i j (by omega) (by omega)
    · exact gate_tile m c t 0 _ _ 256 2 rfl slices_S256x512_o0_256_S256x128 slices_S1x512_o0_256_S1x128 _ x i j (by omega) (by omega)
    · exact gate_tile m c t 0 _ _ 128 1 rfl slices_S256x512_o0_128_S256x128 slices_S1x512_o0_128_S1x128 _ x i j (by omega) (by omega)
    · exact gate_tile m c t 0 _ _ 0 0 rfl slices_S256x512_o0_0_S256x128 slices_S1x512_o0_0_S1x128 _ x i j (by omega) (by omega)

theorem point11 (y : S512x512.Idx) (i : Fin 8192) (j : Fin 512) (hi : i.val = 512 * t.val + (y 0 : ℕ)) (hj : j.val = (y 1 : ℕ)) :
    (outsAt0 m c t.val t.isLt).2.2.2.1 y = ROW (D m c) (WO m c) (O m c) (G m c) (N m c) i j := by
  by_cases h : t.val % 16 = 0
  all_goals
    first | rw [outsAt0_A m c t h] | rw [outsAt0_B m c t h]
    frame_out
    canon_tiles x hx
    · exact row_tile m c t 256 _ _ 384 3 rfl slices_S256x512_o0_384_S256x128 slices_S1x512_o0_384_S1x128 _ x i j (by omega) (by omega)
    · exact row_tile m c t 256 _ _ 256 2 rfl slices_S256x512_o0_256_S256x128 slices_S1x512_o0_256_S1x128 _ x i j (by omega) (by omega)
    · exact row_tile m c t 256 _ _ 128 1 rfl slices_S256x512_o0_128_S256x128 slices_S1x512_o0_128_S1x128 _ x i j (by omega) (by omega)
    · exact row_tile m c t 256 _ _ 0 0 rfl slices_S256x512_o0_0_S256x128 slices_S1x512_o0_0_S1x128 _ x i j (by omega) (by omega)
    · exact row_tile m c t 0 _ _ 384 3 rfl slices_S256x512_o0_384_S256x128 slices_S1x512_o0_384_S1x128 _ x i j (by omega) (by omega)
    · exact row_tile m c t 0 _ _ 256 2 rfl slices_S256x512_o0_256_S256x128 slices_S1x512_o0_256_S1x128 _ x i j (by omega) (by omega)
    · exact row_tile m c t 0 _ _ 128 1 rfl slices_S256x512_o0_128_S256x128 slices_S1x512_o0_128_S1x128 _ x i j (by omega) (by omega)
    · exact row_tile m c t 0 _ _ 0 0 rfl slices_S256x512_o0_0_S256x128 slices_S1x512_o0_0_S1x128 _ x i j (by omega) (by omega)

theorem point8 (y : S512x1024.Idx) (i : Fin 8192) (j : Fin 1024) (hi : i.val = 512 * t.val + (y 0 : ℕ)) (hj : j.val = (y 1 : ℕ)) :
    (outsAt0 m c t.val t.isLt).1 y = UNIT (D m c) (WO m c) (WG m c) (S m c) i j := by
  unfold UNIT
  by_cases h : t.val % 16 = 0
  all_goals
    first | rw [outsAt0_A m c t h] | rw [outsAt0_B m c t h]
    frame_out
    canon_tiles x hx
    · rw [dif_neg (by omega)]; exact rig_tile m c t 256 _ _ x i _ (by omega) (by show j.val - 512 = _; omega)
    · rw [dif_pos (by omega)]; exact lef_tile m c t 256 _ _ x i _ (by omega) (by show j.val = _; omega)
    · rw [dif_neg (by omega)]; exact rig_tile m c t 0 _ _ x i _ (by omega) (by show j.val - 512 = _; omega)
    · rw [dif_pos (by omega)]; exact lef_tile m c t 0 _ _ x i _ (by omega) (by show j.val = _; omega)

theorem point9 (y : S512x512.Idx) (i : Fin 8192) (j : Fin 512) (hi : i.val = 512 * t.val + (y 0 : ℕ)) (hj : j.val = (y 1 : ℕ)) :
    (outsAt0 m c t.val t.isLt).2.1 y = STATE (D m c) (WO m c) (WG m c) (S m c) i j := by
  by_cases h : t.val % 16 = 0
  all_goals
    first | rw [outsAt0_A m c t h] | rw [outsAt0_B m c t h]
    frame_out
    canon_tiles x hx
    · exact state_tile m c t 256 _ _ x i j (by omega) (by omega) _ _
    · exact state_tile m c t 0 _ _ x i j (by omega) (by omega) _ _

end Cert.Mixout
-- ==== Proof.Mixout.Gain.lean ====
module

public import proofs.«01_k».proof.Proof.Mixout.Points

@[expose] public section

set_option maxRecDepth 16384
noncomputable section

/-! What a grid point adds to the gradient at the gains. -/

namespace Cert.Mixout

open Idealize.ShloMosaic Idealize.ShloMosaic.TcCoe Idealize.SL.Sem
open Cert.Kernel4Ideal Cert.Kernel4Ideal.Gen
open Idealize.ShloMosaic.Pipeline (Dat)
open Cert.Retention (col)

variable (m : (ℓ : Loc nD τ sig) → Buf (Elt Ideal) ℓ) (c : Dev nD) (t : Fin cfg0.N)

/-- What a grid point adds: from its upper 256 rows, and from its lower 256 rows. -/
def half12 (o : ℕ) (ho : o + 256 ≤ 512) (j : Fin 512) : EReal :=
  ∑ r : Fin 256, GAIN (D m c) (WO m c) (O m c) (G m c) ⟨512 * t.val + (o + r.val), by have := t.isLt; have h : cfg0.N = 16 := N_0; omega⟩ j

/-! A head's columns of the row of gains, and reading them after a list of stores of the same kind. -/

section reads
variable (o : ℕ) (inb : ∀ a, (![0, o] : Fin 2 → ℕ) a + (![1, 128] : Fin 2 → ℕ) a ≤ S1x512.size a)

abbrev Gains := List (View.Piece (Elt Ideal) S1x512 .f32)

abbrev backAt (L : Gains) (x : S1x128.Idx) : EReal :=
  (ms0_12 t).view.readCov L (Rect.unit (s := S1x512) ![0, o] ![1, 128] inb).toLoadRect x

theorem read_at (L : Gains) (y : S1x512.Idx) (b : Fin 128) (hb : (y 1 : ℕ) = o + b.val) : View.canon L y = backAt t o inb L (ix2 0 b) := by
  rw [backAt, View.readCov_eq_canon']
  refine congrArg (View.canon L) (funext fun d => Fin.ext ?_)
  fin_cases d
  · have := (y 0).isLt
    have h1 : (y 0 : ℕ) < 1 := this
    show (y 0 : ℕ) = 0 + 1 * 0
    omega
  · show (y 1 : ℕ) = o + 1 * b.val
    omega

theorem read_hit (p : FVec Ideal S1x128 .f32) (L : Gains) (x : S1x128.Idx) :
    backAt t o inb (⟨Rect.unit (s := S1x512) ![0, o] ![1, 128] inb, p⟩ :: L) x = p x := by
  rw [backAt, View.readCov_eq_canon']
  exact View.canon_cons_emb (Rect.unit (s := S1x512) ![0, o] ![1, 128] inb) p L x

theorem outside (y : S1x512.Idx) (h : (y 1 : ℕ) < o ∨ o + 128 ≤ (y 1 : ℕ)) : y ∉ (Rect.unit (s := S1x512) ![0, o] ![1, 128] inb).set := fun hy => by
  have h1 : o ≤ (y 1 : ℕ) := (Rect.mem_set_unit.mp hy 1).1
  have h2 : (y 1 : ℕ) < o + 128 := (Rect.mem_set_unit.mp hy 1).2
  omega

theorem read_skip (o' : ℕ) (apart : o + 128 ≤ o' ∨ o' + 128 ≤ o) (inb' : ∀ a, (![0, o'] : Fin 2 → ℕ) a + (![1, 128] : Fin 2 → ℕ) a ≤ S1x512.size a)
    (p : FVec Ideal S1x128 .f32) (L : Gains) (x : S1x128.Idx) :
    backAt t o inb (⟨Rect.unit (s := S1x512) ![0, o'] ![1, 128] inb', p⟩ :: L) x = backAt t o inb L x := by
  rw [backAt, backAt, View.readCov_eq_canon', View.readCov_eq_canon']
  refine View.canon_cons_of_not_mem _ _ (outside o' inb' _ ?_)
  have hx : (x 1 : ℕ) < 128 := (x 1).isLt
  show o + 1 * (x 1 : ℕ) < o' ∨ o' + 128 ≤ o + 1 * (x 1 : ℕ)
  omega

theorem read_zero (inb' : ∀ a, (![0, 0] : Fin 2 → ℕ) a + (![1, 512] : Fin 2 → ℕ) a ≤ S1x512.size a) (x : S1x128.Idx) :
    backAt t o inb [⟨Rect.unit (s := S1x512) ![0, 0] ![1, 512] inb', k0_pay2 (F := Ideal)⟩] x = 0 := by
  rw [backAt, View.readCov_eq_canon', View.canon_cons_unit_lit]
  · show Ideal.ofBits .f32 0x00000000#32 = 0
    simp [Ideal.ofBits, Ideal.ieee]
  · decide

end reads

/-- What the row of gains holds when a point begins to add to it. -/
def before12 (y : S1x512.Idx) : EReal :=
  if t.val % 16 = 0 then 0 else (outsAt0 m c (t.val - 1) (Nat.lt_of_le_of_lt (Nat.sub_le _ _) t.isLt)).2.2.2.2 y

theorem before_ld (h : ¬ t.val % 16 = 0) (o : ℕ) (inb : ∀ a, (![0, o] : Fin 2 → ℕ) a + (![1, 128] : Fin 2 → ℕ) a ≤ S1x512.size a) (y : S1x512.Idx) (b : Fin 128)
    (hb : (y 1 : ℕ) = o + b.val) :
    View.ld ((outsAt0 m c (t.val - 1) (Nat.lt_of_le_of_lt (Nat.sub_le _ _) t.isLt)).2.2.2.2 : FVec Ideal S1x512 .f32)
      (Rect.unit (s := S1x512) ![0, o] ![1, 128] inb) (ix2 0 b) = before12 m c t y := by
  rw [before12, if_neg h]
  refine congrArg ((outsAt0 m c (t.val - 1) (Nat.lt_of_le_of_lt (Nat.sub_le _ _) t.isLt)).2.2.2.2 : FVec Ideal S1x512 .f32) (funext fun d => Fin.ext ?_)
  fin_cases d
  · have := (y 0).isLt
    have h1 : (y 0 : ℕ) < 1 := this
    show 0 + 1 * 0 = (y 0 : ℕ)
    omega
  · show o + 1 * b.val = (y 1 : ℕ)
    omega

theorem point12 (y : S1x512.Idx) (j : Fin 512) (hj : j.val = (y 1 : ℕ)) :
    (outsAt0 m c t.val t.isLt).2.2.2.2 y = (before12 m c t y + half12 m c t 0 (by decide) j) + half12 m c t 256 (by decide) j := by
  have hlt := j.isLt
  by_cases h : t.val % 16 = 0
  all_goals
    first | rw [outsAt0_A m c t h] | rw [outsAt0_B m c t h]
    frame_out
    rcases (by omega : j.val / 128 = 3 ∨ j.val / 128 = 2 ∨ j.val / 128 = 1 ∨ j.val / 128 = 0) with e | e | e | e
    · refine (read_at t 384 inb_S1x512_S1x128_0_384 _ y ⟨j.val - 384, by omega⟩ (by show (y 1 : ℕ) = 384 + (j.val - 384); omega)).trans ?_
      repeat refine (read_skip t _ _ _ (by decide) _ _ _ _).trans ?_
      refine (read_hit t _ _ _ _ _).trans ?_
      refine (gain_tile m c t 256 _ _ 384 3 slices_S256x512_o0_384_S256x128 _ _ _ j rfl (by show j.val = 384 + (j.val - 384); omega) (by decide)).trans (congrArg (· + _) ?_)
      repeat refine (read_skip t _ _ _ (by decide) _ _ _ _).trans ?_
      refine (read_hit t _ _ _ _ _).trans ?_
      refine (gain_tile m c t 0 _ _ 384 3 slices_S256x512_o0_384_S256x128 _ _ _ j rfl (by show j.val = 384 + (j.val - 384); omega) (by decide)).trans (congrArg (· + _) ?_)
      first
        | exact before_ld m c t h 384 inb_S1x512_S1x128_0_384 y ⟨j.val - 384, by omega⟩ (by show (y 1 : ℕ) = 384 + (j.val - 384); omega)
        | repeat refine (read_skip t _ _ _ (by decide) _ _ _ _).trans ?_
          exact (read_zero t _ _ _ _).trans (if_pos h).symm
    · refine (read_at t 256 inb_S1x512_S1x128_0_256 _ y ⟨j.val - 256, by omega⟩ (by show (y 1 : ℕ) = 256 + (j.val - 256); omega)).trans ?_
      repeat refine (read_skip t _ _ _ (by decide) _ _ _ _).trans ?_
      refine (read_hit t _ _ _ _ _).trans ?_
      refine (gain_tile m c t 256 _ _ 256 2 slices_S256x512_o0_256_S256x128 _ _ _ j rfl (by show j.val = 256 + (j.val - 256); omega) (by decide)).trans (congrArg (· + _) ?_)
      repeat refine (read_skip t _ _ _ (by decide) _ _ _ _).trans ?_
      refine (read_hit t _ _ _ _ _).trans ?_
      refine (gain_tile m c t 0 _ _ 256 2 slices_S256x512_o0_256_S256x128 _ _ _ j rfl (by show j.val = 256 + (j.val - 256); omega) (by decide)).trans (congrArg (· + _) ?_)
      first
        | exact before_ld m c t h 256 inb_S1x512_S1x128_0_256 y ⟨j.val - 256, by omega⟩ (by show (y 1 : ℕ) = 256 + (j.val - 256); omega)
        | repeat refine (read_skip t _ _ _ (by decide) _ _ _ _).trans ?_
          exact (read_zero t _ _ _ _).trans (if_pos h).symm
    · refine (read_at t 128 inb_S1x512_S1x128_0_128 _ y ⟨j.val - 128, by omega⟩ (by show (y 1 : ℕ) = 128 + (j.val - 128); omega)).trans ?_
      repeat refine (read_skip t _ _ _ (by decide) _ _ _ _).trans ?_
      refine (read_hit t _ _ _ _ _).trans ?_
      refine (gain_tile m c t 256 _ _ 128 1 slices_S256x512_o0_128_S256x128 _ _ _ j rfl (by show j.val = 128 + (j.val - 128); omega) (by decide)).trans (congrArg (· + _) ?_)
      repeat refine (read_skip t _ _ _ (by decide) _ _ _ _).trans ?_
      refine (read_hit t _ _ _ _ _).trans ?_
      refine (gain_tile m c t 0 _ _ 128 1 slices_S256x512_o0_128_S256x128 _ _ _ j rfl (by show j.val = 128 + (j.val - 128); omega) (by decide)).trans (congrArg (· + _) ?_)
      first
        | exact before_ld m c t h 128 inb_S1x512_S1x128_0_128 y ⟨j.val - 128, by omega⟩ (by show (y 1 : ℕ) = 128 + (j.val - 128); omega)
        | repeat refine (read_skip t _ _ _ (by decide) _ _ _ _).trans ?_
          exact (read_zero t _ _ _ _).trans (if_pos h).symm
    · refine (read_at t 0 inb_S1x512_S1x128_0_0 _ y ⟨j.val - 0, by omega⟩ (by show (y 1 : ℕ) = 0 + (j.val - 0); omega)).trans ?_
      repeat refine (read_skip t _ _ _ (by decide) _ _ _ _).trans ?_
      refine (read_hit t _ _ _ _ _).trans ?_
      refine (gain_tile m c t 256 _ _ 0 0 slices_S256x512_o0_0_S256x128 _ _ _ j rfl (by show j.val = 0 + (j.val - 0); omega) (by decide)).trans (congrArg (· + _) ?_)
      repeat refine (read_skip t _ _ _ (by decide) _ _ _ _).trans ?_
      refine (read_hit t _ _ _ _ _).trans ?_
      refine (gain_tile m c t 0 _ _ 0 0 slices_S256x512_o0_0_S256x128 _ _ _ j rfl (by show j.val = 0 + (j.val - 0); omega) (by decide)).trans (congrArg (· + _) ?_)
      first
        | exact before_ld m c t h 0 inb_S1x512_S1x128_0_0 y ⟨j.val - 0, by omega⟩ (by show (y 1 : ℕ) = 0 + (j.val - 0); omega)
        | repeat refine (read_skip t _ _ _ (by decide) _ _ _ _).trans ?_
          exact (read_zero t _ _ _ _).trans (if_pos h).symm

/-- What a grid point adds to the gradient at the gains. -/
def rows12 (p : Fin cfg0.N) (y : S1x512.Idx) : EReal := half12 m c p 0 (by decide) (y 1) + half12 m c p 256 (by decide) (y 1)

theorem first12 (h : t.val % 16 = 0) (y : S1x512.Idx) : (outsAt0 m c t.val t.isLt).2.2.2.2 y = 0 + rows12 m c t y := by
  refine (point12 m c t y (y 1) rfl).trans ?_
  rw [before12, if_pos h, rows12, ← add_assoc]

theorem step12 (h : ¬ t.val % 16 = 0) (y : S1x512.Idx) : (outsAt0 m c t.val t.isLt).2.2.2.2 y
    = (outsAt0 m c (t.val - 1) (Nat.lt_of_le_of_lt (Nat.sub_le _ _) t.isLt)).2.2.2.2 y + rows12 m c t y := by
  refine (point12 m c t y (y 1) rfl).trans ?_
  rw [before12, if_neg h, rows12, ← add_assoc]

/-- The five gradients after the run. -/
theorem final8 : (dats m 0 c).arrAt 8 (cfgs 0).N = (fun y => UNIT (D m c) (WO m c) (WG m c) (S m c) (y 0) (y 1)) := by
  refine (dats m 0 c).arrAt_eq_of_covers 8 _ (by decide +kernel) fun t _ y => ?_
  blk_simp
  rw [after0_8]
  refine point8 m c t y _ _ ?_ ?_
  all_goals (blk_simp [blocks_at t] <;> try omega)

theorem final9 : (dats m 0 c).arrAt 9 (cfgs 0).N = (fun y => STATE (D m c) (WO m c) (WG m c) (S m c) (y 0) (y 1)) := by
  refine (dats m 0 c).arrAt_eq_of_covers 9 _ (by decide +kernel) fun t _ y => ?_
  blk_simp
  rw [after0_9]
  refine point9 m c t y _ _ ?_ ?_
  all_goals (blk_simp [blocks_at t] <;> try omega)

theorem final10 : (dats m 0 c).arrAt 10 (cfgs 0).N = (fun y => GATE (D m c) (WO m c) (O m c) (G m c) (N m c) (y 0) (y 1)) := by
  refine (dats m 0 c).arrAt_eq_of_covers 10 _ (by decide +kernel) fun t _ y => ?_
  blk_simp
  rw [after0_10]
  refine point10 m c t y _ _ ?_ ?_
  all_goals (blk_simp [blocks_at t] <;> try omega)

theorem final11 : (dats m 0 c).arrAt 11 (cfgs 0).N = (fun y => ROW (D m c) (WO m c) (O m c) (G m c) (N m c) (y 0) (y 1)) := by
  refine (dats m 0 c).arrAt_eq_of_covers 11 _ (by decide +kernel) fun t _ y => ?_
  blk_simp
  rw [after0_11]
  refine point11 m c t y _ _ ?_ ?_
  all_goals (blk_simp [blocks_at t] <;> try omega)

theorem final12 : (dats m 0 c).arrAt 12 (cfgs 0).N = (fun y => ∑ p : Fin cfg0.N, rows12 m c p y) := by
  refine (dats m 0 c).arrAt_eq_of_after_last 12 t0_15 (by decide +kernel) _ fun y => ?_
  blk_simp
  rw [after0_12, Pipeline.eq_sum_fin_of_reset_step_apply_last (fun n h => (outsAt0 m c n h).2.2.2.2) 16 (fun _ => (0 : EReal)) (fun p y => rows12 m c p y)
    (fun t h y => first12 m c t h y) (fun t h y => step12 m c t h y) (le_of_eq N_0) t0_15 rfl y, zero_add]

end Cert.Mixout
-- ==== Proof.Mixout.RefValue.lean ====
module

public import proofs.«01_k».proof.Proof.Mixout.Rows
public import proofs.«01_k».proof.Proof.Inproj.RefValue
public import proofs.«01_k».proof.Proof.Gen.Reference4Ideal.Run

@[expose] public section

set_option maxRecDepth 16384
noncomputable section

/-! The reference's five gradients of the mixed output, entry by entry. -/

namespace Cert.Mixout.Ref

open Idealize.ShloMosaic Idealize.ShloMosaic.TcCoe Idealize.SL.Sem
open Cert.Reference4Ideal Cert.Reference4Ideal.Gen
open Cert.Retention (col Wide Real')
open Cert.Forward (mean spread)

abbrev Heads := FVec Ideal S8192x4x128 .f32
abbrev PerHead := FVec Ideal S8192x4x1 .f32

def RealW (w : FVec Ideal S1x1024x1024 .f32) : Prop := ∀ i, ∃ r : ℝ, w i = (r : EReal)
def RealD (d : FVec Ideal S8192x1024 .bf16) : Prop := ∀ i, ∃ r : ℝ, d i = (r : EReal)
def RealG (w : FVec Ideal S1x512x1024 .f32) : Prop := ∀ i, ∃ r : ℝ, w i = (r : EReal)
def RealN (n : FVec Ideal S1x512 .f32) : Prop := ∀ i, ∃ r : ℝ, n i = (r : EReal)

section unit
variable (d : FVec Ideal S8192x1024 .bf16) (wo : FVec Ideal S1x1024x1024 .f32) (wg : FVec Ideal S1x512x1024 .f32) (s : Wide .f32)

/-- The gradient at the concatenated outputs. -/
def catR : FVec Ideal S8192x1024 .f32 :=
  Host.dotGeneral (φ₁ := .f32) (φ₂ := .f32) dot_S8192x1024_S1024x1024_S8192x1024_1_1_0_0_n_n none (extf .f32 d bitsLt_bf16_f32)
    (shapeCast _ wo shapeCasts_S1x1024x1024_S1024x1024)

theorem catR_at (i : Fin 8192) (j : Fin 1024) : catR d wo (ix2 i j) = CAT d wo i j := by
  pointwise [catR]
  rfl

def geluR : Wide .f32 :=
  mulf s (mulf (broadcastInDim S8192x512 ![] bcast_S_S8192x512 (constant S_ .f32 0x3F000000#32)) (addf (broadcastInDim S8192x512 ![] bcast_S_S8192x512 (constant S_ .f32 0x3F800000#32))
    (Host.tanh (mulf (broadcastInDim S8192x512 ![] bcast_S_S8192x512 (constant S_ .f32 0x3F4C422A#32)) (addf s
      (mulf (broadcastInDim S8192x512 ![] bcast_S_S8192x512 (Host.divf (constant S_ .f32 0x472EAB00#32) (constant S_ .f32 0x49742400#32))) (mulf (mulf s s) s)))))))

theorem geluR_at (i : Fin 8192) (k : Fin 512) : geluR s (ix2 i k) = gelu (s (ix2 i k)) := by
  rw [← gelu_eq, ← one, ← cubic_eq]
  rfl

def gluR : FVec Ideal S8192x1024 .f32 :=
  Host.dotGeneral (φ₁ := .f32) (φ₂ := .f32) dot_S8192x512_S512x1024_S8192x1024_1_0_0_1_n_n none (geluR s)
    (shapeCast _ wg shapeCasts_S1x512x1024_S512x1024)

theorem gluR_at (i : Fin 8192) (j : Fin 1024) : gluR wg s (ix2 i j) = GLU wg s i j := by
  pointwise [gluR]
  simp only [geluR_at]
  rfl

/-- The logistic function of each entry. -/
def sigR (x : Wide .f32) : Wide .f32 :=
  Host.divf (broadcastInDim S8192x512 ![] bcast_S_S8192x512 (constant S_ .f32 0x3F800000#32)) (addf (broadcastInDim S8192x512 ![] bcast_S_S8192x512 (constant S_ .f32 0x3F800000#32)) (Host.exp (Host.negf x)))

theorem sigR_at (x : Wide .f32) (i : Fin 8192) (j : Fin 512) : sigR x (ix2 i j) = logistic (x (ix2 i j)) := by
  rw [logistic, ← one]
  rfl

def upR (x : FVec Ideal S8192x1024 .f32) : Wide .f32 := extractStridedSlice S8192x512 ![0, 512] x slices_S8192x1024_S8192x512_0_512
def loR (x : FVec Ideal S8192x1024 .f32) : Wide .f32 := extractStridedSlice S8192x512 ![0, 0] x slices_S8192x1024_S8192x512_0_0

theorem upR_at (x : FVec Ideal S8192x1024 .f32) (i : Fin 8192) (j : Fin 512) : upR x (ix2 i j) = x (ix2 i (up j)) := by
  pointwise [upR, up]
theorem loR_at (x : FVec Ideal S8192x1024 .f32) (i : Fin 8192) (j : Fin 512) : loR x (ix2 i j) = x (ix2 i (lo j)) := by
  pointwise [loR, lo]

def lefR : Wide .f32 := mulf (upR (catR d wo)) (sigR (upR (gluR wg s)))
def rigR : Wide .f32 :=
  mulf (mulf (loR (gluR wg s)) (upR (catR d wo)))
    (mulf (sigR (upR (gluR wg s))) (subf (broadcastInDim S8192x512 ![] bcast_S_S8192x512 (constant S_ .f32 0x3F800000#32)) (sigR (upR (gluR wg s)))))

def pairR : FVec Ideal S8192x1024 .f32 :=
  concatenate S8192x1024 1 [⟨S8192x512, lefR d wo wg s⟩, ⟨S8192x512, rigR d wo wg s⟩] concatenates_S8192x512_S8192x512_S8192x1024_d1
def unitR : FVec Ideal S8192x1024 .bf16 := truncf .bf16 (pairR d wo wg s) bitsLt_bf16_f32

theorem lefR_at (i : Fin 8192) (j : Fin 512) : lefR d wo wg s (ix2 i j) = LEF d wo wg s i j := by
  show upR (catR d wo) (ix2 i j) * sigR (upR (gluR wg s)) (ix2 i j) = _
  rw [sigR_at, upR_at, upR_at, catR_at, gluR_at]
  rfl

theorem rigR_at (i : Fin 8192) (j : Fin 512) : rigR d wo wg s (ix2 i j) = RIG d wo wg s i j := by
  show (loR (gluR wg s) (ix2 i j) * upR (catR d wo) (ix2 i j)) * (sigR (upR (gluR wg s)) (ix2 i j)
    * (Ideal.ofBits .f32 0x3F800000#32 - sigR (upR (gluR wg s)) (ix2 i j))) = _
  rw [sigR_at, upR_at, upR_at, loR_at, catR_at, gluR_at, gluR_at, one, RIG, mul_comm (GLU wg s i (lo j)), mul_assoc (_ * _) (logistic _)]

theorem pairR_at (i : Fin 8192) (j : Fin 1024) : pairR d wo wg s (ix2 i j) = UNIT d wo wg s i j := by
  unfold UNIT
  by_cases h : j.val < 512
  · rw [dif_pos h, ← lefR_at]
    pointwise [pairR]
    rw [dif_pos h]
  · rw [dif_neg h, ← rigR_at]
    pointwise [pairR]
    rw [dif_neg h]

theorem unitR_at (i : Fin 8192) (j : Fin 1024) : unitR d wo wg s (ix2 i j) = UNIT d wo wg s i j := pairR_at d wo wg s i j

/-- The gradient at the rectified outputs. -/
def dysR : Wide .f32 :=
  Host.dotGeneral (φ₁ := .f32) (φ₂ := .f32) dot_S8192x1024_S512x1024_S8192x512_1_1_0_0_n_n none (pairR d wo wg s)
    (shapeCast _ wg shapeCasts_S1x512x1024_S512x1024)

theorem dysR_at (i : Fin 8192) (k : Fin 512) : dysR d wo wg s (ix2 i k) = DYS d wo wg s i k := by
  pointwise [dysR]
  simp only [pairR_at]
  rfl

def bendR : Wide .f32 :=
  Host.tanh (mulf (broadcastInDim S8192x512 ![] bcast_S_S8192x512 (constant S_ .f32 0x3F4C422A#32)) (addf s
    (mulf (broadcastInDim S8192x512 ![] bcast_S_S8192x512 (Host.divf (constant S_ .f32 0x472EAB00#32) (constant S_ .f32 0x49742400#32))) (mulf (mulf s s) s))))

theorem bendR_at (i : S8192x512.Idx) : bendR s i = bend (s i) := by
  rw [← bend_eq, ← cubic_eq]
  rfl

/-- What reaches the rectifier's argument through the tanh. -/
def withinR (y : Wide .f32) : Wide .f32 :=
  mulf (broadcastInDim S8192x512 ![] bcast_S_S8192x512 (constant S_ .f32 0x3F4C422A#32))
    (mulf (mulf (broadcastInDim S8192x512 ![] bcast_S_S8192x512 (constant S_ .f32 0x3F000000#32)) (mulf s y))
      (mulf (addf (broadcastInDim S8192x512 ![] bcast_S_S8192x512 (constant S_ .f32 0x3F800000#32)) (bendR s))
        (subf (broadcastInDim S8192x512 ![] bcast_S_S8192x512 (constant S_ .f32 0x3F800000#32)) (bendR s))))

theorem withinR_at (y : Wide .f32) (i : S8192x512.Idx) : withinR s y i = within (y i) (s i) := by
  rw [within, ← bendR_at, ← one]
  rfl

def stateR : Wide .f32 :=
  addf (addf (mulf (dysR d wo wg s) (mulf (broadcastInDim S8192x512 ![] bcast_S_S8192x512 (constant S_ .f32 0x3F000000#32))
      (addf (broadcastInDim S8192x512 ![] bcast_S_S8192x512 (constant S_ .f32 0x3F800000#32)) (bendR s)))) (withinR s (dysR d wo wg s)))
    (mulf (mulf (broadcastInDim S8192x512 ![] bcast_S_S8192x512 (Host.divf (constant S_ .f32 0x472EAB00#32) (constant S_ .f32 0x49742400#32))) (withinR s (dysR d wo wg s)))
      (mulf (broadcastInDim S8192x512 ![] bcast_S_S8192x512 (constant S_ .f32 0x40400000#32)) (mulf s s)))

theorem cat_real (hd : RealD d) (hw : RealW wo) (i : Fin 8192) (j : Fin 1024) : ∃ r : ℝ, CAT d wo i j = (r : EReal) :=
  dot_real _ _ (fun _ => hd _) (fun _ => hw _)

theorem glu_real (hg : RealG wg) (hs : Real' s) (i : Fin 8192) (j : Fin 1024) : ∃ r : ℝ, GLU wg s i j = (r : EReal) :=
  dot_real _ _ (fun k => by obtain ⟨r, hr⟩ := hs (ix2 i k); rw [hr]; exact gelu_real r) (fun _ => hg _)

theorem dys_real (hd : RealD d) (hw : RealW wo) (hg : RealG wg) (hs : Real' s) (i : Fin 8192) (k : Fin 512) :
    ∃ r : ℝ, DYS d wo wg s i k = (r : EReal) := by
  refine dot_real _ _ (fun j => ?_) (fun _ => hg _)
  unfold UNIT
  split
  · obtain ⟨a, ha⟩ := cat_real d wo hd hw i (up ⟨j.val, by assumption⟩)
    obtain ⟨q, hq⟩ := glu_real wg s hg hs i (up ⟨j.val, by assumption⟩)
    rw [LEF, ha, hq]
    exact (unit_real a 0 q).1
  · obtain ⟨a, ha⟩ := cat_real d wo hd hw i (up ⟨j.val - 512, by omega⟩)
    obtain ⟨q, hq⟩ := glu_real wg s hg hs i (up ⟨j.val - 512, by omega⟩)
    obtain ⟨b, hb⟩ := glu_real wg s hg hs i (lo ⟨j.val - 512, by omega⟩)
    rw [RIG, ha, hq, hb]
    exact (unit_real a b q).2

theorem stateR_at (hd : RealD d) (hw : RealW wo) (hg : RealG wg) (hs : Real' s) (i : Fin 8192) (k : Fin 512) :
    stateR d wo wg s (ix2 i k) = STATE d wo wg s i k := by
  show (dysR d wo wg s (ix2 i k) * (Ideal.ofBits .f32 0x3F000000#32 * (Ideal.ofBits .f32 0x3F800000#32 + bendR s (ix2 i k))) + withinR s (dysR d wo wg s) (ix2 i k))
    + (Ideal.div (Ideal.ofBits .f32 0x472EAB00#32) (Ideal.ofBits .f32 0x49742400#32) * withinR s (dysR d wo wg s) (ix2 i k))
      * (Ideal.ofBits .f32 0x40400000#32 * (s (ix2 i k) * s (ix2 i k))) = _
  rw [withinR_at, bendR_at, dysR_at, cubic_eq, one, STATE]
  obtain ⟨y, hy⟩ := dys_real d wo wg s hd hw hg hs i k
  obtain ⟨x, hx⟩ := hs (ix2 i k)
  rw [hy, hx]
  exact atBend_eq y x

end unit

section head
variable (o g : Wide .f32) (n : FVec Ideal S1x512 .f32) (d : FVec Ideal S8192x1024 .bf16) (wo : FVec Ideal S1x1024x1024 .f32)

def byHead (x : Wide .f32) : Heads := shapeCast _ x shapeCasts_S8192x512_S8192x4x128
theorem byHead_at (x : Wide .f32) (i : Fin 8192) (h : Fin 4) (b : Fin 128) : byHead x (ix3 i h b) = x (ix2 i (col h b)) := by
  pointwise [byHead, col]
  exact congrArg x (by
    funext d; fin_cases d
    · rfl
    · exact Fin.ext (by show h.val * 128 + b.val = 128 * h.val + b.val; omega))

def sideways (x : Heads) : Wide .f32 := shapeCast _ x shapeCasts_S8192x4x128_S8192x512
theorem sideways_at (x : Heads) (i : Fin 8192) (h : Fin 4) (b : Fin 128) : sideways x (ix2 i (col h b)) = x (ix3 i h b) := by
  pointwise [sideways, col]

def meanR (x : Heads) : PerHead :=
  Host.divf (broadcastInDim S8192x4x1 ![0, 1] bcast_S8192x4_S8192x4x1_0_1 (Host.reduceAdd x (constant S_ .f32 0x00000000#32) reducesTo_S8192x4x128_S8192x4_d2 h_S_)) (broadcastInDim S8192x4x1 ![] bcast_S_S8192x4x1 (constant S_ .f32 0x43000000#32))

theorem meanR_at (x : Heads) (i : Fin 8192) (h : Fin 4) : meanR x (ix3 i h 0) = mean fun b => x (ix3 i h b) := by
  pointwise [meanR]
  rfl

def along (x : PerHead) : Heads := broadcastInDim S8192x4x128 ![0, 1, 2] bcast_S8192x4x1_S8192x4x128_0_1_2 x
theorem along_at (x : PerHead) (i : Fin 8192) (h : Fin 4) (b : Fin 128) : along x (ix3 i h b) = x (ix3 i h 0) := by
  pointwise [along]

def cenR : Heads := subf (byHead o) (along (meanR (byHead o)))

theorem cenR_at (i : Fin 8192) (h : Fin 4) (b : Fin 128) : cenR o (ix3 i h b) = orow o i h b - mean (orow o i h) := by
  show byHead o (ix3 i h b) - along (meanR (byHead o)) (ix3 i h b) = _
  rw [along_at, meanR_at]
  simp only [byHead_at]
  rfl

def varR : PerHead := addf (meanR (mulf (cenR o) (cenR o))) (broadcastInDim S8192x4x1 ![] bcast_S_S8192x4x1 (constant S_ .f32 0x358637BD#32))

theorem varR_at (i : Fin 8192) (h : Fin 4) : varR o (ix3 i h 0) = spread (orow o i h) + Ideal.ofBits .f32 0x358637BD#32 := by
  show meanR (mulf (cenR o) (cenR o)) (ix3 i h 0) + Ideal.ofBits .f32 0x358637BD#32 = _
  rw [meanR_at]
  have e : (fun b => (mulf (cenR o) (cenR o) : Heads) (ix3 i h b)) = fun b => (orow o i h b - mean (orow o i h)) * (orow o i h b - mean (orow o i h)) :=
    funext fun b => by rw [← cenR_at]; rfl
  rw [e]
  rfl

def rootR : PerHead := Host.rsqrt (varR o)

theorem rootR_at (i : Fin 8192) (h : Fin 4) : rootR o (ix3 i h 0) = root (orow o i h) := by
  show Ideal.rsqrt (varR o (ix3 i h 0)) = _
  rw [varR_at]
  rfl

def normR : Heads := mulf (cenR o) (along (rootR o))

theorem normR_at (i : Fin 8192) (h : Fin 4) (b : Fin 128) : normR o (ix3 i h b) = normed (orow o i h) b := by
  show cenR o (ix3 i h b) * along (rootR o) (ix3 i h b) = _
  rw [cenR_at, along_at, rootR_at]
  rfl

def gainR : FVec Ideal S4x128 .f32 := shapeCast _ (shapeCast _ n shapeCasts_S1x512_S512) shapeCasts_S512_S4x128

theorem gainR_at (h : Fin 4) (b : Fin 128) : gainR n (ix2 h b) = n (ix2 0 (col h b)) := by
  pointwise [gainR]
  exact congrArg n (by
    funext d; fin_cases d
    · rfl
    · exact Fin.ext (by show h.val * 128 + b.val = 128 * h.val + b.val; omega))

def gainsR : Heads := broadcastInDim S8192x4x128 ![0, 1, 2] bcast_S1x4x128_S8192x4x128_0_1_2 (broadcastInDim S1x4x128 ![1, 2] bcast_S4x128_S1x4x128_1_2 (gainR n))

theorem gainsR_at (i : Fin 8192) (h : Fin 4) (b : Fin 128) : gainsR n (ix3 i h b) = n (ix2 0 (col h b)) := by
  rw [← gainR_at n]
  pointwise [gainsR]

/-- The gradient at the gate. -/
def gateR : Wide .bf16 :=
  truncf .bf16 (addf (mulf (mulf (loR (catR d wo)) (sideways (mulf (normR o) (gainsR n)))) (sigR g))
    (mulf (mulf g (mulf (loR (catR d wo)) (sideways (mulf (normR o) (gainsR n)))))
      (mulf (sigR g) (subf (broadcastInDim S8192x512 ![] bcast_S_S8192x512 (constant S_ .f32 0x3F800000#32)) (sigR g))))) bitsLt_bf16_f32

theorem gateR_at (hd : RealD d) (hw : RealW wo) (hg : Real' g) (hn : RealN n) (i : Fin 8192) (h : Fin 4) (b : Fin 128) :
    gateR o g n d wo (ix2 i (col h b)) = GATE d wo o g n i (col h b) := by
  show (loR (catR d wo) (ix2 i (col h b)) * sideways (mulf (normR o) (gainsR n)) (ix2 i (col h b))) * sigR g (ix2 i (col h b))
    + (g (ix2 i (col h b)) * (loR (catR d wo) (ix2 i (col h b)) * sideways (mulf (normR o) (gainsR n)) (ix2 i (col h b))))
      * (sigR g (ix2 i (col h b)) * (Ideal.ofBits .f32 0x3F800000#32 - sigR g (ix2 i (col h b)))) = _
  have e : sideways (mulf (normR o) (gainsR n)) (ix2 i (col h b)) = normed (orow o i h) b * n (ix2 0 (col h b)) := by
    rw [sideways_at, ← normR_at, ← gainsR_at n i]; rfl
  rw [e, sigR_at, loR_at, catR_at, one, GATE, hd_col, ft_col]
  obtain ⟨r, hr⟩ := cat_real d wo hd hw i (lo (col h b))
  obtain ⟨q, hq⟩ := hg (ix2 i (col h b))
  obtain ⟨p, hp⟩ := hn (ix2 0 (col h b))
  rw [hr, hq, hp]
  exact atGate_eq _ _ _ _ (normed_real _ _)

/-- The gradient at a gated entry before its gain, head by head. -/
def gatedR : Heads := byHead (mulf (mulf g (sigR g)) (loR (catR d wo)))

theorem gatedR_at (i : Fin 8192) (h : Fin 4) (b : Fin 128) : gatedR g d wo (ix3 i h b) = GATED d wo g i (col h b) := by
  rw [gatedR, byHead_at]
  show (g (ix2 i (col h b)) * sigR g (ix2 i (col h b))) * loR (catR d wo) (ix2 i (col h b)) = _
  rw [sigR_at, loR_at, catR_at, mul_comm]
  rfl

def donR : Heads := mulf (gatedR g d wo) (gainsR n)

theorem donR_at (i : Fin 8192) (h : Fin 4) (b : Fin 128) : donR g n d wo (ix3 i h b) = GATED d wo g i (col h b) * n (ix2 0 (col h b)) := by
  rw [← gatedR_at, ← gainsR_at n i]
  rfl

/-- A sum along each head's row, and a head's number along its row. -/
def sumR (x : Heads) : PerHead :=
  shapeCast _ (Host.reduceAdd x (constant S_ .f32 0x00000000#32) reducesTo_S8192x4x128_S8192x4_d2 h_S_) shapeCasts_S8192x4_S8192x4x1

theorem sumR_at (x : Heads) (i : Fin 8192) (h : Fin 4) : sumR x (ix3 i h 0) = ∑ b : Fin 128, x (ix3 i h b) := by
  pointwise [sumR]

def backR (x : PerHead) : Heads :=
  broadcastInDim S8192x4x128 ![0, 1] bcast_S8192x4_S8192x4x128_0_1
    (Host.reduceAdd (Host.divf x (broadcastInDim S8192x4x1 ![] bcast_S_S8192x4x1 (constant S_ .f32 0x43000000#32))) (constant S_ .f32 0x00000000#32) reducesTo_S8192x4x1_S8192x4_d2 h_S_)

theorem backR_at (x : PerHead) (i : Fin 8192) (h : Fin 4) (b : Fin 128) :
    backR x (ix3 i h b) = Ideal.div (x (ix3 i h 0)) (Ideal.ofBits .f32 0x43000000#32) := by
  pointwise [backR]
  exact Fin.sum_univ_one _

def spreadR (x : Heads) : Heads :=
  backR (mulf (sumR (mulf (cenR o) x)) (mulf (broadcastInDim S8192x4x1 ![] bcast_S_S8192x4x1 (constant S_ .f32 0xBF000000#32)) (Host.divf (rootR o) (varR o))))

theorem spreadR_at (x : Heads) (i : Fin 8192) (h : Fin 4) (b : Fin 128) : spreadR o x (ix3 i h b) = viaSpread (orow o i h) fun b => x (ix3 i h b) := by
  rw [spreadR, backR_at]
  show Ideal.div (sumR (mulf (cenR o) x) (ix3 i h 0) * (Ideal.ofBits .f32 0xBF000000#32 * Ideal.div (rootR o (ix3 i h 0)) (varR o (ix3 i h 0)))) _ = _
  rw [sumR_at, rootR_at, varR_at, viaSpread]
  have e : ∀ b, (mulf (cenR o) x : Heads) (ix3 i h b) = (orow o i h b - mean (orow o i h)) * x (ix3 i h b) := fun b => by rw [← cenR_at]; rfl
  simp only [e]

/-- The step back through the mean square. -/
def stepR (x : Heads) : Heads :=
  mulf (spreadR o x) (mulf (broadcastInDim S8192x4x128 ![] bcast_S_S8192x4x128 (constant S_ .f32 0x40000000#32)) (cenR o))

theorem stepR_at (x : Heads) (i : Fin 8192) (h : Fin 4) (b : Fin 128) : stepR o x (ix3 i h b)
    = viaSpread (orow o i h) (fun b => x (ix3 i h b)) * (Ideal.ofBits .f32 0x40000000#32 * (orow o i h b - mean (orow o i h))) := by
  rw [← spreadR_at o x i h b, ← cenR_at]
  rfl

def rowH (x : Heads) : Heads :=
  addf (addf (mulf x (along (rootR o))) (stepR o x))
    (backR (addf (sumR (Host.negf (mulf x (along (rootR o))))) (sumR (Host.negf (stepR o x)))))

def rowR (x : Heads) : Wide .bf16 := truncf .bf16 (sideways (rowH o x)) bitsLt_bf16_f32

theorem rowR_at (x : Heads) (i : Fin 8192) (h : Fin 4) (b : Fin 128) (hx : ∀ b, ∃ r : ℝ, x (ix3 i h b) = (r : EReal)) :
    rowR o x (ix2 i (col h b)) = atRow (orow o i h) (fun b => x (ix3 i h b)) b := by
  show sideways (rowH o x) (ix2 i (col h b)) = _
  rw [sideways_at]
  show (x (ix3 i h b) * along (rootR o) (ix3 i h b) + stepR o x (ix3 i h b)) + backR _ (ix3 i h b) = _
  rw [backR_at]
  show _ + Ideal.div (sumR _ (ix3 i h 0) + sumR _ (ix3 i h 0)) _ = _
  rw [sumR_at, sumR_at]
  have e1 : ∀ b, (Host.negf (mulf x (along (rootR o))) : Heads) (ix3 i h b) = -(x (ix3 i h b) * root (orow o i h)) := fun b => by
    rw [← rootR_at, ← along_at (rootR o) i h b]; rfl
  have e2 : ∀ b, (Host.negf (stepR o x) : Heads) (ix3 i h b)
      = -(viaSpread (orow o i h) (fun b => x (ix3 i h b)) * (Ideal.ofBits .f32 0x40000000#32 * (orow o i h b - mean (orow o i h)))) := fun b => by
    rw [← stepR_at]; rfl
  simp only [e1, e2]
  rw [along_at, rootR_at, stepR_at]
  choose u hu using hx
  have e3 : (fun b => x (ix3 i h b)) = fun b => (u b : EReal) := funext hu
  rw [e3, hu b]
  simp only [hu]
  exact atRow_eq _ u b

/-- The gradient at the retention's output. -/
theorem doR_at (hd : RealD d) (hw : RealW wo) (hg : Real' g) (hn : RealN n) (i : Fin 8192) (h : Fin 4) (b : Fin 128) :
    rowR o (donR g n d wo) (ix2 i (col h b)) = ROW d wo o g n i (col h b) := by
  rw [rowR_at, ROW, hd_col, ft_col]
  · refine congrArg (fun f => atRow _ f _) (funext fun b => donR_at _ _ _ _ _ _ _)
  · intro b
    rw [donR_at, GATED]
    obtain ⟨r, hr⟩ := cat_real d wo hd hw i (lo (col h b))
    obtain ⟨q, hq⟩ := hg (ix2 i (col h b))
    obtain ⟨p, hp⟩ := hn (ix2 0 (col h b))
    obtain ⟨s, hs⟩ := logistic_real q
    rw [hr, hq, hp, hs]
    exact ⟨r * (q * s) * p, by norm_cast⟩

/-- The gradient at the gains. -/
def sumsR (x : Heads) : FVec Ideal S1x512 .f32 :=
  broadcastInDim S1x512 ![1] bcast_S512_S1x512_1 (shapeCast _ (Host.reduceAdd (shapeCast _ (Host.reduceAdd x (constant S_ .f32 0x00000000#32)
    reducesTo_S8192x4x128_S4x128_d0 h_S_) shapeCasts_S4x128_S1x4x128) (constant S_ .f32 0x00000000#32) reducesTo_S1x4x128_S4x128_d0 h_S_) shapeCasts_S4x128_S512)

theorem sumsR_at (x : Heads) (h : Fin 4) (b : Fin 128) : sumsR x (ix2 0 (col h b)) = ∑ i : Fin 8192, x (ix3 i h b) := by
  pointwise [sumsR, col]
  exact Fin.sum_univ_one _

def dgR : FVec Ideal S1x512 .f32 := sumsR (mulf (normR o) (gatedR g d wo))

theorem dgR_at (h : Fin 4) (b : Fin 128) : dgR o g d wo (ix2 0 (col h b)) = ∑ i : Fin 8192, GAIN d wo o g i (col h b) := by
  refine (sumsR_at _ h b).trans (Finset.sum_congr rfl fun i _ => ?_)
  show normR o (ix3 i h b) * gatedR g d wo (ix3 i h b) = _
  rw [normR_at, gatedR_at, GAIN, hd_col, ft_col, mul_comm]

end head

variable (m : (ℓ : Loc nD τ sig) → Buf (Elt Ideal) ℓ) (c : Dev nD)

abbrev aD : FVec Ideal S8192x1024 .bf16 := m ((c.tc : Thread nD τ).loc main_arg0)
abbrev aWO : FVec Ideal S1x1024x1024 .f32 := m ((c.tc : Thread nD τ).loc main_arg1)
abbrev aWG : FVec Ideal S1x512x1024 .f32 := m ((c.tc : Thread nD τ).loc main_arg2)
abbrev aS : Wide .f32 := m ((c.tc : Thread nD τ).loc main_arg3)
abbrev aO : Wide .f32 := m ((c.tc : Thread nD τ).loc main_arg4)
abbrev aG : Wide .f32 := m ((c.tc : Thread nD τ).loc main_arg5)
abbrev aN : FVec Ideal S1x512 .f32 := m ((c.tc : Thread nD τ).loc main_arg6)

/-- The five results, and the arguments as they were. -/
theorem stages (ρ : Dev nD → PrngReg) :
    θ_run defs (onTc (τ := τ) (main (F := Ideal))) ⟨m, fun _ => 0, ρ⟩ fun r => ∀ c : Dev nD,
      r.2.mem ((c.tc : Thread nD τ).loc main_v116) = unitR (aD m c) (aWO m c) (aWG m c) (aS m c)
      ∧ r.2.mem ((c.tc : Thread nD τ).loc main_v129) = stateR (aD m c) (aWO m c) (aWG m c) (aS m c)
      ∧ r.2.mem ((c.tc : Thread nD τ).loc main_v130) = gateR (aO m c) (aG m c) (aN m c) (aD m c) (aWO m c)
      ∧ r.2.mem ((c.tc : Thread nD τ).loc main_v131) = rowR (aO m c) (donR (aG m c) (aN m c) (aD m c) (aWO m c))
      ∧ r.2.mem ((c.tc : Thread nD τ).loc main_v114) = dgR (aO m c) (aG m c) (aD m c) (aWO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2.1.trans rfl, (h c).2.2.2.1.trans rfl, (h c).2.2.2.2.1.trans rfl, (h c).2.2.2.2.2⟩) (Value.run m ρ)

end Cert.Mixout.Ref
-- ==== Proof.Forward.Body.lean ====
module

public import proofs.«01_k».proof.Proof.Forward.Ops

@[expose] public section

set_option maxRecDepth 16384
noncomputable section

/-! What a grid point of the kernel stores: for each head and each of its two chunks the rows of the output and of its gated form, the state the
chunk starts from, and each head's next state. -/

namespace Cert.Forward

open Idealize.ShloMosaic Idealize.ShloMosaic.TcCoe Idealize.SL.Sem
open Cert.Kernel6Ideal Cert.Kernel6Ideal.Gen
open Idealize.ShloMosaic.Pipeline (Dat)
open Cert.Retention (Rows State same stepOp toScratch ofScratch rowsOf decayOf weightOf chunkOf headOf off_head own_head skip_head)

/-- The gate's part of one head and one chunk, and a head's gains. -/
def gateOf (x : FVec Ideal S512x512 .f32) (hh : Fin 4) (cc : Fin 2) : Rows .f32 :=
  View.ld (Val := Elt Ideal) (e' := .f32) x (Rect.unit (s := S512x512) ![256 * cc.val, 128 * hh.val] ![256, 128] (by
    have := hh.isLt; have := cc.isLt
    intro a; fin_cases a
    · show 256 * cc.val + 256 ≤ 512; omega
    · show 128 * hh.val + 128 ≤ 512; omega))

def gainOf (x : FVec Ideal S1x512 .f32) (hh : Fin 4) : FVec Ideal S1x128 .f32 :=
  View.ld (Val := Elt Ideal) (e' := .f32) x (Rect.unit (s := S1x512) ![0, 128 * hh.val] ![1, 128] (by
    have := hh.isLt
    intro a; fin_cases a
    · show 0 + 1 ≤ 1; omega
    · show 128 * hh.val + 128 ≤ 512; omega))

variable (m : (ℓ : Loc nD τ sig) → Buf (Elt Ideal) ℓ) (c : Dev nD) (t : Fin cfg0.N)

/-- One head's state after one chunk, and the state either chunk starts from. -/
def stepB (hh : Fin 4) (cc : Fin 2) (g : State .f32) : State .f32 :=
  stepOp (chunkOf (iblk m c 8 t) hh) (weightOf (iblk m c 7 t) hh) g (rowsOf (iblk m c 1 t) hh cc) (same (rowsOf (iblk m c 2 t) hh cc))

def startB (hh : Fin 4) (g : State .f32) : Fin 2 → State .f32
  | 0 => g
  | 1 => stepB m c t hh 0 g

/-- What is stored for one head and one chunk, given each head's state at the point's start. -/
def oB (g : Fin 4 → State .f32) (hh : Fin 4) (cc : Fin 2) : Rows .f32 :=
  outOp (decayOf (iblk m c 5 t) hh) (weightOf (iblk m c 6 t) hh) (startB m c t hh (g hh) cc)
    (rowsOf (iblk m c 0 t) hh cc) (rowsOf (iblk m c 1 t) hh cc) (rowsOf (iblk m c 2 t) hh cc)

def yB (g : Fin 4 → State .f32) (hh : Fin 4) (cc : Fin 2) : Rows .bf16 :=
  gateOp (oB m c t g hh cc) (gateOf (iblk m c 3 t) hh cc) (gainOf (iblk m c 4 t) hh)

def rB (g : Fin 4 → State .f32) (hh : Fin 4) (cc : Fin 2) : FVec Ideal S1x1x128x128 .f32 := toSaved (startB m c t hh (g hh) cc)

def nextB (g : Fin 4 → State .f32) (hh : Fin 4) : FVec Ideal S1x128x128 .f32 := toScratch (stepB m c t hh 1 (startB m c t hh (g hh) 1))

/-- The states at a point's start: what the scratch held, and zero at the first point. -/
def heldB (x : FVec Ideal S4x128x128 .f32) (hh : Fin 4) : State .f32 := ofScratch (headOf x hh)
def zeroB (_ : Fin 4) : State .f32 := ofScratch fun _ => 0

/-- An entry of a stored tile is the entry of the tile of its own head and chunk. -/
theorem of_tile {φ : FTy} (B : Fin 4 → Fin 2 → Rows φ) (y : S512x512.Idx) (h' : Fin 4) (c' : Fin 2) (x : S256x128.Idx)
    (hh : Fin 4) (cc : Fin 2) (i : Fin 256) (a : Fin 128) (e0 : (y 0 : ℕ) = 256 * c'.val + (x 0 : ℕ)) (e1 : (y 1 : ℕ) = 128 * h'.val + (x 1 : ℕ))
    (h0 : (y 0 : ℕ) = 256 * cc.val + i.val) (h1 : (y 1 : ℕ) = 128 * hh.val + a.val) : B h' c' x = B hh cc (ix2 i a) := by
  have x0 : (x 0 : ℕ) < 256 := (x 0).isLt
  have x1 : (x 1 : ℕ) < 128 := (x 1).isLt
  have := i.isLt; have := a.isLt
  obtain rfl : h' = hh := Fin.ext (by omega)
  obtain rfl : c' = cc := Fin.ext (by omega)
  obtain rfl : x = ix2 i a := by
    funext b; fin_cases b
    · exact Fin.ext (by show (x 0 : ℕ) = i.val; omega)
    · exact Fin.ext (by show (x 1 : ℕ) = a.val; omega)
  rfl

/-- The same for a saved state. -/
theorem of_saved (B : Fin 4 → Fin 2 → FVec Ideal S1x1x128x128 .f32) (y : S4x2x128x128.Idx) (h' : Fin 4) (c' : Fin 2) (x : S1x1x128x128.Idx)
    (hh : Fin 4) (cc : Fin 2) (a b : Fin 128) (e0 : (y 0 : ℕ) = h'.val + (x 0 : ℕ)) (e1 : (y 1 : ℕ) = c'.val + (x 1 : ℕ))
    (e2 : (y 2 : ℕ) = (x 2 : ℕ)) (e3 : (y 3 : ℕ) = (x 3 : ℕ)) (h0 : (y 0 : ℕ) = hh.val) (h1 : (y 1 : ℕ) = cc.val) (h2 : (y 2 : ℕ) = a.val)
    (h3 : (y 3 : ℕ) = b.val) : B h' c' x = B hh cc (ix4 0 0 a b) := by
  have x0 : (x 0 : ℕ) < 1 := (x 0).isLt
  have x1 : (x 1 : ℕ) < 1 := (x 1).isLt
  obtain rfl : h' = hh := Fin.ext (by omega)
  obtain rfl : c' = cc := Fin.ext (by omega)
  obtain rfl : x = ix4 0 0 a b := by
    funext d; fin_cases d
    · exact Fin.ext (by show (x 0 : ℕ) = 0; omega)
    · exact Fin.ext (by show (x 1 : ℕ) = 0; omega)
    · exact Fin.ext (by show (x 2 : ℕ) = a.val; omega)
    · exact Fin.ext (by show (x 3 : ℕ) = b.val; omega)
  rfl

theorem of_head (B : Fin 4 → FVec Ideal S1x128x128 .f32) (y : S4x128x128.Idx) (h' : Fin 4) (x : S1x128x128.Idx)
    (hh : Fin 4) (a b : Fin 128) (e0 : (y 0 : ℕ) = h'.val + (x 0 : ℕ)) (e1 : (y 1 : ℕ) = (x 1 : ℕ)) (e2 : (y 2 : ℕ) = (x 2 : ℕ))
    (h0 : (y 0 : ℕ) = hh.val) (h1 : (y 1 : ℕ) = a.val) (h2 : (y 2 : ℕ) = b.val) : B h' x = B hh (ix3 0 a b) :=
  Cert.Retention.of_head B y h' x hh a b e0 e1 e2 h0 h1 h2

/-- The states left by the point before. -/
abbrev before : FVec Ideal S4x128x128 .f32 :=
  (outsAt0 m c (t.val - 1) (Nat.lt_of_le_of_lt (Nat.sub_le _ _) t.isLt)).2.2.2

/-- What the first point reads of a head: the zeros it has stored over the whole scratch, which the stores of earlier heads leave. -/
abbrev zeros : View.Piece (Elt Ideal) S4x128x128 .f32 := ⟨Rect.unit (s := S4x128x128) ![0, 0, 0] ![4, 128, 128] inb_S4x128x128_S4x128x128_0_0_0, k0_pay3 (F := Ideal)⟩

theorem canon_zeros : View.canon [zeros] = fun _ => (0 : EReal) := by
  refine (View.canon_cons_unit_lit (Val := Elt Ideal) (e := .f32) (S := S4x128x128) inb_S4x128x128_S4x128x128_0_0_0 (k0_pay3 (F := Ideal)) [] (by decide)).trans ?_
  funext y
  pointwise [k0_pay3]

theorem back (L : List (View.Piece (Elt Ideal) S4x128x128 .f32)) (hh : Fin 4)
    (inb : ∀ a, (![hh.val, 0, 0] : Fin 3 → ℕ) a + (![1, 128, 128] : Fin 3 → ℕ) a ≤ S4x128x128.size a)
    (hL : ∀ y : S4x128x128.Idx, (y 0 : ℕ) = hh.val → View.canon L y = (0 : EReal)) :
    (View.whole cc0_scratch0).readCov L (Rect.unit (s := S4x128x128) ![hh.val, 0, 0] ![1, 128, 128] inb).toLoadRect = fun _ => (0 : EReal) := by
  rw [View.readCov_eq_canon']
  funext x
  have : (x 0 : ℕ) < 1 := (x 0).isLt
  exact hL _ (by show hh.val + 1 * (x 0 : ℕ) = hh.val; omega)

theorem back0 : (View.whole cc0_scratch0).readCov [zeros]
    (Rect.unit (s := S4x128x128) ![0, 0, 0] ![1, 128, 128] inb_S4x128x128_S1x128x128_0_0_0).toLoadRect = fun _ => (0 : EReal) :=
  back [zeros] 0 inb_S4x128x128_S1x128x128_0_0_0 fun y _ => congrFun canon_zeros y

variable (p0 p1 p2 : FVec Ideal S1x128x128 .f32)

abbrev held1 : List (View.Piece (Elt Ideal) S4x128x128 .f32) :=
  [⟨Rect.unit (s := S4x128x128) ![0, 0, 0] ![1, 128, 128] inb_S4x128x128_S1x128x128_0_0_0, p0⟩, zeros]
abbrev held2 : List (View.Piece (Elt Ideal) S4x128x128 .f32) :=
  ⟨Rect.unit (s := S4x128x128) ![1, 0, 0] ![1, 128, 128] inb_S4x128x128_S1x128x128_1_0_0, p1⟩ :: held1 p0
abbrev held3 : List (View.Piece (Elt Ideal) S4x128x128 .f32) :=
  ⟨Rect.unit (s := S4x128x128) ![2, 0, 0] ![1, 128, 128] inb_S4x128x128_S1x128x128_2_0_0, p2⟩ :: held2 p0 p1

theorem canon1 (y : S4x128x128.Idx) (hy : 0 < (y 0 : ℕ)) : View.canon (held1 p0) y = (0 : EReal) :=
  (off_head 0 _ p0 _ y hy).trans (congrFun canon_zeros y)
theorem canon2 (y : S4x128x128.Idx) (hy : 1 < (y 0 : ℕ)) : View.canon (held2 p0 p1) y = (0 : EReal) :=
  (off_head 1 _ p1 _ y hy).trans (canon1 p0 y (by omega))
theorem canon3 (y : S4x128x128.Idx) (hy : 2 < (y 0 : ℕ)) : View.canon (held3 p0 p1 p2) y = (0 : EReal) :=
  (off_head 2 _ p2 _ y hy).trans (canon2 p0 p1 y (by omega))

theorem back1 : (View.whole cc0_scratch0).readCov (held1 p0)
    (Rect.unit (s := S4x128x128) ![1, 0, 0] ![1, 128, 128] inb_S4x128x128_S1x128x128_1_0_0).toLoadRect = fun _ => (0 : EReal) :=
  back (held1 p0) 1 inb_S4x128x128_S1x128x128_1_0_0 fun y hy => canon1 p0 y (by rw [hy]; decide)
theorem back2 : (View.whole cc0_scratch0).readCov (held2 p0 p1)
    (Rect.unit (s := S4x128x128) ![2, 0, 0] ![1, 128, 128] inb_S4x128x128_S1x128x128_2_0_0).toLoadRect = fun _ => (0 : EReal) :=
  back (held2 p0 p1) 2 inb_S4x128x128_S1x128x128_2_0_0 fun y hy => canon2 p0 p1 y (by rw [hy]; decide)
theorem back3 : (View.whole cc0_scratch0).readCov (held3 p0 p1 p2)
    (Rect.unit (s := S4x128x128) ![3, 0, 0] ![1, 128, 128] inb_S4x128x128_S1x128x128_3_0_0).toLoadRect = fun _ => (0 : EReal) :=
  back (held3 p0 p1 p2) 3 inb_S4x128x128_S1x128x128_3_0_0 fun y hy => canon3 p0 p1 p2 y (by rw [hy]; decide)

theorem canon_heads (P : Fin 4 → FVec Ideal S1x128x128 .f32) (y : S4x128x128.Idx) (hh : Fin 4) (a b : Fin 128) (h0 : (y 0 : ℕ) = hh.val)
    (h1 : (y 1 : ℕ) = a.val) (h2 : (y 2 : ℕ) = b.val) :
    View.canon (⟨Rect.unit (s := S4x128x128) ![3, 0, 0] ![1, 128, 128] inb_S4x128x128_S1x128x128_3_0_0, P 3⟩ :: held3 (P 0) (P 1) (P 2)) y
      = P hh (ix3 0 a b) := by
  by_cases e3 : (y 0 : ℕ) = 3
  · obtain rfl : hh = 3 := Fin.ext (h0.symm.trans e3)
    exact own_head 3 _ _ _ y a b e3 h1 h2
  refine (skip_head 3 _ _ _ y (Ne.symm e3)).trans ?_
  by_cases e2 : (y 0 : ℕ) = 2
  · obtain rfl : hh = 2 := Fin.ext (h0.symm.trans e2)
    exact own_head 2 _ _ _ y a b e2 h1 h2
  refine (skip_head 2 _ _ _ y (Ne.symm e2)).trans ?_
  by_cases e1 : (y 0 : ℕ) = 1
  · obtain rfl : hh = 1 := Fin.ext (h0.symm.trans e1)
    exact own_head 1 _ _ _ y a b e1 h1 h2
  refine (skip_head 1 _ _ _ y (Ne.symm e1)).trans ?_
  have e0 : (y 0 : ℕ) = 0 := by have := hh.isLt; omega
  obtain rfl : hh = 0 := Fin.ext (h0.symm.trans e0)
  exact own_head 0 _ _ _ y a b e0 h1 h2

end Cert.Forward
-- ==== Proof.Forward.Host.lean ====
module

public import proofs.«01_k».proof.Proof.Forward.Body

@[expose] public section

set_option maxRecDepth 16384
noncomputable section

/-! The arrays the kernel's call takes, entry by entry, as the host prepares them from the arguments. -/

namespace Cert.Forward

open Idealize.ShloMosaic Idealize.ShloMosaic.TcCoe Idealize.SL.Sem
open Cert.Kernel6Ideal Cert.Kernel6Ideal.Gen
open Cert.Retention (Wide Real' row row_at' col num lg lg_formula W w W_formula xi_of zeta_of gc_of)
variable (m : (ℓ : Loc nD τ sig) → Buf (Elt Ideal) ℓ) (c : Dev nD)

abbrev kq : Wide .f32 := m (c, Proc.devRef .tc main_arg0)
abbrev kk : Wide .f32 := m (c, Proc.devRef .tc main_arg1)
abbrev kv : Wide .f32 := m (c, Proc.devRef .tc main_arg2)
abbrev kg : Wide .f32 := m (c, Proc.devRef .tc main_arg3)
abbrev kn : FVec Ideal S1x512 .f32 := m (c, Proc.devRef .tc main_arg4)

/-- All of the host's lines before the call. -/
abbrev hostAll : List (HloOp τ sig (Elt Ideal)) := List.flatten [hostOps0, hostOps0_1, hostOps0_2, hostOps0_3, hostOps0_4]
abbrev part (n : ℕ) (r : Ref sig .tc) : r.ty.Contents (Elt Ideal) := StableHlo.upto hostAll (fun b => m (c, b)) n (Proc.devRef .tc r)

theorem lin_lo (h : Fin 3) : (part m c 25 main_call0_v15 : FVec Ideal S3 .f32) (ix1 h)
    = Ideal.ofBits .f32 0xC05DCE9E#32 * (1 - Ideal.div (num h.val) (Ideal.ofBits .f32 0x40400000#32))
        + Ideal.ofBits .f32 0xC0C7A05B#32 * Ideal.div (num h.val) (Ideal.ofBits .f32 0x40400000#32) := by
  unfold part
  after_reads_at
  rfl

theorem lin_hi (h : Fin 1) : (part m c 25 main_call0_v16 : FVec Ideal S1 .f32) (ix1 h) = Ideal.ofBits .f32 0xC0C7A05B#32 := by
  unfold part
  after_reads_at
  rfl

/-- The logarithm of a head's decay, as the host's lines hold it. -/
theorem lg_read (h : Fin 4) : Ideal.log (1 - Ideal.exp (if h1 : h.val < 3 then (part m c 25 main_call0_v15 : FVec Ideal S3 .f32) (ix1 ⟨h.val, h1⟩)
      else (part m c 25 main_call0_v16 : FVec Ideal S1 .f32) (ix1 ⟨h.val - 3, by have := h.isLt; omega⟩))) = ((lg h : ℝ) : EReal) := by
  refine Eq.trans (congrArg (fun x => Ideal.log (1 - Ideal.exp x)) ?_) (lg_formula h)
  by_cases hh : h.val < 3
  · rw [dif_pos hh, if_pos hh]; exact lin_lo m c ⟨h.val, hh⟩
  · rw [dif_neg hh, if_neg hh]; exact lin_hi m c _

theorem q_at (hx : Real' (kq m c)) (t : Fin 8192) (h : Fin 4) (a : Fin 128) (b : Fin 512) (hb : b.val = 128 * h.val + a.val) :
    (V m c main_v0 : Wide .bf16) (ix2 t b) = ((row (kq m c) h t.val a : ℝ) : EReal) := by
  unfold V
  after_reads_at
  exact row_at' hx t b h t.val a rfl hb

theorem k_at (hx : Real' (kk m c)) (t : Fin 8192) (h : Fin 4) (a : Fin 128) (b : Fin 512) (hb : b.val = 128 * h.val + a.val) :
    (V m c main_v1 : Wide .bf16) (ix2 t b) = ((row (kk m c) h t.val a : ℝ) : EReal) := by
  unfold V
  after_reads_at
  exact row_at' hx t b h t.val a rfl hb

theorem v_at (hx : Real' (kv m c)) (t : Fin 8192) (h : Fin 4) (a : Fin 128) (b : Fin 512) (hb : b.val = 128 * h.val + a.val) :
    (V m c main_v2 : Wide .bf16) (ix2 t b) = ((row (kv m c) h t.val a : ℝ) : EReal) := by
  unfold V
  after_reads_at
  exact row_at' hx t b h t.val a rfl hb

theorem decay_at (h : Fin 4) (i j : Fin 256) : (V m c main_v25 : FVec Ideal S4x256x256 .f32) (ix3 h i j) = ((W (lg h) i.val j.val : ℝ) : EReal) := by
  unfold V
  after_reads_at
  refine Eq.trans ?_ (W_formula (lg h) i.val j.val (by have := i.isLt; omega) (by have := j.isLt; omega))
  by_cases hh : (0 : EReal) ≤ num i.val - num j.val
  · refine (if_pos hh).trans (Eq.trans ?_ (if_pos hh).symm)
    exact congrArg (fun x => Ideal.exp (max (num i.val - num j.val) 0 * x)) (lg_read m c h)
  · refine (if_neg hh).trans (Eq.trans ?_ (if_neg hh).symm)
    show Ideal.ofBits .f32 0x00000000#32 = 0
    simp [Ideal.ofBits, Ideal.ieee]

theorem xi_at (h : Fin 4) (i : Fin 256) (b : Fin 128) :
    (V m c main_v48 : FVec Ideal S4x256x128 .f32) (ix3 h i b) = ((w (lg h) ((i.val : ℝ) + 1) : ℝ) : EReal) := by
  unfold V
  after_reads_at
  exact xi_of h i.val (by have := i.isLt; omega) _ (lg_read m c h)

theorem zeta_at (h : Fin 4) (i : Fin 256) (b : Fin 128) :
    (V m c main_v50 : FVec Ideal S4x256x128 .f32) (ix3 h i b) = ((w (lg h) ((256 : ℝ) - 1 - (i.val : ℝ)) : ℝ) : EReal) := by
  unfold V
  after_reads_at
  exact zeta_of h i.val (by have := i.isLt; omega) _ (lg_read m c h)

theorem gc_at (h : Fin 4) (i : Fin 8) (b : Fin 128) :
    (V m c main_v46 : FVec Ideal S4x8x128 .f32) (ix3 h i b) = ((w (lg h) (256 : ℝ) : ℝ) : EReal) := by
  unfold V
  after_reads_at
  exact gc_of h _ (lg_read m c h)

end Cert.Forward
-- ==== Proof.Forward.Blocks.lean ====
module

public import proofs.«01_k».proof.Proof.Forward.Host

@[expose] public section

set_option maxRecDepth 16384
noncomputable section

/-! What the blocks of a grid point hold, head by head and chunk by chunk. Point `t` works on the chunks `2 t` and `2 t + 1`. -/

namespace Cert.Forward

open Idealize.ShloMosaic Idealize.ShloMosaic.TcCoe Idealize.SL.Sem
open Cert.Kernel6Ideal Cert.Kernel6Ideal.Gen
open Cert.Retention (Wide Real' row row_at' col num lg W w rowsOf decayOf weightOf chunkOf headOf)
variable (m : (ℓ : Loc nD τ sig) → Buf (Elt Ideal) ℓ) (c : Dev nD) (t : Fin cfg0.N)

theorem blocks_at : ∀ t : Fin cfg0.N,
    win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0, 0]
    ∧ win0_6.index t = ![0, 0, 0]
    ∧ win0_7.index t = ![0, 0, 0]
    ∧ win0_8.index t = ![0, 0, 0]
    ∧ win0_9.index t = ![t.val, 0]
    ∧ win0_10.index t = ![t.val, 0]
    ∧ win0_11.index t = ![0, t.val, 0, 0] :=
  (by decide +kernel : ∀ t : Fin grid0.N, _)

/-- The chunk a point works on, and a position of it. -/
def chunkNo (cc : Fin 2) : ℕ := 2 * t.val + cc.val
theorem chunkNo_lt (cc : Fin 2) : chunkNo t cc < 32 := by have := cc.isLt; have : t.val < 16 := t.isLt; unfold chunkNo; omega
def pos (cc : Fin 2) (i : Fin 256) : Fin 8192 := ⟨256 * chunkNo t cc + i.val, by have := chunkNo_lt t cc; have := i.isLt; omega⟩

theorem block0 (y : S512x512.Idx) (i : Fin 8192) (j : Fin 512) (hi : i.val = 512 * t.val + (y 0 : ℕ)) (hj : j = y 1) :
    (iblk m c 0 t : FVec Ideal S512x512 .bf16) y = (V m c main_v0 : Wide .bf16) (ix2 i j) := by
  subst hj
  blk_point [iblk, blocks_at t]

theorem block1 (y : S512x512.Idx) (i : Fin 8192) (j : Fin 512) (hi : i.val = 512 * t.val + (y 0 : ℕ)) (hj : j = y 1) :
    (iblk m c 1 t : FVec Ideal S512x512 .bf16) y = (V m c main_v1 : Wide .bf16) (ix2 i j) := by
  subst hj
  blk_point [iblk, blocks_at t]

theorem block2 (y : S512x512.Idx) (i : Fin 8192) (j : Fin 512) (hi : i.val = 512 * t.val + (y 0 : ℕ)) (hj : j = y 1) :
    (iblk m c 2 t : FVec Ideal S512x512 .bf16) y = (V m c main_v2 : Wide .bf16) (ix2 i j) := by
  subst hj
  blk_point [iblk, blocks_at t]

theorem block3 (y : S512x512.Idx) (i : Fin 8192) (j : Fin 512) (hi : i.val = 512 * t.val + (y 0 : ℕ)) (hj : j = y 1) :
    (iblk m c 3 t : FVec Ideal S512x512 .f32) y = (V m c main_arg3 : Wide .f32) (ix2 i j) := by
  subst hj
  blk_point [iblk, blocks_at t]

theorem block4 (y : S1x512.Idx) : (iblk m c 4 t : FVec Ideal S1x512 .f32) y = (V m c main_arg4 : FVec Ideal S1x512 .f32) y := by
  idx_vars y
  blk_point [iblk, blocks_at t]

theorem block5 (y : S4x256x256.Idx) : (iblk m c 5 t : FVec Ideal S4x256x256 .f32) y = (V m c main_v25 : FVec Ideal S4x256x256 .f32) y := by
  idx_vars y
  blk_point [iblk, blocks_at t]

theorem block6 (y : S4x256x128.Idx) : (iblk m c 6 t : FVec Ideal S4x256x128 .f32) y = (V m c main_v48 : FVec Ideal S4x256x128 .f32) y := by
  idx_vars y
  blk_point [iblk, blocks_at t]

theorem block7 (y : S4x256x128.Idx) : (iblk m c 7 t : FVec Ideal S4x256x128 .f32) y = (V m c main_v50 : FVec Ideal S4x256x128 .f32) y := by
  idx_vars y
  blk_point [iblk, blocks_at t]

theorem block8 (y : S4x8x128.Idx) : (iblk m c 8 t : FVec Ideal S4x8x128 .f32) y = (V m c main_v46 : FVec Ideal S4x8x128 .f32) y := by
  idx_vars y
  blk_point [iblk, blocks_at t]

variable (hh : Fin 4) (cc : Fin 2) (i : Fin 256) (a b : Fin 128)

theorem q_row (hx : Real' (kq m c)) : rowsOf (iblk m c 0 t) hh cc (ix2 i a) = ((row (kq m c) hh (pos t cc i).val a : ℝ) : EReal) :=
  (block0 m c t _ (pos t cc i) (col hh a) (by show 256 * (2 * t.val + cc.val) + i.val = 512 * t.val + (256 * cc.val + 1 * i.val); omega)
    (Fin.ext (by show 128 * hh.val + a.val = 128 * hh.val + 1 * a.val; omega))).trans (q_at m c hx (pos t cc i) hh a (col hh a) rfl)

theorem k_row (hx : Real' (kk m c)) : rowsOf (iblk m c 1 t) hh cc (ix2 i a) = ((row (kk m c) hh (pos t cc i).val a : ℝ) : EReal) :=
  (block1 m c t _ (pos t cc i) (col hh a) (by show 256 * (2 * t.val + cc.val) + i.val = 512 * t.val + (256 * cc.val + 1 * i.val); omega)
    (Fin.ext (by show 128 * hh.val + a.val = 128 * hh.val + 1 * a.val; omega))).trans (k_at m c hx (pos t cc i) hh a (col hh a) rfl)

theorem v_row (hx : Real' (kv m c)) : rowsOf (iblk m c 2 t) hh cc (ix2 i a) = ((row (kv m c) hh (pos t cc i).val a : ℝ) : EReal) :=
  (block2 m c t _ (pos t cc i) (col hh a) (by show 256 * (2 * t.val + cc.val) + i.val = 512 * t.val + (256 * cc.val + 1 * i.val); omega)
    (Fin.ext (by show 128 * hh.val + a.val = 128 * hh.val + 1 * a.val; omega))).trans (v_at m c hx (pos t cc i) hh a (col hh a) rfl)

theorem g_row : gateOf (iblk m c 3 t) hh cc (ix2 i a) = kg m c (ix2 (pos t cc i) (col hh a)) :=
  (block3 m c t _ (pos t cc i) (col hh a) (by show 256 * (2 * t.val + cc.val) + i.val = 512 * t.val + (256 * cc.val + 1 * i.val); omega)
    (Fin.ext (by show 128 * hh.val + a.val = 128 * hh.val + 1 * a.val; omega))).trans (congrFun (V_main_arg3 m c) _)

theorem n_row : gainOf (iblk m c 4 t) hh (ix2 0 a) = kn m c (ix2 0 (col hh a)) :=
  (block4 m c t _).trans ((congrFun (V_main_arg4 m c) _).trans (congrArg (kn m c) (by
    funext d; fin_cases d
    · exact Fin.ext (by show 0 + 1 * 0 = 0; omega)
    · exact Fin.ext (by show 128 * hh.val + 1 * a.val = 128 * hh.val + a.val; omega))))

theorem decay_row (j : Fin 256) : decayOf (iblk m c 5 t) hh (ix3 0 i j) = ((W (lg hh) i.val j.val : ℝ) : EReal) :=
  (block5 m c t _).trans (Eq.trans (congrArg (V m c main_v25 : FVec Ideal S4x256x256 .f32) (by
    funext d; fin_cases d
    · exact Fin.ext (by show hh.val + 1 * 0 = hh.val; omega)
    · exact Fin.ext (by show 0 + 1 * i.val = i.val; omega)
    · exact Fin.ext (by show 0 + 1 * j.val = j.val; omega))) (decay_at m c hh i j))

theorem xi_row : weightOf (iblk m c 6 t) hh (ix3 0 i a) = ((w (lg hh) ((i.val : ℝ) + 1) : ℝ) : EReal) :=
  (block6 m c t _).trans (Eq.trans (congrArg (V m c main_v48 : FVec Ideal S4x256x128 .f32) (by
    funext d; fin_cases d
    · exact Fin.ext (by show hh.val + 1 * 0 = hh.val; omega)
    · exact Fin.ext (by show 0 + 1 * i.val = i.val; omega)
    · exact Fin.ext (by show 0 + 1 * a.val = a.val; omega))) (xi_at m c hh i a))

theorem zeta_row : weightOf (iblk m c 7 t) hh (ix3 0 i a) = ((w (lg hh) ((256 : ℝ) - 1 - (i.val : ℝ)) : ℝ) : EReal) :=
  (block7 m c t _).trans (Eq.trans (congrArg (V m c main_v50 : FVec Ideal S4x256x128 .f32) (by
    funext d; fin_cases d
    · exact Fin.ext (by show hh.val + 1 * 0 = hh.val; omega)
    · exact Fin.ext (by show 0 + 1 * i.val = i.val; omega)
    · exact Fin.ext (by show 0 + 1 * a.val = a.val; omega))) (zeta_at m c hh i a))

theorem gc_row : chunkOf (iblk m c 8 t) hh (ix3 0 0 b) = ((w (lg hh) (256 : ℝ) : ℝ) : EReal) :=
  (block8 m c t _).trans (Eq.trans (congrArg (V m c main_v46 : FVec Ideal S4x8x128 .f32) (by
    funext d; fin_cases d
    · exact Fin.ext (by show hh.val + 1 * 0 = hh.val; omega)
    · exact Fin.ext (by show 0 + 1 * 0 = 0; omega)
    · exact Fin.ext (by show 0 + 1 * b.val = b.val; omega))) (gc_at m c hh 0 b))

end Cert.Forward
-- ==== Proof.Forward.Points.lean ====
module

public import proofs.«01_k».proof.Proof.Forward.Blocks

@[expose] public section

set_option maxRecDepth 16384
noncomputable section

/-! What a grid point stores, as the entries of the output, its gated form and the states, and the state it hands on. -/

namespace Cert.Forward

open Idealize.ShloMosaic Idealize.ShloMosaic.TcCoe Idealize.SL.Sem
open Cert.Kernel6Ideal Cert.Kernel6Ideal.Gen
open Cert.Retention (Wide Real' row col lg W w fwd dot rowsOf State ofScratch ofScratch_at toScratch_at same_at stepOp_at
  times plus mix_of dot_of)
variable (m : (ℓ : Loc nD τ sig) → Buf (Elt Ideal) ℓ) (c : Dev nD) (t : Fin cfg0.N)
variable (hh : Fin 4) (cc : Fin 2) (i : Fin 256) (a b : Fin 128)

theorem pos_val : (pos t cc i).val = 256 * chunkNo t cc + i.val := rfl

/-- The states before chunk `p`. -/
def IsState (p : ℕ) (g : State .f32) (hh : Fin 4) : Prop :=
  ∀ a b, g (ix2 a b) = ((stateR (kk m c) (kv m c) hh p a b : ℝ) : EReal)

variable (hq : Real' (kq m c)) (hk : Real' (kk m c)) (hv : Real' (kv m c))

include hk hv in
theorem step_state (g : State .f32) (hg : IsState m c (chunkNo t cc) g hh) : IsState m c (chunkNo t cc + 1) (stepB m c t hh cc g) hh := by
  intro a b
  refine (stepOp_at _ _ _ _ _ a b).trans ?_
  refine Eq.trans (plus (times (gc_row m c t hh b) (hg a b)) (mix_of _ _ _ _ (fun i => k_row m c t hh cc i a hk)
    (fun i => times ((same_at _ i b).trans (v_row m c t hh cc i b hv)) (zeta_row m c t hh i b)))) ?_
  unfold stateR
  rw [fwd, Finset.sum_range]
  refine congrArg _ (congrArg₂ (· + ·) (by push_cast; rfl) (Finset.sum_congr rfl fun i _ => ?_))
  rw [pos_val]
  push_cast
  ring

variable (g : Fin 4 → State .f32) (hg : ∀ hh, IsState m c (2 * t.val) (g hh) hh)
include hk hv hg

theorem start_state : IsState m c (chunkNo t cc) (startB m c t hh (g hh) cc) hh := by
  fin_cases cc
  · exact hg hh
  · exact step_state m c t hh 0 hk hv (g hh) (hg hh)

theorem next_state : IsState m c (2 * (t.val + 1)) (ofScratch (nextB m c t g hh)) hh := by
  have s := step_state m c t hh 1 hk hv _ (start_state m c t hh 1 hk hv g hg)
  intro a b
  exact (ofScratch_at _ a b).trans ((toScratch_at _ a b).trans (s a b))

theorem r_row : rB m c t g hh cc (ix4 0 0 a b) = ((stateR (kk m c) (kv m c) hh (chunkNo t cc) a b : ℝ) : EReal) :=
  (toSaved_at _ a b).trans (start_state m c t hh cc hk hv g hg a b)

include hq in
theorem o_row : oB m c t g hh cc (ix2 i b) = ((outR (kq m c) (kk m c) (kv m c) hh (pos t cc i).val b : ℝ) : EReal) := by
  have e := out_chunk (lg hh) (row (kq m c) hh) (row (kk m c) hh) (row (kv m c) hh) 256 32 (chunkNo t cc) i.val (chunkNo_lt t cc) i.isLt b
  rw [Finset.sum_range] at e
  refine (outOp_at _ _ _ _ _ _ i b).trans ?_
  refine Eq.trans (plus (mix_of _ _ _ _ (fun j => times (dot_of _ _ _ _ (fun a => q_row m c t hh cc i a hq) (fun a => k_row m c t hh cc j a hk)) (decay_row m c t hh i j))
    (fun j => v_row m c t hh cc j b hv))
    (times (mix_of _ _ _ _ (fun a => q_row m c t hh cc i a hq) (fun a => start_state m c t hh cc hk hv g hg a b)) (xi_row m c t hh i b))) ?_
  exact congrArg _ e.symm

include hq in
theorem y_row : yB m c t g hh cc (ix2 i b) = gateR (kq m c) (kk m c) (kv m c) hh (kg m c (ix2 (pos t cc i) (col hh b)))
    (kn m c (ix2 0 (col hh b))) (pos t cc i).val b := by
  refine (gateOp_at _ _ _ i b).trans ?_
  rw [g_row, n_row, show (fun b => oB m c t g hh cc (ix2 i b)) = fun b => ((outR (kq m c) (kk m c) (kv m c) hh (pos t cc i).val b : ℝ) : EReal) from
    funext fun b => o_row m c t hh cc i b hq hk hv g hg]
  rfl

end Cert.Forward
-- ==== Proof.Forward.First.lean ====
module

public import proofs.«01_k».proof.Proof.Forward.Body

@[expose] public section

set_option maxRecDepth 16384
noncomputable section

/-! What the kernel stores at the first grid point. -/

namespace Cert.Forward

open Idealize.ShloMosaic Idealize.ShloMosaic.TcCoe Idealize.SL.Sem
open Cert.Kernel6Ideal Cert.Kernel6Ideal.Gen
open Idealize.ShloMosaic.Pipeline (Dat)

variable (m : (ℓ : Loc nD τ sig) → Buf (Elt Ideal) ℓ) (c : Dev nD) (t : Fin cfg0.N)

set_option maxHeartbeats 4000000 in
theorem o_first (h : t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).1 y = oB m c t zeroB hh cc (ix2 i a) := by
  rw [outsAt0_A m c t h]; frame_out
  canon_tiles x hx
  all_goals (try rw [back3]); (try rw [back2]); (try rw [back1]); (try rw [back0])
  · exact of_tile (oB m c t zeroB) y 3 1 x hh cc i a (by simpa using hx0) (by simpa using hx1) h0 h1
  · exact of_tile (oB m c t zeroB) y 3 0 x hh cc i a (by simpa using hx0) (by simpa using hx1) h0 h1
  · exact of_tile (oB m c t zeroB) y 2 1 x hh cc i a (by simpa using hx0) (by simpa using hx1) h0 h1
  · exact of_tile (oB m c t zeroB) y 2 0 x hh cc i a (by simpa using hx0) (by simpa using hx1) h0 h1
  · exact of_tile (oB m c t zeroB) y 1 1 x hh cc i a (by simpa using hx0) (by simpa using hx1) h0 h1
  · exact of_tile (oB m c t zeroB) y 1 0 x hh cc i a (by simpa using hx0) (by simpa using hx1) h0 h1
  · exact of_tile (oB m c t zeroB) y 0 1 x hh cc i a (by simpa using hx0) (by simpa using hx1) h0 h1
  · exact of_tile (oB m c t zeroB) y 0 0 x hh cc i a (by simpa using hx0) (by simpa using hx1) h0 h1

set_option maxHeartbeats 4000000 in
theorem y_first (h : t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.1 y = yB m c t zeroB hh cc (ix2 i a) := by
  rw [outsAt0_A m c t h]; frame_out
  canon_tiles x hx
  all_goals (try rw [back3]); (try rw [back2]); (try rw [back1]); (try rw [back0])
  · exact of_tile (yB m c t zeroB) y 3 1 x hh cc i a (by simpa using hx0) (by simpa using hx1) h0 h1
  · exact of_tile (yB m c t zeroB) y 3 0 x hh cc i a (by simpa using hx0) (by simpa using hx1) h0 h1
  · exact of_tile (yB m c t zeroB) y 2 1 x hh cc i a (by simpa using hx0) (by simpa using hx1) h0 h1
  · exact of_tile (yB m c t zeroB) y 2 0 x hh cc i a (by simpa using hx0) (by simpa using hx1) h0 h1
  · exact of_tile (yB m c t zeroB) y 1 1 x hh cc i a (by simpa using hx0) (by simpa using hx1) h0 h1
  · exact of_tile (yB m c t zeroB) y 1 0 x hh cc i a (by simpa using hx0) (by simpa using hx1) h0 h1
  · exact of_tile (yB m c t zeroB) y 0 1 x hh cc i a (by simpa using hx0) (by simpa using hx1) h0 h1
  · exact of_tile (yB m c t zeroB) y 0 0 x hh cc i a (by simpa using hx0) (by simpa using hx1) h0 h1

set_option maxHeartbeats 4000000 in
theorem r_first (h : t.val % 16 = 0) (y : S4x2x128x128.Idx) (hh : Fin 4) (cc : Fin 2) (a b : Fin 128)
    (h0 : (y 0 : ℕ) = hh.val) (h1 : (y 1 : ℕ) = cc.val) (h2 : (y 2 : ℕ) = a.val) (h3 : (y 3 : ℕ) = b.val) :
    (outsAt0 m c t.val t.isLt).2.2.1 y = rB m c t zeroB hh cc (ix4 0 0 a b) := by
  rw [outsAt0_A m c t h]; frame_out
  canon_tiles x hx
  all_goals (try rw [back3]); (try rw [back2]); (try rw [back1]); (try rw [back0])
  · exact of_saved (rB m c t zeroB) y 3 1 x hh cc a b (by simpa using hx0) (by simpa using hx1) (by simpa using hx2) (by simpa using hx3) h0 h1 h2 h3
  · exact of_saved (rB m c t zeroB) y 3 0 x hh cc a b (by simpa using hx0) (by simpa using hx1) (by simpa using hx2) (by simpa using hx3) h0 h1 h2 h3
  · exact of_saved (rB m c t zeroB) y 2 1 x hh cc a b (by simpa using hx0) (by simpa using hx1) (by simpa using hx2) (by simpa using hx3) h0 h1 h2 h3
  · exact of_saved (rB m c t zeroB) y 2 0 x hh cc a b (by simpa using hx0) (by simpa using hx1) (by simpa using hx2) (by simpa using hx3) h0 h1 h2 h3
  · exact of_saved (rB m c t zeroB) y 1 1 x hh cc a b (by simpa using hx0) (by simpa using hx1) (by simpa using hx2) (by simpa using hx3) h0 h1 h2 h3
  · exact of_saved (rB m c t zeroB) y 1 0 x hh cc a b (by simpa using hx0) (by simpa using hx1) (by simpa using hx2) (by simpa using hx3) h0 h1 h2 h3
  · exact of_saved (rB m c t zeroB) y 0 1 x hh cc a b (by simpa using hx0) (by simpa using hx1) (by simpa using hx2) (by simpa using hx3) h0 h1 h2 h3
  · exact of_saved (rB m c t zeroB) y 0 0 x hh cc a b (by simpa using hx0) (by simpa using hx1) (by simpa using hx2) (by simpa using hx3) h0 h1 h2 h3

set_option maxHeartbeats 4000000 in
theorem next_first (h : t.val % 16 = 0) (y : S4x128x128.Idx) (hh : Fin 4) (a b : Fin 128) (h0 : (y 0 : ℕ) = hh.val) (h1 : (y 1 : ℕ) = a.val) (h2 : (y 2 : ℕ) = b.val) :
    (outsAt0 m c t.val t.isLt).2.2.2 y = nextB m c t zeroB hh (ix3 0 a b) := by
  rw [outsAt0_A m c t h]; frame_out
  rw [back3, back2, back1, back0]
  exact canon_heads (nextB m c t zeroB) y hh a b h0 h1 h2

end Cert.Forward
-- ==== Proof.Forward.Later.lean ====
module

public import proofs.«01_k».proof.Proof.Forward.Body

@[expose] public section

set_option maxRecDepth 16384
noncomputable section

/-! What the kernel stores at a grid point after the first. -/

namespace Cert.Forward

open Idealize.ShloMosaic Idealize.ShloMosaic.TcCoe Idealize.SL.Sem
open Cert.Kernel6Ideal Cert.Kernel6Ideal.Gen
open Idealize.ShloMosaic.Pipeline (Dat)

variable (m : (ℓ : Loc nD τ sig) → Buf (Elt Ideal) ℓ) (c : Dev nD) (t : Fin cfg0.N)

set_option maxHeartbeats 4000000 in
theorem o_later (h : ¬ t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).1 y = oB m c t (heldB (before m c t)) hh cc (ix2 i a) := by
  rw [outsAt0_B m c t h]; frame_out
  canon_tiles x hx
  all_goals rw [read_unread_whole]
  · exact of_tile (oB m c t (heldB (before m c t))) y 3 1 x hh cc i a (by simpa using hx0) (by simpa using hx1) h0 h1
  · exact of_tile (oB m c t (heldB (before m c t))) y 3 0 x hh cc i a (by simpa using hx0) (by simpa using hx1) h0 h1
  · exact of_tile (oB m c t (heldB (before m c t))) y 2 1 x hh cc i a (by simpa using hx0) (by simpa using hx1) h0 h1
  · exact of_tile (oB m c t (heldB (before m c t))) y 2 0 x hh cc i a (by simpa using hx0) (by simpa using hx1) h0 h1
  · exact of_tile (oB m c t (heldB (before m c t))) y 1 1 x hh cc i a (by simpa using hx0) (by simpa using hx1) h0 h1
  · exact of_tile (oB m c t (heldB (before m c t))) y 1 0 x hh cc i a (by simpa using hx0) (by simpa using hx1) h0 h1
  · exact of_tile (oB m c t (heldB (before m c t))) y 0 1 x hh cc i a (by simpa using hx0) (by simpa using hx1) h0 h1
  · exact of_tile (oB m c t (heldB (before m c t))) y 0 0 x hh cc i a (by simpa using hx0) (by simpa using hx1) h0 h1

set_option maxHeartbeats 4000000 in
theorem y_later (h : ¬ t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.1 y = yB m c t (heldB (before m c t)) hh cc (ix2 i a) := by
  rw [outsAt0_B m c t h]; frame_out
  canon_tiles x hx
  all_goals rw [read_unread_whole]
  · exact of_tile (yB m c t (heldB (before m c t))) y 3 1 x hh cc i a (by simpa using hx0) (by simpa using hx1) h0 h1
  · exact of_tile (yB m c t (heldB (before m c t))) y 3 0 x hh cc i a (by simpa using hx0) (by simpa using hx1) h0 h1
  · exact of_tile (yB m c t (heldB (before m c t))) y 2 1 x hh cc i a (by simpa using hx0) (by simpa using hx1) h0 h1
  · exact of_tile (yB m c t (heldB (before m c t))) y 2 0 x hh cc i a (by simpa using hx0) (by simpa using hx1) h0 h1
  · exact of_tile (yB m c t (heldB (before m c t))) y 1 1 x hh cc i a (by simpa using hx0) (by simpa using hx1) h0 h1
  · exact of_tile (yB m c t (heldB (before m c t))) y 1 0 x hh cc i a (by simpa using hx0) (by simpa using hx1) h0 h1
  · exact of_tile (yB m c t (heldB (before m c t))) y 0 1 x hh cc i a (by simpa using hx0) (by simpa using hx1) h0 h1
  · exact of_tile (yB m c t (heldB (before m c t))) y 0 0 x hh cc i a (by simpa using hx0) (by simpa using hx1) h0 h1

set_option maxHeartbeats 4000000 in
theorem r_later (h : ¬ t.val % 16 = 0) (y : S4x2x128x128.Idx) (hh : Fin 4) (cc : Fin 2) (a b : Fin 128)
    (h0 : (y 0 : ℕ) = hh.val) (h1 : (y 1 : ℕ) = cc.val) (h2 : (y 2 : ℕ) = a.val) (h3 : (y 3 : ℕ) = b.val) :
    (outsAt0 m c t.val t.isLt).2.2.1 y = rB m c t (heldB (before m c t)) hh cc (ix4 0 0 a b) := by
  rw [outsAt0_B m c t h]; frame_out
  canon_tiles x hx
  all_goals rw [read_unread_whole]
  · exact of_saved (rB m c t (heldB (before m c t))) y 3 1 x hh cc a b (by simpa using hx0) (by simpa using hx1) (by simpa using hx2) (by simpa using hx3) h0 h1 h2 h3
  · exact of_saved (rB m c t (heldB (before m c t))) y 3 0 x hh cc a b (by simpa using hx0) (by simpa using hx1) (by simpa using hx2) (by simpa using hx3) h0 h1 h2 h3
  · exact of_saved (rB m c t (heldB (before m c t))) y 2 1 x hh cc a b (by simpa using hx0) (by simpa using hx1) (by simpa using hx2) (by simpa using hx3) h0 h1 h2 h3
  · exact of_saved (rB m c t (heldB (before m c t))) y 2 0 x hh cc a b (by simpa using hx0) (by simpa using hx1) (by simpa using hx2) (by simpa using hx3) h0 h1 h2 h3
  · exact of_saved (rB m c t (heldB (before m c t))) y 1 1 x hh cc a b (by simpa using hx0) (by simpa using hx1) (by simpa using hx2) (by simpa using hx3) h0 h1 h2 h3
  · exact of_saved (rB m c t (heldB (before m c t))) y 1 0 x hh cc a b (by simpa using hx0) (by simpa using hx1) (by simpa using hx2) (by simpa using hx3) h0 h1 h2 h3
  · exact of_saved (rB m c t (heldB (before m c t))) y 0 1 x hh cc a b (by simpa using hx0) (by simpa using hx1) (by simpa using hx2) (by simpa using hx3) h0 h1 h2 h3
  · exact of_saved (rB m c t (heldB (before m c t))) y 0 0 x hh cc a b (by simpa using hx0) (by simpa using hx1) (by simpa using hx2) (by simpa using hx3) h0 h1 h2 h3

set_option maxHeartbeats 4000000 in
theorem next_later (h : ¬ t.val % 16 = 0) (y : S4x128x128.Idx) (hh : Fin 4) (a b : Fin 128) (h0 : (y 0 : ℕ) = hh.val) (h1 : (y 1 : ℕ) = a.val) (h2 : (y 2 : ℕ) = b.val) :
    (outsAt0 m c t.val t.isLt).2.2.2 y = nextB m c t (heldB (before m c t)) hh (ix3 0 a b) := by
  rw [outsAt0_B m c t h]; frame_out
  canon_tiles x hx
  all_goals rw [read_unread_whole]
  · exact of_head (nextB m c t (heldB (before m c t))) y 3 x hh a b (by simpa using hx0) (by simpa using hx1) (by simpa using hx2) h0 h1 h2
  · exact of_head (nextB m c t (heldB (before m c t))) y 2 x hh a b (by simpa using hx0) (by simpa using hx1) (by simpa using hx2) h0 h1 h2
  · exact of_head (nextB m c t (heldB (before m c t))) y 1 x hh a b (by simpa using hx0) (by simpa using hx1) (by simpa using hx2) h0 h1 h2
  · exact of_head (nextB m c t (heldB (before m c t))) y 0 x hh a b (by simpa using hx0) (by simpa using hx1) (by simpa using hx2) h0 h1 h2

end Cert.Forward
-- ==== Proof.Retention.Later.lean ====
module

public import proofs.«01_k».proof.Proof.Retention.Body

@[expose] public section

set_option maxRecDepth 16384
noncomputable section

/-! What the kernel stores at a grid point after the first. -/

namespace Cert.Retention

open Idealize.ShloMosaic Idealize.ShloMosaic.TcCoe Idealize.SL.Sem
open Cert.Kernel5Ideal Cert.Kernel5Ideal.Gen
open Idealize.ShloMosaic.Pipeline (Dat)

variable (m : (ℓ : Loc nD τ sig) → Buf (Elt Ideal) ℓ) (c : Dev nD) (t : Fin cfg0.N)

set_option maxHeartbeats 4000000 in
theorem dq_later (h : ¬ t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).1 y = dqB m c t hh cc (ix2 i a) := by
  rw [outsAt0_B m c t h]; frame_out
  canon_tiles x hx
  · exact of_tile (dqB m c t) y 3 0 x hh cc i a (by simpa using hx0) (by simpa using hx1) h0 h1
  · exact of_tile (dqB m c t) y 3 1 x hh cc i a (by simpa using hx0) (by simpa using hx1) h0 h1
  · exact of_tile (dqB m c t) y 2 0 x hh cc i a (by simpa using hx0) (by simpa using hx1) h0 h1
  · exact of_tile (dqB m c t) y 2 1 x hh cc i a (by simpa using hx0) (by simpa using hx1) h0 h1
  · exact of_tile (dqB m c t) y 1 0 x hh cc i a (by simpa using hx0) (by simpa using hx1) h0 h1
  · exact of_tile (dqB m c t) y 1 1 x hh cc i a (by simpa using hx0) (by simpa using hx1) h0 h1
  · exact of_tile (dqB m c t) y 0 0 x hh cc i a (by simpa using hx0) (by simpa using hx1) h0 h1
  · exact of_tile (dqB m c t) y 0 1 x hh cc i a (by simpa using hx0) (by simpa using hx1) h0 h1

set_option maxHeartbeats 4000000 in
theorem dk_later (h : ¬ t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.1 y = dkB m c t (heldB (before m c t)) hh cc (ix2 i a) := by
  rw [outsAt0_B m c t h]; frame_out
  canon_tiles x hx
  all_goals rw [read_unread_whole]
  · exact of_tile (dkB m c t (heldB (before m c t))) y 3 0 x hh cc i a (by simpa using hx0) (by simpa using hx1) h0 h1
  · exact of_tile (dkB m c t (heldB (before m c t))) y 3 1 x hh cc i a (by simpa using hx0) (by simpa using hx1) h0 h1
  · exact of_tile (dkB m c t (heldB (before m c t))) y 2 0 x hh cc i a (by simpa using hx0) (by simpa using hx1) h0 h1
  · exact of_tile (dkB m c t (heldB (before m c t))) y 2 1 x hh cc i a (by simpa using hx0) (by simpa using hx1) h0 h1
  · exact of_tile (dkB m c t (heldB (before m c t))) y 1 0 x hh cc i a (by simpa using hx0) (by simpa using hx1) h0 h1
  · exact of_tile (dkB m c t (heldB (before m c t))) y 1 1 x hh cc i a (by simpa using hx0) (by simpa using hx1) h0 h1
  · exact of_tile (dkB m c t (heldB (before m c t))) y 0 0 x hh cc i a (by simpa using hx0) (by simpa using hx1) h0 h1
  · exact of_tile (dkB m c t (heldB (before m c t))) y 0 1 x hh cc i a (by simpa using hx0) (by simpa using hx1) h0 h1

set_option maxHeartbeats 4000000 in
theorem dv_later (h : ¬ t.val % 16 = 0) (y : S512x512.Idx) (hh : Fin 4) (cc : Fin 2) (i : Fin 256) (a : Fin 128)
    (h0 : (y 0 : ℕ) = 256 * cc.val + i.val) (h1 : (y 1 : ℕ) = 128 * hh.val + a.val) :
    (outsAt0 m c t.val t.isLt).2.2.1 y = dvB m c t (heldB (before m c t)) hh cc (ix2 i a) := by
  rw [outsAt0_B m c t h]; frame_out
  canon_tiles x hx
  all_goals rw [read_unread_whole]
  · exact of_tile (dvB m c t (heldB (before m c t))) y 3 0 x hh cc i a (by simpa using hx0) (by simpa using hx1) h0 h1
  · exact of_tile (dvB m c t (heldB (before m c t))) y 3 1 x hh cc i a (by simpa using hx0) (by simpa using hx1) h0 h1
  · exact of_tile (dvB m c t (heldB (before m c t))) y 2 0 x hh cc i a (by simpa using hx0) (by simpa using hx1) h0 h1
  · exact of_tile (dvB m c t (heldB (before m c t))) y 2 1 x hh cc i a (by simpa using hx0) (by simpa using hx1) h0 h1
  · exact of_tile (dvB m c t (heldB (before m c t))) y 1 0 x hh cc i a (by simpa using hx0) (by simpa using hx1) h0 h1
  · exact of_tile (dvB m c t (heldB (before m c t))) y 1 1 x hh cc i a (by simpa using hx0) (by simpa using hx1) h0 h1
  · exact of_tile (dvB m c t (heldB (before m c t))) y 0 0 x hh cc i a (by simpa using hx0) (by simpa using hx1) h0 h1
  · exact of_tile (dvB m c t (heldB (before m c t))) y 0 1 x hh cc i a (by simpa using hx0) (by simpa using hx1) h0 h1

set_option maxHeartbeats 4000000 in
theorem next_later (h : ¬ t.val % 16 = 0) (y : S4x128x128.Idx) (hh : Fin 4) (a b : Fin 128) (h0 : (y 0 : ℕ) = hh.val) (h1 : (y 1 : ℕ) = a.val) (h2 : (y 2 : ℕ) = b.val) :
    (outsAt0 m c t.val t.isLt).2.2.2 y = nextB m c t (heldB (before m c t)) hh (ix3 0 a b) := by
  rw [outsAt0_B m c t h]; frame_out
  canon_tiles x hx
  all_goals rw [read_unread_whole]
  · exact of_head (nextB m c t (heldB (before m c t))) y 3 x hh a b (by simpa using hx0) (by simpa using hx1) (by simpa using hx2) h0 h1 h2
  · exact of_head (nextB m c t (heldB (before m c t))) y 2 x hh a b (by simpa using hx0) (by simpa using hx1) (by simpa using hx2) h0 h1 h2
  · exact of_head (nextB m c t (heldB (before m c t))) y 1 x hh a b (by simpa using hx0) (by simpa using hx1) (by simpa using hx2) h0 h1 h2
  · exact of_head (nextB m c t (heldB (before m c t))) y 0 x hh a b (by simpa using hx0) (by simpa using hx1) (by simpa using hx2) h0 h1 h2

end Cert.Retention
-- ==== Proof.Retention.Finals.lean ====
module

public import proofs.«01_k».proof.Proof.Retention.Points
public import proofs.«01_k».proof.Proof.Retention.First
public import proofs.«01_k».proof.Proof.Retention.Later

@[expose] public section

set_option maxRecDepth 16384
noncomputable section

/-! The three gradients after the run. -/

namespace Cert.Retention

open Idealize.ShloMosaic Idealize.ShloMosaic.TcCoe Idealize.SL.Sem
open Cert.Kernel5Ideal Cert.Kernel5Ideal.Gen
open Idealize.ShloMosaic.Pipeline (Dat)
variable (m : (ℓ : Loc nD τ sig) → Buf (Elt Ideal) ℓ) (c : Dev nD)

/-- An array given head by head. -/
def wide (f : Fin 4 → ℕ → Fin 128 → ℝ) (i : Fin 8192) (j : Fin 512) : EReal :=
  ((f ⟨j.val / 128, by have := j.isLt; omega⟩ i.val ⟨j.val % 128, Nat.mod_lt _ (by decide)⟩ : ℝ) : EReal)

theorem wide_at (f : Fin 4 → ℕ → Fin 128 → ℝ) (i : Fin 8192) (j : Fin 512) (h : Fin 4) (a : Fin 128) (n : ℕ) (hn : n = i.val) (hj : j.val = 128 * h.val + a.val) :
    ((f h n a : ℝ) : EReal) = wide f i j := by
  subst hn
  have := a.isLt
  unfold wide
  congr 2
  · exact Fin.ext (by show h.val = j.val / 128; omega)
  · exact Fin.ext (by show a.val = j.val % 128; omega)

/-- Each head's state at a point's start. -/
def atStart (t : Fin cfg0.N) : Fin 4 → State .f32 := if t.val % 16 = 0 then zeroB else heldB (before m c t)

section states
variable (hq : Real' (kq m c)) (hd : Real' (kd m c))
include hq hd

theorem held_state : ∀ (n : ℕ) (hn : n < cfg0.N) (hh : Fin 4), IsState m c (2 * n) (atStart m c ⟨n, hn⟩ hh) hh := by
  intro n
  induction n with
  | zero =>
    intro hn hh a b
    show (if 0 % 16 = 0 then zeroB else _) hh (ix2 a b) = _
    rw [if_pos (by decide)]
    exact ofScratch_at _ a b
  | succ n ih =>
    intro hn hh
    have hn' : n < cfg0.N := Nat.lt_of_succ_lt hn
    have h16 : n + 1 < 16 := hn
    have s := next_state m c ⟨n, hn'⟩ hh hq hd (atStart m c ⟨n, hn'⟩) (ih hn')
    intro a b
    refine Eq.trans ?_ (s a b)
    show (if (n + 1) % 16 = 0 then zeroB else heldB (before m c ⟨n + 1, hn⟩)) hh (ix2 a b) = _
    rw [if_neg (by omega), ofScratch_at]
    refine (ofScratch_at _ a b).trans ?_
    let y : S4x128x128.Idx := (Rect.unit (s := S4x128x128) ![hh.val, 0, 0] ![1, 128, 128] (by
      have := hh.isLt
      intro d; fin_cases d
      · show hh.val + 1 ≤ 4; omega
      · show 0 + 128 ≤ 128; omega
      · show 0 + 128 ≤ 128; omega)).idx (ix3 0 a b)
    show (outsAt0 m c n _).2.2.2 y = _
    have y0 : (y 0 : ℕ) = hh.val := by show hh.val + 1 * 0 = hh.val; omega
    have y1 : (y 1 : ℕ) = a.val := by show 0 + 1 * a.val = a.val; omega
    have y2 : (y 2 : ℕ) = b.val := by show 0 + 1 * b.val = b.val; omega
    unfold atStart
    by_cases h : n % 16 = 0
    · rw [if_pos h]; exact next_first m c ⟨n, hn'⟩ h y hh a b y0 y1 y2
    · rw [if_neg h]; exact next_later m c ⟨n, hn'⟩ h y hh a b y0 y1 y2

end states

section
variable (y : S512x512.Idx)

/-- The head, chunk, position and channel of an entry of a block. -/
def hOf : Fin 4 := ⟨(y 1 : ℕ) / 128, by have : (y 1 : ℕ) < 512 := (y 1).isLt; omega⟩
def cOf : Fin 2 := ⟨(y 0 : ℕ) / 256, by have : (y 0 : ℕ) < 512 := (y 0).isLt; omega⟩
def iOf : Fin 256 := ⟨(y 0 : ℕ) % 256, Nat.mod_lt _ (by decide)⟩
def aOf : Fin 128 := ⟨(y 1 : ℕ) % 128, Nat.mod_lt _ (by decide)⟩
theorem y0_eq : (y 0 : ℕ) = 256 * (cOf y).val + (iOf y).val := by show _ = 256 * ((y 0 : ℕ) / 256) + (y 0 : ℕ) % 256; omega
theorem y1_eq : (y 1 : ℕ) = 128 * (hOf y).val + (aOf y).val := by show _ = 128 * ((y 1 : ℕ) / 128) + (y 1 : ℕ) % 128; omega

end

variable (hq : Real' (kq m c)) (hk : Real' (kk m c)) (hv : Real' (kv m c)) (hd : Real' (kd m c))
variable (t : Fin cfg0.N) (y : S512x512.Idx) (i : Fin 8192) (j : Fin 512)
  (hi : i.val = 512 * (15 - t.val) + (y 0 : ℕ)) (hj : j.val = (y 1 : ℕ))

include hi in
theorem pos_eq : (pos t (cOf y) (iOf y)).val = i.val := by
  have := y0_eq y
  rw [hi]
  show 256 * (2 * (15 - t.val) + (cOf y).val) + (iOf y).val = _
  omega

include hk hv hd hi hj in
theorem point11 : (outsAt0 m c t.val t.isLt).1 y = wide (gradQ (kk m c) (kv m c) (kd m c)) i j := by
  refine Eq.trans ?_ ((dq_row m c t (hOf y) (cOf y) (iOf y) (aOf y) hk hv hd).trans (wide_at _ i j _ _ _ (pos_eq t y i hi) (hj.trans (y1_eq y))))
  by_cases h : t.val % 16 = 0
  · exact dq_first m c t h y _ _ _ _ (y0_eq y) (y1_eq y)
  · exact dq_later m c t h y _ _ _ _ (y0_eq y) (y1_eq y)

include hq hv hd hi hj in
theorem point12 : (outsAt0 m c t.val t.isLt).2.1 y = wide (gradK (kq m c) (kv m c) (kd m c)) i j := by
  refine Eq.trans ?_ ((dk_row m c t (hOf y) (cOf y) (iOf y) (aOf y) hq hv hd (atStart m c t) (held_state m c hq hd t.val t.isLt)).trans
    (wide_at _ i j _ _ _ (pos_eq t y i hi) (hj.trans (y1_eq y))))
  unfold atStart
  by_cases h : t.val % 16 = 0
  · rw [if_pos h]; exact dk_first m c t h y _ _ _ _ (y0_eq y) (y1_eq y)
  · rw [if_neg h]; exact dk_later m c t h y _ _ _ _ (y0_eq y) (y1_eq y)

include hq hk hd hi hj in
theorem point13 : (outsAt0 m c t.val t.isLt).2.2.1 y = wide (gradV (kq m c) (kk m c) (kd m c)) i j := by
  refine Eq.trans ?_ ((dv_row m c t (hOf y) (cOf y) (iOf y) (aOf y) hq hk hd (atStart m c t) (held_state m c hq hd t.val t.isLt)).trans
    (wide_at _ i j _ _ _ (pos_eq t y i hi) (hj.trans (y1_eq y))))
  unfold atStart
  by_cases h : t.val % 16 = 0
  · rw [if_pos h]; exact dv_first m c t h y _ _ _ _ (y0_eq y) (y1_eq y)
  · rw [if_neg h]; exact dv_later m c t h y _ _ _ _ (y0_eq y) (y1_eq y)

include hk hv hd in
theorem final11 : (dats m 0 c).arrAt 11 (cfgs 0).N = (fun i => wide (gradQ (kk m c) (kv m c) (kd m c)) (i 0) (i 1)) := by
  refine (dats m 0 c).arrAt_eq_of_covers 11 _ (by decide +kernel) fun t _ y => ?_
  blk_simp
  rw [after0_11]
  refine point11 m c hk hv hd t y _ _ ?_ ?_
  all_goals (blk_simp [blocks_at t] <;> try omega)

include hq hv hd in
theorem final12 : (dats m 0 c).arrAt 12 (cfgs 0).N = (fun i => wide (gradK (kq m c) (kv m c) (kd m c)) (i 0) (i 1)) := by
  refine (dats m 0 c).arrAt_eq_of_covers 12 _ (by decide +kernel) fun t _ y => ?_
  blk_simp
  rw [after0_12]
  refine point12 m c hq hv hd t y _ _ ?_ ?_
  all_goals (blk_simp [blocks_at t] <;> try omega)

include hq hk hd in
theorem final13 : (dats m 0 c).arrAt 13 (cfgs 0).N = (fun i => wide (gradV (kq m c) (kk m c) (kd m c)) (i 0) (i 1)) := by
  refine (dats m 0 c).arrAt_eq_of_covers 13 _ (by decide +kernel) fun t _ y => ?_
  blk_simp
  rw [after0_13]
  refine point13 m c hq hk hd t y _ _ ?_ ?_
  all_goals (blk_simp [blocks_at t] <;> try omega)

end Cert.Retention
-- ==== Proof.Forward.Finals.lean ====
module

public import proofs.«01_k».proof.Proof.Forward.Points
public import proofs.«01_k».proof.Proof.Forward.First
public import proofs.«01_k».proof.Proof.Forward.Later
public import proofs.«01_k».proof.Proof.Retention.Finals

@[expose] public section

set_option maxRecDepth 16384
noncomputable section

/-! The output, its gated form and the saved states after the run. -/

namespace Cert.Forward

open Idealize.ShloMosaic Idealize.ShloMosaic.TcCoe Idealize.SL.Sem
open Cert.Kernel6Ideal Cert.Kernel6Ideal.Gen
open Idealize.ShloMosaic.Pipeline (Dat)
open Cert.Retention (Wide Real' row col State ofScratch ofScratch_at wide wide_at hOf cOf iOf aOf y0_eq y1_eq)
variable (m : (ℓ : Loc nD τ sig) → Buf (Elt Ideal) ℓ) (c : Dev nD)

/-- The gated output over the whole array, and the saved states. -/
def gateWide (q k v g : Wide .f32) (n : FVec Ideal S1x512 .f32) (i : Fin 8192) (j : Fin 512) : EReal :=
  gateR q k v ⟨j.val / 128, by have := j.isLt; omega⟩ (g (ix2 i j)) (n (ix2 0 j)) i.val ⟨j.val % 128, Nat.mod_lt _ (by decide)⟩

def stateWide (k v : Wide .f32) (h : Fin 4) (n : Fin 32) (a b : Fin 128) : EReal := ((stateR k v h n.val a b : ℝ) : EReal)

theorem gateWide_at (q k v g : Wide .f32) (n : FVec Ideal S1x512 .f32) (i p : Fin 8192) (j : Fin 512) (h : Fin 4) (b : Fin 128)
    (hp : p.val = i.val) (hj : j.val = 128 * h.val + b.val) :
    gateR q k v h (g (ix2 p (col h b))) (n (ix2 0 (col h b))) p.val b = gateWide q k v g n i j := by
  obtain rfl : p = i := Fin.ext hp
  obtain rfl : j = col h b := Fin.ext hj
  have := b.isLt
  have eh : (⟨(col h b).val / 128, by have := (col h b).isLt; omega⟩ : Fin 4) = h := Fin.ext (by show (128 * h.val + b.val) / 128 = h.val; omega)
  have eb : (⟨(col h b).val % 128, Nat.mod_lt _ (by decide)⟩ : Fin 128) = b := Fin.ext (by show (128 * h.val + b.val) % 128 = b.val; omega)
  unfold gateWide
  rw [eh, eb]

/-- Each head's state at a point's start. -/
def atStart (t : Fin cfg0.N) : Fin 4 → State .f32 := if t.val % 16 = 0 then zeroB else heldB (before m c t)

section states
variable (hk : Real' (kk m c)) (hv : Real' (kv m c))
include hk hv

theorem held_state : ∀ (n : ℕ) (hn : n < cfg0.N) (hh : Fin 4), IsState m c (2 * n) (atStart m c ⟨n, hn⟩ hh) hh := by
  intro n
  induction n with
  | zero =>
    intro hn hh a b
    show (if 0 % 16 = 0 then zeroB else _) hh (ix2 a b) = _
    rw [if_pos (by decide)]
    exact ofScratch_at _ a b
  | succ n ih =>
    intro hn hh
    have hn' : n < cfg0.N := Nat.lt_of_succ_lt hn
    have h16 : n + 1 < 16 := hn
    have s := next_state m c ⟨n, hn'⟩ hh hk hv (atStart m c ⟨n, hn'⟩) (ih hn')
    intro a b
    refine Eq.trans ?_ (s a b)
    show (if (n + 1) % 16 = 0 then zeroB else heldB (before m c ⟨n + 1, hn⟩)) hh (ix2 a b) = _
    rw [if_neg (by omega), ofScratch_at]
    refine (ofScratch_at _ a b).trans ?_
    let y : S4x128x128.Idx := (Rect.unit (s := S4x128x128) ![hh.val, 0, 0] ![1, 128, 128] (by
      have := hh.isLt
      intro d; fin_cases d
      · show hh.val + 1 ≤ 4; omega
      · show 0 + 128 ≤ 128; omega
      · show 0 + 128 ≤ 128; omega)).idx (ix3 0 a b)
    show (outsAt0 m c n _).2.2.2 y = _
    have y0 : (y 0 : ℕ) = hh.val := by show hh.val + 1 * 0 = hh.val; omega
    have y1 : (y 1 : ℕ) = a.val := by show 0 + 1 * a.val = a.val; omega
    have y2 : (y 2 : ℕ) = b.val := by show 0 + 1 * b.val = b.val; omega
    unfold atStart
    by_cases h : n % 16 = 0
    · rw [if_pos h]; exact next_first m c ⟨n, hn'⟩ h y hh a b y0 y1 y2
    · rw [if_neg h]; exact next_later m c ⟨n, hn'⟩ h y hh a b y0 y1 y2

end states

variable (hq : Real' (kq m c)) (hk : Real' (kk m c)) (hv : Real' (kv m c))

section entries
variable (t : Fin cfg0.N) (y : S512x512.Idx) (i : Fin 8192) (j : Fin 512)
  (hi : i.val = 512 * t.val + (y 0 : ℕ)) (hj : j.val = (y 1 : ℕ))

include hi in
theorem pos_eq : (pos t (cOf y) (iOf y)).val = i.val := by
  have := y0_eq y
  rw [hi]
  show 256 * (2 * t.val + (cOf y).val) + (iOf y).val = _
  omega

include hq hk hv hi hj

theorem point9 : (outsAt0 m c t.val t.isLt).1 y = wide (outR (kq m c) (kk m c) (kv m c)) i j := by
  refine Eq.trans ?_ ((o_row m c t (hOf y) (cOf y) (iOf y) (aOf y) hq hk hv (atStart m c t) (held_state m c hk hv t.val t.isLt)).trans
    (wide_at _ i j _ _ _ (pos_eq t y i hi) (hj.trans (y1_eq y))))
  unfold atStart
  by_cases h : t.val % 16 = 0
  · rw [if_pos h]; exact o_first m c t h y _ _ _ _ (y0_eq y) (y1_eq y)
  · rw [if_neg h]; exact o_later m c t h y _ _ _ _ (y0_eq y) (y1_eq y)

theorem point10 : (outsAt0 m c t.val t.isLt).2.1 y = gateWide (kq m c) (kk m c) (kv m c) (kg m c) (kn m c) i j := by
  refine Eq.trans ?_ ((y_row m c t (hOf y) (cOf y) (iOf y) (aOf y) hq hk hv (atStart m c t) (held_state m c hk hv t.val t.isLt)).trans
    (gateWide_at _ _ _ _ _ i _ j _ _ (pos_eq t y i hi) (hj.trans (y1_eq y))))
  unfold atStart
  by_cases h : t.val % 16 = 0
  · rw [if_pos h]; exact y_first m c t h y _ _ _ _ (y0_eq y) (y1_eq y)
  · rw [if_neg h]; exact y_later m c t h y _ _ _ _ (y0_eq y) (y1_eq y)

end entries

include hk hv in
theorem point11 (t : Fin cfg0.N) (y : S4x2x128x128.Idx) (h : Fin 4) (n : Fin 32) (a b : Fin 128) (h0 : h.val = (y 0 : ℕ))
    (h1 : n.val = 2 * t.val + (y 1 : ℕ)) (h2 : a.val = (y 2 : ℕ)) (h3 : b.val = (y 3 : ℕ)) :
    (outsAt0 m c t.val t.isLt).2.2.1 y = stateWide (kk m c) (kv m c) h n a b := by
  have e : n.val = chunkNo t ⟨(y 1 : ℕ), (y 1).isLt⟩ := h1
  refine Eq.trans ?_ ((r_row m c t h ⟨(y 1 : ℕ), (y 1).isLt⟩ a b hk hv (atStart m c t) (held_state m c hk hv t.val t.isLt)).trans
    (congrArg (fun n => ((stateR (kk m c) (kv m c) h n a b : ℝ) : EReal)) e.symm))
  unfold atStart
  by_cases h' : t.val % 16 = 0
  · rw [if_pos h']; exact r_first m c t h' y _ _ _ _ h0.symm rfl h2.symm h3.symm
  · rw [if_neg h']; exact r_later m c t h' y _ _ _ _ h0.symm rfl h2.symm h3.symm

include hq hk hv in
theorem final9 : (dats m 0 c).arrAt 9 (cfgs 0).N = (fun i => wide (outR (kq m c) (kk m c) (kv m c)) (i 0) (i 1)) := by
  refine (dats m 0 c).arrAt_eq_of_covers 9 _ (by decide +kernel) fun t _ y => ?_
  blk_simp
  rw [after0_9]
  refine point9 m c hq hk hv t y _ _ ?_ ?_
  all_goals (blk_simp [blocks_at t] <;> try omega)

include hq hk hv in
theorem final10 : (dats m 0 c).arrAt 10 (cfgs 0).N = (fun i => gateWide (kq m c) (kk m c) (kv m c) (kg m c) (kn m c) (i 0) (i 1)) := by
  refine (dats m 0 c).arrAt_eq_of_covers 10 _ (by decide +kernel) fun t _ y => ?_
  blk_simp
  rw [after0_10]
  refine point10 m c hq hk hv t y _ _ ?_ ?_
  all_goals (blk_simp [blocks_at t] <;> try omega)

include hk hv in
theorem final11 : (dats m 0 c).arrAt 11 (cfgs 0).N = (fun i => stateWide (kk m c) (kv m c) (i 0) (i 1) (i 2) (i 3)) := by
  refine (dats m 0 c).arrAt_eq_of_covers 11 _ (by decide +kernel) fun t _ y => ?_
  blk_simp
  rw [after0_11]
  refine point11 m c hk hv t y _ _ _ _ ?_ ?_ ?_ ?_
  all_goals (blk_simp [blocks_at t] <;> try omega)

end Cert.Forward
-- ==== Proof.Forward.RefBase.lean ====
module

public import proofs.«01_k».proof.Proof.Gen.Reference6Ideal.Run
public import proofs.«01_k».proof.Proof.Forward.Spec
public import proofs.«01_k».proof.Proof.Inproj.Norm
public import Idealize.ShloMosaic.Lib.Pipeline.ValueKit

@[expose] public section

set_option maxRecDepth 16384
noncomputable section

/-! The reference's rows, decays and products within a chunk, entry by entry, and its chain of states. -/

namespace Cert.Forward.Ref

open Idealize.ShloMosaic Idealize.ShloMosaic.TcCoe Idealize.SL.Sem Idealize.ShloMosaic.StableHlo
open Cert.Reference6Ideal Cert.Reference6Ideal.Gen Cert.Reference6Ideal.Value
open Cert.Retention (Wide Real' row row_at' lg lg_formula W w W_formula num sitofp_nat fwd dot sum_of)

variable (V : Valuation τ sig (Elt Ideal))

abbrev aq : Wide .f32 := V (Proc.devRef .tc main_arg0)
abbrev ak : Wide .f32 := V (Proc.devRef .tc main_arg1)
abbrev av : Wide .f32 := V (Proc.devRef .tc main_arg2)
abbrev ag : Wide .f32 := V (Proc.devRef .tc main_arg3)
abbrev an : FVec Ideal S1x512 .f32 := V (Proc.devRef .tc main_arg4)

theorem v7_at (h : Fin 4) : (res_main_v7 V : FVec Ideal S4 .f32) (ix1 h) = ((lg h : ℝ) : EReal) := by
  pointwise [res_main_v7, res_main_call0_v0, res_main_call0_v1, res_main_call0_v6]
  exact lg_formula h

section rows
variable (n : Fin 64) (i : Fin 128) (h : Fin 4) (a : Fin 128)

theorem v8_at (hq : Real' (aq V)) :
    (res_main_v8 V : FVec Ideal S64x128x4x128 .f32) (ix4 n i h a) = ((row (aq V) h (128 * n.val + i.val) a : ℝ) : EReal) := by
  pointwise [res_main_v8]
  exact row_at' hq _ _ h _ a (by show n.val * 128 + i.val = _; omega) (by show h.val * 128 + a.val = _; omega)

theorem v9_at (hk : Real' (ak V)) :
    (res_main_v9 V : FVec Ideal S64x128x4x128 .f32) (ix4 n i h a) = ((row (ak V) h (128 * n.val + i.val) a : ℝ) : EReal) := by
  pointwise [res_main_v9]
  exact row_at' hk _ _ h _ a (by show n.val * 128 + i.val = _; omega) (by show h.val * 128 + a.val = _; omega)

theorem v10_at (hv : Real' (av V)) :
    (res_main_v10 V : FVec Ideal S64x128x4x128 .f32) (ix4 n i h a) = ((row (av V) h (128 * n.val + i.val) a : ℝ) : EReal) := by
  pointwise [res_main_v10]
  exact row_at' hv _ _ h _ a (by show n.val * 128 + i.val = _; omega) (by show h.val * 128 + a.val = _; omega)

end rows

/-- The decays between the positions of a chunk. -/
def maskR : FVec Ideal S4x128x128 .f32 :=
  select (broadcastInDim S4x128x128 ![0, 1, 2] bcast_S1x128x128_S4x128x128_0_1_2 (cmpf .oge (broadcastInDim S1x128x128 ![1, 2] bcast_S128x128_S1x128x128_1_2 (res_main_v16 V)) (broadcastInDim S1x128x128 ![] bcast_S_S1x128x128 (constant S_ .f32 0x00000000#32)))) (Host.exp (mulf (broadcastInDim S4x128x128 ![0, 1, 2] bcast_S1x128x128_S4x128x128_0_1_2 (broadcastInDim S1x128x128 ![1, 2] bcast_S128x128_S1x128x128_1_2 (maximumf (res_main_v16 V) (broadcastInDim S128x128 ![] bcast_S_S128x128 (constant S_ .f32 0x00000000#32))))) (broadcastInDim S4x128x128 ![0, 1, 2] bcast_S4x1x1_S4x128x128_0_1_2 (broadcastInDim S4x1x1 ![0] bcast_S4_S4x1x1_0 (res_main_v7 V))))) (broadcastInDim S4x128x128 ![] bcast_S_S4x128x128 (id (constant S_ .f32 0x00000000#32)))

theorem maskR_at (h : Fin 4) (i j : Fin 128) : maskR V (ix3 h i j) = ((W (lg h) i.val j.val : ℝ) : EReal) := by
  pointwise [maskR, res_main_v16, res_main_v11]
  rw [v7_at]
  refine Eq.trans ?_ (W_formula (lg h) i.val j.val (by have := i.isLt; omega) (by have := j.isLt; omega))
  have e : (id (constant S_ FTy.f32 0#32) ix0 : Ideal .f32) = (0 : EReal) := by
    show Ideal.ofBits .f32 0#32 = 0
    simp [Ideal.ofBits, Ideal.ieee]
  rw [e]

/-- The decays from a chunk's start to its positions, and from its positions to its end. -/
def xiR : FVec Ideal S1x128x4x1 .f32 :=
  broadcastInDim S1x128x4x1 ![1, 2] bcast_S128x4_S1x128x4x1_1_2 (transpose S128x4 [1, 0] (Host.exp (mulf (broadcastInDim S4x128 ![0, 1] bcast_S1x128_S4x128_0_1 (broadcastInDim S1x128 ![1] bcast_S128_S1x128_1 (addf (res_main_v11 V) (broadcastInDim S128 ![] bcast_S_S128 (constant S_ .f32 0x3F800000#32))))) (broadcastInDim S4x128 ![0, 1] bcast_S4x1_S4x128_0_1 (broadcastInDim S4x1 ![0] bcast_S4_S4x1_0 (res_main_v7 V))))) transposes_S4x128_S128x4_1_0)

def zetaR : FVec Ideal S1x128x4x1 .f32 :=
  broadcastInDim S1x128x4x1 ![1, 2] bcast_S128x4_S1x128x4x1_1_2 (transpose S128x4 [1, 0] (Host.exp (mulf (broadcastInDim S4x128 ![0, 1] bcast_S1x128_S4x128_0_1 (broadcastInDim S1x128 ![1] bcast_S128_S1x128_1 (subf (broadcastInDim S128 ![] bcast_S_S128 (constant S_ .f32 0x42FE0000#32)) (res_main_v11 V)))) (broadcastInDim S4x128 ![0, 1] bcast_S4x1_S4x128_0_1 (broadcastInDim S4x1 ![0] bcast_S4_S4x1_0 (res_main_v7 V))))) transposes_S4x128_S128x4_1_0)

theorem xiR_at (i : Fin 128) (h : Fin 4) : xiR V (ix4 0 i h 0) = ((w (lg h) ((i.val : ℝ) + 1) : ℝ) : EReal) := by
  have s := sitofp_nat i.val (by have := i.isLt; omega)
  pointwise [xiR, res_main_v11]
  rw [v7_at]
  show Ideal.exp ((num i.val + 1) * ((lg h : ℝ) : EReal)) = _
  rw [s, w]
  norm_cast

theorem zetaR_at (j : Fin 128) (h : Fin 4) : zetaR V (ix4 0 j h 0) = ((w (lg h) ((128 : ℝ) - 1 - (j.val : ℝ)) : ℝ) : EReal) := by
  have e : Ideal.ofBits .f32 0x42FE0000#32 = (((127 : ℝ)) : EReal) := by simp [Ideal.ofBits, Ideal.ieee]; rw [← EReal.coe_mul]; norm_num
  have s := sitofp_nat j.val (by have := j.isLt; omega)
  pointwise [zetaR, res_main_v11]
  rw [v7_at, e]
  show Ideal.exp ((((127 : ℝ) : EReal) - num j.val) * ((lg h : ℝ) : EReal)) = _
  rw [s, ← EReal.coe_sub, ← EReal.coe_mul, w]
  norm_num
  rfl

theorem v51_at (h : Fin 4) : (res_main_v51 V : FVec Ideal S4x1x1 .f32) (ix3 h 0 0) = ((w (lg h) (128 : ℕ) : ℝ) : EReal) := by
  have e : Ideal.ofBits .f32 0x43000000#32 = (((128 : ℝ)) : EReal) := by simp [Ideal.ofBits, Ideal.ieee]; rw [← EReal.coe_mul]; norm_num
  pointwise [res_main_v51]
  rw [v7_at, e, ← EReal.coe_mul, w]
  norm_num
  rfl

/-- The values faded to their chunk's end. -/
def fadedV : FVec Ideal S64x128x4x128 .f32 :=
  mulf (res_main_v10 V) (broadcastInDim S64x128x4x128 ![0, 1, 2, 3] bcast_S1x128x4x1_S64x128x4x128_0_1_2_3 (zetaR V))

theorem fadedV_at (hv : Real' (av V)) (n : Fin 64) (j : Fin 128) (h : Fin 4) (b : Fin 128) :
    fadedV V (ix4 n j h b) = ((row (av V) h (128 * n.val + j.val) b * w (lg h) ((128 : ℝ) - 1 - (j.val : ℝ)) : ℝ) : EReal) := by
  pointwise [fadedV]
  rw [v10_at V n j h b hv, zetaR_at, EReal.coe_mul]

theorem v47_eq : (res_main_v47 V : FVec Ideal S64x4x128x128 .f32)
    = Host.dotGeneral (φ₁ := .f32) (φ₂ := .f32) dot_S64x128x4x128_S64x128x4x128_S64x4x128x128_1_1_3_3_02_02 none (res_main_v9 V) (fadedV V) := rfl

theorem v47_at (hk : Real' (ak V)) (hv : Real' (av V)) (n : Fin 64) (h : Fin 4) (a b : Fin 128) :
    (res_main_v47 V : FVec Ideal S64x4x128x128 .f32) (ix4 n h a b)
      = ((∑ j : Fin 128, (row (ak V) h (128 * n.val + j.val) a * row (av V) h (128 * n.val + j.val) b) * w (lg h) ((128 : ℝ) - 1 - (j.val : ℝ)) : ℝ) : EReal) := by
  rw [v47_eq]
  pointwise []
  simp only [v9_at V _ _ _ _ hk, fadedV_at V hv]
  exact sum_of _ _ _ fun j => by ring

/-- The decayed scores of a chunk. -/
def scoreR : FVec Ideal S64x4x128x128 .f32 :=
  mulf (Host.dotGeneral (φ₁ := .f32) (φ₂ := .f32) dot_S64x128x4x128_S64x128x4x128_S64x4x128x128_3_3_1_1_02_02 none (res_main_v8 V : FVec Ideal S64x128x4x128 .f32) (res_main_v9 V : FVec Ideal S64x128x4x128 .f32) : FVec Ideal S64x4x128x128 .f32)
    (broadcastInDim S64x4x128x128 ![0, 1, 2, 3] bcast_S1x4x128x128_S64x4x128x128_0_1_2_3 (broadcastInDim S1x4x128x128 ![1, 2, 3] bcast_S4x128x128_S1x4x128x128_1_2_3 (maskR V)))

theorem scoreR_at (hq : Real' (aq V)) (hk : Real' (ak V)) (n : Fin 64) (h : Fin 4) (i j : Fin 128) :
    scoreR V (ix4 n h i j) = ((dot (row (aq V) h (128 * n.val + i.val)) (row (ak V) h (128 * n.val + j.val)) * W (lg h) i.val j.val : ℝ) : EReal) := by
  pointwise [scoreR]
  simp only [v8_at V _ _ _ _ hq, v9_at V _ _ _ _ hk, maskR_at]
  rw [EReal.coe_mul, dot, Cert.Norm.sum_coe]
  push_cast; rfl

end Cert.Forward.Ref
-- ==== Proof.Forward.RefChain.lean ====
module

public import proofs.«01_k».proof.Proof.Forward.RefBase

@[expose] public section

set_option maxRecDepth 16384
noncomputable section

/-! The reference's chain of states: what the earlier chunks leave to a chunk. -/

namespace Cert.Forward.Ref

open Idealize.ShloMosaic Idealize.ShloMosaic.TcCoe Idealize.SL.Sem Idealize.ShloMosaic.StableHlo
open Cert.Reference6Ideal Cert.Reference6Ideal.Gen Cert.Reference6Ideal.Value
open Cert.Retention (Wide Real' row lg w fwd)

variable (V : Valuation τ sig (Elt Ideal))

abbrev St := FVec Ideal S4x128x128 .f32
abbrev All := FVec Ideal S64x4x128x128 .f32

/-- One chunk's products. -/
def chunkAt (x : All) (n : Fin 64) : St :=
  shapeCast _ (extractStridedSlice S1x4x128x128 ![n.val, 0, 0, 0] x
    ⟨rfl, fun a => by have := n.isLt; fin_cases a <;> simp [Shape.size] <;> omega⟩) shapeCasts_S1x4x128x128_S4x128x128

theorem chunkAt_at (x : All) (n : Fin 64) (h : Fin 4) (a b : Fin 128) : chunkAt x n (ix3 h a b) = x (ix4 n h a b) := by
  pointwise [chunkAt]

/-- A state carried over one chunk. -/
def faded (g : St) : St :=
  mulf (broadcastInDim S4x128x128 ![0, 1, 2] bcast_S4x1x1_S4x128x128_0_1_2 (res_main_v51 V : FVec Ideal S4x1x1 .f32)) g

theorem faded_at (g : St) (h : Fin 4) (a b : Fin 128) :
    faded V g (ix3 h a b) = ((w (lg h) (128 : ℕ) : ℝ) : EReal) * g (ix3 h a b) := by
  pointwise [faded]
  rw [v51_at]

def fst : Fin 64 → St := ![
    res_main_v52 V, res_main_v60 V, res_main_v65 V, res_main_v70 V, res_main_v75 V, res_main_v80 V,
    res_main_v85 V, res_main_v90 V, res_main_v95 V, res_main_v100 V, res_main_v105 V, res_main_v110 V,
    res_main_v115 V, res_main_v120 V, res_main_v125 V, res_main_v130 V, res_main_v135 V, res_main_v140 V,
    res_main_v145 V, res_main_v150 V, res_main_v155 V, res_main_v160 V, res_main_v165 V, res_main_v170 V,
    res_main_v175 V, res_main_v180 V, res_main_v185 V, res_main_v190 V, res_main_v195 V, res_main_v200 V,
    res_main_v205 V, res_main_v210 V, res_main_v215 V, res_main_v220 V, res_main_v225 V, res_main_v230 V,
    res_main_v235 V, res_main_v240 V, res_main_v245 V, res_main_v250 V, res_main_v255 V, res_main_v260 V,
    res_main_v265 V, res_main_v270 V, res_main_v275 V, res_main_v280 V, res_main_v285 V, res_main_v290 V,
    res_main_v295 V, res_main_v300 V, res_main_v305 V, res_main_v310 V, res_main_v315 V, res_main_v320 V,
    res_main_v325 V, res_main_v330 V, res_main_v335 V, res_main_v340 V, res_main_v345 V, res_main_v350 V,
    res_main_v355 V, res_main_v360 V, res_main_v365 V, res_main_v370 V]

theorem fst_step (n : Fin 63) : fst V n.succ = addf (faded V (fst V n.castSucc)) (chunkAt (res_main_v54 V) n.castSucc) := by
  fin_cases n <;> rfl

theorem zero_st (h : Fin 4) (a b : Fin 128) :
    (broadcastInDim S4x128x128 ![] bcast_S_S4x128x128 (constant (F := Ideal) S_ .f32 0x00000000#32) : St) (ix3 h a b) = ((0 : ℝ) : EReal) := by
  pointwise []
  simp [Ideal.ofBits, Ideal.ieee]

theorem v54_at (n : Fin 64) (h : Fin 4) (a b : Fin 128) :
    (res_main_v54 V : All) (ix4 n h a b) = (res_main_v47 V : All) (ix4 n h a b) := by
  pointwise [res_main_v54]

theorem fst_at (hk : Real' (ak V)) (hv : Real' (av V)) (h : Fin 4) (a b : Fin 128) (n : ℕ) (hn : n < 64) :
    fst V ⟨n, hn⟩ (ix3 h a b) = ((fwd (lg h) 128 (fun s => row (ak V) h s a * row (av V) h s b) n : ℝ) : EReal) := by
  induction n with
  | zero => exact zero_st h a b
  | succ n ih =>
    have e := congrFun (fst_step V ⟨n, by omega⟩) (ix3 h a b)
    refine e.trans ?_
    show faded V (fst V ⟨n, by omega⟩) (ix3 h a b) + chunkAt (res_main_v54 V) ⟨n, by omega⟩ (ix3 h a b) = _
    rw [faded_at, chunkAt_at, v54_at, v47_at V hk hv, ih (by omega), fwd, ← EReal.coe_mul, ← EReal.coe_add, Finset.sum_range]
    norm_num

/-- A state as a piece of the stack of states. -/
def piece (x : St) : FVec Ideal S1x4x128x128 .f32 := broadcastInDim S1x4x128x128 ![1, 2, 3] bcast_S4x128x128_S1x4x128x128_1_2_3 x

theorem piece_at (x : St) (h : Fin 4) (a b : Fin 128) : piece x (ix4 0 h a b) = x (ix3 h a b) := by
  pointwise [piece]

theorem ones : Shape.Concatenates ((List.ofFn fun _ : Fin 16 => S1x4x128x128)) S16x4x128x128 0 := by decide

/-- Sixteen states in a row. -/
def sixteen (g : Fin 16 → St) : FVec Ideal S16x4x128x128 .f32 :=
  concatenate S16x4x128x128 0 (List.ofFn fun k : Fin 16 => (⟨S1x4x128x128, piece (g k)⟩ : (s : Shape) × (s.Idx → EReal)))
    (by rw [List.map_ofFn]; exact ones)

theorem sixteen_at (g : Fin 16 → St) (k : Fin 16) (h : Fin 4) (a b : Fin 128) : sixteen g (ix4 k h a b) = g k (ix3 h a b) := by
  refine Eq.trans (concatenate_ofFn_unit_apply (t := S16x4x128x128) (s₁ := S1x4x128x128) (α := EReal) 0 (fun k => piece (g k)) _ rfl rfl (ix4 k h a b) k rfl (ix4 0 h a b) ?_) (piece_at _ h a b)
  intro c hc
  fin_cases c
  · exact absurd rfl hc
  all_goals rfl

theorem fours : Shape.Concatenates ((List.ofFn fun _ : Fin 4 => S16x4x128x128)) S64x4x128x128 0 := by decide

/-- All the states in a row. -/
def stack (g : Fin 64 → St) : All :=
  concatenate S64x4x128x128 0 (List.ofFn fun m : Fin 4 => (⟨S16x4x128x128,
      sixteen fun k => g ⟨16 * m.val + k.val, by have := m.isLt; have := k.isLt; omega⟩⟩ : (s : Shape) × (s.Idx → EReal)))
    (by rw [List.map_ofFn]; exact fours)

theorem stack_at (g : Fin 64 → St) (n : Fin 64) (h : Fin 4) (a b : Fin 128) : stack g (ix4 n h a b) = g n (ix3 h a b) := by
  have hm : n.val / 16 < 4 := by have := n.isLt; omega
  have hk : n.val % 16 < 16 := Nat.mod_lt _ (by decide)
  refine Eq.trans (concatenate_ofFn_apply (t := S64x4x128x128) (s₁ := S16x4x128x128) (α := EReal) 0
    (fun m : Fin 4 => sixteen fun k => g ⟨16 * m.val + k.val, by have := m.isLt; have := k.isLt; omega⟩) _ rfl 16 rfl (ix4 n h a b)
    ⟨n.val / 16, hm⟩ rfl (ix4 ⟨n.val % 16, hk⟩ h a b) rfl ?_) ?_
  · intro c hc
    fin_cases c
    · exact absurd rfl hc
    all_goals rfl
  · rw [sixteen_at]
    exact congrArg (fun u => g u (ix3 h a b)) (Fin.ext (Nat.div_add_mod n.val 16) : (⟨16 * (n.val / 16) + n.val % 16, _⟩ : Fin 64) = n)

theorem v444_eq : (res_main_v444 V : All) = stack (fst V) := rfl

theorem v445_at (hk : Real' (ak V)) (hv : Real' (av V)) (n : Fin 64) (h : Fin 4) (a b : Fin 128) :
    (res_main_v445 V : All) (ix4 n h a b) = ((fwd (lg h) 128 (fun s => row (ak V) h s a * row (av V) h s b) n.val : ℝ) : EReal) := by
  refine Eq.trans (concatenate_pair_apply_right (t := S64x4x128x128) (s₁ := S0x4x128x128) (s₂ := S64x4x128x128) (α := EReal) 0 _ _ _ (ix4 n h a b) rfl rfl (ix4 n h a b) (fun _ _ => rfl) rfl) ?_
  rw [v444_eq, stack_at]
  exact fst_at V hk hv h a b n.val n.isLt

end Cert.Forward.Ref
-- ==== Proof.Forward.RefValue.lean ====
module

public import proofs.«01_k».proof.Proof.Forward.RefChain

@[expose] public section

set_option maxRecDepth 16384
noncomputable section

/-! The reference's three results. -/

namespace Cert.Forward.Ref

open Idealize.ShloMosaic Idealize.ShloMosaic.TcCoe Idealize.SL.Sem Idealize.ShloMosaic.StableHlo
open Cert.Reference6Ideal Cert.Reference6Ideal.Gen Cert.Reference6Ideal.Value
open Cert.Retention (Wide Real' row col lg W w fwd dot sum_of)

variable (V : Valuation τ sig (Elt Ideal))

abbrev Heads := FVec Ideal S8192x4x128 .f32

/-- What a chunk's positions take from their own chunk, and from the state before it. -/
def innerR : FVec Ideal S64x4x128x128 .f32 :=
  Host.dotGeneral (φ₁ := .f32) (φ₂ := .f32) dot_S64x128x4x128_S64x4x128x128_S64x4x128x128_1_3_3_2_02_01 none (res_main_v10 V : FVec Ideal S64x128x4x128 .f32) (scoreR V)

def crossR : FVec Ideal S64x4x128x128 .f32 :=
  Host.dotGeneral (φ₁ := .f32) (φ₂ := .f32) dot_S64x4x128x128_S64x128x4x128_S64x4x128x128_2_3_3_1_01_02 none (res_main_v445 V : FVec Ideal S64x4x128x128 .f32) (res_main_v8 V : FVec Ideal S64x128x4x128 .f32)

theorem v461_eq : (res_main_v461 V : Heads) = shapeCast _ (addf (transpose S64x128x4x128 [0, 3, 1, 2] (innerR V) transposes_S64x4x128x128_S64x128x4x128_0_3_1_2)
    (mulf (transpose S64x128x4x128 [0, 3, 1, 2] (crossR V) transposes_S64x4x128x128_S64x128x4x128_0_3_1_2)
      (broadcastInDim S64x128x4x128 ![0, 1, 2, 3] bcast_S1x128x4x1_S64x128x4x128_0_1_2_3 (xiR V)))) shapeCasts_S64x128x4x128_S8192x4x128 := rfl

theorem innerR_at (hq : Real' (aq V)) (hk : Real' (ak V)) (hv : Real' (av V)) (n : Fin 64) (h : Fin 4) (b i : Fin 128) :
    innerR V (ix4 n h b i) = ((∑ j : Fin 128, (dot (row (aq V) h (128 * n.val + i.val)) (row (ak V) h (128 * n.val + j.val)) * W (lg h) i.val j.val)
      * row (av V) h (128 * n.val + j.val) b : ℝ) : EReal) := by
  pointwise [innerR]
  simp only [v10_at V _ _ _ _ hv, scoreR_at V hq hk]
  exact sum_of _ _ _ fun _ => mul_comm _ _

theorem crossR_at (hq : Real' (aq V)) (hk : Real' (ak V)) (hv : Real' (av V)) (n : Fin 64) (h : Fin 4) (b i : Fin 128) :
    crossR V (ix4 n h b i) = ((∑ a : Fin 128, row (aq V) h (128 * n.val + i.val) a
      * fwd (lg h) 128 (fun s => row (ak V) h s a * row (av V) h s b) n.val : ℝ) : EReal) := by
  pointwise [crossR]
  simp only [v445_at V hk hv, v8_at V _ _ _ _ hq]
  exact sum_of _ _ _ fun _ => mul_comm _ _

section results
variable (hq : Real' (aq V)) (hk : Real' (ak V)) (hv : Real' (av V))
include hq hk hv

theorem v461_at (t : Fin 8192) (h : Fin 4) (b : Fin 128) :
    (res_main_v461 V : Heads) (ix3 t h b) = ((outR (aq V) (ak V) (av V) h t.val b : ℝ) : EReal) := by
  have hc := out_chunk (lg h) (row (aq V) h) (row (ak V) h) (row (av V) h) 128 64 (t.val / 128) (t.val % 128) (by have := t.isLt; omega)
    (Nat.mod_lt _ (by decide)) b
  rw [Finset.sum_range] at hc
  rw [v461_eq]
  pointwise []
  simp only [innerR_at V hq hk hv, crossR_at V hq hk hv, xiR_at]
  rw [← EReal.coe_mul, ← EReal.coe_add]
  exact congrArg (fun r : ℝ => (r : EReal)) (hc.symm.trans (by rw [Nat.div_add_mod]; rfl))

end results

/-- The output laid side by side. -/
def oR : Wide .f32 := shapeCast _ (res_main_v461 V : Heads) shapeCasts_S8192x4x128_S8192x512

theorem oR_eq (t : Fin 8192) (h : Fin 4) (a : Fin 128) : oR V (ix2 t (col h a)) = (res_main_v461 V : Heads) (ix3 t h a) := by
  pointwise [oR, col]

/-- The mean of each head's features, the inverse square root of their spread, and the gains, broadcast. -/
def meanR (o : Heads) : FVec Ideal S8192x4x1 .f32 :=
  Host.divf (broadcastInDim S8192x4x1 ![0, 1] bcast_S8192x4_S8192x4x1_0_1 (Host.reduceAdd o (constant S_ .f32 0x00000000#32) reducesTo_S8192x4x128_S8192x4_d2 h_S_)) (broadcastInDim S8192x4x1 ![] bcast_S_S8192x4x1 (constant S_ .f32 0x43000000#32))

theorem meanR_at (o : Heads) (t : Fin 8192) (h : Fin 4) : meanR o (ix3 t h 0) = mean fun b => o (ix3 t h b) := by
  pointwise [meanR]
  rfl

def centreR : Heads := subf (res_main_v461 V) (broadcastInDim S8192x4x128 ![0, 1, 2] bcast_S8192x4x1_S8192x4x128_0_1_2 (meanR (res_main_v461 V)))

/-- An entry of the whole output. -/
abbrev entry (t : Fin 8192) (h : Fin 4) (b : Fin 128) : EReal := (res_main_v461 V : Heads) (ix3 t h b)

theorem centreR_at (t : Fin 8192) (h : Fin 4) (b : Fin 128) :
    centreR V (ix3 t h b) = entry V t h b - mean (entry V t h) := by
  pointwise [centreR]
  rw [meanR_at]

def scaleR (x : Heads) : FVec Ideal S8192x4x1 .f32 :=
  Host.rsqrt (addf (meanR (mulf x x)) (broadcastInDim S8192x4x1 ![] bcast_S_S8192x4x1 (constant S_ .f32 0x358637BD#32)))

theorem scaleR_at (x : Heads) (t : Fin 8192) (h : Fin 4) :
    scaleR x (ix3 t h 0) = Ideal.rsqrt ((mean fun b => x (ix3 t h b) * x (ix3 t h b)) + Ideal.ofBits .f32 0x358637BD#32) := by
  pointwise [scaleR]
  rw [meanR_at]
  rfl

def normedR : Heads :=
  mulf (mulf (centreR V) (broadcastInDim S8192x4x128 ![0, 1, 2] bcast_S8192x4x1_S8192x4x128_0_1_2 (scaleR (centreR V))))
    (broadcastInDim S8192x4x128 ![0, 1, 2] bcast_S1x4x128_S8192x4x128_0_1_2 (broadcastInDim S1x4x128 ![1, 2] bcast_S4x128_S1x4x128_1_2
      (shapeCast _ (shapeCast _ (an V) shapeCasts_S1x512_S512) shapeCasts_S512_S4x128)))

def gainR : FVec Ideal S4x128 .f32 := shapeCast _ (shapeCast _ (an V) shapeCasts_S1x512_S512) shapeCasts_S512_S4x128

theorem gainR_at (h : Fin 4) (b : Fin 128) : gainR V (ix2 h b) = an V (ix2 0 (col h b)) := by
  pointwise [gainR]
  exact congrArg (an V) (by
    funext d; fin_cases d
    · rfl
    · exact Fin.ext (by show h.val * 128 + b.val = 128 * h.val + b.val; omega))

theorem normedR_at (t : Fin 8192) (h : Fin 4) (b : Fin 128) :
    normedR V (ix3 t h b) = (centreR V (ix3 t h b) * scaleR (centreR V) (ix3 t h 0)) * an V (ix2 0 (col h b)) := by
  rw [← gainR_at]
  show (mulf (mulf (centreR V) (broadcastInDim S8192x4x128 ![0, 1, 2] bcast_S8192x4x1_S8192x4x128_0_1_2 (scaleR (centreR V))))
    (broadcastInDim S8192x4x128 ![0, 1, 2] bcast_S1x4x128_S8192x4x128_0_1_2 (broadcastInDim S1x4x128 ![1, 2] bcast_S4x128_S1x4x128_1_2 (gainR V))) : Heads) (ix3 t h b) = _
  pointwise []

/-- The gate times its logistic function. -/
def siluR : Wide .f32 :=
  mulf (ag V) (Host.divf (broadcastInDim S8192x512 ![] bcast_S_S8192x512 (constant S_ .f32 0x3F800000#32)) (addf (broadcastInDim S8192x512 ![] bcast_S_S8192x512 (constant S_ .f32 0x3F800000#32)) (Host.exp (Host.negf (ag V)))))

theorem siluR_at (t : Fin 8192) (j : Fin 512) : siluR V (ix2 t j) = ag V (ix2 t j) * Ideal.div 1 (1 + Ideal.exp (-ag V (ix2 t j))) := by
  pointwise [siluR]

def yR : Wide .bf16 := truncf .bf16 (mulf (siluR V) (shapeCast _ (normedR V) shapeCasts_S8192x4x128_S8192x512)) bitsLt_bf16_f32

theorem yR_at (hq : Real' (aq V)) (hk : Real' (ak V)) (hv : Real' (av V)) (t : Fin 8192) (h : Fin 4) (b : Fin 128) :
    yR V (ix2 t (col h b)) = gateR (aq V) (ak V) (av V) h (ag V (ix2 t (col h b))) (an V (ix2 0 (col h b))) t.val b := by
  have e : (shapeCast S8192x512 (normedR V) shapeCasts_S8192x4x128_S8192x512 : Wide .f32) (ix2 t (col h b)) = normedR V (ix3 t h b) := by
    pointwise [col]
  show siluR V (ix2 t (col h b)) * (shapeCast S8192x512 (normedR V) shapeCasts_S8192x4x128_S8192x512 : Wide .f32) (ix2 t (col h b)) = _
  rw [e, siluR_at, normedR_at, scaleR_at]
  have eo : entry V t h = fun b => ((outR (aq V) (ak V) (av V) h t.val b : ℝ) : EReal) := funext fun b => v461_at V hq hk hv t h b
  simp only [centreR_at, eo, congrFun eo]
  rfl

/-- The states before every second chunk. -/
def rR : FVec Ideal S4x32x128x128 .f32 :=
  transpose S4x32x128x128 [1, 0, 2, 3] (shapeCast _ (extractStridedSlice S32x1x4x128x128 ![0, 0, 0, 0, 0]
    (shapeCast _ (res_main_v445 V : FVec Ideal S64x4x128x128 .f32) shapeCasts_S64x4x128x128_S32x2x4x128x128) slices_S32x2x4x128x128_S32x1x4x128x128_0_0_0_0_0)
    shapeCasts_S32x1x4x128x128_S32x4x128x128) transposes_S32x4x128x128_S4x32x128x128_1_0_2_3

theorem rR_at (hk : Real' (ak V)) (hv : Real' (av V)) (h : Fin 4) (n : Fin 32) (a b : Fin 128) :
    rR V (ix4 h n a b) = ((stateR (ak V) (av V) h n.val a b : ℝ) : EReal) := by
  pointwise [rR]
  rw [v445_at V hk hv, stateR, show (256 : ℕ) = 2 * 128 from rfl, fwd_half]
  exact congrArg (fun n => ((fwd (lg h) 128 (fun s => row (ak V) h s a * row (av V) h s b) n : ℝ) : EReal)) (by show n.val * 2 + 0 = 2 * n.val; omega)

/-- The three results over the launch's contents, and the arguments as they were. -/
theorem stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v490) = oR (launchContents m c)
      ∧ r.2.mem ((c.tc : Thread nD τ).loc main_v493) = yR (launchContents m c)
      ∧ r.2.mem ((c.tc : Thread nD τ).loc main_v465) = rR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2⟩) (Value.run m ρ)

end Cert.Forward.Ref
-- ==== Proof.Retention.RefValue.lean ====
module

public import proofs.«01_k».proof.Proof.Retention.RefChain

@[expose] public section

set_option maxRecDepth 16384
noncomputable section

/-! The reference's three results are the three gradients. -/

namespace Cert.Retention.Ref

open Idealize.ShloMosaic Idealize.ShloMosaic.TcCoe Idealize.SL.Sem Idealize.ShloMosaic.StableHlo
open Cert.Reference5Ideal Cert.Reference5Ideal.Gen Cert.Reference5Ideal.Value
open Cert.Retention

variable (V : Valuation τ sig (Elt Ideal))

theorem v949_at (hk : Real' (ak V)) (hv : Real' (av V)) (hd : Real' (ad V)) (t : Fin 8192) (h : Fin 4) (a : Fin 128) :
    (res_main_v949 V : FVec Ideal S8192x4x128 .f32) (ix3 t h a)
      = ((dQ (lg h) 8192 (K (ak V) h) (V' (av V) h) (D (ad V) h) t.val a : ℝ) : EReal) := by
  have hc := dQ_chunk (lg h) (K (ak V) h) (V' (av V) h) (D (ad V) h) 128 64 (t.val / 128) (t.val % 128) (by have := t.isLt; omega)
    (Nat.mod_lt _ (by decide)) a
  rw [Finset.sum_range] at hc
  pointwise [res_main_v949]
  simp only [v529_at V hd, v505_at V hk hv, v940_at V hv hd, v69_at V hk]
  refine Eq.trans (congrArg₂ (· + ·) (sum_of _ _ _ fun _ => rfl) (sum_of _ _ _ fun _ => rfl)) ?_
  rw [← EReal.coe_add, add_comm, ← hc, Nat.div_add_mod]

theorem v952_at (hq : Real' (aq V)) (hv : Real' (av V)) (hd : Real' (ad V)) (t : Fin 8192) (h : Fin 4) (a : Fin 128) :
    (res_main_v952 V : FVec Ideal S8192x4x128 .f32) (ix3 t h a)
      = ((dK (lg h) 8192 (Q (aq V) h) (V' (av V) h) (D (ad V) h) t.val a * kap : ℝ) : EReal) := by
  have hc := dK_chunk (lg h) (Q (aq V) h) (V' (av V) h) (D (ad V) h) 128 64 (t.val / 128) (t.val % 128) (by have := t.isLt; omega)
    (Nat.mod_lt _ (by decide)) a
  rw [Finset.sum_range] at hc
  pointwise [res_main_v952]
  simp only [v927_at V hq hd, v106_at V hv, v940_at V hv hd, v68_at V hq]
  refine Eq.trans (congrArg₂ (· * ·) (congrArg₂ (· + ·) (sum_of _ _ _ fun _ => mul_comm _ _) (sum_of _ _ _ fun _ => rfl)) kap_bits) ?_
  rw [← EReal.coe_add, ← EReal.coe_mul, add_comm]
  refine Eq.trans ?_ (congrArg (fun r : ℝ => ((r * kap : ℝ) : EReal)) (hc.symm.trans (by rw [Nat.div_add_mod])))
  rfl

/-- The gradient turned back and laid side by side, as the reference pads and adds its two halves. -/
def unturned (x0 x1 : FVec Ideal S8192x4x64 .f32) (cs sn : FVec Ideal S8192x1x64 .f32) : Wide .bf16 :=
  truncf .bf16 (shapeCast _ (addf
    (pad S8192x4x128 ![0, 0, 64] ![0, 0, 0] ![0, 0, 0] (addf (mulf x1 (broadcastInDim S8192x4x64 ![0, 1, 2] bcast_S8192x1x64_S8192x4x64_0_1_2 cs))
      (mulf (Host.negf x0) (broadcastInDim S8192x4x64 ![0, 1, 2] bcast_S8192x1x64_S8192x4x64_0_1_2 sn)))
      (constant S_ .f32 0x00000000#32) pads_S8192x4x64_S8192x4x128_000_000_6400 h_S_)
    (pad S8192x4x128 ![0, 0, 0] ![0, 0, 64] ![0, 0, 0] (addf (mulf x1 (broadcastInDim S8192x4x64 ![0, 1, 2] bcast_S8192x1x64_S8192x4x64_0_1_2 sn))
      (mulf x0 (broadcastInDim S8192x4x64 ![0, 1, 2] bcast_S8192x1x64_S8192x4x64_0_1_2 cs)))
      (constant S_ .f32 0x00000000#32) pads_S8192x4x64_S8192x4x128_000_000_0640 h_S_)) shapeCasts_S8192x4x128_S8192x512) bitsLt_bf16_f32

theorem unturned_at (X : FVec Ideal S8192x4x128 .f32) (x0 x1 : FVec Ideal S8192x4x64 .f32) (cs sn : FVec Ideal S8192x1x64 .f32)
    (t : Fin 8192) (h : Fin 4) (f : ℕ → Fin 128 → ℝ)
    (hX : ∀ a, X (ix3 t h a) = ((f t.val a : ℝ) : EReal))
    (h0 : ∀ (a : Fin 64) (b : Fin 128), b.val = a.val → x0 (ix3 t h a) = X (ix3 t h b))
    (h1 : ∀ (a : Fin 64) (b : Fin 128), b.val = 64 + a.val → x1 (ix3 t h a) = X (ix3 t h b))
    (hc : ∀ a : Fin 64, cs (ix3 t 0 a) = ((cosR t.val a.val : ℝ) : EReal))
    (hs : ∀ a : Fin 64, sn (ix3 t 0 a) = ((sinR t.val a.val : ℝ) : EReal)) (a : Fin 128) :
    unturned x0 x1 cs sn (ix2 t (col h a)) = ((unturn f t.val a : ℝ) : EReal) := by
  pointwise [unturned, col]
  by_cases ha : a.val < 64
  · rw [dif_neg (by omega), dif_pos ha, h0 _ a rfl, h1 _ (other a) (by show (a.val + 64) % 128 = 64 + a.val; omega), hX, hX, hc, hs, unturn,
      if_pos ha, zero_add, ← EReal.coe_mul, ← EReal.coe_mul, ← EReal.coe_add, add_comm]
  · have := a.isLt
    rw [dif_pos (by omega), dif_neg ha, h0 _ (other a) (by show (a.val + 64) % 128 = a.val - 64; omega),
      h1 _ a (by show a.val = 64 + (a.val - 64); omega), hX, hX, hc, hs, unturn,
      if_neg ha, add_zero, ← EReal.coe_mul, ← EReal.coe_neg, ← EReal.coe_mul, ← EReal.coe_add]
    congr 1
    ring

theorem lower_at (X : FVec Ideal S8192x4x128 .f32) (t : Fin 8192) (h : Fin 4) (a : Fin 64) (b : Fin 128) (e : b.val = a.val) :
    extractStridedSlice S8192x4x64 ![0, 0, 0] X slices_S8192x4x128_S8192x4x64_0_0_0 (ix3 t h a) = X (ix3 t h b) := by
  obtain rfl : b = ⟨a.val, Nat.lt_of_lt_of_le a.isLt (by decide)⟩ := Fin.ext e
  pointwise []

theorem upper_at (X : FVec Ideal S8192x4x128 .f32) (t : Fin 8192) (h : Fin 4) (a : Fin 64) (b : Fin 128) (e : b.val = 64 + a.val) :
    extractStridedSlice S8192x4x64 ![0, 0, 64] X slices_S8192x4x128_S8192x4x64_0_0_64 (ix3 t h a) = X (ix3 t h b) := by
  obtain rfl : b = ⟨64 + a.val, Nat.add_lt_add_left a.isLt 64⟩ := Fin.ext e
  pointwise []

/-- The gradient of the queries. -/
theorem gq_at (hk : Real' (ak V)) (hv : Real' (av V)) (hd : Real' (ad V)) (t : Fin 8192) (h : Fin 4) (a : Fin 128) :
    unturned (res_main_v970 V) (res_main_v971 V) (res_main_v14 V) (res_main_v16 V) (ix2 t (col h a))
      = ((gradQ (ak V) (av V) (ad V) h t.val a : ℝ) : EReal) :=
  unturned_at (res_main_v949 V) _ _ _ _ t h _ (v949_at V hk hv hd t h) (lower_at _ t h) (upper_at _ t h) (v14_at V t) (v16_at V t) a

/-- The gradient of the keys. -/
theorem gk_at (hq : Real' (aq V)) (hv : Real' (av V)) (hd : Real' (ad V)) (t : Fin 8192) (h : Fin 4) (a : Fin 128) :
    unturned (res_main_v953 V) (res_main_v954 V) (res_main_v44 V) (res_main_v46 V) (ix2 t (col h a))
      = ((gradK (aq V) (av V) (ad V) h t.val a : ℝ) : EReal) :=
  (unturned_at (res_main_v952 V) _ _ _ _ t h (fun t a => dK (lg h) 8192 (Q (aq V) h) (V' (av V) h) (D (ad V) h) t a * kap)
    (v952_at V hq hv hd t h) (lower_at _ t h) (upper_at _ t h) (v44_at V t) (v46_at V t) a).trans
    (congrArg (fun r : ℝ => (r : EReal)) (unturn_smul kap _ t.val a))

def gv : Wide .bf16 :=
  truncf .bf16 (shapeCast _ (shapeCast _ (addf (mulf (transpose S64x128x4x128 [0, 3, 1, 2]
      (Host.dotGeneral (φ₁ := .f32) (φ₂ := .f32) dot_S64x4x128x128_S64x128x4x128_S64x4x128x128_2_3_3_1_01_02 none (res_main_v927 V : FVec Ideal S64x4x128x128 .f32)
        (res_main_v69 V : FVec Ideal S64x128x4x128 .f32) : FVec Ideal S64x4x128x128 .f32) transposes_S64x4x128x128_S64x128x4x128_0_3_1_2)
      (broadcastInDim S64x128x4x128 ![0, 1, 2, 3] bcast_S1x128x4x1_S64x128x4x128_0_1_2_3 (res_main_v104 V : FVec Ideal S1x128x4x1 .f32)))
    (transpose S64x128x4x128 [0, 3, 1, 2]
      (Host.dotGeneral (φ₁ := .f32) (φ₂ := .f32) dot_S64x4x128x128_S64x4x128x128_S64x4x128x128_3_2_2_3_01_01 none (res_main_v934 V : FVec Ideal S64x4x128x128 .f32)
        (res_main_v92 V : FVec Ideal S64x4x128x128 .f32) : FVec Ideal S64x4x128x128 .f32) transposes_S64x4x128x128_S64x128x4x128_0_3_1_2))
    shapeCasts_S64x128x4x128_S8192x4x128) shapeCasts_S8192x4x128_S8192x512) bitsLt_bf16_f32

/-- The gradient of the values. -/
theorem gv_at (hq : Real' (aq V)) (hk : Real' (ak V)) (hd : Real' (ad V)) (t : Fin 8192) (h : Fin 4) (a : Fin 128) :
    gv V (ix2 t (col h a)) = ((gradV (aq V) (ak V) (ad V) h t.val a : ℝ) : EReal) := by
  have hc := dV_chunk (lg h) (Q (aq V) h) (K (ak V) h) (D (ad V) h) 128 64 (t.val / 128) (t.val % 128) (by have := t.isLt; omega)
    (Nat.mod_lt _ (by decide)) a
  rw [Finset.sum_range] at hc
  pointwise [gv, col]
  simp only [v927_at V hq hd, v69_at V hk, v104_at, v934_at V hd, v92_at V hq hk]
  refine Eq.trans (congrArg₂ (· + ·) (congrArg (· * _) (sum_of _ _ _ fun _ => mul_comm _ _)) (sum_of _ _ _ fun _ => mul_comm _ _)) ?_
  rw [← EReal.coe_mul, ← EReal.coe_add, add_comm, gradV]
  exact congrArg (fun r : ℝ => (r : EReal)) (hc.symm.trans (by rw [Nat.div_add_mod]))

/-- The three results over the launch's contents, and the arguments as they were. -/
theorem stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v987) = unturned (res_main_v970 (launchContents m c)) (res_main_v971 (launchContents m c))
          (res_main_v14 (launchContents m c)) (res_main_v16 (launchContents m c))
      ∧ r.2.mem ((c.tc : Thread nD τ).loc main_v988) = unturned (res_main_v953 (launchContents m c)) (res_main_v954 (launchContents m c))
          (res_main_v44 (launchContents m c)) (res_main_v46 (launchContents m c))
      ∧ r.2.mem ((c.tc : Thread nD τ).loc main_v989) = gv (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2.1.trans rfl, (h c).2.2.1.trans rfl, (h c).2.2.2⟩) (Value.run m ρ)

end Cert.Retention.Ref
-- ==== Proof.Retention.Claim.lean ====
module

public import proofs.«01_k».proof.Defs
public import proofs.«01_k».proof.Proof.Gen.Kernel5.Frame
public import proofs.«01_k».proof.Proof.Retention.Finals
public import proofs.«01_k».proof.Proof.Retention.RefValue
public import Idealize.ShloMosaic.Lib.Claim

@[expose] public section

set_option maxRecDepth 16384
noncomputable section

/-! The claims about the retention's gradients: the frames, and the equality of all three where the arguments are finite. -/

namespace Cert.Retention

open Idealize.ShloMosaic Idealize.ShloMosaic.TcCoe Idealize.SL.Sem

theorem frame : Cert.quiescent_Kernel5 := fun m ρ _ => Cert.Kernel5.Gen.frame m ρ

theorem frameIdeal : Cert.quiescent_Kernel5Ideal := fun m ρ _ => Cert.Kernel5Ideal.Gen.frame m ρ

theorem frameReference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run m ρ)

/-- The shapes of the precondition's own lines. -/
instance factsPre : Cert.Pre_finite_qkv.Facts := ⟨by decide⟩

theorem frameIdealPre : Cert.quiescent_Kernel5Ideal_pre_finite_qkv := fun m ρ _ => Cert.Kernel5Ideal.Gen.frame m ρ

theorem frameReferencePre : Cert.quiescent_Reference5Ideal_pre_finite_qkv := fun m ρ _ => frameReference m ρ trivial

/-- A number whose absolute value is below infinity is real. -/
theorem real_of (x : EReal) (h : Ideal.cmp .olt (max x (-x)) ⊤ = 1#1) : ∃ r : ℝ, x = ((r : ℝ) : EReal) := by
  have hlt : max x (-x) < ⊤ := by
    by_contra hn
    simp [Ideal.cmp, hn] at h
  rw [max_lt_iff] at hlt
  refine ⟨x.toReal, (EReal.coe_toReal hlt.1.ne ?_).symm⟩
  intro hb
  simp [hb] at hlt

theorem inf32 : Ideal.ofBits .f32 0x7F800000#32 = ⊤ := by simp [Ideal.ofBits, Ideal.ieee]
theorem inf16 : Ideal.ofBits .bf16 0x7F80#16 = ⊤ := by simp [Ideal.ofBits, Ideal.ieee]

theorem reals (q k v : Wide .f32) (d : Wide .bf16)
    (h0 : (Cert.Pre_finite_qkv.fn (F := Ideal) q k v d).1 = fun _ => 1#1) (h1 : (Cert.Pre_finite_qkv.fn (F := Ideal) q k v d).2.1 = fun _ => 1#1)
    (h2 : (Cert.Pre_finite_qkv.fn (F := Ideal) q k v d).2.2.1 = fun _ => 1#1) (h3 : (Cert.Pre_finite_qkv.fn (F := Ideal) q k v d).2.2.2 = fun _ => 1#1) :
    Real' q ∧ Real' k ∧ Real' v ∧ Real' d :=
  ⟨fun i => real_of _ (by rw [← inf32]; exact congrFun h0 i), fun i => real_of _ (by rw [← inf32]; exact congrFun h1 i),
    fun i => real_of _ (by rw [← inf32]; exact congrFun h2 i), fun i => real_of _ (by rw [← inf16]; exact congrFun h3 i)⟩

/-- An array that agrees head by head with the wide one. -/
theorem wide_ext (f : Fin 4 → ℕ → Fin 128 → ℝ) (X : Wide .bf16) (h : ∀ t h a, X (ix2 t (col h a)) = ((f h t.val a : ℝ) : EReal)) :
    X = fun i => wide f (i 0) (i 1) := by
  funext i; idx_vars i
  have e : i1 = col ⟨i1.val / 128, by have := i1.isLt; omega⟩ ⟨i1.val % 128, Nat.mod_lt _ (by decide)⟩ :=
    Fin.ext (by show i1.val = 128 * (i1.val / 128) + i1.val % 128; omega)
  exact (congrArg (fun j => X (ix2 i0 j)) e).trans (h i0 _ _)

variable (m : (ℓ : Loc Cert.Kernel5Ideal.nD Cert.Kernel5Ideal.τ Cert.Kernel5Ideal.sig) → Buf (Elt Ideal) ℓ) (c : Dev Cert.Kernel5Ideal.nD)

theorem pre_real (h : Cert.Pre_Kernel5Ideal_finite_qkv m) : Real' (kq m c) ∧ Real' (kk m c) ∧ Real' (kv m c) ∧ Real' (kd m c) :=
  reals _ _ _ _ (h c).1 (h c).2.1 (h c).2.2.1 (h c).2.2.2

theorem value : Cert.algebraic_Kernel5Ideal_Reference5Ideal_pre_finite_qkv := by
  pair_intro
  · run_from Cert.Kernel5Ideal.Value.run_blocks m g
  · run_from Ref.stages m' g'
    · obtain ⟨h0, h1, h2, h3⟩ := hagree c
      obtain ⟨rq, rk, rv, rd⟩ := pre_real m c hpre
      refine Eq.trans (wide_ext _ _ ?_) (final11 m c rk rv rd).symm
      rw [← show Ref.ak (StableHlo.launchContents m' c) = kk m c from h1, ← show Ref.av (StableHlo.launchContents m' c) = kv m c from h2,
        ← show Ref.ad (StableHlo.launchContents m' c) = kd m c from h3] at *
      exact Ref.gq_at _ rk rv rd
    · obtain ⟨h0, h1, h2, h3⟩ := hagree c
      obtain ⟨rq, rk, rv, rd⟩ := pre_real m c hpre
      refine Eq.trans (wide_ext _ _ ?_) (final12 m c rq rv rd).symm
      rw [← show Ref.aq (StableHlo.launchContents m' c) = kq m c from h0, ← show Ref.av (StableHlo.launchContents m' c) = kv m c from h2,
        ← show Ref.ad (StableHlo.launchContents m' c) = kd m c from h3] at *
      exact Ref.gk_at _ rq rv rd
    · obtain ⟨h0, h1, h2, h3⟩ := hagree c
      obtain ⟨rq, rk, rv, rd⟩ := pre_real m c hpre
      refine Eq.trans (wide_ext _ _ ?_) (final13 m c rq rk rd).symm
      rw [← show Ref.aq (StableHlo.launchContents m' c) = kq m c from h0, ← show Ref.ak (StableHlo.launchContents m' c) = kk m c from h1,
        ← show Ref.ad (StableHlo.launchContents m' c) = kd m c from h3] at *
      exact Ref.gv_at _ rq rk rd

end Cert.Retention
-- ==== Proof.Forward.Claim.lean ====
module

public import proofs.«01_k».proof.Defs
public import proofs.«01_k».proof.Proof.Gen.Kernel6.Frame
public import proofs.«01_k».proof.Proof.Forward.Finals
public import proofs.«01_k».proof.Proof.Forward.RefValue
public import proofs.«01_k».proof.Proof.Retention.Claim
public import Idealize.ShloMosaic.Lib.Claim

@[expose] public section

set_option maxRecDepth 16384
noncomputable section

/-! The claims about retention itself: the frames, and the equality of all three results where queries, keys and values are finite. -/

namespace Cert.Forward

open Idealize.ShloMosaic Idealize.ShloMosaic.TcCoe Idealize.SL.Sem Idealize.ShloMosaic.StableHlo
open Cert.Retention (Wide Real' col wide real_of inf32)

theorem frame : Cert.quiescent_Kernel6 := fun m ρ _ => Cert.Kernel6.Gen.frame m ρ

theorem frameIdeal : Cert.quiescent_Kernel6Ideal := fun m ρ _ => Cert.Kernel6Ideal.Gen.frame m ρ

theorem frameReference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run m ρ)

/-- The shapes of the precondition's own lines. -/
instance factsPre : Cert.Pre_finite_heads.Facts := ⟨by decide⟩

theorem frameIdealPre : Cert.quiescent_Kernel6Ideal_pre_finite_heads := fun m ρ _ => Cert.Kernel6Ideal.Gen.frame m ρ

theorem frameReferencePre : Cert.quiescent_Reference6Ideal_pre_finite_heads := fun m ρ _ => frameReference m ρ trivial

theorem reals (q k v g : Wide .f32) (n : FVec Ideal Cert.Kernel6Ideal.S1x512 .f32)
    (h0 : (Cert.Pre_finite_heads.fn (F := Ideal) q k v g n).1 = fun _ => 1#1) (h1 : (Cert.Pre_finite_heads.fn (F := Ideal) q k v g n).2.1 = fun _ => 1#1)
    (h2 : (Cert.Pre_finite_heads.fn (F := Ideal) q k v g n).2.2 = fun _ => 1#1) : Real' q ∧ Real' k ∧ Real' v :=
  ⟨fun i => real_of _ (by rw [← inf32]; exact congrFun h0 i), fun i => real_of _ (by rw [← inf32]; exact congrFun h1 i),
    fun i => real_of _ (by rw [← inf32]; exact congrFun h2 i)⟩

/-- Arrays given by their entries head by head. -/
theorem heads_ext {φ : FTy} (X Y : Wide φ) (h : ∀ t h a, X (ix2 t (col h a)) = Y (ix2 t (col h a))) : X = Y := by
  funext i; idx_vars i
  have e : i1 = col ⟨i1.val / 128, by have := i1.isLt; omega⟩ ⟨i1.val % 128, Nat.mod_lt _ (by decide)⟩ :=
    Fin.ext (by show i1.val = 128 * (i1.val / 128) + i1.val % 128; omega)
  rw [e]
  exact h i0 _ _

variable (m : (ℓ : Loc Cert.Kernel6Ideal.nD Cert.Kernel6Ideal.τ Cert.Kernel6Ideal.sig) → Buf (Elt Ideal) ℓ) (c : Dev Cert.Kernel6Ideal.nD)

theorem pre_real (h : Cert.Pre_Kernel6Ideal_finite_heads m) : Real' (kq m c) ∧ Real' (kk m c) ∧ Real' (kv m c) :=
  reals _ _ _ _ _ (h c).1 (h c).2.1 (h c).2.2

/-- The reference's states over keys and values known to be the kernel's. -/
theorem same_states (V : Valuation Cert.Reference6Ideal.τ Cert.Reference6Ideal.sig (Elt Ideal)) (k v : Wide .f32) (hk : Ref.ak V = k) (hv : Ref.av V = v)
    (rk : Real' k) (rv : Real' v) : Ref.rR V = fun i => stateWide k v (i 0) (i 1) (i 2) (i 3) := by
  subst hk hv
  funext i; idx_vars i
  exact Ref.rR_at _ rk rv i0 i1 i2 i3

theorem value : Cert.algebraic_Kernel6Ideal_Reference6Ideal_pre_finite_heads := by
  pair_intro
  · run_from Cert.Kernel6Ideal.Value.run_blocks m g
  · run_from Ref.stages m' g'
    · obtain ⟨h0, h1, h2, h3, h4⟩ := hagree c
      obtain ⟨rq, rk, rv⟩ := pre_real m c hpre
      refine Eq.trans (heads_ext _ _ fun t h a => ?_) (final9 m c rq rk rv).symm
      rw [← show Ref.aq (StableHlo.launchContents m' c) = kq m c from h0, ← show Ref.ak (StableHlo.launchContents m' c) = kk m c from h1,
        ← show Ref.av (StableHlo.launchContents m' c) = kv m c from h2] at *
      exact (Ref.oR_eq _ t h a).trans ((Ref.v461_at _ rq rk rv t h a).trans (Cert.Retention.wide_at _ t _ h a _ rfl rfl))
    · obtain ⟨h0, h1, h2, h3, h4⟩ := hagree c
      obtain ⟨rq, rk, rv⟩ := pre_real m c hpre
      refine Eq.trans (heads_ext _ _ fun t h a => ?_) (final10 m c rq rk rv).symm
      rw [← show Ref.aq (StableHlo.launchContents m' c) = kq m c from h0, ← show Ref.ak (StableHlo.launchContents m' c) = kk m c from h1,
        ← show Ref.av (StableHlo.launchContents m' c) = kv m c from h2, ← show Ref.ag (StableHlo.launchContents m' c) = kg m c from h3,
        ← show Ref.an (StableHlo.launchContents m' c) = kn m c from h4] at *
      exact (Ref.yR_at _ rq rk rv t h a).trans (gateWide_at _ _ _ _ _ t t _ h a rfl rfl)
    · obtain ⟨h0, h1, h2, h3, h4⟩ := hagree c
      obtain ⟨rq, rk, rv⟩ := pre_real m c hpre
      exact (same_states _ _ _ h1 h2 rk rv).trans (final11 m c rk rv).symm

end Cert.Forward
-- ==== Proof.Mixout.Claim.lean ====
module

public import proofs.«01_k».proof.Defs
public import proofs.«01_k».proof.Proof.Gen.Kernel4.Frame
public import proofs.«01_k».proof.Proof.Mixout.Gain
public import proofs.«01_k».proof.Proof.Mixout.RefValue
public import proofs.«01_k».proof.Proof.Forward.Claim
public import Idealize.ShloMosaic.Lib.Claim

@[expose] public section

set_option maxRecDepth 16384
noncomputable section

/-! The claims about the mixed output's gradients: the frames, and the equality of all five results where all arguments but the retention's output are finite. -/

namespace Cert.Mixout

open Idealize.ShloMosaic Idealize.ShloMosaic.TcCoe Idealize.SL.Sem
open Cert.Retention (Wide Real' col real_of inf32 inf16)
open Cert.Forward (heads_ext)

theorem frame : Cert.quiescent_Kernel4 := fun m ρ _ => Cert.Kernel4.Gen.frame m ρ

theorem frameIdeal : Cert.quiescent_Kernel4Ideal := fun m ρ _ => Cert.Kernel4Ideal.Gen.frame m ρ

theorem frameReference : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run m ρ)

/-- The shapes of the precondition's own lines. -/
instance factsPre : Cert.Pre_finite_mix.Facts := ⟨by decide, by decide, by decide, by decide, by decide⟩

theorem frameIdealPre : Cert.quiescent_Kernel4Ideal_pre_finite_mix := fun m ρ _ => Cert.Kernel4Ideal.Gen.frame m ρ

theorem frameReferencePre : Cert.quiescent_Reference4Ideal_pre_finite_mix := fun m ρ _ => frameReference m ρ trivial

open Cert.Kernel4Ideal Cert.Kernel4Ideal.Gen

theorem reals (d : FVec Ideal S8192x1024 .bf16) (wo : FVec Ideal S1x1024x1024 .f32) (wg : FVec Ideal S1x512x1024 .f32) (s o g : Wide .f32) (n : FVec Ideal S1x512 .f32)
    (h0 : (Cert.Pre_finite_mix.fn (F := Ideal) d wo wg s o g n).1 = fun _ => 1#1) (h1 : (Cert.Pre_finite_mix.fn (F := Ideal) d wo wg s o g n).2.1 = fun _ => 1#1)
    (h2 : (Cert.Pre_finite_mix.fn (F := Ideal) d wo wg s o g n).2.2.1 = fun _ => 1#1) (h3 : (Cert.Pre_finite_mix.fn (F := Ideal) d wo wg s o g n).2.2.2.1 = fun _ => 1#1)
    (h4 : (Cert.Pre_finite_mix.fn (F := Ideal) d wo wg s o g n).2.2.2.2.1 = fun _ => 1#1) (h5 : (Cert.Pre_finite_mix.fn (F := Ideal) d wo wg s o g n).2.2.2.2.2 = fun _ => 1#1) :
    Ref.RealD d ∧ Ref.RealW wo ∧ Ref.RealG wg ∧ Real' s ∧ Real' g ∧ Ref.RealN n :=
  ⟨fun i => real_of _ (by rw [← inf16]; exact congrFun h0 i), fun i => real_of _ (by rw [← inf32]; exact congrFun h1 i),
    fun i => real_of _ (by rw [← inf32]; exact congrFun h2 i), fun i => real_of _ (by rw [← inf32]; exact congrFun h3 i),
    fun i => real_of _ (by rw [← inf32]; exact congrFun h4 i), fun i => real_of _ (by rw [← inf32]; exact congrFun h5 i)⟩

variable (m : (ℓ : Loc nD τ sig) → Buf (Elt Ideal) ℓ) (c : Dev nD)

theorem pre_real (h : Cert.Pre_Kernel4Ideal_finite_mix m) :
    Ref.RealD (D m c) ∧ Ref.RealW (WO m c) ∧ Ref.RealG (WG m c) ∧ Real' (S m c) ∧ Real' (G m c) ∧ Ref.RealN (N m c) :=
  reals _ _ _ _ _ _ _ (h c).1 (h c).2.1 (h c).2.2.1 (h c).2.2.2.1 (h c).2.2.2.2.1 (h c).2.2.2.2.2

theorem unit_final : Ref.unitR (D m c) (WO m c) (WG m c) (S m c) = (dats m 0 c).arrAt 8 (cfgs 0).N := by
  refine Eq.trans ?_ (final8 m c).symm
  funext y; idx_vars y
  exact Ref.unitR_at _ _ _ _ _ _

theorem state_final (h : Cert.Pre_Kernel4Ideal_finite_mix m) : Ref.stateR (D m c) (WO m c) (WG m c) (S m c) = (dats m 0 c).arrAt 9 (cfgs 0).N := by
  obtain ⟨hd, hw, hg, hs, _, _⟩ := pre_real m c h
  refine Eq.trans ?_ (final9 m c).symm
  funext y; idx_vars y
  exact Ref.stateR_at _ _ _ _ hd hw hg hs _ _

theorem gate_final (h : Cert.Pre_Kernel4Ideal_finite_mix m) : Ref.gateR (O m c) (G m c) (N m c) (D m c) (WO m c) = (dats m 0 c).arrAt 10 (cfgs 0).N := by
  obtain ⟨hd, hw, _, _, hg, hn⟩ := pre_real m c h
  exact Eq.trans (heads_ext _ _ fun t k a => Ref.gateR_at _ _ _ _ _ hd hw hg hn t k a) (final10 m c).symm

theorem row_final (h : Cert.Pre_Kernel4Ideal_finite_mix m) :
    Ref.rowR (O m c) (Ref.donR (G m c) (N m c) (D m c) (WO m c)) = (dats m 0 c).arrAt 11 (cfgs 0).N := by
  obtain ⟨hd, hw, _, _, hg, hn⟩ := pre_real m c h
  exact Eq.trans (heads_ext _ _ fun t k a => Ref.doR_at _ _ _ _ _ hd hw hg hn t k a) (final11 m c).symm

theorem sums_final : Ref.dgR (O m c) (G m c) (D m c) (WO m c) = (dats m 0 c).arrAt 12 (cfgs 0).N := by
  refine Eq.trans ?_ (final12 m c).symm
  funext y; idx_vars y
  obtain rfl : y0 = 0 := Subsingleton.elim _ _
  rw [← col_hd y1]
  refine (Ref.dgR_at _ _ _ _ _ _).trans ?_
  rw [Cert.Inproj.sum_rows]
  refine Eq.trans (Finset.sum_congr rfl fun p _ => ?_) (Fin.sum_congr' (fun p : Fin cfg0.N => rows12 m c p (ix2 0 (col (hd y1) (ft y1)))) N_0.symm)
  refine congrArg₂ (· + ·) (Finset.sum_congr rfl fun r _ => ?_) (Finset.sum_congr rfl fun r _ => ?_)
  · exact congrArg (fun i => GAIN (D m c) (WO m c) (O m c) (G m c) i _) (Fin.ext (by show 512 * p.val + r.val = 512 * p.val + (0 + r.val); omega))
  · exact congrArg (fun i => GAIN (D m c) (WO m c) (O m c) (G m c) i _) (Fin.ext (by show 512 * p.val + 256 + r.val = 512 * p.val + (256 + r.val); omega))

/-- The names the kernel's two rounded literals are given. -/
theorem names : Cert.preserves_Kernel4_Kernel4Ideal :=
  ⟨IdealRules.named_const.statement Cert.Kernel4Ideal.κ "cubic" .f32 0x3D372713#32 ((8943 / 200000 : ℝ) : EReal) rfl,
    IdealRules.named_const.statement Cert.Kernel4Ideal.κ "slope" .f32 0x3E095D4F#32 ((26829 / 200000 : ℝ) : EReal) rfl⟩

theorem value : Cert.algebraic_Kernel4Ideal_Reference4Ideal_pre_finite_mix := by
  pair_intro
  · run_from Cert.Kernel4Ideal.Value.run_blocks m g
  · run_from Ref.stages m' g'
    · exact unit_final m c
    · exact state_final m c hpre
    · exact gate_final m c hpre
    · exact row_final m c hpre
    · exact sums_final m c

end Cert.Mixout
-- ==== Proof.Ff1.Body.lean ====
module

public import proofs.«01_k».proof.Proof.Gen.Kernel7Ideal.Frame.RunC
public import Idealize.ShloMosaic.Lib.Claim

@[expose] public section

set_option maxRecDepth 16384
noncomputable section

/-! The call between the two feed-forward gradients, grid point by grid point: what it leaves in its outputs' buffers, and that its body
runs from what one point leaves to what the next one takes. The two operands it copies in by itself stand in rings of three slots. -/

namespace Cert.Ff1

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ### What a point leaves -/

/-- The stores into an output block, last first. -/
abbrev Stores (F : FTy → Type) [FloatOps F] (s : Shape) (φ : EltTy) := List (View.Piece (Elt F) s φ)

/-- The four output blocks of a point. -/
abbrev Blocks (F : FTy → Type) [FloatOps F] := Vec F S512x1024 .f32 × Vec F S512x1024 .bf16 × Vec F S1x1024 .f32 × Vec F S1x1024 .f32

/-- The blocks after the stores. -/
def stored (L5 : Stores F S512x1024 .f32) (L6 : Stores F S512x1024 .bf16) (L7 L8 : Stores F S1x1024 .f32) : Blocks F :=
  (VO0_5.read (Elt F) (VO0_5.writes (Elt F) VO0_5.junk L5), VO0_6.read (Elt F) (VO0_6.writes (Elt F) VO0_6.junk L6),
    VO0_7.read (Elt F) (VO0_7.writes (Elt F) VO0_7.junk L7), VO0_8.read (Elt F) (VO0_8.writes (Elt F) VO0_8.junk L8))

/-- Every element of a block is stored. -/
abbrev Full {s : Shape} {φ : EltTy} (L : Stores F s φ) : Prop := ∀ y, ∃ p ∈ L, y ∈ p.1.set

/-- The body's run at the first point, -/
abbrev runFirst (t : Fin cfg0.N) (h0 : t.val % 16 = 0) (h1 : t.val < 14) :=
  kernelRun0_A c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) ((hcond0_0 t).mpr h0) ((hcond0_1 t).mpr h1)
    (iblk m c 0 t) (iblk m c 1 t) (iblk m c 2 t) (iblk m c 3 t) (iblk m c 4 t) (V m c main_v12) (V m c main_arg4)

/-- at a point that still starts a copy, -/
abbrev runNext (t : Fin cfg0.N) (h0 : ¬t.val % 16 = 0) (h1 : t.val < 14) (p q : Vec F S1x1024 .f32) :=
  kernelRun0_B c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (fun h => h0 ((hcond0_0 t).mp h)) ((hcond0_1 t).mpr h1)
    (iblk m c 0 t) (iblk m c 1 t) (iblk m c 2 t) (iblk m c 3 t) (iblk m c 4 t) p q (V m c main_v12) (V m c main_arg4)

/-- and at one of the last two. -/
abbrev runLast (t : Fin cfg0.N) (h0 : ¬t.val % 16 = 0) (h1 : ¬t.val < 14) (p q : Vec F S1x1024 .f32) :=
  kernelRun0_C c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (fun h => h0 ((hcond0_0 t).mp h)) (fun h => h1 ((hcond0_1 t).mp h))
    (iblk m c 0 t) (iblk m c 1 t) (iblk m c 2 t) (iblk m c 3 t) (iblk m c 4 t) p q (V m c main_v12) (V m c main_arg4)

def first (t : Fin cfg0.N) (h0 : t.val % 16 = 0) (h1 : t.val < 14) : Blocks F :=
  stored (runFirst m c t h0 h1).1 (runFirst m c t h0 h1).2.1 (runFirst m c t h0 h1).2.2.1 (runFirst m c t h0 h1).2.2.2.1

def next (t : Fin cfg0.N) (h0 : ¬t.val % 16 = 0) (h1 : t.val < 14) (p q : Vec F S1x1024 .f32) : Blocks F :=
  stored (runNext m c t h0 h1 p q).1 (runNext m c t h0 h1 p q).2.1 (runNext m c t h0 h1 p q).2.2.1 (runNext m c t h0 h1 p q).2.2.2.1

def last (t : Fin cfg0.N) (h0 : ¬t.val % 16 = 0) (h1 : ¬t.val < 14) (p q : Vec F S1x1024 .f32) : Blocks F :=
  stored (runLast m c t h0 h1 p q).1 (runLast m c t h0 h1 p q).2.1 (runLast m c t h0 h1 p q).2.2.1 (runLast m c t h0 h1 p q).2.2.2.1

theorem lt16 {n : ℕ} (h : n < cfg0.N) : n < 16 := lt_of_lt_of_eq h (show cfg0.N = 16 from N_0)

theorem later {n : ℕ} (h : n + 1 < cfg0.N) : ¬(n + 1) % 16 = 0 := by have := lt16 h; omega

/-- The output blocks after point `n`; the two row sums go on from the point before. -/
def left : (n : ℕ) → n < cfg0.N → Blocks F
  | 0, h => first m c ⟨0, h⟩ (Nat.zero_mod _) (Nat.zero_lt_succ 13)
  | n + 1, h =>
    if g : n + 1 < 14 then next m c ⟨n + 1, h⟩ (later h) g (left n (Nat.lt_of_succ_lt h)).2.2.1 (left n (Nat.lt_of_succ_lt h)).2.2.2
    else last m c ⟨n + 1, h⟩ (later h) g (left n (Nat.lt_of_succ_lt h)).2.2.1 (left n (Nat.lt_of_succ_lt h)).2.2.2

/-- The output blocks after the point before `t`. -/
abbrev prev (t : Fin cfg0.N) : Blocks F := left m c (t.val - 1) (Nat.lt_of_le_of_lt (Nat.sub_le _ _) t.isLt)

theorem left_first (t : Fin cfg0.N) (h0 : t.val % 16 = 0) (h1 : t.val < 14) : left m c t.val t.isLt = first m c t h0 h1 := by
  obtain ⟨n, hn⟩ := t
  cases n with
  | zero => rfl
  | succ n => exact absurd h0 (later hn)

theorem left_next (t : Fin cfg0.N) (h0 : ¬t.val % 16 = 0) (h1 : t.val < 14) :
    left m c t.val t.isLt = next m c t h0 h1 (prev m c t).2.2.1 (prev m c t).2.2.2 := by
  obtain ⟨n, hn⟩ := t
  cases n with
  | zero => exact absurd (Nat.zero_mod _) h0
  | succ n => exact dif_pos h1

theorem left_last (t : Fin cfg0.N) (h0 : ¬t.val % 16 = 0) (h1 : ¬t.val < 14) :
    left m c t.val t.isLt = last m c t h0 h1 (prev m c t).2.2.1 (prev m c t).2.2.2 := by
  obtain ⟨n, hn⟩ := t
  cases n with
  | zero => exact absurd (Nat.zero_mod _) h0
  | succ n => exact dif_neg h1

/-! ### The data the pipeline's rule takes -/

/-- Before point `k`: the generator's register, and the two rings. -/
def between (k : ℕ) : sProp 𝕄 := iprop((∃ r, prngReg c r) ∗ ringAt0_0 c (V m c main_v12) k ∗ ringAt0_1 c (V m c main_arg4) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t.val t.isLt).1
    | ⟨6, _⟩ => (left m c t.val t.isLt).2.1
    | ⟨7, _⟩ => (left m c t.val t.isLt).2.2.1
    | ⟨8, _⟩ => (left m c t.val t.isLt).2.2.2
  Φ t := between m c t.val
  q _ := fullShare
  owed _ := 0

theorem entry (w : Fin cfg0.W) : (dats m 0 c).A w = V m c (Pipeline.arrRef spec0 w) := by dsimp only [dats]

variable (t : Fin cfg0.N)

theorem before_0 (d) : (dats m 0 c).before 0 t d = iblk m c 0 t := before0_0_of m (dats m 0 c) (entry m c 0) (fun _ => by dsimp only [dats]) t d
theorem before_1 (d) : (dats m 0 c).before 1 t d = iblk m c 1 t := before0_1_of m (dats m 0 c) (entry m c 1) (fun _ => by dsimp only [dats]) t d
theorem before_2 (d) : (dats m 0 c).before 2 t d = iblk m c 2 t := before0_2_of m (dats m 0 c) (entry m c 2) (fun _ => by dsimp only [dats]) t d
theorem before_3 (d) : (dats m 0 c).before 3 t d = iblk m c 3 t := before0_3_of m (dats m 0 c) (entry m c 3) (fun _ => by dsimp only [dats]) t d
theorem before_4 (d) : (dats m 0 c).before 4 t d = iblk m c 4 t := before0_4_of m (dats m 0 c) (entry m c 4) (fun _ => by dsimp only [dats]) t d

/-- After the first point the row sums' buffers still hold what the point before left. -/
theorem before_7 (h : ¬t.val % 16 = 0) (d) : (dats m 0 c).before 7 t d = (prev m c t).2.2.1 := by
  have hN := lt16 t.isLt
  rw [Dat.before_out_kept _ 7 rfl t (by omega) (Bool.eq_false_iff.mpr fun g => by have := (flush0_7 _).mp g; dsimp only at this; omega)
    (fun _ => rfl) (fun _ _ => rfl)]
  dsimp only [dats]

theorem before_8 (h : ¬t.val % 16 = 0) (d) : (dats m 0 c).before 8 t d = (prev m c t).2.2.2 := by
  have hN := lt16 t.isLt
  rw [Dat.before_out_kept _ 8 rfl t (by omega) (Bool.eq_false_iff.mpr fun g => by have := (flush0_8 _).mp g; dsimp only at this; omega)
    (fun _ => rfl) (fun _ _ => rfl)]
  dsimp only [dats]

/-! ### One point -/

/-- The inputs' buffers at their blocks. -/
abbrev inputs (R : sProp 𝕄) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ R)

/-- A buffer with some stores done. -/
abbrev after {s : Shape} {φ : EltTy} (M : Memref sig .tc .vmem s φ) (L : Stores F s φ) : sProp 𝕄 :=
  iprop(∃ f, M.view.loc (c : Thread nD τ) ↦[M.view.set]{fullShare} M.view.writes (Elt F) f L)

theorem after_owns {s : Shape} {φ : EltTy} (M : Memref sig .tc .vmem s φ) (v : View sig .tc .vmem s φ) (L : Stores F s φ) (h : Full L) :
    after c M L ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

/-- What a run of the body has to give: from the inputs, the outputs and the rings' six parts to the stored outputs and six other parts. -/
abbrev Runs (O7 O8 a b d e f g a' b' d' e' f' g' : sProp 𝕄) (L5 : Stores F S512x1024 .f32) (L6 : Stores F S512x1024 .bf16) (L7 L8 : Stores F S1x1024 .f32) : Prop :=
  ∀ (W : Waits sig Unit) (K : PUnit → sProp 𝕄),
    inputs m c t iprop((∃ d, owns (c : Thread nD τ) (ms0_5 t) fullShare d) ∗ (∃ d, owns (c : Thread nD τ) (ms0_6 t) fullShare d) ∗ O7 ∗ O8
      ∗ a ∗ b ∗ d ∗ e ∗ f ∗ g ∗ owes (c : Thread nD τ) 0 W
      ∗ (inputs m c t iprop(after c (ms0_5 t) L5 ∗ after c (ms0_6 t) L6 ∗ after c (ms0_7 t) L7 ∗ after c (ms0_8 t) L8
          ∗ a' ∗ b' ∗ d' ∗ e' ∗ f' ∗ g' ∗ (∃ W', owes (c : Thread nD τ) 0 W')) -∗ K ⟨⟩))
    ⊢ wp frame (wpE (defs₀ (F := F)) Variants.none c none) Set.univ (bodyAt0 t) K

/-- What the pipeline's rule gives the body at a point, -/
def given : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d))
    ∗ (∃ d, owns (c : Thread nD τ) (ms0_8 t) fullShare ((dats m 0 c).before 8 t d)))

/-- and what it asks back. -/
def asked : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t)
    ∗ owns (c : Thread nD τ) (ms0_8 t) fullShare ((dats m 0 c).after 8 t))

theorem asked_of {B : Blocks F} (h : left m c t.val t.isLt = B) :
    iprop(between m c (t.val + 1) ∗ (∃ W', owes (c : Thread nD τ) 0 W')
      ∗ inputs m c t iprop(owns (c : Thread nD τ) (ms0_5 t) fullShare B.1 ∗ owns (c : Thread nD τ) (ms0_6 t) fullShare B.2.1
        ∗ owns (c : Thread nD τ) (ms0_7 t) fullShare B.2.2.1 ∗ owns (c : Thread nD τ) (ms0_8 t) fullShare B.2.2.2)) ⊢ asked m c t := by
  subst h
  unfold asked Dat.owesAt Pipeline.owesWithin
  rw [show (dats m 0 c).owed t.succ = 0 from rfl, show (dats m 0 c).Φ t.succ = between m c (t.val + 1) from rfl]
  dsimp only [dats]
  iintro ⟨HB, ⟨%W, HW⟩, H⟩
  isplitl [HB]; · iexact HB
  isplitl [HW]
  · iexists W; isplitr; · ipureintro; exact fun _ _ => Or.inl trivial
    iexact HW
  iexact H

set_option maxHeartbeats 4000000 in
/-- A point whose rings stand in six parts, from a run of the body over those parts. -/
theorem point {O7 O8 a b d e f g a' b' d' e' f' g' : sProp 𝕄} {L5 : Stores F S512x1024 .f32} {L6 : Stores F S512x1024 .bf16} {L7 L8 : Stores F S1x1024 .f32}
    (run : Runs m c t O7 O8 a b d e f g a' b' d' e' f' g' L5 L6 L7 L8)
    (hl : left m c t.val t.isLt = stored L5 L6 L7 L8) (h5 : Full L5) (h6 : Full L6) (h7 : Full L7) (h8 : Full L8)
    (o7 : iprop(∃ x, owns (c : Thread nD τ) (ms0_7 t) fullShare ((dats m 0 c).before 7 t x)) ⊢ O7)
    (o8 : iprop(∃ x, owns (c : Thread nD τ) (ms0_8 t) fullShare ((dats m 0 c).before 8 t x)) ⊢ O8)
    (r0 : ringAt0_0 c (V m c main_v12) t.val ⊢ iprop(a ∗ b ∗ d)) (r1 : ringAt0_1 c (V m c main_arg4) t.val ⊢ iprop(e ∗ f ∗ g))
    (s0 : iprop(a' ∗ b' ∗ d') ⊢ ringAt0_0 c (V m c main_v12) (t.val + 1)) (s1 : iprop(e' ∗ f' ∗ g') ⊢ ringAt0_1 c (V m c main_arg4) (t.val + 1)) :
    given m c t ⊢ wp frame (wpE (defs₀ (F := F)) Variants.none c none) Set.univ (bodyAt0 t) (fun _ => asked m c t) := by
  unfold given Dat.owesAt Pipeline.owesWithin
  simp only [before_0, before_1, before_2, before_3, before_4]
  rw [show (dats m 0 c).owed t.castSucc = 0 from rfl, show (dats m 0 c).Φ t.castSucc = between m c t.val from rfl]
  unfold between
  iintro ⟨⟨HG, HR, HS⟩, ⟨%W, -, HW⟩, ⟨%_, H0⟩, ⟨%_, H1⟩, ⟨%_, H2⟩, ⟨%_, H3⟩, ⟨%_, H4⟩, ⟨%_, H5⟩, ⟨%_, H6⟩, H7, H8⟩
  ihave HR := r0 $$ HR
  icases HR with ⟨Ha, Hb, Hd⟩
  ihave HS := r1 $$ HS
  icases HS with ⟨He, Hf, Hg⟩
  iapply (run W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iapply o7; iexact H7
  isplitl [H8]; · iapply o8; iexact H8
  isplitl [Ha]; · iexact Ha
  isplitl [Hb]; · iexact Hb
  isplitl [Hd]; · iexact Hd
  isplitl [He]; · iexact He
  isplitl [Hf]; · iexact Hf
  isplitl [Hg]; · iexact Hg
  isplitl [HW]; · iexact HW
  iintro ⟨H0, H1, H2, H3, H4, H5, H6, H7, H8, Ha, Hb, Hd, He, Hf, Hg, HW⟩
  iapply (asked_of m c t hl)
  unfold between stored
  isplitl [HG Ha Hb Hd He Hf Hg]
  · isplitl [HG]; · iexact HG
    isplitl [Ha Hb Hd]
    · iapply s0
      isplitl [Ha]; · iexact Ha
      isplitl [Hb]; · iexact Hb
      iexact Hd
    iapply s1
    isplitl [He]; · iexact He
    isplitl [Hf]; · iexact Hf
    iexact Hg
  isplitl [HW]; · iexact HW
  isplitl [H0]; · iexact H0
  isplitl [H1]; · iexact H1
  isplitl [H2]; · iexact H2
  isplitl [H3]; · iexact H3
  isplitl [H4]; · iexact H4
  isplitl [H5]; · iapply (after_owns c (ms0_5 t) VO0_5 _ h5); iexact H5
  isplitl [H6]; · iapply (after_owns c (ms0_6 t) VO0_6 _ h6); iexact H6
  isplitl [H7]; · iapply (after_owns c (ms0_7 t) VO0_7 _ h7); iexact H7
  iapply (after_owns c (ms0_8 t) VO0_8 _ h8); iexact H8

/-- Nothing is held apart from the slots. -/
theorem drop_homes {S P : sProp 𝕄} : iprop(S ∗ P) ⊢ P := by
  iintro ⟨-, H⟩; iexact H

theorem point_first (h0 : t.val % 16 = 0) (h1 : t.val < 14) :
    given m c t ⊢ wp frame (wpE (defs₀ (F := F)) Variants.none c none) Set.univ (bodyAt0 t) (fun _ => asked m c t) := by
  have hz : t.val = 0 := by have := lt16 t.isLt; omega
  refine point m c t (runFirst m c t h0 h1).2.2.2.2 (left_first m c t h0 h1)
    (View.cover_of_tiledL _ S256x1024.size (by sl_kernel_rfl)) (View.cover_of_tiledL _ S256x1024.size (by sl_kernel_rfl))
    (View.cover_of_tiledL _ S1x1024.size (by sl_kernel_rfl)) (View.cover_of_tiledL _ S1x1024.size (by sl_kernel_rfl))
    ?_ ?_ ?_ ?_ ?_ ?_
  · iintro ⟨%_, H⟩; iexists _; iexact H
  · iintro ⟨%_, H⟩; iexists _; iexact H
  · unfold ringAt0_0; rw [if_pos hz, Ring.At₀_eq3' _ _ _ t.val hz (by decide : 3 ≤ 16)]; exact drop_homes
  · unfold ringAt0_1; rw [if_pos hz, Ring.At₀_eq3' _ _ _ t.val hz (by decide : 3 ≤ 16)]; exact drop_homes
  · unfold ringAt0_0; rw [if_neg (Nat.succ_ne_zero _), Ring.At3_one' _ _ _ _ t.val hz (by decide : 3 ≤ 16)]; exact Ring.with_homes (Idealize.SL.BI.Entails.refl _)
  · unfold ringAt0_1; rw [if_neg (Nat.succ_ne_zero _), Ring.At3_one' _ _ _ _ t.val hz (by decide : 3 ≤ 16)]; exact Ring.with_homes (Idealize.SL.BI.Entails.refl _)

theorem point_next (h0 : ¬t.val % 16 = 0) (h1 : t.val < 14) :
    given m c t ⊢ wp frame (wpE (defs₀ (F := F)) Variants.none c none) Set.univ (bodyAt0 t) (fun _ => asked m c t) := by
  have hz : ¬t.val = 0 := fun h => h0 (by rw [h])
  have hB : t.val + 2 < 16 := by omega
  refine point m c t (runNext m c t h0 h1 _ _).2.2.2.2 (left_next m c t h0 h1)
    (View.cover_of_tiledL _ S256x1024.size (by sl_kernel_rfl)) (View.cover_of_tiledL _ S256x1024.size (by sl_kernel_rfl))
    (View.cover_of_tiledL _ S1x1024.size (by sl_kernel_rfl)) (View.cover_of_tiledL _ S1x1024.size (by sl_kernel_rfl))
    ?_ ?_ ?_ ?_ ?_ ?_
  · simp only [before_7 m c t h0]; iintro ⟨%_, H⟩; iexact H
  · simp only [before_8 m c t h0]; iintro ⟨%_, H⟩; iexact H
  · unfold ringAt0_0; rw [if_neg hz, Ring.At3_here _ _ _ _ t.val hB]; exact drop_homes
  · unfold ringAt0_1; rw [if_neg hz, Ring.At3_here _ _ _ _ t.val hB]; exact drop_homes
  · unfold ringAt0_0
    rw [if_neg (Nat.succ_ne_zero _), Ring.At3_next _ _ _ _ t.val hB, Ring.slotAt3_next0 _ _ _ t.val (by omega), Ring.slotAt3_next1 _ _ _ t.val hB]
    exact Ring.with_homes (Idealize.SL.BI.Entails.refl _)
  · unfold ringAt0_1
    rw [if_neg (Nat.succ_ne_zero _), Ring.At3_next _ _ _ _ t.val hB, Ring.slotAt3_next0 _ _ _ t.val (by omega), Ring.slotAt3_next1 _ _ _ t.val hB]
    exact Ring.with_homes (Idealize.SL.BI.Entails.refl _)

theorem point_last (h0 : ¬t.val % 16 = 0) (h1 : ¬t.val < 14) :
    given m c t ⊢ wp frame (wpE (defs₀ (F := F)) Variants.none c none) Set.univ (bodyAt0 t) (fun _ => asked m c t) := by
  have hz : ¬t.val = 0 := fun h => h0 (by rw [h])
  have hN := lt16 t.isLt
  have hB : 16 ≤ t.val + 2 := by omega
  refine point m c t (runLast m c t h0 h1 _ _).2.2.2.2 (left_last m c t h0 h1)
    (View.cover_of_tiledL _ S256x1024.size (by sl_kernel_rfl)) (View.cover_of_tiledL _ S256x1024.size (by sl_kernel_rfl))
    (View.cover_of_tiledL _ S1x1024.size (by sl_kernel_rfl)) (View.cover_of_tiledL _ S1x1024.size (by sl_kernel_rfl))
    ?_ ?_ ?_ ?_ ?_ ?_
  · simp only [before_7 m c t h0]; iintro ⟨%_, H⟩; iexact H
  · simp only [before_8 m c t h0]; iintro ⟨%_, H⟩; iexact H
  · unfold ringAt0_0; rw [if_neg hz, Ring.At3_here_tail _ _ _ _ t.val hN]; exact drop_homes
  · unfold ringAt0_1; rw [if_neg hz, Ring.At3_here_tail _ _ _ _ t.val hN]; exact drop_homes
  · unfold ringAt0_0
    rw [if_neg (Nat.succ_ne_zero _), Ring.At3_next_tail _ _ _ _ t.val hB hN, Ring.slotAt3_tail_role _ _ _ t.val]
    exact Ring.with_homes (Idealize.SL.BI.Entails.refl _)
  · unfold ringAt0_1
    rw [if_neg (Nat.succ_ne_zero _), Ring.At3_next_tail _ _ _ _ t.val hB hN, Ring.slotAt3_tail_role _ _ _ t.val]
    exact Ring.with_homes (Idealize.SL.BI.Entails.refl _)

/-- The body at any point. -/
theorem body_point : given m c t ⊢ wp frame (wpE (defs₀ (F := F)) Variants.none c none) Set.univ (bodyAt0 t) (fun _ => asked m c t) := by
  by_cases h0 : t.val % 16 = 0
  · exact point_first m c t h0 (by have := lt16 t.isLt; omega)
  · by_cases h1 : t.val < 14
    · exact point_next m c t h0 h1
    · exact point_last m c t h0 h1

end Cert.Ff1

end
-- ==== Proof.Ff1.Frame.lean ====
module

public import proofs.«01_k».proof.Defs
public import proofs.«01_k».proof.Proof.Ff1.Body

@[expose] public section

set_option maxRecDepth 16384
noncomputable section

/-! The whole run of the call between the feed-forward gradients: it ends, its arguments are unchanged and its counters are at zero. -/

namespace Cert.Ff1

open Cert.Kernel7Ideal Cert.Kernel7Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (m : (ℓ : Loc nD τ sig) → Buf (Elt F) ℓ) (ρ : Dev nD → PrngReg) (c : Dev nD)

theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_point m c t) rfl .rfl fun _ => .rfl

/-- The launch hands over the rings before the first point, -/
theorem opened : Pipeline.ΦD osem0 spec0 H0 (V m) c ⊢ (dats m 0 c).Φ 0 := by
  rw [PhiD0_eq, show (dats m 0 c).Φ 0 = between m c 0 from rfl]
  unfold between
  iintro ⟨⟨HR, HS⟩, HG, ⟨H0, H1, H2, H3, H4, H5⟩, ⟨HX, HY⟩⟩
  isplitl [HG]; · iexact HG
  isplitl [HR H0 H1 H2 HX]
  · iapply (ring0_0_in (F := F) m c)
    isplitl [HR]; · iexact HR
    isplitr [HX]
    · isplitl [H0]; · iexact H0
      isplitl [H1]; · iexact H1
      iexact H2
    iexact HX
  iapply (ring0_1_in (F := F) m c)
  isplitl [HS]; · iexact HS
  isplitr [HY]
  · isplitl [H3]; · iexact H3
    isplitl [H4]; · iexact H4
    iexact H5
  iexact HY

/-- and takes them back after the last. -/
theorem closed : (dats m 0 c).Φ (Fin.last cfg0.N) ⊢ Pipeline.ΦD osem0 spec0 H0 (V m) c := by
  rw [PhiD0_eq, show (dats m 0 c).Φ (Fin.last cfg0.N) = between m c grid0.N from rfl, N_0]
  unfold between
  iintro ⟨HG, HR, HS⟩
  ihave HR := (ring0_0_out (F := F) m c) $$ HR
  icases HR with ⟨HR, ⟨H0, H1, H2⟩, HX⟩
  ihave HS := (ring0_1_out (F := F) m c) $$ HS
  icases HS with ⟨HS, ⟨H3, H4, H5⟩, HY⟩
  isplitl [HR HS]
  · isplitl [HR]; · iexact HR
    iexact HS
  isplitl [HG]; · iexact HG
  isplitr [HX HY]
  · isplitl [H0]; · iexact H0
    isplitl [H1]; · iexact H1
    isplitl [H2]; · iexact H2
    isplitl [H3]; · iexact H3
    isplitl [H4]; · iexact H4
    iexact H5
  isplitl [HX]; · iexact HX
  iexact HY

set_option backward.isDefEq.respectTransparency.types false in
theorem ran : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := entry m) (hin := opened m) (hout := closed m)

theorem run : θ_run defs (onTc (τ := τ) (main (F := F))) (s₀ m ρ) (Pipeline.FramePost cfgs (dats m) 0 (V m)) :=
  (θ_run defs _ _).mono (fun _ h => h.1) (ran m ρ)

theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (entry m) (run m ρ)) ((θ_run defs _ _).mono (fun _ h => h.2) (ran m ρ))

theorem frameIdeal : Cert.quiescent_Kernel7Ideal := fun m ρ _ => quiet m ρ

end Cert.Ff1

end
-- ==== Proof.Ff1.Spec.lean ====
module

public import proofs.«01_k».proof.Proof.Inproj.Spec
public import proofs.«01_k».proof.Proof.Ff1.Frame
public import Idealize.ShloMosaic.Lib.Pipeline.ValueKit

@[expose] public section

set_option maxRecDepth 16384
noncomputable section

/-! The gradients between the two feed-forward products as functions of the arguments, in the order in which the kernel computes them:
the gradient at the rows before the feed-forward layer, and from it the gradient at the mixer's output. The mean square of a row and the
closed forms of a norm's gradient are those of the input projection. -/

namespace Cert.Ff1

open Idealize.ShloMosaic Idealize.ShloMosaic.TcCoe Idealize.SL.Sem
open Cert.Kernel7Ideal
open Cert.Inproj (rr ms DX DG)

/-- One 512 of the hidden columns: its share of the gradient at the normed rows. -/
def part (p : FVec Ideal S8192x4096 .bf16) (w : FVec Ideal S1x1024x4096 .f32) (j : ℕ) (hj : j + 512 ≤ 4096) (r : Fin 8192) (c : Fin 1024) : EReal :=
  ∑ k : Fin 512, p (ix2 r ⟨j + k, by omega⟩) * w (ix3 0 c ⟨j + k, by omega⟩)

/-- The gradient at the normed rows: the eight shares added up from the left. -/
def dh (p : FVec Ideal S8192x4096 .bf16) (w : FVec Ideal S1x1024x4096 .f32) (r : Fin 8192) (c : Fin 1024) : EReal :=
  part p w 0 (by omega) r c + part p w 512 (by omega) r c + part p w 1024 (by omega) r c + part p w 1536 (by omega) r c
    + part p w 2048 (by omega) r c + part p w 2560 (by omega) r c + part p w 3072 (by omega) r c + part p w 3584 (by omega) r c

/-- The gradient at a norm's rows where nothing is added to it. -/
def DN (h : Fin 8192 → Fin 1024 → EReal) (x : FVec Ideal S8192x1024 .f32) (g : FVec Ideal S1x1024 .f32) (r : Fin 8192) (c : Fin 1024) : EReal :=
  rr x r * (h r c * g (ix2 0 c))
    - x (ix2 r c) * (rr x r * rr x r * rr x r
        * Ideal.div (∑ k : Fin 1024, h r k * g (ix2 0 k) * x (ix2 r k)) (Ideal.ofBits .f32 0x44800000#32))

/-- The rows before the layer: the input and the normed mixed rows. -/
def rows (x mx : FVec Ideal S8192x1024 .f32) (g : FVec Ideal S1x1024 .f32) : FVec Ideal S8192x1024 .f32 :=
  fun i => x i + mx i * rr mx (i 0) * g (ix2 0 (i 1))

variable (m : (ℓ : Loc nD τ sig) → Buf (Elt Ideal) ℓ)

/-- The gradient at the normed rows, of the arguments in a memory, -/
abbrev dhM (c : Dev nD) : Fin 8192 → Fin 1024 → EReal := dh (m ((c : Thread nD τ).loc main_arg0)) (m ((c : Thread nD τ).loc main_arg1))

/-- and the gradient at the rows before the layer. -/
abbrev dxM (c : Dev nD) : Fin 8192 → Fin 1024 → EReal :=
  DX (dhM m c) (rows (m ((c : Thread nD τ).loc main_arg2)) (m ((c : Thread nD τ).loc main_arg3)) (m ((c : Thread nD τ).loc main_arg6)))
    (m ((c : Thread nD τ).loc main_arg4)) (m ((c : Thread nD τ).loc main_arg5))

end Cert.Ff1
-- ==== Proof.Ff1.Ops.lean ====
module

public import proofs.«01_k».proof.Proof.Ff1.Spec

@[expose] public section

set_option maxRecDepth 16384
noncomputable section

/-! The arithmetic of a half block, row by row: the products with the eight pieces of the weight, a norm's gradient at its rows, and a norm's
gradient at its gain. -/

namespace Cert.Ff1

open Idealize.ShloMosaic Idealize.ShloMosaic.TcCoe Idealize.SL.Sem
open Cert.Kernel7Ideal Cert.Kernel7Ideal.Gen

/-- The reciprocal root of a row's mean square. -/
def rs (x : Fin 1024 → EReal) : EReal :=
  Ideal.rsqrt (Ideal.div (∑ k, x k * x k) (Ideal.ofBits .f32 0x44800000#32) + Ideal.ofBits .f32 0x358637BD#32)

/-- A norm's gradient at one row, from the gradient `h` at the normed row. -/
def dn (h x g : Fin 1024 → EReal) (k : Fin 1024) : EReal :=
  rs x * (h k * g k) - x k * (rs x * rs x * rs x * Ideal.div (∑ k, h k * g k * x k) (Ideal.ofBits .f32 0x44800000#32))

/-- A row of a half block. -/
abbrev line (x : FVec Ideal S256x1024 .f32) (r : Fin 256) : Fin 1024 → EReal := fun k => x (ix2 r k)
abbrev gain (g : FVec Ideal S1x1024 .f32) : Fin 1024 → EReal := fun k => g (ix2 0 k)

/-- A half block of 512 columns times a piece of the weight. -/
def piece (p : FVec Ideal S256x512 .bf16) (w : FVec Ideal S1x1024x512 .bf16) (r : Fin 256) (k : Fin 1024) : EReal :=
  ∑ j : Fin 512, p (ix2 r j) * w (ix3 0 k j)

variable (p0 p1 p2 p3 p4 p5 p6 p7 : FVec Ideal S256x512 .bf16) (w0 w1 w2 w3 w4 w5 w6 w7 : FVec Ideal S1x1024x512 .bf16)
variable (h x d : FVec Ideal S256x1024 .f32) (b : FVec Ideal S256x1024 .bf16) (g s : FVec Ideal S1x1024 .f32) (r : Fin 256) (k : Fin 1024)

theorem product_up : k0_pay9 (F := Ideal) (k0_pay7 (k0_pay6 p0 w0) p1 w1 p2 w2 p3 w3 p4 w4 p5 w5) (k0_pay8 p6 w6) p7 w7 (ix2 r k)
    = piece p0 w0 r k + piece p1 w1 r k + piece p2 w2 r k + piece p3 w3 r k + piece p4 w4 r k + piece p5 w5 r k + piece p6 w6 r k + piece p7 w7 r k := by
  pointwise [k0_pay9, k0_pay8, k0_pay7, k0_pay6, piece]

theorem product_low : k0_pay24 (F := Ideal) (k0_pay23 p0 w0 p1 w1 p2 w2 p3 w3) p4 w4 p5 w5 p6 w6 p7 w7 (ix2 r k)
    = piece p0 w0 r k + piece p1 w1 r k + piece p2 w2 r k + piece p3 w3 r k + piece p4 w4 r k + piece p5 w5 r k + piece p6 w6 r k + piece p7 w7 r k := by
  pointwise [k0_pay24, k0_pay23, piece]

theorem rows_up (v54 v50 : FVec Ideal S256x1024 .f32) (v56 : FVec Ideal S256x512 .bf16) (v57 : FVec Ideal S1x1024x512 .bf16) :
    k0_pay15 (k0_pay11 v50 v54 v56 v57 x g) d (ix2 r k) = d (ix2 r k) + dn (line (k0_pay9 v50 v54 v56 v57) r) (line x r) (gain g) k := by
  pointwise [k0_pay15, k0_pay11, k0_pay10, dn, rs, line, gain]

theorem rows_low : k0_pay28 h x g (k0_pay25 x) d (ix2 r k) = d (ix2 r k) + dn (line h r) (line x r) (gain g) k := by
  pointwise [k0_pay28, k0_pay26, k0_pay25, dn, rs, line, gain]

theorem mix_up : k0_pay22 (k0_pay18 h d b g) (ix2 r k) = dn (line (k0_pay15 h d) r) (line b r) (gain g) k := by
  pointwise [k0_pay22, k0_pay18, k0_pay17, k0_pay16, dn, rs, line, gain]

theorem mix_low : k0_pay3 h (k0_pay29 b) g (k0_pay30 b) (ix2 r k) = dn (line h r) (line b r) (gain g) k := by
  pointwise [k0_pay3, k0_pay1, k0_pay29, k0_pay30, dn, rs, line, gain]

theorem gain3_up (v54 v50 : FVec Ideal S256x1024 .f32) (v56 : FVec Ideal S256x512 .bf16) (v57 : FVec Ideal S1x1024x512 .bf16) :
    k0_pay14 (k0_pay12 s) (k0_pay13 v50 v54 v56 v57 x) (ix2 0 k)
      = s (ix2 0 k) + ∑ r : Fin 256, line (k0_pay9 v50 v54 v56 v57) r k * x (ix2 r k) * rs (line x r) := by
  pointwise [k0_pay14, k0_pay13, k0_pay12, k0_pay10, rs, line]

theorem gain3_low : k0_pay27 h x (k0_pay25 x) s (ix2 0 k) = s (ix2 0 k) + ∑ r : Fin 256, h (ix2 r k) * x (ix2 r k) * rs (line x r) := by
  pointwise [k0_pay27, k0_pay26, k0_pay25, rs, line]

theorem gain2_up : k0_pay21 (k0_pay19 h d b) (k0_pay20 s) (ix2 0 k)
    = s (ix2 0 k) + ∑ r : Fin 256, line (k0_pay15 h d) r k * b (ix2 r k) * rs (line b r) := by
  pointwise [k0_pay21, k0_pay20, k0_pay19, k0_pay17, k0_pay16, rs, line]

theorem gain2_low : k0_pay2 h (k0_pay29 b) (k0_pay30 b) s (ix2 0 k)
    = s (ix2 0 k) + ∑ r : Fin 256, h (ix2 r k) * b (ix2 r k) * rs (line b r) := by
  pointwise [k0_pay2, k0_pay1, k0_pay29, k0_pay30, rs, line]

end Cert.Ff1
-- ==== Proof.Ff1.Blocks.lean ====
module

public import proofs.«01_k».proof.Proof.Ff1.Ops

@[expose] public section

set_option maxRecDepth 16384
noncomputable section

/-! The blocks a grid point reads, entry by entry: those the pipeline stages, and those that have landed in the rings. -/

namespace Cert.Ff1

open Idealize.ShloMosaic Idealize.ShloMosaic.TcCoe Idealize.SL.Sem
open Cert.Kernel7Ideal Cert.Kernel7Ideal.Gen
open Idealize.ShloMosaic.Pipeline (Dat)

variable (m : (ℓ : Loc nD τ sig) → Buf (Elt Ideal) ℓ) (c : Dev nD)

abbrev P : FVec Ideal S8192x4096 .bf16 := m ((c : Thread nD τ).loc main_arg0)
abbrev W : FVec Ideal S1x1024x4096 .f32 := m ((c : Thread nD τ).loc main_arg1)
abbrev MX : FVec Ideal S8192x1024 .f32 := m ((c : Thread nD τ).loc main_arg3)
abbrev D : FVec Ideal S8192x1024 .f32 := m ((c : Thread nD τ).loc main_arg4)
abbrev G3 : FVec Ideal S1x1024 .f32 := m ((c : Thread nD τ).loc main_arg5)
abbrev G2 : FVec Ideal S1x1024 .f32 := m ((c : Thread nD τ).loc main_arg6)
abbrev X₀ : FVec Ideal S8192x1024 .f32 := m ((c : Thread nD τ).loc main_arg2)
abbrev X : FVec Ideal S8192x1024 .f32 := rows (X₀ m c) (MX m c) (G2 m c)

/-- Which block each window stages at a grid point. -/
theorem blocks_at : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- The weight in eight pieces of columns, as the host prepares it. -/
def wT (w : FVec Ideal S1x1024x4096 .f32) : FVec Ideal S8x1024x512 .bf16 :=
  truncf .bf16 (transpose S8x1024x512 [1, 0, 2] (shapeCast S1024x8x512 (shapeCast S1024x4096 w shapeCasts_S1x1024x4096_S1024x4096)
    shapeCasts_S1024x4096_S1024x8x512) transposes_S1024x8x512_S8x1024x512_1_0_2) bitsLt_bf16_f32

theorem wT_at (w : FVec Ideal S1x1024x4096 .f32) (s : Fin 8) (k : Fin 1024) (j : Fin 512) :
    wT w (ix3 s k j) = w (ix3 0 k ⟨512 * s.val + j.val, by omega⟩) := by
  pointwise [wT]
  exact congrArg w (congrArg (ix3 0 k) (Fin.ext (by simp [mul_comm])))

/-- The rows before the layer, as the host prepares them. -/
def rowsT (x mx : FVec Ideal S8192x1024 .f32) (g : FVec Ideal S1x1024 .f32) : FVec Ideal S8192x1024 .f32 :=
  addf x (mulf (mulf mx (broadcastInDim S8192x1024 ![0, 1] bcast_S8192x1_S8192x1024_0_1
    (Host.rsqrt (addf (Host.divf (broadcastInDim S8192x1 ![0] bcast_S8192_S8192x1_0
        (Host.reduceAdd (mulf mx mx) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 g))

theorem rowsT_eq (x mx : FVec Ideal S8192x1024 .f32) (g : FVec Ideal S1x1024 .f32) : rowsT x mx g = rows x mx g := by
  funext i; idx_vars i
  pointwise [rowsT, rows, Inproj.rr, Inproj.ms]

theorem V_w : (V m c main_v16 : FVec Ideal S8x1024x512 .bf16) = wT (W m c) := by
  show StableHlo.after hostOps0 _ _ = _
  after_results
  rfl

theorem V_mx : (V m c main_v17 : FVec Ideal S8192x1024 .bf16) = truncf .bf16 (MX m c) bitsLt_bf16_f32 := by
  show StableHlo.after hostOps0 _ _ = _
  after_results

theorem V_x : (V m c main_v12 : FVec Ideal S8192x1024 .f32) = X m c := by
  refine Eq.trans ?_ (rowsT_eq _ _ _)
  show StableHlo.after hostOps0 _ _ = _
  after_results
  rfl

theorem V_d : (V m c main_arg4 : FVec Ideal S8192x1024 .f32) = D m c := by
  show StableHlo.after hostOps0 _ _ = _
  after_results

variable (t : Fin cfg0.N)

theorem block0 (y : S512x4096.Idx) (i : Fin 8192) (j : Fin 4096) (hi : i.val = 512 * t.val + (y 0 : ℕ)) (hj : j.val = (y 1 : ℕ)) :
    (iblk m c 0 t : FVec Ideal S512x4096 .bf16) y = P m c (ix2 i j) := by
  blk_point [iblk, V, blocks_at t]

theorem block1 (s : Fin 8) (k : Fin 1024) (j : Fin 512) (y : S8x1024x512.Idx) (h0 : s.val = (y 0 : ℕ)) (h1 : k.val = (y 1 : ℕ)) (h2 : j.val = (y 2 : ℕ)) :
    (iblk m c 1 t : FVec Ideal S8x1024x512 .bf16) y = W m c (ix3 0 k ⟨512 * s.val + j.val, by omega⟩) := by
  rw [← wT_at (W m c) s k j, ← V_w]
  blk_point [iblk, blocks_at t]

theorem block2 (y : S512x1024.Idx) (i : Fin 8192) (j : Fin 1024) (hi : i.val = 512 * t.val + (y 0 : ℕ)) (hj : j.val = (y 1 : ℕ)) :
    (iblk m c 2 t : FVec Ideal S512x1024 .bf16) y = MX m c (ix2 i j) := by
  rw [show MX m c (ix2 i j) = (V m c main_v17 : FVec Ideal S8192x1024 .bf16) (ix2 i j) by rw [V_mx]; rfl]
  blk_point [iblk, blocks_at t]

theorem block3 : (iblk m c 3 t : FVec Ideal S1x1024 .f32) = G3 m c := by
  funext y; idx_vars y
  blk_point [iblk, V, blocks_at t]

theorem block4 : (iblk m c 4 t : FVec Ideal S1x1024 .f32) = G2 m c := by
  funext y; idx_vars y
  blk_point [iblk, V, blocks_at t]

/-- The blocks that have landed in the two rings' slots at a point. -/
abbrev landed0 : View.Piece (Elt Ideal) S512x1024 .f32 :=
  ⟨Rect.whole S512x1024, ReadAs.same.apply (View.read (Elt Ideal) (srcB0_0 (Ring.bk 16 t.val)).view (V m c main_v12))⟩
abbrev landed1 : View.Piece (Elt Ideal) S512x1024 .f32 :=
  ⟨Rect.whole S512x1024, ReadAs.same.apply (View.read (Elt Ideal) (srcB0_1 (Ring.bk 16 t.val)).view (V m c main_arg4))⟩

/-- What the body loads of a slot's half. -/
abbrev xHalf (o : ℕ) (inb : ∀ a, (![o, 0] : Fin 2 → ℕ) a + (![256, 1024] : Fin 2 → ℕ) a ≤ S512x1024.size a) : FVec Ideal S256x1024 .f32 :=
  (rslot0_0 (Fin.ofNat 3 t.val)).view.readCov [landed0 m c t] (Rect.unit (s := S512x1024) ![o, 0] ![256, 1024] inb).toLoadRect
abbrev dHalf (o : ℕ) (inb : ∀ a, (![o, 0] : Fin 2 → ℕ) a + (![256, 1024] : Fin 2 → ℕ) a ≤ S512x1024.size a) : FVec Ideal S256x1024 .f32 :=
  (rslot0_1 (Fin.ofNat 3 t.val)).view.readCov [landed1 m c t] (Rect.unit (s := S512x1024) ![o, 0] ![256, 1024] inb).toLoadRect

theorem slot_block : (Ring.bk 16 t.val : Fin 16).val = t.val := Nat.mod_eq_of_lt (lt16 t.isLt)

theorem xHalf_at (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) : xHalf m c t o inb (ix2 r k) = X m c (ix2 i k) := by
  unfold xHalf
  rw [View.readCov_eq_canon']
  refine (congrFun (View.canon_unit_zero rfl (fun _ => (Nat.zero_add _).le) (landed0 m c t).2) _).trans ?_
  rw [← V_x]
  refine congrArg (V m c main_v12) (funext fun a => Fin.ext ?_)
  have := slot_block t
  match a with
  | ⟨0, _⟩ => show 512 * (Ring.bk 16 t.val : Fin 16).val + 1 * (o + 1 * r.val) = i.val; omega
  | ⟨1, _⟩ => show 0 + 1 * (0 + 1 * k.val) = k.val; omega

theorem dHalf_at (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) : dHalf m c t o inb (ix2 r k) = D m c (ix2 i k) := by
  unfold dHalf
  rw [View.readCov_eq_canon']
  refine (congrFun (View.canon_unit_zero rfl (fun _ => (Nat.zero_add _).le) (landed1 m c t).2) _).trans ?_
  rw [← V_d]
  refine congrArg (V m c main_arg4) (funext fun a => Fin.ext ?_)
  have := slot_block t
  match a with
  | ⟨0, _⟩ => show 512 * (Ring.bk 16 t.val : Fin 16).val + 1 * (o + 1 * r.val) = i.val; omega
  | ⟨1, _⟩ => show 0 + 1 * (0 + 1 * k.val) = k.val; omega

/-- A half of the block of the mixer's output. -/
abbrev mHalf (o : ℕ) (inb : ∀ a, (![o, 0] : Fin 2 → ℕ) a + (![256, 1024] : Fin 2 → ℕ) a ≤ S512x1024.size a) : FVec Ideal S256x1024 .bf16 :=
  View.ld (iblk m c 2 t : FVec Ideal S512x1024 .bf16) (Rect.unit (s := S512x1024) ![o, 0] ![256, 1024] inb)

theorem mHalf_at (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) : mHalf m c t o inb (ix2 r k) = MX m c (ix2 i k) := by
  refine block2 m c t _ i k ?_ ?_
  · show i.val = 512 * t.val + (o + 1 * r.val)
    omega
  · show k.val = 0 + 1 * k.val
    omega

/-- A half of 512 columns of the gradient at the hidden columns, and a piece of the weight. -/
abbrev pCols (o j : ℕ) (inb : ∀ a, (![o, j] : Fin 2 → ℕ) a + (![256, 512] : Fin 2 → ℕ) a ≤ S512x4096.size a) : FVec Ideal S256x512 .bf16 :=
  View.ld (iblk m c 0 t : FVec Ideal S512x4096 .bf16) (Rect.unit (s := S512x4096) ![o, j] ![256, 512] inb)
abbrev wSlab (s : ℕ) (inb : ∀ a, (![s, 0, 0] : Fin 3 → ℕ) a + (![1, 1024, 512] : Fin 3 → ℕ) a ≤ S8x1024x512.size a) : FVec Ideal S1x1024x512 .bf16 :=
  View.ld (iblk m c 1 t : FVec Ideal S8x1024x512 .bf16) (Rect.unit (s := S8x1024x512) ![s, 0, 0] ![1, 1024, 512] inb)

theorem piece_at (o j : ℕ) (inb : ∀ a, (![o, j] : Fin 2 → ℕ) a + (![256, 512] : Fin 2 → ℕ) a ≤ S512x4096.size a)
    (s : ℕ) (inb' : ∀ a, (![s, 0, 0] : Fin 3 → ℕ) a + (![1, 1024, 512] : Fin 3 → ℕ) a ≤ S8x1024x512.size a)
    (hj : j = 512 * s) (hj' : j + 512 ≤ 4096) (r : Fin 256) (k : Fin 1024) (i : Fin 8192) (hi : i.val = 512 * t.val + (o + r.val)) :
    piece (pCols m c t o j inb) (wSlab m c t s inb') r k = part (P m c) (W m c) j hj' i k := by
  have hs : s < 8 := by omega
  unfold piece part
  refine Finset.sum_congr rfl fun q _ => congrArg₂ (· * ·) ?_ ?_
  · refine block0 m c t _ i _ ?_ ?_
    · show i.val = 512 * t.val + (o + 1 * r.val)
      omega
    · show j + q.val = j + 1 * q.val
      omega
  · rw [show (⟨j + q.val, by omega⟩ : Fin 4096) = ⟨512 * (⟨s, hs⟩ : Fin 8).val + q.val, by simp; omega⟩ from Fin.ext (by simp; omega)]
    refine block1 m c t ⟨s, hs⟩ k q _ ?_ ?_ ?_
    · show s = s + 1 * 0
      omega
    · show k.val = 0 + 1 * k.val
      omega
    · show q.val = 0 + 1 * q.val
      omega

end Cert.Ff1
-- ==== Proof.Ff1.Rows.lean ====
module

public import proofs.«01_k».proof.Proof.Ff1.Blocks

@[expose] public section

set_option maxRecDepth 16384
noncomputable section

/-! The values a grid point computes for its upper 256 rows and its lower 256 rows, as functions of the arguments. -/

namespace Cert.Ff1

open Idealize.ShloMosaic Idealize.ShloMosaic.TcCoe Idealize.SL.Sem
open Cert.Kernel7Ideal Cert.Kernel7Ideal.Gen
open Cert.Inproj (rr ms DX DG)

variable (m : (ℓ : Loc nD τ sig) → Buf (Elt Ideal) ℓ) (c : Dev nD) (t : Fin cfg0.N)

/-- The first six products of the upper rows added up, and the seventh. -/
def six : FVec Ideal S256x1024 .f32 := k0_pay7 (k0_pay6 (pCols m c t 0 0 inb_S512x4096_S256x512_0_0) (wSlab m c t 0 inb_S8x1024x512_S1x1024x512_0_0_0))
    (pCols m c t 0 512 inb_S512x4096_S256x512_0_512) (wSlab m c t 1 inb_S8x1024x512_S1x1024x512_1_0_0)
    (pCols m c t 0 1024 inb_S512x4096_S256x512_0_1024) (wSlab m c t 2 inb_S8x1024x512_S1x1024x512_2_0_0)
    (pCols m c t 0 1536 inb_S512x4096_S256x512_0_1536) (wSlab m c t 3 inb_S8x1024x512_S1x1024x512_3_0_0)
    (pCols m c t 0 2048 inb_S512x4096_S256x512_0_2048) (wSlab m c t 4 inb_S8x1024x512_S1x1024x512_4_0_0)
    (pCols m c t 0 2560 inb_S512x4096_S256x512_0_2560) (wSlab m c t 5 inb_S8x1024x512_S1x1024x512_5_0_0)
def seventh : FVec Ideal S256x1024 .f32 := k0_pay8 (pCols m c t 0 3072 inb_S512x4096_S256x512_0_3072) (wSlab m c t 6 inb_S8x1024x512_S1x1024x512_6_0_0)

/-- The gradient at the normed rows, upper and lower. -/
def hUp : FVec Ideal S256x1024 .f32 := k0_pay9 (six m c t) (seventh m c t) (pCols m c t 0 3584 inb_S512x4096_S256x512_0_3584) (wSlab m c t 7 inb_S8x1024x512_S1x1024x512_7_0_0)
def hLow : FVec Ideal S256x1024 .f32 := k0_pay24 (k0_pay23 (pCols m c t 256 0 inb_S512x4096_S256x512_256_0) (wSlab m c t 0 inb_S8x1024x512_S1x1024x512_0_0_0)
      (pCols m c t 256 512 inb_S512x4096_S256x512_256_512) (wSlab m c t 1 inb_S8x1024x512_S1x1024x512_1_0_0)
      (pCols m c t 256 1024 inb_S512x4096_S256x512_256_1024) (wSlab m c t 2 inb_S8x1024x512_S1x1024x512_2_0_0)
      (pCols m c t 256 1536 inb_S512x4096_S256x512_256_1536) (wSlab m c t 3 inb_S8x1024x512_S1x1024x512_3_0_0))
    (pCols m c t 256 2048 inb_S512x4096_S256x512_256_2048) (wSlab m c t 4 inb_S8x1024x512_S1x1024x512_4_0_0)
    (pCols m c t 256 2560 inb_S512x4096_S256x512_256_2560) (wSlab m c t 5 inb_S8x1024x512_S1x1024x512_5_0_0)
    (pCols m c t 256 3072 inb_S512x4096_S256x512_256_3072) (wSlab m c t 6 inb_S8x1024x512_S1x1024x512_6_0_0)
    (pCols m c t 256 3584 inb_S512x4096_S256x512_256_3584) (wSlab m c t 7 inb_S8x1024x512_S1x1024x512_7_0_0)

/-- The norm's gradient at the upper rows before the residual is added, and the gradients at the rows. -/
def nUp : FVec Ideal S256x1024 .f32 := k0_pay11 (six m c t) (seventh m c t) (pCols m c t 0 3584 inb_S512x4096_S256x512_0_3584) (wSlab m c t 7 inb_S8x1024x512_S1x1024x512_7_0_0)
  (xHalf m c t 0 inb_S512x1024_S256x1024_0_0) (iblk m c 3 t)
def rowsUp : FVec Ideal S256x1024 .f32 := k0_pay15 (nUp m c t) (dHalf m c t 0 inb_S512x1024_S256x1024_0_0)
def rowsLow : FVec Ideal S256x1024 .f32 := k0_pay28 (hLow m c t) (xHalf m c t 256 inb_S512x1024_S256x1024_256_0) (iblk m c 3 t)
  (k0_pay25 (xHalf m c t 256 inb_S512x1024_S256x1024_256_0)) (dHalf m c t 256 inb_S512x1024_S256x1024_256_0)

/-- The gradients at the mixer's output. -/
def mixUp : FVec Ideal S256x1024 .bf16 :=
  k0_pay22 (k0_pay18 (nUp m c t) (dHalf m c t 0 inb_S512x1024_S256x1024_0_0) (mHalf m c t 0 inb_S512x1024_S256x1024_0_0) (iblk m c 4 t))
def mixLow : FVec Ideal S256x1024 .bf16 :=
  k0_pay3 (rowsLow m c t) (k0_pay29 (mHalf m c t 256 inb_S512x1024_S256x1024_256_0)) (iblk m c 4 t) (k0_pay30 (mHalf m c t 256 inb_S512x1024_S256x1024_256_0))

/-- The two gains' gradients after the point's upper and lower rows, from what stood in their buffers. -/
def gains3 (s : FVec Ideal S1x1024 .f32) : FVec Ideal S1x1024 .f32 :=
  k0_pay27 (hLow m c t) (xHalf m c t 256 inb_S512x1024_S256x1024_256_0) (k0_pay25 (xHalf m c t 256 inb_S512x1024_S256x1024_256_0))
    (k0_pay14 (k0_pay12 s) (k0_pay13 (six m c t) (seventh m c t) (pCols m c t 0 3584 inb_S512x4096_S256x512_0_3584) (wSlab m c t 7 inb_S8x1024x512_S1x1024x512_7_0_0) (xHalf m c t 0 inb_S512x1024_S256x1024_0_0)))
def gains2 (s : FVec Ideal S1x1024 .f32) : FVec Ideal S1x1024 .f32 :=
  k0_pay2 (rowsLow m c t) (k0_pay29 (mHalf m c t 256 inb_S512x1024_S256x1024_256_0)) (k0_pay30 (mHalf m c t 256 inb_S512x1024_S256x1024_256_0))
    (k0_pay21 (k0_pay19 (nUp m c t) (dHalf m c t 0 inb_S512x1024_S256x1024_0_0) (mHalf m c t 0 inb_S512x1024_S256x1024_0_0)) (k0_pay20 s))

/-- The reciprocal root and the norm's gradient of a row of a half block, where the row is a row of the whole array. -/
theorem rs_rr (x : FVec Ideal S8192x1024 .f32) (u : Fin 1024 → EReal) (i : Fin 8192) (hu : u = fun k => x (ix2 i k)) : rs u = rr x i := by
  rw [hu]; rfl

theorem dn_DN (h u v : Fin 1024 → EReal) (H : Fin 8192 → Fin 1024 → EReal) (x : FVec Ideal S8192x1024 .f32) (g : FVec Ideal S1x1024 .f32)
    (i : Fin 8192) (k : Fin 1024) (hh : h = H i) (hu : u = fun k => x (ix2 i k)) (hv : v = gain g) : dn h u v k = DN H x g i k := by
  rw [hh, hu, hv]; rfl

variable (r : Fin 256) (k : Fin 1024) (i : Fin 8192)

theorem hUp_at (hi : i.val = 512 * t.val + (0 + r.val)) : hUp m c t (ix2 r k) = dhM m c i k := by
  unfold hUp six seventh
  rw [product_up]
  unfold dhM dh
  rw [piece_at m c t 0 0 _ 0 _ (by omega) (by omega) r k i hi,
    piece_at m c t 0 512 _ 1 _ (by omega) (by omega) r k i hi,
    piece_at m c t 0 1024 _ 2 _ (by omega) (by omega) r k i hi,
    piece_at m c t 0 1536 _ 3 _ (by omega) (by omega) r k i hi,
    piece_at m c t 0 2048 _ 4 _ (by omega) (by omega) r k i hi,
    piece_at m c t 0 2560 _ 5 _ (by omega) (by omega) r k i hi,
    piece_at m c t 0 3072 _ 6 _ (by omega) (by omega) r k i hi,
    piece_at m c t 0 3584 _ 7 _ (by omega) (by omega) r k i hi]

theorem hLow_at (hi : i.val = 512 * t.val + (256 + r.val)) : hLow m c t (ix2 r k) = dhM m c i k := by
  unfold hLow
  rw [product_low]
  unfold dhM dh
  rw [piece_at m c t 256 0 _ 0 _ (by omega) (by omega) r k i hi,
    piece_at m c t 256 512 _ 1 _ (by omega) (by omega) r k i hi,
    piece_at m c t 256 1024 _ 2 _ (by omega) (by omega) r k i hi,
    piece_at m c t 256 1536 _ 3 _ (by omega) (by omega) r k i hi,
    piece_at m c t 256 2048 _ 4 _ (by omega) (by omega) r k i hi,
    piece_at m c t 256 2560 _ 5 _ (by omega) (by omega) r k i hi,
    piece_at m c t 256 3072 _ 6 _ (by omega) (by omega) r k i hi,
    piece_at m c t 256 3584 _ 7 _ (by omega) (by omega) r k i hi]

theorem rowsUp_at (hi : i.val = 512 * t.val + (0 + r.val)) : rowsUp m c t (ix2 r k) = dxM m c i k := by
  unfold rowsUp nUp
  rw [rows_up, dHalf_at m c t 0 _ r k i hi]
  exact congrArg (D m c (ix2 i k) + ·) (dn_DN _ _ _ (dhM m c) (X m c) (G3 m c) i k (funext fun k => hUp_at m c t r k i hi)
    (funext fun k => xHalf_at m c t 0 _ r k i hi) (congrArg gain (block3 m c t)))

theorem rowsLow_at (hi : i.val = 512 * t.val + (256 + r.val)) : rowsLow m c t (ix2 r k) = dxM m c i k := by
  unfold rowsLow
  rw [rows_low, dHalf_at m c t 256 _ r k i hi]
  exact congrArg (D m c (ix2 i k) + ·) (dn_DN _ _ _ (dhM m c) (X m c) (G3 m c) i k (funext fun k => hLow_at m c t r k i hi)
    (funext fun k => xHalf_at m c t 256 _ r k i hi) (congrArg gain (block3 m c t)))

theorem mixUp_at (hi : i.val = 512 * t.val + (0 + r.val)) : mixUp m c t (ix2 r k) = DN (dxM m c) (MX m c) (G2 m c) i k := by
  unfold mixUp
  rw [mix_up]
  exact dn_DN _ _ _ (dxM m c) (MX m c) (G2 m c) i k (funext fun k => rowsUp_at m c t r k i hi)
    (funext fun k => mHalf_at m c t 0 _ r k i hi) (congrArg gain (block4 m c t))

theorem mixLow_at (hi : i.val = 512 * t.val + (256 + r.val)) : mixLow m c t (ix2 r k) = DN (dxM m c) (MX m c) (G2 m c) i k := by
  unfold mixLow
  rw [mix_low]
  exact dn_DN _ _ _ (dxM m c) (MX m c) (G2 m c) i k (funext fun k => rowsLow_at m c t r k i hi)
    (funext fun k => mHalf_at m c t 256 _ r k i hi) (congrArg gain (block4 m c t))

theorem lt_rows : 512 * t.val + 256 + r.val < 8192 := by
  have := lt16 t.isLt
  omega

/-- What a point adds to a gain's gradient: the shares of its upper and of its lower rows. -/
def added (H : Fin 8192 → Fin 1024 → EReal) (x : FVec Ideal S8192x1024 .f32) : EReal :=
  (∑ r : Fin 256, DG H x ⟨512 * t.val + r.val, by have := lt_rows t r; omega⟩ k)
    + ∑ r : Fin 256, DG H x ⟨512 * t.val + 256 + r.val, lt_rows t r⟩ k

theorem gains3_at (s : FVec Ideal S1x1024 .f32) : gains3 m c t s (ix2 0 k) = s (ix2 0 k) + added t k (dhM m c) (X m c) := by
  unfold gains3 added
  rw [gain3_low, gain3_up, add_assoc]
  refine congrArg _ (congrArg₂ (· + ·) (Finset.sum_congr rfl fun r _ => ?_) (Finset.sum_congr rfl fun r _ => ?_))
  · exact congrArg₂ (· * ·) (congrArg₂ (· * ·) (hUp_at m c t r k _ (by simp)) (xHalf_at m c t 0 _ r k _ (by simp)))
      (rs_rr _ _ _ (funext fun k => xHalf_at m c t 0 _ r k _ (by simp)))
  · exact congrArg₂ (· * ·) (congrArg₂ (· * ·) (hLow_at m c t r k _ (by simp [add_assoc])) (xHalf_at m c t 256 _ r k _ (by simp [add_assoc])))
      (rs_rr _ _ _ (funext fun k => xHalf_at m c t 256 _ r k _ (by simp [add_assoc])))

theorem gains2_at (s : FVec Ideal S1x1024 .f32) : gains2 m c t s (ix2 0 k) = s (ix2 0 k) + added t k (dxM m c) (MX m c) := by
  unfold gains2 added
  rw [gain2_low, gain2_up, add_assoc]
  refine congrArg _ (congrArg₂ (· + ·) (Finset.sum_congr rfl fun r _ => ?_) (Finset.sum_congr rfl fun r _ => ?_))
  · exact congrArg₂ (· * ·) (congrArg₂ (· * ·) (rowsUp_at m c t r k _ (by simp)) (mHalf_at m c t 0 _ r k _ (by simp)))
      (rs_rr _ _ _ (funext fun k => mHalf_at m c t 0 _ r k _ (by simp)))
  · exact congrArg₂ (· * ·) (congrArg₂ (· * ·) (rowsLow_at m c t r k _ (by simp [add_assoc])) (mHalf_at m c t 256 _ r k _ (by simp [add_assoc])))
      (rs_rr _ _ _ (funext fun k => mHalf_at m c t 256 _ r k _ (by simp [add_assoc])))

end Cert.Ff1
-- ==== Proof.Ff1.Points.lean ====
module

public import proofs.«01_k».proof.Proof.Ff1.Rows

@[expose] public section

set_option maxRecDepth 16384
noncomputable section

/-! What a grid point leaves in its four output blocks, whether it is the first, one that still starts a copy, or one of the last two. -/

namespace Cert.Ff1

open Idealize.ShloMosaic Idealize.ShloMosaic.TcCoe Idealize.SL.Sem
open Cert.Kernel7Ideal Cert.Kernel7Ideal.Gen

variable (m : (ℓ : Loc nD τ sig) → Buf (Elt Ideal) ℓ) (c : Dev nD) (t : Fin cfg0.N)

/-- A block whose two halves are stored, lower half last, entry by entry. -/
theorem halves (φ : EltTy) (lo up : Vec Ideal S256x1024 φ) (Z : Fin 8192 → Fin 1024 → Elt Ideal φ)
    (hlo : ∀ (r : Fin 256) (k : Fin 1024) (i : Fin 8192), i.val = 512 * t.val + (256 + r.val) → lo (ix2 r k) = Z i k)
    (hup : ∀ (r : Fin 256) (k : Fin 1024) (i : Fin 8192), i.val = 512 * t.val + (0 + r.val) → up (ix2 r k) = Z i k)
    (y : S512x1024.Idx) (i : Fin 8192) (j : Fin 1024) (hi : i.val = 512 * t.val + (y 0 : ℕ)) (hj : j.val = (y 1 : ℕ)) :
    View.canon ([⟨Rect.unit ![256, 0] ![256, 1024] inb_S512x1024_S256x1024_256_0, lo⟩,
      ⟨Rect.unit ![0, 0] ![256, 1024] inb_S512x1024_S256x1024_0_0, up⟩] : List (View.Piece (Elt Ideal) S512x1024 φ)) y = Z i j := by
  canon_tiles x hx
  · idx_vars x
    obtain rfl : j = x1 := Fin.ext (by omega)
    exact hlo x0 j i (by omega)
  · idx_vars x
    obtain rfl : j = x1 := Fin.ext (by omega)
    exact hup x0 j i (by omega)

/-- The blocks of rows, stored in halves. -/
abbrev out5 : FVec Ideal S512x1024 .f32 :=
  View.canon ([⟨Rect.unit ![256, 0] ![256, 1024] inb_S512x1024_S256x1024_256_0, rowsLow m c t⟩,
    ⟨Rect.unit ![0, 0] ![256, 1024] inb_S512x1024_S256x1024_0_0, rowsUp m c t⟩] : List (View.Piece (Elt Ideal) S512x1024 .f32))
abbrev out6 : FVec Ideal S512x1024 .bf16 :=
  View.canon ([⟨Rect.unit ![256, 0] ![256, 1024] inb_S512x1024_S256x1024_256_0, mixLow m c t⟩,
    ⟨Rect.unit ![0, 0] ![256, 1024] inb_S512x1024_S256x1024_0_0, mixUp m c t⟩] : List (View.Piece (Elt Ideal) S512x1024 .bf16))

theorem at_first (h0 : t.val % 16 = 0) (h1 : t.val < 14) :
    left m c t.val t.isLt = (out5 m c t, out6 m c t, gains3 m c t (k0_pay4 (F := Ideal)), gains2 m c t (k0_pay5 (F := Ideal))) := by
  rw [left_first m c t h0 h1]
  unfold first stored runFirst
  refine Prod.ext ?_ (Prod.ext ?_ (Prod.ext ?_ ?_)) <;> (frame_out; rfl)

theorem at_next (h0 : ¬t.val % 16 = 0) (h1 : t.val < 14) :
    left m c t.val t.isLt = (out5 m c t, out6 m c t, gains3 m c t (prev m c t).2.2.1, gains2 m c t (prev m c t).2.2.2) := by
  rw [left_next m c t h0 h1]
  unfold next stored runNext
  refine Prod.ext ?_ (Prod.ext ?_ (Prod.ext ?_ ?_)) <;> (frame_out; rfl)

theorem at_last (h0 : ¬t.val % 16 = 0) (h1 : ¬t.val < 14) :
    left m c t.val t.isLt = (out5 m c t, out6 m c t, gains3 m c t (prev m c t).2.2.1, gains2 m c t (prev m c t).2.2.2) := by
  rw [left_last m c t h0 h1]
  unfold last stored runLast
  refine Prod.ext ?_ (Prod.ext ?_ (Prod.ext ?_ ?_)) <;> (frame_out; rfl)

theorem at_zero (h0 : t.val % 16 = 0) :
    left m c t.val t.isLt = (out5 m c t, out6 m c t, gains3 m c t (k0_pay4 (F := Ideal)), gains2 m c t (k0_pay5 (F := Ideal))) :=
  at_first m c t h0 (by have := lt16 t.isLt; omega)

theorem at_later (h0 : ¬t.val % 16 = 0) :
    left m c t.val t.isLt = (out5 m c t, out6 m c t, gains3 m c t (prev m c t).2.2.1, gains2 m c t (prev m c t).2.2.2) := by
  by_cases h1 : t.val < 14
  · exact at_next m c t h0 h1
  · exact at_last m c t h0 h1

variable (y : S512x1024.Idx) (i : Fin 8192) (j : Fin 1024) (hi : i.val = 512 * t.val + (y 0 : ℕ)) (hj : j.val = (y 1 : ℕ))
include hi hj

theorem point5 : (left m c t.val t.isLt).1 y = dxM m c i j := by
  have h : (left m c t.val t.isLt).1 = out5 m c t := by
    by_cases h0 : t.val % 16 = 0
    · rw [at_zero m c t h0]
    · rw [at_later m c t h0]
  rw [h]
  exact halves t .f32 (rowsLow m c t) (rowsUp m c t) (dxM m c) (rowsLow_at m c t) (rowsUp_at m c t) y i j hi hj

theorem point6 : (left m c t.val t.isLt).2.1 y = DN (dxM m c) (MX m c) (G2 m c) i j := by
  have h : (left m c t.val t.isLt).2.1 = out6 m c t := by
    by_cases h0 : t.val % 16 = 0
    · rw [at_zero m c t h0]
    · rw [at_later m c t h0]
  rw [h]
  exact halves t .bf16 (mixLow m c t) (mixUp m c t) (DN (dxM m c) (MX m c) (G2 m c)) (mixLow_at m c t) (mixUp_at m c t) y i j hi hj

omit hi hj

/-- The gains' gradients add up point by point, from zero. -/
theorem first7 (h0 : t.val % 16 = 0) (j : S1x1024.Idx) : (left m c t.val t.isLt).2.2.1 j = 0 + added t (j 1) (dhM m c) (X m c) := by
  idx_vars j
  obtain rfl : j0 = 0 := Subsingleton.elim _ _
  rw [at_zero m c t h0]
  refine (gains3_at m c t j1 _).trans (congrArg (· + _) ?_)
  pointwise [k0_pay4]

theorem first8 (h0 : t.val % 16 = 0) (j : S1x1024.Idx) : (left m c t.val t.isLt).2.2.2 j = 0 + added t (j 1) (dxM m c) (MX m c) := by
  idx_vars j
  obtain rfl : j0 = 0 := Subsingleton.elim _ _
  rw [at_zero m c t h0]
  refine (gains2_at m c t j1 _).trans (congrArg (· + _) ?_)
  pointwise [k0_pay5]

theorem step7 (h0 : ¬t.val % 16 = 0) (j : S1x1024.Idx) :
    (left m c t.val t.isLt).2.2.1 j = (prev m c t).2.2.1 j + added t (j 1) (dhM m c) (X m c) := by
  idx_vars j
  obtain rfl : j0 = 0 := Subsingleton.elim _ _
  rw [at_later m c t h0]
  exact gains3_at m c t j1 _

theorem step8 (h0 : ¬t.val % 16 = 0) (j : S1x1024.Idx) :
    (left m c t.val t.isLt).2.2.2 j = (prev m c t).2.2.2 j + added t (j 1) (dxM m c) (MX m c) := by
  idx_vars j
  obtain rfl : j0 = 0 := Subsingleton.elim _ _
  rw [at_later m c t h0]
  exact gains2_at m c t j1 _

end Cert.Ff1
-- ==== Proof.Ff1.Finals.lean ====
module

public import proofs.«01_k».proof.Proof.Ff1.Points

@[expose] public section

set_option maxRecDepth 16384
noncomputable section

/-! What the call leaves in its four result arrays, and its run with those arrays named. -/

namespace Cert.Ff1

open Idealize.ShloMosaic Idealize.ShloMosaic.TcCoe Idealize.SL.Sem
open Cert.Kernel7Ideal Cert.Kernel7Ideal.Gen
open Idealize.ShloMosaic.Pipeline (Dat)

variable (m : (ℓ : Loc nD τ sig) → Buf (Elt Ideal) ℓ) (c : Dev nD)

theorem after_5 (t : Fin cfg0.N) : (dats m 0 c).after 5 t = (left m c t.val t.isLt).1 := by dsimp only [dats]
theorem after_6 (t : Fin cfg0.N) : (dats m 0 c).after 6 t = (left m c t.val t.isLt).2.1 := by dsimp only [dats]
theorem after_7 (t : Fin cfg0.N) : (dats m 0 c).after 7 t = (left m c t.val t.isLt).2.2.1 := by dsimp only [dats]
theorem after_8 (t : Fin cfg0.N) : (dats m 0 c).after 8 t = (left m c t.val t.isLt).2.2.2 := by dsimp only [dats]

/-- The gradient at the rows before the feed-forward layer, -/
theorem final5 : (dats m 0 c).arrAt 5 cfg0.N = (fun i => dxM m c (i 0) (i 1)) := by
  refine (dats m 0 c).arrAt_eq_of_covers 5 _ (by decide +kernel) fun t _ y => ?_
  blk_simp
  rw [after_5]
  refine point5 m c t y _ _ ?_ ?_
  all_goals (blk_simp [blocks_at t] <;> try omega)

/-- the gradient at the mixer's output, -/
theorem final6 : (dats m 0 c).arrAt 6 cfg0.N = (fun i => DN (dxM m c) (MX m c) (G2 m c) (i 0) (i 1)) := by
  refine (dats m 0 c).arrAt_eq_of_covers 6 _ (by decide +kernel) fun t _ y => ?_
  blk_simp
  rw [after_6]
  refine point6 m c t y _ _ ?_ ?_
  all_goals (blk_simp [blocks_at t] <;> try omega)

/-- and the gradients at the two gains. -/
theorem final7 : (dats m 0 c).arrAt 7 cfg0.N = (fun j => ∑ p : Fin cfg0.N, added p (j 1) (dhM m c) (X m c)) := by
  refine (dats m 0 c).arrAt_eq_of_after_last 7 t0_15 (by decide +kernel) _ fun j => ?_
  blk_simp
  rw [after_7, Pipeline.eq_sum_fin_of_reset_step_apply_last (fun n h => (left m c n h).2.2.1) 16 (fun _ => (0 : EReal))
    (fun p j => added p (j 1) (dhM m c) (X m c)) (fun t h j => first7 m c t h j) (fun t h j => step7 m c t h j) (le_of_eq N_0) t0_15 rfl j, zero_add]

theorem final8 : (dats m 0 c).arrAt 8 cfg0.N = (fun j => ∑ p : Fin cfg0.N, added p (j 1) (dxM m c) (MX m c)) := by
  refine (dats m 0 c).arrAt_eq_of_after_last 8 t0_15 (by decide +kernel) _ fun j => ?_
  blk_simp
  rw [after_8, Pipeline.eq_sum_fin_of_reset_step_apply_last (fun n h => (left m c n h).2.2.2) 16 (fun _ => (0 : EReal))
    (fun p j => added p (j 1) (dxM m c) (MX m c)) (fun t h j => first8 m c t h j) (fun t h j => step8 m c t h j) (le_of_eq N_0) t0_15 rfl j, zero_add]

/-- The run of the call, each result array named and the arguments unchanged. -/
theorem run_named (ρ : Dev nD → PrngReg) : θ_run defs (onTc (τ := τ) (main (F := Ideal))) ⟨m, fun _ => 0, ρ⟩ fun r => ∀ c : Dev nD,
      r.2.mem ((c : Thread nD τ).loc main_v18_0) = (dats m 0 c).arrAt 5 cfg0.N
      ∧ r.2.mem ((c : Thread nD τ).loc main_v18_1) = (dats m 0 c).arrAt 6 cfg0.N
      ∧ r.2.mem ((c : Thread nD τ).loc main_v18_2) = (dats m 0 c).arrAt 7 cfg0.N
      ∧ r.2.mem ((c : Thread nD τ).loc main_v18_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h.1 c).1 5, (h.1 c).1 6, (h.1 c).1 7, (h.1 c).1 8, h.2 c⟩)
    (θ_run_and (run m ρ) (frame_of m ρ (dats m) (entry m) (run m ρ)))

end Cert.Ff1
-- ==== Proof.Ff1.RefValue.lean ====
module

public import proofs.«01_k».proof.Proof.Inproj.RefValue
public import proofs.«01_k».proof.Proof.Ff1.Spec
public import proofs.«01_k».proof.Proof.Gen.Reference7Ideal.Run

@[expose] public section

set_option maxRecDepth 16384
noncomputable section

/-! The reference's four results, read to scalars: the product with the whole weight, a norm's gradient at its rows by the rule for a
quotient, and the gradients at the gains, the last two in the terms written for the input projection. -/

namespace Cert.Ff1

open Idealize.ShloMosaic Idealize.ShloMosaic.TcCoe Idealize.SL.Sem
open Cert.Reference7Ideal Cert.Reference7Ideal.Gen
open Cert.Inproj (rr ms DX DG msT gT sT dgT dxT msT_at gT_at sT_at dg_closed)

/-- The gradient at the normed rows as the reference writes it. -/
def hT (p : FVec Ideal S8192x4096 .bf16) (w : FVec Ideal S1x1024x4096 .f32) : FVec Ideal S8192x1024 .f32 :=
  Host.dotGeneral dot_S8192x4096_S1024x4096_S8192x1024_1_1_0_0_n_n none (extf .f32 p bitsLt_bf16_f32)
    (shapeCast _ w shapeCasts_S1x1024x4096_S1024x4096)

/-- A norm's gradient at its rows. -/
def nT (t : FVec Ideal S8192x1024 .f32) (s : FVec Ideal S8192x1 .f32) (f : FVec Ideal S8192 .f32) (x : FVec Ideal S8192x1024 .f32) :
    FVec Ideal S8192x1024 .f32 :=
  addf (addf (mulf t (broadcastInDim S8192x1024 ![0, 1] bcast_S8192x1_S8192x1024_0_1 (Host.rsqrt s)))
    (mulf x (broadcastInDim S8192x1024 ![0] bcast_S8192_S8192x1024_0 f))) (mulf (broadcastInDim S8192x1024 ![0] bcast_S8192_S8192x1024_0 f) x)

/-- The same with the factors written out, -/
abbrev nTT (h x : FVec Ideal S8192x1024 .f32) (g : FVec Ideal S1x1024 .f32) : FVec Ideal S8192x1024 .f32 := nT (gT h g) (msT x) (sT (gT h g) (msT x) x) x

/-- the gradient at the rows before the layer, -/
abbrev xT (h x d : FVec Ideal S8192x1024 .f32) (g : FVec Ideal S1x1024 .f32) : FVec Ideal S8192x1024 .f32 := dxT (gT h g) (msT x) (sT (gT h g) (msT x) x) x d

/-- and these rows. -/
def rT (x mx : FVec Ideal S8192x1024 .f32) (g : FVec Ideal S1x1024 .f32) : FVec Ideal S8192x1024 .f32 :=
  addf x (mulf (mulf mx (broadcastInDim S8192x1024 ![0, 1] bcast_S8192x1_S8192x1024_0_1 (Host.rsqrt (msT mx))))
    (broadcastInDim S8192x1024 ![0, 1] bcast_S1x1024_S8192x1024_0_1 (broadcastInDim S1x1024 ![1] bcast_S1024_S1x1024_1
      (shapeCast _ g shapeCasts_S1x1024_S1024))))

/-- A sum over 4096 columns is the eight sums over its 512s. -/
theorem sum_eight (f : Fin 4096 → EReal) : ∑ k, f k = (((((((∑ k : Fin 512, f ⟨0 + k, by omega⟩) + ∑ k : Fin 512, f ⟨512 + k, by omega⟩)
    + ∑ k : Fin 512, f ⟨1024 + k, by omega⟩) + ∑ k : Fin 512, f ⟨1536 + k, by omega⟩) + ∑ k : Fin 512, f ⟨2048 + k, by omega⟩)
    + ∑ k : Fin 512, f ⟨2560 + k, by omega⟩) + ∑ k : Fin 512, f ⟨3072 + k, by omega⟩) + ∑ k : Fin 512, f ⟨3584 + k, by omega⟩ := by
  rw [Fin.sum_univ_tiles 8 512 rfl, Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_ <;> exact Finset.sum_congr rfl fun k _ => congrArg f (Fin.ext (by simp))

theorem hT_at (p : FVec Ideal S8192x4096 .bf16) (w : FVec Ideal S1x1024x4096 .f32) (r : Fin 8192) (c : Fin 1024) : hT p w (ix2 r c) = dh p w r c := by
  pointwise [hT, dh, part]
  rw [sum_eight]
  simp only [Nat.zero_add]

theorem nT_at (t : FVec Ideal S8192x1024 .f32) (s : FVec Ideal S8192x1 .f32) (f : FVec Ideal S8192 .f32) (x : FVec Ideal S8192x1024 .f32)
    (r : Fin 8192) (c : Fin 1024) :
    nT t s f x (ix2 r c) = t (ix2 r c) * Ideal.rsqrt (s (ix2 r 0)) + x (ix2 r c) * f (ix1 r) + f (ix1 r) * x (ix2 r c) := by
  pointwise [nT]

/-- The gradient at a norm's rows by the rule for a quotient is the closed form of it, -/
theorem n_closed (h : FVec Ideal S8192x1024 .f32) (H : Fin 8192 → Fin 1024 → EReal) (hh : ∀ r c, h (ix2 r c) = H r c)
    (x : FVec Ideal S8192x1024 .f32) (g : FVec Ideal S1x1024 .f32) (r : Fin 8192) (j : Fin 1024) : nTT h x g (ix2 r j) = DN H x g r j := by
  obtain ⟨e, he, hE⟩ := Norm.eps_pos
  unfold nTT
  rw [nT_at, sT_at, gT_at]
  simp only [gT_at, hh, msT_at]
  rw [DN, rr, ms, Norm.width, Norm.minus_half, hE]
  rw [show (∑ k : Fin 1024, x (ix2 r k) * (H r k * g (ix2 0 k))) = ∑ k : Fin 1024, H r k * g (ix2 0 k) * x (ix2 r k)
    from Finset.sum_congr rfl fun k _ => mul_comm _ _]
  have := Norm.grad (fun k => x (ix2 r k)) 1024 (by norm_num) e he (H r j * g (ix2 0 j)) (∑ k : Fin 1024, H r k * g (ix2 0 k) * x (ix2 r k)) 0 j
  simp only [zero_add] at this
  exact this

theorem rT_eq (x mx : FVec Ideal S8192x1024 .f32) (g : FVec Ideal S1x1024 .f32) : rT x mx g = rows x mx g := by
  funext i; idx_vars i
  pointwise [rT, rows, rr]
  rw [msT_at]

/-- The gradient handed on to the mixed rows, -/
def cT (x : FVec Ideal S8192x1024 .f32) : FVec Ideal S8192x1024 .f32 := shapeCast S8192x1024 x shapeCasts_S8192x1024_S8192x1024

/-- which is the same array. -/
theorem cT_eq (x : FVec Ideal S8192x1024 .f32) : cT x = x := by
  funext i; idx_vars i
  pointwise [cT]

variable (m : (ℓ : Loc nD τ sig) → Buf (Elt Ideal) ℓ) (c : Dev nD)

/-- The rows before the layer, and the gradients at the normed rows and at them, of the reference's arguments. -/
def rR : FVec Ideal S8192x1024 .f32 := rT (m ((c.tc : Thread nD τ).loc main_arg2)) (m ((c.tc : Thread nD τ).loc main_arg3)) (m ((c.tc : Thread nD τ).loc main_arg6))

def hR : FVec Ideal S8192x1024 .f32 := hT (m ((c.tc : Thread nD τ).loc main_arg0)) (m ((c.tc : Thread nD τ).loc main_arg1))

def xR : FVec Ideal S8192x1024 .f32 := xT (hR m c) (rR m c) (m ((c.tc : Thread nD τ).loc main_arg4)) (m ((c.tc : Thread nD τ).loc main_arg5))

theorem res_x : Value.res_main_v59 m c = xR m c := rfl

theorem res_mix : Value.res_main_v83 m c = truncf .bf16 (nTT (cT (xR m c)) (m ((c.tc : Thread nD τ).loc main_arg3)) (m ((c.tc : Thread nD τ).loc main_arg6))) bitsLt_bf16_f32 := rfl

theorem res_post : Value.res_main_v82 m c = dgT (cT (xR m c)) (msT (m ((c.tc : Thread nD τ).loc main_arg3))) (m ((c.tc : Thread nD τ).loc main_arg3)) := rfl

/-- What a run of the reference leaves: the four results by their stages, and the arguments as they were. -/
theorem stages (ρ : Dev nD → PrngReg) :
    θ_run defs (onTc (τ := τ) (main (F := Ideal))) ⟨m, fun _ => 0, ρ⟩ fun r => ∀ c : Dev nD,
      r.2.mem ((c.tc : Thread nD τ).loc main_v59) = xR m c
      ∧ r.2.mem ((c.tc : Thread nD τ).loc main_v83) = truncf .bf16 (nTT (cT (xR m c)) (m ((c.tc : Thread nD τ).loc main_arg3)) (m ((c.tc : Thread nD τ).loc main_arg6))) bitsLt_bf16_f32
      ∧ r.2.mem ((c.tc : Thread nD τ).loc main_v60) = dgT (hR m c) (msT (rR m c)) (rR m c)
      ∧ r.2.mem ((c.tc : Thread nD τ).loc main_v82) = dgT (cT (xR m c)) (msT (m ((c.tc : Thread nD τ).loc main_arg3))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_x m c), (h c).2.1.trans (res_mix m c), (h c).2.2.1,
    (h c).2.2.2.1.trans (res_post m c), (h c).2.2.2.2⟩) (Value.run m ρ)

end Cert.Ff1
-- ==== Proof.Ff1.Claim.lean ====
module

public import proofs.«01_k».proof.Defs
public import proofs.«01_k».proof.Proof.Ff1.Finals
public import proofs.«01_k».proof.Proof.Ff1.RefValue
public import proofs.«01_k».proof.Proof.Gen.Kernel7
public import Idealize.ShloMosaic.Lib.Claim

@[expose] public section

set_option maxRecDepth 16384
noncomputable section

/-! The claims about the first feed-forward product's gradients: the frames and the equality of all four results. -/

namespace Cert.Ff1

open Idealize.ShloMosaic Idealize.ShloMosaic.TcCoe Idealize.SL.Sem
open Cert.Inproj (rr ms DX DG msT gT sT dgT dx_closed dg_closed sum_rows)

variable (m : (ℓ : Loc Cert.Kernel7Ideal.nD Cert.Kernel7Ideal.τ Cert.Kernel7Ideal.sig) → Buf (Elt Ideal) ℓ) (c : Dev Cert.Kernel7Ideal.nD)

/-- The gradient at the normed rows as the reference writes it, of the kernel's arguments, -/
def hM : FVec Ideal Cert.Reference7Ideal.S8192x1024 .f32 := hT (P m c) (W m c)

theorem hM_at (r : Fin 8192) (j : Fin 1024) : hM m c (ix2 r j) = dhM m c r j := hT_at _ _ r j

/-- and the gradient at the rows before the layer. -/
def xM : FVec Ideal Cert.Reference7Ideal.S8192x1024 .f32 := xT (hM m c) (X m c) (D m c) (G3 m c)

theorem xM_at (r : Fin 8192) (j : Fin 1024) : xM m c (ix2 r j) = dxM m c r j := dx_closed (hM m c) (dhM m c) (hM_at m c) _ _ _ r j

theorem x_final : xM m c = (dats m 0 c).arrAt 5 Cert.Kernel7Ideal.cfg0.N := by
  refine Eq.trans ?_ (final5 m c).symm
  funext i; idx_vars i
  exact xM_at m c i0 i1

theorem mix_final : (truncf .bf16 (nTT (xM m c) (MX m c) (G2 m c)) Cert.Reference7Ideal.Gen.bitsLt_bf16_f32 : FVec Ideal Cert.Reference7Ideal.S8192x1024 .bf16)
    = (dats m 0 c).arrAt 6 Cert.Kernel7Ideal.cfg0.N := by
  refine Eq.trans ?_ (final6 m c).symm
  funext i; idx_vars i
  exact n_closed (xM m c) (dxM m c) (xM_at m c) _ _ i0 i1

theorem pre_final : dgT (hM m c) (msT (X m c)) (X m c) = (dats m 0 c).arrAt 7 Cert.Kernel7Ideal.cfg0.N := by
  refine Eq.trans ?_ (final7 m c).symm
  funext j; idx_vars j
  obtain rfl : j0 = 0 := Subsingleton.elim _ _
  rw [dg_closed (hM m c) (dhM m c) (hM_at m c), sum_rows]
  exact (Fin.sum_congr' _ Cert.Kernel7Ideal.Gen.N_0).symm

theorem post_final : dgT (xM m c) (msT (MX m c)) (MX m c) = (dats m 0 c).arrAt 8 Cert.Kernel7Ideal.cfg0.N := by
  refine Eq.trans ?_ (final8 m c).symm
  funext j; idx_vars j
  obtain rfl : j0 = 0 := Subsingleton.elim _ _
  rw [dg_closed (xM m c) (dxM m c) (xM_at m c), sum_rows]
  exact (Fin.sum_congr' _ Cert.Kernel7Ideal.Gen.N_0).symm

/-- The printed kernel runs the same body as its ideal form. -/
theorem same_body : Cert.Kernel7.defs₀ (F := Bits) = Cert.Kernel7Ideal.defs₀ (F := Bits) := by
  unfold Cert.Kernel7.defs₀ Cert.Kernel7Ideal.defs₀
  refine congrArg Defs.onTc (funext fun l => funext fun a => ?_)
  match l, a with
  | ⟨0, _⟩, (t, s) => rfl

theorem same_defs : Cert.Kernel7.defs (F := Bits) = Cert.Kernel7Ideal.defs (F := Bits) :=
  congrArg (Pipeline.defs (Cert.Kernel7.pcfgs (F := Bits))) same_body

theorem frame : Cert.quiescent_Kernel7 := fun m ρ _ => by
  rw [same_defs]
  exact quiet (F := Bits) m ρ

theorem frameReference : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run m ρ)

theorem value : Cert.algebraic_Kernel7Ideal_Reference7Ideal := by
  pair_intro
  · run_from run_named m g
  · run_from stages m' g'
    all_goals
      obtain ⟨h0, h1, h2, h3, h4, h5, h6⟩ := hagree c
      have hh : hR m' c = hM m c := by rw [hR, h0, h1]; rfl
      have hr : rR m' c = X m c := by rw [rR, rT_eq, h2, h3, h6]
      have hx : xR m' c = xM m c := by rw [xR, hh, hr, h4, h5]; rfl
    · rw [hx]; exact x_final m c
    · rw [cT_eq, hx]; exact mix_final m c
    · rw [hh, hr]; exact pre_final m c
    · rw [cT_eq, hx]; exact post_final m c

end Cert.Ff1
-- ==== Proof.Project.Spec.lean ====
module

public import proofs.«01_k».proof.Proof.Inproj.Spec
public import proofs.«01_k».proof.Proof.Retention.Spec
public import proofs.«01_k».proof.Proof.Gen.Kernel8Ideal.Value
public import Idealize.ShloMosaic.Lib.Pipeline.ValueKit

@[expose] public section

set_option maxRecDepth 16384
noncomputable section

/-! The seven results of the input projection as functions of its arguments, and the angles of a position from those of its chunk's start
and of its offset in the chunk. -/

namespace Cert.Project

open Idealize.ShloMosaic Idealize.ShloMosaic.TcCoe Idealize.SL.Sem
open Cert.Kernel8Ideal Cert.Kernel8Ideal.Gen
open Cert.Inproj (rr ms)
open Cert.Retention (ang cosR sinR num sitofp_nat)

/-- The normed rows, -/
def normed (x : FVec Ideal S8192x1024 .f32) (g : FVec Ideal S1x1024 .f32) : FVec Ideal S8192x1024 .f32 :=
  fun i => x i * rr x (i 0) * g (ix2 0 (i 1))

/-- and an entry of their product with the weight. -/
def PROJ (x : FVec Ideal S8192x1024 .f32) (g : FVec Ideal S1x1024 .f32) (w : FVec Ideal S1x1024x2560 .f32) (i : Fin 8192) (j : Fin 2560) : EReal :=
  ∑ k : Fin 1024, normed x g (ix2 i k) * w (ix3 0 k j)

/-- The two tables, with the sign of the turn in the sine. -/
def sinS (t : ℕ) (b : ℕ) : ℝ := if b < 64 then -sinR t (b % 64) else sinR t (b % 64)
def COS (t : ℕ) (b : ℕ) : EReal := ((cosR t (b % 64) : ℝ) : EReal)
def SIN (t : ℕ) (b : ℕ) : EReal := ((sinS t b : ℝ) : EReal)

/-- A column's partner in its head's other half. -/
def mate (j : ℕ) : ℕ := 128 * (j / 128) + (j % 128 + 64) % 128

theorem mate_lt (j : ℕ) (h : j < 512) : mate j < 512 := by unfold mate; omega

/-- An entry of turned rows: the columns from `o` on, head by head. -/
def TURN (p : Fin 8192 → Fin 2560 → EReal) (o : ℕ) (ho : o + 512 ≤ 2560) (i : Fin 8192) (j : Fin 512) : EReal :=
  p i ⟨o + j.val, by omega⟩ * COS i.val (j.val % 128)
    + p i ⟨o + mate j.val, by have := mate_lt j.val j.isLt; omega⟩ * SIN i.val (j.val % 128)

theorem ang_add (t s a : ℕ) : ang (t + s) a = ang t a + ang s a := by
  unfold ang
  push_cast
  ring

theorem cosR_add (t s a : ℕ) : cosR (t + s) a = cosR t a * cosR s a - sinR t a * sinR s a := by
  unfold cosR sinR
  rw [ang_add, Real.cos_add]

theorem sinR_add (t s a : ℕ) : sinR (t + s) a = sinR t a * cosR s a + cosR t a * sinR s a := by
  unfold cosR sinR
  rw [ang_add, Real.sin_add]

theorem bits_one : Ideal.ofBits .f32 0x3F800000#32 = ((1 : ℝ) : EReal) := by
  simp [Ideal.ofBits, Ideal.ieee]; rw [← EReal.coe_mul]; norm_num
theorem bits_neg : Ideal.ofBits .f32 0xBF800000#32 = ((-1 : ℝ) : EReal) := by
  simp [Ideal.ofBits, Ideal.ieee]; rw [← EReal.coe_mul]; norm_num
theorem bits_chunk : Ideal.ofBits .f32 0x43000000#32 = ((128 : ℝ) : EReal) := by
  simp [Ideal.ofBits, Ideal.ieee]; rw [← EReal.coe_mul]; norm_num

/-- The start of a chunk as the host computes it. -/
theorem start_num (n : ℕ) (hn : n < 64) : Ideal.ofBits .f32 0x43000000#32 * num n = num (128 * n) := by
  rw [sitofp_nat n (by omega), sitofp_nat (128 * n) (by omega), bits_chunk, ← EReal.coe_mul]
  push_cast
  rfl

end Cert.Project
-- ==== Proof.Project.Blocks.lean ====
module

public import proofs.«01_k».proof.Proof.Project.Spec
public import proofs.«01_k».proof.Proof.Retention.Host

@[expose] public section

set_option maxRecDepth 16384
noncomputable section

/-! The arrays the call takes, as the host prepares them, and the blocks a grid point reads of them. -/

namespace Cert.Project

open Idealize.ShloMosaic Idealize.ShloMosaic.TcCoe Idealize.SL.Sem
open Cert.Kernel8Ideal Cert.Kernel8Ideal.Gen
open Idealize.ShloMosaic.Pipeline (Dat)
open Cert.Inproj (rr ms)
open Cert.Retention (cosR sinR num cos_of sin_of)

variable (m : (ℓ : Loc nD τ sig) → Buf (Elt Ideal) ℓ) (c : Dev nD)

abbrev X : FVec Ideal S8192x1024 .f32 := m ((c : Thread nD τ).loc main_arg0)
abbrev G : FVec Ideal S1x1024 .f32 := m ((c : Thread nD τ).loc main_arg1)
abbrev W : FVec Ideal S1x1024x2560 .f32 := m ((c : Thread nD τ).loc main_arg2)

/-- Which block each window stages at a grid point. -/
theorem blocks_at : ∀ t : Fin cfg0.N, win0_0.index t = ![t.val, 0] ∧ win0_1.index t = ![0, 0] ∧ win0_2.index t = ![0, 0]
    ∧ win0_3.index t = ![0, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The normed rows as the host prepares them. -/
def normedT (x : FVec Ideal S8192x1024 .f32) (g : FVec Ideal S1x1024 .f32) : FVec Ideal S8192x1024 .bf16 :=
  truncf .bf16 (mulf (mulf x (broadcastInDim S8192x1024 ![0, 1] bcast_S8192x1_S8192x1024_0_1
    (Host.rsqrt (addf (Host.divf (broadcastInDim S8192x1 ![0] bcast_S8192_S8192x1_0
        (Host.reduceAdd (mulf x x) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 g)) bitsLt_bf16_f32

theorem normedT_at (x : FVec Ideal S8192x1024 .f32) (g : FVec Ideal S1x1024 .f32) (i : Fin 8192) (k : Fin 1024) :
    normedT x g (ix2 i k) = normed x g (ix2 i k) := by
  pointwise [normedT, normed, rr, ms]

/-- The weight as the host prepares it. -/
def wT (w : FVec Ideal S1x1024x2560 .f32) : FVec Ideal S2560x1024 .bf16 :=
  truncf .bf16 (transpose S2560x1024 [1, 0] (shapeCast S1024x2560 w shapeCasts_S1x1024x2560_S1024x2560) transposes_S1024x2560_S2560x1024_1_0) bitsLt_bf16_f32

theorem wT_at (w : FVec Ideal S1x1024x2560 .f32) (j : Fin 2560) (k : Fin 1024) : wT w (ix2 j k) = w (ix3 0 k j) := by
  pointwise [wT]

theorem V_h : (V m c main_v12 : FVec Ideal S8192x1024 .bf16) = normedT (X m c) (G m c) := by
  show StableHlo.after hostOps0 _ _ = _
  after_results
  rfl

theorem V_w : (V m c main_v15 : FVec Ideal S2560x1024 .bf16) = wT (W m c) := by
  show StableHlo.after hostOps0 _ _ = _
  after_results
  rfl

/-- The cosines and sines of the offsets in a chunk, -/
theorem V_cos (o b : Fin 128) : (V m c main_v37 : FVec Ideal S128x128 .f32) (ix2 o b) = ((cosR o.val (b.val % 64) : ℝ) : EReal) := by
  unfold V
  after_reads_at
  have ho := o.isLt; have hb := b.isLt
  by_cases hh : b.val < 64
  · rw [dif_pos hh]
    exact cos_of o.val _ _ (by show b.val = _; omega) (by omega) (by omega)
  · rw [dif_neg hh]
    exact cos_of o.val _ _ (by show b.val - 64 = _; omega) (by omega) (by omega)

theorem V_sin (o b : Fin 128) : (V m c main_v39 : FVec Ideal S128x128 .f32) (ix2 o b) = ((sinR o.val (b.val % 64) : ℝ) : EReal) := by
  unfold V
  after_reads_at
  have ho := o.isLt; have hb := b.isLt
  by_cases hh : b.val < 64
  · rw [dif_pos hh]
    exact sin_of o.val _ _ (by show b.val = _; omega) (by omega) (by omega)
  · rw [dif_neg hh]
    exact sin_of o.val _ _ (by show b.val - 64 = _; omega) (by omega) (by omega)

theorem cos_start (n k a : ℕ) (hk : k = a) (hn : n < 64) (ha : a < 2 ^ 31) :
    Ideal.cos (Ideal.ofBits .f32 0x43000000#32 * num n * Ideal.pow (Ideal.ofBits FTy.f32 0x461C4000#32) (Ideal.div (-num k) (Ideal.ofBits FTy.f32 0x42800000#32)))
      = ((cosR (128 * n) a : ℝ) : EReal) := by
  rw [start_num n hn]; exact cos_of _ _ _ hk (by omega) ha
theorem sin_start (n k a : ℕ) (hk : k = a) (hn : n < 64) (ha : a < 2 ^ 31) :
    Ideal.sin (Ideal.ofBits .f32 0x43000000#32 * num n * Ideal.pow (Ideal.ofBits FTy.f32 0x461C4000#32) (Ideal.div (-num k) (Ideal.ofBits FTy.f32 0x42800000#32)))
      = ((sinR (128 * n) a : ℝ) : EReal) := by
  rw [start_num n hn]; exact sin_of _ _ _ hk (by omega) ha

/-- and of the chunks' starts. -/
theorem V_coss (n : Fin 64) (b : Fin 128) : (V m c main_v42 : FVec Ideal S64x1x128 .f32) (ix3 n 0 b) = ((cosR (128 * n.val) (b.val % 64) : ℝ) : EReal) := by
  unfold V
  after_reads_at
  have hn := n.isLt; have hb := b.isLt
  by_cases hh : b.val < 64
  · rw [dif_pos hh]
    exact cos_start n.val _ _ (by show b.val = _; omega) hn (by omega)
  · rw [dif_neg hh]
    exact cos_start n.val _ _ (by show b.val - 64 = _; omega) hn (by omega)

theorem V_sins (n : Fin 64) (b : Fin 128) : (V m c main_v45 : FVec Ideal S64x1x128 .f32) (ix3 n 0 b) = ((sinR (128 * n.val) (b.val % 64) : ℝ) : EReal) := by
  unfold V
  after_reads_at
  have hn := n.isLt; have hb := b.isLt
  by_cases hh : b.val < 64
  · rw [dif_pos hh]
    exact sin_start n.val _ _ (by show b.val = _; omega) hn (by omega)
  · rw [dif_neg hh]
    exact sin_start n.val _ _ (by show b.val - 64 = _; omega) hn (by omega)

variable (t : Fin cfg0.N)

theorem block0 (r k : Fin 1024) (i : Fin 8192) (hi : i.val = 1024 * t.val + r.val) :
    (iblk m c 0 t : FVec Ideal S1024x1024 .bf16) (ix2 r k) = normed (X m c) (G m c) (ix2 i k) := by
  rw [← normedT_at, ← V_h]
  blk_point [iblk, blocks_at t]

theorem block1 (j : Fin 2560) (k : Fin 1024) : (iblk m c 1 t : FVec Ideal S2560x1024 .bf16) (ix2 j k) = W m c (ix3 0 k j) := by
  rw [← wT_at (W m c) j k, ← V_w]
  blk_point [iblk, blocks_at t]

theorem block2 (o b : Fin 128) : (iblk m c 2 t : FVec Ideal S128x128 .f32) (ix2 o b) = ((cosR o.val (b.val % 64) : ℝ) : EReal) := by
  rw [← V_cos m c]
  blk_point [iblk, blocks_at t]

theorem block3 (o b : Fin 128) : (iblk m c 3 t : FVec Ideal S128x128 .f32) (ix2 o b) = ((sinR o.val (b.val % 64) : ℝ) : EReal) := by
  rw [← V_sin m c]
  blk_point [iblk, blocks_at t]

theorem block4 (n : Fin 64) (b : Fin 128) : (iblk m c 4 t : FVec Ideal S64x1x128 .f32) (ix3 n 0 b) = ((cosR (128 * n.val) (b.val % 64) : ℝ) : EReal) := by
  rw [← V_coss m c]
  blk_point [iblk, blocks_at t]

theorem block5 (n : Fin 64) (b : Fin 128) : (iblk m c 5 t : FVec Ideal S64x1x128 .f32) (ix3 n 0 b) = ((sinR (128 * n.val) (b.val % 64) : ℝ) : EReal) := by
  rw [← V_sins m c]
  blk_point [iblk, blocks_at t]

/-- Where the start of a chunk stands in its table. -/
theorem off_at (cc : Fin 8) : k0_off1 (grid0.coords t) (BitVec.ofNat 32 cc.val) = ![8 * t.val + cc.val, 0, 0] :=
  (by decide +kernel : ∀ (t : Fin grid0.N) (cc : Fin 8), k0_off1 (grid0.coords t) (BitVec.ofNat 32 cc.val) = ![8 * t.val + cc.val, 0, 0]) t cc

end Cert.Project
-- ==== Proof.Project.Ops.lean ====
module

public import proofs.«01_k».proof.Proof.Project.Blocks

@[expose] public section

set_option maxRecDepth 16384
noncomputable section

/-! The operations of a grid point, entry by entry. -/

namespace Cert.Project

open Idealize.ShloMosaic Idealize.ShloMosaic.TcCoe Idealize.SL.Sem
open Cert.Kernel8Ideal Cert.Kernel8Ideal.Gen
open Cert.Retention (other)

abbrev Tile := FVec Ideal S128x128 .f32
abbrev Line := FVec Ideal S1x1x128 .f32
abbrev Prod := FVec Ideal S1024x2560 .f32

/-- The product of a block of rows with the weight. -/
def projOp (h : FVec Ideal S1024x1024 .bf16) (w : FVec Ideal S2560x1024 .bf16) : Prod :=
  matmul dot_S1024x1024_S2560x1024_S1024x2560_1_1_0_0_n_n none (shapeCast S1024x1024 h shapeCasts_S1024x1024_S1024x1024)
    (shapeCast S2560x1024 w shapeCasts_S2560x1024_S2560x1024) (constant S1024x2560 .f32 0x00000000#32)

theorem projOp_at (h : FVec Ideal S1024x1024 .bf16) (w : FVec Ideal S2560x1024 .bf16) (r : Fin 1024) (j : Fin 2560) :
    projOp h w (ix2 r j) = ∑ k : Fin 1024, h (ix2 r k) * w (ix2 j k) := by
  pointwise [projOp]

/-- The start of a chunk along its rows. -/
def along (a : Line) : Tile := broadcastTo S128x128 (shapeCast S1x128 a shapeCasts_S1x1x128_S1x128) broadcasts_S1x128_S128x128

theorem along_at (a : Line) (o b : Fin 128) : along a (ix2 o b) = a (ix3 0 0 b) := by
  pointwise [along]

section tables
variable (co so : Tile) (a b : Line)

def csOp : Tile := subf (mulf (shapeCast S128x128 co shapeCasts_S128x128_S128x128) (along a)) (mulf (shapeCast S128x128 so shapeCasts_S128x128_S128x128) (along b))

def signOp : Tile := select (cmpi .slt (iota .tc S128x128 32 [1] iota_S128x128_d1_w32) (broadcast S128x128 64#32))
  (broadcast S128x128 (Scalar.ofBits .f32 0xBF800000#32 : Ideal .f32)) (broadcast S128x128 (Scalar.ofBits .f32 0x3F800000#32 : Ideal .f32))

def snOp : Tile := mulf (addf (mulf (shapeCast S128x128 so shapeCasts_S128x128_S128x128) (along a))
  (mulf (shapeCast S128x128 co shapeCasts_S128x128_S128x128) (along b))) signOp

theorem csOp_at (o l : Fin 128) : csOp co so a b (ix2 o l) = co (ix2 o l) * a (ix3 0 0 l) - so (ix2 o l) * b (ix3 0 0 l) := by
  rw [← along_at a o l, ← along_at b o l]
  pointwise [csOp]

theorem signOp_at (o l : Fin 128) : signOp (ix2 o l) = (((if l.val < 64 then -1 else 1 : ℝ)) : EReal) := by
  have e : ∀ l : Fin 128, IntOp.cmpi CmpIPredicate.slt (BitVec.ofNat 32 l.val) 64#32 = if l.val < 64 then 1#1 else 0#1 := by decide +kernel
  pointwise [signOp]
  rw [e l, bits_neg]
  split <;> rfl

theorem snOp_at (o l : Fin 128) : snOp co so a b (ix2 o l)
    = (so (ix2 o l) * a (ix3 0 0 l) + co (ix2 o l) * b (ix3 0 0 l)) * (((if l.val < 64 then -1 else 1 : ℝ)) : EReal) := by
  rw [← along_at a o l, ← along_at b o l, ← signOp_at o l]
  pointwise [snOp]
end tables

section turns
variable (off : Fin 2 → ℕ) (s : S1024x2560.Slices off S128x128) (p : Prod) (cs sn : Tile)

/-- A head's rows of a chunk, turned. -/
def turnOp : Tile := addf (mulf (extractStridedSlice S128x128 off p s) cs)
  (mulf (dynamicRotate 1 64#32 none (extractStridedSlice S128x128 off p s) rotates_S128x128_d1) sn)
def qOp : FVec Ideal S128x128 .bf16 := truncf .bf16 (turnOp off s p cs sn) bitsLt_bf16_f32
def kOp : FVec Ideal S128x128 .bf16 :=
  truncf .bf16 (mulf (turnOp off s p cs sn) (broadcast S128x128 (Scalar.ofBits .f32 0x3DB504F3#32 : Ideal .f32))) bitsLt_bf16_f32

theorem qOp_at (x : S128x128.Idx) : qOp off s p cs sn x = turnOp off s p cs sn x := rfl
theorem kOp_at (x : S128x128.Idx) : kOp off s p cs sn x = turnOp off s p cs sn x * Ideal.ofBits .f32 0x3DB504F3#32 := rfl
end turns

theorem turnOp_at (u v : ℕ) (s : S1024x2560.Slices ![u, v] S128x128) (p : Prod) (cs sn : Tile) (o l : Fin 128) (r : Fin 1024) (j j' : Fin 2560)
    (hr : r.val = u + o.val) (hj : j.val = v + l.val) (hj' : j'.val = v + (l.val + 64) % 128) :
    turnOp ![u, v] s p cs sn (ix2 o l) = p (ix2 r j) * cs (ix2 o l) + p (ix2 r j') * sn (ix2 o l) := by
  pointwise [turnOp]
  refine congrArg₂ (· + ·) (congrArg (· * _) (congrArg p (congrArg₂ ix2 ?_ ?_))) (congrArg (· * _) (congrArg p (congrArg₂ ix2 ?_ ?_)))
  all_goals (refine Fin.ext ?_; simp only []; omega)

end Cert.Project
-- ==== Proof.Project.Rows.lean ====
module

public import proofs.«01_k».proof.Proof.Project.Ops

@[expose] public section

set_option maxRecDepth 16384
noncomputable section

/-! What a grid point computes of its block, tile by tile. -/

namespace Cert.Project

open Idealize.ShloMosaic Idealize.ShloMosaic.TcCoe Idealize.SL.Sem
open Cert.Kernel8Ideal Cert.Kernel8Ideal.Gen
open Idealize.ShloMosaic.Pipeline (Dat)
open Cert.Retention (cosR sinR)

variable (m : (ℓ : Loc nD τ sig) → Buf (Elt Ideal) ℓ) (c : Dev nD) (t : Fin cfg0.N)

/-- The product of the block of rows, -/
abbrev pT : Prod := projOp (iblk m c 0 t) (iblk m c 1 t)

/-- and the projected rows. -/
abbrev PM (i : Fin 8192) (j : Fin 2560) : EReal := PROJ (X m c) (G m c) (W m c) i j

theorem pT_at (r : Fin 1024) (j : Fin 2560) (i : Fin 8192) (hi : i.val = 1024 * t.val + r.val) : pT m c t (ix2 r j) = PM m c i j := by
  refine (projOp_at _ _ _ _).trans (Finset.sum_congr rfl fun k _ => ?_)
  exact congrArg₂ (· * ·) (block0 m c t r k i hi) (block1 m c t j k)

section tables
variable (off : Fin 3 → ℕ) (inb : ∀ a, off a + (![1, 1, 128] : Fin 3 → ℕ) a ≤ S64x1x128.size a)

/-- The start of a chunk in the two tables. -/
abbrev cT : Line := View.ld (iblk m c 4 t : FVec Ideal S64x1x128 .f32) (Rect.unit off ![1, 1, 128] inb)
abbrev sT : Line := View.ld (iblk m c 5 t : FVec Ideal S64x1x128 .f32) (Rect.unit off ![1, 1, 128] inb)

/-- The tables of a chunk's positions. -/
abbrev csT : Tile := csOp (iblk m c 2 t) (iblk m c 3 t) (cT m c t off inb) (sT m c t off inb)
abbrev snT : Tile := snOp (iblk m c 2 t) (iblk m c 3 t) (cT m c t off inb) (sT m c t off inb)

variable (cc : ℕ) (hcc : cc < 8) (hoff : off = ![8 * t.val + cc, 0, 0])
include hcc hoff

theorem start_lt : 8 * t.val + cc < 64 := by
  have h : cfg0.N = 8 := N_0
  have := t.isLt
  omega

theorem start_eq (l : Fin 128) : (Rect.unit off ![1, 1, 128] inb : Rect S64x1x128).idx (ix3 0 0 l) = ix3 ⟨8 * t.val + cc, start_lt t off cc hcc hoff⟩ 0 l := by
  subst hoff
  funext d; fin_cases d
  · exact Fin.ext (by show 8 * t.val + cc + 1 * 0 = _; simp)
  · exact Fin.ext (by show 0 + 1 * 0 = 0; simp)
  · exact Fin.ext (by show 0 + 1 * l.val = l.val; omega)

theorem cT_at (l : Fin 128) : cT m c t off inb (ix3 0 0 l) = ((cosR (128 * (8 * t.val + cc)) (l.val % 64) : ℝ) : EReal) :=
  (congrArg (iblk m c 4 t : FVec Ideal S64x1x128 .f32) (start_eq t off inb cc hcc hoff l)).trans (block4 m c t _ l)

theorem sT_at (l : Fin 128) : sT m c t off inb (ix3 0 0 l) = ((sinR (128 * (8 * t.val + cc)) (l.val % 64) : ℝ) : EReal) :=
  (congrArg (iblk m c 5 t : FVec Ideal S64x1x128 .f32) (start_eq t off inb cc hcc hoff l)).trans (block5 m c t _ l)

theorem cs_tile (x : S128x128.Idx) (i : Fin 8192) (hi : i.val = 1024 * t.val + (128 * cc + (x 0 : ℕ))) (l : ℕ) (hl : l = (x 1 : ℕ)) :
    csT m c t off inb x = COS i.val l := by
  subst hl
  idx_vars x
  have e : i.val = x0.val + 128 * (8 * t.val + cc) := by rw [hi]; show _ + (_ + x0.val) = _; omega
  refine (csOp_at _ _ _ _ _ _).trans ?_
  rw [block2, block3, cT_at m c t off inb cc hcc hoff, sT_at m c t off inb cc hcc hoff, ← EReal.coe_mul, ← EReal.coe_mul, ← EReal.coe_sub, ← cosR_add, ← e]
  rfl

theorem sn_tile (x : S128x128.Idx) (i : Fin 8192) (hi : i.val = 1024 * t.val + (128 * cc + (x 0 : ℕ))) (l : ℕ) (hl : l = (x 1 : ℕ)) :
    snT m c t off inb x = SIN i.val l := by
  subst hl
  idx_vars x
  have e : i.val = x0.val + 128 * (8 * t.val + cc) := by rw [hi]; show _ + (_ + x0.val) = _; omega
  refine (snOp_at _ _ _ _ _ _).trans ?_
  rw [block2, block3, cT_at m c t off inb cc hcc hoff, sT_at m c t off inb cc hcc hoff, ← EReal.coe_mul, ← EReal.coe_mul, ← EReal.coe_add, ← sinR_add, ← e,
    ← EReal.coe_mul]
  refine congrArg _ ?_
  show _ = sinS i.val x1.val
  unfold sinS
  split <;> ring

/-- A head's tile, turned. -/
theorem turn_tile (o : ℕ) (ho : o + 512 ≤ 2560) (h : ℕ) (hh : h < 4) (u v : ℕ) (hu : u = 128 * cc) (hv : v = o + 128 * h) (s : S1024x2560.Slices ![u, v] S128x128)
    (x : S128x128.Idx) (i : Fin 8192) (j : Fin 512) (hi : i.val = 1024 * t.val + (128 * cc + (x 0 : ℕ))) (hj : j.val = 128 * h + (x 1 : ℕ)) :
    turnOp ![u, v] s (pT m c t) (csT m c t off inb) (snT m c t off inb) x = TURN (PM m c) o ho i j := by
  have ec := cs_tile m c t off inb cc hcc hoff x i hi (j.val % 128) (by have : (x 1 : ℕ) < 128 := (x 1).isLt; omega)
  have es := sn_tile m c t off inb cc hcc hoff x i hi (j.val % 128) (by have : (x 1 : ℕ) < 128 := (x 1).isLt; omega)
  idx_vars x
  have hx0 := x0.isLt; have hx1 := x1.isLt
  replace hi : i.val = 1024 * t.val + (128 * cc + x0.val) := hi
  replace hj : j.val = 128 * h + x1.val := hj
  have hm := mate_lt j.val j.isLt
  refine (turnOp_at u v s _ _ _ x0 x1 ⟨128 * cc + x0.val, by omega⟩ ⟨o + j.val, by omega⟩ ⟨o + mate j.val, by omega⟩ (by show _ = u + _; rw [hu])
    (by show o + j.val = _; omega) (by show o + mate j.val = _; unfold mate; omega)).trans ?_
  rw [ec, es, pT_at m c t _ _ i hi, pT_at m c t _ _ i hi]
  rfl

end tables

end Cert.Project
-- ==== Proof.Project.Tables.lean ====
module

public import proofs.«01_k».proof.Proof.Project.Rows

@[expose] public section

set_option maxRecDepth 16384
noncomputable section

/-! What a grid point leaves in its blocks of the two tables. -/

namespace Cert.Project

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ) (c : Dev nD) (t : Fin cfg0.N)

theorem point11 (y : S1024x128.Idx) (i : Fin 8192) (l : Fin 128) (hi : i.val = 1024 * t.val + (y 0 : ℕ)) (hl : l.val = (y 1 : ℕ)) :
    (outsAt0 m c t).2.2.2.2.2.1 y = COS i.val l.val := by
  simp only [outsAt0]
  frame_out
  canon_tiles x hx
  · exact cs_tile m c t (k0_off1 (grid0.coords t) 7#32) (k0_off1_inb _ 7) 7 (by decide) (off_at t 7) x i (by omega) l.val (by omega)
  · exact cs_tile m c t (k0_off1 (grid0.coords t) 6#32) (k0_off1_inb _ 6) 6 (by decide) (off_at t 6) x i (by omega) l.val (by omega)
  · exact cs_tile m c t (k0_off1 (grid0.coords t) 5#32) (k0_off1_inb _ 5) 5 (by decide) (off_at t 5) x i (by omega) l.val (by omega)
  · exact cs_tile m c t (k0_off1 (grid0.coords t) 4#32) (k0_off1_inb _ 4) 4 (by decide) (off_at t 4) x i (by omega) l.val (by omega)
  · exact cs_tile m c t (k0_off1 (grid0.coords t) 3#32) (k0_off1_inb _ 3) 3 (by decide) (off_at t 3) x i (by omega) l.val (by omega)
  · exact cs_tile m c t (k0_off1 (grid0.coords t) 2#32) (k0_off1_inb _ 2) 2 (by decide) (off_at t 2) x i (by omega) l.val (by omega)
  · exact cs_tile m c t (k0_off1 (grid0.coords t) 1#32) (k0_off1_inb _ 1) 1 (by decide) (off_at t 1) x i (by omega) l.val (by omega)
  · exact cs_tile m c t (k0_off1 (grid0.coords t) 0#32) (k0_off1_inb _ 0) 0 (by decide) (off_at t 0) x i (by omega) l.val (by omega)

theorem point12 (y : S1024x128.Idx) (i : Fin 8192) (l : Fin 128) (hi : i.val = 1024 * t.val + (y 0 : ℕ)) (hl : l.val = (y 1 : ℕ)) :
    (outsAt0 m c t).2.2.2.2.2.2 y = SIN i.val l.val := by
  simp only [outsAt0]
  frame_out
  canon_tiles x hx
  · exact sn_tile m c t (k0_off1 (grid0.coords t) 7#32) (k0_off1_inb _ 7) 7 (by decide) (off_at t 7) x i (by omega) l.val (by omega)
  · exact sn_tile m c t (k0_off1 (grid0.coords t) 6#32) (k0_off1_inb _ 6) 6 (by decide) (off_at t 6) x i (by omega) l.val (by omega)
  · exact sn_tile m c t (k0_off1 (grid0.coords t) 5#32) (k0_off1_inb _ 5) 5 (by decide) (off_at t 5) x i (by omega) l.val (by omega)
  · exact sn_tile m c t (k0_off1 (grid0.coords t) 4#32) (k0_off1_inb _ 4) 4 (by decide) (off_at t 4) x i (by omega) l.val (by omega)
  · exact sn_tile m c t (k0_off1 (grid0.coords t) 3#32) (k0_off1_inb _ 3) 3 (by decide) (off_at t 3) x i (by omega) l.val (by omega)
  · exact sn_tile m c t (k0_off1 (grid0.coords t) 2#32) (k0_off1_inb _ 2) 2 (by decide) (off_at t 2) x i (by omega) l.val (by omega)
  · exact sn_tile m c t (k0_off1 (grid0.coords t) 1#32) (k0_off1_inb _ 1) 1 (by decide) (off_at t 1) x i (by omega) l.val (by omega)
  · exact sn_tile m c t (k0_off1 (grid0.coords t) 0#32) (k0_off1_inb _ 0) 0 (by decide) (off_at t 0) x i (by omega) l.val (by omega)

end Cert.Project
-- ==== Proof.Project.Plain.lean ====
module

public import proofs.«01_k».proof.Proof.Project.Rows

@[expose] public section

set_option maxRecDepth 16384
noncomputable section

/-! What a grid point leaves in its blocks of the three plain results. -/

namespace Cert.Project

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ) (c : Dev nD) (t : Fin cfg0.N)

/-- A run of the product's columns. -/
theorem plain_tile (o : ℕ) (ho : o + 512 ≤ 2560) (s : S1024x2560.Slices ![0, o] S1024x512) (y : S1024x512.Idx) (i : Fin 8192) (j : Fin 512)
    (hi : i.val = 1024 * t.val + (y 0 : ℕ)) (hj : j.val = (y 1 : ℕ)) :
    extractStridedSlice S1024x512 ![0, o] (pT m c t) s y = PM m c i ⟨o + j.val, by omega⟩ := by
  idx_vars y
  refine Eq.trans ?_ (pT_at m c t y0 ⟨o + j.val, by omega⟩ i hi)
  refine congrArg (pT m c t) ?_
  funext d; fin_cases d
  · exact Fin.ext (by show 0 + y0.val = y0.val; omega)
  · exact Fin.ext (by show o + y1.val = o + j.val; rw [hj]; rfl)

theorem point8 (y : S1024x512.Idx) (i : Fin 8192) (j : Fin 512) (hi : i.val = 1024 * t.val + (y 0 : ℕ)) (hj : j.val = (y 1 : ℕ)) :
    (outsAt0 m c t).2.2.1 y = PM m c i ⟨1024 + j.val, by omega⟩ := by
  simp only [outsAt0]
  frame_out
  exact plain_tile m c t 1024 (by decide) slices_S1024x2560_o0_1024_S1024x512 y i j hi hj

theorem point9 (y : S1024x512.Idx) (i : Fin 8192) (j : Fin 512) (hi : i.val = 1024 * t.val + (y 0 : ℕ)) (hj : j.val = (y 1 : ℕ)) :
    (outsAt0 m c t).2.2.2.1 y = PM m c i ⟨1536 + j.val, by omega⟩ := by
  simp only [outsAt0]
  frame_out
  exact plain_tile m c t 1536 (by decide) slices_S1024x2560_o0_1536_S1024x512 y i j hi hj

theorem point10 (y : S1024x512.Idx) (i : Fin 8192) (j : Fin 512) (hi : i.val = 1024 * t.val + (y 0 : ℕ)) (hj : j.val = (y 1 : ℕ)) :
    (outsAt0 m c t).2.2.2.2.1 y = PM m c i ⟨2048 + j.val, by omega⟩ := by
  simp only [outsAt0]
  frame_out
  exact plain_tile m c t 2048 (by decide) slices_S1024x2560_o0_2048_S1024x512 y i j hi hj

end Cert.Project
-- ==== Proof.Project.Queries.lean ====
module

public import proofs.«01_k».proof.Proof.Project.Rows

@[expose] public section

set_option maxRecDepth 16384
noncomputable section

/-! What a grid point leaves in its blocks of the queries. -/

namespace Cert.Project

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ) (c : Dev nD) (t : Fin cfg0.N)

theorem point6 (y : S1024x512.Idx) (i : Fin 8192) (j : Fin 512) (hi : i.val = 1024 * t.val + (y 0 : ℕ)) (hj : j.val = (y 1 : ℕ)) :
    (outsAt0 m c t).1 y = TURN (PM m c) 0 (by decide) i j := by
  simp only [outsAt0]
  frame_out
  canon_tiles x hx
  · exact turn_tile m c t (k0_off1 (grid0.coords t) 7#32) (k0_off1_inb _ 7) 7 (by decide) (off_at t 7) 0 (by decide) 3 (by decide) 896 384 rfl rfl slices_S1024x2560_o896_384_S128x128 x i j (by omega) (by omega)
  · exact turn_tile m c t (k0_off1 (grid0.coords t) 7#32) (k0_off1_inb _ 7) 7 (by decide) (off_at t 7) 0 (by decide) 2 (by decide) 896 256 rfl rfl slices_S1024x2560_o896_256_S128x128 x i j (by omega) (by omega)
  · exact turn_tile m c t (k0_off1 (grid0.coords t) 7#32) (k0_off1_inb _ 7) 7 (by decide) (off_at t 7) 0 (by decide) 1 (by decide) 896 128 rfl rfl slices_S1024x2560_o896_128_S128x128 x i j (by omega) (by omega)
  · exact turn_tile m c t (k0_off1 (grid0.coords t) 7#32) (k0_off1_inb _ 7) 7 (by decide) (off_at t 7) 0 (by decide) 0 (by decide) 896 0 rfl rfl slices_S1024x2560_o896_0_S128x128 x i j (by omega) (by omega)
  · exact turn_tile m c t (k0_off1 (grid0.coords t) 6#32) (k0_off1_inb _ 6) 6 (by decide) (off_at t 6) 0 (by decide) 3 (by decide) 768 384 rfl rfl slices_S1024x2560_o768_384_S128x128 x i j (by omega) (by omega)
  · exact turn_tile m c t (k0_off1 (grid0.coords t) 6#32) (k0_off1_inb _ 6) 6 (by decide) (off_at t 6) 0 (by decide) 2 (by decide) 768 256 rfl rfl slices_S1024x2560_o768_256_S128x128 x i j (by omega) (by omega)
  · exact turn_tile m c t (k0_off1 (grid0.coords t) 6#32) (k0_off1_inb _ 6) 6 (by decide) (off_at t 6) 0 (by decide) 1 (by decide) 768 128 rfl rfl slices_S1024x2560_o768_128_S128x128 x i j (by omega) (by omega)
  · exact turn_tile m c t (k0_off1 (grid0.coords t) 6#32) (k0_off1_inb _ 6) 6 (by decide) (off_at t 6) 0 (by decide) 0 (by decide) 768 0 rfl rfl slices_S1024x2560_o768_0_S128x128 x i j (by omega) (by omega)
  · exact turn_tile m c t (k0_off1 (grid0.coords t) 5#32) (k0_off1_inb _ 5) 5 (by decide) (off_at t 5) 0 (by decide) 3 (by decide) 640 384 rfl rfl slices_S1024x2560_o640_384_S128x128 x i j (by omega) (by omega)
  · exact turn_tile m c t (k0_off1 (grid0.coords t) 5#32) (k0_off1_inb _ 5) 5 (by decide) (off_at t 5) 0 (by decide) 2 (by decide) 640 256 rfl rfl slices_S1024x2560_o640_256_S128x128 x i j (by omega) (by omega)
  · exact turn_tile m c t (k0_off1 (grid0.coords t) 5#32) (k0_off1_inb _ 5) 5 (by decide) (off_at t 5) 0 (by decide) 1 (by decide) 640 128 rfl rfl slices_S1024x2560_o640_128_S128x128 x i j (by omega) (by omega)
  · exact turn_tile m c t (k0_off1 (grid0.coords t) 5#32) (k0_off1_inb _ 5) 5 (by decide) (off_at t 5) 0 (by decide) 0 (by decide) 640 0 rfl rfl slices_S1024x2560_o640_0_S128x128 x i j (by omega) (by omega)
  · exact turn_tile m c t (k0_off1 (grid0.coords t) 4#32) (k0_off1_inb _ 4) 4 (by decide) (off_at t 4) 0 (by decide) 3 (by decide) 512 384 rfl rfl slices_S1024x2560_o512_384_S128x128 x i j (by omega) (by omega)
  · exact turn_tile m c t (k0_off1 (grid0.coords t) 4#32) (k0_off1_inb _ 4) 4 (by decide) (off_at t 4) 0 (by decide) 2 (by decide) 512 256 rfl rfl slices_S1024x2560_o512_256_S128x128 x i j (by omega) (by omega)
  · exact turn_tile m c t (k0_off1 (grid0.coords t) 4#32) (k0_off1_inb _ 4) 4 (by decide) (off_at t 4) 0 (by decide) 1 (by decide) 512 128 rfl rfl slices_S1024x2560_o512_128_S128x128 x i j (by omega) (by omega)
  · exact turn_tile m c t (k0_off1 (grid0.coords t) 4#32) (k0_off1_inb _ 4) 4 (by decide) (off_at t 4) 0 (by decide) 0 (by decide) 512 0 rfl rfl slices_S1024x2560_o512_0_S128x128 x i j (by omega) (by omega)
  · exact turn_tile m c t (k0_off1 (grid0.coords t) 3#32) (k0_off1_inb _ 3) 3 (by decide) (off_at t 3) 0 (by decide) 3 (by decide) 384 384 rfl rfl slices_S1024x2560_o384_384_S128x128 x i j (by omega) (by omega)
  · exact turn_tile m c t (k0_off1 (grid0.coords t) 3#32) (k0_off1_inb _ 3) 3 (by decide) (off_at t 3) 0 (by decide) 2 (by decide) 384 256 rfl rfl slices_S1024x2560_o384_256_S128x128 x i j (by omega) (by omega)
  · exact turn_tile m c t (k0_off1 (grid0.coords t) 3#32) (k0_off1_inb _ 3) 3 (by decide) (off_at t 3) 0 (by decide) 1 (by decide) 384 128 rfl rfl slices_S1024x2560_o384_128_S128x128 x i j (by omega) (by omega)
  · exact turn_tile m c t (k0_off1 (grid0.coords t) 3#32) (k0_off1_inb _ 3) 3 (by decide) (off_at t 3) 0 (by decide) 0 (by decide) 384 0 rfl rfl slices_S1024x2560_o384_0_S128x128 x i j (by omega) (by omega)
  · exact turn_tile m c t (k0_off1 (grid0.coords t) 2#32) (k0_off1_inb _ 2) 2 (by decide) (off_at t 2) 0 (by decide) 3 (by decide) 256 384 rfl rfl slices_S1024x2560_o256_384_S128x128 x i j (by omega) (by omega)
  · exact turn_tile m c t (k0_off1 (grid0.coords t) 2#32) (k0_off1_inb _ 2) 2 (by decide) (off_at t 2) 0 (by decide) 2 (by decide) 256 256 rfl rfl slices_S1024x2560_o256_256_S128x128 x i j (by omega) (by omega)
  · exact turn_tile m c t (k0_off1 (grid0.coords t) 2#32) (k0_off1_inb _ 2) 2 (by decide) (off_at t 2) 0 (by decide) 1 (by decide) 256 128 rfl rfl slices_S1024x2560_o256_128_S128x128 x i j (by omega) (by omega)
  · exact turn_tile m c t (k0_off1 (grid0.coords t) 2#32) (k0_off1_inb _ 2) 2 (by decide) (off_at t 2) 0 (by decide) 0 (by decide) 256 0 rfl rfl slices_S1024x2560_o256_0_S128x128 x i j (by omega) (by omega)
  · exact turn_tile m c t (k0_off1 (grid0.coords t) 1#32) (k0_off1_inb _ 1) 1 (by decide) (off_at t 1) 0 (by decide) 3 (by decide) 128 384 rfl rfl slices_S1024x2560_o128_384_S128x128 x i j (by omega) (by omega)
  · exact turn_tile m c t (k0_off1 (grid0.coords t) 1#32) (k0_off1_inb _ 1) 1 (by decide) (off_at t 1) 0 (by decide) 2 (by decide) 128 256 rfl rfl slices_S1024x2560_o128_256_S128x128 x i j (by omega) (by omega)
  · exact turn_tile m c t (k0_off1 (grid0.coords t) 1#32) (k0_off1_inb _ 1) 1 (by decide) (off_at t 1) 0 (by decide) 1 (by decide) 128 128 rfl rfl slices_S1024x2560_o128_128_S128x128 x i j (by omega) (by omega)
  · exact turn_tile m c t (k0_off1 (grid0.coords t) 1#32) (k0_off1_inb _ 1) 1 (by decide) (off_at t 1) 0 (by decide) 0 (by decide) 128 0 rfl rfl slices_S1024x2560_o128_0_S128x128 x i j (by omega) (by omega)
  · exact turn_tile m c t (k0_off1 (grid0.coords t) 0#32) (k0_off1_inb _ 0) 0 (by decide) (off_at t 0) 0 (by decide) 3 (by decide) 0 384 rfl rfl slices_S1024x2560_o0_384_S128x128 x i j (by omega) (by omega)
  · exact turn_tile m c t (k0_off1 (grid0.coords t) 0#32) (k0_off1_inb _ 0) 0 (by decide) (off_at t 0) 0 (by decide) 2 (by decide) 0 256 rfl rfl slices_S1024x2560_o0_256_S128x128 x i j (by omega) (by omega)
  · exact turn_tile m c t (k0_off1 (grid0.coords t) 0#32) (k0_off1_inb _ 0) 0 (by decide) (off_at t 0) 0 (by decide) 1 (by decide) 0 128 rfl rfl slices_S1024x2560_o0_128_S128x128 x i j (by omega) (by omega)
  · exact turn_tile m c t (k0_off1 (grid0.coords t) 0#32) (k0_off1_inb _ 0) 0 (by decide) (off_at t 0) 0 (by decide) 0 (by decide) 0 0 rfl rfl slices_S1024x2560_o0_0_S128x128 x i j (by omega) (by omega)

end Cert.Project
-- ==== Proof.Project.Keys.lean ====
module

public import proofs.«01_k».proof.Proof.Project.Rows

@[expose] public section

set_option maxRecDepth 16384
noncomputable section

/-! What a grid point leaves in its blocks of the keys. -/

namespace Cert.Project

open Idealize.ShloMosaic Idealize.ShloMosaic.TcCoe Idealize.SL.Sem
open Cert.Kernel8Ideal Cert.Kernel8Ideal.Gen
open Idealize.ShloMosaic.Pipeline (Dat)

variable (m : (ℓ : Loc nD τ sig) → Buf (Elt Ideal) ℓ) (c : Dev nD) (t : Fin cfg0.N)

theorem point7 (y : S1024x512.Idx) (i : Fin 8192) (j : Fin 512) (hi : i.val = 1024 * t.val + (y 0 : ℕ)) (hj : j.val = (y 1 : ℕ)) :
    (outsAt0 m c t).2.1 y = TURN (PM m c) 512 (by decide) i j * Ideal.ofBits .f32 0x3DB504F3#32 := by
  simp only [outsAt0]
  frame_out
  canon_tiles x hx
  · exact congrArg (· * Ideal.ofBits .f32 0x3DB504F3#32) (turn_tile m c t (k0_off1 (grid0.coords t) 7#32) (k0_off1_inb _ 7) 7 (by decide) (off_at t 7) 512 (by decide) 3 (by decide) 896 896 rfl rfl slices_S1024x2560_o896_896_S128x128 x i j (by omega) (by omega))
  · exact congrArg (· * Ideal.ofBits .f32 0x3DB504F3#32) (turn_tile m c t (k0_off1 (grid0.coords t) 7#32) (k0_off1_inb _ 7) 7 (by decide) (off_at t 7) 512 (by decide) 2 (by decide) 896 768 rfl rfl slices_S1024x2560_o896_768_S128x128 x i j (by omega) (by omega))
  · exact congrArg (· * Ideal.ofBits .f32 0x3DB504F3#32) (turn_tile m c t (k0_off1 (grid0.coords t) 7#32) (k0_off1_inb _ 7) 7 (by decide) (off_at t 7) 512 (by decide) 1 (by decide) 896 640 rfl rfl slices_S1024x2560_o896_640_S128x128 x i j (by omega) (by omega))
  · exact congrArg (· * Ideal.ofBits .f32 0x3DB504F3#32) (turn_tile m c t (k0_off1 (grid0.coords t) 7#32) (k0_off1_inb _ 7) 7 (by decide) (off_at t 7) 512 (by decide) 0 (by decide) 896 512 rfl rfl slices_S1024x2560_o896_512_S128x128 x i j (by omega) (by omega))
  · exact congrArg (· * Ideal.ofBits .f32 0x3DB504F3#32) (turn_tile m c t (k0_off1 (grid0.coords t) 6#32) (k0_off1_inb _ 6) 6 (by decide) (off_at t 6) 512 (by decide) 3 (by decide) 768 896 rfl rfl slices_S1024x2560_o768_896_S128x128 x i j (by omega) (by omega))
  · exact congrArg (· * Ideal.ofBits .f32 0x3DB504F3#32) (turn_tile m c t (k0_off1 (grid0.coords t) 6#32) (k0_off1_inb _ 6) 6 (by decide) (off_at t 6) 512 (by decide) 2 (by decide) 768 768 rfl rfl slices_S1024x2560_o768_768_S128x128 x i j (by omega) (by omega))
  · exact congrArg (· * Ideal.ofBits .f32 0x3DB504F3#32) (turn_tile m c t (k0_off1 (grid0.coords t) 6#32) (k0_off1_inb _ 6) 6 (by decide) (off_at t 6) 512 (by decide) 1 (by decide) 768 640 rfl rfl slices_S1024x2560_o768_640_S128x128 x i j (by omega) (by omega))
  · exact congrArg (· * Ideal.ofBits .f32 0x3DB504F3#32) (turn_tile m c t (k0_off1 (grid0.coords t) 6#32) (k0_off1_inb _ 6) 6 (by decide) (off_at t 6) 512 (by decide) 0 (by decide) 768 512 rfl rfl slices_S1024x2560_o768_512_S128x128 x i j (by omega) (by omega))
  · exact congrArg (· * Ideal.ofBits .f32 0x3DB504F3#32) (turn_tile m c t (k0_off1 (grid0.coords t) 5#32) (k0_off1_inb _ 5) 5 (by decide) (off_at t 5) 512 (by decide) 3 (by decide) 640 896 rfl rfl slices_S1024x2560_o640_896_S128x128 x i j (by omega) (by omega))
  · exact congrArg (· * Ideal.ofBits .f32 0x3DB504F3#32) (turn_tile m c t (k0_off1 (grid0.coords t) 5#32) (k0_off1_inb _ 5) 5 (by decide) (off_at t 5) 512 (by decide) 2 (by decide) 640 768 rfl rfl slices_S1024x2560_o640_768_S128x128 x i j (by omega) (by omega))
  · exact congrArg (· * Ideal.ofBits .f32 0x3DB504F3#32) (turn_tile m c t (k0_off1 (grid0.coords t) 5#32) (k0_off1_inb _ 5) 5 (by decide) (off_at t 5) 512 (by decide) 1 (by decide) 640 640 rfl rfl slices_S1024x2560_o640_640_S128x128 x i j (by omega) (by omega))
  · exact congrArg (· * Ideal.ofBits .f32 0x3DB504F3#32) (turn_tile m c t (k0_off1 (grid0.coords t) 5#32) (k0_off1_inb _ 5) 5 (by decide) (off_at t 5) 512 (by decide) 0 (by decide) 640 512 rfl rfl slices_S1024x2560_o640_512_S128x128 x i j (by omega) (by omega))
  · exact congrArg (· * Ideal.ofBits .f32 0x3DB504F3#32) (turn_tile m c t (k0_off1 (grid0.coords t) 4#32) (k0_off1_inb _ 4) 4 (by decide) (off_at t 4) 512 (by decide) 3 (by decide) 512 896 rfl rfl slices_S1024x2560_o512_896_S128x128 x i j (by omega) (by omega))
  · exact congrArg (· * Ideal.ofBits .f32 0x3DB504F3#32) (turn_tile m c t (k0_off1 (grid0.coords t) 4#32) (k0_off1_inb _ 4) 4 (by decide) (off_at t 4) 512 (by decide) 2 (by decide) 512 768 rfl rfl slices_S1024x2560_o512_768_S128x128 x i j (by omega) (by omega))
  · exact congrArg (· * Ideal.ofBits .f32 0x3DB504F3#32) (turn_tile m c t (k0_off1 (grid0.coords t) 4#32) (k0_off1_inb _ 4) 4 (by decide) (off_at t 4) 512 (by decide) 1 (by decide) 512 640 rfl rfl slices_S1024x2560_o512_640_S128x128 x i j (by omega) (by omega))
  · exact congrArg (· * Ideal.ofBits .f32 0x3DB504F3#32) (turn_tile m c t (k0_off1 (grid0.coords t) 4#32) (k0_off1_inb _ 4) 4 (by decide) (off_at t 4) 512 (by decide) 0 (by decide) 512 512 rfl rfl slices_S1024x2560_o512_512_S128x128 x i j (by omega) (by omega))
  · exact congrArg (· * Ideal.ofBits .f32 0x3DB504F3#32) (turn_tile m c t (k0_off1 (grid0.coords t) 3#32) (k0_off1_inb _ 3) 3 (by decide) (off_at t 3) 512 (by decide) 3 (by decide) 384 896 rfl rfl slices_S1024x2560_o384_896_S128x128 x i j (by omega) (by omega))
  · exact congrArg (· * Ideal.ofBits .f32 0x3DB504F3#32) (turn_tile m c t (k0_off1 (grid0.coords t) 3#32) (k0_off1_inb _ 3) 3 (by decide) (off_at t 3) 512 (by decide) 2 (by decide) 384 768 rfl rfl slices_S1024x2560_o384_768_S128x128 x i j (by omega) (by omega))
  · exact congrArg (· * Ideal.ofBits .f32 0x3DB504F3#32) (turn_tile m c t (k0_off1 (grid0.coords t) 3#32) (k0_off1_inb _ 3) 3 (by decide) (off_at t 3) 512 (by decide) 1 (by decide) 384 640 rfl rfl slices_S1024x2560_o384_640_S128x128 x i j (by omega) (by omega))
  · exact congrArg (· * Ideal.ofBits .f32 0x3DB504F3#32) (turn_tile m c t (k0_off1 (grid0.coords t) 3#32) (k0_off1_inb _ 3) 3 (by decide) (off_at t 3) 512 (by decide) 0 (by decide) 384 512 rfl rfl slices_S1024x2560_o384_512_S128x128 x i j (by omega) (by omega))
  · exact congrArg (· * Ideal.ofBits .f32 0x3DB504F3#32) (turn_tile m c t (k0_off1 (grid0.coords t) 2#32) (k0_off1_inb _ 2) 2 (by decide) (off_at t 2) 512 (by decide) 3 (by decide) 256 896 rfl rfl slices_S1024x2560_o256_896_S128x128 x i j (by omega) (by omega))
  · exact congrArg (· * Ideal.ofBits .f32 0x3DB504F3#32) (turn_tile m c t (k0_off1 (grid0.coords t) 2#32) (k0_off1_inb _ 2) 2 (by decide) (off_at t 2) 512 (by decide) 2 (by decide) 256 768 rfl rfl slices_S1024x2560_o256_768_S128x128 x i j (by omega) (by omega))
  · exact congrArg (· * Ideal.ofBits .f32 0x3DB504F3#32) (turn_tile m c t (k0_off1 (grid0.coords t) 2#32) (k0_off1_inb _ 2) 2 (by decide) (off_at t 2) 512 (by decide) 1 (by decide) 256 640 rfl rfl slices_S1024x2560_o256_640_S128x128 x i j (by omega) (by omega))
  · exact congrArg (· * Ideal.ofBits .f32 0x3DB504F3#32) (turn_tile m c t (k0_off1 (grid0.coords t) 2#32) (k0_off1_inb _ 2) 2 (by decide) (off_at t 2) 512 (by decide) 0 (by decide) 256 512 rfl rfl slices_S1024x2560_o256_512_S128x128 x i j (by omega) (by omega))
  · exact congrArg (· * Ideal.ofBits .f32 0x3DB504F3#32) (turn_tile m c t (k0_off1 (grid0.coords t) 1#32) (k0_off1_inb _ 1) 1 (by decide) (off_at t 1) 512 (by decide) 3 (by decide) 128 896 rfl rfl slices_S1024x2560_o128_896_S128x128 x i j (by omega) (by omega))
  · exact congrArg (· * Ideal.ofBits .f32 0x3DB504F3#32) (turn_tile m c t (k0_off1 (grid0.coords t) 1#32) (k0_off1_inb _ 1) 1 (by decide) (off_at t 1) 512 (by decide) 2 (by decide) 128 768 rfl rfl slices_S1024x2560_o128_768_S128x128 x i j (by omega) (by omega))
  · exact congrArg (· * Ideal.ofBits .f32 0x3DB504F3#32) (turn_tile m c t (k0_off1 (grid0.coords t) 1#32) (k0_off1_inb _ 1) 1 (by decide) (off_at t 1) 512 (by decide) 1 (by decide) 128 640 rfl rfl slices_S1024x2560_o128_640_S128x128 x i j (by omega) (by omega))
  · exact congrArg (· * Ideal.ofBits .f32 0x3DB504F3#32) (turn_tile m c t (k0_off1 (grid0.coords t) 1#32) (k0_off1_inb _ 1) 1 (by decide) (off_at t 1) 512 (by decide) 0 (by decide) 128 512 rfl rfl slices_S1024x2560_o128_512_S128x128 x i j (by omega) (by omega))
  · exact congrArg (· * Ideal.ofBits .f32 0x3DB504F3#32) (turn_tile m c t (k0_off1 (grid0.coords t) 0#32) (k0_off1_inb _ 0) 0 (by decide) (off_at t 0) 512 (by decide) 3 (by decide) 0 896 rfl rfl slices_S1024x2560_o0_896_S128x128 x i j (by omega) (by omega))
  · exact congrArg (· * Ideal.ofBits .f32 0x3DB504F3#32) (turn_tile m c t (k0_off1 (grid0.coords t) 0#32) (k0_off1_inb _ 0) 0 (by decide) (off_at t 0) 512 (by decide) 2 (by decide) 0 768 rfl rfl slices_S1024x2560_o0_768_S128x128 x i j (by omega) (by omega))
  · exact congrArg (· * Ideal.ofBits .f32 0x3DB504F3#32) (turn_tile m c t (k0_off1 (grid0.coords t) 0#32) (k0_off1_inb _ 0) 0 (by decide) (off_at t 0) 512 (by decide) 1 (by decide) 0 640 rfl rfl slices_S1024x2560_o0_640_S128x128 x i j (by omega) (by omega))
  · exact congrArg (· * Ideal.ofBits .f32 0x3DB504F3#32) (turn_tile m c t (k0_off1 (grid0.coords t) 0#32) (k0_off1_inb _ 0) 0 (by decide) (off_at t 0) 512 (by decide) 0 (by decide) 0 512 rfl rfl slices_S1024x2560_o0_512_S128x128 x i j (by omega) (by omega))

end Cert.Project
-- ==== Proof.Project.Finals.lean ====
module

public import proofs.«01_k».proof.Proof.Project.Tables
public import proofs.«01_k».proof.Proof.Project.Plain
public import proofs.«01_k».proof.Proof.Project.Queries
public import proofs.«01_k».proof.Proof.Project.Keys
public import proofs.«01_k».proof.Proof.Gen.Kernel8Ideal.Value

@[expose] public section

set_option maxRecDepth 16384
noncomputable section

/-! What the call leaves in its seven result arrays. -/

namespace Cert.Project

open Idealize.ShloMosaic Idealize.ShloMosaic.TcCoe Idealize.SL.Sem
open Cert.Kernel8Ideal Cert.Kernel8Ideal.Gen
open Idealize.ShloMosaic.Pipeline (Dat)

/-- A run of columns, and the tables by position and feature. -/
def PART (p : Fin 8192 → Fin 2560 → EReal) (o : ℕ) (ho : o + 512 ≤ 2560) (i : Fin 8192) (j : Fin 512) : EReal := p i ⟨o + j.val, by omega⟩
def cosE (i : Fin 8192) (l : Fin 128) : EReal := COS i.val l.val
def sinE (i : Fin 8192) (l : Fin 128) : EReal := SIN i.val l.val

variable (m : (ℓ : Loc nD τ sig) → Buf (Elt Ideal) ℓ) (c : Dev nD)

/-- The turned queries, -/
theorem final6 : (dats m 0 c).arrAt 6 cfg0.N = (fun i => TURN (PM m c) 0 (by decide) (i 0) (i 1) : FVec Ideal S8192x512 .bf16) := by
  refine (dats m 0 c).arrAt_eq_of_covers 6 _ (by decide +kernel) fun t _ y => ?_
  blk_simp
  rw [after0_6]
  refine point6 m c t y _ _ ?_ ?_
  all_goals (blk_simp [blocks_at t] <;> try omega)

/-- the turned keys, scaled, -/
theorem final7 : (dats m 0 c).arrAt 7 cfg0.N = (fun i => TURN (PM m c) 512 (by decide) (i 0) (i 1) * Ideal.ofBits .f32 0x3DB504F3#32 : FVec Ideal S8192x512 .bf16) := by
  refine (dats m 0 c).arrAt_eq_of_covers 7 _ (by decide +kernel) fun t _ y => ?_
  blk_simp
  rw [after0_7]
  refine point7 m c t y _ _ ?_ ?_
  all_goals (blk_simp [blocks_at t] <;> try omega)

/-- the values, -/
theorem final8 : (dats m 0 c).arrAt 8 cfg0.N = (fun i => PART (PM m c) 1024 (by decide) (i 0) (i 1) : FVec Ideal S8192x512 .bf16) := by
  refine (dats m 0 c).arrAt_eq_of_covers 8 _ (by decide +kernel) fun t _ y => ?_
  blk_simp
  rw [after0_8]
  refine point8 m c t y _ _ ?_ ?_
  all_goals (blk_simp [blocks_at t] <;> try omega)

/-- the gate, -/
theorem final9 : (dats m 0 c).arrAt 9 cfg0.N = (fun i => PART (PM m c) 1536 (by decide) (i 0) (i 1) : FVec Ideal S8192x512 .f32) := by
  refine (dats m 0 c).arrAt_eq_of_covers 9 _ (by decide +kernel) fun t _ y => ?_
  blk_simp
  rw [after0_9]
  refine point9 m c t y _ _ ?_ ?_
  all_goals (blk_simp [blocks_at t] <;> try omega)

/-- the unit's inputs, -/
theorem final10 : (dats m 0 c).arrAt 10 cfg0.N = (fun i => PART (PM m c) 2048 (by decide) (i 0) (i 1) : FVec Ideal S8192x512 .f32) := by
  refine (dats m 0 c).arrAt_eq_of_covers 10 _ (by decide +kernel) fun t _ y => ?_
  blk_simp
  rw [after0_10]
  refine point10 m c t y _ _ ?_ ?_
  all_goals (blk_simp [blocks_at t] <;> try omega)

/-- the cosines, -/
theorem final11 : (dats m 0 c).arrAt 11 cfg0.N = (fun i => cosE (i 0) (i 1) : FVec Ideal S8192x128 .f32) := by
  refine (dats m 0 c).arrAt_eq_of_covers 11 _ (by decide +kernel) fun t _ y => ?_
  blk_simp
  rw [after0_11]
  refine point11 m c t y _ _ ?_ ?_
  all_goals (blk_simp [blocks_at t] <;> try omega)

/-- and the signed sines. -/
theorem final12 : (dats m 0 c).arrAt 12 cfg0.N = (fun i => sinE (i 0) (i 1) : FVec Ideal S8192x128 .f32) := by
  refine (dats m 0 c).arrAt_eq_of_covers 12 _ (by decide +kernel) fun t _ y => ?_
  blk_simp
  rw [after0_12]
  refine point12 m c t y _ _ ?_ ?_
  all_goals (blk_simp [blocks_at t] <;> try omega)

end Cert.Project
-- ==== Proof.Project.RefValue.lean ====
module

public import proofs.«01_k».proof.Proof.Inproj.RefValue
public import proofs.«01_k».proof.Proof.Project.Spec
public import proofs.«01_k».proof.Proof.Retention.Host
public import proofs.«01_k».proof.Proof.Gen.Reference8Ideal.Run

@[expose] public section

set_option maxRecDepth 16384
noncomputable section

/-! The reference's seven results, read to scalars: the product of the normed rows with the weight, its columns turned head by head in halves,
and the two tables. -/

namespace Cert.Project.Ref

open Idealize.ShloMosaic Idealize.ShloMosaic.TcCoe Idealize.SL.Sem
open Cert.Reference8Ideal Cert.Reference8Ideal.Gen
open Cert.Inproj (rr msT msT_at)
open Cert.Retention (cosR sinR cos_of sin_of)

/-- The normed rows, -/
def normR (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (msT x))))
    (broadcastInDim S8192x1024 ![0, 1] bcast_S1x1024_S8192x1024_0_1 (broadcastInDim S1x1024 ![1] bcast_S1024_S1x1024_1
      (shapeCast _ g shapeCasts_S1x1024_S1024)))

theorem normR_at (x : FVec Ideal S8192x1024 .f32) (g : FVec Ideal S1x1024 .f32) (i : Fin 8192) (k : Fin 1024) :
    normR x g (ix2 i k) = normed x g (ix2 i k) := by
  pointwise [normR, normed, rr]
  rw [msT_at]

/-- and their product with the weight. -/
def projR (x : FVec Ideal S8192x1024 .f32) (g : FVec Ideal S1x1024 .f32) (w : FVec Ideal S1x1024x2560 .f32) : FVec Ideal S8192x2560 .f32 :=
  Host.dotGeneral (φ₁ := .f32) (φ₂ := .f32) dot_S8192x1024_S1024x2560_S8192x2560_1_0_0_1_n_n none (normR x g) (shapeCast S1024x2560 w shapeCasts_S1x1024x2560_S1024x2560)

theorem projR_at (x : FVec Ideal S8192x1024 .f32) (g : FVec Ideal S1x1024 .f32) (w : FVec Ideal S1x1024x2560 .f32) (i : Fin 8192) (j : Fin 2560) :
    projR x g w (ix2 i j) = PROJ x g w i j := by
  pointwise [projR, PROJ]
  exact Finset.sum_congr rfl fun k _ => congrArg (· * _) (normR_at x g i k)

/-- The angles, -/
def angR : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

theorem cos_at (t : Fin 8192) (a : Fin 64) : (Host.cos angR : FVec Ideal S8192x64 .f32) (ix2 t a) = ((cosR t.val a.val : ℝ) : EReal) := by
  have ht := t.isLt; have ha := a.isLt
  pointwise [angR]
  exact cos_of t.val _ _ rfl (by omega) (by omega)

theorem sin_at (t : Fin 8192) (a : Fin 64) : (Host.sin angR : FVec Ideal S8192x64 .f32) (ix2 t a) = ((sinR t.val a.val : ℝ) : EReal) := by
  have ht := t.isLt; have ha := a.isLt
  pointwise [angR]
  exact sin_of t.val _ _ rfl (by omega) (by omega)

/-- and the two tables. -/
def cosT : FVec Ideal S8192x128 .f32 :=
  concatenate S8192x128 1 [⟨S8192x64, Host.cos angR⟩, ⟨S8192x64, Host.cos angR⟩] concatenates_S8192x64_S8192x64_S8192x128_d1
def sinT : FVec Ideal S8192x128 .f32 :=
  concatenate S8192x128 1 [⟨S8192x64, Host.negf (Host.sin angR)⟩, ⟨S8192x64, Host.sin angR⟩] concatenates_S8192x64_S8192x64_S8192x128_d1

theorem cosT_at (t : Fin 8192) (b : Fin 128) : cosT (ix2 t b) = COS t.val b.val := by
  have hb := b.isLt
  unfold COS
  by_cases hh : b.val < 64
  · rw [show b.val % 64 = (⟨b.val, hh⟩ : Fin 64).val from Nat.mod_eq_of_lt hh, ← cos_at]
    pointwise [cosT]
    rw [dif_pos hh]
  · rw [show b.val % 64 = (⟨b.val - 64, by omega⟩ : Fin 64).val by show b.val % 64 = b.val - 64; omega, ← cos_at]
    pointwise [cosT]
    rw [dif_neg hh]

theorem sinT_at (t : Fin 8192) (b : Fin 128) : sinT (ix2 t b) = SIN t.val b.val := by
  have hb := b.isLt
  unfold SIN sinS
  by_cases hh : b.val < 64
  · rw [if_pos hh, show b.val % 64 = (⟨b.val, hh⟩ : Fin 64).val from Nat.mod_eq_of_lt hh, EReal.coe_neg, ← sin_at]
    pointwise [sinT]
    rw [dif_pos hh]
  · rw [if_neg hh, show b.val % 64 = (⟨b.val - 64, by omega⟩ : Fin 64).val by show b.val % 64 = b.val - 64; omega, ← sin_at]
    pointwise [sinT]
    rw [dif_neg hh]

section turns
variable (p : FVec Ideal S8192x512 .f32)

/-- The columns head by head, -/
def headsR : FVec Ideal S8192x4x128 .f32 := shapeCast S8192x4x128 p shapeCasts_S8192x512_S8192x4x128

/-- the tables along the heads, -/
def wide (a : FVec Ideal S8192x64 .f32) : FVec Ideal S8192x4x64 .f32 :=
  broadcastInDim S8192x4x64 ![0, 1, 2] bcast_S8192x1x64_S8192x4x64_0_1_2 (broadcastInDim S8192x1x64 ![0, 2] bcast_S8192x64_S8192x1x64_0_2 a)

/-- the two halves of a turned head, -/
def loR (c s : FVec Ideal S8192x64 .f32) : FVec Ideal S8192x4x64 .f32 :=
  subf (mulf (extractStridedSlice S8192x4x64 ![0, 0, 0] (headsR p) slices_S8192x4x128_S8192x4x64_0_0_0) (wide c))
    (mulf (extractStridedSlice S8192x4x64 ![0, 0, 64] (headsR p) slices_S8192x4x128_S8192x4x64_0_0_64) (wide s))
def hiR (c s : FVec Ideal S8192x64 .f32) : FVec Ideal S8192x4x64 .f32 :=
  addf (mulf (extractStridedSlice S8192x4x64 ![0, 0, 0] (headsR p) slices_S8192x4x128_S8192x4x64_0_0_0) (wide s))
    (mulf (extractStridedSlice S8192x4x64 ![0, 0, 64] (headsR p) slices_S8192x4x128_S8192x4x64_0_0_64) (wide c))

/-- and these side by side. -/
def turnR (c s : FVec Ideal S8192x64 .f32) : FVec Ideal S8192x4x128 .f32 :=
  concatenate S8192x4x128 2 [⟨S8192x4x64, loR p c s⟩, ⟨S8192x4x64, hiR p c s⟩] concatenates_S8192x4x64_S8192x4x64_S8192x4x128_d2

theorem headsR_at (i : Fin 8192) (h : Fin 4) (a : Fin 128) (j : Fin 512) (hj : j.val = 128 * h.val + a.val) : headsR p (ix3 i h a) = p (ix2 i j) := by
  pointwise [headsR]
  exact congrArg (fun k => p (ix2 i k)) (Fin.ext (by rw [hj]; show h.val * 128 + a.val = _; omega))

theorem wide_at (a : FVec Ideal S8192x64 .f32) (i : Fin 8192) (h : Fin 4) (b : Fin 64) : wide a (ix3 i h b) = a (ix2 i b) := by
  pointwise [wide]

theorem loR_at (c s : FVec Ideal S8192x64 .f32) (i : Fin 8192) (h : Fin 4) (b : Fin 64) (j j' : Fin 512) (hj : j.val = 128 * h.val + b.val)
    (hj' : j'.val = 128 * h.val + (b.val + 64)) : loR p c s (ix3 i h b) = p (ix2 i j) * c (ix2 i b) - p (ix2 i j') * s (ix2 i b) := by
  have hb := b.isLt
  rw [← headsR_at p i h ⟨b.val, by omega⟩ j hj, ← headsR_at p i h ⟨64 + b.val, by omega⟩ j' (by show j'.val = _ + (64 + b.val); omega), ← wide_at c i h b, ← wide_at s i h b]
  pointwise [loR]

theorem hiR_at (c s : FVec Ideal S8192x64 .f32) (i : Fin 8192) (h : Fin 4) (b : Fin 64) (j j' : Fin 512) (hj : j.val = 128 * h.val + b.val)
    (hj' : j'.val = 128 * h.val + (b.val + 64)) : hiR p c s (ix3 i h b) = p (ix2 i j) * s (ix2 i b) + p (ix2 i j') * c (ix2 i b) := by
  have hb := b.isLt
  rw [← headsR_at p i h ⟨b.val, by omega⟩ j hj, ← headsR_at p i h ⟨64 + b.val, by omega⟩ j' (by show j'.val = _ + (64 + b.val); omega), ← wide_at c i h b, ← wide_at s i h b]
  pointwise [hiR]

/-- A turned entry by its partner in the other half. -/
theorem turnR_at (i : Fin 8192) (j : Fin 512) (h : Fin 4) (a : Fin 128) (hj : j.val = 128 * h.val + a.val) :
    turnR p (Host.cos angR) (Host.sin angR) (ix3 i h a)
      = p (ix2 i j) * COS i.val (j.val % 128) + p (ix2 i ⟨mate j.val, mate_lt _ j.isLt⟩) * SIN i.val (j.val % 128) := by
  have ha := a.isLt
  have hm := mate_lt _ j.isLt
  have em : j.val % 128 = a.val := by omega
  rw [em]
  unfold COS SIN sinS
  by_cases hh : a.val < 64
  · have e : turnR p (Host.cos angR) (Host.sin angR) (ix3 i h a) = loR p (Host.cos angR) (Host.sin angR) (ix3 i h ⟨a.val, hh⟩) := by
      pointwise [turnR]
      rw [dif_pos hh]
    rw [e, loR_at p _ _ i h _ j ⟨mate j.val, hm⟩ hj (by show mate j.val = _ + (a.val + 64); unfold mate; omega), cos_at, sin_at, if_pos hh,
      Nat.mod_eq_of_lt hh, EReal.coe_neg, mul_neg, ← sub_eq_add_neg]
  · have e : turnR p (Host.cos angR) (Host.sin angR) (ix3 i h a) = hiR p (Host.cos angR) (Host.sin angR) (ix3 i h ⟨a.val - 64, by omega⟩) := by
      pointwise [turnR]
      rw [dif_neg hh]
    rw [e, hiR_at p _ _ i h _ ⟨mate j.val, hm⟩ j (by show mate j.val = _ + (a.val - 64); unfold mate; omega) (by show j.val = _ + (a.val - 64 + 64); omega),
      cos_at, sin_at, if_neg hh, show a.val % 64 = a.val - 64 by omega, add_comm]

end turns

/-- The queries and the keys. -/
def qR (p : FVec Ideal S8192x2560 .f32) : FVec Ideal S8192x512 .bf16 :=
  truncf .bf16 (shapeCast S8192x512 (turnR (extractStridedSlice S8192x512 ![0, 0] p slices_S8192x2560_S8192x512_0_0) (Host.cos angR) (Host.sin angR))
    shapeCasts_S8192x4x128_S8192x512) bitsLt_bf16_f32
def kR (p : FVec Ideal S8192x2560 .f32) : FVec Ideal S8192x512 .bf16 :=
  truncf .bf16 (shapeCast S8192x512 (mulf (turnR (extractStridedSlice S8192x512 ![0, 512] p slices_S8192x2560_S8192x512_0_512) (Host.cos angR) (Host.sin angR))
    (broadcastInDim S8192x4x128 ![] bcast_S_S8192x4x128 (constant S_ .f32 0x3DB504F3#32))) shapeCasts_S8192x4x128_S8192x512) bitsLt_bf16_f32

/-- A run of the product's columns. -/
theorem part_at (p : FVec Ideal S8192x2560 .f32) (o : ℕ) (ho : o + 512 ≤ 2560) (s : S8192x2560.Slices ![0, o] S8192x512) (i : Fin 8192) (j : Fin 512) :
    extractStridedSlice S8192x512 ![0, o] p s (ix2 i j) = p (ix2 i ⟨o + j.val, by omega⟩) := by
  refine congrArg p ?_
  funext d; fin_cases d
  · exact Fin.ext (by show 0 + i.val = i.val; omega)
  · rfl

theorem qR_at (p : FVec Ideal S8192x2560 .f32) (i : Fin 8192) (j : Fin 512) : qR p (ix2 i j) = TURN (fun i j => p (ix2 i j)) 0 (by decide) i j := by
  have hj := j.isLt
  refine Eq.trans ?_ ((turnR_at (extractStridedSlice S8192x512 ![0, 0] p slices_S8192x2560_S8192x512_0_0) i j ⟨j.val / 128, by omega⟩ ⟨j.val % 128, by omega⟩
    (by show j.val = 128 * (j.val / 128) + j.val % 128; omega)).trans ?_)
  · pointwise [qR]
  · rw [part_at _ 0 (by decide), part_at _ 0 (by decide)]
    rfl

theorem kR_at (p : FVec Ideal S8192x2560 .f32) (i : Fin 8192) (j : Fin 512) :
    kR p (ix2 i j) = TURN (fun i j => p (ix2 i j)) 512 (by decide) i j * Ideal.ofBits .f32 0x3DB504F3#32 := by
  have hj := j.isLt
  refine Eq.trans (b := (turnR (extractStridedSlice S8192x512 ![0, 512] p slices_S8192x2560_S8192x512_0_512) (Host.cos angR) (Host.sin angR)
      (ix3 i ⟨j.val / 128, by omega⟩ ⟨j.val % 128, by omega⟩) : EReal) * Ideal.ofBits .f32 0x3DB504F3#32) ?_ (congrArg (· * Ideal.ofBits .f32 0x3DB504F3#32)
    ((turnR_at (extractStridedSlice S8192x512 ![0, 512] p slices_S8192x2560_S8192x512_0_512) i j ⟨j.val / 128, by omega⟩ ⟨j.val % 128, by omega⟩ (by show j.val = 128 * (j.val / 128) + j.val % 128; omega)).trans ?_))
  · pointwise [kR]
  · rw [part_at _ 512 (by decide), part_at _ 512 (by decide)]
    rfl

variable (m : (ℓ : Loc nD τ sig) → Buf (Elt Ideal) ℓ) (c : Dev nD)

/-- The product, of the reference's arguments. -/
abbrev pR : FVec Ideal S8192x2560 .f32 :=
  projR (m ((c.tc : Thread nD τ).loc main_arg0)) (m ((c.tc : Thread nD τ).loc main_arg1)) (m ((c.tc : Thread nD τ).loc main_arg2))

theorem res_q : Value.res_main_v104 m c = qR (pR m c) := rfl
theorem res_k : Value.res_main_v105 m c = kR (pR m c) := rfl

/-- What a run of the reference leaves: the seven results by their stages, and the arguments as they were. -/
theorem stages (ρ : Dev nD → PrngReg) :
    θ_run defs (onTc (τ := τ) (main (F := Ideal))) ⟨m, fun _ => 0, ρ⟩ fun r => ∀ c : Dev nD,
      r.2.mem ((c.tc : Thread nD τ).loc main_v104) = qR (projR (m ((c.tc : Thread nD τ).loc main_arg0)) (m ((c.tc : Thread nD τ).loc main_arg1)) (m ((c.tc : Thread nD τ).loc main_arg2)))
      ∧ r.2.mem ((c.tc : Thread nD τ).loc main_v105) = kR (projR (m ((c.tc : Thread nD τ).loc main_arg0)) (m ((c.tc : Thread nD τ).loc main_arg1)) (m ((c.tc : Thread nD τ).loc main_arg2)))
      ∧ r.2.mem ((c.tc : Thread nD τ).loc main_v106) = truncf .bf16 (extractStridedSlice S8192x512 ![0, 1024] (projR (m ((c.tc : Thread nD τ).loc main_arg0)) (m ((c.tc : Thread nD τ).loc main_arg1)) (m ((c.tc : Thread nD τ).loc main_arg2))) slices_S8192x2560_S8192x512_0_1024) bitsLt_bf16_f32
      ∧ r.2.mem ((c.tc : Thread nD τ).loc main_v19) = extractStridedSlice S8192x512 ![0, 1536] (projR (m ((c.tc : Thread nD τ).loc main_arg0)) (m ((c.tc : Thread nD τ).loc main_arg1)) (m ((c.tc : Thread nD τ).loc main_arg2))) slices_S8192x2560_S8192x512_0_1536
      ∧ r.2.mem ((c.tc : Thread nD τ).loc main_v20) = extractStridedSlice S8192x512 ![0, 2048] (projR (m ((c.tc : Thread nD τ).loc main_arg0)) (m ((c.tc : Thread nD τ).loc main_arg1)) (m ((c.tc : Thread nD τ).loc main_arg2))) slices_S8192x2560_S8192x512_0_2048
      ∧ r.2.mem ((c.tc : Thread nD τ).loc main_v99) = cosT
      ∧ r.2.mem ((c.tc : Thread nD τ).loc main_v103) = sinT
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_q m c), (h c).2.1.trans (res_k m c), (h c).2.2⟩) (Value.run m ρ)

end Cert.Project.Ref
-- ==== Proof.Project.Claim.lean ====
module

public import proofs.«01_k».proof.Defs
public import proofs.«01_k».proof.Proof.Gen.Kernel8.Frame
public import proofs.«01_k».proof.Proof.Project.Finals
public import proofs.«01_k».proof.Proof.Project.RefValue
public import Idealize.ShloMosaic.Lib.Claim

@[expose] public section

set_option maxRecDepth 16384
noncomputable section

/-! The claims about the input projection of the forward pass: the frames, and the equality of all seven results for all arguments. -/

namespace Cert.Project

open Idealize.ShloMosaic Idealize.ShloMosaic.TcCoe Idealize.SL.Sem

theorem frame : Cert.quiescent_Kernel8 := fun m ρ _ => Cert.Kernel8.Gen.frame m ρ

theorem frameIdeal : Cert.quiescent_Kernel8Ideal := fun m ρ _ => Cert.Kernel8Ideal.Gen.frame m ρ

theorem frameReference : Cert.quiescent_Reference8Ideal := fun m ρ _ =>
  (θ_run Cert.Reference8Ideal.defs _ _).mono (fun r h => ⟨fun c => (h c).2.2.2.2.2.2.2, sem_eq_zero_of_no_sems (by decide) r.2⟩)
    (Cert.Reference8Ideal.Value.run m ρ)

open Cert.Kernel8Ideal Cert.Kernel8Ideal.Gen
open Cert.Reference8Ideal (S8192x2560)

variable (m : (ℓ : Loc nD τ sig) → Buf (Elt Ideal) ℓ) (c : Dev nD)

/-- The product, of the kernel's arguments. -/
abbrev pK : FVec Ideal S8192x2560 .f32 := Ref.projR (X m c) (G m c) (W m c)

theorem pK_eq : (fun i j => pK m c (ix2 i j)) = PM m c := funext fun i => funext fun j => Ref.projR_at _ _ _ i j

theorem queries : Ref.qR (pK m c) = (dats m 0 c).arrAt 6 (cfgs 0).N := by
  refine Eq.trans ?_ (final6 m c).symm
  funext y; idx_vars y
  exact (Ref.qR_at _ _ _).trans (by rw [pK_eq])

theorem keys : Ref.kR (pK m c) = (dats m 0 c).arrAt 7 (cfgs 0).N := by
  refine Eq.trans ?_ (final7 m c).symm
  funext y; idx_vars y
  exact (Ref.kR_at _ _ _).trans (by rw [pK_eq])

/-- A run of the product's columns. -/
theorem part (o : ℕ) (ho : o + 512 ≤ 2560) (s : S8192x2560.Slices ![0, o] S8192x512) :
    extractStridedSlice S8192x512 ![0, o] (pK m c) s = (fun i => PART (PM m c) o ho (i 0) (i 1) : FVec Ideal S8192x512 .f32) := by
  funext y; idx_vars y
  exact (Ref.part_at _ o ho s _ _).trans (Ref.projR_at _ _ _ _ _)

theorem values (s : S8192x2560.Slices ![0, 1024] S8192x512) :
    truncf .bf16 (extractStridedSlice S8192x512 ![0, 1024] (pK m c) s) bitsLt_bf16_f32 = (dats m 0 c).arrAt 8 (cfgs 0).N :=
  (part m c 1024 (by decide) s).trans (final8 m c).symm

theorem gates (s : S8192x2560.Slices ![0, 1536] S8192x512) :
    extractStridedSlice S8192x512 ![0, 1536] (pK m c) s = (dats m 0 c).arrAt 9 (cfgs 0).N :=
  (part m c 1536 (by decide) s).trans (final9 m c).symm

theorem inputs (s : S8192x2560.Slices ![0, 2048] S8192x512) :
    extractStridedSlice S8192x512 ![0, 2048] (pK m c) s = (dats m 0 c).arrAt 10 (cfgs 0).N :=
  (part m c 2048 (by decide) s).trans (final10 m c).symm

theorem cosines : Ref.cosT = (dats m 0 c).arrAt 11 (cfgs 0).N := by
  refine Eq.trans ?_ (final11 m c).symm
  funext y; idx_vars y
  exact Ref.cosT_at _ _

theorem sines : Ref.sinT = (dats m 0 c).arrAt 12 (cfgs 0).N := by
  refine Eq.trans ?_ (final12 m c).symm
  funext y; idx_vars y
  exact Ref.sinT_at _ _

theorem value : Cert.algebraic_Kernel8Ideal_Reference8Ideal := by
  pair_intro
  · run_from Cert.Kernel8Ideal.Value.run_blocks m g
  · run_from Ref.stages m' g'
    · exact queries m c
    · exact keys m c
    · exact values m c _
    · exact gates m c _
    · exact inputs m c _
    · exact cosines m c
    · exact sines m c

end Cert.Project
-- ==== Proof.Prenorm.Body.lean ====
module

public import proofs.«01_k».proof.Proof.Project.Spec
public import proofs.«01_k».proof.Proof.Gen.Kernel9Ideal.Value

@[expose] public section

set_option maxRecDepth 16384
noncomputable section

/-! What the call for the normed rows leaves in its result array. -/

namespace Cert.Prenorm

open Idealize.ShloMosaic Idealize.ShloMosaic.TcCoe Idealize.SL.Sem
open Cert.Kernel9Ideal Cert.Kernel9Ideal.Gen
open Idealize.ShloMosaic.Pipeline (Dat)
open Cert.Inproj (rr ms)
open Cert.Project (normed)

variable (m : (ℓ : Loc nD τ sig) → Buf (Elt Ideal) ℓ) (c : Dev nD)

abbrev X : FVec Ideal S8192x1024 .f32 := m ((c : Thread nD τ).loc main_arg0)
abbrev G : FVec Ideal S1x1024 .f32 := m ((c : Thread nD τ).loc main_arg1)

/-- Which block each window stages at a grid point. -/
theorem blocks_at : ∀ t : Fin cfg0.N, win0_0.index t = ![t.val, 0] ∧ win0_1.index t = ![0, 0] ∧ win0_2.index t = ![t.val, 0] :=
  (by decide +kernel : ∀ t : Fin grid0.N, _)

variable (t : Fin cfg0.N)

theorem block0 (r k : Fin 1024) (i : Fin 8192) (hi : i.val = 1024 * t.val + r.val) :
    (iblk m c 0 t : FVec Ideal S1024x1024 .f32) (ix2 r k) = X m c (ix2 i k) := by
  blk_point [iblk, V, blocks_at t]

theorem block1 (k : Fin 1024) : (iblk m c 1 t : FVec Ideal S1x1024 .f32) (ix2 0 k) = G m c (ix2 0 k) := by
  blk_point [iblk, V, blocks_at t]

/-- A block of rows, normed. -/
theorem pay_at (x : FVec Ideal S1024x1024 .f32) (g : FVec Ideal S1x1024 .f32) (r k : Fin 1024) :
    (k0_pay1 x g : FVec Ideal S1024x1024 .bf16) (ix2 r k) = x (ix2 r k) * Ideal.rsqrt (Ideal.div (∑ k : Fin 1024, x (ix2 r k) * x (ix2 r k))
      (Ideal.ofBits .f32 0x44800000#32) + Ideal.ofBits .f32 0x358637BD#32) * g (ix2 0 k) := by
  pointwise [k0_pay1]

theorem point (y : S1024x1024.Idx) (i : Fin 8192) (j : Fin 1024) (hi : i.val = 1024 * t.val + (y 0 : ℕ)) (hj : j.val = (y 1 : ℕ)) :
    out0_2 (iblk m c 0 t) (iblk m c 1 t) y = normed (X m c) (G m c) (ix2 i j) := by
  frame_out
  idx_vars y
  obtain rfl : j = y1 := Fin.ext hj
  refine (pay_at _ _ _ _).trans ?_
  rw [block0 m c t y0 j i hi, block1]
  simp only [fun k => block0 m c t y0 k i hi]
  rfl

/-- The normed rows. -/
theorem final : (dats m 0 c).arrAt 2 cfg0.N = (fun i => normed (X m c) (G m c) (ix2 (i 0) (i 1)) : FVec Ideal S8192x1024 .bf16) := by
  refine (dats m 0 c).arrAt_eq_of_covers 2 _ (by decide +kernel) fun t _ y => ?_
  blk_simp
  rw [after0_2]
  refine point m c t y _ _ ?_ ?_
  all_goals (blk_simp [blocks_at t] <;> try omega)

end Cert.Prenorm
-- ==== Proof.Prenorm.Claim.lean ====
module

public import proofs.«01_k».proof.Defs
public import proofs.«01_k».proof.Proof.Gen.Kernel9.Frame
public import proofs.«01_k».proof.Proof.Gen.Reference9Ideal.Run
public import proofs.«01_k».proof.Proof.Prenorm.Body
public import proofs.«01_k».proof.Proof.Project.RefValue
public import Idealize.ShloMosaic.Lib.Claim

@[expose] public section

set_option maxRecDepth 16384
noncomputable section

/-! The claims about the norm at the input: the frames, and the equality of the result for all arguments. -/

namespace Cert.Prenorm

open Idealize.ShloMosaic Idealize.ShloMosaic.TcCoe Idealize.SL.Sem

theorem frame : Cert.quiescent_Kernel9 := fun m ρ _ => Cert.Kernel9.Gen.frame m ρ

theorem frameIdeal : Cert.quiescent_Kernel9Ideal := fun m ρ _ => Cert.Kernel9Ideal.Gen.frame m ρ

theorem frameReference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

open Cert.Kernel9Ideal Cert.Kernel9Ideal.Gen

theorem rows (m : (ℓ : Loc nD τ sig) → Buf (Elt Ideal) ℓ) (c : Dev nD) :
    truncf .bf16 (Cert.Project.Ref.normR (X m c) (G m c)) bitsLt_bf16_f32 = (dats m 0 c).arrAt 2 (cfgs 0).N := by
  refine Eq.trans ?_ (final m c).symm
  funext y; idx_vars y
  exact Cert.Project.Ref.normR_at _ _ _ _

theorem value : Cert.algebraic_Kernel9Ideal_Reference9Ideal := by
  pair_intro
  · run_from Cert.Kernel9Ideal.Value.run_blocks m g
  · run_from Cert.Reference9Ideal.Value.run m' g'
    · exact rows m c

end Cert.Prenorm
-- ==== Proof.Gated.Body.lean ====
module

public import proofs.«01_k».proof.Proof.Gen.Kernel10Ideal.Frame.RunC
public import Idealize.ShloMosaic.Lib.Claim

@[expose] public section

set_option maxRecDepth 16384
noncomputable section

/-! The call for the gated unit and the output projection, grid point by grid point: what it leaves in its outputs' buffers, and that its body
runs from what one point leaves to what the next one takes. The two operands it copies in by itself stand in rings of three slots. -/

namespace Cert.Gated

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ### What a point leaves -/

/-- The stores into an output block, last first. -/
abbrev Stores (F : FTy → Type) [FloatOps F] (s : Shape) (φ : EltTy) := List (View.Piece (Elt F) s φ)

/-- The four output blocks of a point. -/
abbrev Blocks (F : FTy → Type) [FloatOps F] := Vec F S512x512 .bf16 × Vec F S512x512 .bf16 × Vec F S512x1024 .bf16 × Vec F S512x1024 .f32

/-- The blocks after the stores. -/
def stored (L4 L5 : Stores F S512x512 .bf16) (L6 : Stores F S512x1024 .bf16) (L7 : Stores F S512x1024 .f32) : Blocks F :=
  (VO0_4.read (Elt F) (VO0_4.writes (Elt F) VO0_4.junk L4), VO0_5.read (Elt F) (VO0_5.writes (Elt F) VO0_5.junk L5),
    VO0_6.read (Elt F) (VO0_6.writes (Elt F) VO0_6.junk L6), VO0_7.read (Elt F) (VO0_7.writes (Elt F) VO0_7.junk L7))

/-- Every element of a block is stored. -/
abbrev Full {s : Shape} {φ : EltTy} (L : Stores F s φ) : Prop := ∀ y, ∃ p ∈ L, y ∈ p.1.set

theorem lt16 {n : ℕ} (h : n < cfg0.N) : n < 16 := lt_of_lt_of_eq h (show cfg0.N = 16 from N_0)

/-- The body's run at the first point, -/
abbrev runFirst (t : Fin cfg0.N) (h0 : t.val % 16 = 0) (h1 : t.val < 14) :=
  kernelRun0_A c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 (Memref.isWhole_whole _) ((hcond0_0 t).mpr h0) ((hcond0_1 t).mpr h1)
    (iblk m c 0 t) (iblk m c 1 t) (iblk m c 2 t) (iblk m c 3 t) (V m c main_arg0) (V m c main_arg2)

/-- at a point that still starts a copy, -/
abbrev runNext (t : Fin cfg0.N) (h0 : ¬t.val % 16 = 0) (h1 : t.val < 14) :=
  kernelRun0_B c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 (Memref.isWhole_whole _) (fun h => h0 ((hcond0_0 t).mp h)) ((hcond0_1 t).mpr h1)
    (iblk m c 0 t) (iblk m c 1 t) (iblk m c 2 t) (iblk m c 3 t) (V m c main_arg0) (V m c main_arg2)

/-- and at one of the last two. -/
abbrev runLast (t : Fin cfg0.N) (h0 : ¬t.val % 16 = 0) (h1 : ¬t.val < 14) :=
  kernelRun0_C c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) scM0_0 (Memref.isWhole_whole _) (fun h => h0 ((hcond0_0 t).mp h)) (fun h => h1 ((hcond0_1 t).mp h))
    (iblk m c 0 t) (iblk m c 1 t) (iblk m c 2 t) (iblk m c 3 t) (V m c main_arg0) (V m c main_arg2)

def first (t : Fin cfg0.N) (h0 : t.val % 16 = 0) (h1 : t.val < 14) : Blocks F :=
  stored (runFirst m c t h0 h1).1 (runFirst m c t h0 h1).2.1 (runFirst m c t h0 h1).2.2.1 (runFirst m c t h0 h1).2.2.2.1

def next (t : Fin cfg0.N) (h0 : ¬t.val % 16 = 0) (h1 : t.val < 14) : Blocks F :=
  stored (runNext m c t h0 h1).1 (runNext m c t h0 h1).2.1 (runNext m c t h0 h1).2.2.1 (runNext m c t h0 h1).2.2.2.1

def last (t : Fin cfg0.N) (h0 : ¬t.val % 16 = 0) (h1 : ¬t.val < 14) : Blocks F :=
  stored (runLast m c t h0 h1).1 (runLast m c t h0 h1).2.1 (runLast m c t h0 h1).2.2.1 (runLast m c t h0 h1).2.2.2.1

theorem starts (t : Fin cfg0.N) (h0 : t.val % 16 = 0) : t.val < 14 := by have := lt16 t.isLt; omega

/-- The output blocks after a point. -/
def left (t : Fin cfg0.N) : Blocks F :=
  if h0 : t.val % 16 = 0 then first m c t h0 (starts t h0) else if h1 : t.val < 14 then next m c t h0 h1 else last m c t h0 h1

theorem left_first (t : Fin cfg0.N) (h0 : t.val % 16 = 0) (h1 : t.val < 14) : left m c t = first m c t h0 h1 := dif_pos h0

theorem left_next (t : Fin cfg0.N) (h0 : ¬t.val % 16 = 0) (h1 : t.val < 14) : left m c t = next m c t h0 h1 :=
  (dif_neg h0).trans (dif_pos h1)

theorem left_last (t : Fin cfg0.N) (h0 : ¬t.val % 16 = 0) (h1 : ¬t.val < 14) : left m c t = last m c t h0 h1 :=
  (dif_neg h0).trans (dif_neg h1)

/-! ### The data the pipeline's rule takes -/

/-- The rows put side by side, at anything. -/
abbrev side : sProp 𝕄 := iprop(∃ d, owns (c : Thread nD τ) scM0_0 fullShare d)

/-- Before point `k`: the buffer of the rows side by side, the generator's register, and the two rings. -/
def between (k : ℕ) : sProp 𝕄 := iprop(side c ∗ (∃ r, prngReg c r) ∗ ringAt0_0 c (V m c main_arg0) k ∗ ringAt0_1 c (V m c main_arg2) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (left m c t).1
    | ⟨5, _⟩ => (left m c t).2.1
    | ⟨6, _⟩ => (left m c t).2.2.1
    | ⟨7, _⟩ => (left m c t).2.2.2
  Φ t := between m c t.val
  q _ := fullShare
  owed _ := 0

theorem entry (w : Fin cfg0.W) : (dats m 0 c).A w = V m c (Pipeline.arrRef spec0 w) := by dsimp only [dats]

variable (t : Fin cfg0.N)

theorem before_0 (d) : (dats m 0 c).before 0 t d = iblk m c 0 t := before0_0_of m (dats m 0 c) (entry m c 0) (fun _ => by dsimp only [dats]) t d
theorem before_1 (d) : (dats m 0 c).before 1 t d = iblk m c 1 t := before0_1_of m (dats m 0 c) (entry m c 1) (fun _ => by dsimp only [dats]) t d
theorem before_2 (d) : (dats m 0 c).before 2 t d = iblk m c 2 t := before0_2_of m (dats m 0 c) (entry m c 2) (fun _ => by dsimp only [dats]) t d
theorem before_3 (d) : (dats m 0 c).before 3 t d = iblk m c 3 t := before0_3_of m (dats m 0 c) (entry m c 3) (fun _ => by dsimp only [dats]) t d

/-! ### One point -/

/-- The inputs' buffers at their blocks. -/
abbrev inputs (R : sProp 𝕄) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t) ∗ R)

/-- A buffer with some stores done. -/
abbrev after {s : Shape} {φ : EltTy} (M : Memref sig .tc .vmem s φ) (L : Stores F s φ) : sProp 𝕄 :=
  iprop(∃ f, M.view.loc (c : Thread nD τ) ↦[M.view.set]{fullShare} M.view.writes (Elt F) f L)

theorem after_owns {s : Shape} {φ : EltTy} (M : Memref sig .tc .vmem s φ) (v : View sig .tc .vmem s φ) (L : Stores F s φ) (h : Full L) :
    after c M L ⊢ owns (c : Thread nD τ) M fullShare (v.read (Elt F) (v.writes (Elt F) v.junk L)) := by
  iintro ⟨%f, H⟩
  unfold owns; iexists _; isplitr
  swap; · iexact H
  ipureintro; exact View.read_writes_of_cover _ _ _ _ _ h

/-- What a run of the body has to give: from the inputs, the outputs and the rings' six parts to the stored outputs and six other parts. -/
abbrev Runs (a b d e f g a' b' d' e' f' g' : sProp 𝕄) (L4 L5 : Stores F S512x512 .bf16) (L6 : Stores F S512x1024 .bf16) (L7 : Stores F S512x1024 .f32) : Prop :=
  ∀ (W : Waits sig Unit) (K : PUnit → sProp 𝕄),
    inputs m c t iprop((∃ d, owns (c : Thread nD τ) (ms0_4 t) fullShare d) ∗ (∃ d, owns (c : Thread nD τ) (ms0_5 t) fullShare d)
      ∗ (∃ d, owns (c : Thread nD τ) (ms0_6 t) fullShare d) ∗ (∃ d, owns (c : Thread nD τ) (ms0_7 t) fullShare d) ∗ side c
      ∗ a ∗ b ∗ d ∗ e ∗ f ∗ g ∗ owes (c : Thread nD τ) 0 W
      ∗ (inputs m c t iprop(after c (ms0_4 t) L4 ∗ after c (ms0_5 t) L5 ∗ after c (ms0_6 t) L6 ∗ after c (ms0_7 t) L7 ∗ side c
          ∗ a' ∗ b' ∗ d' ∗ e' ∗ f' ∗ g' ∗ (∃ W', owes (c : Thread nD τ) 0 W')) -∗ K ⟨⟩))
    ⊢ wp frame (wpE (defs₀ (F := F)) Variants.none c none) Set.univ (bodyAt0 t) K

/-- What the pipeline's rule gives the body at a point, -/
def given : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d))
    ∗ (∃ d, owns (c : Thread nD τ) (ms0_6 t) fullShare ((dats m 0 c).before 6 t d)) ∗ (∃ d, owns (c : Thread nD τ) (ms0_7 t) fullShare ((dats m 0 c).before 7 t d)))

/-- and what it asks back. -/
def asked : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t)
    ∗ owns (c : Thread nD τ) (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare ((dats m 0 c).after 5 t)
    ∗ owns (c : Thread nD τ) (ms0_6 t) fullShare ((dats m 0 c).after 6 t) ∗ owns (c : Thread nD τ) (ms0_7 t) fullShare ((dats m 0 c).after 7 t))

theorem asked_of {B : Blocks F} (h : left m c t = B) :
    iprop(between m c (t.val + 1) ∗ (∃ W', owes (c : Thread nD τ) 0 W')
      ∗ inputs m c t iprop(owns (c : Thread nD τ) (ms0_4 t) fullShare B.1 ∗ owns (c : Thread nD τ) (ms0_5 t) fullShare B.2.1
        ∗ owns (c : Thread nD τ) (ms0_6 t) fullShare B.2.2.1 ∗ owns (c : Thread nD τ) (ms0_7 t) fullShare B.2.2.2)) ⊢ asked m c t := by
  subst h
  unfold asked Dat.owesAt Pipeline.owesWithin
  rw [show (dats m 0 c).owed t.succ = 0 from rfl, show (dats m 0 c).Φ t.succ = between m c (t.val + 1) from rfl]
  dsimp only [dats]
  iintro ⟨HB, ⟨%W, HW⟩, H⟩
  isplitl [HB]; · iexact HB
  isplitl [HW]
  · iexists W; isplitr; · ipureintro; exact fun _ _ => Or.inl trivial
    iexact HW
  iexact H

set_option maxHeartbeats 4000000 in
/-- A point whose rings stand in six parts, from a run of the body over those parts. -/
theorem point {a b d e f g a' b' d' e' f' g' : sProp 𝕄} {L4 L5 : Stores F S512x512 .bf16} {L6 : Stores F S512x1024 .bf16} {L7 : Stores F S512x1024 .f32}
    (run : Runs m c t a b d e f g a' b' d' e' f' g' L4 L5 L6 L7)
    (hl : left m c t = stored L4 L5 L6 L7) (h4 : Full L4) (h5 : Full L5) (h6 : Full L6) (h7 : Full L7)
    (r0 : ringAt0_0 c (V m c main_arg0) t.val ⊢ iprop(a ∗ b ∗ d)) (r1 : ringAt0_1 c (V m c main_arg2) t.val ⊢ iprop(e ∗ f ∗ g))
    (s0 : iprop(a' ∗ b' ∗ d') ⊢ ringAt0_0 c (V m c main_arg0) (t.val + 1)) (s1 : iprop(e' ∗ f' ∗ g') ⊢ ringAt0_1 c (V m c main_arg2) (t.val + 1)) :
    given m c t ⊢ wp frame (wpE (defs₀ (F := F)) Variants.none c none) Set.univ (bodyAt0 t) (fun _ => asked m c t) := by
  unfold given Dat.owesAt Pipeline.owesWithin
  simp only [before_0, before_1, before_2, before_3]
  rw [show (dats m 0 c).owed t.castSucc = 0 from rfl, show (dats m 0 c).Φ t.castSucc = between m c t.val from rfl]
  unfold between
  iintro ⟨⟨HC, HG, HR, HS⟩, ⟨%W, -, HW⟩, ⟨%_, H0⟩, ⟨%_, H1⟩, ⟨%_, H2⟩, ⟨%_, H3⟩, ⟨%_, H4⟩, ⟨%_, H5⟩, ⟨%_, H6⟩, ⟨%_, H7⟩⟩
  ihave HR := r0 $$ HR
  icases HR with ⟨Ha, Hb, Hd⟩
  ihave HS := r1 $$ HS
  icases HS with ⟨He, Hf, Hg⟩
  iapply (run W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HC]; · iexact HC
  isplitl [Ha]; · iexact Ha
  isplitl [Hb]; · iexact Hb
  isplitl [Hd]; · iexact Hd
  isplitl [He]; · iexact He
  isplitl [Hf]; · iexact Hf
  isplitl [Hg]; · iexact Hg
  isplitl [HW]; · iexact HW
  iintro ⟨H0, H1, H2, H3, H4, H5, H6, H7, HC, Ha, Hb, Hd, He, Hf, Hg, HW⟩
  iapply (asked_of m c t hl)
  unfold between stored
  isplitl [HC HG Ha Hb Hd He Hf Hg]
  · isplitl [HC]; · iexact HC
    isplitl [HG]; · iexact HG
    isplitl [Ha Hb Hd]
    · iapply s0
      isplitl [Ha]; · iexact Ha
      isplitl [Hb]; · iexact Hb
      iexact Hd
    iapply s1
    isplitl [He]; · iexact He
    isplitl [Hf]; · iexact Hf
    iexact Hg
  isplitl [HW]; · iexact HW
  isplitl [H0]; · iexact H0
  isplitl [H1]; · iexact H1
  isplitl [H2]; · iexact H2
  isplitl [H3]; · iexact H3
  isplitl [H4]; · iapply (after_owns c (ms0_4 t) VO0_4 _ h4); iexact H4
  isplitl [H5]; · iapply (after_owns c (ms0_5 t) VO0_5 _ h5); iexact H5
  isplitl [H6]; · iapply (after_owns c (ms0_6 t) VO0_6 _ h6); iexact H6
  iapply (after_owns c (ms0_7 t) VO0_7 _ h7); iexact H7

/-- Nothing is held apart from the slots. -/
theorem drop_homes {S P : sProp 𝕄} : iprop(S ∗ P) ⊢ P := by
  iintro ⟨-, H⟩; iexact H

theorem point_first (h0 : t.val % 16 = 0) (h1 : t.val < 14) :
    given m c t ⊢ wp frame (wpE (defs₀ (F := F)) Variants.none c none) Set.univ (bodyAt0 t) (fun _ => asked m c t) := by
  have hz : t.val = 0 := by have := lt16 t.isLt; omega
  refine point m c t (runFirst m c t h0 h1).2.2.2.2 (left_first m c t h0 h1)
    (View.cover_of_tiledL _ S256x512.size (by sl_kernel_rfl)) (View.cover_of_tiledL _ S256x512.size (by sl_kernel_rfl))
    (View.cover_of_tiledL _ S256x1024.size (by sl_kernel_rfl)) (View.cover_of_tiledL _ S256x1024.size (by sl_kernel_rfl))
    ?_ ?_ ?_ ?_
  · unfold ringAt0_0; rw [if_pos hz, Ring.At₀_eq3' _ _ _ t.val hz (by decide : 3 ≤ 16)]; exact drop_homes
  · unfold ringAt0_1; rw [if_pos hz, Ring.At₀_eq3' _ _ _ t.val hz (by decide : 3 ≤ 16)]; exact drop_homes
  · unfold ringAt0_0; rw [if_neg (Nat.succ_ne_zero _), Ring.At3_one' _ _ _ _ t.val hz (by decide : 3 ≤ 16)]; exact Ring.with_homes (Idealize.SL.BI.Entails.refl _)
  · unfold ringAt0_1; rw [if_neg (Nat.succ_ne_zero _), Ring.At3_one' _ _ _ _ t.val hz (by decide : 3 ≤ 16)]; exact Ring.with_homes (Idealize.SL.BI.Entails.refl _)

theorem point_next (h0 : ¬t.val % 16 = 0) (h1 : t.val < 14) :
    given m c t ⊢ wp frame (wpE (defs₀ (F := F)) Variants.none c none) Set.univ (bodyAt0 t) (fun _ => asked m c t) := by
  have hz : ¬t.val = 0 := fun h => h0 (by rw [h])
  have hB : t.val + 2 < 16 := by omega
  refine point m c t (runNext m c t h0 h1).2.2.2.2 (left_next m c t h0 h1)
    (View.cover_of_tiledL _ S256x512.size (by sl_kernel_rfl)) (View.cover_of_tiledL _ S256x512.size (by sl_kernel_rfl))
    (View.cover_of_tiledL _ S256x1024.size (by sl_kernel_rfl)) (View.cover_of_tiledL _ S256x1024.size (by sl_kernel_rfl))
    ?_ ?_ ?_ ?_
  · unfold ringAt0_0; rw [if_neg hz, Ring.At3_here _ _ _ _ t.val hB]; exact drop_homes
  · unfold ringAt0_1; rw [if_neg hz, Ring.At3_here _ _ _ _ t.val hB]; exact drop_homes
  · unfold ringAt0_0
    rw [if_neg (Nat.succ_ne_zero _), Ring.At3_next _ _ _ _ t.val hB, Ring.slotAt3_next0 _ _ _ t.val (by omega), Ring.slotAt3_next1 _ _ _ t.val hB]
    exact Ring.with_homes (Idealize.SL.BI.Entails.refl _)
  · unfold ringAt0_1
    rw [if_neg (Nat.succ_ne_zero _), Ring.At3_next _ _ _ _ t.val hB, Ring.slotAt3_next0 _ _ _ t.val (by omega), Ring.slotAt3_next1 _ _ _ t.val hB]
    exact Ring.with_homes (Idealize.SL.BI.Entails.refl _)

theorem point_last (h0 : ¬t.val % 16 = 0) (h1 : ¬t.val < 14) :
    given m c t ⊢ wp frame (wpE (defs₀ (F := F)) Variants.none c none) Set.univ (bodyAt0 t) (fun _ => asked m c t) := by
  have hz : ¬t.val = 0 := fun h => h0 (by rw [h])
  have hN := lt16 t.isLt
  have hB : 16 ≤ t.val + 2 := by omega
  refine point m c t (runLast m c t h0 h1).2.2.2.2 (left_last m c t h0 h1)
    (View.cover_of_tiledL _ S256x512.size (by sl_kernel_rfl)) (View.cover_of_tiledL _ S256x512.size (by sl_kernel_rfl))
    (View.cover_of_tiledL _ S256x1024.size (by sl_kernel_rfl)) (View.cover_of_tiledL _ S256x1024.size (by sl_kernel_rfl))
    ?_ ?_ ?_ ?_
  · unfold ringAt0_0; rw [if_neg hz, Ring.At3_here_tail _ _ _ _ t.val hN]; exact drop_homes
  · unfold ringAt0_1; rw [if_neg hz, Ring.At3_here_tail _ _ _ _ t.val hN]; exact drop_homes
  · unfold ringAt0_0
    rw [if_neg (Nat.succ_ne_zero _), Ring.At3_next_tail _ _ _ _ t.val hB hN, Ring.slotAt3_tail_role _ _ _ t.val]
    exact Ring.with_homes (Idealize.SL.BI.Entails.refl _)
  · unfold ringAt0_1
    rw [if_neg (Nat.succ_ne_zero _), Ring.At3_next_tail _ _ _ _ t.val hB hN, Ring.slotAt3_tail_role _ _ _ t.val]
    exact Ring.with_homes (Idealize.SL.BI.Entails.refl _)

/-- The body at any point. -/
theorem body_point : given m c t ⊢ wp frame (wpE (defs₀ (F := F)) Variants.none c none) Set.univ (bodyAt0 t) (fun _ => asked m c t) := by
  by_cases h0 : t.val % 16 = 0
  · exact point_first m c t h0 (by have := lt16 t.isLt; omega)
  · by_cases h1 : t.val < 14
    · exact point_next m c t h0 h1
    · exact point_last m c t h0 h1

end Cert.Gated

end
-- ==== Proof.Gated.Frame.lean ====
module

public import proofs.«01_k».proof.Defs
public import proofs.«01_k».proof.Proof.Gated.Body

@[expose] public section

set_option maxRecDepth 16384
noncomputable section

/-! The whole run of the call for the gated unit and the output projection: it ends, its arguments are unchanged and its counters are at zero. -/

namespace Cert.Gated

open Cert.Kernel10Ideal Cert.Kernel10Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (m : (ℓ : Loc nD τ sig) → Buf (Elt F) ℓ) (ρ : Dev nD → PrngReg) (c : Dev nD)

theorem obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_point m c t) rfl .rfl fun _ => .rfl

/-- The launch hands over the rings before the first point, -/
theorem opened : Pipeline.ΦD osem0 spec0 H0 (V m) c ⊢ (dats m 0 c).Φ 0 := by
  rw [PhiD0_eq, show (dats m 0 c).Φ 0 = between m c 0 from rfl]
  unfold between
  iintro ⟨⟨HC, HR, HS⟩, HG, ⟨H0, H1, H2, H3, H4, H5⟩, ⟨HX, HY⟩⟩
  isplitl [HC]; · iexact HC
  isplitl [HG]; · iexact HG
  isplitl [HR H0 H1 H2 HX]
  · iapply (ring0_0_in (F := F) m c)
    isplitl [HR]; · iexact HR
    isplitr [HX]
    · isplitl [H0]; · iexact H0
      isplitl [H1]; · iexact H1
      iexact H2
    iexact HX
  iapply (ring0_1_in (F := F) m c)
  isplitl [HS]; · iexact HS
  isplitr [HY]
  · isplitl [H3]; · iexact H3
    isplitl [H4]; · iexact H4
    iexact H5
  iexact HY

/-- and takes them back after the last. -/
theorem closed : (dats m 0 c).Φ (Fin.last cfg0.N) ⊢ Pipeline.ΦD osem0 spec0 H0 (V m) c := by
  rw [PhiD0_eq, show (dats m 0 c).Φ (Fin.last cfg0.N) = between m c grid0.N from rfl, N_0]
  unfold between
  iintro ⟨HC, HG, HR, HS⟩
  ihave HR := (ring0_0_out (F := F) m c) $$ HR
  icases HR with ⟨HR, ⟨H0, H1, H2⟩, HX⟩
  ihave HS := (ring0_1_out (F := F) m c) $$ HS
  icases HS with ⟨HS, ⟨H3, H4, H5⟩, HY⟩
  isplitl [HC HR HS]
  · isplitl [HC]; · iexact HC
    isplitl [HR]; · iexact HR
    iexact HS
  isplitl [HG]; · iexact HG
  isplitr [HX HY]
  · isplitl [H0]; · iexact H0
    isplitl [H1]; · iexact H1
    isplitl [H2]; · iexact H2
    isplitl [H3]; · iexact H3
    isplitl [H4]; · iexact H4
    iexact H5
  isplitl [HX]; · iexact HX
  iexact HY

set_option backward.isDefEq.respectTransparency.types false in
theorem ran : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := entry m) (hin := opened m) (hout := closed m)

theorem run : θ_run defs (onTc (τ := τ) (main (F := F))) (s₀ m ρ) (Pipeline.FramePost cfgs (dats m) 0 (V m)) :=
  (θ_run defs _ _).mono (fun _ h => h.1) (ran m ρ)

theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (entry m) (run m ρ)) ((θ_run defs _ _).mono (fun _ h => h.2) (ran m ρ))

theorem frameIdeal : Cert.quiescent_Kernel10Ideal := fun m ρ _ => quiet m ρ

end Cert.Gated

end
-- ==== Proof.Gated.Spec.lean ====
module

public import proofs.«01_k».proof.Proof.Inproj.Spec
public import proofs.«01_k».proof.Proof.Mixout.Spec
public import proofs.«01_k».proof.Proof.Gated.Frame
public import Idealize.ShloMosaic.Lib.Pipeline.ValueKit

@[expose] public section

set_option maxRecDepth 16384
noncomputable section

/-! The four results of the gated unit and the output projection as functions of the arguments. -/

namespace Cert.Gated

open Idealize.ShloMosaic Idealize.ShloMosaic.TcCoe Idealize.SL.Sem
open Cert.Kernel10Ideal
open Cert.Inproj (rr ms)
open Cert.Mixout (logistic)

/-- The smooth rectifier by its tanh, in the order in which the kernel multiplies. -/
def gel (x : EReal) : EReal :=
  (Ideal.ofBits .f32 0x3F000000#32 * x) * (1 + Ideal.tanh (Ideal.ofBits .f32 0x3F4C422A#32 * (x + ((Ideal.ofBits .f32 0x3D372713#32 * x) * x) * x)))

/-- The same in the order in which the reference multiplies. -/
theorem gel_eq (x : EReal) : x * (Ideal.ofBits .f32 0x3F000000#32 * (1 + Ideal.tanh (Ideal.ofBits .f32 0x3F4C422A#32
    * (x + Ideal.ofBits .f32 0x3D372713#32 * ((x * x) * x))))) = gel x := by
  have e (c : EReal) : ((c * x) * x) * x = c * ((x * x) * x) := by rw [mul_assoc c x x, mul_assoc c (x * x) x]
  rw [gel, e, mul_left_comm, ← mul_assoc]

variable (s : FVec Ideal S8192x512 .f32) (y : FVec Ideal S8192x512 .bf16) (x : FVec Ideal S8192x1024 .f32)
  (wg : FVec Ideal S1x512x1024 .f32) (wo : FVec Ideal S1x1024x1024 .f32) (g : FVec Ideal S1x1024 .f32)

/-- The rectified states, -/
def YS (i : Fin 8192) (k : Fin 512) : EReal := gel (s (ix2 i k))

/-- their product with the first weight, -/
def GLU (i : Fin 8192) (j : Fin 1024) : EReal := ∑ k : Fin 512, YS s i k * wg (ix3 0 k j)

/-- its first half gated by its second, -/
def GATE (i : Fin 8192) (j : Fin 512) : EReal := GLU s wg i ⟨j.val, by omega⟩ * logistic (GLU s wg i ⟨512 + j.val, by omega⟩)

/-- the retention's rows and these side by side, -/
def CAT (i : Fin 8192) (k : Fin 1024) : EReal := if h : k.val < 512 then y (ix2 i ⟨k.val, h⟩) else GATE s wg i ⟨k.val - 512, by omega⟩

/-- their product with the second weight, -/
def MIX (i : Fin 8192) (j : Fin 1024) : EReal := ∑ k : Fin 1024, CAT s y wg i k * wo (ix3 0 k j)

def mixA : FVec Ideal S8192x1024 .f32 := fun i => MIX s y wg wo (i 0) (i 1)

/-- and the input with the normed product added. -/
def OUT (i : Fin 8192) (j : Fin 1024) : EReal := x (ix2 i j) + MIX s y wg wo i j * rr (mixA s y wg wo) i * g (ix2 0 j)

end Cert.Gated
-- ==== Proof.Gated.Ops.lean ====
module

public import proofs.«01_k».proof.Proof.Gated.Spec

@[expose] public section

set_option maxRecDepth 16384
noncomputable section

/-! The arithmetic of a half block, entry by entry. -/

namespace Cert.Gated

open Idealize.ShloMosaic Idealize.ShloMosaic.TcCoe Idealize.SL.Sem
open Cert.Kernel10Ideal Cert.Kernel10Ideal.Gen
open Cert.Mixout (logistic)

/-- The reciprocal root of a row's mean square. -/
def rs (x : Fin 1024 → EReal) : EReal :=
  Ideal.rsqrt (Ideal.div (∑ k, x k * x k) (Ideal.ofBits .f32 0x44800000#32) + Ideal.ofBits .f32 0x358637BD#32)

variable (s : FVec Ideal S256x512 .f32) (w : FVec Ideal S512x1024 .bf16) (y : FVec Ideal S256x512 .bf16)
  (a : FVec Ideal S256x1024 .bf16) (v : FVec Ideal S1024x1024 .bf16) (x : FVec Ideal S256x1024 .f32) (g : FVec Ideal S1x1024 .f32)
  (r : Fin 256)

/-- An entry of the product with the first weight, -/
def glu (j : Fin 1024) : EReal := ∑ k : Fin 512, gel (s (ix2 r k)) * w (ix2 k j)

/-- of the gated half, -/
def gl (j : Fin 512) : EReal := glu s w r ⟨j.val, by omega⟩ * logistic (glu s w r ⟨512 + j.val, by omega⟩)

/-- and of the product with the second. -/
def mx (j : Fin 1024) : EReal := ∑ k : Fin 1024, a (ix2 r k) * v (ix2 k j)

theorem ys_up (k : Fin 512) : k0_pay4 (F := Ideal) s (k0_pay2 s) (k0_pay3 s) (ix2 r k) = gel (s (ix2 r k)) := by
  pointwise [k0_pay4, k0_pay3, k0_pay2, gel]

theorem ys_low (k : Fin 512) : k0_pay14 (F := Ideal) (k0_pay12 s) (k0_pay13 s) (ix2 r k) = gel (s (ix2 r k)) := by
  pointwise [k0_pay14, k0_pay13, k0_pay12, gel]

theorem gl_up (j : Fin 512) : k0_pay5 (F := Ideal) s (k0_pay2 s) (k0_pay3 s) w (ix2 r j) = gl s w r j := by
  pointwise [k0_pay5]
  simp only [ys_up]
  rw [zero_sub]
  rfl

theorem gl_low (j : Fin 512) : k0_pay15 (F := Ideal) (k0_pay12 s) (k0_pay13 s) w (ix2 r j) = gl s w r j := by
  pointwise [k0_pay15]
  simp only [ys_low]
  rw [zero_sub]
  rfl

theorem right_up (j : Fin 512) : k0_pay7 (F := Ideal) s (k0_pay2 s) (k0_pay3 s) w (ix2 r j) = gl s w r j := by
  rw [← gl_up]
  pointwise [k0_pay7]

theorem right_low (j : Fin 512) : k0_pay17 (F := Ideal) (k0_pay12 s) (k0_pay13 s) w (ix2 r j) = gl s w r j := by
  rw [← gl_low]
  pointwise [k0_pay17]

theorem left_up (j : Fin 512) : k0_pay6 (F := Ideal) y (ix2 r j) = y (ix2 r j) := by
  pointwise [k0_pay6]

theorem left_low (j : Fin 512) : k0_pay16 (F := Ideal) y (ix2 r j) = y (ix2 r j) := by
  pointwise [k0_pay16]

theorem mix_up (j : Fin 1024) : k0_pay10 (F := Ideal) a (k0_pay8 v) (ix2 r j) = mx a v r j := by
  pointwise [k0_pay10, k0_pay9, k0_pay8, mx]

theorem mix_low (j : Fin 1024) : k0_pay19 (F := Ideal) a v (ix2 r j) = mx a v r j := by
  pointwise [k0_pay19, k0_pay18, mx]

theorem out_up (j : Fin 1024) : k0_pay11 (F := Ideal) a (k0_pay8 v) x g (ix2 r j) = x (ix2 r j) + mx a v r j * rs (mx a v r) * g (ix2 0 j) := by
  pointwise [k0_pay11, k0_pay9, k0_pay8, mx, rs]

theorem out_low (j : Fin 1024) : k0_pay1 (F := Ideal) (k0_pay18 a v) x g (ix2 r j) = x (ix2 r j) + mx a v r j * rs (mx a v r) * g (ix2 0 j) := by
  pointwise [k0_pay1, k0_pay18, mx, rs]

end Cert.Gated
-- ==== Proof.Gated.Blocks.lean ====
module

public import proofs.«01_k».proof.Proof.Gated.Ops

@[expose] public section

set_option maxRecDepth 16384
noncomputable section

/-! The blocks a grid point reads, entry by entry: those the pipeline stages, and those that have landed in the rings. -/

namespace Cert.Gated

open Idealize.ShloMosaic Idealize.ShloMosaic.TcCoe Idealize.SL.Sem
open Cert.Kernel10Ideal Cert.Kernel10Ideal.Gen
open Idealize.ShloMosaic.Pipeline (Dat)

variable (m : (ℓ : Loc nD τ sig) → Buf (Elt Ideal) ℓ) (c : Dev nD)

abbrev S : FVec Ideal S8192x512 .f32 := m ((c : Thread nD τ).loc main_arg0)
abbrev Y : FVec Ideal S8192x512 .bf16 := m ((c : Thread nD τ).loc main_arg1)
abbrev X : FVec Ideal S8192x1024 .f32 := m ((c : Thread nD τ).loc main_arg2)
abbrev WG : FVec Ideal S1x512x1024 .f32 := m ((c : Thread nD τ).loc main_arg3)
abbrev WO : FVec Ideal S1x1024x1024 .f32 := m ((c : Thread nD τ).loc main_arg4)
abbrev G : FVec Ideal S1x1024 .f32 := m ((c : Thread nD τ).loc main_arg5)

/-- Which block each window stages at a grid point. -/
theorem blocks_at : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The two weights as the host prepares them. -/
def gT (w : FVec Ideal S1x512x1024 .f32) : FVec Ideal S512x1024 .bf16 := truncf .bf16 (shapeCast S512x1024 w shapeCasts_S1x512x1024_S512x1024) bitsLt_bf16_f32
def oT (w : FVec Ideal S1x1024x1024 .f32) : FVec Ideal S1024x1024 .bf16 := truncf .bf16 (shapeCast S1024x1024 w shapeCasts_S1x1024x1024_S1024x1024) bitsLt_bf16_f32

theorem gT_at (w : FVec Ideal S1x512x1024 .f32) (k : Fin 512) (j : Fin 1024) : gT w (ix2 k j) = w (ix3 0 k j) := by
  pointwise [gT]

theorem oT_at (w : FVec Ideal S1x1024x1024 .f32) (k j : Fin 1024) : oT w (ix2 k j) = w (ix3 0 k j) := by
  pointwise [oT]

theorem V_g : (V m c main_v1 : FVec Ideal S512x1024 .bf16) = gT (WG m c) := by
  show StableHlo.after hostOps0 _ _ = _
  after_results
  rfl

theorem V_o : (V m c main_v3 : FVec Ideal S1024x1024 .bf16) = oT (WO m c) := by
  show StableHlo.after hostOps0 _ _ = _
  after_results
  rfl

theorem V_s : (V m c main_arg0 : FVec Ideal S8192x512 .f32) = S m c := by
  show StableHlo.after hostOps0 _ _ = _
  after_results

theorem V_x : (V m c main_arg2 : FVec Ideal S8192x1024 .f32) = X m c := by
  show StableHlo.after hostOps0 _ _ = _
  after_results

variable (t : Fin cfg0.N)

theorem block0 (y : S512x512.Idx) (i : Fin 8192) (j : Fin 512) (hi : i.val = 512 * t.val + (y 0 : ℕ)) (hj : j.val = (y 1 : ℕ)) :
    (iblk m c 0 t : FVec Ideal S512x512 .bf16) y = Y m c (ix2 i j) := by
  blk_point [iblk, V, blocks_at t]

theorem block1 (k : Fin 512) (j : Fin 1024) : (iblk m c 1 t : FVec Ideal S512x1024 .bf16) (ix2 k j) = WG m c (ix3 0 k j) := by
  rw [← gT_at (WG m c) k j, ← V_g]
  blk_point [iblk, blocks_at t]

theorem block2 (k j : Fin 1024) : (iblk m c 2 t : FVec Ideal S1024x1024 .bf16) (ix2 k j) = WO m c (ix3 0 k j) := by
  rw [← oT_at (WO m c) k j, ← V_o]
  blk_point [iblk, blocks_at t]

theorem block3 : (iblk m c 3 t : FVec Ideal S1x1024 .f32) = G m c := by
  funext y; idx_vars y
  blk_point [iblk, V, blocks_at t]

/-- The blocks that have landed in the two rings' slots at a point. -/
abbrev landed0 : View.Piece (Elt Ideal) S512x512 .f32 :=
  ⟨Rect.whole S512x512, ReadAs.same.apply (View.read (Elt Ideal) (srcB0_0 (Ring.bk 16 t.val)).view (V m c main_arg0))⟩
abbrev landed1 : View.Piece (Elt Ideal) S512x1024 .f32 :=
  ⟨Rect.whole S512x1024, ReadAs.same.apply (View.read (Elt Ideal) (srcB0_1 (Ring.bk 16 t.val)).view (V m c main_arg2))⟩

/-- What the body loads of a slot's half. -/
abbrev sHalf (o : ℕ) (inb : ∀ a, (![o, 0] : Fin 2 → ℕ) a + (![256, 512] : Fin 2 → ℕ) a ≤ S512x512.size a) : FVec Ideal S256x512 .f32 :=
  (rslot0_0 (Fin.ofNat 3 t.val)).view.readCov [landed0 m c t] (Rect.unit (s := S512x512) ![o, 0] ![256, 512] inb).toLoadRect
abbrev xHalf (o : ℕ) (inb : ∀ a, (![o, 0] : Fin 2 → ℕ) a + (![256, 1024] : Fin 2 → ℕ) a ≤ S512x1024.size a) : FVec Ideal S256x1024 .f32 :=
  (rslot0_1 (Fin.ofNat 3 t.val)).view.readCov [landed1 m c t] (Rect.unit (s := S512x1024) ![o, 0] ![256, 1024] inb).toLoadRect

theorem slot_block : (Ring.bk 16 t.val : Fin 16).val = t.val := Nat.mod_eq_of_lt (lt16 t.isLt)

theorem sHalf_at (o : ℕ) (inb : ∀ a, (![o, 0] : Fin 2 → ℕ) a + (![256, 512] : Fin 2 → ℕ) a ≤ S512x512.size a) (r : Fin 256) (k : Fin 512)
    (i : Fin 8192) (hi : i.val = 512 * t.val + (o + r.val)) : sHalf m c t o inb (ix2 r k) = S m c (ix2 i k) := by
  unfold sHalf
  rw [View.readCov_eq_canon']
  refine (congrFun (View.canon_unit_zero rfl (fun _ => (Nat.zero_add _).le) (landed0 m c t).2) _).trans ?_
  rw [← V_s]
  refine congrArg (V m c main_arg0) (funext fun a => Fin.ext ?_)
  have := slot_block t
  match a with
  | ⟨0, _⟩ => show 512 * (Ring.bk 16 t.val : Fin 16).val + 1 * (o + 1 * r.val) = i.val; omega
  | ⟨1, _⟩ => show 0 + 1 * (0 + 1 * k.val) = k.val; omega

theorem xHalf_at (o : ℕ) (inb : ∀ a, (![o, 0] : Fin 2 → ℕ) a + (![256, 1024] : Fin 2 → ℕ) a ≤ S512x1024.size a) (r : Fin 256) (k : Fin 1024)
    (i : Fin 8192) (hi : i.val = 512 * t.val + (o + r.val)) : xHalf m c t o inb (ix2 r k) = X m c (ix2 i k) := by
  unfold xHalf
  rw [View.readCov_eq_canon']
  refine (congrFun (View.canon_unit_zero rfl (fun _ => (Nat.zero_add _).le) (landed1 m c t).2) _).trans ?_
  rw [← V_x]
  refine congrArg (V m c main_arg2) (funext fun a => Fin.ext ?_)
  have := slot_block t
  match a with
  | ⟨0, _⟩ => show 512 * (Ring.bk 16 t.val : Fin 16).val + 1 * (o + 1 * r.val) = i.val; omega
  | ⟨1, _⟩ => show 0 + 1 * (0 + 1 * k.val) = k.val; omega

/-- A half of the block of the retention's rows. -/
abbrev yHalf (o : ℕ) (inb : ∀ a, (![o, 0] : Fin 2 → ℕ) a + (![256, 512] : Fin 2 → ℕ) a ≤ S512x512.size a) : FVec Ideal S256x512 .bf16 :=
  View.ld (iblk m c 0 t : FVec Ideal S512x512 .bf16) (Rect.unit (s := S512x512) ![o, 0] ![256, 512] inb)

theorem yHalf_at (o : ℕ) (inb : ∀ a, (![o, 0] : Fin 2 → ℕ) a + (![256, 512] : Fin 2 → ℕ) a ≤ S512x512.size a) (r : Fin 256) (k : Fin 512)
    (i : Fin 8192) (hi : i.val = 512 * t.val + (o + r.val)) : yHalf m c t o inb (ix2 r k) = Y m c (ix2 i k) := by
  refine block0 m c t _ i k ?_ ?_
  · show i.val = 512 * t.val + (o + 1 * r.val)
    omega
  · show k.val = 0 + 1 * k.val
    omega

end Cert.Gated
-- ==== Proof.Gated.Rows.lean ====
module

public import proofs.«01_k».proof.Proof.Gated.Blocks

@[expose] public section

set_option maxRecDepth 16384
noncomputable section

/-! The values a grid point computes for its upper 256 rows and its lower 256 rows, as functions of the arguments. -/

namespace Cert.Gated

open Idealize.ShloMosaic Idealize.ShloMosaic.TcCoe Idealize.SL.Sem
open Cert.Kernel10Ideal Cert.Kernel10Ideal.Gen
open Cert.Mixout (logistic)
open Cert.Inproj (rr ms)

variable (m : (ℓ : Loc nD τ sig) → Buf (Elt Ideal) ℓ) (c : Dev nD) (t : Fin cfg0.N)

abbrev sUp : FVec Ideal S256x512 .f32 := sHalf m c t 0 inb_S512x512_S256x512_0_0
abbrev sLow : FVec Ideal S256x512 .f32 := sHalf m c t 256 inb_S512x512_S256x512_256_0

/-- The rectified states and the gated half, upper and lower. -/
def ysUp : FVec Ideal S256x512 .bf16 := k0_pay4 (sUp m c t) (k0_pay2 (sUp m c t)) (k0_pay3 (sUp m c t))
def ysLow : FVec Ideal S256x512 .bf16 := k0_pay14 (k0_pay12 (sLow m c t)) (k0_pay13 (sLow m c t))
def glUp : FVec Ideal S256x512 .bf16 := k0_pay5 (sUp m c t) (k0_pay2 (sUp m c t)) (k0_pay3 (sUp m c t)) (iblk m c 1 t)
def glLow : FVec Ideal S256x512 .bf16 := k0_pay15 (k0_pay12 (sLow m c t)) (k0_pay13 (sLow m c t)) (iblk m c 1 t)

/-- What is stored side by side, left and right, upper and lower. -/
def leftUp : FVec Ideal S256x512 .bf16 := k0_pay6 (yHalf m c t 0 inb_S512x512_S256x512_0_0)
def rightUp : FVec Ideal S256x512 .bf16 := k0_pay7 (sUp m c t) (k0_pay2 (sUp m c t)) (k0_pay3 (sUp m c t)) (iblk m c 1 t)
def leftLow : FVec Ideal S256x512 .bf16 := k0_pay16 (yHalf m c t 256 inb_S512x512_S256x512_256_0)
def rightLow : FVec Ideal S256x512 .bf16 := k0_pay17 (k0_pay12 (sLow m c t)) (k0_pay13 (sLow m c t)) (iblk m c 1 t)

abbrev twoUp : List (View.Piece (Elt Ideal) S512x1024 .bf16) :=
  [⟨Rect.unit ![0, 512] ![256, 512] inb_S512x1024_S256x512_0_512, rightUp m c t⟩, ⟨Rect.unit ![0, 0] ![256, 512] inb_S512x1024_S256x512_0_0, leftUp m c t⟩]
abbrev four : List (View.Piece (Elt Ideal) S512x1024 .bf16) :=
  [⟨Rect.unit ![256, 512] ![256, 512] inb_S512x1024_S256x512_256_512, rightLow m c t⟩, ⟨Rect.unit ![256, 0] ![256, 512] inb_S512x1024_S256x512_256_0, leftLow m c t⟩,
   ⟨Rect.unit ![0, 512] ![256, 512] inb_S512x1024_S256x512_0_512, rightUp m c t⟩, ⟨Rect.unit ![0, 0] ![256, 512] inb_S512x1024_S256x512_0_0, leftUp m c t⟩]

/-- The rows side by side as they are read back. -/
def sideUp : FVec Ideal S256x1024 .bf16 := scM0_0.view.readCov (twoUp m c t) (Rect.unit (s := S512x1024) ![0, 0] ![256, 1024] inb_S512x1024_S256x1024_0_0).toLoadRect
def sideLow : FVec Ideal S256x1024 .bf16 := scM0_0.view.readCov (four m c t) (Rect.unit (s := S512x1024) ![256, 0] ![256, 1024] inb_S512x1024_S256x1024_256_0).toLoadRect

/-- The mixed rows and the rows handed on, upper and lower. -/
def mixUp : FVec Ideal S256x1024 .bf16 := k0_pay10 (sideUp m c t) (k0_pay8 (iblk m c 2 t))
def mixLow : FVec Ideal S256x1024 .bf16 := k0_pay19 (sideLow m c t) (iblk m c 2 t)
def outUp : FVec Ideal S256x1024 .f32 := k0_pay11 (sideUp m c t) (k0_pay8 (iblk m c 2 t)) (xHalf m c t 0 inb_S512x1024_S256x1024_0_0) (iblk m c 3 t)
def outLow : FVec Ideal S256x1024 .f32 := k0_pay1 (k0_pay18 (sideLow m c t) (iblk m c 2 t)) (xHalf m c t 256 inb_S512x1024_S256x1024_256_0) (iblk m c 3 t)

/-- The results' entries, of the arguments in a memory. -/
abbrev YSM : Fin 8192 → Fin 512 → EReal := YS (S m c)
abbrev GATEM : Fin 8192 → Fin 512 → EReal := GATE (S m c) (WG m c)
abbrev CATM : Fin 8192 → Fin 1024 → EReal := CAT (S m c) (Y m c) (WG m c)
abbrev MIXM : Fin 8192 → Fin 1024 → EReal := MIX (S m c) (Y m c) (WG m c) (WO m c)
abbrev OUTM : Fin 8192 → Fin 1024 → EReal := OUT (S m c) (Y m c) (X m c) (WG m c) (WO m c) (G m c)

theorem gl_of (s : FVec Ideal S256x512 .f32) (r : Fin 256) (i : Fin 8192) (hs : ∀ k, s (ix2 r k) = S m c (ix2 i k)) (j : Fin 512) :
    gl s (iblk m c 1 t) r j = GATEM m c i j := by
  have e (j : Fin 1024) : glu s (iblk m c 1 t) r j = GLU (S m c) (WG m c) i j :=
    Finset.sum_congr rfl fun k _ => congrArg₂ (· * ·) (congrArg gel (hs k)) (block1 m c t k j)
  unfold gl
  rw [e, e]
  rfl

theorem mx_of (a : FVec Ideal S256x1024 .bf16) (r : Fin 256) (i : Fin 8192) (ha : ∀ k, a (ix2 r k) = CATM m c i k) :
    mx a (iblk m c 2 t) r = MIXM m c i :=
  funext fun j => Finset.sum_congr rfl fun k _ => congrArg₂ (· * ·) (ha k) (block2 m c t k j)

variable (r : Fin 256) (i : Fin 8192)

theorem ysUp_at (k : Fin 512) (hi : i.val = 512 * t.val + (0 + r.val)) : ysUp m c t (ix2 r k) = YSM m c i k :=
  (ys_up _ r k).trans (congrArg gel (sHalf_at m c t 0 _ r k i hi))

theorem ysLow_at (k : Fin 512) (hi : i.val = 512 * t.val + (256 + r.val)) : ysLow m c t (ix2 r k) = YSM m c i k :=
  (ys_low _ r k).trans (congrArg gel (sHalf_at m c t 256 _ r k i hi))

theorem glUp_at (k : Fin 512) (hi : i.val = 512 * t.val + (0 + r.val)) : glUp m c t (ix2 r k) = GATEM m c i k :=
  (gl_up _ _ r k).trans (gl_of m c t _ r i (fun k => sHalf_at m c t 0 _ r k i hi) k)

theorem glLow_at (k : Fin 512) (hi : i.val = 512 * t.val + (256 + r.val)) : glLow m c t (ix2 r k) = GATEM m c i k :=
  (gl_low _ _ r k).trans (gl_of m c t _ r i (fun k => sHalf_at m c t 256 _ r k i hi) k)

theorem rightUp_at (k : Fin 512) (hi : i.val = 512 * t.val + (0 + r.val)) : rightUp m c t (ix2 r k) = GATEM m c i k :=
  (right_up _ _ r k).trans (gl_of m c t _ r i (fun k => sHalf_at m c t 0 _ r k i hi) k)

theorem rightLow_at (k : Fin 512) (hi : i.val = 512 * t.val + (256 + r.val)) : rightLow m c t (ix2 r k) = GATEM m c i k :=
  (right_low _ _ r k).trans (gl_of m c t _ r i (fun k => sHalf_at m c t 256 _ r k i hi) k)

theorem leftUp_at (k : Fin 512) (hi : i.val = 512 * t.val + (0 + r.val)) : leftUp m c t (ix2 r k) = Y m c (ix2 i k) :=
  (left_up _ r k).trans (yHalf_at m c t 0 _ r k i hi)

theorem leftLow_at (k : Fin 512) (hi : i.val = 512 * t.val + (256 + r.val)) : leftLow m c t (ix2 r k) = Y m c (ix2 i k) :=
  (left_low _ r k).trans (yHalf_at m c t 256 _ r k i hi)

/-- The two halves of a row side by side. -/
theorem cat_left (k : Fin 1024) (j : Fin 512) (h : k.val = j.val) : CATM m c i k = Y m c (ix2 i j) := by
  have hk : k.val < 512 := by omega
  refine (dif_pos hk).trans ?_
  exact congrArg _ (congrArg (ix2 i) (Fin.ext h))

theorem cat_right (k : Fin 1024) (j : Fin 512) (h : k.val = 512 + j.val) : CATM m c i k = GATEM m c i j := by
  have hk : ¬k.val < 512 := by omega
  refine (dif_neg hk).trans ?_
  exact congrArg _ (Fin.ext (by show k.val - 512 = j.val; omega))

/-- A place lies in a quarter of the buffer. -/
theorem mem_part (y : S512x1024.Idx) (o p : ℕ) (inb : ∀ a, (![o, p] : Fin 2 → ℕ) a + (![256, 512] : Fin 2 → ℕ) a ≤ S512x1024.size a)
    (h0 : o ≤ (y 0 : ℕ)) (h1 : (y 0 : ℕ) < o + 256) (h2 : p ≤ (y 1 : ℕ)) (h3 : (y 1 : ℕ) < p + 512) :
    y ∈ (Rect.unit (s := S512x1024) ![o, p] ![256, 512] inb).set :=
  Rect.mem_set_unit.mpr fun a => match a with
    | ⟨0, _⟩ => ⟨h0, h1⟩
    | ⟨1, _⟩ => ⟨h2, h3⟩

theorem two_at (y : S512x1024.Idx) (k : Fin 1024) (h0 : (y 0 : ℕ) = r.val) (h1 : (y 1 : ℕ) = k.val) (hi : i.val = 512 * t.val + (0 + r.val)) :
    View.canon (twoUp m c t) y = CATM m c i k := by
  have cover : ∃ p ∈ twoUp m c t, y ∈ p.1.set := by
    by_cases h : (y 1 : ℕ) < 512
    · exact ⟨_, List.mem_cons_of_mem _ (List.mem_singleton.mpr rfl), mem_part y 0 0 inb_S512x1024_S256x512_0_0 (by omega) (by omega) (by omega) (by omega)⟩
    · exact ⟨_, List.mem_cons_self, mem_part y 0 512 inb_S512x1024_S256x512_0_512 (by omega) (by omega) (by omega) (by omega)⟩
  canon_tiles x hx using cover
  · idx_vars x
    obtain rfl : r = x0 := Fin.ext (by omega)
    rw [cat_right m c i k x1 (by omega)]
    exact rightUp_at m c t r i x1 hi
  · idx_vars x
    obtain rfl : r = x0 := Fin.ext (by omega)
    rw [cat_left m c i k x1 (by omega)]
    exact leftUp_at m c t r i x1 hi

theorem four_at (y : S512x1024.Idx) (k : Fin 1024) (h0 : (y 0 : ℕ) = 256 + r.val) (h1 : (y 1 : ℕ) = k.val) (hi : i.val = 512 * t.val + (256 + r.val)) :
    View.canon (four m c t) y = CATM m c i k := by
  canon_tiles x hx
  · idx_vars x
    obtain rfl : r = x0 := Fin.ext (by omega)
    rw [cat_right m c i k x1 (by omega)]
    exact rightLow_at m c t r i x1 hi
  · idx_vars x
    obtain rfl : r = x0 := Fin.ext (by omega)
    rw [cat_left m c i k x1 (by omega)]
    exact leftLow_at m c t r i x1 hi
  · idx_vars x
    omega
  · idx_vars x
    omega

theorem sideUp_at (k : Fin 1024) (hi : i.val = 512 * t.val + (0 + r.val)) : sideUp m c t (ix2 r k) = CATM m c i k := by
  unfold sideUp
  rw [View.readCov_eq_canon']
  refine two_at m c t r i _ k ?_ ?_ hi
  · show 0 + 1 * r.val = r.val
    omega
  · show 0 + 1 * k.val = k.val
    omega

theorem sideLow_at (k : Fin 1024) (hi : i.val = 512 * t.val + (256 + r.val)) : sideLow m c t (ix2 r k) = CATM m c i k := by
  unfold sideLow
  rw [View.readCov_eq_canon']
  refine four_at m c t r i _ k ?_ ?_ hi
  · show 256 + 1 * r.val = 256 + r.val
    omega
  · show 0 + 1 * k.val = k.val
    omega

theorem mixUp_at (k : Fin 1024) (hi : i.val = 512 * t.val + (0 + r.val)) : mixUp m c t (ix2 r k) = MIXM m c i k :=
  (mix_up _ _ r k).trans (congrFun (mx_of m c t _ r i fun k => sideUp_at m c t r i k hi) k)

theorem mixLow_at (k : Fin 1024) (hi : i.val = 512 * t.val + (256 + r.val)) : mixLow m c t (ix2 r k) = MIXM m c i k :=
  (mix_low _ _ r k).trans (congrFun (mx_of m c t _ r i fun k => sideLow_at m c t r i k hi) k)

theorem outUp_at (k : Fin 1024) (hi : i.val = 512 * t.val + (0 + r.val)) : outUp m c t (ix2 r k) = OUTM m c i k := by
  refine (out_up _ _ _ _ r k).trans ?_
  rw [mx_of m c t _ r i fun k => sideUp_at m c t r i k hi, xHalf_at m c t 0 _ r k i hi, block3]
  rfl

theorem outLow_at (k : Fin 1024) (hi : i.val = 512 * t.val + (256 + r.val)) : outLow m c t (ix2 r k) = OUTM m c i k := by
  refine (out_low _ _ _ _ r k).trans ?_
  rw [mx_of m c t _ r i fun k => sideLow_at m c t r i k hi, xHalf_at m c t 256 _ r k i hi, block3]
  rfl

end Cert.Gated
-- ==== Proof.Gated.Points.lean ====
module

public import proofs.«01_k».proof.Proof.Gated.Rows

@[expose] public section

set_option maxRecDepth 16384
noncomputable section

/-! What a grid point leaves in its four output blocks, whether it is the first, one that still starts a copy, or one of the last two. -/

namespace Cert.Gated

open Idealize.ShloMosaic Idealize.ShloMosaic.TcCoe Idealize.SL.Sem
open Cert.Kernel10Ideal Cert.Kernel10Ideal.Gen

variable (m : (ℓ : Loc nD τ sig) → Buf (Elt Ideal) ℓ) (c : Dev nD) (t : Fin cfg0.N)

/-- A block whose two halves are stored, lower half last, entry by entry: a wide one, -/
theorem halves (φ : EltTy) (lo up : Vec Ideal S256x1024 φ) (Z : Fin 8192 → Fin 1024 → Elt Ideal φ)
    (hlo : ∀ (r : Fin 256) (i : Fin 8192) (k : Fin 1024), i.val = 512 * t.val + (256 + r.val) → lo (ix2 r k) = Z i k)
    (hup : ∀ (r : Fin 256) (i : Fin 8192) (k : Fin 1024), i.val = 512 * t.val + (0 + r.val) → up (ix2 r k) = Z i k)
    (y : S512x1024.Idx) (i : Fin 8192) (j : Fin 1024) (hi : i.val = 512 * t.val + (y 0 : ℕ)) (hj : j.val = (y 1 : ℕ)) :
    View.canon ([⟨Rect.unit ![256, 0] ![256, 1024] inb_S512x1024_S256x1024_256_0, lo⟩,
      ⟨Rect.unit ![0, 0] ![256, 1024] inb_S512x1024_S256x1024_0_0, up⟩] : List (View.Piece (Elt Ideal) S512x1024 φ)) y = Z i j := by
  canon_tiles x hx
  · idx_vars x
    obtain rfl : j = x1 := Fin.ext (by omega)
    exact hlo x0 i j (by omega)
  · idx_vars x
    obtain rfl : j = x1 := Fin.ext (by omega)
    exact hup x0 i j (by omega)

/-- and a narrow one. -/
theorem narrow (φ : EltTy) (lo up : Vec Ideal S256x512 φ) (Z : Fin 8192 → Fin 512 → Elt Ideal φ)
    (hlo : ∀ (r : Fin 256) (i : Fin 8192) (k : Fin 512), i.val = 512 * t.val + (256 + r.val) → lo (ix2 r k) = Z i k)
    (hup : ∀ (r : Fin 256) (i : Fin 8192) (k : Fin 512), i.val = 512 * t.val + (0 + r.val) → up (ix2 r k) = Z i k)
    (y : S512x512.Idx) (i : Fin 8192) (j : Fin 512) (hi : i.val = 512 * t.val + (y 0 : ℕ)) (hj : j.val = (y 1 : ℕ)) :
    View.canon ([⟨Rect.unit ![256, 0] ![256, 512] inb_S512x512_S256x512_256_0, lo⟩,
      ⟨Rect.unit ![0, 0] ![256, 512] inb_S512x512_S256x512_0_0, up⟩] : List (View.Piece (Elt Ideal) S512x512 φ)) y = Z i j := by
  canon_tiles x hx
  · idx_vars x
    obtain rfl : j = x1 := Fin.ext (by omega)
    exact hlo x0 i j (by omega)
  · idx_vars x
    obtain rfl : j = x1 := Fin.ext (by omega)
    exact hup x0 i j (by omega)

/-- The blocks, stored in halves. -/
abbrev out4 : FVec Ideal S512x512 .bf16 :=
  View.canon ([⟨Rect.unit ![256, 0] ![256, 512] inb_S512x512_S256x512_256_0, ysLow m c t⟩,
    ⟨Rect.unit ![0, 0] ![256, 512] inb_S512x512_S256x512_0_0, ysUp m c t⟩] : List (View.Piece (Elt Ideal) S512x512 .bf16))
abbrev out5 : FVec Ideal S512x512 .bf16 :=
  View.canon ([⟨Rect.unit ![256, 0] ![256, 512] inb_S512x512_S256x512_256_0, glLow m c t⟩,
    ⟨Rect.unit ![0, 0] ![256, 512] inb_S512x512_S256x512_0_0, glUp m c t⟩] : List (View.Piece (Elt Ideal) S512x512 .bf16))
abbrev out6 : FVec Ideal S512x1024 .bf16 :=
  View.canon ([⟨Rect.unit ![256, 0] ![256, 1024] inb_S512x1024_S256x1024_256_0, mixLow m c t⟩,
    ⟨Rect.unit ![0, 0] ![256, 1024] inb_S512x1024_S256x1024_0_0, mixUp m c t⟩] : List (View.Piece (Elt Ideal) S512x1024 .bf16))
abbrev out7 : FVec Ideal S512x1024 .f32 :=
  View.canon ([⟨Rect.unit ![256, 0] ![256, 1024] inb_S512x1024_S256x1024_256_0, outLow m c t⟩,
    ⟨Rect.unit ![0, 0] ![256, 1024] inb_S512x1024_S256x1024_0_0, outUp m c t⟩] : List (View.Piece (Elt Ideal) S512x1024 .f32))

theorem at_first (h0 : t.val % 16 = 0) (h1 : t.val < 14) : left m c t = (out4 m c t, out5 m c t, out6 m c t, out7 m c t) := by
  rw [left_first m c t h0 h1]
  unfold first stored runFirst
  refine Prod.ext ?_ (Prod.ext ?_ (Prod.ext ?_ ?_)) <;> (frame_out; rfl)

theorem at_next (h0 : ¬t.val % 16 = 0) (h1 : t.val < 14) : left m c t = (out4 m c t, out5 m c t, out6 m c t, out7 m c t) := by
  rw [left_next m c t h0 h1]
  unfold next stored runNext
  refine Prod.ext ?_ (Prod.ext ?_ (Prod.ext ?_ ?_)) <;> (frame_out; rfl)

theorem at_last (h0 : ¬t.val % 16 = 0) (h1 : ¬t.val < 14) : left m c t = (out4 m c t, out5 m c t, out6 m c t, out7 m c t) := by
  rw [left_last m c t h0 h1]
  unfold last stored runLast
  refine Prod.ext ?_ (Prod.ext ?_ (Prod.ext ?_ ?_)) <;> (frame_out; rfl)

theorem at_any : left m c t = (out4 m c t, out5 m c t, out6 m c t, out7 m c t) := by
  by_cases h0 : t.val % 16 = 0
  · exact at_first m c t h0 (starts t h0)
  by_cases h1 : t.val < 14
  · exact at_next m c t h0 h1
  · exact at_last m c t h0 h1

section thin
variable (y : S512x512.Idx) (i : Fin 8192) (j : Fin 512) (hi : i.val = 512 * t.val + (y 0 : ℕ)) (hj : j.val = (y 1 : ℕ))
include hi hj

theorem point4 : (left m c t).1 y = YSM m c i j := by
  have h : (left m c t).1 = out4 m c t := by rw [at_any]
  rw [h]
  exact narrow t .bf16 (ysLow m c t) (ysUp m c t) (YSM m c) (ysLow_at m c t) (ysUp_at m c t) y i j hi hj

theorem point5 : (left m c t).2.1 y = GATEM m c i j := by
  have h : (left m c t).2.1 = out5 m c t := by rw [at_any]
  rw [h]
  exact narrow t .bf16 (glLow m c t) (glUp m c t) (GATEM m c) (glLow_at m c t) (glUp_at m c t) y i j hi hj

end thin

variable (y : S512x1024.Idx) (i : Fin 8192) (j : Fin 1024) (hi : i.val = 512 * t.val + (y 0 : ℕ)) (hj : j.val = (y 1 : ℕ))
include hi hj

theorem point6 : (left m c t).2.2.1 y = MIXM m c i j := by
  have h : (left m c t).2.2.1 = out6 m c t := by rw [at_any]
  rw [h]
  exact halves t .bf16 (mixLow m c t) (mixUp m c t) (MIXM m c) (mixLow_at m c t) (mixUp_at m c t) y i j hi hj

theorem point7 : (left m c t).2.2.2 y = OUTM m c i j := by
  have h : (left m c t).2.2.2 = out7 m c t := by rw [at_any]
  rw [h]
  exact halves t .f32 (outLow m c t) (outUp m c t) (OUTM m c) (outLow_at m c t) (outUp_at m c t) y i j hi hj

end Cert.Gated
-- ==== Proof.Gated.Finals.lean ====
module

public import proofs.«01_k».proof.Proof.Gated.Points

@[expose] public section

set_option maxRecDepth 16384
noncomputable section

/-! What the call leaves in its four result arrays, and its run with those arrays named. -/

namespace Cert.Gated

open Idealize.ShloMosaic Idealize.ShloMosaic.TcCoe Idealize.SL.Sem
open Cert.Kernel10Ideal Cert.Kernel10Ideal.Gen
open Idealize.ShloMosaic.Pipeline (Dat)

variable (m : (ℓ : Loc nD τ sig) → Buf (Elt Ideal) ℓ) (c : Dev nD)

theorem after_4 (t : Fin cfg0.N) : (dats m 0 c).after 4 t = (left m c t).1 := by dsimp only [dats]
theorem after_5 (t : Fin cfg0.N) : (dats m 0 c).after 5 t = (left m c t).2.1 := by dsimp only [dats]
theorem after_6 (t : Fin cfg0.N) : (dats m 0 c).after 6 t = (left m c t).2.2.1 := by dsimp only [dats]
theorem after_7 (t : Fin cfg0.N) : (dats m 0 c).after 7 t = (left m c t).2.2.2 := by dsimp only [dats]

/-- The rectified states, -/
theorem final4 : (dats m 0 c).arrAt 4 cfg0.N = (fun i => YSM m c (i 0) (i 1)) := by
  refine (dats m 0 c).arrAt_eq_of_covers 4 _ (by decide +kernel) fun t _ y => ?_
  blk_simp
  rw [after_4]
  refine point4 m c t y _ _ ?_ ?_
  all_goals (blk_simp [blocks_at t] <;> try omega)

/-- the gated half, -/
theorem final5 : (dats m 0 c).arrAt 5 cfg0.N = (fun i => GATEM m c (i 0) (i 1)) := by
  refine (dats m 0 c).arrAt_eq_of_covers 5 _ (by decide +kernel) fun t _ y => ?_
  blk_simp
  rw [after_5]
  refine point5 m c t y _ _ ?_ ?_
  all_goals (blk_simp [blocks_at t] <;> try omega)

/-- the mixed rows, -/
theorem final6 : (dats m 0 c).arrAt 6 cfg0.N = (fun i => MIXM m c (i 0) (i 1)) := by
  refine (dats m 0 c).arrAt_eq_of_covers 6 _ (by decide +kernel) fun t _ y => ?_
  blk_simp
  rw [after_6]
  refine point6 m c t y _ _ ?_ ?_
  all_goals (blk_simp [blocks_at t] <;> try omega)

/-- and the rows handed on. -/
theorem final7 : (dats m 0 c).arrAt 7 cfg0.N = (fun i => OUTM m c (i 0) (i 1)) := by
  refine (dats m 0 c).arrAt_eq_of_covers 7 _ (by decide +kernel) fun t _ y => ?_
  blk_simp
  rw [after_7]
  refine point7 m c t y _ _ ?_ ?_
  all_goals (blk_simp [blocks_at t] <;> try omega)

/-- The run of the call, each result array named and the arguments unchanged. -/
theorem run_named (ρ : Dev nD → PrngReg) : θ_run defs (onTc (τ := τ) (main (F := Ideal))) ⟨m, fun _ => 0, ρ⟩ fun r => ∀ c : Dev nD,
      r.2.mem ((c : Thread nD τ).loc main_v4_0) = (dats m 0 c).arrAt 4 cfg0.N
      ∧ r.2.mem ((c : Thread nD τ).loc main_v4_1) = (dats m 0 c).arrAt 5 cfg0.N
      ∧ r.2.mem ((c : Thread nD τ).loc main_v4_2) = (dats m 0 c).arrAt 6 cfg0.N
      ∧ r.2.mem ((c : Thread nD τ).loc main_v4_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 4, (h.1 c).1 5, (h.1 c).1 6, (h.1 c).1 7, h.2 c⟩)
    (θ_run_and (run m ρ) (frame_of m ρ (dats m) (entry m) (run m ρ)))

end Cert.Gated
-- ==== Proof.Gated.RefValue.lean ====
module

public import proofs.«01_k».proof.Proof.Inproj.RefValue
public import proofs.«01_k».proof.Proof.Gated.Spec
public import proofs.«01_k».proof.Proof.Gen.Reference10Ideal.Run

@[expose] public section

set_option maxRecDepth 16384
noncomputable section

/-! The reference's four results, read to scalars. -/

namespace Cert.Gated

open Idealize.ShloMosaic Idealize.ShloMosaic.TcCoe Idealize.SL.Sem
open Cert.Reference10Ideal Cert.Reference10Ideal.Gen
open Cert.Inproj (rr ms msT msT_at)
open Cert.Mixout (logistic one)

abbrev Wide := FVec Ideal S8192x512 .f32

section stage
variable (s : Wide) (y : FVec Ideal S8192x512 .bf16) (x : FVec Ideal S8192x1024 .f32)
  (wg : FVec Ideal S1x512x1024 .f32) (wo : FVec Ideal S1x1024x1024 .f32) (g : FVec Ideal S1x1024 .f32)

/-- The rectified states, -/
def yR : Wide :=
  mulf s (mulf (broadcastInDim S8192x512 ![] bcast_S_S8192x512 (constant S_ .f32 0x3F000000#32)) (addf (broadcastInDim S8192x512 ![] bcast_S_S8192x512 (constant S_ .f32 0x3F800000#32))
    (Host.tanh (mulf (broadcastInDim S8192x512 ![] bcast_S_S8192x512 (constant S_ .f32 0x3F4C422A#32)) (addf s
      (mulf (broadcastInDim S8192x512 ![] bcast_S_S8192x512 (constant S_ .f32 0x3D372713#32)) (mulf (mulf s s) s)))))))

theorem yR_at (i : Fin 8192) (k : Fin 512) : yR s (ix2 i k) = YS s i k := by
  rw [YS, ← gel_eq, ← one]
  rfl

/-- their product with the first weight, -/
def gluR : FVec Ideal S8192x1024 .f32 :=
  Host.dotGeneral (φ₁ := .f32) (φ₂ := .f32) dot_S8192x512_S512x1024_S8192x1024_1_0_0_1_n_n none (yR s) (shapeCast _ wg shapeCasts_S1x512x1024_S512x1024)

theorem gluR_at (i : Fin 8192) (j : Fin 1024) : gluR s wg (ix2 i j) = GLU s wg i j := by
  pointwise [gluR]
  simp only [yR_at]
  rfl

/-- its halves, -/
def loR (x : FVec Ideal S8192x1024 .f32) : Wide := extractStridedSlice S8192x512 ![0, 0] x slices_S8192x1024_S8192x512_0_0
def upR (x : FVec Ideal S8192x1024 .f32) : Wide := extractStridedSlice S8192x512 ![0, 512] x slices_S8192x1024_S8192x512_0_512

theorem loR_at (x : FVec Ideal S8192x1024 .f32) (i : Fin 8192) (j : Fin 512) : loR x (ix2 i j) = x (ix2 i ⟨j.val, by omega⟩) := by
  pointwise [loR]
theorem upR_at (x : FVec Ideal S8192x1024 .f32) (i : Fin 8192) (j : Fin 512) : upR x (ix2 i j) = x (ix2 i ⟨512 + j.val, by omega⟩) := by
  pointwise [upR]

/-- the logistic function of each entry, -/
def sigR (x : Wide) : Wide :=
  Host.divf (broadcastInDim S8192x512 ![] bcast_S_S8192x512 (constant S_ .f32 0x3F800000#32)) (addf (broadcastInDim S8192x512 ![] bcast_S_S8192x512 (constant S_ .f32 0x3F800000#32)) (Host.exp (Host.negf x)))

theorem sigR_at (x : Wide) (i : Fin 8192) (j : Fin 512) : sigR x (ix2 i j) = logistic (x (ix2 i j)) := by
  show _ = Ideal.div 1 (1 + Ideal.exp (-x (ix2 i j)))
  rw [← one]
  rfl

/-- the first half gated by the second, -/
def glR : Wide := mulf (loR (gluR s wg)) (sigR (upR (gluR s wg)))

theorem glR_at (i : Fin 8192) (j : Fin 512) : glR s wg (ix2 i j) = GATE s wg i j := by
  show loR (gluR s wg) (ix2 i j) * sigR (upR (gluR s wg)) (ix2 i j) = _
  rw [sigR_at, upR_at, loR_at, gluR_at, gluR_at]
  rfl

/-- the retention's rows and these side by side, -/
def catR : FVec Ideal S8192x1024 .f32 :=
  concatenate S8192x1024 1 [⟨S8192x512, extf .f32 y bitsLt_bf16_f32⟩, ⟨S8192x512, glR s wg⟩] concatenates_S8192x512_S8192x512_S8192x1024_d1

theorem catR_at (i : Fin 8192) (k : Fin 1024) : catR s y wg (ix2 i k) = CAT s y wg i k := by
  unfold CAT
  by_cases h : k.val < 512
  · rw [dif_pos h]
    pointwise [catR]
    rw [dif_pos h]
  · rw [dif_neg h, ← glR_at]
    pointwise [catR]
    rw [dif_neg h]

/-- their product with the second weight, -/
def mixR : FVec Ideal S8192x1024 .f32 :=
  Host.dotGeneral (φ₁ := .f32) (φ₂ := .f32) dot_S8192x1024_S1024x1024_S8192x1024_1_0_0_1_n_n none (catR s y wg) (shapeCast _ wo shapeCasts_S1x1024x1024_S1024x1024)

theorem mixR_eq : mixR s y wg wo = mixA s y wg wo := by
  funext i; idx_vars i
  pointwise [mixR]
  simp only [catR_at]
  rfl

/-- and the input with the normed product added. -/
def outR (mx : FVec Ideal S8192x1024 .f32) : FVec Ideal S8192x1024 .f32 :=
  addf x (mulf (mulf mx (broadcastInDim S8192x1024 ![0, 1] bcast_S8192x1_S8192x1024_0_1 (Host.rsqrt (msT mx))))
    (broadcastInDim S8192x1024 ![0, 1] bcast_S1x1024_S8192x1024_0_1 (broadcastInDim S1x1024 ![1] bcast_S1024_S1x1024_1
      (shapeCast _ g shapeCasts_S1x1024_S1024))))

theorem outR_at (mx : FVec Ideal S8192x1024 .f32) (i : Fin 8192) (j : Fin 1024) :
    outR x g mx (ix2 i j) = x (ix2 i j) + mx (ix2 i j) * rr mx i * g (ix2 0 j) := by
  pointwise [outR, rr]
  rw [msT_at]

end stage

variable (m : (ℓ : Loc nD τ sig) → Buf (Elt Ideal) ℓ) (c : Dev nD)

theorem res_out : Value.res_main_v42 m c = outR (m ((c.tc : Thread nD τ).loc main_arg2)) (m ((c.tc : Thread nD τ).loc main_arg5))
    (mixR (m ((c.tc : Thread nD τ).loc main_arg0)) (m ((c.tc : Thread nD τ).loc main_arg1)) (m ((c.tc : Thread nD τ).loc main_arg3))
      (m ((c.tc : Thread nD τ).loc main_arg4))) := rfl

/-- What a run of the reference leaves: the four results by their stages, and the arguments as they were. -/
theorem stages (ρ : Dev nD → PrngReg) :
    θ_run defs (onTc (τ := τ) (main (F := Ideal))) ⟨m, fun _ => 0, ρ⟩ fun r => ∀ c : Dev nD,
      r.2.mem ((c.tc : Thread nD τ).loc main_v43) = truncf .bf16 (yR (m ((c.tc : Thread nD τ).loc main_arg0))) bitsLt_bf16_f32
      ∧ r.2.mem ((c.tc : Thread nD τ).loc main_v44) = truncf .bf16 (glR (m ((c.tc : Thread nD τ).loc main_arg0)) (m ((c.tc : Thread nD τ).loc main_arg3))) bitsLt_bf16_f32
      ∧ r.2.mem ((c.tc : Thread nD τ).loc main_v45) = truncf .bf16 (mixR (m ((c.tc : Thread nD τ).loc main_arg0)) (m ((c.tc : Thread nD τ).loc main_arg1))
          (m ((c.tc : Thread nD τ).loc main_arg3)) (m ((c.tc : Thread nD τ).loc main_arg4))) bitsLt_bf16_f32
      ∧ r.2.mem ((c.tc : Thread nD τ).loc main_v42) = outR (m ((c.tc : Thread nD τ).loc main_arg2)) (m ((c.tc : Thread nD τ).loc main_arg5))
          (mixR (m ((c.tc : Thread nD τ).loc main_arg0)) (m ((c.tc : Thread nD τ).loc main_arg1)) (m ((c.tc : Thread nD τ).loc main_arg3))
            (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1, (h c).2.1, (h c).2.2.1, (h c).2.2.2.1.trans (res_out m c), (h c).2.2.2.2⟩) (Value.run m ρ)

end Cert.Gated
-- ==== Proof.Gated.Claim.lean ====
module

public import proofs.«01_k».proof.Defs
public import proofs.«01_k».proof.Proof.Gated.Finals
public import proofs.«01_k».proof.Proof.Gated.RefValue
public import proofs.«01_k».proof.Proof.Gen.Kernel10
public import Idealize.ShloMosaic.Lib.Claim

@[expose] public section

set_option maxRecDepth 16384
noncomputable section

/-! The claims about the gated unit and the output projection: the frames and the equality of all four results. -/

namespace Cert.Gated

open Idealize.ShloMosaic Idealize.ShloMosaic.TcCoe Idealize.SL.Sem

variable (m : (ℓ : Loc Cert.Kernel10Ideal.nD Cert.Kernel10Ideal.τ Cert.Kernel10Ideal.sig) → Buf (Elt Ideal) ℓ) (c : Dev Cert.Kernel10Ideal.nD)

theorem ys_final : (truncf .bf16 (yR (S m c)) Cert.Reference10Ideal.Gen.bitsLt_bf16_f32 : FVec Ideal Cert.Reference10Ideal.S8192x512 .bf16)
    = (dats m 0 c).arrAt 4 Cert.Kernel10Ideal.cfg0.N := by
  refine Eq.trans ?_ (final4 m c).symm
  funext i; idx_vars i
  exact yR_at _ i0 i1

theorem gate_final : (truncf .bf16 (glR (S m c) (WG m c)) Cert.Reference10Ideal.Gen.bitsLt_bf16_f32 : FVec Ideal Cert.Reference10Ideal.S8192x512 .bf16)
    = (dats m 0 c).arrAt 5 Cert.Kernel10Ideal.cfg0.N := by
  refine Eq.trans ?_ (final5 m c).symm
  funext i; idx_vars i
  exact glR_at _ _ i0 i1

theorem mix_final : (truncf .bf16 (mixR (S m c) (Y m c) (WG m c) (WO m c)) Cert.Reference10Ideal.Gen.bitsLt_bf16_f32
    : FVec Ideal Cert.Reference10Ideal.S8192x1024 .bf16) = (dats m 0 c).arrAt 6 Cert.Kernel10Ideal.cfg0.N := by
  refine Eq.trans ?_ (final6 m c).symm
  rw [mixR_eq]
  funext i; idx_vars i
  rfl

theorem out_final : outR (X m c) (G m c) (mixR (S m c) (Y m c) (WG m c) (WO m c)) = (dats m 0 c).arrAt 7 Cert.Kernel10Ideal.cfg0.N := by
  refine Eq.trans ?_ (final7 m c).symm
  rw [mixR_eq]
  funext i; idx_vars i
  exact outR_at _ _ _ i0 i1

/-- The printed kernel runs the same body as its ideal form. -/
theorem same_body : Cert.Kernel10.defs₀ (F := Bits) = Cert.Kernel10Ideal.defs₀ (F := Bits) := by
  unfold Cert.Kernel10.defs₀ Cert.Kernel10Ideal.defs₀
  refine congrArg Defs.onTc (funext fun l => funext fun a => ?_)
  match l, a with
  | ⟨0, _⟩, (t, s) => rfl

theorem same_defs : Cert.Kernel10.defs (F := Bits) = Cert.Kernel10Ideal.defs (F := Bits) :=
  congrArg (Pipeline.defs (Cert.Kernel10.pcfgs (F := Bits))) same_body

theorem frame : Cert.quiescent_Kernel10 := fun m ρ _ => by
  rw [same_defs]
  exact quiet (F := Bits) m ρ

theorem frameReference : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run m ρ)

theorem value : Cert.algebraic_Kernel10Ideal_Reference10Ideal := by
  pair_intro
  · run_from run_named m g
  · run_from stages m' g'
    · exact ys_final m c
    · exact gate_final m c
    · exact mix_final m c
    · exact out_final m c

end Cert.Gated
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame.RunC
public import proofs.«01_k».proof.Proof.Gen.Reference10Ideal
public import proofs.«01_k».proof.Proof.Gen.Reference10Ideal.Run
public import proofs.«01_k».proof.Proof.Inproj.Claim
public import proofs.«01_k».proof.Proof.Ff2.Claim
public import proofs.«01_k».proof.Proof.Mlp.Claim
public import proofs.«01_k».proof.Proof.Mixout.Claim
public import proofs.«01_k».proof.Proof.Retention.Claim
public import proofs.«01_k».proof.Proof.Forward.Claim
public import proofs.«01_k».proof.Proof.Ff1.Claim
public import proofs.«01_k».proof.Proof.Project.Claim
public import proofs.«01_k».proof.Proof.Prenorm.Claim
public import proofs.«01_k».proof.Proof.Gated.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Mixout.factsPre,
  Retention.factsPre,
  Forward.factsPre,
  Inproj.frame, Inproj.frameIdeal, Inproj.frameReference,
  Ff2.frame, Ff2.frameIdeal, Ff2.frameReference,
  Mlp.frame, Mlp.frameIdeal, Mlp.frameReference,
  Mixout.frame, Mixout.frameIdeal, Mixout.frameIdealPre, Mixout.frameReference, Mixout.frameReferencePre,
  Retention.frame, Retention.frameIdeal, Retention.frameIdealPre, Retention.frameReference, Retention.frameReferencePre,
  Forward.frame, Forward.frameIdeal, Forward.frameIdealPre, Forward.frameReference, Forward.frameReferencePre,
  Ff1.frame, Ff1.frameIdeal, Ff1.frameReference,
  Project.frame, Project.frameIdeal, Project.frameReference,
  Prenorm.frame, Prenorm.frameIdeal, Prenorm.frameReference,
  Gated.frame, Gated.frameIdeal, Gated.frameReference,
  trivial, Inproj.value,
  trivial, Ff2.value,
  trivial, Mlp.value,
  Mixout.names, Mixout.value,
  trivial, Retention.value,
  trivial, Forward.value,
  trivial, Ff1.value,
  trivial, Project.value,
  trivial, Prenorm.value,
  trivial, Gated.value⟩

end Cert.Proof

end
